-- ==== Defs.lean ====
def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_inproj_finite [hPre_inproj_finite : Cert.Pre_inproj_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_inproj_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_inproj_finite [hPre_inproj_finite : Cert.Pre_inproj_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_inproj_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_mix_finite [hPre_mix_finite : Cert.Pre_mix_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_mix_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_mix_finite [hPre_mix_finite : Cert.Pre_mix_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_mix_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ple_finite [hPre_ple_finite : Cert.Pre_ple_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ple_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ple_finite [hPre_ple_finite : Cert.Pre_ple_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ple_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_emb_finite [hPre_emb_finite : Cert.Pre_emb_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_emb_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_emb_finite [hPre_emb_finite : Cert.Pre_emb_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_emb_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_inproj_finite [hKernel4Ideal : Cert.Kernel4Ideal.Facts] [hPre_inproj_finite : Cert.Pre_inproj_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_inproj_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_inproj_finite [hReference4Ideal : Cert.Reference4Ideal.Facts] [hPre_inproj_finite : Cert.Pre_inproj_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_inproj_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_mix_finite [hKernel5Ideal : Cert.Kernel5Ideal.Facts] [hPre_mix_finite : Cert.Pre_mix_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_mix_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_mix_finite [hReference5Ideal : Cert.Reference5Ideal.Facts] [hPre_mix_finite : Cert.Pre_mix_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_mix_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_ple_finite [hKernel6Ideal : Cert.Kernel6Ideal.Facts] [hPre_ple_finite : Cert.Pre_ple_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ple_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_ple_finite [hReference6Ideal : Cert.Reference6Ideal.Facts] [hPre_ple_finite : Cert.Pre_ple_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ple_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_emb_finite [hKernel9Ideal : Cert.Kernel9Ideal.Facts] [hPre_emb_finite : Cert.Pre_emb_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_emb_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_emb_finite [hReference9Ideal : Cert.Reference9Ideal.Facts] [hPre_emb_finite : Cert.Pre_emb_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_emb_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)) →
    ∃ (v0 : (c : Dev Cert.KernelMlpIdeal.nD) → Buf (Elt Ideal) ((c.tc : Thread Cert.KernelMlpIdeal.nD Cert.KernelMlpIdeal.τ).loc Cert.KernelMlpIdeal.main_v13_0)) (v1 : (c : Dev Cert.KernelMlpIdeal.nD) → Buf (Elt Ideal) ((c.tc : Thread Cert.KernelMlpIdeal.nD Cert.KernelMlpIdeal.τ).loc Cert.KernelMlpIdeal.main_v13_1)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v13_0) = v0 c
          ∧ r.2.mem ((c.tc : Thread Cert.KernelMlpIdeal.nD Cert.KernelMlpIdeal.τ).loc Cert.KernelMlpIdeal.main_v13_1) = v1 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v16) = v0 c
          ∧ r.2.mem ((c.tc : Thread Cert.ReferenceMlpIdeal.nD Cert.ReferenceMlpIdeal.τ).loc Cert.ReferenceMlpIdeal.main_v18) = v1 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3))

def preserves_Kernel2_Kernel2Ideal : Prop :=
  IdealRules.named_const.Statement Cert.Kernel2Ideal.κ "floor" .f32 0xC2DC0000#32 ⊥

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel4_Kernel4Ideal : Prop :=
  True

def algebraic_Kernel4Ideal_Reference4Ideal_pre_inproj_finite [hKernel4Ideal : Cert.Kernel4Ideal.Facts] [hReference4Ideal : Cert.Reference4Ideal.Facts] [hPre_inproj_finite : Cert.Pre_inproj_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_inproj_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v84) = v1 c
          ∧ r.2.mem ((c.tc : Thread Cert.Reference4Ideal.nD Cert.Reference4Ideal.τ).loc Cert.Reference4Ideal.main_v85) = v2 c
          ∧ r.2.mem ((c.tc : Thread Cert.Reference4Ideal.nD Cert.Reference4Ideal.τ).loc Cert.Reference4Ideal.main_v86) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_mix_finite [hKernel5Ideal : Cert.Kernel5Ideal.Facts] [hReference5Ideal : Cert.Reference5Ideal.Facts] [hPre_mix_finite : Cert.Pre_mix_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_mix_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v68_0)) (v1 : (c : Dev Cert.Kernel5Ideal.nD) → Buf (Elt Ideal) ((c.tc : Thread Cert.Kernel5Ideal.nD Cert.Kernel5Ideal.τ).loc Cert.Kernel5Ideal.main_v68_1)) (v2 : (c : Dev Cert.Kernel5Ideal.nD) → Buf (Elt Ideal) ((c.tc : Thread Cert.Kernel5Ideal.nD Cert.Kernel5Ideal.τ).loc Cert.Kernel5Ideal.main_v68_2)) (v3 : (c : Dev Cert.Kernel5Ideal.nD) → Buf (Elt Ideal) ((c.tc : Thread Cert.Kernel5Ideal.nD Cert.Kernel5Ideal.τ).loc Cert.Kernel5Ideal.main_v68_3)) (v4 : (c : Dev Cert.Kernel5Ideal.nD) → Buf (Elt Ideal) ((c.tc : Thread Cert.Kernel5Ideal.nD Cert.Kernel5Ideal.τ).loc Cert.Kernel5Ideal.main_v68_4)) (v5 : (c : Dev Cert.Kernel5Ideal.nD) → Buf (Elt Ideal) ((c.tc : Thread Cert.Kernel5Ideal.nD Cert.Kernel5Ideal.τ).loc Cert.Kernel5Ideal.main_v68_5)) (v6 : (c : Dev Cert.Kernel5Ideal.nD) → Buf (Elt Ideal) ((c.tc : Thread Cert.Kernel5Ideal.nD Cert.Kernel5Ideal.τ).loc Cert.Kernel5Ideal.main_v68_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v68_0) = v0 c
          ∧ r.2.mem ((c.tc : Thread Cert.Kernel5Ideal.nD Cert.Kernel5Ideal.τ).loc Cert.Kernel5Ideal.main_v68_1) = v1 c
          ∧ r.2.mem ((c.tc : Thread Cert.Kernel5Ideal.nD Cert.Kernel5Ideal.τ).loc Cert.Kernel5Ideal.main_v68_2) = v2 c
          ∧ r.2.mem ((c.tc : Thread Cert.Kernel5Ideal.nD Cert.Kernel5Ideal.τ).loc Cert.Kernel5Ideal.main_v68_3) = v3 c
          ∧ r.2.mem ((c.tc : Thread Cert.Kernel5Ideal.nD Cert.Kernel5Ideal.τ).loc Cert.Kernel5Ideal.main_v68_4) = v4 c
          ∧ r.2.mem ((c.tc : Thread Cert.Kernel5Ideal.nD Cert.Kernel5Ideal.τ).loc Cert.Kernel5Ideal.main_v68_5) = v5 c
          ∧ r.2.mem ((c.tc : Thread Cert.Kernel5Ideal.nD Cert.Kernel5Ideal.τ).loc Cert.Kernel5Ideal.main_v68_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v96) = v0 c
          ∧ r.2.mem ((c.tc : Thread Cert.Reference5Ideal.nD Cert.Reference5Ideal.τ).loc Cert.Reference5Ideal.main_v123) = v1 c
          ∧ r.2.mem ((c.tc : Thread Cert.Reference5Ideal.nD Cert.Reference5Ideal.τ).loc Cert.Reference5Ideal.main_v101) = v2 c
          ∧ r.2.mem ((c.tc : Thread Cert.Reference5Ideal.nD Cert.Reference5Ideal.τ).loc Cert.Reference5Ideal.main_v98) = v3 c
          ∧ r.2.mem ((c.tc : Thread Cert.Reference5Ideal.nD Cert.Reference5Ideal.τ).loc Cert.Reference5Ideal.main_v124) = v4 c
          ∧ r.2.mem ((c.tc : Thread Cert.Reference5Ideal.nD Cert.Reference5Ideal.τ).loc Cert.Reference5Ideal.main_v125) = v5 c
          ∧ r.2.mem ((c.tc : Thread Cert.Reference5Ideal.nD Cert.Reference5Ideal.τ).loc Cert.Reference5Ideal.main_v126) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_ple_finite [hKernel6Ideal : Cert.Kernel6Ideal.Facts] [hReference6Ideal : Cert.Reference6Ideal.Facts] [hPre_ple_finite : Cert.Pre_ple_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ple_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)) (v4 : (c : Dev Cert.Kernel6Ideal.nD) → Buf (Elt Ideal) ((c.tc : Thread Cert.Kernel6Ideal.nD Cert.Kernel6Ideal.τ).loc Cert.Kernel6Ideal.main_v27_4)) (v5 : (c : Dev Cert.Kernel6Ideal.nD) → Buf (Elt Ideal) ((c.tc : Thread Cert.Kernel6Ideal.nD Cert.Kernel6Ideal.τ).loc Cert.Kernel6Ideal.main_v27_5)) (v6 : (c : Dev Cert.Kernel6Ideal.nD) → Buf (Elt Ideal) ((c.tc : Thread Cert.Kernel6Ideal.nD Cert.Kernel6Ideal.τ).loc Cert.Kernel6Ideal.main_v27_6)) (v7 : (c : Dev Cert.Kernel6Ideal.nD) → Buf (Elt Ideal) ((c.tc : Thread Cert.Kernel6Ideal.nD Cert.Kernel6Ideal.τ).loc Cert.Kernel6Ideal.main_v27_7)) (v8 : (c : Dev Cert.Kernel6Ideal.nD) → Buf (Elt Ideal) ((c.tc : Thread Cert.Kernel6Ideal.nD Cert.Kernel6Ideal.τ).loc Cert.Kernel6Ideal.main_v27_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_v27_4) = v4 c
          ∧ r.2.mem ((c.tc : Thread Cert.Kernel6Ideal.nD Cert.Kernel6Ideal.τ).loc Cert.Kernel6Ideal.main_v27_5) = v5 c
          ∧ r.2.mem ((c.tc : Thread Cert.Kernel6Ideal.nD Cert.Kernel6Ideal.τ).loc Cert.Kernel6Ideal.main_v27_6) = v6 c
          ∧ r.2.mem ((c.tc : Thread Cert.Kernel6Ideal.nD Cert.Kernel6Ideal.τ).loc Cert.Kernel6Ideal.main_v27_7) = v7 c
          ∧ r.2.mem ((c.tc : Thread Cert.Kernel6Ideal.nD Cert.Kernel6Ideal.τ).loc Cert.Kernel6Ideal.main_v27_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v173) = v0 c
          ∧ r.2.mem ((c.tc : Thread Cert.Reference6Ideal.nD Cert.Reference6Ideal.τ).loc Cert.Reference6Ideal.main_v174) = v1 c
          ∧ r.2.mem ((c.tc : Thread Cert.Reference6Ideal.nD Cert.Reference6Ideal.τ).loc Cert.Reference6Ideal.main_v176) = v2 c
          ∧ r.2.mem ((c.tc : Thread Cert.Reference6Ideal.nD Cert.Reference6Ideal.τ).loc Cert.Reference6Ideal.main_v136) = v3 c
          ∧ r.2.mem ((c.tc : Thread Cert.Reference6Ideal.nD Cert.Reference6Ideal.τ).loc Cert.Reference6Ideal.main_v177) = v4 c
          ∧ r.2.mem ((c.tc : Thread Cert.Reference6Ideal.nD Cert.Reference6Ideal.τ).loc Cert.Reference6Ideal.main_v178) = v5 c
          ∧ r.2.mem ((c.tc : Thread Cert.Reference6Ideal.nD Cert.Reference6Ideal.τ).loc Cert.Reference6Ideal.main_v179) = v6 c
          ∧ r.2.mem ((c.tc : Thread Cert.Reference6Ideal.nD Cert.Reference6Ideal.τ).loc Cert.Reference6Ideal.main_v180) = v7 c
          ∧ r.2.mem ((c.tc : Thread Cert.Reference6Ideal.nD Cert.Reference6Ideal.τ).loc Cert.Reference6Ideal.main_v181) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v41_0)) (v1 : (c : Dev Cert.Kernel7Ideal.nD) → Buf (Elt Ideal) ((c.tc : Thread Cert.Kernel7Ideal.nD Cert.Kernel7Ideal.τ).loc Cert.Kernel7Ideal.main_v41_1)) (v2 : (c : Dev Cert.Kernel7Ideal.nD) → Buf (Elt Ideal) ((c.tc : Thread Cert.Kernel7Ideal.nD Cert.Kernel7Ideal.τ).loc Cert.Kernel7Ideal.main_v41_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v41_0) = v0 c
          ∧ r.2.mem ((c.tc : Thread Cert.Kernel7Ideal.nD Cert.Kernel7Ideal.τ).loc Cert.Kernel7Ideal.main_v41_1) = v1 c
          ∧ r.2.mem ((c.tc : Thread Cert.Kernel7Ideal.nD Cert.Kernel7Ideal.τ).loc Cert.Kernel7Ideal.main_v41_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_v95) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v53_0)) (v1 : (c : Dev Cert.Kernel8Ideal.nD) → Buf (Elt Ideal) ((c.tc : Thread Cert.Kernel8Ideal.nD Cert.Kernel8Ideal.τ).loc Cert.Kernel8Ideal.main_v53_1)) (v2 : (c : Dev Cert.Kernel8Ideal.nD) → Buf (Elt Ideal) ((c.tc : Thread Cert.Kernel8Ideal.nD Cert.Kernel8Ideal.τ).loc Cert.Kernel8Ideal.main_v53_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v53_0) = v0 c
          ∧ r.2.mem ((c.tc : Thread Cert.Kernel8Ideal.nD Cert.Kernel8Ideal.τ).loc Cert.Kernel8Ideal.main_v53_1) = v1 c
          ∧ r.2.mem ((c.tc : Thread Cert.Kernel8Ideal.nD Cert.Kernel8Ideal.τ).loc Cert.Kernel8Ideal.main_v53_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v54) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_emb_finite [hKernel9Ideal : Cert.Kernel9Ideal.Facts] [hReference9Ideal : Cert.Reference9Ideal.Facts] [hPre_emb_finite : Cert.Pre_emb_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_emb_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)) (v3 : (c : Dev Cert.Kernel9Ideal.nD) → Buf (Elt Ideal) ((c.tc : Thread Cert.Kernel9Ideal.nD Cert.Kernel9Ideal.τ).loc Cert.Kernel9Ideal.main_v8_3)) (v4 : (c : Dev Cert.Kernel9Ideal.nD) → Buf (Elt Ideal) ((c.tc : Thread Cert.Kernel9Ideal.nD Cert.Kernel9Ideal.τ).loc Cert.Kernel9Ideal.main_v8_4)) (v5 : (c : Dev Cert.Kernel9Ideal.nD) → Buf (Elt Ideal) ((c.tc : Thread Cert.Kernel9Ideal.nD Cert.Kernel9Ideal.τ).loc Cert.Kernel9Ideal.main_v8_5)) (v6 : (c : Dev Cert.Kernel9Ideal.nD) → Buf (Elt Ideal) ((c.tc : Thread Cert.Kernel9Ideal.nD Cert.Kernel9Ideal.τ).loc Cert.Kernel9Ideal.main_v8_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_v8_3) = v3 c
          ∧ r.2.mem ((c.tc : Thread Cert.Kernel9Ideal.nD Cert.Kernel9Ideal.τ).loc Cert.Kernel9Ideal.main_v8_4) = v4 c
          ∧ r.2.mem ((c.tc : Thread Cert.Kernel9Ideal.nD Cert.Kernel9Ideal.τ).loc Cert.Kernel9Ideal.main_v8_5) = v5 c
          ∧ r.2.mem ((c.tc : Thread Cert.Kernel9Ideal.nD Cert.Kernel9Ideal.τ).loc Cert.Kernel9Ideal.main_v8_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_v203) = v2 c
          ∧ r.2.mem ((c.tc : Thread Cert.Reference9Ideal.nD Cert.Reference9Ideal.τ).loc Cert.Reference9Ideal.main_v204) = v3 c
          ∧ r.2.mem ((c.tc : Thread Cert.Reference9Ideal.nD Cert.Reference9Ideal.τ).loc Cert.Reference9Ideal.main_v205) = v4 c
          ∧ r.2.mem ((c.tc : Thread Cert.Reference9Ideal.nD Cert.Reference9Ideal.τ).loc Cert.Reference9Ideal.main_v206) = v5 c
          ∧ r.2.mem ((c.tc : Thread Cert.Reference9Ideal.nD Cert.Reference9Ideal.τ).loc Cert.Reference9Ideal.main_v207) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernelMlp : Cert.KernelMlp.Facts) (hKernelMlpIdeal : Cert.KernelMlpIdeal.Facts) (hReferenceMlpIdeal : Cert.ReferenceMlpIdeal.Facts) (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_attn_finite : Cert.Pre_attn_finite.Facts) (hPre_pool_finite : Cert.Pre_pool_finite.Facts) (hPre_inproj_finite : Cert.Pre_inproj_finite.Facts) (hPre_mix_finite : Cert.Pre_mix_finite.Facts) (hPre_ple_finite : Cert.Pre_ple_finite.Facts) (hPre_emb_finite : Cert.Pre_emb_finite.Facts),
    quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_Kernel4 (hKernel4 := hKernel4)
    ∧ quiescent_Kernel4Ideal (hKernel4Ideal := hKernel4Ideal)
    ∧ quiescent_Kernel4Ideal_pre_inproj_finite (hKernel4Ideal := hKernel4Ideal) (hPre_inproj_finite := hPre_inproj_finite)
    ∧ quiescent_Reference4Ideal (hReference4Ideal := hReference4Ideal)
    ∧ quiescent_Reference4Ideal_pre_inproj_finite (hReference4Ideal := hReference4Ideal) (hPre_inproj_finite := hPre_inproj_finite)
    ∧ quiescent_Kernel5 (hKernel5 := hKernel5)
    ∧ quiescent_Kernel5Ideal (hKernel5Ideal := hKernel5Ideal)
    ∧ quiescent_Kernel5Ideal_pre_mix_finite (hKernel5Ideal := hKernel5Ideal) (hPre_mix_finite := hPre_mix_finite)
    ∧ quiescent_Reference5Ideal (hReference5Ideal := hReference5Ideal)
    ∧ quiescent_Reference5Ideal_pre_mix_finite (hReference5Ideal := hReference5Ideal) (hPre_mix_finite := hPre_mix_finite)
    ∧ quiescent_Kernel6 (hKernel6 := hKernel6)
    ∧ quiescent_Kernel6Ideal (hKernel6Ideal := hKernel6Ideal)
    ∧ quiescent_Kernel6Ideal_pre_ple_finite (hKernel6Ideal := hKernel6Ideal) (hPre_ple_finite := hPre_ple_finite)
    ∧ quiescent_Reference6Ideal (hReference6Ideal := hReference6Ideal)
    ∧ quiescent_Reference6Ideal_pre_ple_finite (hReference6Ideal := hReference6Ideal) (hPre_ple_finite := hPre_ple_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_emb_finite (hKernel9Ideal := hKernel9Ideal) (hPre_emb_finite := hPre_emb_finite)
    ∧ quiescent_Reference9Ideal (hReference9Ideal := hReference9Ideal)
    ∧ quiescent_Reference9Ideal_pre_emb_finite (hReference9Ideal := hReference9Ideal) (hPre_emb_finite := hPre_emb_finite)
    ∧ preserves_KernelMlp_KernelMlpIdeal
    ∧ algebraic_KernelMlpIdeal_ReferenceMlpIdeal (hKernelMlpIdeal := hKernelMlpIdeal) (hReferenceMlpIdeal := hReferenceMlpIdeal)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_Kernel4_Kernel4Ideal
    ∧ algebraic_Kernel4Ideal_Reference4Ideal_pre_inproj_finite (hKernel4Ideal := hKernel4Ideal) (hReference4Ideal := hReference4Ideal) (hPre_inproj_finite := hPre_inproj_finite)
    ∧ preserves_Kernel5_Kernel5Ideal
    ∧ algebraic_Kernel5Ideal_Reference5Ideal_pre_mix_finite (hKernel5Ideal := hKernel5Ideal) (hReference5Ideal := hReference5Ideal) (hPre_mix_finite := hPre_mix_finite)
    ∧ preserves_Kernel6_Kernel6Ideal
    ∧ algebraic_Kernel6Ideal_Reference6Ideal_pre_ple_finite (hKernel6Ideal := hKernel6Ideal) (hReference6Ideal := hReference6Ideal) (hPre_ple_finite := hPre_ple_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_emb_finite (hKernel9Ideal := hKernel9Ideal) (hReference9Ideal := hReference9Ideal) (hPre_emb_finite := hPre_emb_finite)
-- ==== Pre_attn_finite.lean ====
abbrev S1x4096x512 : Shape := ⟨3, ![1, 4096, 512]⟩
abbrev S_ : Shape := ⟨0, ![]⟩

class Facts : Prop where
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x4096x512 .f32) (main_arg1 : FVec F S1x4096x512 .f32) (main_arg2 : FVec F S1x4096x512 .f32) (main_arg3 : FVec F S1x4096x512 .f32) : IVec S_ 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_c : IVec S_ 1 := constantI S_ 1 1#1
  let main_v3 : IVec S_ 1 := (fun x v => Host.reduce IntOp.andi x v reducesTo_S1x4096x512_S_d0_1_2 h_S_) main_v2 main_c
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : IVec S_ 1 := andi main_v3 main_v7
  let main_v9 : FVec F S1x4096x512 .f32 := Host.absf main_arg2
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Pre_emb_finite.lean ====
abbrev S1x4096x1024 : Shape := ⟨3, ![1, 4096, 1024]⟩
abbrev S1024 : Shape := ⟨1, ![1024]⟩
abbrev S1x1024x2048 : Shape := ⟨3, ![1, 1024, 2048]⟩
abbrev S1x4x128x128 : Shape := ⟨4, ![1, 4, 128, 128]⟩
abbrev S1x512 : Shape := ⟨2, ![1, 512]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S1x4096x1024 .f32) (main_arg1 : FVec F S1024 .f32) (main_arg2 : FVec F S1024 .f32) (main_arg3 : FVec F S1x1024x2048 .f32) (main_arg4 : FVec F S1x4x128x128 .f32) (main_arg5 : FVec F S1x512 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1x1024x2048 .f32 := Host.absf main_arg3
  let main_cst_4 : FVec F S_ .f32 := constant S_ .f32 0x7F800000#32
  let main_v13 : FVec F S1x1024x2048 .f32 := broadcastInDim S1x1024x2048 ![] bcast_S_S1x1024x2048 main_cst_4
  let main_v14 : IVec S1x1024x2048 1 := cmpf .olt main_v12 main_v13
  let main_c_5 : IVec S_ 1 := constantI S_ 1 1#1
  let main_v15 : IVec S_ 1 := (fun x v => Host.reduce IntOp.andi x v reducesTo_S1x1024x2048_S_d0_1_2 h_S_) main_v14 main_c_5
  fn_part1 (F := F) main_v3 main_v7 main_v11 main_v15
-- ==== Pre_inproj_finite.lean ====
abbrev S1x4096x1024 : Shape := ⟨3, ![1, 4096, 1024]⟩
abbrev S1024 : Shape := ⟨1, ![1024]⟩
abbrev S1x1024x2048 : Shape := ⟨3, ![1, 1024, 2048]⟩
abbrev S1x4096x512 : Shape := ⟨3, ![1, 4096, 512]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part2 {F : FTy → Type} [FloatOps F] (main_arg8 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x4096x1024 .f32 := Host.absf main_arg8
  let main_cst_14 : FVec F S_ .f32 := constant S_ .f32 0x7F800000#32
  let main_v33 : FVec F S1x4096x1024 .f32 := broadcastInDim S1x4096x1024 ![] bcast_S_S1x4096x1024 main_cst_14
  let main_v34 : IVec S1x4096x1024 1 := cmpf .olt main_v32 main_v33
  let main_c_15 : IVec S_ 1 := constantI S_ 1 1#1
  let main_v35 : IVec S_ 1 := (fun x v => Host.reduce IntOp.andi x v reducesTo_S1x4096x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x4096x512 .f32) (main_arg5 : FVec F S1x4096x512 .f32) (main_arg6 : FVec F S1x4096x512 .f32) (main_arg7 : FVec F S1x4096x512 .f32) (main_arg8 : FVec F S1x4096x1024 .f32) (main_v3 : IVec S_ 1) (main_v7 : IVec S_ 1) (main_v11 : IVec S_ 1) (main_v15 : IVec S_ 1) : IVec S_ 1 :=
  let main_v16 : FVec F S1x4096x512 .f32 := Host.absf main_arg4
  let main_cst_6 : FVec F S_ .f32 := constant S_ .f32 0x7F800000#32
  let main_v17 : FVec F S1x4096x512 .f32 := broadcastInDim S1x4096x512 ![] bcast_S_S1x4096x512 main_cst_6
  let main_v18 : IVec S1x4096x512 1 := cmpf .olt main_v16 main_v17
  let main_c_7 : IVec S_ 1 := constantI S_ 1 1#1
  let main_v19 : IVec S_ 1 := (fun x v => Host.reduce IntOp.andi x v reducesTo_S1x4096x512_S_d0_1_2 h_S_) main_v18 main_c_7
  let main_v20 : FVec F S1x4096x512 .f32 := Host.absf main_arg5
  let main_cst_8 : FVec F S_ .f32 := constant S_ .f32 0x7F800000#32
  let main_v21 : FVec F S1x4096x512 .f32 := broadcastInDim S1x4096x512 ![] bcast_S_S1x4096x512 main_cst_8
  let main_v22 : IVec S1x4096x512 1 := cmpf .olt main_v20 main_v21
  let main_c_9 : IVec S_ 1 := constantI S_ 1 1#1
  let main_v23 : IVec S_ 1 := (fun x v => Host.reduce IntOp.andi x v reducesTo_S1x4096x512_S_d0_1_2 h_S_) main_v22 main_c_9
  let main_v24 : FVec F S1x4096x512 .f32 := Host.absf main_arg6
  let main_cst_10 : FVec F S_ .f32 := constant S_ .f32 0x7F800000#32
  let main_v25 : FVec F S1x4096x512 .f32 := broadcastInDim S1x4096x512 ![] bcast_S_S1x4096x512 main_cst_10
  let main_v26 : IVec S1x4096x512 1 := cmpf .olt main_v24 main_v25
  let main_c_11 : IVec S_ 1 := constantI S_ 1 1#1
  let main_v27 : IVec S_ 1 := (fun x v => Host.reduce IntOp.andi x v reducesTo_S1x4096x512_S_d0_1_2 h_S_) main_v26 main_c_11
  let main_v28 : FVec F S1x4096x512 .f32 := Host.absf main_arg7
  let main_cst_12 : FVec F S_ .f32 := constant S_ .f32 0x7F800000#32
  let main_v29 : FVec F S1x4096x512 .f32 := broadcastInDim S1x4096x512 ![] bcast_S_S1x4096x512 main_cst_12
  let main_v30 : IVec S1x4096x512 1 := cmpf .olt main_v28 main_v29
  let main_c_13 : IVec S_ 1 := constantI S_ 1 1#1
  let main_v31 : IVec S_ 1 := (fun x v => Host.reduce IntOp.andi x v reducesTo_S1x4096x512_S_d0_1_2 h_S_) main_v30 main_c_13
  fn_part2 (F := F) main_arg8 main_v3 main_v7 main_v11 main_v15 main_v19 main_v23 main_v27 main_v31

def fn {F : FTy → Type} [FloatOps F] (main_arg0 : FVec F S1x4096x1024 .f32) (main_arg1 : FVec F S1024 .f32) (main_arg2 : FVec F S1024 .f32) (main_arg3 : FVec F S1x1024x2048 .f32) (main_arg4 : FVec F S1x4096x512 .f32) (main_arg5 : FVec F S1x4096x512 .f32) (main_arg6 : FVec F S1x4096x512 .f32) (main_arg7 : FVec F S1x4096x512 .f32) (main_arg8 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1x1024x2048 .f32 := Host.absf main_arg3
  let main_cst_4 : FVec F S_ .f32 := constant S_ .f32 0x7F800000#32
  let main_v13 : FVec F S1x1024x2048 .f32 := broadcastInDim S1x1024x2048 ![] bcast_S_S1x1024x2048 main_cst_4
  let main_v14 : IVec S1x1024x2048 1 := cmpf .olt main_v12 main_v13
  let main_c_5 : IVec S_ 1 := constantI S_ 1 1#1
  let main_v15 : IVec S_ 1 := (fun x v => Host.reduce IntOp.andi x v reducesTo_S1x1024x2048_S_d0_1_2 h_S_) main_v14 main_c_5
  fn_part1 (F := F) main_arg4 main_arg5 main_arg6 main_arg7 main_arg8 main_v3 main_v7 main_v11 main_v15
-- ==== Pre_mix_finite.lean ====
abbrev S1x4096x512 : Shape := ⟨3, ![1, 4096, 512]⟩
abbrev S1x4096x1024 : Shape := ⟨3, ![1, 4096, 1024]⟩
abbrev S1x512 : Shape := ⟨2, ![1, 512]⟩
abbrev S1x1024x1024 : Shape := ⟨3, ![1, 1024, 1024]⟩
abbrev S1x1024 : Shape := ⟨2, ![1, 1024]⟩
abbrev S_ : Shape := ⟨0, ![]⟩

class Facts : Prop where
  bcast_S_S1x4096x512 : S_.BroadcastsInDim S1x4096x512 (![] : Fin 0 → Fin S1x4096x512.rank)
  reducesTo_S1x4096x512_S_d0_1_2 : S1x4096x512.ReducesTo [0, 1, 2] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x1024x1024 .f32) (main_arg5 : FVec F S1x1024 .f32) (main_arg7 : FVec F S1x4096x1024 .f32) (main_arg8 : FVec F S1x4096x1024 .f32) (main_v3 : IVec S_ 1) (main_v7 : IVec S_ 1) (main_v11 : IVec S_ 1) (main_v15 : IVec S_ 1) : IVec S_ 1 :=
  let main_v16 : FVec F S1x1024x1024 .f32 := Host.absf main_arg4
  let main_cst_6 : FVec F S_ .f32 := constant S_ .f32 0x7F800000#32
  let main_v17 : FVec F S1x1024x1024 .f32 := broadcastInDim S1x1024x1024 ![] bcast_S_S1x1024x1024 main_cst_6
  let main_v18 : IVec S1x1024x1024 1 := cmpf .olt main_v16 main_v17
  let main_c_7 : IVec S_ 1 := constantI S_ 1 1#1
  let main_v19 : IVec S_ 1 := (fun x v => Host.reduce IntOp.andi x v reducesTo_S1x1024x1024_S_d0_1_2 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x4096x1024 .f32 := Host.absf main_arg7
  let main_cst_10 : FVec F S_ .f32 := constant S_ .f32 0x7F800000#32
  let main_v25 : FVec F S1x4096x1024 .f32 := broadcastInDim S1x4096x1024 ![] bcast_S_S1x4096x1024 main_cst_10
  let main_v26 : IVec S1x4096x1024 1 := cmpf .olt main_v24 main_v25
  let main_c_11 : IVec S_ 1 := constantI S_ 1 1#1
  let main_v27 : IVec S_ 1 := (fun x v => Host.reduce IntOp.andi x v reducesTo_S1x4096x1024_S_d0_1_2 h_S_) main_v26 main_c_11
  let main_v28 : FVec F S1x4096x1024 .f32 := Host.absf main_arg8
  let main_cst_12 : FVec F S_ .f32 := constant S_ .f32 0x7F800000#32
  let main_v29 : FVec F S1x4096x1024 .f32 := broadcastInDim S1x4096x1024 ![] bcast_S_S1x4096x1024 main_cst_12
  let main_v30 : IVec S1x4096x1024 1 := cmpf .olt main_v28 main_v29
  let main_c_13 : IVec S_ 1 := constantI S_ 1 1#1
  let main_v31 : IVec S_ 1 := (fun x v => Host.reduce IntOp.andi x v reducesTo_S1x4096x1024_S_d0_1_2 h_S_) main_v30 main_c_13
  fn_part2 (F := F) main_v3 main_v7 main_v11 main_v15 main_v19 main_v23 main_v27 main_v31

def fn {F : FTy → Type} [FloatOps F] (main_arg0 : FVec F S1x4096x512 .f32) (main_arg1 : FVec F S1x4096x512 .f32) (main_arg2 : FVec F S1x4096x1024 .f32) (main_arg3 : FVec F S1x512 .f32) (main_arg4 : FVec F S1x1024x1024 .f32) (main_arg5 : FVec F S1x1024 .f32) (main_arg6 : FVec F S1x1024 .f32) (main_arg7 : FVec F S1x4096x1024 .f32) (main_arg8 : FVec F S1x4096x1024 .f32) : IVec S_ 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_c : IVec S_ 1 := constantI S_ 1 1#1
  let main_v3 : IVec S_ 1 := (fun x v => Host.reduce IntOp.andi x v reducesTo_S1x4096x512_S_d0_1_2 h_S_) main_v2 main_c
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_c_1 : IVec S_ 1 := constantI S_ 1 1#1
  let main_v7 : IVec S_ 1 := (fun x v => Host.reduce IntOp.andi x v reducesTo_S1x4096x512_S_d0_1_2 h_S_) main_v6 main_c_1
  let main_v8 : FVec F S1x4096x1024 .f32 := Host.absf main_arg2
  let main_cst_2 : FVec F S_ .f32 := constant S_ .f32 0x7F800000#32
  let main_v9 : FVec F S1x4096x1024 .f32 := broadcastInDim S1x4096x1024 ![] bcast_S_S1x4096x1024 main_cst_2
  let main_v10 : IVec S1x4096x1024 1 := cmpf .olt main_v8 main_v9
  let main_c_3 : IVec S_ 1 := constantI S_ 1 1#1
  let main_v11 : IVec S_ 1 := (fun x v => Host.reduce IntOp.andi x v reducesTo_S1x4096x1024_S_d0_1_2 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg7 main_arg8 main_v3 main_v7 main_v11 main_v15
-- ==== Pre_ple_finite.lean ====
abbrev S1x4096x1024 : Shape := ⟨3, ![1, 4096, 1024]⟩
abbrev S1x1x4096x256 : Shape := ⟨4, ![1, 1, 4096, 256]⟩
abbrev S1x256x1024 : Shape := ⟨3, ![1, 256, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1x4096x256 : S_.BroadcastsInDim S1x1x4096x256 (![] : Fin 0 → Fin S1x1x4096x256.rank)
  reducesTo_S1x1x4096x256_S_d0_1_2_3 : S1x1x4096x256.ReducesTo [0, 1, 2, 3] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x4096x1024 .f32 := Host.absf main_arg8
  let main_cst_14 : FVec F S_ .f32 := constant S_ .f32 0x7F800000#32
  let main_v33 : FVec F S1x4096x1024 .f32 := broadcastInDim S1x4096x1024 ![] bcast_S_S1x4096x1024 main_cst_14
  let main_v34 : IVec S1x4096x1024 1 := cmpf .olt main_v32 main_v33
  let main_c_15 : IVec S_ 1 := constantI S_ 1 1#1
  let main_v35 : IVec S_ 1 := (fun x v => Host.reduce IntOp.andi x v reducesTo_S1x4096x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x4096x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_v3 main_v7 main_v11 main_v15 main_v19 main_v23 main_v27 main_v31

def fn {F : FTy → Type} [FloatOps F] (main_arg0 : FVec F S1x4096x1024 .f32) (main_arg1 : FVec F S1x1x4096x256 .f32) (main_arg2 : FVec F S1x256x1024 .f32) (main_arg3 : FVec F S1x1024x1024 .f32) (main_arg4 : FVec F S1x1024 .f32) (main_arg5 : FVec F S1x1024 .f32) (main_arg6 : FVec F S1x1024 .f32) (main_arg7 : FVec F S1x1024 .f32) (main_arg8 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1x4096x256 .f32 := Host.absf main_arg1
  let main_cst_0 : FVec F S_ .f32 := constant S_ .f32 0x7F800000#32
  let main_v5 : FVec F S1x1x4096x256 .f32 := broadcastInDim S1x1x4096x256 ![] bcast_S_S1x1x4096x256 main_cst_0
  let main_v6 : IVec S1x1x4096x256 1 := cmpf .olt main_v4 main_v5
  let main_c_1 : IVec S_ 1 := constantI S_ 1 1#1
  let main_v7 : IVec S_ 1 := (fun x v => Host.reduce IntOp.andi x v reducesTo_S1x1x4096x256_S_d0_1_2_3 h_S_) main_v6 main_c_1
  let main_v8 : FVec F S1x256x1024 .f32 := Host.absf main_arg2
  let main_cst_2 : FVec F S_ .f32 := constant S_ .f32 0x7F800000#32
  let main_v9 : FVec F S1x256x1024 .f32 := broadcastInDim S1x256x1024 ![] bcast_S_S1x256x1024 main_cst_2
  let main_v10 : IVec S1x256x1024 1 := cmpf .olt main_v8 main_v9
  let main_c_3 : IVec S_ 1 := constantI S_ 1 1#1
  let main_v11 : IVec S_ 1 := (fun x v => Host.reduce IntOp.andi x v reducesTo_S1x256x1024_S_d0_1_2 h_S_) main_v10 main_c_3
  let main_v12 : FVec F S1x1024x1024 .f32 := Host.absf main_arg3
  let main_cst_4 : FVec F S_ .f32 := constant S_ .f32 0x7F800000#32
  let main_v13 : FVec F S1x1024x1024 .f32 := broadcastInDim S1x1024x1024 ![] bcast_S_S1x1024x1024 main_cst_4
  let main_v14 : IVec S1x1024x1024 1 := cmpf .olt main_v12 main_v13
  let main_c_5 : IVec S_ 1 := constantI S_ 1 1#1
  let main_v15 : IVec S_ 1 := (fun x v => Host.reduce IntOp.andi x v reducesTo_S1x1024x1024_S_d0_1_2 h_S_) main_v14 main_c_5
  fn_part1 (F := F) main_arg4 main_arg5 main_arg6 main_arg7 main_arg8 main_v3 main_v7 main_v11 main_v15
-- ==== Pre_pool_finite.lean ====
abbrev S1x4096x512 : Shape := ⟨3, ![1, 4096, 512]⟩
abbrev S1x4x128x128 : Shape := ⟨4, ![1, 4, 128, 128]⟩
abbrev S1x512 : Shape := ⟨2, ![1, 512]⟩
abbrev S_ : Shape := ⟨0, ![]⟩

class Facts : Prop where
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  h_S_ : 0 < S_.numel
  bcast_S_S1x512 : S_.BroadcastsInDim S1x512 (![] : Fin 0 → Fin S1x512.rank)
  reducesTo_S1x512_S_d0_1 : S1x512.ReducesTo [0, 1] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn {F : FTy → Type} [FloatOps F] (main_arg0 : FVec F S1x4096x512 .f32) (main_arg1 : FVec F S1x4x128x128 .f32) (main_arg2 : FVec F S1x512 .f32) (main_arg3 : FVec F S1x4096x512 .f32) : IVec S_ 1 :=
  let main_v0 : FVec F S1x4x128x128 .f32 := Host.absf main_arg1
  let main_cst : FVec F S_ .f32 := constant S_ .f32 0x7F800000#32
  let main_v1 : FVec F S1x4x128x128 .f32 := broadcastInDim S1x4x128x128 ![] bcast_S_S1x4x128x128 main_cst
  let main_v2 : IVec S1x4x128x128 1 := cmpf .olt main_v0 main_v1
  let main_c : IVec S_ 1 := constantI S_ 1 1#1
  let main_v3 : IVec S_ 1 := (fun x v => Host.reduce IntOp.andi x v reducesTo_S1x4x128x128_S_d0_1_2_3 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : FVec F S1x4096x512 .f32 := Host.absf main_arg3
  let main_cst_2 : FVec F S_ .f32 := constant S_ .f32 0x7F800000#32
  let main_v9 : FVec F S1x4096x512 .f32 := broadcastInDim S1x4096x512 ![] bcast_S_S1x4096x512 main_cst_2
  let main_v10 : IVec S1x4096x512 1 := cmpf .olt main_v8 main_v9
  let main_c_3 : IVec S_ 1 := constantI S_ 1 1#1
  let main_v11 : IVec S_ 1 := (fun x v => Host.reduce IntOp.andi x v reducesTo_S1x4096x512_S_d0_1_2 h_S_) main_v10 main_c_3
  let main_v12 : IVec S_ 1 := andi main_v3 main_v7
  let main_v13 : IVec S_ 1 := andi main_v12 main_v11
  main_v13
-- ==== KernelMlp.lean ====
abbrev S1x4096x1024 : Shape := ⟨3, ![1, 4096, 1024]⟩
abbrev S1x1024x4096 : Shape := ⟨3, ![1, 1024, 4096]⟩
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 21
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4096, .f32⟩
  | .hbm, ⟨2, _⟩ => ⟨S1x4096x1024, .f32⟩
  | .hbm, ⟨3, _⟩ => ⟨S1x4096x1024, .f32⟩
  | .hbm, ⟨4, _⟩ => ⟨S4096x1024, .f32⟩
  | .hbm, ⟨5, _⟩ => ⟨S4096x1024, .bf16⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S4096x1024, .f32⟩
  | .hbm, ⟨16, _⟩ => ⟨S4096x1024, .bf16⟩
  | .hbm, ⟨17, _⟩ => ⟨S1024x4x1024, .bf16⟩
  | .hbm, ⟨18, _⟩ => ⟨S4x1024x1024, .bf16⟩
  | .hbm, ⟨19, _⟩ => ⟨S4096x1024, .f32⟩
  | .hbm, ⟨20, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMlpIdeal.lean ====
abbrev S1x4096x1024 : Shape := ⟨3, ![1, 4096, 1024]⟩
abbrev S1x1024x4096 : Shape := ⟨3, ![1, 1024, 4096]⟩
abbrev S1024x4096 : Shape := ⟨2, ![1024, 4096]⟩
abbrev S1x4096x4096 : Shape := ⟨3, ![1, 4096, 4096]⟩
abbrev S_ : Shape := ⟨0, ![]⟩
abbrev S4096x1024 : Shape := ⟨2, ![4096, 1024]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x4096, .f32⟩
  | .hbm, ⟨2, _⟩ => ⟨S1x4096x1024, .f32⟩
  | .hbm, ⟨3, _⟩ => ⟨S1x4096x1024, .f32⟩
  | .hbm, ⟨4, _⟩ => ⟨S1024x4096, .f32⟩
  | .hbm, ⟨5, _⟩ => ⟨S1x4096x4096, .f32⟩
  | .hbm, ⟨6, _⟩ => ⟨S_, .f32⟩
  | .hbm, ⟨7, _⟩ => ⟨S1x4096x4096, .f32⟩
  | .hbm, ⟨8, _⟩ => ⟨S1x4096x4096, .f32⟩
  | .hbm, ⟨9, _⟩ => ⟨S_, .f32⟩
  | .hbm, ⟨10, _⟩ => ⟨S1x4096x4096, .f32⟩
  | .hbm, ⟨11, _⟩ => ⟨S1x4096x4096, .i1⟩
  | .hbm, ⟨12, _⟩ => ⟨S_, .f32⟩
  | .hbm, ⟨13, _⟩ => ⟨S1x4096x4096, .f32⟩
  | .hbm, ⟨14, _⟩ => ⟨S1x4096x4096, .f32⟩
  | .hbm, ⟨15, _⟩ => ⟨S_, .f32⟩
  | .hbm, ⟨16, _⟩ => ⟨S1x4096x4096, .f32⟩
  | .hbm, ⟨17, _⟩ => ⟨S1x4096x4096, .f32⟩
  | .hbm, ⟨18, _⟩ => ⟨S4096x1024, .f32⟩
  | .hbm, ⟨19, _⟩ => ⟨S1x4096x1024, .f32⟩
  | .hbm, ⟨20, _⟩ => ⟨S1x4096x4096, .f32⟩
  | .hbm, ⟨21, _⟩ => ⟨S1x4096x4096, .f32⟩
  | .hbm, ⟨22, _⟩ => ⟨S_, .f32⟩
  | .hbm, ⟨23, _⟩ => ⟨S1x4096x4096, .f32⟩
  | .hbm, ⟨24, _⟩ => ⟨S1x4096x4096, .f32⟩
  | .hbm, ⟨25, _⟩ => ⟨S1x4096x1024, .f32⟩
  | .hbm, ⟨26, _⟩ => ⟨S4096x1024, .f32⟩
  | .hbm, ⟨27, _⟩ => ⟨S4096x4096, .f32⟩
  | .hbm, ⟨28, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel2.lean ====
abbrev S1x4096x512 : Shape := ⟨3, ![1, 4096, 512]⟩
abbrev S4096x512 : Shape := ⟨2, ![4096, 512]⟩
abbrev S_ : Shape := ⟨0, ![]⟩
abbrev S256x128 : Shape := ⟨2, ![256, 128]⟩
abbrev S4096x128 : Shape := ⟨2, ![4096, 128]⟩
abbrev S2x16x256x256 : Shape := ⟨4, ![2, 16, 256, 256]⟩
abbrev S256x256 : Shape := ⟨2, ![256, 256]⟩
abbrev S1x128 : Shape := ⟨2, ![1, 128]⟩
abbrev S256x1 : Shape := ⟨2, ![256, 1]⟩
abbrev S1x1x256x256 : Shape := ⟨4, ![1, 1, 256, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 18
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S2x16x256x256, .f32⟩
  | .local _ .vmem, ⟨15, _⟩ => ⟨S2x16x256x256, .f32⟩
  | .local _ .vmem, ⟨16, _⟩ => ⟨S256x256, .bf16⟩
  | .local _ .vmem, ⟨17, _⟩ => ⟨S256x256, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c1_i32 : BitVec 32 := 1#32
  let v39 : BitVec 1 := Scalar.cmpi .sge arg1 c1_i32
  let v40 : BitVec 32 := Scalar.extui v39
  let c0_i32_16 : BitVec 32 := 0#32
  let v41 : BitVec 1 := Scalar.cmpi .ne v40 c0_i32_16
  v41

def k0_mult1 (i : grid0.Coords) : BitVec 32 :=
  let arg1 : BitVec 32 := BitVec.ofNat 32 (i 1).val
  let c256_i32 : BitVec 32 := 256#32
  let v67 : BitVec 32 := Scalar.muli arg1 c256_i32
  v67
def k0_off1 (i : grid0.Coords) : Fin 2 → Nat :=
  let arg1 : BitVec 32 := BitVec.ofNat 32 (i 1).val
  let c256_i32 : BitVec 32 := 256#32
  let v67 : BitVec 32 := Scalar.muli arg1 c256_i32
  let v68 : BitVec 32 := v67
  let v69 : Index := Scalar.indexCast v68
  let c0_28 : Index := 0#32
  ![v69.toNat, 0]
def k0_off2 (i : grid0.Coords) : Fin 4 → Nat :=
  let c0_48 : Index := 0#32
  let arg1 : BitVec 32 := BitVec.ofNat 32 (i 1).val
  let v126 : Index := Scalar.indexCast arg1
  let c0_49 : Index := 0#32
  let c0_50 : Index := 0#32
  ![0, v126.toNat, 0, 0]
def k0_off3 (i : grid0.Coords) : Fin 4 → Nat :=
  let c1 : Index := 1#32
  let arg1 : BitVec 32 := BitVec.ofNat 32 (i 1).val
  let v136 : Index := Scalar.indexCast arg1
  let c0_54 : Index := 0#32
  let c0_55 : Index := 0#32
  ![1, v136.toNat, 0, 0]
def k0_mult2 (i : grid0.Coords) : BitVec 32 :=
  let arg1 : BitVec 32 := BitVec.ofNat 32 (i 1).val
  let c1_i32_27 : BitVec 32 := 1#32
  let v66 : BitVec 32 := Scalar.subi arg1 c1_i32_27
  let c256_i32_65 : BitVec 32 := 256#32
  let v163 : BitVec 32 := Scalar.muli v66 c256_i32_65
  v163
def k0_off4 (i : grid0.Coords) : Fin 2 → Nat :=
  let arg1 : BitVec 32 := BitVec.ofNat 32 (i 1).val
  let c1_i32_27 : BitVec 32 := 1#32
  let v66 : BitVec 32 := Scalar.subi arg1 c1_i32_27
  let c256_i32_65 : BitVec 32 := 256#32
  let v163 : BitVec 32 := Scalar.muli v66 c256_i32_65
  let v164 : BitVec 32 := v163
  let v165 : Index := Scalar.indexCast v164
  let c0_66 : Index := 0#32
  ![v165.toNat, 0]
def k0_off5 (i : grid0.Coords) : Fin 4 → Nat :=
  let c0_82 : Index := 0#32
  let arg1 : BitVec 32 := BitVec.ofNat 32 (i 1).val
  let c1_i32_27 : BitVec 32 := 1#32
  let v66 : BitVec 32 := Scalar.subi arg1 c1_i32_27
  let v214 : Index := Scalar.indexCast v66
  let c0_83 : Index := 0#32
  let c0_84 : Index := 0#32
  ![0, v214.toNat, 0, 0]
def k0_off6 (i : grid0.Coords) : Fin 4 → Nat :=
  let c1_88 : Index := 1#32
  let arg1 : BitVec 32 := BitVec.ofNat 32 (i 1).val
  let c1_i32_27 : BitVec 32 := 1#32
  let v66 : BitVec 32 := Scalar.subi arg1 c1_i32_27
  let v224 : Index := Scalar.indexCast v66
  let c0_89 : Index := 0#32
  let c0_90 : Index := 0#32
  ![1, v224.toNat, 0, 0]
def k0_mult3 (i : grid0.Coords) : BitVec 32 :=
  let arg1 : BitVec 32 := BitVec.ofNat 32 (i 1).val
  let c256_i32 : BitVec 32 := 256#32
  let v66 : BitVec 32 := Scalar.muli arg1 c256_i32
  v66
def k0_off7 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v68 : Index := Scalar.indexCast v67
  let c0_27 : Index := 0#32
  ![v68.toNat, 0]
def k0_off8 (i : grid0.Coords) : Fin 4 → Nat :=
  let c0_47 : Index := 0#32
  let arg1 : BitVec 32 := BitVec.ofNat 32 (i 1).val
  let v125 : Index := Scalar.indexCast arg1
  let c0_48 : Index := 0#32
  let c0_49 : Index := 0#32
  ![0, v125.toNat, 0, 0]
def k0_off9 (i : grid0.Coords) : Fin 4 → Nat :=
  let c1 : Index := 1#32
  let arg1 : BitVec 32 := BitVec.ofNat 32 (i 1).val
  let v135 : Index := Scalar.indexCast arg1
  let c0_53 : Index := 0#32
  let c0_54 : Index := 0#32
  ![1, v135.toNat, 0, 0]
def k0_mult4 (i : grid0.Coords) (arg13 : BitVec 32) : BitVec 32 :=
  let arg1 : BitVec 32 := BitVec.ofNat 32 (i 1).val
  let v66 : BitVec 32 := Scalar.subi arg1 arg13
  let c256_i32 : BitVec 32 := 256#32
  let v67 : BitVec 32 := Scalar.muli v66 c256_i32
  v67

def k0_off10 (i : grid0.Coords) (arg13 : BitVec 32) : Fin 2 → Nat :=
  let arg1 : BitVec 32 := BitVec.ofNat 32 (i 1).val
  let v66 : BitVec 32 := Scalar.subi arg1 arg13
  let c256_i32 : BitVec 32 := 256#32
  let v67 : BitVec 32 := Scalar.muli v66 c256_i32
  let v68 : BitVec 32 := v67
  let v69 : Index := Scalar.indexCast v68
  let c0_27 : Index := 0#32
  ![v69.toNat, 0]
def k0_off11 (i : grid0.Coords) (arg13 : BitVec 32) : Fin 4 → Nat :=
  let c0_43 : Index := 0#32
  let arg1 : BitVec 32 := BitVec.ofNat 32 (i 1).val
  let v66 : BitVec 32 := Scalar.subi arg1 arg13
  let v118 : Index := Scalar.indexCast v66
  let c0_44 : Index := 0#32
  let c0_45 : Index := 0#32
  ![0, v118.toNat, 0, 0]
def k0_off12 (i : grid0.Coords) (arg13 : BitVec 32) : Fin 4 → Nat :=
  let c1 : Index := 1#32
  let arg1 : BitVec 32 := BitVec.ofNat 32 (i 1).val
  let v66 : BitVec 32 := Scalar.subi arg1 arg13
  let v128 : Index := Scalar.indexCast v66
  let c0_49 : Index := 0#32
  let c0_50 : Index := 0#32
  ![1, v128.toNat, 0, 0]

def k0_chk1 (i : grid0.Coords) (arg13 : BitVec 32) : Prop :=
  (256 ∣ (k0_mult4 i arg13).toNat) ∧
  (∀ a, (k0_off10 i arg13) a + S256x128.size a ≤ S4096x128.size a) ∧
  (∀ a, (k0_off11 i arg13) a + S1x1x256x256.size a ≤ S2x16x256x256.size a) ∧
  (∀ a, (k0_off12 i arg13) a + S1x1x256x256.size a ≤ S2x16x256x256.size a)
theorem k0_mult4_dvd : ∀ (i : grid0.Coords) (arg13 : BitVec 32) (k0_hw1 : k0_chk1 i arg13), 256 ∣ (k0_mult4 i arg13).toNat := fun i arg13 k0_hw1 => k0_hw1.1
theorem k0_off10_inb : ∀ (i : grid0.Coords) (arg13 : BitVec 32) (k0_hw1 : k0_chk1 i arg13), ∀ a, (k0_off10 i arg13) a + S256x128.size a ≤ S4096x128.size a := fun i arg13 k0_hw1 => k0_hw1.2.1
theorem k0_off11_inb : ∀ (i : grid0.Coords) (arg13 : BitVec 32) (k0_hw1 : k0_chk1 i arg13), ∀ a, (k0_off11 i arg13) a + S1x1x256x256.size a ≤ S2x16x256x256.size a := fun i arg13 k0_hw1 => k0_hw1.2.2.1
theorem k0_off12_inb : ∀ (i : grid0.Coords) (arg13 : BitVec 32) (k0_hw1 : k0_chk1 i arg13), ∀ a, (k0_off12 i arg13) a + S1x1x256x256.size a ≤ S2x16x256x256.size a := fun i arg13 k0_hw1 => k0_hw1.2.2.2

@[reducible] def k0_t1_loop (i : grid0.Coords) (v43_0 : BitVec 32) : Scf.Loop 32 :=
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_18 : BitVec 32 := 1#32
  let v46 : BitVec 32 := Scalar.subi arg1 c1_i32_18
  let v47 : BitVec 32 := Scalar.subi v46 v45
  let c1_i32_19 : BitVec 32 := 1#32
  let v49 : BitVec 32 := Scalar.divsi v47 c1_i32_19
  let v50 : BitVec 32 := Scalar.muli v49 c1_i32_19
  let v51 : BitVec 32 := Scalar.addi v45 v50
  let c1_i32_20 : BitVec 32 := 1#32
  ⟨v45, v51, c1_i32_20⟩

def k0_mult5 (i : grid0.Coords) (v43_0 : BitVec 32) (k0_t1 : Fin (k0_t1_loop i v43_0).trips) : BitVec 32 :=
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_20 : BitVec 32 := 1#32
  let arg13 : BitVec 32 := Scf.iv v45 c1_i32_20 k0_t1
  let c256_i32 : BitVec 32 := 256#32
  let v66 : BitVec 32 := Scalar.muli arg13 c256_i32
  v66
def k0_off13 (i : grid0.Coords) (v43_0 : BitVec 32) (k0_t1 : Fin (k0_t1_loop i v43_0).trips) : Fin 2 → Nat :=
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_20 : BitVec 32 := 1#32
  let arg13 : BitVec 32 := Scf.iv v45 c1_i32_20 k0_t1
  let c256_i32 : BitVec 32 := 256#32
  let v66 : BitVec 32 := Scalar.muli arg13 c256_i32
  let v67 : BitVec 32 := v66
  let v68 : Index := Scalar.indexCast v67
  let c0_27 : Index := 0#32
  ![v68.toNat, 0]
def k0_off14 (i : grid0.Coords) (v43_0 : BitVec 32) (k0_t1 : Fin (k0_t1_loop i v43_0).trips) : Fin 4 → Nat :=
  let c0_28 : Index := 0#32
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_20 : BitVec 32 := 1#32
  let arg13 : BitVec 32 := Scf.iv v45 c1_i32_20 k0_t1
  let v71 : Index := Scalar.indexCast arg13
  let c0_29 : Index := 0#32
  let c0_30 : Index := 0#32
  ![0, v71.toNat, 0, 0]
def k0_off15 (i : grid0.Coords) (v43_0 : BitVec 32) (k0_t1 : Fin (k0_t1_loop i v43_0).trips) : Fin 4 → Nat :=
  let c1 : Index := 1#32
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_20 : BitVec 32 := 1#32
  let arg13 : BitVec 32 := Scf.iv v45 c1_i32_20 k0_t1
  let v74 : Index := Scalar.indexCast arg13
  let c0_31 : Index := 0#32
  let c0_32 : Index := 0#32
  ![1, v74.toNat, 0, 0]
@[reducible] def k0_t2_loop (i : grid0.Coords) (v43_0 : BitVec 32) : Scf.Loop 32 :=
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_18 : BitVec 32 := 1#32
  let v46 : BitVec 32 := Scalar.subi arg1 c1_i32_18
  let v47 : BitVec 32 := Scalar.subi v46 v45
  let c1_i32_19 : BitVec 32 := 1#32
  let v49 : BitVec 32 := Scalar.divsi v47 c1_i32_19
  let v50 : BitVec 32 := Scalar.muli v49 c1_i32_19
  let v51 : BitVec 32 := Scalar.addi v45 v50
  let v48 : BitVec 32 := Scalar.addi v45 v47
  let c1_i32_21 : BitVec 32 := 1#32
  ⟨v51, v48, c1_i32_21⟩
def k0_mult6 (i : grid0.Coords) (v43_0 : BitVec 32) (k0_t2 : Fin (k0_t2_loop i v43_0).trips) : BitVec 32 :=
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_18 : BitVec 32 := 1#32
  let v46 : BitVec 32 := Scalar.subi arg1 c1_i32_18
  let v47 : BitVec 32 := Scalar.subi v46 v45
  let c1_i32_19 : BitVec 32 := 1#32
  let v49 : BitVec 32 := Scalar.divsi v47 c1_i32_19
  let v50 : BitVec 32 := Scalar.muli v49 c1_i32_19
  let v51 : BitVec 32 := Scalar.addi v45 v50
  let c1_i32_21 : BitVec 32 := 1#32
  let arg13 : BitVec 32 := Scf.iv v51 c1_i32_21 k0_t2
  let c256_i32 : BitVec 32 := 256#32
  let v66 : BitVec 32 := Scalar.muli arg13 c256_i32
  v66
def k0_off16 (i : grid0.Coords) (v43_0 : BitVec 32) (k0_t2 : Fin (k0_t2_loop i v43_0).trips) : Fin 2 → Nat :=
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_18 : BitVec 32 := 1#32
  let v46 : BitVec 32 := Scalar.subi arg1 c1_i32_18
  let v47 : BitVec 32 := Scalar.subi v46 v45
  let c1_i32_19 : BitVec 32 := 1#32
  let v49 : BitVec 32 := Scalar.divsi v47 c1_i32_19
  let v50 : BitVec 32 := Scalar.muli v49 c1_i32_19
  let v51 : BitVec 32 := Scalar.addi v45 v50
  let c1_i32_21 : BitVec 32 := 1#32
  let arg13 : BitVec 32 := Scf.iv v51 c1_i32_21 k0_t2
  let c256_i32 : BitVec 32 := 256#32
  let v66 : BitVec 32 := Scalar.muli arg13 c256_i32
  let v67 : BitVec 32 := v66
  let v68 : Index := Scalar.indexCast v67
  let c0_27 : Index := 0#32
  ![v68.toNat, 0]
def k0_off17 (i : grid0.Coords) (v43_0 : BitVec 32) (k0_t2 : Fin (k0_t2_loop i v43_0).trips) : Fin 4 → Nat :=
  let c0_28 : Index := 0#32
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_18 : BitVec 32 := 1#32
  let v46 : BitVec 32 := Scalar.subi arg1 c1_i32_18
  let v47 : BitVec 32 := Scalar.subi v46 v45
  let c1_i32_19 : BitVec 32 := 1#32
  let v49 : BitVec 32 := Scalar.divsi v47 c1_i32_19
  let v50 : BitVec 32 := Scalar.muli v49 c1_i32_19
  let v51 : BitVec 32 := Scalar.addi v45 v50
  let c1_i32_21 : BitVec 32 := 1#32
  let arg13 : BitVec 32 := Scf.iv v51 c1_i32_21 k0_t2
  let v71 : Index := Scalar.indexCast arg13
  let c0_29 : Index := 0#32
  let c0_30 : Index := 0#32
  ![0, v71.toNat, 0, 0]
def k0_off18 (i : grid0.Coords) (v43_0 : BitVec 32) (k0_t2 : Fin (k0_t2_loop i v43_0).trips) : Fin 4 → Nat :=
  let c1 : Index := 1#32
  let arg1 : BitVec 32 := BitVec.ofNat 32 (i 1).val
  let v44 : BitVec 32 := Scalar.subi arg1 v43_0
  let c1_i32_17 : BitVec 32 := 1#32
  let v45 : BitVec 32 := Scalar.addi v44 c1_i32_17
  let c1_i32_18 : BitVec 32 := 1#32
  let v46 : BitVec 32 := Scalar.subi arg1 c1_i32_18
  let v47 : BitVec 32 := Scalar.subi v46 v45
  let c1_i32_19 : BitVec 32 := 1#32
  let v49 : BitVec 32 := Scalar.divsi v47 c1_i32_19
  let v50 : BitVec 32 := Scalar.muli v49 c1_i32_19
  let v51 : BitVec 32 := Scalar.addi v45 v50
  let c1_i32_21 : BitVec 32 := 1#32
  let arg13 : BitVec 32 := Scf.iv v51 c1_i32_21 k0_t2
  let v74 : Index := Scalar.indexCast arg13
  let c0_31 : Index := 0#32
  let c0_32 : Index := 0#32
  ![1, v74.toNat, 0, 0]

def k0_chk2 (i : grid0.Coords) (v43_0 : BitVec 32) : Prop :=
  ((k0_t1_loop i v43_0).OK) ∧
  (∀ k0_t1 : Fin (k0_t1_loop i v43_0).trips, 256 ∣ (k0_mult5 i v43_0 k0_t1).toNat) ∧
  (∀ k0_t1 : Fin (k0_t1_loop i v43_0).trips, ∀ a, (k0_off13 i v43_0 k0_t1) a + S256x128.size a ≤ S4096x128.size a) ∧
  (∀ k0_t1 : Fin (k0_t1_loop i v43_0).trips, ∀ a, (k0_off14 i v43_0 k0_t1) a + S1x1x256x256.size a ≤ S2x16x256x256.size a) ∧
  (∀ k0_t1 : Fin (k0_t1_loop i v43_0).trips, ∀ a, (k0_off15 i v43_0 k0_t1) a + S1x1x256x256.size a ≤ S2x16x256x256.size a) ∧
  ((k0_t2_loop i v43_0).OK) ∧
  (∀ k0_t2 : Fin (k0_t2_loop i v43_0).trips, 256 ∣ (k0_mult6 i v43_0 k0_t2).toNat) ∧
  (∀ k0_t2 : Fin (k0_t2_loop i v43_0).trips, ∀ a, (k0_off16 i v43_0 k0_t2) a + S256x128.size a ≤ S4096x128.size a) ∧
  (∀ k0_t2 : Fin (k0_t2_loop i v43_0).trips, ∀ a, (k0_off17 i v43_0 k0_t2) a + S1x1x256x256.size a ≤ S2x16x256x256.size a) ∧
  (∀ k0_t2 : Fin (k0_t2_loop i v43_0).trips, ∀ a, (k0_off18 i v43_0 k0_t2) a + S1x1x256x256.size a ≤ S2x16x256x256.size a)
theorem k0_t1_ok : ∀ (i : grid0.Coords) (v43_0 : BitVec 32) (k0_hw2 : k0_chk2 i v43_0), (k0_t1_loop i v43_0).OK := fun i v43_0 k0_hw2 => k0_hw2.1
theorem k0_mult5_dvd : ∀ (i : grid0.Coords) (v43_0 : BitVec 32) (k0_hw2 : k0_chk2 i v43_0) (k0_t1 : Fin (k0_t1_loop i v43_0).trips), 256 ∣ (k0_mult5 i v43_0 k0_t1).toNat := fun i v43_0 k0_hw2 k0_t1 => k0_hw2.2.1 k0_t1
theorem k0_off13_inb : ∀ (i : grid0.Coords) (v43_0 : BitVec 32) (k0_hw2 : k0_chk2 i v43_0) (k0_t1 : Fin (k0_t1_loop i v43_0).trips), ∀ a, (k0_off13 i v43_0 k0_t1) a + S256x128.size a ≤ S4096x128.size a := fun i v43_0 k0_hw2 k0_t1 => k0_hw2.2.2.1 k0_t1
theorem k0_off14_inb : ∀ (i : grid0.Coords) (v43_0 : BitVec 32) (k0_hw2 : k0_chk2 i v43_0) (k0_t1 : Fin (k0_t1_loop i v43_0).trips), ∀ a, (k0_off14 i v43_0 k0_t1) a + S1x1x256x256.size a ≤ S2x16x256x256.size a := fun i v43_0 k0_hw2 k0_t1 => k0_hw2.2.2.2.1 k0_t1
theorem k0_off15_inb : ∀ (i : grid0.Coords) (v43_0 : BitVec 32) (k0_hw2 : k0_chk2 i v43_0) (k0_t1 : Fin (k0_t1_loop i v43_0).trips), ∀ a, (k0_off15 i v43_0 k0_t1) a + S1x1x256x256.size a ≤ S2x16x256x256.size a := fun i v43_0 k0_hw2 k0_t1 => k0_hw2.2.2.2.2.1 k0_t1
theorem k0_t2_ok : ∀ (i : grid0.Coords) (v43_0 : BitVec 32) (k0_hw2 : k0_chk2 i v43_0), (k0_t2_loop i v43_0).OK := fun i v43_0 k0_hw2 => k0_hw2.2.2.2.2.2.1
theorem k0_mult6_dvd : ∀ (i : grid0.Coords) (v43_0 : BitVec 32) (k0_hw2 : k0_chk2 i v43_0) (k0_t2 : Fin (k0_t2_loop i v43_0).trips), 256 ∣ (k0_mult6 i v43_0 k0_t2).toNat := fun i v43_0 k0_hw2 k0_t2 => k0_hw2.2.2.2.2.2.2.1 k0_t2
theorem k0_off16_inb : ∀ (i : grid0.Coords) (v43_0 : BitVec 32) (k0_hw2 : k0_chk2 i v43_0) (k0_t2 : Fin (k0_t2_loop i v43_0).trips), ∀ a, (k0_off16 i v43_0 k0_t2) a + S256x128.size a ≤ S4096x128.size a := fun i v43_0 k0_hw2 k0_t2 => k0_hw2.2.2.2.2.2.2.2.1 k0_t2
theorem k0_off17_inb : ∀ (i : grid0.Coords) (v43_0 : BitVec 32) (k0_hw2 : k0_chk2 i v43_0) (k0_t2 : Fin (k0_t2_loop i v43_0).trips), ∀ a, (k0_off17 i v43_0 k0_t2) a + S1x1x256x256.size a ≤ S2x16x256x256.size a := fun i v43_0 k0_hw2 k0_t2 => k0_hw2.2.2.2.2.2.2.2.2.1 k0_t2
theorem k0_off18_inb : ∀ (i : grid0.Coords) (v43_0 : BitVec 32) (k0_hw2 : k0_chk2 i v43_0) (k0_t2 : Fin (k0_t2_loop i v43_0).trips), ∀ a, (k0_off18 i v43_0 k0_t2) a + S1x1x256x256.size a ≤ S2x16x256x256.size a := fun i v43_0 k0_hw2 k0_t2 => k0_hw2.2.2.2.2.2.2.2.2.2 k0_t2

def k0_cond4 (i : grid0.Coords) : BitVec 1 :=
  let arg1 : BitVec 32 := BitVec.ofNat 32 (i 1).val
  let c1_i32_22 : BitVec 32 := 1#32
  let v54 : BitVec 1 := Scalar.cmpi .sge arg1 c1_i32_22
  let v55 : BitVec 32 := Scalar.extui v54
  let c0_i32_23 : BitVec 32 := 0#32
  let v56 : BitVec 1 := Scalar.cmpi .ne v55 c0_i32_23
  v56

def k0_mult7 (i : grid0.Coords) : BitVec 32 :=
  let arg1 : BitVec 32 := BitVec.ofNat 32 (i 1).val
  let c1_i32_27 : BitVec 32 := 1#32
  let v66 : BitVec 32 := Scalar.subi arg1 c1_i32_27
  let c256_i32 : BitVec 32 := 256#32
  let v67 : BitVec 32 := Scalar.muli v66 c256_i32
  v67
def k0_off19 (i : grid0.Coords) : Fin 2 → Nat :=
  let arg1 : BitVec 32 := BitVec.ofNat 32 (i 1).val
  let c1_i32_27 : BitVec 32 := 1#32
  let v66 : BitVec 32 := Scalar.subi arg1 c1_i32_27
  let c256_i32 : BitVec 32 := 256#32
  let v67 : BitVec 32 := Scalar.muli v66 c256_i32
  let v68 : BitVec 32 := v67
  let v69 : Index := Scalar.indexCast v68
  let c0_28 : Index := 0#32
  ![v69.toNat, 0]
def k0_off20 (i : grid0.Coords) : Fin 4 → Nat :=
  let c0_29 : Index := 0#32
  let arg1 : BitVec 32 := BitVec.ofNat 32 (i 1).val
  let c1_i32_27 : BitVec 32 := 1#32
  let v66 : BitVec 32 := Scalar.subi arg1 c1_i32_27
  let v72 : Index := Scalar.indexCast v66
  let c0_30 : Index := 0#32
  let c0_31 : Index := 0#32
  ![0, v72.toNat, 0, 0]
def k0_off21 (i : grid0.Coords) : Fin 4 → Nat :=
  let c1 : Index := 1#32
  let arg1 : BitVec 32 := BitVec.ofNat 32 (i 1).val
  let c1_i32_27 : BitVec 32 := 1#32
  let v66 : BitVec 32 := Scalar.subi arg1 c1_i32_27
  let v75 : Index := Scalar.indexCast v66
  let c0_32 : Index := 0#32
  let c0_33 : Index := 0#32
  ![1, v75.toNat, 0, 0]
def k0_mult8 (i : grid0.Coords) : BitVec 32 :=
  let arg1 : BitVec 32 := BitVec.ofNat 32 (i 1).val
  let c256_i32_50 : BitVec 32 := 256#32
  let v120 : BitVec 32 := Scalar.muli arg1 c256_i32_50
  v120
def k0_off22 (i : grid0.Coords) : Fin 2 → Nat :=
  let arg1 : BitVec 32 := BitVec.ofNat 32 (i 1).val
  let c256_i32_50 : BitVec 32 := 256#32
  let v120 : BitVec 32 := Scalar.muli arg1 c256_i32_50
  let v121 : BitVec 32 := v120
  let v122 : Index := Scalar.indexCast v121
  let c0_51 : Index := 0#32
  ![v122.toNat, 0]
def k0_off23 (i : grid0.Coords) : Fin 4 → Nat :=
  let c0_52 : Index := 0#32
  let arg1 : BitVec 32 := BitVec.ofNat 32 (i 1).val
  let v125 : Index := Scalar.indexCast arg1
  let c0_53 : Index := 0#32
  let c0_54 : Index := 0#32
  ![0, v125.toNat, 0, 0]
def k0_off24 (i : grid0.Coords) : Fin 4 → Nat :=
  let c1_55 : Index := 1#32
  let arg1 : BitVec 32 := BitVec.ofNat 32 (i 1).val
  let v128 : Index := Scalar.indexCast arg1
  let c0_56 : Index := 0#32
  let c0_57 : Index := 0#32
  ![1, v128.toNat, 0, 0]
def k0_mult9 (i : grid0.Coords) : BitVec 32 :=
  let arg1 : BitVec 32 := BitVec.ofNat 32 (i 1).val
  let c256_i32 : BitVec 32 := 256#32
  let v66 : BitVec 32 := Scalar.muli arg1 c256_i32
  v66
def k0_off25 (i : grid0.Coords) : Fin 2 → Nat :=
  let arg1 : BitVec 32 := BitVec.ofNat 32 (i 1).val
  let c256_i32 : BitVec 32 := 256#32
  let v66 : BitVec 32 := Scalar.muli arg1 c256_i32
  let v67 : BitVec 32 := v66
  let v68 : Index := Scalar.indexCast v67
  let c0_27 : Index := 0#32
  ![v68.toNat, 0]
def k0_off26 (i : grid0.Coords) : Fin 4 → Nat :=
  let c0_28 : Index := 0#32
  let arg1 : BitVec 32 := BitVec.ofNat 32 (i 1).val
  let v71 : Index := Scalar.indexCast arg1
  let c0_29 : Index := 0#32
  let c0_30 : Index := 0#32
  ![0, v71.toNat, 0, 0]
def k0_off27 (i : grid0.Coords) : Fin 4 → Nat :=
  let c1 : Index := 1#32
  let arg1 : BitVec 32 := BitVec.ofNat 32 (i 1).val
  let v74 : Index := Scalar.indexCast arg1
  let c0_31 : Index := 0#32
  let c0_32 : Index := 0#32
  ![1, v74.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "floor" => some ⊥
  | _ => none
-- ==== Reference2Ideal.lean ====
abbrev S1x4096x512 : Shape := ⟨3, ![1, 4096, 512]⟩
abbrev S4096 : Shape := ⟨1, ![4096]⟩
abbrev S1x4096x8x64 : Shape := ⟨4, ![1, 4096, 8, 64]⟩
abbrev S1x8x4096x64 : Shape := ⟨4, ![1, 8, 4096, 64]⟩
abbrev S1x8x4096x4096 : Shape := ⟨4, ![1, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x8x64x4096 : Shape := ⟨4, ![1, 8, 64, 4096]⟩
abbrev S4096x512 : Shape := ⟨2, ![4096, 512]⟩

abbrev nBuf : Space → Nat
  | .hbm => 179
  | .vmem => 0
  | .smem => 0
  | _ => 0

abbrev hbmTy0_0 (i : Nat) : BufTy := match i % 128 with
  | 0 => ⟨S1x4096x512, .f32⟩
  | 1 => ⟨S1x4096x512, .f32⟩
  | 2 => ⟨S1x4096x512, .f32⟩
  | 3 => ⟨S1x4096x512, .f32⟩
  | 4 => ⟨S4096, .i32⟩
  | 5 => ⟨S1x4096x8x64, .f32⟩
  | 6 => ⟨S1x8x4096x64, .f32⟩
  | 7 => ⟨S1x4096x8x64, .f32⟩
  | 8 => ⟨S1x8x4096x64, .f32⟩
  | 9 => ⟨S1x4096x8x64, .f32⟩
  | 10 => ⟨S1x8x4096x64, .f32⟩
  | 11 => ⟨S1x8x4096x4096, .f32⟩
  | 12 => ⟨S_, .f32⟩
  | 13 => ⟨S1x8x4096x4096, .f32⟩
  | 14 => ⟨S1x8x4096x4096, .f32⟩
  | 15 => ⟨S1x4096, .i32⟩
  | 16 => ⟨S4096x1, .i32⟩
  | 17 => ⟨S4096x4096, .i32⟩
  | 18 => ⟨S4096x4096, .i32⟩
  | 19 => ⟨S4096x4096, .i1⟩
  | 20 => ⟨S1x8x4096x4096, .f32⟩
  | 21 => ⟨S1x8x4096x4096, .f32⟩
  | 22 => ⟨S_, .f32⟩
  | 23 => ⟨S1x8x4096x4096, .f32⟩
  | 24 => ⟨S1x8x4096x4096, .f32⟩
  | 25 => ⟨S1x8x4096x4096, .f32⟩
  | 26 => ⟨S1x8x4096x4096, .f32⟩
  | 27 => ⟨S1x8x4096x4096, .i1⟩
  | 28 => ⟨S1x8x4096x4096, .f32⟩
  | 29 => ⟨S1x8x4096x4096, .f32⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S_, .f32⟩
  | 37 => ⟨S1x8x4096x4096, .f32⟩
  | 38 => ⟨S1x8x4096x4096, .i1⟩
  | 39 => ⟨S_, .f32⟩
  | 40 => ⟨S1x8x4096x4096, .f32⟩
  | 41 => ⟨S1x8x4096x4096, .f32⟩
  | 42 => ⟨S_, .f32⟩
  | 43 => ⟨S1x8x4096x4096, .f32⟩
  | 44 => ⟨S1x8x4096x4096, .i1⟩
  | 45 => ⟨S_, .f32⟩
  | 46 => ⟨S1x8x4096x4096, .f32⟩
  | 47 => ⟨S1x8x4096x4096, .f32⟩
  | 48 => ⟨S1x8x4096x4096, .f32⟩
  | 49 => ⟨S1x8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x8x4096x4096, .f32⟩
  | 58 => ⟨S1x8x4096x4096, .i1⟩
  | 59 => ⟨S_, .f32⟩
  | 60 => ⟨S1x8x4096x4096, .f32⟩
  | 61 => ⟨S1x8x4096x4096, .f32⟩
  | 62 => ⟨S1x8x4096x4096, .f32⟩
  | 63 => ⟨S1x8x4096x4096, .f32⟩
  | 64 => ⟨S1x8x4096x4096, .f32⟩
  | 65 => ⟨S_, .f32⟩
  | 66 => ⟨S1x8x4096x4096, .f32⟩
  | 67 => ⟨S1x8x4096x4096, .f32⟩
  | 68 => ⟨S1x8x4096x4096, .f32⟩
  | 69 => ⟨S_, .f32⟩
  | 70 => ⟨S_, .f32⟩
  | 71 => ⟨S1x8x4096x4096, .i1⟩
  | 72 => ⟨S1x8x4096x4096, .f32⟩
  | 73 => ⟨S1x8x4096x4096, .f32⟩
  | 74 => ⟨S_, .f32⟩
  | 75 => ⟨S1x8x4096x4096, .f32⟩
  | 76 => ⟨S_, .f32⟩
  | 77 => ⟨S_, .f32⟩
  | 78 => ⟨S1x8x4096x4096, .f32⟩
  | 79 => ⟨S1x8x4096x4096, .f32⟩
  | 80 => ⟨S1x8x4096x4096, .f32⟩
  | 81 => ⟨S_, .f32⟩
  | 82 => ⟨S1x8x4096x4096, .f32⟩
  | 83 => ⟨S1x8x4096x4096, .f32⟩
  | 84 => ⟨S1x8x4096x4096, .f32⟩
  | 85 => ⟨S1x8x4096x4096, .f32⟩
  | 86 => ⟨S1x8x4096x4096, .i1⟩
  | 87 => ⟨S1x8x4096x4096, .f32⟩
  | 88 => ⟨S1x8x4096x4096, .f32⟩
  | 89 => ⟨S1x8x4096x4096, .f32⟩
  | 90 => ⟨S1x8x4096x4096, .f32⟩
  | 91 => ⟨S1x8x4096x4096, .f32⟩
  | 92 => ⟨S1x8x4096x4096, .f32⟩
  | 93 => ⟨S1x8x4096x4096, .f32⟩
  | 94 => ⟨S1x8x4096x4096, .f32⟩
  | 95 => ⟨S_, .f32⟩
  | 96 => ⟨S1x8x4096x4096, .f32⟩
  | 97 => ⟨S1x8x4096x4096, .i1⟩
  | 98 => ⟨S_, .f32⟩
  | 99 => ⟨S1x8x4096x4096, .f32⟩
  | 100 => ⟨S1x8x4096x4096, .f32⟩
  | 101 => ⟨S_, .f32⟩
  | 102 => ⟨S1x8x4096x4096, .f32⟩
  | 103 => ⟨S1x8x4096x4096, .i1⟩
  | 104 => ⟨S_, .f32⟩
  | 105 => ⟨S1x8x4096x4096, .f32⟩
  | 106 => ⟨S1x8x4096x4096, .f32⟩
  | 107 => ⟨S1x8x4096x4096, .f32⟩
  | 108 => ⟨S1x8x4096x4096, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S1x8x4096x4096, .f32⟩
  | 117 => ⟨S1x8x4096x4096, .i1⟩
  | 118 => ⟨S_, .f32⟩
  | 119 => ⟨S1x8x4096x4096, .f32⟩
  | 120 => ⟨S1x8x4096x4096, .f32⟩
  | 121 => ⟨S1x8x4096x4096, .f32⟩
  | 122 => ⟨S1x8x4096x4096, .f32⟩
  | 123 => ⟨S1x8x4096x4096, .f32⟩
  | 124 => ⟨S_, .f32⟩
  | 125 => ⟨S1x8x4096x4096, .f32⟩
  | 126 => ⟨S1x8x4096x4096, .f32⟩
  | 127 => ⟨S1x8x4096x4096, .f32⟩
  | _ => ⟨S1x4096x512, .f32⟩

abbrev hbmTy0_1 (i : Nat) : BufTy := match i % 128 with
  | 0 => ⟨S1x8x4096x4096, .f32⟩
  | 1 => ⟨S1x8x4096x4096, .f32⟩
  | 2 => ⟨S_, .f32⟩
  | 3 => ⟨S_, .f32⟩
  | 4 => ⟨S1x8x4096x4096, .i1⟩
  | 5 => ⟨S1x8x4096x4096, .f32⟩
  | 6 => ⟨S1x8x4096x4096, .f32⟩
  | 7 => ⟨S_, .f32⟩
  | 8 => ⟨S1x8x4096x4096, .f32⟩
  | 9 => ⟨S1x8x4096x64, .f32⟩
  | 10 => ⟨S1x4096x8x64, .f32⟩
  | 11 => ⟨S1x4096x512, .f32⟩
  | 12 => ⟨S1x4096x8x64, .f32⟩
  | 13 => ⟨S1x8x4096x64, .f32⟩
  | 14 => ⟨S1x8x64x4096, .f32⟩
  | 15 => ⟨S1x8x4096x64, .f32⟩
  | 16 => ⟨S1x8x4096x4096, .f32⟩
  | 17 => ⟨S_, .f32⟩
  | 18 => ⟨S1x8x4096x4096, .f32⟩
  | 19 => ⟨S1x8x4096x4096, .f32⟩
  | 20 => ⟨S1x8x4096x4096, .f32⟩
  | 21 => ⟨S1x8x4096x4096, .f32⟩
  | 22 => ⟨S1x8x4096x4096, .f32⟩
  | 23 => ⟨S1x8x4096x4096, .f32⟩
  | 24 => ⟨S1x8x4096x4096, .f32⟩
  | 25 => ⟨S_, .f32⟩
  | 26 => ⟨S_, .f32⟩
  | 27 => ⟨S1x8x4096x4096, .f32⟩
  | 28 => ⟨S1x8x4096x4096, .f32⟩
  | 29 => ⟨S_, .f32⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S_, .f32⟩
  | 38 => ⟨S1x8x4096x4096, .f32⟩
  | 39 => ⟨S1x8x4096x4096, .f32⟩
  | 40 => ⟨S1x8x4096x64, .f32⟩
  | 41 => ⟨S1x8x4096x64, .f32⟩
  | 42 => ⟨S1x4096x8x64, .f32⟩
  | 43 => ⟨S1x4096x512, .f32⟩
  | 44 => ⟨S1x4096x8x64, .f32⟩
  | 45 => ⟨S1x4096x512, .f32⟩
  | 46 => ⟨S1x4096x8x64, .f32⟩
  | 47 => ⟨S1x4096x512, .f32⟩
  | 48 => ⟨S4096x512, .f32⟩
  | 49 => ⟨S4096x512, .f32⟩
  | 50 => ⟨S4096x512, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_v17_1 : Ref sig .tc := ⟨.hbm, 71, rfl⟩
abbrev main_call1_v2 : Ref sig .tc := ⟨.hbm, 72, rfl⟩
abbrev main_v17_0 : Ref sig .tc := ⟨.hbm, 73, rfl⟩
abbrev main_call1_cst : Ref sig .tc := ⟨.hbm, 74, rfl⟩
abbrev main_v17_2 : Ref sig .tc := ⟨.hbm, 75, rfl⟩
abbrev main_call2_cst : Ref sig .tc := ⟨.hbm, 76, rfl⟩
abbrev main_call2_v0 : Ref sig .tc := ⟨.hbm, 77, rfl⟩
abbrev main_v18 : Ref sig .tc := ⟨.hbm, 78, rfl⟩
abbrev main_v19 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v20_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v20_2 : Ref sig .tc := ⟨.hbm, 126, rfl⟩
abbrev main_v20_0 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_call4_v0 : Ref sig .tc := ⟨.hbm, 131, rfl⟩
abbrev main_v23_1 : Ref sig .tc := ⟨.hbm, 132, rfl⟩
abbrev main_call4_v2 : Ref sig .tc := ⟨.hbm, 133, rfl⟩
abbrev main_v23_0 : Ref sig .tc := ⟨.hbm, 134, rfl⟩
abbrev main_call4_cst : Ref sig .tc := ⟨.hbm, 135, rfl⟩
abbrev main_v23_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_call5_cst : Ref sig .tc := ⟨.hbm, 145, rfl⟩
abbrev main_call5_v0 : Ref sig .tc := ⟨.hbm, 146, rfl⟩
abbrev main_v32 : Ref sig .tc := ⟨.hbm, 147, rfl⟩
abbrev main_v33 : Ref sig .tc := ⟨.hbm, 148, rfl⟩
abbrev main_call6_v0 : Ref sig .tc := ⟨.hbm, 149, rfl⟩
abbrev main_call6_v1 : Ref sig .tc := ⟨.hbm, 150, rfl⟩
abbrev main_v34 : Ref sig .tc := ⟨.hbm, 151, rfl⟩
abbrev main_v35 : Ref sig .tc := ⟨.hbm, 152, rfl⟩
abbrev main_call7_cst : Ref sig .tc := ⟨.hbm, 153, rfl⟩
abbrev main_call7_v0 : Ref sig .tc := ⟨.hbm, 154, rfl⟩
abbrev main_v36 : Ref sig .tc := ⟨.hbm, 155, rfl⟩
abbrev main_v37 : Ref sig .tc := ⟨.hbm, 156, rfl⟩
abbrev main_call8_cst : Ref sig .tc := ⟨.hbm, 157, rfl⟩
abbrev main_call8_v0 : Ref sig .tc := ⟨.hbm, 158, rfl⟩
abbrev main_v38 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_cst_2 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩

abbrev nD : Nat := 1
abbrev τ : Topo := Topo.v7x

variable {F : FTy → Type} [FloatOps F]
-- ==== Kernel.lean ====
abbrev S1x4096x512 : Shape := ⟨3, ![1, 4096, 512]⟩
abbrev S1x4x128x128 : Shape := ⟨4, ![1, 4, 128, 128]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x128 : Shape := ⟨2, ![4096, 128]⟩
abbrev S2x128 : Shape := ⟨2, ![2, 128]⟩
abbrev S4094x128 : Shape := ⟨2, ![4094, 128]⟩
abbrev S4096x1 : Shape := ⟨2, ![4096, 1]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4096x1x128 : Shape := ⟨3, ![4096, 1, 128]⟩
abbrev S4096x4x128 : Shape := ⟨3, ![4096, 4, 128]⟩
abbrev S4x128x128 : Shape := ⟨3, ![4, 128, 128]⟩
abbrev S1024x512 : Shape := ⟨2, ![1024, 512]⟩
abbrev S16x512 : Shape := ⟨2, ![16, 512]⟩
abbrev S1040x1 : Shape := ⟨2, ![1040, 1]⟩
abbrev S1x128x128 : Shape := ⟨3, ![1, 128, 128]⟩
abbrev S128x128 : Shape := ⟨2, ![128, 128]⟩
abbrev S1024x128 : Shape := ⟨2, ![1024, 128]⟩
abbrev S1040x128 : Shape := ⟨2, ![1040, 128]⟩
abbrev S1x128 : Shape := ⟨2, ![1, 128]⟩
abbrev S128 : Shape := ⟨1, ![128]⟩

abbrev nBuf : Space → Nat
  | .hbm => 97
  | .vmem => 12
  | .smem => 0
  | _ => 0

abbrev bufTy : (tb : Table) → Fin (tcTables nBuf tb) → BufTy
  | .hbm, ⟨0, _⟩ => ⟨S1x4096x512, .f32⟩
  | .hbm, ⟨1, _⟩ => ⟨S1x4x128x128, .f32⟩
  | .hbm, ⟨2, _⟩ => ⟨S1x512, .f32⟩
  | .hbm, ⟨3, _⟩ => ⟨S1x4096x512, .f32⟩
  | .hbm, ⟨4, _⟩ => ⟨S4096x512, .f32⟩
  | .hbm, ⟨5, _⟩ => ⟨S_, .f32⟩
  | .hbm, ⟨6, _⟩ => ⟨S_, .f32⟩
  | .hbm, ⟨7, _⟩ => ⟨S4096x512, .f32⟩
  | .hbm, ⟨8, _⟩ => ⟨S4096, .i32⟩
  | .hbm, ⟨9, _⟩ => ⟨S4096x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S4094x128, .f32⟩
  | .hbm, ⟨14, _⟩ => ⟨S4096x128, .f32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4092x128, .f32⟩
  | .hbm, ⟨33, _⟩ => ⟨S4096x128, .f32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .f32⟩
  | .hbm, ⟨41, _⟩ => ⟨S4096x1, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S8x128, .f32⟩
  | .hbm, ⟨49, _⟩ => ⟨S_, .f32⟩
  | .hbm, ⟨50, _⟩ => ⟨S8x128, .f32⟩
  | .hbm, ⟨51, _⟩ => ⟨S4088x128, .f32⟩
  | .hbm, ⟨52, _⟩ => ⟨S4096x128, .f32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S4096x1, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S16x128, .f32⟩
  | .hbm, ⟨68, _⟩ => ⟨S_, .f32⟩
  | .hbm, ⟨69, _⟩ => ⟨S16x128, .f32⟩
  | .hbm, ⟨70, _⟩ => ⟨S4080x128, .f32⟩
  | .hbm, ⟨71, _⟩ => ⟨S4096x128, .f32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .f32⟩
  | .hbm, ⟨79, _⟩ => ⟨S4096x1, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S4096x128, .f32⟩
  | .hbm, ⟨84, _⟩ => ⟨S4096x128, .f32⟩
  | .hbm, ⟨85, _⟩ => ⟨S4096x1x128, .f32⟩
  | .hbm, ⟨86, _⟩ => ⟨S4096x1x128, .f32⟩
  | .hbm, ⟨87, _⟩ => ⟨S4096x1x128, .f32⟩
  | .hbm, ⟨88, _⟩ => ⟨S4096x1x128, .f32⟩
  | .hbm, ⟨89, _⟩ => ⟨S4096x4x128, .f32⟩
  | .hbm, ⟨90, _⟩ => ⟨S4096x512, .f32⟩
  | .hbm, ⟨91, _⟩ => ⟨S4096x512, .bf16⟩
  | .hbm, ⟨92, _⟩ => ⟨S4096x512, .f32⟩
  | .hbm, ⟨93, _⟩ => ⟨S4x128x128, .f32⟩
  | .hbm, ⟨94, _⟩ => ⟨S4096x512, .f32⟩
  | .hbm, ⟨95, _⟩ => ⟨S4x128x128, .f32⟩
  | .hbm, ⟨96, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S16x512, .f32⟩
  | .local _ .vmem, ⟨3, _⟩ => ⟨S16x512, .f32⟩
  | .local _ .vmem, ⟨4, _⟩ => ⟨S1024x512, .bf16⟩
  | .local _ .vmem, ⟨5, _⟩ => ⟨S1024x512, .bf16⟩
  | .local _ .vmem, ⟨6, _⟩ => ⟨S4x128x128, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S4x128x128, .f32⟩
  | .local _ .vmem, ⟨11, _⟩ => ⟨S1x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_8 : Ref sig .tc := ⟨.hbm, 72, rfl⟩
abbrev main_v56 : Ref sig .tc := ⟨.hbm, 73, rfl⟩
abbrev main_v57 : Ref sig .tc := ⟨.hbm, 74, rfl⟩
abbrev main_c_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76_0 : Ref sig .tc := ⟨.hbm, 94, rfl⟩
abbrev main_v76_1 : Ref sig .tc := ⟨.hbm, 95, rfl⟩
abbrev main_v76_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x4096x512 : Shape := ⟨3, ![1, 4096, 512]⟩
abbrev S1x4x128x128 : Shape := ⟨4, ![1, 4, 128, 128]⟩
abbrev S1x512 : Shape := ⟨2, ![1, 512]⟩
abbrev S4096x512 : Shape := ⟨2, ![4096, 512]⟩
abbrev S4x128x128 : Shape := ⟨3, ![4, 128, 128]⟩
abbrev S512 : Shape := ⟨1, ![512]⟩
abbrev S_ : Shape := ⟨0, ![]⟩
abbrev S4096 : Shape := ⟨1, ![4096]⟩
abbrev S4096x128 : Shape := ⟨2, ![4096, 128]⟩
abbrev S2x128 : Shape := ⟨2, ![2, 128]⟩
abbrev S4094x128 : Shape := ⟨2, ![4094, 128]⟩
abbrev S4096x1 : Shape := ⟨2, ![4096, 1]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4096x1x128 : Shape := ⟨3, ![4096, 1, 128]⟩
abbrev S4096x4x128 : Shape := ⟨3, ![4096, 4, 128]⟩
abbrev S4x128x4096 : Shape := ⟨3, ![4, 128, 4096]⟩
abbrev S4x4096x128 : Shape := ⟨3, ![4, 4096, 128]⟩

abbrev nBuf : Space → Nat
  | .hbm => 192
  | .vmem => 0
  | .smem => 0
  | _ => 0

abbrev hbmTy0_0 (i : Nat) : BufTy := match i % 128 with
  | 0 => ⟨S1x4096x512, .f32⟩
  | 1 => ⟨S1x4x128x128, .f32⟩
  | 2 => ⟨S1x512, .f32⟩
  | 3 => ⟨S1x4096x512, .f32⟩
  | 4 => ⟨S4096x512, .f32⟩
  | 5 => ⟨S4x128x128, .f32⟩
  | 6 => ⟨S512, .f32⟩
  | 7 => ⟨S_, .f32⟩
  | 8 => ⟨S_, .f32⟩
  | 9 => ⟨S4096x512, .f32⟩
  | 10 => ⟨S4096, .i32⟩
  | 11 => ⟨S4096x128, .f32⟩
  | 12 => ⟨S2x128, .f32⟩
  | 13 => ⟨S_, .f32⟩
  | 14 => ⟨S2x128, .f32⟩
  | 15 => ⟨S4094x128, .f32⟩
  | 16 => ⟨S4096x128, .f32⟩
  | 17 => ⟨S_, .f32⟩
  | 18 => ⟨S2x128, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S4096x1, .f32⟩
  | 27 => ⟨S4096x128, .f32⟩
  | 28 => ⟨S4096x128, .f32⟩
  | 29 => ⟨S4096x128, .f32⟩
  | 30 => ⟨S4096x128, .f32⟩
  | 31 => ⟨S4096x128, .f32⟩
  | 32 => ⟨S4096x128, .f32⟩
  | 33 => ⟨S4x128, .f32⟩
  | 34 => ⟨S_, .f32⟩
  | 35 => ⟨S4x128, .f32⟩
  | 36 => ⟨S4092x128, .f32⟩
  | 37 => ⟨S4096x128, .f32⟩
  | 38 => ⟨S_, .f32⟩
  | 39 => ⟨S4x128, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S4096x1, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S8x128, .f32⟩
  | 55 => ⟨S_, .f32⟩
  | 56 => ⟨S8x128, .f32⟩
  | 57 => ⟨S4088x128, .f32⟩
  | 58 => ⟨S4096x128, .f32⟩
  | 59 => ⟨S_, .f32⟩
  | 60 => ⟨S8x128, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S4096x1, .f32⟩
  | 69 => ⟨S4096x128, .f32⟩
  | 70 => ⟨S4096x128, .f32⟩
  | 71 => ⟨S4096x128, .f32⟩
  | 72 => ⟨S4096x128, .f32⟩
  | 73 => ⟨S4096x128, .f32⟩
  | 74 => ⟨S4096x128, .f32⟩
  | 75 => ⟨S16x128, .f32⟩
  | 76 => ⟨S_, .f32⟩
  | 77 => ⟨S16x128, .f32⟩
  | 78 => ⟨S4080x128, .f32⟩
  | 79 => ⟨S4096x128, .f32⟩
  | 80 => ⟨S_, .f32⟩
  | 81 => ⟨S16x128, .f32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S4096x1, .f32⟩
  | 90 => ⟨S4096x128, .f32⟩
  | 91 => ⟨S4096x128, .f32⟩
  | 92 => ⟨S4096x128, .f32⟩
  | 93 => ⟨S4096x128, .f32⟩
  | 94 => ⟨S4096x128, .f32⟩
  | 95 => ⟨S4096x1x128, .f32⟩
  | 96 => ⟨S4096x1x128, .f32⟩
  | 97 => ⟨S4096x1x128, .f32⟩
  | 98 => ⟨S4096x1x128, .f32⟩
  | 99 => ⟨S4096x4x128, .f32⟩
  | 100 => ⟨S4x128x4096, .f32⟩
  | 101 => ⟨S4096x4x128, .f32⟩
  | 102 => ⟨S4096x512, .f32⟩
  | 103 => ⟨S1x512, .f32⟩
  | 104 => ⟨S4096x512, .f32⟩
  | 105 => ⟨S4096x512, .f32⟩
  | 106 => ⟨S4096x512, .f32⟩
  | 107 => ⟨S4096x512, .f32⟩
  | 108 => ⟨S_, .f32⟩
  | 109 => ⟨S512, .f32⟩
  | 110 => ⟨S1x512, .f32⟩
  | 111 => ⟨S4096x512, .f32⟩
  | 112 => ⟨S4096x512, .f32⟩
  | 113 => ⟨S_, .f32⟩
  | 114 => ⟨S512, .f32⟩
  | 115 => ⟨S4096x4x128, .f32⟩
  | 116 => ⟨S4x128x4096, .f32⟩
  | 117 => ⟨S4x4096x128, .f32⟩
  | 118 => ⟨S4096x4x128, .f32⟩
  | 119 => ⟨S4x128x128, .f32⟩
  | 120 => ⟨S4x128x128, .f32⟩
  | 121 => ⟨S4096x1x128, .f32⟩
  | 122 => ⟨S4096x128, .f32⟩
  | 123 => ⟨S4096x1x128, .f32⟩
  | 124 => ⟨S4096x128, .f32⟩
  | 125 => ⟨S4096x1x128, .f32⟩
  | 126 => ⟨S4096x128, .f32⟩
  | 127 => ⟨S4096x1x128, .f32⟩
  | _ => ⟨S1x4096x512, .f32⟩

abbrev hbmTy0_1 (i : Nat) : BufTy := match i % 128 with
  | 0 => ⟨S4096x128, .f32⟩
  | 1 => ⟨S4096x128, .f32⟩
  | 2 => ⟨S_, .f32⟩
  | 3 => ⟨S4096x512, .f32⟩
  | 4 => ⟨S4096x128, .f32⟩
  | 5 => ⟨S4096x128, .f32⟩
  | 6 => ⟨S4096x128, .f32⟩
  | 7 => ⟨S16x128, .f32⟩
  | 8 => ⟨S4080x128, .f32⟩
  | 9 => ⟨S_, .f32⟩
  | 10 => ⟨S4096x128, .f32⟩
  | 11 => ⟨S4096x128, .f32⟩
  | 12 => ⟨S_, .f32⟩
  | 13 => ⟨S4096x512, .f32⟩
  | 14 => ⟨S4096x128, .f32⟩
  | 15 => ⟨S_, .f32⟩
  | 16 => ⟨S4096x512, .f32⟩
  | 17 => ⟨S4096x512, .f32⟩
  | 18 => ⟨S4096x128, .f32⟩
  | 19 => ⟨S4096x128, .f32⟩
  | 20 => ⟨S4096x128, .f32⟩
  | 21 => ⟨S8x128, .f32⟩
  | 22 => ⟨S4088x128, .f32⟩
  | 23 => ⟨S_, .f32⟩
  | 24 => ⟨S4096x128, .f32⟩
  | 25 => ⟨S4096x128, .f32⟩
  | 26 => ⟨S_, .f32⟩
  | 27 => ⟨S4096x512, .f32⟩
  | 28 => ⟨S4096x512, .f32⟩
  | 29 => ⟨S4096x128, .f32⟩
  | 30 => ⟨S_, .f32⟩
  | 31 => ⟨S4096x512, .f32⟩
  | 32 => ⟨S4096x512, .f32⟩
  | 33 => ⟨S4096x128, .f32⟩
  | 34 => ⟨S4096x128, .f32⟩
  | 35 => ⟨S4096x128, .f32⟩
  | 36 => ⟨S4x128, .f32⟩
  | 37 => ⟨S4092x128, .f32⟩
  | 38 => ⟨S_, .f32⟩
  | 39 => ⟨S4096x128, .f32⟩
  | 40 => ⟨S4096x128, .f32⟩
  | 41 => ⟨S_, .f32⟩
  | 42 => ⟨S4096x512, .f32⟩
  | 43 => ⟨S4096x512, .f32⟩
  | 44 => ⟨S4096x128, .f32⟩
  | 45 => ⟨S_, .f32⟩
  | 46 => ⟨S4096x512, .f32⟩
  | 47 => ⟨S4096x512, .f32⟩
  | 48 => ⟨S4096x128, .f32⟩
  | 49 => ⟨S4096x128, .f32⟩
  | 50 => ⟨S4096x128, .f32⟩
  | 51 => ⟨S2x128, .f32⟩
  | 52 => ⟨S4094x128, .f32⟩
  | 53 => ⟨S_, .f32⟩
  | 54 => ⟨S4096x128, .f32⟩
  | 55 => ⟨S4096x128, .f32⟩
  | 56 => ⟨S_, .f32⟩
  | 57 => ⟨S4096x512, .f32⟩
  | 58 => ⟨S4096x512, .f32⟩
  | 59 => ⟨S_, .f32⟩
  | 60 => ⟨S_, .f32⟩
  | 61 => ⟨S4096x512, .f32⟩
  | 62 => ⟨S4096x512, .f32⟩
  | 63 => ⟨S1x512, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_c_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_16 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_17 : Ref sig .tc := ⟨.hbm, 137, rfl⟩
abbrev main_v112 : Ref sig .tc := ⟨.hbm, 138, rfl⟩
abbrev main_v113 : Ref sig .tc := ⟨.hbm, 139, rfl⟩
abbrev main_cst_18 : Ref sig .tc := ⟨.hbm, 140, rfl⟩
abbrev main_v114 : Ref sig .tc := ⟨.hbm, 141, rfl⟩
abbrev main_v115 : Ref sig .tc := ⟨.hbm, 142, rfl⟩
abbrev main_cst_19 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_cst_20 : Ref sig .tc := ⟨.hbm, 151, rfl⟩
abbrev main_v123 : Ref sig .tc := ⟨.hbm, 152, rfl⟩
abbrev main_v124 : Ref sig .tc := ⟨.hbm, 153, rfl⟩
abbrev main_cst_21 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_22 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_23 : Ref sig .tc := ⟨.hbm, 166, rfl⟩
abbrev main_v135 : Ref sig .tc := ⟨.hbm, 167, rfl⟩
abbrev main_v136 : Ref sig .tc := ⟨.hbm, 168, rfl⟩
abbrev main_cst_24 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_25 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_26 : Ref sig .tc := ⟨.hbm, 181, rfl⟩
abbrev main_v147 : Ref sig .tc := ⟨.hbm, 182, rfl⟩
abbrev main_v148 : Ref sig .tc := ⟨.hbm, 183, rfl⟩
abbrev main_cst_27 : Ref sig .tc := ⟨.hbm, 184, rfl⟩
abbrev main_v149 : Ref sig .tc := ⟨.hbm, 185, rfl⟩
abbrev main_v150 : Ref sig .tc := ⟨.hbm, 186, rfl⟩
abbrev main_call1_call0_cst : Ref sig .tc := ⟨.hbm, 187, rfl⟩
abbrev main_call1_call0_v0 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩

abbrev nD : Nat := 1
abbrev τ : Topo := Topo.v7x

variable {F : FTy → Type} [FloatOps F]
-- ==== Kernel4.lean ====
abbrev S1x4096x1024 : Shape := ⟨3, ![1, 4096, 1024]⟩
abbrev S1024 : Shape := ⟨1, ![1024]⟩
abbrev S1x1024x2048 : Shape := ⟨3, ![1, 1024, 2048]⟩
abbrev S1x4096x512 : Shape := ⟨3, ![1, 4096, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S1024x4x512 : Shape := ⟨3, ![1024, 4, 512]⟩
abbrev S4x1024x512 : Shape := ⟨3, ![4, 1024, 512]⟩
abbrev S4096x512 : Shape := ⟨2, ![4096, 512]⟩
abbrev S1x1024 : Shape := ⟨2, ![1, 1024]⟩
abbrev S512x512 : Shape := ⟨2, ![512, 512]⟩
abbrev S512x1024 : Shape := ⟨2, ![512, 1024]⟩
abbrev S512x1 : Shape := ⟨2, ![512, 1]⟩
abbrev S1x1024x512 : Shape := ⟨3, ![1, 1024, 512]⟩
abbrev S1024x512 : Shape := ⟨2, ![1024, 512]⟩
abbrev S512 : Shape := ⟨1, ![512]⟩

abbrev nBuf : Space → Nat
  | .hbm => 48
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024, .f32⟩
  | .hbm, ⟨3, _⟩ => ⟨S1x1024x2048, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x2048, .f32⟩
  | .hbm, ⟨34, _⟩ => ⟨S1024x2048, .bf16⟩
  | .hbm, ⟨35, _⟩ => ⟨S1024x4x512, .bf16⟩
  | .hbm, ⟨36, _⟩ => ⟨S4x1024x512, .bf16⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x1024, .f32⟩
  | .hbm, ⟨42, _⟩ => ⟨S1x1024, .f32⟩
  | .hbm, ⟨43, _⟩ => ⟨S1x1024, .f32⟩
  | .hbm, ⟨44, _⟩ => ⟨S4096x1024, .f32⟩
  | .hbm, ⟨45, _⟩ => ⟨S4x1024x512, .f32⟩
  | .hbm, ⟨46, _⟩ => ⟨S1x1024, .f32⟩
  | .hbm, ⟨47, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1x1024, .f32⟩
  | .local _ .vmem, ⟨15, _⟩ => ⟨S1x1024, .f32⟩
  | .local _ .vmem, ⟨16, _⟩ => ⟨S4x1024x512, .bf16⟩
  | .local _ .vmem, ⟨17, _⟩ => ⟨S512x1024, .f32⟩
  | .local _ .vmem, ⟨18, _⟩ => ⟨S512x1024, .f32⟩
  | .local _ .vmem, ⟨19, _⟩ => ⟨S4x1024x512, .f32⟩
  | .local _ .vmem, ⟨20, _⟩ => ⟨S1x1024, .f32⟩
  | .local _ .vmem, ⟨21, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S1x4096x1024 : Shape := ⟨3, ![1, 4096, 1024]⟩
abbrev S1024 : Shape := ⟨1, ![1024]⟩
abbrev S1x1024x2048 : Shape := ⟨3, ![1, 1024, 2048]⟩
abbrev S1x4096x512 : Shape := ⟨3, ![1, 4096, 512]⟩
abbrev S4096x1024 : Shape := ⟨2, ![4096, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 116
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024, .f32⟩
  | .hbm, ⟨3, _⟩ => ⟨S1x1024x2048, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x1024, .f32⟩
  | .hbm, ⟨9, _⟩ => ⟨S4096x1024, .f32⟩
  | .hbm, ⟨10, _⟩ => ⟨S1024x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x2048, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x2048, .f32⟩
  | .hbm, ⟨64, _⟩ => ⟨S2048x1024, .f32⟩
  | .hbm, ⟨65, _⟩ => ⟨S1024x2048, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S1024x4x512, .f32⟩
  | .hbm, ⟨113, _⟩ => ⟨S4x1024x512, .f32⟩
  | .hbm, ⟨114, _⟩ => ⟨S1x1024, .f32⟩
  | .hbm, ⟨115, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Kernel5.lean ====
abbrev S1x4096x512 : Shape := ⟨3, ![1, 4096, 512]⟩
abbrev S1x4096x1024 : Shape := ⟨3, ![1, 4096, 1024]⟩
abbrev S1x512 : Shape := ⟨2, ![1, 512]⟩
abbrev S1x1024x1024 : Shape := ⟨3, ![1, 1024, 1024]⟩
abbrev S1x1024 : Shape := ⟨2, ![1, 1024]⟩
abbrev S4096x1024 : Shape := ⟨2, ![4096, 1024]⟩
abbrev S_ : Shape := ⟨0, ![]⟩
abbrev S4096x512 : Shape := ⟨2, ![4096, 512]⟩
abbrev S512 : Shape := ⟨1, ![512]⟩
abbrev S1024x1024 : Shape := ⟨2, ![1024, 1024]⟩
abbrev S4096x8x64 : Shape := ⟨3, ![4096, 8, 64]⟩
abbrev S4096x8 : Shape := ⟨2, ![4096, 8]⟩
abbrev S4096x8x1 : Shape := ⟨3, ![4096, 8, 1]⟩
abbrev S4096 : Shape := ⟨1, ![4096]⟩
abbrev S4096x1 : Shape := ⟨2, ![4096, 1]⟩
abbrev S512x1024 : Shape := ⟨2, ![512, 1024]⟩
abbrev S512x1 : Shape := ⟨2, ![512, 1]⟩
abbrev S512x512 : Shape := ⟨2, ![512, 512]⟩
abbrev S1024 : Shape := ⟨1, ![1024]⟩
abbrev S1x128 : Shape := ⟨2, ![1, 128]⟩
abbrev S512x128 : Shape := ⟨2, ![512, 128]⟩
abbrev S128 : Shape := ⟨1, ![128]⟩

abbrev nBuf : Space → Nat
  | .hbm => 96
  | .vmem => 27
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x4096x1024, .f32⟩
  | .hbm, ⟨8, _⟩ => ⟨S1x4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x512, .f32⟩
  | .hbm, ⟨14, _⟩ => ⟨S4096x512, .f32⟩
  | .hbm, ⟨15, _⟩ => ⟨S512, .f32⟩
  | .hbm, ⟨16, _⟩ => ⟨S1024x1024, .f32⟩
  | .hbm, ⟨17, _⟩ => ⟨S4096x8x64, .f32⟩
  | .hbm, ⟨18, _⟩ => ⟨S4096x8x64, .f32⟩
  | .hbm, ⟨19, _⟩ => ⟨S_, .f32⟩
  | .hbm, ⟨20, _⟩ => ⟨S4096x8, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S_, .f32⟩
  | .hbm, ⟨26, _⟩ => ⟨S4096x8x1, .f32⟩
  | .hbm, ⟨27, _⟩ => ⟨S4096x8x1, .f32⟩
  | .hbm, ⟨28, _⟩ => ⟨S4096x8x1, .f32⟩
  | .hbm, ⟨29, _⟩ => ⟨S4096x8x64, .f32⟩
  | .hbm, ⟨30, _⟩ => ⟨S4096x8x64, .f32⟩
  | .hbm, ⟨31, _⟩ => ⟨S4096x512, .f32⟩
  | .hbm, ⟨32, _⟩ => ⟨S1x512, .f32⟩
  | .hbm, ⟨33, _⟩ => ⟨S4096x512, .f32⟩
  | .hbm, ⟨34, _⟩ => ⟨S4096x512, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x512, .f32⟩
  | .hbm, ⟨62, _⟩ => ⟨S512, .f32⟩
  | .hbm, ⟨63, _⟩ => ⟨S4096x8x64, .f32⟩
  | .hbm, ⟨64, _⟩ => ⟨S4096x8x64, .f32⟩
  | .hbm, ⟨65, _⟩ => ⟨S_, .f32⟩
  | .hbm, ⟨66, _⟩ => ⟨S4096x8, .f32⟩
  | .hbm, ⟨67, _⟩ => ⟨S4096x8x1, .f32⟩
  | .hbm, ⟨68, _⟩ => ⟨S_, .f32⟩
  | .hbm, ⟨69, _⟩ => ⟨S4096x8x1, .f32⟩
  | .hbm, ⟨70, _⟩ => ⟨S4096x8x1, .f32⟩
  | .hbm, ⟨71, _⟩ => ⟨S_, .f32⟩
  | .hbm, ⟨72, _⟩ => ⟨S4096x8x1, .f32⟩
  | .hbm, ⟨73, _⟩ => ⟨S4096x8x1, .f32⟩
  | .hbm, ⟨74, _⟩ => ⟨S4096x8x1, .f32⟩
  | .hbm, ⟨75, _⟩ => ⟨S4096x8x64, .f32⟩
  | .hbm, ⟨76, _⟩ => ⟨S4096x8x64, .f32⟩
  | .hbm, ⟨77, _⟩ => ⟨S4096x512, .f32⟩
  | .hbm, ⟨78, _⟩ => ⟨S1x512, .f32⟩
  | .hbm, ⟨79, _⟩ => ⟨S4096x512, .f32⟩
  | .hbm, ⟨80, _⟩ => ⟨S4096x512, .f32⟩
  | .hbm, ⟨81, _⟩ => ⟨S4096x512, .bf16⟩
  | .hbm, ⟨82, _⟩ => ⟨S4096x1024, .f32⟩
  | .hbm, ⟨83, _⟩ => ⟨S4096x1024, .f32⟩
  | .hbm, ⟨84, _⟩ => ⟨S1024x1024, .f32⟩
  | .hbm, ⟨85, _⟩ => ⟨S1024x1024, .bf16⟩
  | .hbm, ⟨86, _⟩ => ⟨S4096x512, .f32⟩
  | .hbm, ⟨87, _⟩ => ⟨S4096x512, .bf16⟩
  | .hbm, ⟨88, _⟩ => ⟨S4096x512, .f32⟩
  | .hbm, ⟨89, _⟩ => ⟨S4096x1024, .f32⟩
  | .hbm, ⟨90, _⟩ => ⟨S4096x512, .f32⟩
  | .hbm, ⟨91, _⟩ => ⟨S4096x512, .f32⟩
  | .hbm, ⟨92, _⟩ => ⟨S1024x1024, .f32⟩
  | .hbm, ⟨93, _⟩ => ⟨S1x1024, .f32⟩
  | .hbm, ⟨94, _⟩ => ⟨S1x1024, .f32⟩
  | .hbm, ⟨95, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S1024x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S1024x1024, .f32⟩
  | .local _ .vmem, ⟨24, _⟩ => ⟨S1x1024, .f32⟩
  | .local _ .vmem, ⟨25, _⟩ => ⟨S1x1024, .f32⟩
  | .local _ .vmem, ⟨26, _⟩ => ⟨S1x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68_0 : Ref sig .tc := ⟨.hbm, 89, rfl⟩
abbrev main_v68_1 : Ref sig .tc := ⟨.hbm, 90, rfl⟩
abbrev main_v68_2 : Ref sig .tc := ⟨.hbm, 91, rfl⟩
abbrev main_v68_3 : Ref sig .tc := ⟨.hbm, 92, rfl⟩
abbrev main_v68_4 : Ref sig .tc := ⟨.hbm, 93, rfl⟩
abbrev main_v68_5 : Ref sig .tc := ⟨.hbm, 94, rfl⟩
abbrev main_v68_6 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference5Ideal.lean ====
abbrev S1x4096x512 : Shape := ⟨3, ![1, 4096, 512]⟩
abbrev S1x4096x1024 : Shape := ⟨3, ![1, 4096, 1024]⟩
abbrev S1x512 : Shape := ⟨2, ![1, 512]⟩
abbrev S1x1024x1024 : Shape := ⟨3, ![1, 1024, 1024]⟩
abbrev S1x1024 : Shape := ⟨2, ![1, 1024]⟩
abbrev S4096x512 : Shape := ⟨2, ![4096, 512]⟩
abbrev S512 : Shape := ⟨1, ![512]⟩
abbrev S1024x1024 : Shape := ⟨2, ![1024, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S4096x1024 : Shape := ⟨2, ![4096, 1024]⟩
abbrev S1024 : Shape := ⟨1, ![1024]⟩
abbrev S4096 : Shape := ⟨1, ![4096]⟩
abbrev S4096x1 : Shape := ⟨2, ![4096, 1]⟩

abbrev nBuf : Space → Nat
  | .hbm => 165
  | .vmem => 0
  | .smem => 0
  | _ => 0

abbrev hbmTy0_0 (i : Nat) : BufTy := match i % 128 with
  | 0 => ⟨S1x4096x512, .f32⟩
  | 1 => ⟨S1x4096x512, .f32⟩
  | 2 => ⟨S1x4096x1024, .f32⟩
  | 3 => ⟨S1x512, .f32⟩
  | 4 => ⟨S1x1024x1024, .f32⟩
  | 5 => ⟨S1x1024, .f32⟩
  | 6 => ⟨S1x1024, .f32⟩
  | 7 => ⟨S1x4096x1024, .f32⟩
  | 8 => ⟨S1x4096x1024, .f32⟩
  | 9 => ⟨S4096x512, .f32⟩
  | 10 => ⟨S4096x512, .f32⟩
  | 11 => ⟨S512, .f32⟩
  | 12 => ⟨S1024x1024, .f32⟩
  | 13 => ⟨S4096x8x64, .f32⟩
  | 14 => ⟨S4096x8x64, .f32⟩
  | 15 => ⟨S_, .f32⟩
  | 16 => ⟨S4096x8, .f32⟩
  | 17 => ⟨S4096x8x1, .f32⟩
  | 18 => ⟨S_, .f32⟩
  | 19 => ⟨S4096x8x1, .f32⟩
  | 20 => ⟨S4096x8x1, .f32⟩
  | 21 => ⟨S_, .f32⟩
  | 22 => ⟨S4096x8x1, .f32⟩
  | 23 => ⟨S4096x8x1, .f32⟩
  | 24 => ⟨S4096x8x1, .f32⟩
  | 25 => ⟨S4096x8x1, .f32⟩
  | 26 => ⟨S_, .f32⟩
  | 27 => ⟨S4096x8x1, .f32⟩
  | 28 => ⟨S4096x8x1, .f32⟩
  | 29 => ⟨S4096x8x64, .f32⟩
  | 30 => ⟨S4096x8x64, .f32⟩
  | 31 => ⟨S4096x512, .f32⟩
  | 32 => ⟨S1x512, .f32⟩
  | 33 => ⟨S4096x512, .f32⟩
  | 34 => ⟨S4096x512, .f32⟩
  | 35 => ⟨S4096x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S1024, .f32⟩
  | 43 => ⟨S1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S4096x1024, .f32⟩
  | 92 => ⟨S_, .f32⟩
  | 93 => ⟨S1024, .f32⟩
  | 94 => ⟨S1x1024, .f32⟩
  | 95 => ⟨S4096x1024, .f32⟩
  | 96 => ⟨S4096x1024, .f32⟩
  | 97 => ⟨S_, .f32⟩
  | 98 => ⟨S1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1024, .f32⟩
  | 105 => ⟨S4096x1, .f32⟩
  | 106 => ⟨S4096x1024, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S1x4096x512, .f32⟩

abbrev hbmTy0_1 (i : Nat) : BufTy := match i % 128 with
  | 0 => ⟨S4096x1024, .f32⟩
  | 1 => ⟨S4096x1024, .f32⟩
  | 2 => ⟨S1024x1024, .f32⟩
  | 3 => ⟨S1024x1024, .f32⟩
  | 4 => ⟨S4096x1024, .f32⟩
  | 5 => ⟨S4096x512, .f32⟩
  | 6 => ⟨S4096x512, .f32⟩
  | 7 => ⟨S4096x512, .f32⟩
  | 8 => ⟨S_, .f32⟩
  | 9 => ⟨S512, .f32⟩
  | 10 => ⟨S1x512, .f32⟩
  | 11 => ⟨S4096x512, .f32⟩
  | 12 => ⟨S4096x512, .f32⟩
  | 13 => ⟨S_, .f32⟩
  | 14 => ⟨S512, .f32⟩
  | 15 => ⟨S4096x8x64, .f32⟩
  | 16 => ⟨S4096x8x64, .f32⟩
  | 17 => ⟨S_, .f32⟩
  | 18 => ⟨S4096x8, .f32⟩
  | 19 => ⟨S4096x8x1, .f32⟩
  | 20 => ⟨S4096x8x64, .f32⟩
  | 21 => ⟨S4096x8x64, .f32⟩
  | 22 => ⟨S4096x8x1, .f32⟩
  | 23 => ⟨S_, .f32⟩
  | 24 => ⟨S4096x8x1, .f32⟩
  | 25 => ⟨S4096x8x1, .f32⟩
  | 26 => ⟨S_, .f32⟩
  | 27 => ⟨S4096x8, .f32⟩
  | 28 => ⟨S4096x8x64, .f32⟩
  | 29 => ⟨S4096x8x64, .f32⟩
  | 30 => ⟨S4096x8x64, .f32⟩
  | 31 => ⟨S4096x8x64, .f32⟩
  | 32 => ⟨S4096x8x64, .f32⟩
  | 33 => ⟨S4096x512, .f32⟩
  | 34 => ⟨S1x1024, .f32⟩
  | 35 => ⟨S1x1024, .f32⟩
  | 36 => ⟨S1x512, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_cst_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_23 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_24 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_25 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_26 : Ref sig .tc := ⟨.hbm, 151, rfl⟩
abbrev main_v115 : Ref sig .tc := ⟨.hbm, 152, rfl⟩
abbrev main_v116 : Ref sig .tc := ⟨.hbm, 153, rfl⟩
abbrev main_cst_27 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩

abbrev nD : Nat := 1
abbrev τ : Topo := Topo.v7x

variable {F : FTy → Type} [FloatOps F]
-- ==== Kernel6.lean ====
abbrev S1x4096x1024 : Shape := ⟨3, ![1, 4096, 1024]⟩
abbrev S1x1x4096x256 : Shape := ⟨4, ![1, 1, 4096, 256]⟩
abbrev S1x256x1024 : Shape := ⟨3, ![1, 256, 1024]⟩
abbrev S1x1024x1024 : Shape := ⟨3, ![1, 1024, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S256x4x256 : Shape := ⟨3, ![256, 4, 256]⟩
abbrev S4x256x256 : Shape := ⟨3, ![4, 256, 256]⟩
abbrev S4096x256 : Shape := ⟨2, ![4096, 256]⟩
abbrev S1024x1024 : Shape := ⟨2, ![1024, 1024]⟩
abbrev S1x128 : Shape := ⟨2, ![1, 128]⟩
abbrev S512x1024 : Shape := ⟨2, ![512, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 50
  | .vmem => 25
  | .smem => 0
  | _ => 0

abbrev bufTy : (tb : Table) → Fin (tcTables nBuf tb) → BufTy
  | .hbm, ⟨0, _⟩ => ⟨S1x4096x1024, .f32⟩
  | .hbm, ⟨1, _⟩ => ⟨S1x1x4096x256, .f32⟩
  | .hbm, ⟨2, _⟩ => ⟨S1x256x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S256x1024, .f32⟩
  | .hbm, ⟨34, _⟩ => ⟨S256x1024, .bf16⟩
  | .hbm, ⟨35, _⟩ => ⟨S256x4x256, .bf16⟩
  | .hbm, ⟨36, _⟩ => ⟨S4x256x256, .bf16⟩
  | .hbm, ⟨37, _⟩ => ⟨S4096x256, .f32⟩
  | .hbm, ⟨38, _⟩ => ⟨S1024x1024, .f32⟩
  | .hbm, ⟨39, _⟩ => ⟨S1024x1024, .bf16⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4x256x256, .f32⟩
  | .hbm, ⟨44, _⟩ => ⟨S1024x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | .local _ .vmem, ⟨5, _⟩ => ⟨S1x1024, .f32⟩
  | .local _ .vmem, ⟨6, _⟩ => ⟨S512x256, .f32⟩
  | .local _ .vmem, ⟨7, _⟩ => ⟨S512x256, .f32⟩
  | .local _ .vmem, ⟨8, _⟩ => ⟨S4x256x256, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S4x256x256, .f32⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev main_v27_5 : Ref sig .tc := ⟨.hbm, 46, rfl⟩
abbrev main_v27_6 : Ref sig .tc := ⟨.hbm, 47, rfl⟩
abbrev main_v27_7 : Ref sig .tc := ⟨.hbm, 48, rfl⟩
abbrev main_v27_8 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference6Ideal.lean ====
abbrev S1x4096x1024 : Shape := ⟨3, ![1, 4096, 1024]⟩
abbrev S1x1x4096x256 : Shape := ⟨4, ![1, 1, 4096, 256]⟩
abbrev S1x256x1024 : Shape := ⟨3, ![1, 256, 1024]⟩
abbrev S1x1024x1024 : Shape := ⟨3, ![1, 1024, 1024]⟩
abbrev S1x1024 : Shape := ⟨2, ![1, 1024]⟩
abbrev S4096x1024 : Shape := ⟨2, ![4096, 1024]⟩
abbrev S256x1024 : Shape := ⟨2, ![256, 1024]⟩
abbrev S1024x1024 : Shape := ⟨2, ![1024, 1024]⟩
abbrev S1024 : Shape := ⟨1, ![1024]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S256x4x256 : Shape := ⟨3, ![256, 4, 256]⟩
abbrev S4x256x256 : Shape := ⟨3, ![4, 256, 256]⟩
abbrev S1x128 : Shape := ⟨2, ![1, 128]⟩

abbrev nBuf : Space → Nat
  | .hbm => 240
  | .vmem => 0
  | .smem => 0
  | _ => 0

abbrev hbmTy0_0 (i : Nat) : BufTy := match i % 128 with
  | 0 => ⟨S1x4096x1024, .f32⟩
  | 1 => ⟨S1x1x4096x256, .f32⟩
  | 2 => ⟨S1x256x1024, .f32⟩
  | 3 => ⟨S1x1024x1024, .f32⟩
  | 4 => ⟨S1x1024, .f32⟩
  | 5 => ⟨S1x1024, .f32⟩
  | 6 => ⟨S1x1024, .f32⟩
  | 7 => ⟨S1x1024, .f32⟩
  | 8 => ⟨S1x4096x1024, .f32⟩
  | 9 => ⟨S4096x1024, .f32⟩
  | 10 => ⟨S256x1024, .f32⟩
  | 11 => ⟨S1024x1024, .f32⟩
  | 12 => ⟨S1024, .f32⟩
  | 13 => ⟨S1024, .f32⟩
  | 14 => ⟨S1024, .f32⟩
  | 15 => ⟨S1024, .f32⟩
  | 16 => ⟨S4096x256, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S4096x1024, .f32⟩
  | 92 => ⟨S4096x1024, .f32⟩
  | 93 => ⟨S_, .f32⟩
  | 94 => ⟨S4096x1, .f32⟩
  | 95 => ⟨S4096x1, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x1024, .f32⟩
  | 102 => ⟨S4096x1024, .f32⟩
  | 103 => ⟨S1x1024, .f32⟩
  | 104 => ⟨S4096x1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S4096, .f32⟩
  | 116 => ⟨S_, .f32⟩
  | 117 => ⟨S4096, .f32⟩
  | 118 => ⟨S4096, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S4096, .f32⟩
  | 127 => ⟨S_, .f32⟩
  | _ => ⟨S1x4096x1024, .f32⟩

abbrev hbmTy0_1 (i : Nat) : BufTy := match i % 128 with
  | 0 => ⟨S4096, .f32⟩
  | 1 => ⟨S4096, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S4096x1024, .f32⟩
  | 15 => ⟨S_, .f32⟩
  | 16 => ⟨S1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S4096x1024, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S1024x1024, .f32⟩
  | 55 => ⟨S1024x1024, .f32⟩
  | 56 => ⟨S4096x1024, .f32⟩
  | 57 => ⟨S4096x1024, .f32⟩
  | 58 => ⟨S1024x256, .f32⟩
  | 59 => ⟨S256x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S_, .f32⟩
  | 72 => ⟨S1024, .f32⟩
  | 73 => ⟨S4096x1024, .f32⟩
  | 74 => ⟨S_, .f32⟩
  | 75 => ⟨S4096, .f32⟩
  | 76 => ⟨S4096x1, .f32⟩
  | 77 => ⟨S4096x1024, .f32⟩
  | 78 => ⟨S4096x1024, .f32⟩
  | 79 => ⟨S4096x1, .f32⟩
  | 80 => ⟨S4096x1024, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .bf16⟩
  | 105 => ⟨S256x4x256, .f32⟩
  | 106 => ⟨S4x256x256, .f32⟩
  | 107 => ⟨S1x1024, .f32⟩
  | 108 => ⟨S1x1024, .f32⟩
  | 109 => ⟨S1x1024, .f32⟩
  | 110 => ⟨S1x1024, .f32⟩
  | 111 => ⟨S1x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_v89 : Ref sig .tc := ⟨.hbm, 120, rfl⟩
abbrev main_cst_21 : Ref sig .tc := ⟨.hbm, 121, rfl⟩
abbrev main_v90 : Ref sig .tc := ⟨.hbm, 122, rfl⟩
abbrev main_cst_22 : Ref sig .tc := ⟨.hbm, 123, rfl⟩
abbrev main_cst_23 : Ref sig .tc := ⟨.hbm, 124, rfl⟩
abbrev main_v91 : Ref sig .tc := ⟨.hbm, 125, rfl⟩
abbrev main_v92 : Ref sig .tc := ⟨.hbm, 126, rfl⟩
abbrev main_cst_24 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_25 : Ref sig .tc := ⟨.hbm, 132, rfl⟩
abbrev main_v97 : Ref sig .tc := ⟨.hbm, 133, rfl⟩
abbrev main_v98 : Ref sig .tc := ⟨.hbm, 134, rfl⟩
abbrev main_cst_26 : Ref sig .tc := ⟨.hbm, 135, rfl⟩
abbrev main_v99 : Ref sig .tc := ⟨.hbm, 136, rfl⟩
abbrev main_v100 : Ref sig .tc := ⟨.hbm, 137, rfl⟩
abbrev main_cst_27 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_28 : Ref sig .tc := ⟨.hbm, 143, rfl⟩
abbrev main_v105 : Ref sig .tc := ⟨.hbm, 144, rfl⟩
abbrev main_v106 : Ref sig .tc := ⟨.hbm, 145, rfl⟩
abbrev main_cst_29 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_30 : Ref sig .tc := ⟨.hbm, 153, rfl⟩
abbrev main_v113 : Ref sig .tc := ⟨.hbm, 154, rfl⟩
abbrev main_v114 : Ref sig .tc := ⟨.hbm, 155, rfl⟩
abbrev main_cst_31 : Ref sig .tc := ⟨.hbm, 156, rfl⟩
abbrev main_v115 : Ref sig .tc := ⟨.hbm, 157, rfl⟩
abbrev main_v116 : Ref sig .tc := ⟨.hbm, 158, rfl⟩
abbrev main_cst_32 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_33 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_34 : Ref sig .tc := ⟨.hbm, 169, rfl⟩
abbrev main_v125 : Ref sig .tc := ⟨.hbm, 170, rfl⟩
abbrev main_v126 : Ref sig .tc := ⟨.hbm, 171, rfl⟩
abbrev main_cst_35 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_36 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_37 : Ref sig .tc := ⟨.hbm, 188, rfl⟩
abbrev main_v141 : Ref sig .tc := ⟨.hbm, 189, rfl⟩
abbrev main_v142 : Ref sig .tc := ⟨.hbm, 190, rfl⟩
abbrev main_cst_38 : Ref sig .tc := ⟨.hbm, 191, rfl⟩
abbrev main_v143 : Ref sig .tc := ⟨.hbm, 192, rfl⟩
abbrev main_v144 : Ref sig .tc := ⟨.hbm, 193, rfl⟩
abbrev main_cst_39 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_40 : Ref sig .tc := ⟨.hbm, 199, rfl⟩
abbrev main_v149 : Ref sig .tc := ⟨.hbm, 200, rfl⟩
abbrev main_v150 : Ref sig .tc := ⟨.hbm, 201, rfl⟩
abbrev main_cst_41 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_42 : Ref sig .tc := ⟨.hbm, 209, rfl⟩
abbrev main_v157 : Ref sig .tc := ⟨.hbm, 210, rfl⟩
abbrev main_v158 : Ref sig .tc := ⟨.hbm, 211, rfl⟩
abbrev main_cst_43 : Ref sig .tc := ⟨.hbm, 212, rfl⟩
abbrev main_v159 : Ref sig .tc := ⟨.hbm, 213, rfl⟩
abbrev main_v160 : Ref sig .tc := ⟨.hbm, 214, rfl⟩
abbrev main_cst_44 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_45 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_46 : Ref sig .tc := ⟨.hbm, 225, rfl⟩
abbrev main_v169 : Ref sig .tc := ⟨.hbm, 226, rfl⟩
abbrev main_v170 : Ref sig .tc := ⟨.hbm, 227, rfl⟩
abbrev main_cst_47 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩

abbrev nD : Nat := 1
abbrev τ : Topo := Topo.v7x

variable {F : FTy → Type} [FloatOps F]
-- ==== Kernel7.lean ====
abbrev S1x4096x512 : Shape := ⟨3, ![1, 4096, 512]⟩
abbrev S1x4096x1024 : Shape := ⟨3, ![1, 4096, 1024]⟩
abbrev S1x512 : Shape := ⟨2, ![1, 512]⟩
abbrev S1x1024x1024 : Shape := ⟨3, ![1, 1024, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩
abbrev S1024x1024 : Shape := ⟨2, ![1024, 1024]⟩
abbrev S1024x512 : Shape := ⟨2, ![1024, 512]⟩
abbrev S1024x1 : Shape := ⟨2, ![1024, 1]⟩
abbrev S512x1024 : Shape := ⟨2, ![512, 1024]⟩
abbrev S1024 : Shape := ⟨1, ![1024]⟩

abbrev nBuf : Space → Nat
  | .hbm => 61
  | .vmem => 17
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x512, .f32⟩
  | .hbm, ⟨34, _⟩ => ⟨S512, .f32⟩
  | .hbm, ⟨35, _⟩ => ⟨S4096x8x64, .f32⟩
  | .hbm, ⟨36, _⟩ => ⟨S4096x8x64, .f32⟩
  | .hbm, ⟨37, _⟩ => ⟨S_, .f32⟩
  | .hbm, ⟨38, _⟩ => ⟨S4096x8, .f32⟩
  | .hbm, ⟨39, _⟩ => ⟨S4096x8x1, .f32⟩
  | .hbm, ⟨40, _⟩ => ⟨S_, .f32⟩
  | .hbm, ⟨41, _⟩ => ⟨S4096x8x1, .f32⟩
  | .hbm, ⟨42, _⟩ => ⟨S4096x8x1, .f32⟩
  | .hbm, ⟨43, _⟩ => ⟨S_, .f32⟩
  | .hbm, ⟨44, _⟩ => ⟨S4096x8x1, .f32⟩
  | .hbm, ⟨45, _⟩ => ⟨S4096x8x1, .f32⟩
  | .hbm, ⟨46, _⟩ => ⟨S4096x8x1, .f32⟩
  | .hbm, ⟨47, _⟩ => ⟨S4096x8x64, .f32⟩
  | .hbm, ⟨48, _⟩ => ⟨S4096x8x64, .f32⟩
  | .hbm, ⟨49, _⟩ => ⟨S4096x512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S4096x512, .bf16⟩
  | .hbm, ⟨54, _⟩ => ⟨S4096x512, .f32⟩
  | .hbm, ⟨55, _⟩ => ⟨S4096x512, .bf16⟩
  | .hbm, ⟨56, _⟩ => ⟨S1024x1024, .f32⟩
  | .hbm, ⟨57, _⟩ => ⟨S1024x1024, .bf16⟩
  | .hbm, ⟨58, _⟩ => ⟨S4096x1024, .f32⟩
  | .hbm, ⟨59, _⟩ => ⟨S4096x1, .f32⟩
  | .hbm, ⟨60, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1, .f32⟩
  | .local _ .vmem, ⟨14, _⟩ => ⟨S1024x1, .f32⟩
  | .local _ .vmem, ⟨15, _⟩ => ⟨S1024x1024, .bf16⟩
  | .local _ .vmem, ⟨16, _⟩ => ⟨S1024x1024, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S1x4096x512 : Shape := ⟨3, ![1, 4096, 512]⟩
abbrev S1x4096x1024 : Shape := ⟨3, ![1, 4096, 1024]⟩
abbrev S1x512 : Shape := ⟨2, ![1, 512]⟩
abbrev S1x1024x1024 : Shape := ⟨3, ![1, 1024, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S512 : Shape := ⟨1, ![512]⟩
abbrev S1024x1024 : Shape := ⟨2, ![1024, 1024]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 124
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x512, .f32⟩
  | .hbm, ⟨45, _⟩ => ⟨S4096x512, .f32⟩
  | .hbm, ⟨46, _⟩ => ⟨S512, .f32⟩
  | .hbm, ⟨47, _⟩ => ⟨S1024x1024, .f32⟩
  | .hbm, ⟨48, _⟩ => ⟨S4096x8x64, .f32⟩
  | .hbm, ⟨49, _⟩ => ⟨S4096x8x64, .f32⟩
  | .hbm, ⟨50, _⟩ => ⟨S_, .f32⟩
  | .hbm, ⟨51, _⟩ => ⟨S4096x8, .f32⟩
  | .hbm, ⟨52, _⟩ => ⟨S4096x8x1, .f32⟩
  | .hbm, ⟨53, _⟩ => ⟨S_, .f32⟩
  | .hbm, ⟨54, _⟩ => ⟨S4096x8x1, .f32⟩
  | .hbm, ⟨55, _⟩ => ⟨S4096x8x1, .f32⟩
  | .hbm, ⟨56, _⟩ => ⟨S_, .f32⟩
  | .hbm, ⟨57, _⟩ => ⟨S4096x8x1, .f32⟩
  | .hbm, ⟨58, _⟩ => ⟨S4096x8x1, .f32⟩
  | .hbm, ⟨59, _⟩ => ⟨S4096x8x1, .f32⟩
  | .hbm, ⟨60, _⟩ => ⟨S4096x8x64, .f32⟩
  | .hbm, ⟨61, _⟩ => ⟨S4096x8x64, .f32⟩
  | .hbm, ⟨62, _⟩ => ⟨S4096x512, .f32⟩
  | .hbm, ⟨63, _⟩ => ⟨S1x512, .f32⟩
  | .hbm, ⟨64, _⟩ => ⟨S4096x512, .f32⟩
  | .hbm, ⟨65, _⟩ => ⟨S4096x512, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S1024, .f32⟩
  | .hbm, ⟨93, _⟩ => ⟨S1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096, .f32⟩
  | .hbm, ⟨105, _⟩ => ⟨S4096x1, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S4096x1024, .f32⟩
  | .hbm, ⟨110, _⟩ => ⟨S4096x1024, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S4096x1, .f32⟩
  | .hbm, ⟨115, _⟩ => ⟨S4096x1024, .f32⟩
  | .hbm, ⟨116, _⟩ => ⟨S4096x1024, .f32⟩
  | .hbm, ⟨117, _⟩ => ⟨S1x1024, .f32⟩
  | .hbm, ⟨118, _⟩ => ⟨S4096x1024, .f32⟩
  | .hbm, ⟨119, _⟩ => ⟨S4096x1024, .f32⟩
  | .hbm, ⟨120, _⟩ => ⟨S1x1024, .f32⟩
  | .hbm, ⟨121, _⟩ => ⟨S4096x1024, .f32⟩
  | .hbm, ⟨122, _⟩ => ⟨S4096x1024, .f32⟩
  | .hbm, ⟨123, _⟩ => ⟨S4096x1024, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Kernel8.lean ====
abbrev S1x4096x1024 : Shape := ⟨3, ![1, 4096, 1024]⟩
abbrev S1x1024 : Shape := ⟨2, ![1, 1024]⟩
abbrev S1x1024x4096 : Shape := ⟨3, ![1, 1024, 4096]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 71
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1024x4096, .f32⟩
  | .hbm, ⟨63, _⟩ => ⟨S1024x4096, .bf16⟩
  | .hbm, ⟨64, _⟩ => ⟨S1024x4x1024, .bf16⟩
  | .hbm, ⟨65, _⟩ => ⟨S4x1024x1024, .bf16⟩
  | .hbm, ⟨66, _⟩ => ⟨S4096x1024, .f32⟩
  | .hbm, ⟨67, _⟩ => ⟨S4096x1024, .bf16⟩
  | .hbm, ⟨68, _⟩ => ⟨S4096x1024, .f32⟩
  | .hbm, ⟨69, _⟩ => ⟨S4096x1, .f32⟩
  | .hbm, ⟨70, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53_0 : Ref sig .tc := ⟨.hbm, 68, rfl⟩
abbrev main_v53_1 : Ref sig .tc := ⟨.hbm, 69, rfl⟩
abbrev main_v53_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S1x4096x1024 : Shape := ⟨3, ![1, 4096, 1024]⟩
abbrev S1x1024 : Shape := ⟨2, ![1, 1024]⟩
abbrev S1x1024x4096 : Shape := ⟨3, ![1, 1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1024x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel9.lean ====
abbrev S1x4096x1024 : Shape := ⟨3, ![1, 4096, 1024]⟩
abbrev S1024 : Shape := ⟨1, ![1024]⟩
abbrev S1x1024x2048 : Shape := ⟨3, ![1, 1024, 2048]⟩
abbrev S1x4x128x128 : Shape := ⟨4, ![1, 4, 128, 128]⟩
abbrev S1x512 : Shape := ⟨2, ![1, 512]⟩
abbrev S4096x1024 : Shape := ⟨2, ![4096, 1024]⟩
abbrev S1x1024 : Shape := ⟨2, ![1, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4x128x128 : Shape := ⟨3, ![4, 128, 128]⟩
abbrev S4096x1 : Shape := ⟨2, ![4096, 1]⟩
abbrev S4096x512 : Shape := ⟨2, ![4096, 512]⟩
abbrev S1024x1024 : Shape := ⟨2, ![1024, 1024]⟩
abbrev S1024x1 : Shape := ⟨2, ![1024, 1]⟩
abbrev S1024x512 : Shape := ⟨2, ![1024, 512]⟩
abbrev S16x512 : Shape := ⟨2, ![16, 512]⟩
abbrev S1x1024x512 : Shape := ⟨3, ![1, 1024, 512]⟩
abbrev S1024x128 : Shape := ⟨2, ![1024, 128]⟩
abbrev S16x128 : Shape := ⟨2, ![16, 128]⟩
abbrev S1040x128 : Shape := ⟨2, ![1040, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 21
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024, .f32⟩
  | .hbm, ⟨3, _⟩ => ⟨S1x1024x2048, .f32⟩
  | .hbm, ⟨4, _⟩ => ⟨S1x4x128x128, .f32⟩
  | .hbm, ⟨5, _⟩ => ⟨S1x512, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1024x2048, .f32⟩
  | .hbm, ⟨10, _⟩ => ⟨S1024x2048, .bf16⟩
  | .hbm, ⟨11, _⟩ => ⟨S1024x4x512, .bf16⟩
  | .hbm, ⟨12, _⟩ => ⟨S4x1024x512, .bf16⟩
  | .hbm, ⟨13, _⟩ => ⟨S4x128x128, .f32⟩
  | .hbm, ⟨14, _⟩ => ⟨S4096x1024, .f32⟩
  | .hbm, ⟨15, _⟩ => ⟨S4096x1, .f32⟩
  | .hbm, ⟨16, _⟩ => ⟨S4096x512, .bf16⟩
  | .hbm, ⟨17, _⟩ => ⟨S4096x512, .bf16⟩
  | .hbm, ⟨18, _⟩ => ⟨S4096x512, .bf16⟩
  | .hbm, ⟨19, _⟩ => ⟨S4096x512, .bf16⟩
  | .hbm, ⟨20, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S4x1024x512, .bf16⟩
  | .local _ .vmem, ⟨5, _⟩ => ⟨S4x128x128, .f32⟩
  | .local _ .vmem, ⟨6, _⟩ => ⟨S1x512, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S16x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S1x4096x1024 : Shape := ⟨3, ![1, 4096, 1024]⟩
abbrev S1024 : Shape := ⟨1, ![1024]⟩
abbrev S1x1024x2048 : Shape := ⟨3, ![1, 1024, 2048]⟩
abbrev S1x4x128x128 : Shape := ⟨4, ![1, 4, 128, 128]⟩
abbrev S1x512 : Shape := ⟨2, ![1, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2048 : Shape := ⟨2, ![1024, 2048]⟩
abbrev S4096x2048 : Shape := ⟨2, ![4096, 2048]⟩
abbrev S4096x512 : Shape := ⟨2, ![4096, 512]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4096x1x128 : Shape := ⟨3, ![4096, 1, 128]⟩
abbrev S4096x4x128 : Shape := ⟨3, ![4096, 4, 128]⟩
abbrev S4x128x128 : Shape := ⟨3, ![4, 128, 128]⟩
abbrev S512 : Shape := ⟨1, ![512]⟩
abbrev S4x128x4096 : Shape := ⟨3, ![4, 128, 4096]⟩

abbrev nBuf : Space → Nat
  | .hbm => 253
  | .vmem => 0
  | .smem => 0
  | _ => 0

abbrev hbmTy0_0 (i : Nat) : BufTy := match i % 128 with
  | 0 => ⟨S1x4096x1024, .f32⟩
  | 1 => ⟨S1024, .f32⟩
  | 2 => ⟨S1024, .f32⟩
  | 3 => ⟨S1x1024x2048, .f32⟩
  | 4 => ⟨S1x4x128x128, .f32⟩
  | 5 => ⟨S1x512, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S_, .f32⟩
  | 49 => ⟨S4096x1, .f32⟩
  | 50 => ⟨S4096x1, .f32⟩
  | 51 => ⟨S4096x1, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S1x1024, .f32⟩
  | 58 => ⟨S4096x1024, .f32⟩
  | 59 => ⟨S4096x1024, .f32⟩
  | 60 => ⟨S1024x2048, .f32⟩
  | 61 => ⟨S4096x2048, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S_, .f32⟩
  | 68 => ⟨S4096x512, .f32⟩
  | 69 => ⟨S4096, .i32⟩
  | 70 => ⟨S4096x128, .f32⟩
  | 71 => ⟨S2x128, .f32⟩
  | 72 => ⟨S_, .f32⟩
  | 73 => ⟨S2x128, .f32⟩
  | 74 => ⟨S4094x128, .f32⟩
  | 75 => ⟨S4096x128, .f32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .f32⟩
  | 83 => ⟨S4096x1, .f32⟩
  | 84 => ⟨S4096x128, .f32⟩
  | 85 => ⟨S4096x128, .f32⟩
  | 86 => ⟨S4096x128, .f32⟩
  | 87 => ⟨S4096x128, .f32⟩
  | 88 => ⟨S4096x128, .f32⟩
  | 89 => ⟨S4096x128, .f32⟩
  | 90 => ⟨S4x128, .f32⟩
  | 91 => ⟨S_, .f32⟩
  | 92 => ⟨S4x128, .f32⟩
  | 93 => ⟨S4092x128, .f32⟩
  | 94 => ⟨S4096x128, .f32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .f32⟩
  | 102 => ⟨S4096x1, .f32⟩
  | 103 => ⟨S4096x128, .f32⟩
  | 104 => ⟨S4096x128, .f32⟩
  | 105 => ⟨S4096x128, .f32⟩
  | 106 => ⟨S4096x128, .f32⟩
  | 107 => ⟨S4096x128, .f32⟩
  | 108 => ⟨S4096x128, .f32⟩
  | 109 => ⟨S8x128, .f32⟩
  | 110 => ⟨S_, .f32⟩
  | 111 => ⟨S8x128, .f32⟩
  | 112 => ⟨S4088x128, .f32⟩
  | 113 => ⟨S4096x128, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .f32⟩
  | 121 => ⟨S4096x1, .f32⟩
  | 122 => ⟨S4096x128, .f32⟩
  | 123 => ⟨S4096x128, .f32⟩
  | 124 => ⟨S4096x128, .f32⟩
  | 125 => ⟨S4096x128, .f32⟩
  | 126 => ⟨S4096x128, .f32⟩
  | 127 => ⟨S4096x128, .f32⟩
  | _ => ⟨S1x4096x1024, .f32⟩

abbrev hbmTy0_1 (i : Nat) : BufTy := match i % 128 with
  | 0 => ⟨S16x128, .f32⟩
  | 1 => ⟨S_, .f32⟩
  | 2 => ⟨S16x128, .f32⟩
  | 3 => ⟨S4080x128, .f32⟩
  | 4 => ⟨S4096x128, .f32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S4096, .f32⟩
  | 12 => ⟨S4096x1, .f32⟩
  | 13 => ⟨S4096x128, .f32⟩
  | 14 => ⟨S4096x128, .f32⟩
  | 15 => ⟨S4096x128, .f32⟩
  | 16 => ⟨S4096x128, .f32⟩
  | 17 => ⟨S4096x128, .f32⟩
  | 18 => ⟨S4096x1x128, .f32⟩
  | 19 => ⟨S4096x1x128, .f32⟩
  | 20 => ⟨S4096x1x128, .f32⟩
  | 21 => ⟨S4096x1x128, .f32⟩
  | 22 => ⟨S4096x4x128, .f32⟩
  | 23 => ⟨S4096x512, .f32⟩
  | 24 => ⟨S4x128x128, .f32⟩
  | 25 => ⟨S512, .f32⟩
  | 26 => ⟨S_, .f32⟩
  | 27 => ⟨S_, .f32⟩
  | 28 => ⟨S4096x512, .f32⟩
  | 29 => ⟨S4096, .i32⟩
  | 30 => ⟨S4096x128, .f32⟩
  | 31 => ⟨S2x128, .f32⟩
  | 32 => ⟨S_, .f32⟩
  | 33 => ⟨S2x128, .f32⟩
  | 34 => ⟨S4094x128, .f32⟩
  | 35 => ⟨S4096x128, .f32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .f32⟩
  | 43 => ⟨S4096x1, .f32⟩
  | 44 => ⟨S4096x128, .f32⟩
  | 45 => ⟨S4096x128, .f32⟩
  | 46 => ⟨S4096x128, .f32⟩
  | 47 => ⟨S4096x128, .f32⟩
  | 48 => ⟨S4096x128, .f32⟩
  | 49 => ⟨S4096x128, .f32⟩
  | 50 => ⟨S4x128, .f32⟩
  | 51 => ⟨S_, .f32⟩
  | 52 => ⟨S4x128, .f32⟩
  | 53 => ⟨S4092x128, .f32⟩
  | 54 => ⟨S4096x128, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .f32⟩
  | 62 => ⟨S4096x1, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S4096x128, .f32⟩
  | 69 => ⟨S8x128, .f32⟩
  | 70 => ⟨S_, .f32⟩
  | 71 => ⟨S8x128, .f32⟩
  | 72 => ⟨S4088x128, .f32⟩
  | 73 => ⟨S4096x128, .f32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S4096, .f32⟩
  | 81 => ⟨S4096x1, .f32⟩
  | 82 => ⟨S4096x128, .f32⟩
  | 83 => ⟨S4096x128, .f32⟩
  | 84 => ⟨S4096x128, .f32⟩
  | 85 => ⟨S4096x128, .f32⟩
  | 86 => ⟨S4096x128, .f32⟩
  | 87 => ⟨S4096x128, .f32⟩
  | 88 => ⟨S16x128, .f32⟩
  | 89 => ⟨S_, .f32⟩
  | 90 => ⟨S16x128, .f32⟩
  | 91 => ⟨S4080x128, .f32⟩
  | 92 => ⟨S4096x128, .f32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S4096, .f32⟩
  | 100 => ⟨S4096x1, .f32⟩
  | 101 => ⟨S4096x128, .f32⟩
  | 102 => ⟨S4096x128, .f32⟩
  | 103 => ⟨S4096x128, .f32⟩
  | 104 => ⟨S4096x128, .f32⟩
  | 105 => ⟨S4096x128, .f32⟩
  | 106 => ⟨S4096x1x128, .f32⟩
  | 107 => ⟨S4096x1x128, .f32⟩
  | 108 => ⟨S4096x1x128, .f32⟩
  | 109 => ⟨S4096x1x128, .f32⟩
  | 110 => ⟨S4096x4x128, .f32⟩
  | 111 => ⟨S4x128x4096, .f32⟩
  | 112 => ⟨S4096x4x128, .f32⟩
  | 113 => ⟨S4096x512, .f32⟩
  | 114 => ⟨S1x512, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .bf16⟩
  | 121 => ⟨S4096x512, .bf16⟩
  | 122 => ⟨S4096x512, .bf16⟩
  | 123 => ⟨S4096x512, .bf16⟩
  | 124 => ⟨S4096x512, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_call0_cst : Ref sig .tc := ⟨.hbm, 66, rfl⟩
abbrev main_call0_call0_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_12 : Ref sig .tc := ⟨.hbm, 95, rfl⟩
abbrev main_v73 : Ref sig .tc := ⟨.hbm, 96, rfl⟩
abbrev main_v74 : Ref sig .tc := ⟨.hbm, 97, rfl⟩
abbrev main_c_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_15 : Ref sig .tc := ⟨.hbm, 114, rfl⟩
abbrev main_v89 : Ref sig .tc := ⟨.hbm, 115, rfl⟩
abbrev main_v90 : Ref sig .tc := ⟨.hbm, 116, rfl⟩
abbrev main_c_16 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_18 : Ref sig .tc := ⟨.hbm, 133, rfl⟩
abbrev main_v105 : Ref sig .tc := ⟨.hbm, 134, rfl⟩
abbrev main_v106 : Ref sig .tc := ⟨.hbm, 135, rfl⟩
abbrev main_c_19 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_call1_call0_cst : Ref sig .tc := ⟨.hbm, 154, rfl⟩
abbrev main_call1_call0_v0 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_20 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_21 : Ref sig .tc := ⟨.hbm, 164, rfl⟩
abbrev main_v131 : Ref sig .tc := ⟨.hbm, 165, rfl⟩
abbrev main_v132 : Ref sig .tc := ⟨.hbm, 166, rfl⟩
abbrev main_c_22 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_23 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_c_24 : Ref sig .tc := ⟨.hbm, 183, rfl⟩
abbrev main_v147 : Ref sig .tc := ⟨.hbm, 184, rfl⟩
abbrev main_v148 : Ref sig .tc := ⟨.hbm, 185, rfl⟩
abbrev main_c_25 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_26 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_c_27 : Ref sig .tc := ⟨.hbm, 202, rfl⟩
abbrev main_v163 : Ref sig .tc := ⟨.hbm, 203, rfl⟩
abbrev main_v164 : Ref sig .tc := ⟨.hbm, 204, rfl⟩
abbrev main_c_28 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_cst_29 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_c_30 : Ref sig .tc := ⟨.hbm, 221, rfl⟩
abbrev main_v179 : Ref sig .tc := ⟨.hbm, 222, rfl⟩
abbrev main_v180 : Ref sig .tc := ⟨.hbm, 223, rfl⟩
abbrev main_c_31 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_cst_32 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩

abbrev nD : Nat := 1
abbrev τ : Topo := Topo.v7x

variable {F : FTy → Type} [FloatOps F]
-- ==== Proof.MlpValue.lean ====
/- The values of the squared-ReLU channel mixer's gradient: both results of the kernel, each as one function of the
   arguments, equal to the reference's. -/
module

public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.KernelMlpIdeal.Frame
public import proofs.«01_k».proof.Proof.Gen.ReferenceMlpIdeal
public import proofs.«01_k».proof.Proof.Gen.ReferenceMlpIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MlpMath

/-- The hidden pre-activation of token `s` at hidden unit `f`. -/
def hidden (x : FVec Ideal ⟨3, ![1, 4096, 1024]⟩ .f32) (wu : FVec Ideal ⟨3, ![1, 1024, 4096]⟩ .f32)
    (s f : Fin 4096) : EReal := ∑ k : Fin 1024, x (ix3 0 s k) * wu (ix3 0 k f)

/-- The cotangent of the squared activation of token `s` at hidden unit `f`. -/
def dsq (wd ct : FVec Ideal ⟨3, ![1, 4096, 1024]⟩ .f32) (s f : Fin 4096) : EReal :=
  ∑ d : Fin 1024, ct (ix3 0 s d) * wd (ix3 0 f d)

/-- The cotangent of the pre-activation: twice the activation times the cotangent of its square. -/
def da (x : FVec Ideal ⟨3, ![1, 4096, 1024]⟩ .f32) (wu : FVec Ideal ⟨3, ![1, 1024, 4096]⟩ .f32)
    (wd ct : FVec Ideal ⟨3, ![1, 4096, 1024]⟩ .f32) (s f : Fin 4096) : EReal :=
  dsq wd ct s f * (Ideal.ofBits .f32 0x40000000#32 * max (hidden x wu s f) 0)

/-- The cotangent of the mixer's input. -/
def dx (x : FVec Ideal ⟨3, ![1, 4096, 1024]⟩ .f32) (wu : FVec Ideal ⟨3, ![1, 1024, 4096]⟩ .f32)
    (wd ct : FVec Ideal ⟨3, ![1, 4096, 1024]⟩ .f32) (s : Fin 4096) (d : Fin 1024) : EReal :=
  ∑ f : Fin 4096, da x wu wd ct s f * wu (ix3 0 d f)

/-- Where the activation is zero the product vanishes, so masking by a positive pre-activation changes nothing. -/
theorem masked_eq (a g : EReal) (t : EReal) : (if 0 < a then g * (t * max a 0) else 0) = g * (t * max a 0) := by
  split_ifs with h
  · rfl
  · rw [max_eq_right (not_lt.mp h), mul_zero, mul_zero]

end Cert.MlpMath

namespace Cert.ReferenceMlpIdeal.Value

open Cert.ReferenceMlpIdeal Cert.ReferenceMlpIdeal.Gen Cert.ReferenceMlpIdeal.Read

/-- The reference's cotangent of the pre-activation, element by element. -/
theorem da_eq (x : FVec Ideal S1x4096x1024 .f32) (wu : FVec Ideal S1x1024x4096 .f32)
    (wd ct : FVec Ideal S1x4096x1024 .f32) (i : S4096x4096.Idx) :
    val_main_v18 (F := Ideal) x wu wd ct i = Cert.MlpMath.da x wu wd ct (i 0) (i 1) := by
  idx_vars i
  pointwise [val_main_v18, val_main_v17, val_main_v14, val_main_v13, val_main_v12, val_main_v11, val_main_v9,
    val_main_v8, val_main_v7, val_main_v5, val_main_v4, val_main_v3, val_main_v2, val_main_v1, val_main_v0,
    val_main_cst, val_main_cst_0, val_main_cst_1, val_main_cst_2, val_main_call0_v0, val_main_call0_cst]
  exact Cert.MlpMath.masked_eq _ _ _

/-- The reference's cotangent of the input, element by element. -/
theorem dx_eq (x : FVec Ideal S1x4096x1024 .f32) (wu : FVec Ideal S1x1024x4096 .f32)
    (wd ct : FVec Ideal S1x4096x1024 .f32) (i : S4096x1024.Idx) :
    val_main_v16 (F := Ideal) x wu wd ct i = Cert.MlpMath.dx x wu wd ct (i 0) (i 1) := by
  idx_vars i
  pointwise [val_main_v16, val_main_v15, val_main_v14, val_main_v13, val_main_v12, val_main_v11, val_main_v9,
    val_main_v8, val_main_v7, val_main_v5, val_main_v4, val_main_v3, val_main_v2, val_main_v1, val_main_v0,
    val_main_cst, val_main_cst_0, val_main_cst_1, val_main_cst_2, val_main_call0_v0, val_main_call0_cst]
  exact Finset.sum_congr rfl fun f _ => congrArg (· * _) (Cert.MlpMath.masked_eq _ _ _)

end Cert.ReferenceMlpIdeal.Value

namespace Cert.KernelMlpIdeal.Value

open Cert.KernelMlpIdeal Cert.KernelMlpIdeal.Gen

variable (m : (ℓ : Loc nD τ sig) → Buf (Elt Ideal) ℓ)

/-- Which block of each window's array a grid point works on. -/
theorem idx_val : ∀ t : Fin cfg0.N, win0_0.index t = ![t.val / 4, t.val % 4]
    ∧ win0_1.index t = ![t.val / 4, 0]
    ∧ win0_2.index t = ![t.val % 4, 0, 0]
    ∧ win0_3.index t = ![t.val % 4, 0]
    ∧ win0_4.index t = ![t.val / 4, 0]
    ∧ win0_5.index t = ![t.val / 4, t.val % 4] :=
  (by decide +kernel : ∀ t : Fin grid0.N, _)

/-- The activation the host line hands to the kernel. -/
def hostR (x : FVec Ideal S1x4096x1024 .f32) (wu : FVec Ideal S1x1024x4096 .f32) : FVec Ideal S4096x4096 .bf16 :=
  truncf .bf16 (maximumf (Host.dotGeneral dot_S4096x1024_S1024x4096_S4096x4096_1_0_0_1_n_n none
      (truncf .bf16 (shapeCast _ x shapeCasts_S1x4096x1024_S4096x1024) bitsLt_bf16_f32)
      (truncf .bf16 (shapeCast _ wu shapeCasts_S1x1024x4096_S1024x4096) bitsLt_bf16_f32))
      (broadcastInDim S4096x4096 ![] bcast_S_S4096x4096 (constant S_ .f32 0x00000000#32))) bitsLt_bf16_f32

/-- A cotangent or a weight with its leading axis dropped, as the host line hands it to the kernel. -/
def hostRow (x : FVec Ideal S1x4096x1024 .f32) : FVec Ideal S4096x1024 .bf16 :=
  truncf .bf16 (shapeCast _ x shapeCasts_S1x4096x1024_S4096x1024) bitsLt_bf16_f32

/-- The first weight in slabs of columns, as the host line hands it to the kernel. -/
def hostWu (wu : FVec Ideal S1x1024x4096 .f32) : FVec Ideal S4x1024x1024 .bf16 :=
  transpose S4x1024x1024 [1, 0, 2] (shapeCast _ (truncf .bf16 (shapeCast _ wu shapeCasts_S1x1024x4096_S1024x4096) bitsLt_bf16_f32) shapeCasts_S1024x4096_S1024x4x1024) transposes_S1024x4x1024_S4x1024x1024_1_0_2

theorem V_r (c : Dev nD) : V m c main_v8 = hostR (m ((c : Thread nD τ).loc main_arg0)) (m ((c : Thread nD τ).loc main_arg1)) := by
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem V_ct (c : Dev nD) : V m c main_v10 = hostRow (m ((c : Thread nD τ).loc main_arg3)) := by
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem V_wd (c : Dev nD) : V m c main_v5 = hostRow (m ((c : Thread nD τ).loc main_arg2)) := by
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem V_wu (c : Dev nD) : V m c main_v12 = hostWu (m ((c : Thread nD τ).loc main_arg1)) := by
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results <;> rfl

/-- The slabs of the first weight, element by element. -/
theorem hostWu_apply (wu : FVec Ideal S1x1024x4096 .f32) (j : Fin 4) (d b : Fin 1024) (f : Fin 4096) (hf : f.val = j.val * 1024 + b.val) :
    hostWu wu (ix3 j d b) = wu (ix3 0 d f) := by
  obtain ⟨f, hf'⟩ := f
  dsimp only at hf
  subst hf
  pointwise [hostWu]

/-- The activation block: token `1024 * (t / 4) + a`, hidden unit `1024 * (t % 4) + b`. -/
theorem blk_r (c : Dev nD) (t : Fin cfg0.N) (s f : Fin 4096) (a b : Fin 1024) (hs : s.val = t.val / 4 * 1024 + a.val)
    (hf : f.val = t.val % 4 * 1024 + b.val) :
    (iblk m c 0 t (ix2 a b) : EReal) = max (Cert.MlpMath.hidden (m ((c : Thread nD τ).loc main_arg0)) (m ((c : Thread nD τ).loc main_arg1)) s f) 0 := by
  have e : ((cfg0.win 0).blk t).view.emb (ix2 a b) = ix2 s f := by
    blk_ext [idx_val t]
  show V m c main_v8 (((cfg0.win 0).blk t).view.emb (ix2 a b)) = _
  rw [V_r, e]
  pointwise [hostR, Cert.MlpMath.hidden]

/-- The cotangent block. -/
theorem blk_ct (c : Dev nD) (t : Fin cfg0.N) (s : Fin 4096) (a d : Fin 1024) (hs : s.val = t.val / 4 * 1024 + a.val) :
    (iblk m c 1 t (ix2 a d) : EReal) = m ((c : Thread nD τ).loc main_arg3) (ix3 0 s d) := by
  have e : ((cfg0.win 1).blk t).view.emb (ix2 a d) = ix2 s d := by
    blk_ext [idx_val t]
  show V m c main_v10 (((cfg0.win 1).blk t).view.emb (ix2 a d)) = _
  rw [V_ct, e]
  pointwise [hostRow]

/-- The second weight's block. -/
theorem blk_wd (c : Dev nD) (t : Fin cfg0.N) (f : Fin 4096) (b d : Fin 1024) (hf : f.val = t.val % 4 * 1024 + b.val) :
    (iblk m c 3 t (ix2 b d) : EReal) = m ((c : Thread nD τ).loc main_arg2) (ix3 0 f d) := by
  have e : ((cfg0.win 3).blk t).view.emb (ix2 b d) = ix2 f d := by
    blk_ext [idx_val t]
  show V m c main_v5 (((cfg0.win 3).blk t).view.emb (ix2 b d)) = _
  rw [V_wd, e]
  pointwise [hostRow]

/-- The first weight's block. -/
theorem blk_wu (c : Dev nD) (t : Fin cfg0.N) (f : Fin 4096) (d b : Fin 1024) (hf : f.val = t.val % 4 * 1024 + b.val) :
    (iblk m c 2 t (ix3 0 d b) : EReal) = m ((c : Thread nD τ).loc main_arg1) (ix3 0 d f) := by
  have e : ((cfg0.win 2).blk t).view.emb (ix3 0 d b) = ix3 ⟨t.val % 4, Nat.mod_lt _ (by decide)⟩ d b := by
    blk_ext [idx_val t]
  show V m c main_v12 (((cfg0.win 2).blk t).view.emb (ix3 0 d b)) = _
  rw [V_wu, e]
  exact hostWu_apply _ _ _ _ _ hf

/-- The block of the pre-activation's cotangent that a grid point computes. -/
theorem pay_da (c : Dev nD) (t : Fin cfg0.N) (s f : Fin 4096) (a b : Fin 1024) (hs : s.val = t.val / 4 * 1024 + a.val)
    (hf : f.val = t.val % 4 * 1024 + b.val) :
    (k0_pay2 (F := Ideal) (iblk m c 1 t) (iblk m c 3 t) (iblk m c 0 t) (ix2 a b) : EReal)
      = Cert.MlpMath.da (m ((c : Thread nD τ).loc main_arg0)) (m ((c : Thread nD τ).loc main_arg1))
          (m ((c : Thread nD τ).loc main_arg2)) (m ((c : Thread nD τ).loc main_arg3)) s f := by
  pointwise [k0_pay2]
  refine (Ideal.mul_congr (Finset.sum_congr rfl fun d _ => Ideal.mul_congr (blk_ct m c t s a d hs) (blk_wd m c t f b d hf))
    (Ideal.mul_congr rfl (blk_r m c t s f a b hs hf))).trans ?_
  rfl

/-- The stored block is the computed one. -/
theorem pay3_eq (v3 v5 v8 : Vec Ideal S1024x1024 .bf16) : k0_pay3 v3 v5 v8 = k0_pay2 v3 v5 v8 := by
  funext j
  pointwise [k0_pay3]

theorem hzero (j : S1024x1024.Idx) : k0_pay1 (F := Ideal) j = 0 := by
  pointwise! [k0_pay1]

theorem hpay (v3 v5 v8 : Vec Ideal S1024x1024 .bf16) (v18 : Vec Ideal S1024x1024 .f32) (v19 : Vec Ideal S1x1024x1024 .bf16) (j : S1024x1024.Idx) :
    k0_pay4 v3 v5 v8 v18 v19 j = v18 j + ∑ b : Fin 1024, k0_pay2 v3 v5 v8 (ix2 (j 0) b) * v19 (ix3 0 (j 1) b) := by
  pointwise [k0_pay4]

/-- The kernel's second result is the pre-activation's cotangent. -/
theorem final_da (c : Dev nD) : (dats m 0 c).arrAt 5 (cfgs 0).N = fun i : S4096x4096.Idx =>
    Cert.MlpMath.da (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  have key : (k0_pay3 (F := Ideal) (iblk m c 1 t) (iblk m c 3 t) (iblk m c 0 t) y : EReal)
      = Cert.MlpMath.da (m ((c : Thread nD τ).loc main_arg0)) (m ((c : Thread nD τ).loc main_arg1))
          (m ((c : Thread nD τ).loc main_arg2)) (m ((c : Thread nD τ).loc main_arg3))
          (((cfg0.win 5).blk t).view.emb y 0) (((cfg0.win 5).blk t).view.emb y 1) := by
    rw [pay3_eq]
    idx_vars y
    refine pay_da m c t _ _ _ _ ?_ ?_ <;> blk_simp [idx_val t]
  by_cases h : t.val % 4 = 0
  · rw [outsAt0_A m c t h]; frame_out; exact key
  · rw [outsAt0_B m c t h]; frame_out; exact key

/-- The kernel's first result is the input's cotangent. -/
theorem final_dx (c : Dev nD) : (dats m 0 c).arrAt 4 (cfgs 0).N = fun i : S4096x1024.Idx =>
    Cert.MlpMath.dx (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  blk_simp
  rw [after0_4, Pipeline.eq_sum_fin_of_reset_step_apply_of_flush (fun n h => (outsAt0 m c n h).1) 4 (fun _ => 0) _
    (fun t h j => by rw [outsAt0_A m c t h]; frame_out; rw [hpay, hzero])
    (fun t h j => by rw [outsAt0_B m c t h]; frame_out; rw [hpay])
    t ((flush0_4 t).mp hf) _, zero_add]
  idx_vars y
  show @Eq EReal _ _
  refine Eq.trans ?_ (Fin.sum_univ_tiles 4 1024 rfl _).symm
  refine Finset.sum_congr rfl fun j _ => Finset.sum_congr rfl fun b _ => ?_
  have hlt := Pipeline.run_point_lt_of_flush t ((flush0_4 t).mp hf) j
  refine Ideal.mul_congr (pay_da m c ⟨_, hlt⟩ _ ⟨j * 1024 + b, by omega⟩ _ b ?_ ?_) ?_
  · blk_simp [idx_val t]
    show t.val / 4 * 1024 + y0.val = (4 * (t.val / 4) + j.val) / 4 * 1024 + y0.val
    omega
  · show j.val * 1024 + b.val = (4 * (t.val / 4) + j.val) % 4 * 1024 + b.val
    omega
  · have e1 : ((cfg0.win 4).blk t).view.emb (ix2 y0 y1) 1 = y1 := Fin.ext (by blk_simp [idx_val t])
    refine (blk_wu m c ⟨_, hlt⟩ ⟨j * 1024 + b, by omega⟩ y1 b ?_).trans ?_
    · show j.val * 1024 + b.val = (4 * (t.val / 4) + j.val) % 4 * 1024 + b.val
      omega
    · exact congrArg (fun d => m ((c : Thread nD τ).loc main_arg1) (ix3 0 d _)) e1.symm

end Cert.KernelMlpIdeal.Value

end
-- ==== Proof.AttnStep.lean ====
/-
  The attention gradient's kernel, told by values: what one tile of keys contributes to a tile of 256 queries, on the
  way down (the weights, from the diagonal to the first key) and on the way back up (the scores' gradients), and what
  the body at one grid point leaves in its buffers. Everything here is a plain function of vectors.
-/
module

public import proofs.«01_k».proof.Proof.Gen.Kernel2Ideal.Skeleton
public import Idealize.ShloMosaic.Lib.VecWindow

@[expose] public section

set_option maxRecDepth 16384

noncomputable section

namespace Cert.Kernel2Ideal.Attn

open Idealize.ShloMosaic Cert.Kernel2Ideal Cert.Kernel2Ideal.Gen

variable {F : FTy → Type} [FloatOps F] [Named F]

/-- A tile of scores: 256 queries by 256 keys. -/
abbrev Tile (F : FTy → Type) [FloatOps F] := FVec F S256x256 .f32
/-- One number per query of the tile. -/
abbrev Col (F : FTy → Type) [FloatOps F] := FVec F S256x1 .f32
/-- The two heads' tiles of all sixteen tiles of keys. -/
abbrev Slab (F : FTy → Type) [FloatOps F] := Vec F S2x16x256x256 .f32

/-- The `j`-th tile of 256 rows. -/
def tileAt {e : EltTy} (X : Vec F S4096x128 e) (j : ℕ) : Vec F S256x128 e :=
  fun y => X (fun a => ⟨(![256 * j, 0] a + (y a).val) % S4096x128.size a, Nat.mod_lt _ (by fin_cases a <;> decide)⟩)

/-- Head `h`'s tile `j`. -/
def slabAt (G : Slab F) (h j : ℕ) : Vec F S1x1x256x256 .f32 :=
  fun y => G (fun a => ⟨(![h, j, 0, 0] a + (y a).val) % S2x16x256x256.size a, Nat.mod_lt _ (by fin_cases a <;> decide)⟩)

/-- The rows of tile `j` replaced. -/
abbrev putTile (X : Vec F S4096x128 .f32) (j : ℕ) (w : FVec F S256x128 .f32) : Vec F S4096x128 .f32 :=
  VecWindow.put X ![256 * j, 0] S256x128.size w

/-- Head `h`'s tile `j` replaced. -/
abbrev putSlab (G : Slab F) (h j : ℕ) (w : FVec F S1x1x256x256 .f32) : Slab F :=
  VecWindow.put G ![h, j, 0, 0] S1x1x256x256.size w

/-- What is read once per grid point: the triangular tables, the two heads' halves of the queries and of the cotangent,
    and the whole of the keys and values. -/
structure Ctx (F : FTy → Type) [FloatOps F] where
  low : Vec F S256x256 .bf16
  upp : Vec F S256x256 .bf16
  qa : FVec F S256x128 .bf16
  qb : FVec F S256x128 .bf16
  da : FVec F S256x128 .bf16
  db : FVec F S256x128 .bf16
  K : Vec F S4096x128 .bf16
  V : Vec F S4096x128 .bf16

/-- The zero tile. -/
def zeroT : Tile F := broadcast S256x256 (Scalar.ofBits .f32 0x00000000#32 : F .f32)

/-- On the diagonal tile, zero outside the strictly lower triangle; elsewhere nothing. -/
def masked (d : Bool) (x : Tile F) : Tile F := cond d (select k0_pay127 x zeroT) x

/-- The scores of a tile. -/
def scores (q : FVec F S256x128 .bf16) (k : Vec F S256x128 .bf16) : Tile F :=
  matmul dot_S256x128_S256x128_S256x256_1_1_0_0_n_n none q (shapeCast S256x128 k shapeCasts_S256x128_S256x128) (constant S256x256 .f32 0x00000000#32)

/-- The logarithm of one minus the sigmoid. -/
def logNot (z : Tile F) : Tile F :=
  subf zeroT (addf (maximumf z zeroT) (log (addf (broadcast S256x256 (Scalar.ofBits .f32 0x3F800000#32 : F .f32)) (exp (subf zeroT (absf z))))))

/-- The logarithms of the later keys of the tile summed, with the carry of the later tiles. -/
def later (low : Vec F S256x256 .bf16) (l : Tile F) (c : Col F) : Tile F :=
  addf (matmul dot_S256x256_S256x256_S256x256_1_0_0_1_n_n none (truncf .bf16 l bitsLt_bf16_f32) low (constant S256x256 .f32 0x00000000#32))
    (broadcastTo S256x256 c broadcasts_S256x1_S256x256)

/-- The weights of a tile. -/
def weights (d : Bool) (low : Vec F S256x256 .bf16) (z : Tile F) (c : Col F) : Tile F :=
  masked d (exp (addf (addf z (logNot z)) (later low (masked d (logNot z)) c)))

/-- The carry with a tile's rows summed in. -/
def carry (c : Col F) (x : Tile F) : Col F :=
  addf c (shapeCast S256x1 (multiReduction .add [1] S256 x 0x00000000#32 reduces_S256x256_S256 (.inl rfl) rfl) shapeCasts_S256_S256x1)

/-- The weights times their gradients. -/
def gTile (d : Bool) (low : Vec F S256x256 .bf16) (z : Tile F) (c : Col F) (dh : FVec F S256x128 .bf16) (v : Vec F S256x128 .bf16) : FVec F S1x1x256x256 .f32 :=
  shapeCast S1x1x256x256 (mulf (matmul dot_S256x128_S256x128_S256x256_1_1_0_0_n_n none dh (shapeCast S256x128 v shapeCasts_S256x128_S256x128) (constant S256x256 .f32 0x00000000#32))
    (weights d low z c)) shapeCasts_S256x256_S1x1x256x256

/-- The sigmoids of the scores. -/
def bTile (z : Tile F) : FVec F S1x1x256x256 .f32 :=
  shapeCast S1x1x256x256 (exp (addf z (logNot z))) shapeCasts_S256x256_S1x1x256x256

/-- A tile transposed times the rows of one head, for both heads, added to what a tile of rows holds. -/
def addRows (t : Vec F S256x128 .f32) (xa xb : FVec F S256x256 .bf16) (ra rb : FVec F S256x128 .bf16) : FVec F S256x128 .f32 :=
  shapeCast S256x128 (addf t (addf (matmul dot_S256x256_S256x128_S256x128_0_0_1_1_n_n none xa ra (constant S256x128 .f32 0x00000000#32))
    (matmul dot_S256x256_S256x128_S256x128_0_0_1_1_n_n none xb rb (constant S256x128 .f32 0x00000000#32)))) shapeCasts_S256x128_S256x128

/-- What the way down carries: the values' gradient, the two slabs, and the two heads' carries. -/
structure Down (F : FTy → Type) [FloatOps F] where
  dv : Vec F S4096x128 .f32
  g : Slab F
  b : Slab F
  ca : Col F
  cb : Col F

/-- One tile of keys on the way down. -/
def down (x : Ctx F) (d : Bool) (j : ℕ) (s : Down F) : Down F where
  dv := putTile s.dv j (addRows (tileAt s.dv j) (truncf .bf16 (weights d x.low (scores x.qa (tileAt x.K j)) s.ca) bitsLt_bf16_f32)
    (truncf .bf16 (weights d x.low (scores x.qb (tileAt x.K j)) s.cb) bitsLt_bf16_f32) x.da x.db)
  g := putSlab (putSlab s.g 0 j (gTile d x.low (scores x.qa (tileAt x.K j)) s.ca x.da (tileAt x.V j))) 1 j
    (gTile d x.low (scores x.qb (tileAt x.K j)) s.cb x.db (tileAt x.V j))
  b := putSlab (putSlab s.b 0 j (bTile (scores x.qa (tileAt x.K j)))) 1 j (bTile (scores x.qb (tileAt x.K j)))
  ca := carry s.ca (masked d (logNot (scores x.qa (tileAt x.K j))))
  cb := carry s.cb (masked d (logNot (scores x.qb (tileAt x.K j))))

/-- Whether any weight to the left may still count: the word the loop tests. -/
def left (ca cb : Col F) : BitVec 32 :=
  Scalar.extui (Scalar.cmpf .ogt (extractAt ![0, 0, 0] (shapeCast S1x1x1 (multiReduction .maximumf [1, 2] S1
    (shapeCast S1x256x1 (maximumf ca cb) shapeCasts_S256x1_S1x256x1) 0xFF800000#32 reduces_S1x256x1_S1 (.inl rfl) rfl) shapeCasts_S1_S1x1x1) inpos_S1x1x1_p0_0_0 : F .f32)
    (Named.named κ "floor" 0xC2DC0000#32))

/-- The test of the loop on the way down, at tile count `n` and word `a`, of query tile `i`. -/
def more (i n : ℕ) (a : BitVec 32) : BitVec 1 :=
  Scalar.andi (Scalar.cmpi .sle (BitVec.ofNat 32 n) (BitVec.ofNat 32 i)) (Scalar.cmpi .sgt a 0#32)

/-- The loop on the way down with `k` trips at most to run, `n` tiles done: the count, the word and the state it ends with. -/
def downs (x : Ctx F) (i : ℕ) : ℕ → ℕ → BitVec 32 → Down F → ℕ × BitVec 32 × Down F
  | 0, n, a, s => (n, a, s)
  | k + 1, n, a, s => if more i n a = 1#1 then downs x i k (n + 1) (left (down x false (i - n) s).ca (down x false (i - n) s).cb) (down x false (i - n) s)
      else (n, a, s)

/-- What the way up carries: the keys' gradient, the two carries and the two heads' sums for the queries' gradient. -/
structure Up (F : FTy → Type) [FloatOps F] where
  dk : Vec F S4096x128 .f32
  ca : Col F
  cb : Col F
  ya : FVec F S256x128 .f32
  yb : FVec F S256x128 .f32

/-- The gradients of a tile's scores. -/
def dscores (d : Bool) (upp : Vec F S256x256 .bf16) (g b : Vec F S1x1x256x256 .f32) (c : Col F) : FVec F S256x256 .bf16 :=
  truncf .bf16 (masked d (subf (shapeCast S256x256 g shapeCasts_S1x1x256x256_S256x256) (mulf (shapeCast S256x256 b shapeCasts_S1x1x256x256_S256x256)
    (addf (shapeCast S256x256 g shapeCasts_S1x1x256x256_S256x256) (later upp (shapeCast S256x256 g shapeCasts_S1x1x256x256_S256x256) c))))) bitsLt_bf16_f32

/-- A tile times the keys, added. -/
def addCols (y : FVec F S256x128 .f32) (x : FVec F S256x256 .bf16) (k : Vec F S256x128 .bf16) : FVec F S256x128 .f32 :=
  addf y (matmul dot_S256x256_S256x128_S256x128_1_0_0_1_n_n none x (shapeCast S256x128 k shapeCasts_S256x128_S256x128) (constant S256x128 .f32 0x00000000#32))

/-- One tile of keys on the way up. -/
def up (x : Ctx F) (g b : Slab F) (d : Bool) (j : ℕ) (s : Up F) : Up F where
  dk := putTile s.dk j (addRows (tileAt s.dk j) (dscores d x.upp (slabAt g 0 j) (slabAt b 0 j) s.ca) (dscores d x.upp (slabAt g 1 j) (slabAt b 1 j) s.cb) x.qa x.qb)
  ca := carry s.ca (shapeCast S256x256 (slabAt g 0 j) shapeCasts_S1x1x256x256_S256x256)
  cb := carry s.cb (shapeCast S256x256 (slabAt g 1 j) shapeCasts_S1x1x256x256_S256x256)
  ya := addCols s.ya (dscores d x.upp (slabAt g 0 j) (slabAt b 0 j) s.ca) (tileAt x.K j)
  yb := addCols s.yb (dscores d x.upp (slabAt g 1 j) (slabAt b 1 j) s.cb) (tileAt x.K j)

/-- The way up over `k` tiles from tile `j₀`. -/
def ups (x : Ctx F) (g b : Slab F) (j₀ : ℕ) : ℕ → Up F → Up F
  | 0, s => s
  | k + 1, s => up x g b false (j₀ + k) (ups x g b j₀ k s)

/-- The zero carry. -/
def zeroC : Col F := k0_pay1 (Scalar.ofBits .f32 0x00000000#32)

/-- What a grid point reads. -/
def ctx (q : Vec F S256x128 .bf16) (K V : Vec F S4096x128 .bf16) (d : Vec F S256x128 .f32) (low upp : Vec F S256x256 .bf16) : Ctx F :=
  ⟨low, upp, k0_pay123 q, k0_pay124 q, k0_pay125 d, k0_pay126 d, K, V⟩

/-- The way down at query tile `i`: the diagonal tile, the one before it if there is one, then the loop. -/
def allDown (x : Ctx F) (i : ℕ) (dv : Vec F S4096x128 .f32) (g b : Slab F) : ℕ × BitVec 32 × Down F :=
  if 1 ≤ i then
    downs x i (i + 1 - 2) 2 (left (down x false (i - 1) (down x true i ⟨dv, g, b, zeroC, zeroC⟩)).ca (down x false (i - 1) (down x true i ⟨dv, g, b, zeroC, zeroC⟩)).cb)
      (down x false (i - 1) (down x true i ⟨dv, g, b, zeroC, zeroC⟩))
  else downs x i 0 2 0#32 (down x true i ⟨dv, g, b, zeroC, zeroC⟩)

/-- The way up at query tile `i` after `n` tiles down. -/
def allUp (x : Ctx F) (i n : ℕ) (g b : Slab F) (dk : Vec F S4096x128 .f32) : Up F :=
  if 1 ≤ i then up x g b true i (up x g b false (i - 1) (ups x g b (i + 1 - n) (n - 2) ⟨dk, zeroC, zeroC, k0_pay2, k0_pay2⟩))
  else up x g b true i ⟨dk, zeroC, zeroC, k0_pay2, k0_pay2⟩

/-- What a grid point of query tile `i` leaves: the queries' gradient, the keys', the values' and the two slabs. -/
def point (x : Ctx F) (i : ℕ) (dk dv : Vec F S4096x128 .f32) (g b : Slab F) :
    FVec F S256x128 .f32 × Vec F S4096x128 .f32 × Vec F S4096x128 .f32 × Slab F × Slab F :=
  let D := (allDown x i dv g b)
  let U := allUp x i D.1 D.2.2.g D.2.2.b dk
  (k0_pay24 k0_pay120 U.ya U.yb, U.dk, D.2.2.dv, D.2.2.g, D.2.2.b)

end Cert.Kernel2Ideal.Attn

end
-- ==== Proof.AttnLoop.lean ====
/-
  The loop on the way down of the attention gradient's kernel: one trip of it does to the buffers what `Attn.down` does
  to their values, and however the words it tests come out, it ends with what `Attn.downs` says.
-/
module

public import proofs.«01_k».proof.Proof.AttnStep
public import proofs.«01_k».proof.Proof.Gen.Kernel2Ideal.Launch
public import proofs.«01_k».proof.Proof.Gen.Kernel2Ideal.Points
public import Idealize.ShloMosaic.Lib.Exec
public import Idealize.ShloMosaic.Lib.Tactic
public import Idealize.ShloMosaic.Lib.Pipeline.Kit

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Counters and offsets -/

/-- The loop goes on only while tiles are left. -/
theorem le_of_more : ∀ i < 16, ∀ n < 32, ∀ a : BitVec 32, more i n a = 1#1 → n ≤ i := by
  intro i hi n hn a h
  by_contra hc
  have h0 : Scalar.cmpi .sle (BitVec.ofNat 32 n) (BitVec.ofNat 32 i) = 0#1 := by
    have : ∀ i < 16, ∀ n < 32, ¬ n ≤ i → Scalar.cmpi .sle (BitVec.ofNat 32 n) (BitVec.ofNat 32 i) = 0#1 := by decide +kernel
    exact this i hi n hn hc
  unfold more at h
  rw [h0] at h
  revert h
  generalize Scalar.cmpi .sgt a 0#32 = b
  revert b; decide

theorem chk1 : ∀ i : grid0.Coords, ∀ n < 16, n ≤ (i 1).val → k0_chk1 i (BitVec.ofNat 32 n) := by decide +kernel
theorem off10 : ∀ i : grid0.Coords, ∀ n < 16, n ≤ (i 1).val → k0_off10 i (BitVec.ofNat 32 n) = ![256 * ((i 1).val - n), 0] := by decide +kernel
theorem off11 : ∀ i : grid0.Coords, ∀ n < 16, n ≤ (i 1).val → k0_off11 i (BitVec.ofNat 32 n) = ![0, (i 1).val - n, 0, 0] := by decide +kernel
theorem off12 : ∀ i : grid0.Coords, ∀ n < 16, n ≤ (i 1).val → k0_off12 i (BitVec.ofNat 32 n) = ![1, (i 1).val - n, 0, 0] := by decide +kernel

/-! ## Loads -/

/-- A load of tile `j` reads tile `j` of what the view reads. -/
theorem ld_tile {e : EltTy} {sp : Space} (v : View sig .tc sp S4096x128 e) (f : v.ty.Contents (Elt F)) {X : Vec F S4096x128 e}
    {off : Fin 2 → ℕ} (inb : ∀ a, off a + S256x128.size a ≤ S4096x128.size a) {j : ℕ} (hf : v.read (Elt F) f = X) (h : off = ![256 * j, 0]) :
    v.readAt (Elt F) (Rect.unit (s := S4096x128) off S256x128.size inb).toLoadRect f = tileAt X j := by
  rw [View.readAt_unit v f inb h (h ▸ inb), hf]
  subst h
  funext y
  refine congrArg X (funext fun a => Fin.ext ?_)
  have h1 := inb a
  have h2 : (y a).val < S256x128.size a := (y a).isLt
  show ![256 * j, 0] a + 1 * (y a).val = (![256 * j, 0] a + (y a).val) % _
  rw [Nat.mod_eq_of_lt (by omega)]; omega

/-- A load of head `h`'s tile `j` reads that tile of what the view reads. -/
theorem ld_slab {sp : Space} (v : View sig .tc sp S2x16x256x256 .f32) (f : v.ty.Contents (Elt F)) {X : Slab F}
    {off : Fin 4 → ℕ} (inb : ∀ a, off a + S1x1x256x256.size a ≤ S2x16x256x256.size a) {h j : ℕ} (hf : v.read (Elt F) f = X) (ho : off = ![h, j, 0, 0]) :
    v.readAt (Elt F) (Rect.unit (s := S2x16x256x256) off S1x1x256x256.size inb).toLoadRect f = slabAt X h j := by
  rw [View.readAt_unit v f inb ho (ho ▸ inb), hf]
  subst ho
  funext y
  refine congrArg X (funext fun a => Fin.ext ?_)
  have h1 := inb a
  have h2 : (y a).val < S1x1x256x256.size a := (y a).isLt
  show ![h, j, 0, 0] a + 1 * (y a).val = (![h, j, 0, 0] a + (y a).val) % _
  rw [Nat.mod_eq_of_lt (by omega)]; omega

/-! ## The loop -/

section Label

variable (c : Dev nD) (i : grid0.Coords) (arg3 : Memref sig .tc .vmem S4096x128 .bf16) (harg3 : arg3.IsWhole) (arg4 : Memref sig .tc .vmem S4096x128 .bf16) (harg4 : arg4.IsWhole)
  (arg9 : Memref sig .tc .vmem S2x16x256x256 .f32) (harg9 : arg9.IsWhole) (arg10 : Memref sig .tc .vmem S2x16x256x256 .f32) (harg10 : arg10.IsWhole)
  (arg8 : Memref sig .tc .vmem S4096x128 .f32) (harg8 : arg8.IsWhole) (x : Ctx F)

/-- The variants: the trips still to run. -/
abbrev 𝒱₀ : Variants := Variants.nat

/-- What the loop holds: the keys and values it reads, and the slabs and the values' gradient it writes. -/
def held (g b : Slab F) (dv : Vec F S4096x128 .f32) : sProp 𝕄 :=
  iprop(owns (c : Thread nD τ) arg3 fullShare x.K ∗ owns (c : Thread nD τ) arg4 fullShare x.V ∗ owns (c : Thread nD τ) arg9 fullShare g
    ∗ owns (c : Thread nD τ) arg10 fullShare b ∗ owns (c : Thread nD τ) arg8 fullShare dv)

/-- What the loop returns. -/
def ret (r : ℕ × BitVec 32 × Down F) : BitVec 32 × BitVec 32 × FVec F S256x1 .f32 × FVec F S256x1 .f32 :=
  (BitVec.ofNat 32 r.1, r.2.1, r.2.2.ca, r.2.2.cb)

/-- The loop's specification with at most `k` trips to run. -/
def spec (k n : ℕ) (a : BitVec 32) (s : Down F) : sWPT 𝕄 (BitVec 32 × BitVec 32 × FVec F S256x1 .f32 × FVec F S256x1 .f32) := do
  sWPT.consume (held c arg3 arg4 arg9 arg10 arg8 x s.g s.b s.dv)
  sWPT.produce (held c arg3 arg4 arg9 arg10 arg8 x (downs x (i 1).val k n a s).2.2.g (downs x (i 1).val k n a s).2.2.b (downs x (i 1).val k n a s).2.2.dv)
  pure (ret (downs x (i 1).val k n a s))

theorem spec_apply (k n : ℕ) (a : BitVec 32) (s : Down F) (K : BitVec 32 × BitVec 32 × FVec F S256x1 .f32 × FVec F S256x1 .f32 → sProp 𝕄) :
    spec c i arg3 arg4 arg9 arg10 arg8 x k n a s K
      = iprop(held c arg3 arg4 arg9 arg10 arg8 x s.g s.b s.dv ∗ (held c arg3 arg4 arg9 arg10 arg8 x (downs x (i 1).val k n a s).2.2.g (downs x (i 1).val k n a s).2.2.b (downs x (i 1).val k n a s).2.2.dv
        -∗ K (ret (downs x (i 1).val k n a s)))) := rfl

set_option maxHeartbeats 4000000 in
/-- The loop's body meets its specification, by induction on the trips still to run. -/
theorem spec_le (E : Set ℕ) : ∀ k n, n + k = (i 1).val + 1 ∨ (k = 0 ∧ (i 1).val < n ∧ n < 32) → ∀ a s K,
    spec c i arg3 arg4 arg9 arg10 arg8 x k n a s K
      ⊢ wp frame (wpE (defs₀ (F := F)) 𝒱₀ (c : Thread nD τ) (some k)) E
        (defs₀ (F := F) .tc 1 ⟨i, arg3, harg3, arg4, harg4, x.qa, x.qb, x.low, x.da, x.db, arg9, harg9, arg10, harg10, arg8, harg8, BitVec.ofNat 32 n, a, s.ca, s.cb⟩) K := by
  have hi : (i 1).val < 16 := (i 1).isLt
  intro k
  induction k with
  | zero =>
    intro n hn a s K
    rw [spec_apply]
    show _ ⊢ wp frame (wpE (defs₀ (F := F)) 𝒱₀ (c : Thread nD τ) (some 0)) E
      (cc0_while1 i arg3 harg3 arg4 harg4 x.qa x.qb x.low x.da x.db arg9 harg9 arg10 harg10 arg8 harg8 (BitVec.ofNat 32 n) a s.ca s.cb) K
    unfold cc0_while1
    have htest : ¬Scalar.andi (Scalar.cmpi .sle (BitVec.ofNat 32 n) (BitVec.ofNat 32 (i 1).val)) (Scalar.cmpi .sgt a 0#32) = 1#1 := fun h => by
      have := le_of_more (i 1).val hi n (by omega) a h; omega
    simp only [htest, ↓reduceIte, Prog.pure_eq_ret]
    iintro ⟨H, Hk⟩
    rw [wp_ret]; imodintro
    unfold ret downs
    iapply Hk
    iexact H
  | succ k ih =>
    intro n hn a s K
    rw [spec_apply]
    show _ ⊢ wp frame (wpE (defs₀ (F := F)) 𝒱₀ (c : Thread nD τ) (some (k + 1))) E
      (cc0_while1 i arg3 harg3 arg4 harg4 x.qa x.qb x.low x.da x.db arg9 harg9 arg10 harg10 arg8 harg8 (BitVec.ofNat 32 n) a s.ca s.cb) K
    simp only [cc0_while1_eq_skeleton]; unfold cc0_while1_skel
    by_cases htest : more (i 1).val n a = 1#1
    · have hle : n ≤ (i 1).val := le_of_more (i 1).val hi n (by omega) a htest
      have e : downs x (i 1).val (k + 1) n a s = downs x (i 1).val k (n + 1) (left (down x false ((i 1).val - n) s).ca (down x false ((i 1).val - n) s).cb) (down x false ((i 1).val - n) s) := by
        rw [downs, if_pos htest]
      rw [e]
      unfold more at htest
      simp only [htest, ↓reduceIte]
      unfold held owns
      iintro ⟨⟨⟨%f3, %h3, H3⟩, ⟨%f4, %h4, H4⟩, ⟨%f9, %h9, H9⟩, ⟨%f10, %h10, H10⟩, ⟨%f8, %h8, H8⟩⟩, Hk⟩
      have hchk := chk1 i n (by omega) hle
      letI : ClosedOff (k0_off11 i (BitVec.ofNat 32 n)) := ⟨![0, (i 1).val - n, 0, 0], off11 i n (by omega) hle⟩
      letI : ClosedOff (k0_off12 i (BitVec.ofNat 32 n)) := ⟨![1, (i 1).val - n, 0, 0], off12 i n (by omega) hle⟩
      letI : ClosedOff (k0_off10 i (BitVec.ofNat 32 n)) := ⟨![256 * ((i 1).val - n), 0], off10 i n (by omega) hle⟩
      sl_exec (disch := first | sl_exact hchk)
      have t3 := ld_tile arg3.view f3 (k0_off10_inb i (BitVec.ofNat 32 n) hchk) h3 (off10 i n (by omega) hle)
      have t4 := ld_tile arg4.view f4 (k0_off10_inb i (BitVec.ofNat 32 n) hchk) h4 (off10 i n (by omega) hle)
      have t8 := ld_tile arg8.view f8 (k0_off10_inb i (BitVec.ofNat 32 n) hchk) h8 (off10 i n (by omega) hle)
      have ea : k0_pay26 s.ca (spec_le.sl.v88 c i arg3 x n f3 hchk) = (down x false ((i 1).val - n) s).ca := by
        unfold down; dsimp only; rw [← t3]; rfl
      have eb : k0_pay27 s.cb (spec_le.sl.v100 c i arg3 x n f3 hchk) = (down x false ((i 1).val - n) s).cb := by
        unfold down; dsimp only; rw [← t3]; rfl
      have ew : Scalar.extui (Scalar.cmpf .ogt (k0_pay28 s.ca s.cb (spec_le.sl.v88 c i arg3 x n f3 hchk) (spec_le.sl.v100 c i arg3 x n f3 hchk))
          (Named.named κ "floor" 3269197824#32 : F .f32)) = left (down x false ((i 1).val - n) s).ca (down x false ((i 1).val - n) s).cb := by
        rw [← ea, ← eb]; rfl
      have hadd : Scalar.addi (BitVec.ofNat 32 n) 1#32 = BitVec.ofNat 32 (n + 1) := by
        have : ∀ n < 16, Scalar.addi (BitVec.ofNat 32 n) 1#32 = BitVec.ofNat 32 (n + 1) := by decide
        exact this n (by omega)
      rw [ew, ea, eb, hadd]
      iapply (wp_call_spec 𝒱₀ (c : Thread nD τ) (some (k + 1)) E (spec c i arg3 arg4 arg9 arg10 arg8 x k (n + 1) _ (down x false ((i 1).val - n) s)) k
        (fun u hu => by cases hu; exact Nat.lt_succ_self k) (ih (n + 1) (by omega) _ (down x false ((i 1).val - n) s)))
      rw [spec_apply]; unfold held owns
      isplitl [H3 H4 H9 H10 H8]
      · isplitl [H3]
        · iexists f3; isplitr; · ipureintro; exact h3
          iexact H3
        isplitl [H4]
        · iexists f4; isplitr; · ipureintro; exact h4
          iexact H4
        isplitl [H9]
        · iexists _; isplitr; swap; · iexact H9
          ipureintro
          refine (View.read_writes_cons_put _ _ _ _ _ (off12 i n (by omega) hle)).trans ?_
          rw [View.read_writes_cons_put _ _ _ _ _ (off11 i n (by omega) hle), View.writes_nil, h9]
          unfold down; dsimp only; rw [← t3, ← t4]; rfl
        isplitl [H10]
        · iexists _; isplitr; swap; · iexact H10
          ipureintro
          refine (View.read_writes_cons_put _ _ _ _ _ (off12 i n (by omega) hle)).trans ?_
          rw [View.read_writes_cons_put _ _ _ _ _ (off11 i n (by omega) hle), View.writes_nil, h10]
          unfold down; dsimp only; rw [← t3]; rfl
        · iexists _; isplitr; swap; · iexact H8
          ipureintro
          refine (View.read_writes_cons_put _ _ _ _ _ (off10 i n (by omega) hle)).trans ?_
          rw [View.writes_nil, h8]
          unfold down; dsimp only; rw [← t3, ← t8]; rfl
      · iintro H; rw [wp_ret]; imodintro; iapply Hk; iexact H
    · have e : downs x (i 1).val (k + 1) n a s = (n, a, s) := by rw [downs, if_neg htest]
      rw [e]
      unfold more at htest
      simp only [htest, ↓reduceIte, Prog.pure_eq_ret]
      iintro ⟨H, Hk⟩
      rw [wp_ret]; imodintro
      unfold ret
      iapply Hk
      iexact H

end Label

end Cert.Kernel2Ideal.Attn

end
-- ==== Proof.AttnSlabs.lean ====
/-
  What the attention gradient's kernel finds in its two slabs on the way up: the tiles it wrote on the way down at the
  same grid point, and nothing older. So what a grid point leaves in the three results does not depend on what the slabs
  held before it.
-/
module

public import proofs.«01_k».proof.Proof.AttnStep

@[expose] public section

set_option maxRecDepth 16384

noncomputable section

namespace Cert.Kernel2Ideal.Attn

open Idealize.ShloMosaic Cert.Kernel2Ideal Cert.Kernel2Ideal.Gen

variable {F : FTy → Type} [FloatOps F] [Named F]

/-- A head's tile of a slab in which a head's tile has been replaced. -/
theorem slabAt_putSlab (G : Slab F) (h j h' j' : ℕ) (hh : h < 2) (hj : j < 16) (hh' : h' < 2) (hj' : j' < 16) (w : FVec F S1x1x256x256 .f32) :
    slabAt (putSlab G h j w) h' j' = if h = h' ∧ j = j' then w else slabAt G h' j' := by
  funext y
  have h0 : (y 0).val < 1 := (y 0).isLt
  have h1 : (y 1).val < 1 := (y 1).isLt
  have h2 : (y 2).val < 256 := (y 2).isLt
  have h3 : (y 3).val < 256 := (y 3).isLt
  unfold slabAt putSlab VecWindow.put
  by_cases e : h = h' ∧ j = j'
  · obtain ⟨rfl, rfl⟩ := e
    rw [if_pos ⟨rfl, rfl⟩, dif_pos]
    · refine congrArg w (funext fun a => Fin.ext ?_)
      fin_cases a
      · show (h + (y 0).val) % 2 - h = (y 0).val; omega
      · show (j + (y 1).val) % 16 - j = (y 1).val; omega
      · show (0 + (y 2).val) % 256 - 0 = (y 2).val; omega
      · show (0 + (y 3).val) % 256 - 0 = (y 3).val; omega
    · intro a
      fin_cases a
      · show h ≤ (h + (y 0).val) % 2 ∧ (h + (y 0).val) % 2 < h + 1; omega
      · show j ≤ (j + (y 1).val) % 16 ∧ (j + (y 1).val) % 16 < j + 1; omega
      · show 0 ≤ (0 + (y 2).val) % 256 ∧ (0 + (y 2).val) % 256 < 0 + 256; omega
      · show 0 ≤ (0 + (y 3).val) % 256 ∧ (0 + (y 3).val) % 256 < 0 + 256; omega
  · rw [if_neg e, dif_neg]
    intro hall
    have a0 : h ≤ (h' + (y 0).val) % 2 ∧ (h' + (y 0).val) % 2 < h + 1 := hall 0
    have a1 : j ≤ (j' + (y 1).val) % 16 ∧ (j' + (y 1).val) % 16 < j + 1 := hall 1
    exact e (by omega)

/-- A head's carry before the `r`-th tile down from query tile `i`. -/
def car (x : Ctx F) (q : FVec F S256x128 .bf16) (i : ℕ) : ℕ → Col F
  | 0 => zeroC
  | r + 1 => carry (car x q i r) (masked (decide (r = 0)) (logNot (scores q (tileAt x.K (i - r)))))

/-- A head's weights of the `r`-th tile down. -/
def wAt (x : Ctx F) (q : FVec F S256x128 .bf16) (i r : ℕ) : Tile F :=
  weights (decide (r = 0)) x.low (scores q (tileAt x.K (i - r))) (car x q i r)

/-- A head's weights of the `r`-th tile down, times their gradients. -/
def gAt (x : Ctx F) (q d : FVec F S256x128 .bf16) (i r : ℕ) : FVec F S1x1x256x256 .f32 :=
  gTile (decide (r = 0)) x.low (scores q (tileAt x.K (i - r))) (car x q i r) d (tileAt x.V (i - r))

/-- A head's sigmoids of the `r`-th tile down. -/
def bAt (x : Ctx F) (q : FVec F S256x128 .bf16) (i r : ℕ) : FVec F S1x1x256x256 .f32 :=
  bTile (scores q (tileAt x.K (i - r)))

/-- The values' gradient after `r` tiles down. -/
def dvs (x : Ctx F) (i : ℕ) (dv : Vec F S4096x128 .f32) : ℕ → Vec F S4096x128 .f32
  | 0 => dv
  | r + 1 => putTile (dvs x i dv r) (i - r) (addRows (tileAt (dvs x i dv r) (i - r)) (truncf .bf16 (wAt x x.qa i r) bitsLt_bf16_f32)
      (truncf .bf16 (wAt x x.qb i r) bitsLt_bf16_f32) x.da x.db)

/-- The state after `n` tiles down from query tile `i`. -/
structure Good (x : Ctx F) (i : ℕ) (dv : Vec F S4096x128 .f32) (n : ℕ) (s : Down F) : Prop where
  dv : s.dv = dvs x i dv n
  ca : s.ca = car x x.qa i n
  cb : s.cb = car x x.qb i n
  ga : ∀ r < n, slabAt s.g 0 (i - r) = gAt x x.qa x.da i r
  gb : ∀ r < n, slabAt s.g 1 (i - r) = gAt x x.qb x.db i r
  ba : ∀ r < n, slabAt s.b 0 (i - r) = bAt x x.qa i r
  bb : ∀ r < n, slabAt s.b 1 (i - r) = bAt x x.qb i r

theorem good_zero (x : Ctx F) (i : ℕ) (dv : Vec F S4096x128 .f32) (g b : Slab F) : Good x i dv 0 ⟨dv, g, b, zeroC, zeroC⟩ :=
  ⟨rfl, rfl, rfl, fun _ h => absurd h (Nat.not_lt_zero _), fun _ h => absurd h (Nat.not_lt_zero _), fun _ h => absurd h (Nat.not_lt_zero _),
    fun _ h => absurd h (Nat.not_lt_zero _)⟩

/-- One more tile down. -/
theorem good_down (x : Ctx F) (i : ℕ) (hi : i < 16) (dv : Vec F S4096x128 .f32) (n : ℕ) (hn : n ≤ i) (s : Down F) (h : Good x i dv n s) :
    Good x i dv (n + 1) (down x (decide (n = 0)) (i - n) s) := by
  obtain ⟨h1, h2, h3, h4, h5, h6, h7⟩ := h
  have key : ∀ {G : Slab F} {u v : FVec F S1x1x256x256 .f32} {P : ℕ → FVec F S1x1x256x256 .f32} (a : ℕ), a < 2 →
      (∀ r < n, slabAt G a (i - r) = P r) → (P n = if a = 0 then u else v) →
      ∀ r < n + 1, slabAt (putSlab (putSlab G 0 (i - n) u) 1 (i - n) v) a (i - r) = P r := by
    intro G u v P a ha hG hP r hr
    rw [slabAt_putSlab _ _ _ _ _ (by omega) (by omega) ha (by omega), slabAt_putSlab _ _ _ _ _ (by omega) (by omega) ha (by omega)]
    rcases Nat.lt_succ_iff_lt_or_eq.mp hr with hr | rfl
    · rw [if_neg (by omega), if_neg (by omega), hG r hr]
    · rw [hP]
      have : a = 0 ∨ a = 1 := by omega
      rcases this with rfl | rfl <;> simp
  refine ⟨?_, ?_, ?_, key 0 (by omega) h4 ?_, key 1 (by omega) h5 ?_, key 0 (by omega) h6 ?_, key 1 (by omega) h7 ?_⟩
  · show putTile s.dv _ _ = _
    rw [h1, h2, h3]; rfl
  · show carry s.ca _ = _
    rw [h2]; rfl
  · show carry s.cb _ = _
    rw [h3]; rfl
  · rw [if_pos rfl, h2]; rfl
  · rw [if_neg (by omega), h3]; rfl
  · rw [if_pos rfl]; rfl
  · rw [if_neg (by omega)]; rfl

/-- The loop on the way down keeps it, and its count depends on nothing else. -/
theorem good_downs (x : Ctx F) (i : ℕ) (hi : i < 16) (dv : Vec F S4096x128 .f32) : ∀ k n, n + k ≤ i + 1 → 1 ≤ n → ∀ a s s', Good x i dv n s → Good x i dv n s' →
    Good x i dv (downs x i k n a s).1 (downs x i k n a s).2.2 ∧ Good x i dv (downs x i k n a s).1 (downs x i k n a s').2.2
      ∧ (downs x i k n a s').1 = (downs x i k n a s).1 := by
  intro k
  induction k with
  | zero => intro n _ _ a s s' h h'; exact ⟨h, h', rfl⟩
  | succ k ih =>
    intro n hn h1 a s s' h h'
    unfold downs
    have g1 := good_down x i hi dv n (by omega) s h
    have g2 := good_down x i hi dv n (by omega) s' h'
    rw [decide_eq_false (by omega)] at g1 g2
    split
    · rw [g1.ca, g1.cb, g2.ca, g2.cb]
      exact ih (n + 1) (by omega) (by omega) _ _ _ g1 g2
    · exact ⟨h, h', rfl⟩

/-- The number of tiles a way down visits. -/
abbrev tiles (x : Ctx F) (i : ℕ) (dv : Vec F S4096x128 .f32) (g b : Slab F) : ℕ := if 1 ≤ i then (allDown x i dv g b).1 else 1

/-- What the whole way down leaves, whatever the slabs held before. -/
theorem good_allDown (x : Ctx F) (i : ℕ) (hi : i < 16) (dv : Vec F S4096x128 .f32) (g b g' b' : Slab F) :
    Good x i dv (tiles x i dv g b) (allDown x i dv g b).2.2 ∧ Good x i dv (tiles x i dv g b) (allDown x i dv g' b').2.2
      ∧ (allDown x i dv g' b').1 = (allDown x i dv g b).1 := by
  have a1 := good_down x i hi dv 0 (by omega) _ (good_zero x i dv g b)
  have a2 := good_down x i hi dv 0 (by omega) _ (good_zero x i dv g' b')
  rw [decide_eq_true rfl, Nat.sub_zero] at a1 a2
  unfold tiles allDown
  by_cases h : 1 ≤ i
  · simp only [if_pos h]
    have b1 := good_down x i hi dv 1 h _ a1
    have b2 := good_down x i hi dv 1 h _ a2
    rw [decide_eq_false (by omega)] at b1 b2
    rw [b1.ca, b1.cb, b2.ca, b2.cb]
    exact good_downs x i hi dv (i + 1 - 2) 2 (by omega) (by omega) _ _ _ b1 b2
  · simp only [if_neg h]
    exact ⟨a1, a2, rfl⟩

/-- The slabs agree at tile `j`. -/
def Same (g b g' b' : Slab F) (j : ℕ) : Prop :=
  slabAt g 0 j = slabAt g' 0 j ∧ slabAt g 1 j = slabAt g' 1 j ∧ slabAt b 0 j = slabAt b' 0 j ∧ slabAt b 1 j = slabAt b' 1 j

theorem up_congr (x : Ctx F) {g b g' b' : Slab F} (d : Bool) (j : ℕ) (s : Up F) (h : Same g b g' b' j) : up x g b d j s = up x g' b' d j s := by
  obtain ⟨h1, h2, h3, h4⟩ := h
  unfold up
  rw [h1, h2, h3, h4]

theorem ups_congr (x : Ctx F) {g b g' b' : Slab F} (j₀ : ℕ) (s : Up F) : ∀ k, (∀ r < k, Same g b g' b' (j₀ + r)) → ups x g b j₀ k s = ups x g' b' j₀ k s := by
  intro k
  induction k with
  | zero => intro _; rfl
  | succ k ih =>
    intro h
    unfold ups
    rw [ih fun r hr => h r (by omega), up_congr x false _ _ (h k (by omega))]

/-- The way up reads only the tiles the way down visited. -/
theorem allUp_congr (x : Ctx F) (i n : ℕ) {g b g' b' : Slab F} (dk : Vec F S4096x128 .f32) (hn : 1 ≤ i → 2 ≤ n ∧ n ≤ i + 1)
    (h : ∀ r < if 1 ≤ i then n else 1, Same g b g' b' (i - r)) : allUp x i n g b dk = allUp x i n g' b' dk := by
  unfold allUp
  by_cases hi : 1 ≤ i
  · have := hn hi
    simp only [if_pos hi] at h ⊢
    rw [ups_congr x (g' := g') (b' := b') _ _ _ fun r hr => by have := h (n - 1 - r) (by omega); rwa [show i - (n - 1 - r) = i + 1 - n + r by omega] at this,
      up_congr x false (i - 1) _ (h 1 (by omega)), up_congr x true i _ (h 0 (by omega))]
  · simp only [if_neg hi] at h ⊢
    exact up_congr x true i _ (h 0 (by omega))

/-- The count the way down ends with. -/
theorem allDown_count (x : Ctx F) (i : ℕ) (h : 1 ≤ i) (dv : Vec F S4096x128 .f32) (g b : Slab F) : 2 ≤ (allDown x i dv g b).1 ∧ (allDown x i dv g b).1 ≤ i + 1 := by
  have key : ∀ k n, n + k = i + 1 → 2 ≤ n → ∀ a s, 2 ≤ (downs x i k n a s).1 ∧ (downs x i k n a s).1 ≤ i + 1 := by
    intro k
    induction k with
    | zero => intro n hn h2 a s; unfold downs; dsimp only; omega
    | succ k ih =>
      intro n hn h2 a s
      unfold downs
      split
      · exact ih _ (by omega) (by omega) _ _
      · dsimp only; omega
  unfold allDown
  rw [if_pos h]
  exact key _ _ (by omega) (by omega) _ _

/-- What a grid point leaves in the results does not depend on what the slabs held. -/
theorem point_congr (x : Ctx F) (i : ℕ) (hi : i < 16) (dk dv : Vec F S4096x128 .f32) (g b g' b' : Slab F) :
    (point x i dk dv g b).1 = (point x i dk dv g' b').1 ∧ (point x i dk dv g b).2.1 = (point x i dk dv g' b').2.1
      ∧ (point x i dk dv g b).2.2.1 = (point x i dk dv g' b').2.2.1 := by
  obtain ⟨h1, h2, h3⟩ := good_allDown x i hi dv g b g' b'
  have e : allUp x i (allDown x i dv g b).1 (allDown x i dv g b).2.2.g (allDown x i dv g b).2.2.b dk
      = allUp x i (allDown x i dv g' b').1 (allDown x i dv g' b').2.2.g (allDown x i dv g' b').2.2.b dk := by
    rw [h3]
    refine allUp_congr x i _ dk (fun h => allDown_count x i h dv g b) fun r hr => ?_
    exact ⟨(h1.ga r hr).trans (h2.ga r hr).symm, (h1.gb r hr).trans (h2.gb r hr).symm, (h1.ba r hr).trans (h2.ba r hr).symm, (h1.bb r hr).trans (h2.bb r hr).symm⟩
  unfold point
  dsimp only
  rw [e, h1.dv, h2.dv]
  exact ⟨rfl, rfl, rfl⟩

end Cert.Kernel2Ideal.Attn

end
-- ==== Proof.AttnRun.lean ====
/-
  The run of the attention gradient's program: its 64 grid points one after another, what its three results hold after
  each, and what the body is called with and returns.
-/
module

public import proofs.«01_k».proof.Proof.AttnLoop
public import proofs.«01_k».proof.Proof.AttnSlabs
public import proofs.«01_k».proof.Proof.Gen.Kernel2Ideal.Launch
public import proofs.«01_k».proof.Proof.Gen.Kernel2Ideal.Points
public import Idealize.ShloMosaic.Lib.Pipeline.FrameBody
public import Idealize.ShloMosaic.Lib.Claim

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the kernel -/

/-- A device's buffers after the host's operations. -/
abbrev entry (c : Dev nD) (b : Ref sig .tc) : Buf (Elt F) ((c : Thread nD τ).loc b) :=
  StableHlo.after (List.flatten [hostOps0]) (fun b => m (c, b)) b

theorem host_fresh : (hostOps0 : List (HloOp τ sig (Elt F))).Forall fun op => op.fresh = ∅ := by
  simp only [List.Forall]; repeat' constructor

theorem host_main : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (by simp only [List.Forall]; exact hostOps0_sub)
    (by simp only [List.Forall]; exact host_fresh) main_chain

/-- No operation of the host writes an argument. -/
theorem entry_arg (c : Dev nD) (b : Ref sig .tc) (hb : b ∈ [main_arg0, main_arg1, main_arg2, main_arg3]) : entry m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nullary_writes, StableHlo.unary_writes,
      StableHlo.binary_writes, StableHlo.reshape_writes, Finset.mem_singleton]
    simp only [List.mem_cons, List.not_mem_nil, _root_.or_false] at hb
    rcases hb with rfl | rfl | rfl | rfl
    all_goals repeat' apply And.intro
    all_goals exact StableHlo.devRef_ne_of_ne (by decide)))

/-! ## The blocks -/

/-- Window `w`'s block at point `t`. -/
def blk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (entry m c (Pipeline.arrRef spec0 w))

/-! An input's buffer holds its block at every point. -/

theorem before0_of {c : Dev nD} (dat : Dat τ (Elt F) Unit ℕ (UR sig nD τ) ℕ (cfg0 (F := F)) c) (hA : dat.A 0 = entry m c (Pipeline.arrRef spec0 0))
    (hafter : ∀ t, dat.after 0 t = blk m c 0 t) (t : Fin (cfg0 (F := F)).N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before1_of {c : Dev nD} (dat : Dat τ (Elt F) Unit ℕ (UR sig nD τ) ℕ (cfg0 (F := F)) c) (hA : dat.A 1 = entry m c (Pipeline.arrRef spec0 1))
    (hafter : ∀ t, dat.after 1 t = blk m c 1 t) (t : Fin (cfg0 (F := F)).N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before2_of {c : Dev nD} (dat : Dat τ (Elt F) Unit ℕ (UR sig nD τ) ℕ (cfg0 (F := F)) c) (hA : dat.A 2 = entry m c (Pipeline.arrRef spec0 2))
    (hafter : ∀ t, dat.after 2 t = blk m c 2 t) (t : Fin (cfg0 (F := F)).N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before3_of {c : Dev nD} (dat : Dat τ (Elt F) Unit ℕ (UR sig nD τ) ℕ (cfg0 (F := F)) c) (hA : dat.A 3 = entry m c (Pipeline.arrRef spec0 3))
    (hafter : ∀ t, dat.after 3 t = blk m c 3 t) (t : Fin (cfg0 (F := F)).N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- What point `t` reads. -/
def ctxAt (c : Dev nD) (t : Fin (cfg0 (F := F)).N) : Ctx F :=
  ctx (blk m c 0 t) (blk m c 1 t) (blk m c 2 t) (blk m c 3 t) k0_pay116 k0_pay117

/-- A slab of zeros: the contents of the two slabs do not matter, so any will do. -/
def slab0 : Slab F := constant S2x16x256x256 .f32 0x00000000#32

/-- What point `t` leaves in the results over what it finds in the last two. -/
def step (c : Dev nD) (t : Fin (cfg0 (F := F)).N) (dk dv : Vec F S4096x128 .f32) : Vec F S256x128 .f32 × Vec F S4096x128 .f32 × Vec F S4096x128 .f32 :=
  ((point (ctxAt m c t) (t.val % 16) dk dv slab0 slab0).1, (point (ctxAt m c t) (t.val % 16) dk dv slab0 slab0).2.1, (point (ctxAt m c t) (t.val % 16) dk dv slab0 slab0).2.2.1)

/-- What the results hold after point `n`: the last two start from zero at a head pair's first query tile. -/
def outs (c : Dev nD) : (n : ℕ) → n < (cfg0 (F := F)).N → Vec F S256x128 .f32 × Vec F S4096x128 .f32 × Vec F S4096x128 .f32
  | 0, h => step m c ⟨0, h⟩ k0_pay118 k0_pay119
  | n + 1, h => if (n + 1) % 16 = 0 then step m c ⟨n + 1, h⟩ k0_pay118 k0_pay119
      else step m c ⟨n + 1, h⟩ (outs c n (Nat.lt_of_succ_lt h)).2.1 (outs c n (Nat.lt_of_succ_lt h)).2.2

theorem outs_top (c : Dev nD) (t : Fin (cfg0 (F := F)).N) (h : t.val % 16 = 0) : outs m c t.val t.isLt = step m c t k0_pay118 k0_pay119 := by
  obtain ⟨n, hn⟩ := t
  cases n with
  | zero => rfl
  | succ n => exact if_pos h

theorem outs_below (c : Dev nD) (t : Fin (cfg0 (F := F)).N) (h : ¬ t.val % 16 = 0) :
    outs m c t.val t.isLt = step m c t (outs m c (t.val - 1) (Nat.lt_of_le_of_lt (Nat.sub_le _ _) t.isLt)).2.1
      (outs m c (t.val - 1) (Nat.lt_of_le_of_lt (Nat.sub_le _ _) t.isLt)).2.2 := by
  obtain ⟨n, hn⟩ := t
  cases n with
  | zero => exact absurd (Nat.zero_mod _) h
  | succ n => exact if_neg h

/-- What the kernel keeps between points: the slabs at any contents, and the two triangular tables once the first point has written them. -/
def kept (c : Dev nD) (n : ℕ) : sProp 𝕄 :=
  iprop(∃ (g b : Slab F) (lw uw : Vec F S256x256 .bf16), ⌜n ≠ 0 → lw = k0_pay116 ∧ uw = k0_pay117⌝
    ∗ owns (c : Thread nD τ) (Memref.whole cc0_scratch0 : Memref sig .tc .vmem S2x16x256x256 .f32) fullShare g
    ∗ owns (c : Thread nD τ) (Memref.whole cc0_scratch1 : Memref sig .tc .vmem S2x16x256x256 .f32) fullShare b
    ∗ owns (c : Thread nD τ) (Memref.whole cc0_scratch2 : Memref sig .tc .vmem S256x256 .bf16) fullShare lw
    ∗ owns (c : Thread nD τ) (Memref.whole cc0_scratch3 : Memref sig .tc .vmem S256x256 .bf16) fullShare uw
    ∗ ∃ r, prngReg c r)

/-- The pipeline's proof data. -/
def dats (_ : Fin 1) (c : Dev nD) : Dat τ (Elt F) Unit ℕ (UR sig nD τ) ℕ (cfg0 (F := F)) c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => (outs m c t.val t.isLt).1
    | ⟨5, _⟩ => (outs m c t.val t.isLt).2.1
    | ⟨6, _⟩ => (outs m c t.val t.isLt).2.2
  Φ t := kept c t.val
  q _ := fullShare
  owed _ := 0

theorem A_eq (c : Dev nD) (w : Fin (cfg0 (F := F)).W) : (dats m 0 c).A w = entry m c (Pipeline.arrRef spec0 w) := by
  dsimp only [dats]

theorem after0 (c : Dev nD) (t : Fin (cfg0 (F := F)).N) : (dats m 0 c).after 0 t = blk m c 0 t := rfl
theorem after1 (c : Dev nD) (t : Fin (cfg0 (F := F)).N) : (dats m 0 c).after 1 t = blk m c 1 t := rfl
theorem after2 (c : Dev nD) (t : Fin (cfg0 (F := F)).N) : (dats m 0 c).after 2 t = blk m c 2 t := rfl
theorem after3 (c : Dev nD) (t : Fin (cfg0 (F := F)).N) : (dats m 0 c).after 3 t = blk m c 3 t := rfl
theorem after4 (c : Dev nD) (t : Fin (cfg0 (F := F)).N) : (dats m 0 c).after 4 t = (outs m c t.val t.isLt).1 := rfl
theorem after5 (c : Dev nD) (t : Fin (cfg0 (F := F)).N) : (dats m 0 c).after 5 t = (outs m c t.val t.isLt).2.1 := rfl
theorem after6 (c : Dev nD) (t : Fin (cfg0 (F := F)).N) : (dats m 0 c).after 6 t = (outs m c t.val t.isLt).2.2 := rfl

theorem before0 (c : Dev nD) (t : Fin (cfg0 (F := F)).N) (d) : (dats m 0 c).before 0 t d = blk m c 0 t :=
  before0_of m (dats m 0 c) (A_eq m c 0) (after0 m c) t d
theorem before1 (c : Dev nD) (t : Fin (cfg0 (F := F)).N) (d) : (dats m 0 c).before 1 t d = blk m c 1 t :=
  before1_of m (dats m 0 c) (A_eq m c 1) (after1 m c) t d
theorem before2 (c : Dev nD) (t : Fin (cfg0 (F := F)).N) (d) : (dats m 0 c).before 2 t d = blk m c 2 t :=
  before2_of m (dats m 0 c) (A_eq m c 2) (after2 m c) t d
theorem before3 (c : Dev nD) (t : Fin (cfg0 (F := F)).N) (d) : (dats m 0 c).before 3 t d = blk m c 3 t :=
  before3_of m (dats m 0 c) (A_eq m c 3) (after3 m c) t d

/-- Below a head pair's first query tile the keys' and the values' gradients are found as the point before left them. -/
theorem before5 (c : Dev nD) (t : Fin (cfg0 (F := F)).N) (h : ¬ t.val % 16 = 0) (d) :
    (dats m 0 c).before 5 t d = (outs m c (t.val - 1) (Nat.lt_of_le_of_lt (Nat.sub_le _ _) t.isLt)).2.1 := by
  have hN : t.val < 64 := lt_of_lt_of_eq t.isLt (show (cfg0 (F := F)).N = 64 from N_0)
  rw [Dat.before_out_kept _ 5 rfl t (by omega) (Bool.eq_false_iff.mpr fun h => by have := (flush0_5 _).mp h; dsimp only at this; omega)
    (fun _ => rfl) (fun _ _ => rfl)]
  rfl
theorem before6 (c : Dev nD) (t : Fin (cfg0 (F := F)).N) (h : ¬ t.val % 16 = 0) (d) :
    (dats m 0 c).before 6 t d = (outs m c (t.val - 1) (Nat.lt_of_le_of_lt (Nat.sub_le _ _) t.isLt)).2.2 := by
  have hN : t.val < 64 := lt_of_lt_of_eq t.isLt (show (cfg0 (F := F)).N = 64 from N_0)
  rw [Dat.before_out_kept _ 6 rfl t (by omega) (Bool.eq_false_iff.mpr fun h => by have := (flush0_6 _).mp h; dsimp only at this; omega)
    (fun _ => rfl) (fun _ _ => rfl)]
  rfl

/-! ## One point -/

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d))
    ∗ (∃ d, owns (c : Thread nD τ) (st0_5 (F := F) t) fullShare ((dats m 0 c).before 5 t d))
    ∗ (∃ d, owns (c : Thread nD τ) (st0_6 (F := F) t) fullShare ((dats m 0 c).before 6 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t)
    ∗ owns (c : Thread nD τ) (st0_4 (F := F) t) fullShare ((dats m 0 c).after 4 t)
    ∗ owns (c : Thread nD τ) (st0_5 (F := F) t) fullShare ((dats m 0 c).after 5 t)
    ∗ owns (c : Thread nD τ) (st0_6 (F := F) t) fullShare ((dats m 0 c).after 6 t))

theorem coord_pair (t : Fin grid0.N) : (grid0.coords t 0).val = t.val / 16 % 4 := Pipeline.Grid.coords_val t 0 (by decide) rfl
theorem coord_tile (t : Fin grid0.N) : (grid0.coords t 1).val = t.val / 1 % 16 := Pipeline.Grid.coords_val t 1 (by decide) rfl

end Cert.Kernel2Ideal.Attn

end
-- ==== Proof.AttnUp.lean ====
/-
  The counted loop on the way up of the attention gradient's kernel: one trip of it does to the buffers what `Attn.up`
  does to their values.
-/
module

public import proofs.«01_k».proof.Proof.AttnLoop

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Counters and offsets -/

/-- The tile counts the loop on the way down can end with. -/
abbrev Ends (i n : ℕ) : Prop := 2 ≤ n ∧ (n ≤ i + 1 ∨ n = 2)

theorem chk2 : ∀ i : grid0.Coords, ∀ n < 18, Ends (i 1).val n → k0_chk2 i (BitVec.ofNat 32 n) := by decide +kernel
theorem trips1 : ∀ i : grid0.Coords, ∀ n < 18, Ends (i 1).val n → (k0_t1_loop i (BitVec.ofNat 32 n)).trips = n - 2 := by decide +kernel
theorem trips2 : ∀ i : grid0.Coords, ∀ n < 18, Ends (i 1).val n → (k0_t2_loop i (BitVec.ofNat 32 n)).trips = 0 := by decide +kernel
theorem off13 : ∀ i : grid0.Coords, ∀ n < 18, Ends (i 1).val n → ∀ k : Fin (k0_t1_loop i (BitVec.ofNat 32 n)).trips,
    k0_off13 i (BitVec.ofNat 32 n) k = ![256 * ((i 1).val + 1 - n + k.val), 0] := by decide +kernel
theorem off14 : ∀ i : grid0.Coords, ∀ n < 18, Ends (i 1).val n → ∀ k : Fin (k0_t1_loop i (BitVec.ofNat 32 n)).trips,
    k0_off14 i (BitVec.ofNat 32 n) k = ![0, (i 1).val + 1 - n + k.val, 0, 0] := by decide +kernel
theorem off15 : ∀ i : grid0.Coords, ∀ n < 18, Ends (i 1).val n → ∀ k : Fin (k0_t1_loop i (BitVec.ofNat 32 n)).trips,
    k0_off15 i (BitVec.ofNat 32 n) k = ![1, (i 1).val + 1 - n + k.val, 0, 0] := by decide +kernel

/-- Where the loop on the way down ends. -/
theorem downs_ends (x : Ctx F) (i : ℕ) (hi : i < 16) : ∀ k n, n + k = i + 1 ∨ (k = 0 ∧ n = 2) → 2 ≤ n → ∀ a s, Ends i (downs x i k n a s).1 := by
  intro k
  induction k with
  | zero => intro n hn h2 a s; unfold downs Ends; dsimp only; omega
  | succ k ih =>
    intro n hn h2 a s
    unfold downs
    split
    · exact ih _ (by omega) (by omega) _ _
    · dsimp only; unfold Ends; omega

section Trip

variable (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole)
  (arg5 : Memref sig .tc .vmem S256x128 .f32) (harg5 : arg5.IsWhole) (arg6 : Memref sig .tc .vmem S256x128 .f32) (harg6 : arg6.IsWhole) (arg7 : Memref sig .tc .vmem S4096x128 .f32) (harg7 : arg7.IsWhole)
  (arg8 : Memref sig .tc .vmem S4096x128 .f32) (harg8 : arg8.IsWhole) (arg9 : Memref sig .tc .vmem S2x16x256x256 .f32) (harg9 : arg9.IsWhole) (arg10 : Memref sig .tc .vmem S2x16x256x256 .f32) (harg10 : arg10.IsWhole)
  (arg11 : Memref sig .tc .vmem S256x256 .bf16) (harg11 : arg11.IsWhole) (arg12 : Memref sig .tc .vmem S256x256 .bf16) (harg12 : arg12.IsWhole) (x : Ctx F) (g b : Slab F)

/-- What the loop holds before trip `k`. -/
def inv1 (n : ℕ) (s : Up F) (k : ℕ) (acc : FVec F S256x1 .f32 × FVec F S256x1 .f32 × FVec F S256x128 .f32 × FVec F S256x128 .f32) : sProp 𝕄 :=
  iprop(owns (c : Thread nD τ) arg3 fullShare x.K ∗ owns (c : Thread nD τ) arg9 fullShare g ∗ owns (c : Thread nD τ) arg10 fullShare b
    ∗ owns (c : Thread nD τ) arg7 fullShare (ups x g b ((i 1).val + 1 - n) k s).dk
    ∗ ⌜acc = ((ups x g b ((i 1).val + 1 - n) k s).ca, (ups x g b ((i 1).val + 1 - n) k s).cb, (ups x g b ((i 1).val + 1 - n) k s).ya, (ups x g b ((i 1).val + 1 - n) k s).yb)⌝)

set_option maxHeartbeats 4000000 in
/-- One trip. -/
theorem trip1 (E : Set ℕ) (n : ℕ) (hn : n < 18) (he : Ends (i 1).val n) (hw : k0_chk2 i (BitVec.ofNat 32 n)) (w : BitVec 32) (s : Up F)
    (k : Fin (k0_t1_loop i (BitVec.ofNat 32 n)).trips) (acc) :
    inv1 c i arg3 arg7 arg9 arg10 x g b n s k.val acc ⊢ wp Idealize.ShloMosaic.frame (wpE (defs₀ (F := F)) 𝒱₀ (c : Thread nD τ) none) E
      (k0_t1_body i arg2 harg2 arg3 harg3 arg4 harg4 arg5 harg5 arg6 harg6 arg7 harg7 arg8 harg8 arg9 harg9 arg10 harg10 arg11 harg11 arg12 harg12 x.upp x.qa x.qb (BitVec.ofNat 32 n) hw w k acc)
      (inv1 c i arg3 arg7 arg9 arg10 x g b n s (k.val + 1)) := by
  unfold inv1 owns
  iintro ⟨⟨%f3, %h3, H3⟩, ⟨%f9, %h9, H9⟩, ⟨%f10, %h10, H10⟩, ⟨%f7, %h7, H7⟩, %hacc⟩
  subst hacc
  unfold k0_t1_body
  letI : ClosedOff (k0_off13 i (BitVec.ofNat 32 n) k) := ⟨![256 * ((i 1).val + 1 - n + k.val), 0], off13 i n hn he k⟩
  letI : ClosedOff (k0_off14 i (BitVec.ofNat 32 n) k) := ⟨![0, (i 1).val + 1 - n + k.val, 0, 0], off14 i n hn he k⟩
  letI : ClosedOff (k0_off15 i (BitVec.ofNat 32 n) k) := ⟨![1, (i 1).val + 1 - n + k.val, 0, 0], off15 i n hn he k⟩
  sl_exec
  sl_step
  have t3 := ld_tile arg3.view f3 (k0_off13_inb i (BitVec.ofNat 32 n) hw k) h3 (off13 i n hn he k)
  have t7 := ld_tile arg7.view f7 (k0_off13_inb i (BitVec.ofNat 32 n) hw k) h7 (off13 i n hn he k)
  have g0 := ld_slab arg9.view f9 (k0_off14_inb i (BitVec.ofNat 32 n) hw k) h9 (off14 i n hn he k)
  have g1 := ld_slab arg9.view f9 (k0_off15_inb i (BitVec.ofNat 32 n) hw k) h9 (off15 i n hn he k)
  have b0 := ld_slab arg10.view f10 (k0_off14_inb i (BitVec.ofNat 32 n) hw k) h10 (off14 i n hn he k)
  have b1 := ld_slab arg10.view f10 (k0_off15_inb i (BitVec.ofNat 32 n) hw k) h10 (off15 i n hn he k)
  isplitl [H3]
  · iexists f3; isplitr; · ipureintro; exact h3
    iexact H3
  isplitl [H9]
  · iexists f9; isplitr; · ipureintro; exact h9
    iexact H9
  isplitl [H10]
  · iexists f10; isplitr; · ipureintro; exact h10
    iexact H10
  isplitl [H7]
  · iexists _; isplitr; swap; · iexact H7
    ipureintro
    refine (View.read_writes_cons_put _ _ _ _ _ (off13 i n hn he k)).trans ?_
    rw [View.writes_nil, h7, ups]; unfold up; dsimp only
    rw [← t7, ← g0, ← g1, ← b0, ← b1]; rfl
  · ipureintro
    rw [ups]; unfold up; dsimp only
    rw [← t3, ← g0, ← g1, ← b0, ← b1]; rfl

end Trip

end Cert.Kernel2Ideal.Attn

end
-- ==== Proof.AttnBody.lean ====
/-
  The attention gradient's kernel at one grid point: run on any contents of its buffers, it leaves what `Attn.point`
  says of their values.
-/
module

public import proofs.«01_k».proof.Proof.AttnUp

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Stores -/

/-- A store of tile `j` over earlier stores puts it in what those left. -/
theorem st_tile {sp : Space} {v : View sig .tc sp S4096x128 .f32} {f : v.ty.Contents (Elt F)} {L} {X : Vec F S4096x128 .f32}
    {off : Fin 2 → ℕ} (inb : ∀ a, off a + S256x128.size a ≤ S4096x128.size a) {w w' : Vec F S256x128 .f32} {j : ℕ} (ho : off = ![256 * j, 0])
    (hX : v.read (Elt F) (v.writes (Elt F) f L) = X) (hw : w = w') :
    v.read (Elt F) (v.writes (Elt F) f (⟨Rect.unit (s := S4096x128) off S256x128.size inb, w⟩ :: L)) = putTile X j w' := by
  subst hX hw; exact View.read_writes_cons_put v f inb w L ho

/-- A store of head `h`'s tile `j` over earlier stores puts it in what those left. -/
theorem st_slab {sp : Space} {v : View sig .tc sp S2x16x256x256 .f32} {f : v.ty.Contents (Elt F)} {L} {X : Slab F}
    {off : Fin 4 → ℕ} (inb : ∀ a, off a + S1x1x256x256.size a ≤ S2x16x256x256.size a) {w w' : FVec F S1x1x256x256 .f32} {h j : ℕ} (ho : off = ![h, j, 0, 0])
    (hX : v.read (Elt F) (v.writes (Elt F) f L) = X) (hw : w = w') :
    v.read (Elt F) (v.writes (Elt F) f (⟨Rect.unit (s := S2x16x256x256) off S1x1x256x256.size inb, w⟩ :: L)) = putSlab X h j w' := by
  subst hX hw; exact View.read_writes_cons_put v f inb w L ho

/-! ## Conditions and offsets -/

/-- The first grid point's condition. -/
abbrev isFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32
/-- The first query tile's condition. -/
abbrev isTop (i : grid0.Coords) : BitVec 1 :=
  Scalar.cmpi .ne (Scalar.extui (Scalar.cmpi .eq (BitVec.ofNat 32 (i 1).val) 0#32)) 0#32

theorem first_iff : ∀ i : grid0.Coords, isFirst i = 1#1 ↔ (i 0).val = 0 ∧ (i 1).val = 0 := by decide +kernel
theorem top_iff : ∀ i : grid0.Coords, isTop i = 1#1 ↔ (i 1).val = 0 := by decide +kernel
theorem cond3_iff : ∀ i : grid0.Coords, k0_cond3 i = 1#1 ↔ 1 ≤ (i 1).val := by decide +kernel
theorem cond4_iff : ∀ i : grid0.Coords, k0_cond4 i = 1#1 ↔ 1 ≤ (i 1).val := by decide +kernel

theorem off1 : ∀ i : grid0.Coords, k0_off1 i = ![256 * (i 1).val, 0] := by decide +kernel
instance closed1 (i : grid0.Coords) : ClosedOff (k0_off1 i) := ⟨![256 * (i 1).val, 0], off1 i⟩
theorem off2 : ∀ i : grid0.Coords, k0_off2 i = ![0, (i 1).val, 0, 0] := by decide +kernel
instance closed2 (i : grid0.Coords) : ClosedOff (k0_off2 i) := ⟨![0, (i 1).val, 0, 0], off2 i⟩
theorem off3 : ∀ i : grid0.Coords, k0_off3 i = ![1, (i 1).val, 0, 0] := by decide +kernel
instance closed3 (i : grid0.Coords) : ClosedOff (k0_off3 i) := ⟨![1, (i 1).val, 0, 0], off3 i⟩
theorem off4 : ∀ i : grid0.Coords, 1 ≤ (i 1).val → k0_off4 i = ![256 * ((i 1).val - 1), 0] := by decide +kernel
theorem off5 : ∀ i : grid0.Coords, 1 ≤ (i 1).val → k0_off5 i = ![0, (i 1).val - 1, 0, 0] := by decide +kernel
theorem off6 : ∀ i : grid0.Coords, 1 ≤ (i 1).val → k0_off6 i = ![1, (i 1).val - 1, 0, 0] := by decide +kernel
theorem off7 : ∀ i : grid0.Coords, k0_off7 i = ![256 * (i 1).val, 0] := by decide +kernel
instance closed7 (i : grid0.Coords) : ClosedOff (k0_off7 i) := ⟨![256 * (i 1).val, 0], off7 i⟩
theorem off8 : ∀ i : grid0.Coords, k0_off8 i = ![0, (i 1).val, 0, 0] := by decide +kernel
instance closed8 (i : grid0.Coords) : ClosedOff (k0_off8 i) := ⟨![0, (i 1).val, 0, 0], off8 i⟩
theorem off9 : ∀ i : grid0.Coords, k0_off9 i = ![1, (i 1).val, 0, 0] := by decide +kernel
instance closed9 (i : grid0.Coords) : ClosedOff (k0_off9 i) := ⟨![1, (i 1).val, 0, 0], off9 i⟩
theorem off19 : ∀ i : grid0.Coords, 1 ≤ (i 1).val → k0_off19 i = ![256 * ((i 1).val - 1), 0] := by decide +kernel
theorem off20 : ∀ i : grid0.Coords, 1 ≤ (i 1).val → k0_off20 i = ![0, (i 1).val - 1, 0, 0] := by decide +kernel
theorem off21 : ∀ i : grid0.Coords, 1 ≤ (i 1).val → k0_off21 i = ![1, (i 1).val - 1, 0, 0] := by decide +kernel
theorem off22 : ∀ i : grid0.Coords, k0_off22 i = ![256 * (i 1).val, 0] := by decide +kernel
instance closed22 (i : grid0.Coords) : ClosedOff (k0_off22 i) := ⟨![256 * (i 1).val, 0], off22 i⟩
theorem off23 : ∀ i : grid0.Coords, k0_off23 i = ![0, (i 1).val, 0, 0] := by decide +kernel
instance closed23 (i : grid0.Coords) : ClosedOff (k0_off23 i) := ⟨![0, (i 1).val, 0, 0], off23 i⟩
theorem off24 : ∀ i : grid0.Coords, k0_off24 i = ![1, (i 1).val, 0, 0] := by decide +kernel
instance closed24 (i : grid0.Coords) : ClosedOff (k0_off24 i) := ⟨![1, (i 1).val, 0, 0], off24 i⟩
theorem off25 : ∀ i : grid0.Coords, k0_off25 i = ![256 * (i 1).val, 0] := by decide +kernel
instance closed25 (i : grid0.Coords) : ClosedOff (k0_off25 i) := ⟨![256 * (i 1).val, 0], off25 i⟩
theorem off26 : ∀ i : grid0.Coords, k0_off26 i = ![0, (i 1).val, 0, 0] := by decide +kernel
instance closed26 (i : grid0.Coords) : ClosedOff (k0_off26 i) := ⟨![0, (i 1).val, 0, 0], off26 i⟩
theorem off27 : ∀ i : grid0.Coords, k0_off27 i = ![1, (i 1).val, 0, 0] := by decide +kernel
instance closed27 (i : grid0.Coords) : ClosedOff (k0_off27 i) := ⟨![1, (i 1).val, 0, 0], off27 i⟩

section Body

variable (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S2x16x256x256 .f32) (harg9 : arg9.IsWhole) (arg10 : Memref sig .tc .vmem S2x16x256x256 .f32) (harg10 : arg10.IsWhole) (arg11 : Memref sig .tc .vmem S256x256 .bf16) (harg11 : arg11.IsWhole) (arg12 : Memref sig .tc .vmem S256x256 .bf16) (harg12 : arg12.IsWhole)

/-- The buffers of a grid point: the inputs, the results and the four the kernel keeps. -/
def bufs (q : Vec F S256x128 .bf16) (K V : Vec F S4096x128 .bf16) (d y : Vec F S256x128 .f32) (dk dv : Vec F S4096x128 .f32) (g b : Slab F) (lw uw : Vec F S256x256 .bf16) : sProp 𝕄 :=
  iprop(owns (c : Thread nD τ) arg2 fullShare q ∗ owns (c : Thread nD τ) arg3 fullShare K ∗ owns (c : Thread nD τ) arg4 fullShare V ∗ owns (c : Thread nD τ) arg5 fullShare d
    ∗ owns (c : Thread nD τ) arg6 fullShare y ∗ owns (c : Thread nD τ) arg7 fullShare dk ∗ owns (c : Thread nD τ) arg8 fullShare dv ∗ owns (c : Thread nD τ) arg9 fullShare g
    ∗ owns (c : Thread nD τ) arg10 fullShare b ∗ owns (c : Thread nD τ) arg11 fullShare lw ∗ owns (c : Thread nD τ) arg12 fullShare uw)

set_option maxHeartbeats 8000000 in
/-- A grid point below the first query tile. -/
theorem run_below (E : Set ℕ) (hi : 1 ≤ (i 1).val) (q : Vec F S256x128 .bf16) (K V : Vec F S4096x128 .bf16) (d y : Vec F S256x128 .f32) (dk dv : Vec F S4096x128 .f32) (g b : Slab F) (lw uw : Vec F S256x256 .bf16)
    (x : Ctx F) (hx : x = ctx q K V d lw uw) :
    bufs c arg2 arg3 arg4 arg5 arg6 arg7 arg8 arg9 arg10 arg11 arg12 q K V d y dk dv g b lw uw
      ⊢ wp Idealize.ShloMosaic.frame (wpE (defs₀ (F := F)) 𝒱₀ (c : Thread nD τ) none) E (cc0_attn_bwd i arg2 harg2 arg3 harg3 arg4 harg4 arg5 harg5 arg6 harg6 arg7 harg7 arg8 harg8 arg9 harg9 arg10 harg10 arg11 harg11 arg12 harg12)
        (fun _ => bufs c arg2 arg3 arg4 arg5 arg6 arg7 arg8 arg9 arg10 arg11 arg12 q K V d (point x (i 1).val dk dv g b).1 (point x (i 1).val dk dv g b).2.1
          (point x (i 1).val dk dv g b).2.2.1 (point x (i 1).val dk dv g b).2.2.2.1 (point x (i 1).val dk dv g b).2.2.2.2 lw uw) := by
  have hc1 : ¬ isFirst i = 1#1 := fun h => by have := (first_iff i).mp h; omega
  have hc2 : ¬ isTop i = 1#1 := fun h => by have := (top_iff i).mp h; omega
  have hc3 : k0_cond3 i = 1#1 := (cond3_iff i).mpr hi
  have hc4 : k0_cond4 i = 1#1 := (cond4_iff i).mpr hi
  letI : ClosedOff (k0_off4 i) := ⟨![256 * ((i 1).val - 1), 0], off4 i hi⟩
  letI : ClosedOff (k0_off5 i) := ⟨![0, (i 1).val - 1, 0, 0], off5 i hi⟩
  letI : ClosedOff (k0_off6 i) := ⟨![1, (i 1).val - 1, 0, 0], off6 i hi⟩
  simp only [cc0_attn_bwd_eq_skeleton]; unfold cc0_attn_bwd_skel
  unfold bufs owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩
  sl_exec (disch := first | sl_exact hc1 | sl_exact hc2 | sl_exact hc3)
  have e21 : run_below.sl.v21 c arg2 f2 = x.qa := by
    rw [hx]; unfold ctx; dsimp only; rw [← h2, ← View.readAt_full arg2.view f2 inb_S256x128_S256x128_0_0]; rfl
  have e25 : run_below.sl.v25 c arg2 f2 = x.qb := by
    rw [hx]; unfold ctx; dsimp only; rw [← h2, ← View.readAt_full arg2.view f2 inb_S256x128_S256x128_0_0]; rfl
  have e29 : run_below.sl.v29 c arg5 f5 = x.da := by
    rw [hx]; unfold ctx; dsimp only; rw [← h5, ← View.readAt_full arg5.view f5 inb_S256x128_S256x128_0_0]; rfl
  have e33 : run_below.sl.v33 c arg5 f5 = x.db := by
    rw [hx]; unfold ctx; dsimp only; rw [← h5, ← View.readAt_full arg5.view f5 inb_S256x128_S256x128_0_0]; rfl
  have el : run_below.sl.r c arg11 f11 = x.low := by
    rw [hx]; unfold ctx; dsimp only; rw [← h11, ← View.readAt_full arg11.view f11 inb_S256x256_S256x256_0_0]; rfl
  have eu : run_below.sl.r_1 c arg12 f12 = x.upp := by
    rw [hx]; unfold ctx; dsimp only; rw [← h12, ← View.readAt_full arg12.view f12 inb_S256x256_S256x256_0_0]; rfl
  have hK : View.read (Elt F) arg3.view f3 = x.K := by rw [hx]; exact h3
  have hV : View.read (Elt F) arg4.view f4 = x.V := by rw [hx]; exact h4
  have k1 := ld_tile arg3.view f3 (k0_off1_inb i hc3) hK (off1 i)
  have v1 := ld_tile arg4.view f4 (k0_off1_inb i hc3) hV (off1 i)
  have k4 := ld_tile arg3.view f3 (k0_off4_inb i hc3) hK (off4 i hi)
  have v4 := ld_tile arg4.view f4 (k0_off4_inb i hc3) hV (off4 i hi)
  have t8 := ld_tile arg8.view f8 (k0_off1_inb i hc3) h8 (off1 i)
  obtain ⟨s1, hs1⟩ : ∃ s1, down x true (i 1).val ⟨dv, g, b, zeroC, zeroC⟩ = s1 := ⟨_, rfl⟩
  have a1 : run_below.sl.v159 c i arg2 arg3 hc3 f2 f3 = s1.ca := by
    rw [← hs1]; unfold down; dsimp only; simp only [← e21, ← k1]; rfl
  have b1 : run_below.sl.v162 c i arg2 arg3 hc3 f2 f3 = s1.cb := by
    rw [← hs1]; unfold down; dsimp only; simp only [← e25, ← k1]; rfl
  have d8 : View.read (Elt F) arg8.view (arg8.view.writes (Elt F) f8 (run_below.sl.H8_1 c i arg2 arg3 arg5 arg8 arg11 hc3 f2 f3 f5 f8 f11)) = s1.dv := by
    refine (View.read_writes_cons_put _ _ _ _ _ (off1 i)).trans ?_
    rw [View.writes_nil, h8, ← hs1]; unfold down; dsimp only
    simp only [← e21, ← e25, ← e29, ← e33, ← el, ← k1, ← t8]; rfl
  have g1 : View.read (Elt F) arg9.view (arg9.view.writes (Elt F) f9 (run_below.sl.H9_3 c i arg2 arg3 arg4 arg5 arg11 hc3 f2 f3 f4 f5 f11))
      = putSlab s1.g 0 ((i 1).val - 1) (gTile false x.low (scores x.qa (tileAt x.K ((i 1).val - 1))) s1.ca x.da (tileAt x.V ((i 1).val - 1))) := by
    refine st_slab _ (off5 i hi) ?_ ?_
    · rw [← hs1]; unfold down; dsimp only
      refine st_slab _ (off3 i) (st_slab _ (off2 i) h9 ?_) ?_
      · simp only [← e21, ← e29, ← el, ← k1, ← v1]; rfl
      · simp only [← e25, ← e33, ← el, ← k1, ← v1]; rfl
    · simp only [← a1, ← e21, ← e29, ← el, ← k4, ← v4]; rfl
  have b2 : View.read (Elt F) arg10.view (arg10.view.writes (Elt F) f10 (run_below.sl.H10_2 c i arg2 arg3 hc3 f2 f3)) = s1.b := by
    rw [← hs1]; unfold down; dsimp only
    refine st_slab _ (off3 i) (st_slab _ (off2 i) h10 ?_) ?_
    · simp only [← e21, ← k1]; rfl
    · simp only [← e25, ← k1]; rfl
  obtain ⟨s2, hs2⟩ : ∃ s2, down x false ((i 1).val - 1) s1 = s2 := ⟨_, rfl⟩
  have a3 : k0_pay5 (run_below.sl.v159 c i arg2 arg3 hc3 f2 f3) (run_below.sl.v184 c i arg2 arg3 hc3 f2 f3) = s2.ca := by
    rw [← hs2]; unfold down; dsimp only; simp only [← a1, ← e21, ← k4]; rfl
  have b3 : k0_pay6 (run_below.sl.v162 c i arg2 arg3 hc3 f2 f3) (run_below.sl.v196 c i arg2 arg3 hc3 f2 f3) = s2.cb := by
    rw [← hs2]; unfold down; dsimp only; simp only [← b1, ← e25, ← k4]; rfl
  have w3 : run_below.sl.v257 c i arg2 arg3 hc3 f2 f3 = left s2.ca s2.cb := by
    rw [← a3, ← b3]; rfl
  have d3 := (st_tile (v := arg8.view) (k0_off4_inb i hc3) (off4 i hi) d8 (show k0_pay4 (run_below.sl.v29 c arg5 f5) (run_below.sl.v33 c arg5 f5)
            (run_below.sl.v208 c i arg2 arg3 arg11 hc3 f2 f3 f11) (run_below.sl.v210 c i arg2 arg3 arg11 hc3 f2 f3 f11)
            (View.readAt (Elt F) arg8.view (Rect.unit (s := S4096x128) (k0_off4 i) S256x128.size (k0_off4_inb i hc3)).toLoadRect
              (arg8.view.writes (Elt F) f8 (run_below.sl.H8_1 c i arg2 arg3 arg5 arg8 arg11 hc3 f2 f3 f5 f8 f11)))
      = addRows (tileAt s1.dv ((i 1).val - 1)) (truncf .bf16 (weights false x.low (scores x.qa (tileAt x.K ((i 1).val - 1))) s1.ca) bitsLt_bf16_f32)
        (truncf .bf16 (weights false x.low (scores x.qb (tileAt x.K ((i 1).val - 1))) s1.cb) bitsLt_bf16_f32) x.da x.db by
      rw [ld_tile arg8.view _ (k0_off4_inb i hc3) d8 (off4 i hi)]
      simp only [← a1, ← b1, ← e21, ← e25, ← e29, ← e33, ← el, ← k4]; rfl)).trans (congrArg Down.dv hs2)
  rw [e29, e33] at d3
  rw [e21, e25, e29, e33, el, a3, b3, w3]
  iapply (wp_call_spec 𝒱₀ (c : Thread nD τ) none E (spec c i arg3 arg4 arg9 arg10 arg8 x ((i 1).val + 1 - 2) 2 (left s2.ca s2.cb) s2) ((i 1).val + 1 - 2) (fun u hu => nomatch hu)
    (spec_le c i arg3 harg3 arg4 harg4 arg9 harg9 arg10 harg10 arg8 harg8 x E ((i 1).val + 1 - 2) 2 (by omega) _ s2))
  rw [spec_apply]; unfold held owns
  isplitl [H3 H4 H8 H9 H10]
  · isplitl [H3]
    · iexists f3; isplitr; · ipureintro; exact hK
      iexact H3
    isplitl [H4]
    · iexists f4; isplitr; · ipureintro; exact hV
      iexact H4
    isplitl [H9]
    · iexists _; isplitr; swap; · iexact H9
      ipureintro
      rw [← hs2]; unfold down; dsimp only
      refine st_slab _ (off6 i hi) g1 ?_
      simp only [← b1, ← e25, ← e33, ← el, ← k4, ← v4]; rfl
    isplitl [H10]
    · iexists _; isplitr; swap; · iexact H10
      ipureintro
      rw [← hs2]; unfold down; dsimp only
      refine st_slab _ (off6 i hi) (st_slab _ (off5 i hi) b2 ?_) ?_
      · simp only [← e21, ← k4]; rfl
      · simp only [← e25, ← k4]; rfl
    · iexists _; isplitr; swap; · iexact H8
      ipureintro; exact d3
  have he : Ends (i 1).val (downs x (i 1).val ((i 1).val + 1 - 2) 2 (left s2.ca s2.cb) s2).1 :=
    downs_ends x (i 1).val (i 1).isLt _ _ (by omega) (by omega) _ _
  have hall : allDown x (i 1).val dv g b = downs x (i 1).val ((i 1).val + 1 - 2) 2 (left s2.ca s2.cb) s2 := by
    unfold allDown; rw [if_pos hi, hs1, hs2]
  generalize downs x (i 1).val ((i 1).val + 1 - 2) 2 (left s2.ca s2.cb) s2 = r at he hall ⊢
  obtain ⟨n, a, s3⟩ := r
  dsimp only at he
  have hn : n < 18 := by have : (i 1).val < 16 := (i 1).isLt; unfold Ends at he; omega
  obtain ⟨U1, hU1⟩ : ∃ U, ups x s3.g s3.b ((i 1).val + 1 - n) (n - 2) ⟨dk, zeroC, zeroC, k0_pay2, k0_pay2⟩ = U := ⟨_, rfl⟩
  obtain ⟨U2, hU2⟩ : ∃ U, up x s3.g s3.b false ((i 1).val - 1) U1 = U := ⟨_, rfl⟩
  obtain ⟨U3, hU3⟩ : ∃ U, up x s3.g s3.b true (i 1).val U2 = U := ⟨_, rfl⟩
  have hpt : point x (i 1).val dk dv g b = (k0_pay24 k0_pay120 U3.ya U3.yb, U3.dk, s3.dv, s3.g, s3.b) := by
    unfold point; rw [hall]; unfold allUp; simp only [if_pos hi, hU1, hU2, hU3]
  rw [hpt]; unfold ret; dsimp only
  iintro ⟨⟨%f3', %h3', H3⟩, ⟨%f4', %h4', H4⟩, ⟨%f9', %h9', H9⟩, ⟨%f10', %h10', H10⟩, ⟨%f8', %h8', H8⟩⟩
  have hchk := chk2 i n hn he
  sl_exec (disch := sl_exact hchk)
  rw [eu]
  iapply (Scf.wp_for_bind Idealize.ShloMosaic.frame (wpE (defs₀ (F := F)) 𝒱₀ (c : Thread nD τ) none) E _ _ _ _ _ _
    (inv1 c i arg3 arg7 arg9 arg10 x s3.g s3.b n ⟨dk, zeroC, zeroC, k0_pay2, k0_pay2⟩)
    (fun k acc => trip1 c i arg2 harg2 arg3 harg3 arg4 harg4 arg5 harg5 arg6 harg6 arg7 harg7 arg8 harg8 arg9 harg9 arg10 harg10 arg11 harg11 arg12 harg12 x s3.g s3.b E n hn he hchk _
      ⟨dk, zeroC, zeroC, k0_pay2, k0_pay2⟩ k acc)) $$ [H3 H7 H9 H10]
  · unfold inv1 owns
    isplitl [H3]
    · iexists f3'; isplitr; · ipureintro; exact h3'
      iexact H3
    isplitl [H9]
    · iexists f9'; isplitr; · ipureintro; exact h9'
      iexact H9
    isplitl [H10]
    · iexists f10'; isplitr; · ipureintro; exact h10'
      iexact H10
    isplitl [H7]
    · iexists f7; isplitr; · ipureintro; exact h7
      iexact H7
    · ipureintro; rfl
  iintro %acc
  rw [show Scf.trips (k0_t1_loop i (BitVec.ofNat 32 n)).lb (k0_t1_loop i (BitVec.ofNat 32 n)).ub (k0_t1_loop i (BitVec.ofNat 32 n)).st = n - 2 from trips1 i n hn he]
  unfold inv1
  rw [hU1]; unfold owns
  iintro ⟨⟨%f3', %h3', H3⟩, ⟨%f9', %h9', H9⟩, ⟨%f10', %h10', H10⟩, ⟨%f7', %h7', H7⟩, %hacc⟩
  subst hacc
  iapply (Scf.wp_for_bind Idealize.ShloMosaic.frame (wpE (defs₀ (F := F)) 𝒱₀ (c : Thread nD τ) none) E _ _ _ _ _ _
    (fun _ acc => iprop(⌜acc = (U1.ca, U1.cb, U1.ya, U1.yb)⌝))
    (fun k => absurd (show k.val < (k0_t2_loop i (BitVec.ofNat 32 n)).trips from k.isLt) (by rw [trips2 i n hn he]; omega))) $$ []
  · ipureintro; rfl
  iintro %acc %hacc
  subst hacc
  letI : ClosedOff (k0_off19 i) := ⟨![256 * ((i 1).val - 1), 0], off19 i hi⟩
  letI : ClosedOff (k0_off20 i) := ⟨![0, (i 1).val - 1, 0, 0], off20 i hi⟩
  letI : ClosedOff (k0_off21 i) := ⟨![1, (i 1).val - 1, 0, 0], off21 i hi⟩
  sl_exec (disch := sl_exact hc4)
  sl_step
  have k19 := ld_tile arg3.view f3' (k0_off19_inb i hc4) h3' (off19 i hi)
  have k22 := ld_tile arg3.view f3' (k0_off22_inb i hc4) h3' (off22 i)
  have t19 := ld_tile arg7.view f7' (k0_off19_inb i hc4) h7' (off19 i hi)
  have g20 := ld_slab arg9.view f9' (k0_off20_inb i hc4) h9' (off20 i hi)
  have g21 := ld_slab arg9.view f9' (k0_off21_inb i hc4) h9' (off21 i hi)
  have g23 := ld_slab arg9.view f9' (k0_off23_inb i hc4) h9' (off23 i)
  have g24 := ld_slab arg9.view f9' (k0_off24_inb i hc4) h9' (off24 i)
  have b20 := ld_slab arg10.view f10' (k0_off20_inb i hc4) h10' (off20 i hi)
  have b21 := ld_slab arg10.view f10' (k0_off21_inb i hc4) h10' (off21 i hi)
  have b23 := ld_slab arg10.view f10' (k0_off23_inb i hc4) h10' (off23 i)
  have b24 := ld_slab arg10.view f10' (k0_off24_inb i hc4) h10' (off24 i)
  have d7 : View.read (Elt F) arg7.view (arg7.view.writes (Elt F) f7' (run_below.sl.H7_1 c i arg7 arg9 arg10 x hc4 U1 f9' f10' f7')) = U2.dk := by
    rw [← hU2]; unfold Attn.up; dsimp only
    refine st_tile _ (off19 i hi) h7' ?_
    rw [← t19, ← g20, ← g21, ← b20, ← b21]; rfl
  have t22 := ld_tile arg7.view _ (k0_off22_inb i hc4) d7 (off22 i)
  isplitl [H2]
  · iexists f2; isplitr; · ipureintro; exact h2
    iexact H2
  isplitl [H3]
  · iexists f3'; isplitr; · ipureintro; rw [h3', hx]; rfl
    iexact H3
  isplitl [H4]
  · iexists f4'; isplitr; · ipureintro; rw [h4', hx]; rfl
    iexact H4
  isplitl [H5]
  · iexists f5; isplitr; · ipureintro; exact h5
    iexact H5
  isplitl [H6]
  · iexists _; isplitr; swap; · iexact H6
    ipureintro
    refine (View.read_writes_full _ _ _ _ _).trans ?_
    rw [← hU3, ← hU2]; unfold Attn.up; dsimp only
    rw [← k19, ← k22, ← g20, ← g21, ← g23, ← g24, ← b20, ← b21, ← b23, ← b24]; rfl
  isplitl [H7]
  · iexists _; isplitr; swap; · iexact H7
    ipureintro
    rw [← hU3]; unfold Attn.up; dsimp only
    refine st_tile _ (off22 i) d7 ?_
    rw [← t22, ← g23, ← g24, ← b23, ← b24, ← hU2]; unfold Attn.up; dsimp only
    rw [← g20, ← g21]; rfl
  isplitl [H8]
  · iexists f8'; isplitr; · ipureintro; exact h8'
    iexact H8
  isplitl [H9]
  · iexists f9'; isplitr; · ipureintro; exact h9'
    iexact H9
  isplitl [H10]
  · iexists f10'; isplitr; · ipureintro; exact h10'
    iexact H10
  isplitl [H11]
  · iexists f11; isplitr; · ipureintro; exact h11
    iexact H11
  · iexists f12; isplitr; · ipureintro; exact h12
    iexact H12

end Body

end Cert.Kernel2Ideal.Attn

end
-- ==== Proof.AttnTop.lean ====
/-
  The attention gradient's kernel at the first query tile: run on any contents of its buffers, it leaves what `Attn.point`
  says of their values.
-/
module

public import proofs.«01_k».proof.Proof.AttnBody

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Top

variable (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S2x16x256x256 .f32) (harg9 : arg9.IsWhole) (arg10 : Memref sig .tc .vmem S2x16x256x256 .f32) (harg10 : arg10.IsWhole) (arg11 : Memref sig .tc .vmem S256x256 .bf16) (harg11 : arg11.IsWhole) (arg12 : Memref sig .tc .vmem S256x256 .bf16) (harg12 : arg12.IsWhole)

/-- What the first part of a grid point hands on. -/
def handed (q : Vec F S256x128 .bf16) (d : Vec F S256x128 .f32) (lw uw : Vec F S256x256 .bf16) :
    Σ' (arg1 : BitVec 32) (v10 : IVec S1x128 1) (v11 : Vec F S256x256 .bf16) (v12 : Vec F S256x256 .bf16) (v21 : FVec F S256x128 .bf16) (v25 : FVec F S256x128 .bf16) (v29 : FVec F S256x128 .bf16) (v33 : FVec F S256x128 .bf16) (v36 : IVec S256x256 1), F .f32 :=
  ⟨BitVec.ofNat 32 (i 1).val, k0_pay120, lw, uw, k0_pay123 q, k0_pay124 q, k0_pay125 d, k0_pay126 d, k0_pay127, Scalar.ofBits .f32 0x00000000#32⟩

set_option maxHeartbeats 8000000 in
/-- The first part at the first query tile: the gradients of the keys and values start at zero, and the first grid point makes the two triangles. -/
theorem part_top (E : Set ℕ) (hi : (i 1).val = 0) (q : Vec F S256x128 .bf16) (K V : Vec F S4096x128 .bf16) (d y : Vec F S256x128 .f32) (dk dv : Vec F S4096x128 .f32) (g b : Slab F) (lw uw lw' uw' : Vec F S256x256 .bf16)
    (h0 : (i 0).val = 0 → lw' = k0_pay116 ∧ uw' = k0_pay117) (h1 : (i 0).val ≠ 0 → lw' = lw ∧ uw' = uw) :
    bufs c arg2 arg3 arg4 arg5 arg6 arg7 arg8 arg9 arg10 arg11 arg12 q K V d y dk dv g b lw uw
      ⊢ wp Idealize.ShloMosaic.frame (wpE (defs₀ (F := F)) 𝒱₀ (c : Thread nD τ) none) E (k0_part12 i arg2 harg2 arg3 harg3 arg4 harg4 arg5 harg5 arg6 harg6 arg7 harg7 arg8 harg8 arg9 harg9 arg10 harg10 arg11 harg11 arg12 harg12)
        (fun r => iprop(bufs c arg2 arg3 arg4 arg5 arg6 arg7 arg8 arg9 arg10 arg11 arg12 q K V d y k0_pay118 k0_pay119 g b lw' uw' ∗ ⌜r = handed i q d lw' uw'⌝)) := by
  have hc2 : isTop i = 1#1 := (top_iff i).mpr hi
  unfold bufs owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩
  have e2 := View.readAt_full arg2.view f2 inb_S256x128_S256x128_0_0
  have e5 := View.readAt_full arg5.view f5 inb_S256x128_S256x128_0_0
  rw [h2] at e2; rw [h5] at e5
  by_cases hp : (i 0).val = 0
  · have hc1 : isFirst i = 1#1 := (first_iff i).mpr ⟨hp, hi⟩
    obtain ⟨rfl, rfl⟩ := h0 hp
    sl_exec (disch := first | sl_exact hc1 | sl_exact hc2)
    have r11 : View.read (Elt F) arg11.view (arg11.view.writes (Elt F) f11 part_top.sl.H11_1) = k0_pay116 := View.read_writes_full _ _ _ _ _
    have r12 : View.read (Elt F) arg12.view (arg12.view.writes (Elt F) f12 part_top.sl.H12_1) = k0_pay117 := View.read_writes_full _ _ _ _ _
    sl_step
    isplitl [H2 H3 H4 H5 H6 H7 H8 H9 H10 H11 H12]
    · isplitl [H2]
      · iexists f2; isplitr; · ipureintro; exact h2
        iexact H2
      isplitl [H3]
      · iexists f3; isplitr; · ipureintro; exact h3
        iexact H3
      isplitl [H4]
      · iexists f4; isplitr; · ipureintro; exact h4
        iexact H4
      isplitl [H5]
      · iexists f5; isplitr; · ipureintro; exact h5
        iexact H5
      isplitl [H6]
      · iexists f6; isplitr; · ipureintro; exact h6
        iexact H6
      isplitl [H7]
      · iexists _; isplitr; swap; · iexact H7
        ipureintro; exact View.read_writes_full _ _ _ _ _
      isplitl [H8]
      · iexists _; isplitr; swap; · iexact H8
        ipureintro; exact View.read_writes_full _ _ _ _ _
      isplitl [H9]
      · iexists f9; isplitr; · ipureintro; exact h9
        iexact H9
      isplitl [H10]
      · iexists f10; isplitr; · ipureintro; exact h10
        iexact H10
      isplitl [H11]
      · iexists _; isplitr; swap; · iexact H11
        ipureintro; exact r11
      · iexists _; isplitr; swap; · iexact H12
        ipureintro; exact r12
    · ipureintro
      have e11 : part_top.sl.v11 (F := F) c arg11 = k0_pay116 := by unfold part_top.sl.v11; exact View.readCov_full (Val := Elt F) _ _ _ _ _
      have e12 : part_top.sl.v12 (F := F) c arg12 = k0_pay117 := by unfold part_top.sl.v12; exact View.readCov_full (Val := Elt F) _ _ _ _ _
      unfold handed; rw [← e2, ← e5, ← e11, ← e12]; rfl
  · have hc1 : ¬ isFirst i = 1#1 := fun h => hp ((first_iff i).mp h).1
    obtain ⟨rfl, rfl⟩ := h1 hp
    sl_exec (disch := first | sl_exact hc1 | sl_exact hc2)
    have r11 := h11
    have r12 := h12
    sl_step
    isplitl [H2 H3 H4 H5 H6 H7 H8 H9 H10 H11 H12]
    · isplitl [H2]
      · iexists f2; isplitr; · ipureintro; exact h2
        iexact H2
      isplitl [H3]
      · iexists f3; isplitr; · ipureintro; exact h3
        iexact H3
      isplitl [H4]
      · iexists f4; isplitr; · ipureintro; exact h4
        iexact H4
      isplitl [H5]
      · iexists f5; isplitr; · ipureintro; exact h5
        iexact H5
      isplitl [H6]
      · iexists f6; isplitr; · ipureintro; exact h6
        iexact H6
      isplitl [H7]
      · iexists _; isplitr; swap; · iexact H7
        ipureintro; exact View.read_writes_full _ _ _ _ _
      isplitl [H8]
      · iexists _; isplitr; swap; · iexact H8
        ipureintro; exact View.read_writes_full _ _ _ _ _
      isplitl [H9]
      · iexists f9; isplitr; · ipureintro; exact h9
        iexact H9
      isplitl [H10]
      · iexists f10; isplitr; · ipureintro; exact h10
        iexact H10
      isplitl [H11]
      · iexists _; isplitr; swap; · iexact H11
        ipureintro; exact r11
      · iexists _; isplitr; swap; · iexact H12
        ipureintro; exact r12
    · ipureintro
      have e11 := (View.readAt_full arg11.view _ inb_S256x256_S256x256_0_0).trans r11
      have e12 := (View.readAt_full arg12.view _ inb_S256x256_S256x256_0_0).trans r12
      unfold handed; rw [← e2, ← e5, ← e11, ← e12]; rfl

set_option maxHeartbeats 8000000 in
/-- A grid point at the first query tile. -/
theorem run_top (E : Set ℕ) (hi : (i 1).val = 0) (q : Vec F S256x128 .bf16) (K V : Vec F S4096x128 .bf16) (d y : Vec F S256x128 .f32) (dk dv : Vec F S4096x128 .f32) (g b : Slab F) (lw uw lw' uw' : Vec F S256x256 .bf16)
    (h0 : (i 0).val = 0 → lw' = k0_pay116 ∧ uw' = k0_pay117) (h1 : (i 0).val ≠ 0 → lw' = lw ∧ uw' = uw) (x : Ctx F) (hx : x = ctx q K V d lw' uw') :
    bufs c arg2 arg3 arg4 arg5 arg6 arg7 arg8 arg9 arg10 arg11 arg12 q K V d y dk dv g b lw uw
      ⊢ wp Idealize.ShloMosaic.frame (wpE (defs₀ (F := F)) 𝒱₀ (c : Thread nD τ) none) E (cc0_attn_bwd i arg2 harg2 arg3 harg3 arg4 harg4 arg5 harg5 arg6 harg6 arg7 harg7 arg8 harg8 arg9 harg9 arg10 harg10 arg11 harg11 arg12 harg12)
        (fun _ => bufs c arg2 arg3 arg4 arg5 arg6 arg7 arg8 arg9 arg10 arg11 arg12 q K V d (point x (i 1).val k0_pay118 k0_pay119 g b).1 (point x (i 1).val k0_pay118 k0_pay119 g b).2.1
          (point x (i 1).val k0_pay118 k0_pay119 g b).2.2.1 (point x (i 1).val k0_pay118 k0_pay119 g b).2.2.2.1 (point x (i 1).val k0_pay118 k0_pay119 g b).2.2.2.2 lw' uw') := by
  have hc3 : ¬ k0_cond3 i = 1#1 := fun h => by have := (cond3_iff i).mp h; omega
  have hc4 : ¬ k0_cond4 i = 1#1 := fun h => by have := (cond4_iff i).mp h; omega
  subst hx
  simp only [cc0_attn_bwd_eq_skeleton]; unfold cc0_attn_bwd_skel
  rw [wp_bind]
  refine (part_top c i arg2 harg2 arg3 harg3 arg4 harg4 arg5 harg5 arg6 harg6 arg7 harg7 arg8 harg8 arg9 harg9 arg10 harg10 arg11 harg11 arg12 harg12 E hi q K V d y dk dv g b lw uw lw' uw' h0 h1).trans (wp_mono _ _ _ fun r => ?_)
  generalize k0_pay118 (F := F) = dk0
  generalize k0_pay119 (F := F) = dv0
  unfold bufs owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩, %hr⟩
  subst hr
  unfold handed
  sl_exec (disch := first | sl_exact hc3)
  have k1 := ld_tile arg3.view f3 (k0_off7_inb i hc3) h3 (off7 i)
  have v1 := ld_tile arg4.view f4 (k0_off7_inb i hc3) h4 (off7 i)
  have t8 := ld_tile arg8.view f8 (k0_off7_inb i hc3) h8 (off7 i)
  obtain ⟨s1, hs1⟩ : ∃ s1, down (ctx q K V d lw' uw') true (i 1).val ⟨dv0, g, b, zeroC, zeroC⟩ = s1 := ⟨_, rfl⟩
  have a1 : k0_pay9 (FloatOps.ofBits FTy.f32 0#32) (run_top.sl.v101 c i arg3 q hc3 f3) = s1.ca := by
    rw [← hs1]; unfold down ctx; dsimp only; rw [← k1]; rfl
  have b1 : k0_pay10 (FloatOps.ofBits FTy.f32 0#32) (run_top.sl.v103 c i arg3 q hc3 f3) = s1.cb := by
    rw [← hs1]; unfold down ctx; dsimp only; rw [← k1]; rfl
  rw [a1, b1]
  iapply (wp_call_spec 𝒱₀ (c : Thread nD τ) none E (spec c i arg3 arg4 arg9 arg10 arg8 (ctx q K V d lw' uw') 0 2 0#32 s1) 0 (fun u hu => nomatch hu)
    (spec_le c i arg3 harg3 arg4 harg4 arg9 harg9 arg10 harg10 arg8 harg8 (ctx q K V d lw' uw') E 0 2 (by omega) _ s1))
  rw [spec_apply]; unfold held owns
  isplitl [H3 H4 H8 H9 H10]
  · isplitl [H3]
    · iexists f3; isplitr; · ipureintro; exact h3
      iexact H3
    isplitl [H4]
    · iexists f4; isplitr; · ipureintro; exact h4
      iexact H4
    isplitl [H9]
    · iexists _; isplitr; swap; · iexact H9
      ipureintro
      rw [← hs1]; unfold down ctx; dsimp only
      refine st_slab _ (off9 i) (st_slab _ (off8 i) h9 ?_) ?_
      · rw [← k1, ← v1]; rfl
      · rw [← k1, ← v1]; rfl
    isplitl [H10]
    · iexists _; isplitr; swap; · iexact H10
      ipureintro
      rw [← hs1]; unfold down ctx; dsimp only
      refine st_slab _ (off9 i) (st_slab _ (off8 i) h10 ?_) ?_
      · rw [← k1]; rfl
      · rw [← k1]; rfl
    · iexists _; isplitr; swap; · iexact H8
      ipureintro
      rw [← hs1]; unfold down ctx; dsimp only
      refine st_tile _ (off7 i) h8 ?_
      rw [← k1, ← t8]; rfl
  have hn : 2 < 18 := by omega
  have he : Ends (i 1).val 2 := ⟨by omega, .inr rfl⟩
  have hi' : ¬ 1 ≤ (i 1).val := by omega
  obtain ⟨U3, hU3⟩ : ∃ U, up (ctx q K V d lw' uw') s1.g s1.b true (i 1).val ⟨dk0, zeroC, zeroC, k0_pay2, k0_pay2⟩ = U := ⟨_, rfl⟩
  have hpt : point (ctx q K V d lw' uw') (i 1).val dk0 dv0 g b = (k0_pay24 k0_pay120 U3.ya U3.yb, U3.dk, s1.dv, s1.g, s1.b) := by
    unfold point allDown allUp; simp only [if_neg hi', hs1, downs, hU3]
  rw [hpt]; unfold ret downs; dsimp only
  iintro ⟨⟨%f3', %h3', H3⟩, ⟨%f4', %h4', H4⟩, ⟨%f9', %h9', H9⟩, ⟨%f10', %h10', H10⟩, ⟨%f8', %h8', H8⟩⟩
  have hchk := chk2 i 2 hn he
  sl_exec (disch := sl_exact hchk)
  iapply (Scf.wp_for_bind Idealize.ShloMosaic.frame (wpE (defs₀ (F := F)) 𝒱₀ (c : Thread nD τ) none) E _ _ _ _ _ _
    (fun _ acc => iprop(⌜acc = (zeroC, zeroC, k0_pay2, k0_pay2)⌝))
    (fun k => absurd (show k.val < (k0_t1_loop i (BitVec.ofNat 32 2)).trips from k.isLt) (by rw [trips1 i 2 hn he]; omega))) $$ []
  · ipureintro; rfl
  iintro %acc %hacc
  subst hacc
  iapply (Scf.wp_for_bind Idealize.ShloMosaic.frame (wpE (defs₀ (F := F)) 𝒱₀ (c : Thread nD τ) none) E _ _ _ _ _ _
    (fun _ acc => iprop(⌜acc = (zeroC, zeroC, k0_pay2, k0_pay2)⌝))
    (fun k => absurd (show k.val < (k0_t2_loop i (BitVec.ofNat 32 2)).trips from k.isLt) (by rw [trips2 i 2 hn he]; omega))) $$ []
  · ipureintro; rfl
  iintro %acc %hacc
  subst hacc
  sl_exec (disch := sl_exact hc4)
  sl_step
  have k25 := ld_tile arg3.view f3' (k0_off25_inb i hc4) h3' (off25 i)
  have t25 := ld_tile arg7.view f7 (k0_off25_inb i hc4) h7 (off25 i)
  have g26 := ld_slab arg9.view f9' (k0_off26_inb i hc4) h9' (off26 i)
  have g27 := ld_slab arg9.view f9' (k0_off27_inb i hc4) h9' (off27 i)
  have b26 := ld_slab arg10.view f10' (k0_off26_inb i hc4) h10' (off26 i)
  have b27 := ld_slab arg10.view f10' (k0_off27_inb i hc4) h10' (off27 i)
  isplitl [H2]
  · iexists f2; isplitr; · ipureintro; exact h2
    iexact H2
  isplitl [H3]
  · iexists f3'; isplitr; · ipureintro; exact h3'
    iexact H3
  isplitl [H4]
  · iexists f4'; isplitr; · ipureintro; exact h4'
    iexact H4
  isplitl [H5]
  · iexists f5; isplitr; · ipureintro; exact h5
    iexact H5
  isplitl [H6]
  · iexists _; isplitr; swap; · iexact H6
    ipureintro
    refine (View.read_writes_full _ _ _ _ _).trans ?_
    rw [← hU3]; unfold up; dsimp only
    rw [← k25, ← g26, ← g27, ← b26, ← b27]; rfl
  isplitl [H7]
  · iexists _; isplitr; swap; · iexact H7
    ipureintro
    rw [← hU3]; unfold up; dsimp only
    refine st_tile _ (off25 i) h7 ?_
    rw [← t25, ← g26, ← g27, ← b26, ← b27]; rfl
  isplitl [H8]
  · iexists f8'; isplitr; · ipureintro; exact h8'
    iexact H8
  isplitl [H9]
  · iexists f9'; isplitr; · ipureintro; exact h9'
    iexact H9
  isplitl [H10]
  · iexists f10'; isplitr; · ipureintro; exact h10'
    iexact H10
  isplitl [H11]
  · iexists f11; isplitr; · ipureintro; exact h11
    iexact H11
  · iexists f12; isplitr; · ipureintro; exact h12
    iexact H12

end Top

end Cert.Kernel2Ideal.Attn

end
-- ==== Proof.AttnFrame.lean ====
/-
  The frame of the attention gradient's program: the body at any point, the run over all points, and the frame claim.
-/
module

public import proofs.«01_k».proof.Proof.AttnRun
public import proofs.«01_k».proof.Proof.AttnTop

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at any point. -/
theorem sound_body (c : Dev nD) (t : Fin (cfg0 (F := F)).N) :
    bodyPre m c t ⊢ wp Idealize.ShloMosaic.frame (wpE (defs₀ (F := F)) 𝒱₀ (c : Thread nD τ) none) Set.univ (bodyAt0 (F := F) t) (fun _ => bodyPost m c t) := by
  have hN : t.val < 64 := lt_of_lt_of_eq t.isLt (show (cfg0 (F := F)).N = 64 from N_0)
  have e0 := coord_pair t
  have e1 := coord_tile t
  unfold bodyPre bodyPost bodyAt0
  simp only [before0, before1, before2, before3]
  rw [show (dats m 0 c).Φ t.succ = kept c (t.val + 1) from rfl, show (dats m 0 c).Φ t.castSucc = kept c t.val from rfl,
    show (dats m 0 c).owesAt () t.succ = (dats m 0 c).owesAt () t.castSucc from rfl,
    after0, after1, after2, after3, after4, after5, after6]
  unfold kept
  by_cases h0 : t.val % 16 = 0
  · rw [outs_top m c t h0]
    iintro ⟨⟨%g, %b, %lw, %uw, %hk, H9, H10, H11, H12, Hr⟩, Ho, ⟨%d0, H0⟩, ⟨%d1, H1⟩, ⟨%d2, H2⟩, ⟨%d3, H3⟩, ⟨%d4, H4⟩, ⟨%d5, H5⟩, ⟨%d6, H6⟩⟩
    have hp := point_congr (ctxAt m c t) (t.val % 16) (by omega) k0_pay118 k0_pay119 slab0 slab0 g b
    iapply (wp_wand_r _ _ _)
    isplitr [Ho Hr]
    · iapply (run_top c (grid0.coords t) _ _ _ _ _ _ _ _ _ _ _ _ _ _ _ _ _ _ _ _ _ _ Set.univ (by omega) (blk m c 0 t) (blk m c 1 t) (blk m c 2 t) (blk m c 3 t) ((dats m 0 c).before 4 t d4)
        ((dats m 0 c).before 5 t d5) ((dats m 0 c).before 6 t d6) g b lw uw k0_pay116 k0_pay117 (fun _ => ⟨rfl, rfl⟩) (fun h => have := hk (by omega); ⟨this.1.symm, this.2.symm⟩) (ctxAt m c t) rfl)
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]; · iexact H9
      isplitl [H10]; · iexact H10
      isplitl [H11]; · iexact H11
      iexact H12
    · unfold bufs
      rw [show (grid0.coords t 1).val = t.val % 16 by omega, ← hp.1, ← hp.2.1, ← hp.2.2]
      iintro %_ ⟨H0, H1, H2, H3, H4, H5, H6, H9, H10, H11, H12⟩
      isplitl [H9 H10 H11 H12 Hr]
      · iexists _; iexists _; iexists _; iexists _
        isplitr; · ipureintro; exact fun _ => ⟨rfl, rfl⟩
        isplitl [H9]; · iexact H9
        isplitl [H10]; · iexact H10
        isplitl [H11]; · iexact H11
        isplitl [H12]; · iexact H12
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · rw [outs_below m c t h0]
    simp only [before5 m c t h0, before6 m c t h0]
    iintro ⟨⟨%g, %b, %lw, %uw, %hk, H9, H10, H11, H12, Hr⟩, Ho, ⟨%d0, H0⟩, ⟨%d1, H1⟩, ⟨%d2, H2⟩, ⟨%d3, H3⟩, ⟨%d4, H4⟩, ⟨%d5, H5⟩, ⟨%d6, H6⟩⟩
    have hp := point_congr (ctxAt m c t) (t.val % 16) (by omega) (outs m c (t.val - 1) (Nat.lt_of_le_of_lt (Nat.sub_le _ _) t.isLt)).2.1 (outs m c (t.val - 1) (Nat.lt_of_le_of_lt (Nat.sub_le _ _) t.isLt)).2.2 slab0 slab0 g b
    obtain ⟨rfl, rfl⟩ := hk (by omega)
    iapply (wp_wand_r _ _ _)
    isplitr [Ho Hr]
    · iapply (run_below c (grid0.coords t) _ _ _ _ _ _ _ _ _ _ _ _ _ _ _ _ _ _ _ _ _ _ Set.univ (by omega) (blk m c 0 t) (blk m c 1 t) (blk m c 2 t) (blk m c 3 t) ((dats m 0 c).before 4 t d4)
        (outs m c (t.val - 1) (Nat.lt_of_le_of_lt (Nat.sub_le _ _) t.isLt)).2.1 (outs m c (t.val - 1) (Nat.lt_of_le_of_lt (Nat.sub_le _ _) t.isLt)).2.2 g b k0_pay116 k0_pay117 (ctxAt m c t) rfl)
      unfold bufs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]; · iexact H9
      isplitl [H10]; · iexact H10
      isplitl [H11]; · iexact H11
      iexact H12
    · unfold bufs
      rw [show (grid0.coords t 1).val = t.val % 16 by omega, ← hp.1, ← hp.2.1, ← hp.2.2]
      iintro %_ ⟨H0, H1, H2, H3, H4, H5, H6, H9, H10, H11, H12⟩
      isplitl [H9 H10 H11 H12 Hr]
      · iexists _; iexists _; iexists _; iexists _
        isplitr; · ipureintro; exact fun _ => ⟨rfl, rfl⟩
        isplitl [H9]; · iexact H9
        isplitl [H10]; · iexact H10
        isplitl [H11]; · iexact H11
        isplitl [H12]; · iexact H12
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_row (t : Fin (cfg0 (F := F)).N) :
    defs₀ (F := F) .tc (cfg0 (F := F)).body ((cfg0 (F := F)).bodyArgs t ((cfg0 (F := F)).slots t)) = bodyAt0 (F := F) t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

/-! ## The run -/

/-- Before the first point what the kernel keeps holds anything. -/
theorem kept_in (c : Dev nD) : Pipeline.ΦA (Val := Elt F) (U := UR sig nD τ) spec0 c ⊢ kept (F := F) c 0 := by
  unfold Pipeline.ΦA kept
  rw [scopedRest0_eq]
  iintro ⟨⟨⟨%f0, H0⟩, ⟨%f1, H1⟩, ⟨%f2, H2⟩, ⟨%f3, H3⟩⟩, Hr⟩
  iexists f0; iexists f1; iexists f2; iexists f3
  rw [owns_whole, owns_whole, owns_whole, owns_whole]
  isplitr; · ipureintro; exact fun h => absurd rfl h
  isplitl [H0]; · iexact H0
  isplitl [H1]; · iexact H1
  isplitl [H2]; · iexact H2
  isplitl [H3]; · iexact H3
  iexact Hr

/-- After the last what it holds is forgotten. -/
theorem kept_out (c : Dev nD) (n : ℕ) : kept (F := F) c n ⊢ Pipeline.ΦA (Val := Elt F) (U := UR sig nD τ) spec0 c := by
  unfold Pipeline.ΦA kept
  rw [scopedRest0_eq]
  simp only [owns_whole]
  iintro ⟨%g, %b, %lw, %uw, %hk, H0, H1, H2, H3, Hr⟩
  isplitr [Hr]
  · isplitl [H0]; · iexists _; iexact H0
    isplitl [H1]; · iexists _; iexact H1
    isplitl [H2]; · iexists _; iexact H2
    iexists _; iexact H3
  iexact Hr

set_option backward.isDefEq.respectTransparency.types false in
/-- The run: it ends with every semaphore at zero and the arrays at what the proof data says. -/
theorem run_quiescent : θ_run defs (onTc (τ := τ) (main (F := F))) (s₀ m ρ) (fun r => (Pipeline.FramePost cfgs (dats m) 0 (entry m)) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := entry m) (hmain := host_main m) (hA := A_eq m) (hin := fun c => kept_in c) (hout := fun c => kept_out c _)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (show ∀ w : Fin 7, (spec0 w).arr.view.ref ≠ main_arg0 by decide))).trans (entry_arg m c _ (by decide)),
      ((h.1 c).2 main_arg1 (Pipeline.mem_restRefs_of main_arg1 (by decide) (show ∀ w : Fin 7, (spec0 w).arr.view.ref ≠ main_arg1 by decide))).trans (entry_arg m c _ (by decide)),
      ((h.1 c).2 main_arg2 (Pipeline.mem_restRefs_of main_arg2 (by decide) (show ∀ w : Fin 7, (spec0 w).arr.view.ref ≠ main_arg2 by decide))).trans (entry_arg m c _ (by decide)),
      ((h.1 c).2 main_arg3 (Pipeline.mem_restRefs_of main_arg3 (by decide) (show ∀ w : Fin 7, (spec0 w).arr.view.ref ≠ main_arg3 by decide))).trans (entry_arg m c _ (by decide))⟩, h.2⟩) (run_quiescent m ρ)

end Cert.Kernel2Ideal.Attn

end
-- ==== Proof.AttnMath.lean ====
/-
  The stick-breaking attention's gradient in real numbers: for one query, the weights of the keys, their gradients, and
  the gradients of the scores; and what the extended reals' operations do to real numbers.
-/
module

public import Idealize.ShloMosaic.PureOps.Ideal.Laws
public import Idealize.ShloMosaic.Lib.IdealHost

@[expose] public section

noncomputable section

open Idealize.ShloMosaic

namespace Cert.AttnMath

open Finset

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [sum_insert h, sum_insert h, EReal.coe_add, ih]

/-- A sum over the first `n` indices, as a sum over the naturals below `n`. -/
theorem sum_fin {n : ℕ} (f : Fin n → EReal) (g : ℕ → ℝ) (h : ∀ i : Fin n, f i = ((g i.val : ℝ) : EReal)) :
    ∑ i, f i = ((∑ i ∈ range n, g i : ℝ) : EReal) := by
  rw [coe_sum, ← Fin.sum_univ_eq_sum_range (fun i => (g i : EReal)) n]
  exact sum_congr rfl fun i _ => h i

theorem coe_max (a b : ℝ) : ((max a b : ℝ) : EReal) = max (a : EReal) (b : EReal) :=
  Monotone.map_max (fun _ _ h => EReal.coe_le_coe_iff.mpr h)

theorem max_neg (a : ℝ) : max (a : EReal) (-(a : EReal)) = ((|a| : ℝ) : EReal) := by
  rw [← EReal.coe_neg, ← coe_max]; rfl

theorem exp_coe (a : ℝ) : Ideal.exp (a : EReal) = ((Real.exp a : ℝ) : EReal) := rfl

theorem log_coe {a : ℝ} (h : 0 < a) : Ideal.log (a : EReal) = ((Real.log a : ℝ) : EReal) :=
  if_neg (not_le.mpr h)

theorem log_one_add (a : ℝ) : Ideal.log (1 + ((Real.exp a : ℝ) : EReal)) = ((Real.log (1 + Real.exp a) : ℝ) : EReal) := by
  rw [← EReal.coe_one, ← EReal.coe_add, log_coe (by positivity)]

theorem ofBits_eighth : Ideal.ofBits .f32 0x3E000000#32 = ((1 / 8 : ℝ) : EReal) := by
  simp [Ideal.ofBits, Ideal.ieee, -EReal.coe_mul]; norm_num

/-! ## One query -/

/-- The logarithm of one plus the exponential, without overflow. -/
def sp (x : ℝ) : ℝ := max x 0 + Real.log (1 + Real.exp (-|x|))

theorem sp_neg (x : ℝ) : sp (-x) = sp x - x := by
  unfold sp
  rw [abs_neg]
  rcases le_total x 0 with h | h
  · rw [max_eq_left (by linarith : (0 : ℝ) ≤ -x), max_eq_right h]; ring
  · rw [max_eq_right (by linarith : -x ≤ (0 : ℝ)), max_eq_left h]; ring

/-- The sigmoid. -/
def sg (x : ℝ) : ℝ := Real.exp (x - sp x)

/-- The two sigmoids of opposite arguments add up to one. -/
theorem sg_add (x : ℝ) : Real.exp (-x - sp (-x)) = 1 - sg x := by
  have hp : 0 < 1 + Real.exp (-|x|) := by positivity
  have e : ∀ y : ℝ, |y| = |x| → Real.exp (y - sp y) = Real.exp (y - max y 0) / (1 + Real.exp (-|x|)) := by
    intro y hy
    unfold sp
    rw [hy, ← sub_sub, Real.exp_sub, Real.exp_log hp]
  unfold sg
  rw [e (-x) (abs_neg x), e x rfl, eq_sub_iff_add_eq, ← add_div, div_eq_one_iff_eq hp.ne']
  rcases le_total x 0 with h | h
  · rw [max_eq_left (by linarith : (0 : ℝ) ≤ -x), max_eq_right h, abs_of_nonpos h]; simp
  · rw [max_eq_right (by linarith : -x ≤ (0 : ℝ)), max_eq_left h, abs_of_nonneg h]; simp; ring

/-- The logarithm of one minus the sigmoid of the score of key `u`, for keys before the query `t`; zero for the others. -/
def lg (z : ℕ → ℝ) (t u : ℕ) : ℝ := if u < t then -sp (z u) else 0

/-- The weight of key `s` for query `t`. -/
def wt (z : ℕ → ℝ) (t s : ℕ) : ℝ := if s < t then Real.exp (z s - sp (z s) + ∑ u ∈ Ico (s + 1) t, lg z t u) else 0

/-- The weight times its gradient `e`. -/
def gr (z e : ℕ → ℝ) (t s : ℕ) : ℝ := e s * wt z t s

/-- The gradient of the score of key `s`. -/
def ds (z e : ℕ → ℝ) (t s : ℕ) : ℝ :=
  if s < t then gr z e t s - sg (z s) * (gr z e t s + ∑ u ∈ range s, gr z e t u) else 0

/-- The sum of the logarithms after key `s` may run over any keys beyond the query too. -/
theorem sum_lg (z : ℕ → ℝ) (t s N : ℕ) (h : t ≤ N) : ∑ u ∈ Ico (s + 1) N, lg z t u = ∑ u ∈ Ico (s + 1) t, lg z t u := by
  rcases le_total (s + 1) t with h1 | h1
  · rw [← sum_Ico_consecutive _ h1 h, (sum_eq_zero fun u hu => if_neg (by have := mem_Ico.mp hu; omega) : ∑ u ∈ Ico t N, lg z t u = 0), add_zero]
  · rw [Ico_eq_empty_of_le h1, sum_empty]
    exact sum_eq_zero fun u hu => if_neg (by have := mem_Ico.mp hu; omega)

theorem wt_of_le (z : ℕ → ℝ) {t s : ℕ} (h : t ≤ s) : wt z t s = 0 := if_neg (not_lt.mpr h)
theorem gr_of_le (z e : ℕ → ℝ) {t s : ℕ} (h : t ≤ s) : gr z e t s = 0 := by unfold gr; rw [wt_of_le z h, mul_zero]
theorem ds_of_le (z e : ℕ → ℝ) {t s : ℕ} (h : t ≤ s) : ds z e t s = 0 := if_neg (not_lt.mpr h)

/-- The same weight by any longer sum. -/
theorem wt_eq (z : ℕ → ℝ) (t s N : ℕ) (h : t ≤ N) :
    wt z t s = if s < t then Real.exp (z s - sp (z s) + ∑ u ∈ Ico (s + 1) N, lg z t u) else 0 := by
  unfold wt; rw [sum_lg z t s N h]

/-- The gradient of a score, as the two logarithms' gradients give it. -/
theorem ds_eq (z e : ℕ → ℝ) (t s : ℕ) :
    ds z e t s = gr z e t s * (1 - sg (z s)) - (if s < t then ∑ u ∈ range s, gr z e t u else 0) * sg (z s) := by
  unfold ds
  split_ifs with h
  · ring
  · rw [gr_of_le z e (not_lt.mp h)]; ring

/-- Later keys of a tile, then the later tiles. -/
theorem sum_tile_later (f : ℕ → ℝ) (j b N : ℕ) (hb : b < 256) (hN : 256 * (j + 1) ≤ N) :
    ∑ u ∈ range 256, f (256 * j + u) * (if b < u then 1 else 0) + ∑ u ∈ Ico (256 * (j + 1)) N, f u = ∑ u ∈ Ico (256 * j + b + 1) N, f u := by
  have e : ∑ u ∈ range 256, f (256 * j + u) * (if b < u then (1 : ℝ) else 0) = ∑ u ∈ Ico (256 * j + b + 1) (256 * (j + 1)), f u := by
    rw [sum_congr rfl fun u _ => mul_ite_zero .., sum_congr rfl (fun u _ => by rw [mul_one] : ∀ u ∈ range 256, (if b < u then f (256 * j + u) * 1 else 0) = if b < u then f (256 * j + u) else 0),
      ← sum_filter]
    refine sum_bij' (fun u _ => 256 * j + u) (fun u _ => u - 256 * j) ?_ ?_ ?_ ?_ ?_
    · intro u hu; have := mem_filter.mp hu; have := mem_range.mp this.1; exact mem_Ico.mpr (by omega)
    · intro u hu; have := mem_Ico.mp hu; exact mem_filter.mpr ⟨mem_range.mpr (by omega), by omega⟩
    · intro u _; omega
    · intro u hu; have := mem_Ico.mp hu; omega
    · intro u _; rfl
  rw [e, sum_Ico_consecutive _ (by omega) hN]

/-- Earlier keys of a tile, after the earlier tiles. -/
theorem sum_tile_earlier (f : ℕ → ℝ) (j b : ℕ) (hb : b < 256) :
    ∑ u ∈ range 256, f (256 * j + u) * (if u < b then 1 else 0) + ∑ u ∈ range (256 * j), f u = ∑ u ∈ range (256 * j + b), f u := by
  have e : ∑ u ∈ range 256, f (256 * j + u) * (if u < b then (1 : ℝ) else 0) = ∑ u ∈ range b, f (256 * j + u) := by
    rw [← sum_subset (range_subset_range.mpr hb.le) fun u _ hu => by rw [if_neg (by simpa using hu), mul_zero]]
    exact sum_congr rfl fun u hu => by rw [if_pos (mem_range.mp hu), mul_one]
  rw [e, add_comm, sum_range_add]

/-- A whole tile, before or after what is summed already. -/
theorem sum_tile (f : ℕ → ℝ) (j : ℕ) : ∑ u ∈ range (256 * j), f u + ∑ u ∈ range 256, f (256 * j + u) = ∑ u ∈ range (256 * (j + 1)), f u := by
  rw [mul_add, mul_one, sum_range_add]

theorem sum_tile_Ico (f : ℕ → ℝ) (j N : ℕ) (hN : 256 * (j + 1) ≤ N) :
    ∑ u ∈ Ico (256 * (j + 1)) N, f u + ∑ u ∈ range 256, f (256 * j + u) = ∑ u ∈ Ico (256 * j) N, f u := by
  rw [← sum_Ico_consecutive f (by omega : 256 * j ≤ 256 * (j + 1)) hN, add_comm, sum_Ico_eq_sum_range f (256 * j), show 256 * (j + 1) - 256 * j = 256 by omega]

end Cert.AttnMath

end
-- ==== Proof.AttnTile.lean ====
/-
  The attention gradient's kernel at real numbers: when what a grid point reads is real, so is what it leaves, and it is
  given here in closed form, for the 256 queries of one tile and all their keys.
-/
module

public import proofs.«01_k».proof.Proof.AttnSlabs
public import proofs.«01_k».proof.Proof.AttnMath
public import Idealize.ShloMosaic.Lib.Pointwise
public import Idealize.ShloMosaic.Lib.WordCmp
public import Idealize.ShloMosaic.Lib.Pipeline.ValueKit

@[expose] public section

set_option maxRecDepth 16384

noncomputable section

namespace Cert.Kernel2Ideal.Attn

open Idealize.ShloMosaic Cert.Kernel2Ideal Cert.Kernel2Ideal.Gen
open Cert.AttnMath Finset

/-- A matrix holds the real numbers `f`. -/
def Is {n m : ℕ} (X : (⟨2, ![n, m]⟩ : Shape).Idx → EReal) (f : ℕ → ℕ → ℝ) : Prop :=
  ∀ (a : Fin n) (b : Fin m), X (ix2 a b) = ((f a.val b.val : ℝ) : EReal)

/-- The same of a tile kept in a slab. -/
def Is4 (X : (⟨4, ![1, 1, 256, 256]⟩ : Shape).Idx → EReal) (f : ℕ → ℕ → ℝ) : Prop :=
  ∀ a b : Fin 256, X (ix4 0 0 a b) = ((f a.val b.val : ℝ) : EReal)

theorem Is.congr {n m : ℕ} {X : (⟨2, ![n, m]⟩ : Shape).Idx → EReal} {f g : ℕ → ℕ → ℝ} (h : Is X f)
    (e : ∀ a < n, ∀ b < m, f a b = g a b) : Is X g :=
  fun a b => (h a b).trans (congrArg _ (e a a.isLt b b.isLt))

/-! ## The pieces -/

theorem scores_is {q : FVec Ideal S256x128 .bf16} {k : Vec Ideal S256x128 .bf16} {f g : ℕ → ℕ → ℝ} (hq : Is q f) (hk : Is k g) :
    Is (scores q k) (fun a b => ∑ l ∈ range 128, f a l * g b l) := by
  intro a b
  pointwise [scores]
  exact sum_fin _ (fun l => f a l * g b l) fun l => by rw [hq, hk, ← EReal.coe_mul]

theorem tileAt_is {e : EltTy} {X : Vec Ideal S4096x128 e} {f : ℕ → ℕ → EReal} (c : Elt Ideal e → EReal) (h : ∀ (a : Fin 4096) (b : Fin 128), c (X (ix2 a b)) = f a b)
    {j : ℕ} (hj : j < 16) (a : Fin 256) (b : Fin 128) : c (tileAt X j (ix2 a b)) = f (256 * j + a) b := by
  have ha := a.isLt
  have hb := b.isLt
  have hm : 256 * j + a.val < 4096 := by omega
  rw [← h ⟨256 * j + a.val, hm⟩ b]
  refine congrArg c (congrArg X (funext fun k => Fin.ext ?_))
  fin_cases k
  · show (256 * j + a.val) % 4096 = 256 * j + a.val; omega
  · show (0 + b.val) % 128 = b.val; omega

theorem putTile_is {X : Vec Ideal S4096x128 .f32} {w : FVec Ideal S256x128 .f32} {f g : ℕ → ℕ → ℝ} (hX : Is X f) (hw : Is w g) (j : ℕ) :
    Is (putTile X j w) (fun s c => if 256 * j ≤ s ∧ s < 256 * (j + 1) then g (s - 256 * j) c else f s c) := by
  intro s c
  have hc := c.isLt
  unfold putTile VecWindow.put
  show _ = (((if 256 * j ≤ s.val ∧ s.val < 256 * (j + 1) then g (s.val - 256 * j) c.val else f s.val c.val) : ℝ) : EReal)
  by_cases h : 256 * j ≤ s.val ∧ s.val < 256 * (j + 1)
  · rw [if_pos h, dif_pos, ← hw ⟨s.val - 256 * j, by omega⟩ c]
    · refine congrArg w (funext fun k => Fin.ext ?_)
      fin_cases k
      · rfl
      · exact Nat.sub_zero _
    · intro k
      fin_cases k
      · show 256 * j ≤ s.val ∧ s.val < 256 * j + 256; omega
      · show 0 ≤ c.val ∧ c.val < 0 + 128; omega
  · rw [if_neg h, dif_neg, hX s c]
    intro hall
    have : 256 * j ≤ s.val ∧ s.val < 256 * j + 256 := hall 0
    omega

theorem logNot_is {z : Tile Ideal} {f : ℕ → ℕ → ℝ} (h : Is z f) : Is (logNot z) (fun a b => -sp (f a b)) := by
  intro a b
  pointwise [logNot, zeroT]
  rw [h, show FloatOps.absf (F := Ideal) (φ := .f32) ((f a b : ℝ) : EReal) = max ((f a b : ℝ) : EReal) (-((f a b : ℝ) : EReal)) from rfl, max_neg, ← EReal.coe_zero,
    ← EReal.coe_sub, exp_coe, log_one_add, ← coe_max, ← EReal.coe_add, ← EReal.coe_sub]
  exact congrArg _ (by unfold sp; rw [zero_sub, zero_sub])

theorem masked_is {x : Tile Ideal} {f : ℕ → ℕ → ℝ} (h : Is x f) {i j : ℕ} (hj : j ≤ i) :
    Is (masked (decide (j = i)) x) (fun a b => if 256 * j + b < 256 * i + a then f a b else 0) := by
  intro a b
  have ha := a.isLt
  have hb := b.isLt
  unfold masked
  by_cases e : j = i
  · subst e
    rw [decide_eq_true rfl]
    show select k0_pay127 x zeroT (ix2 a b) = _
    pointwise [zeroT, k0_pay127]
    refine (if_congr (WordCmp.cmpi_slt_ofNat_eq_one_iff (by omega) (by omega)) rfl rfl).trans ?_
    by_cases hlt : b.val < a.val
    · rw [if_pos hlt, if_pos (by omega)]; exact h a b
    · rw [if_neg hlt, if_neg (by omega)]; rfl
  · rw [decide_eq_false e]
    show x (ix2 a b) = _
    beta_reduce
    rw [if_pos (by omega)]
    exact h a b

theorem later_is {low : Vec Ideal S256x256 .bf16} {l : Tile Ideal} {c : Col Ideal} {g f : ℕ → ℕ → ℝ} {k : ℕ → ℝ} (hlow : Is low g) (hl : Is l f) (hc : Is c fun a _ => k a) :
    Is (later low l c) (fun a b => ∑ u ∈ range 256, f a u * g u b + k a) := by
  intro a b
  pointwise [later]
  rw [hc, EReal.coe_add, sum_fin _ (fun u => f a u * g u b) fun u => by rw [hl, hlow, ← EReal.coe_mul]]

theorem carry_is {c : Col Ideal} {x : Tile Ideal} {k : ℕ → ℝ} {f : ℕ → ℕ → ℝ} (hc : Is c fun a _ => k a) (hx : Is x f) :
    Is (carry c x) (fun a _ => k a + ∑ u ∈ range 256, f a u) := by
  intro a b
  have : b = 0 := Subsingleton.elim _ _
  subst this
  pointwise [carry]
  rw [hc, EReal.coe_add, sum_fin _ (fun u => f a u) fun u => hx a u]

theorem addRows_is {t : Vec Ideal S256x128 .f32} {xa xb : FVec Ideal S256x256 .bf16} {ra rb : FVec Ideal S256x128 .bf16} {f A B R S : ℕ → ℕ → ℝ}
    (ht : Is t f) (hA : Is xa A) (hB : Is xb B) (hR : Is ra R) (hS : Is rb S) :
    Is (addRows t xa xb ra rb) (fun s c => f s c + (∑ a ∈ range 256, A a s * R a c + ∑ a ∈ range 256, B a s * S a c)) := by
  intro s c
  pointwise [addRows]
  rw [ht, EReal.coe_add, EReal.coe_add, sum_fin _ (fun a => A a s * R a c) fun u => by rw [hA, hR, ← EReal.coe_mul],
    sum_fin _ (fun a => B a s * S a c) fun u => by rw [hB, hS, ← EReal.coe_mul]]

theorem addCols_is {y : FVec Ideal S256x128 .f32} {x : FVec Ideal S256x256 .bf16} {k : Vec Ideal S256x128 .bf16} {f A R : ℕ → ℕ → ℝ}
    (hy : Is y f) (hA : Is x A) (hR : Is k R) : Is (addCols y x k) (fun a c => f a c + ∑ s ∈ range 256, A a s * R s c) := by
  intro a c
  pointwise [addCols]
  rw [hy, EReal.coe_add, sum_fin _ (fun s => A a s * R s c) fun u => by rw [hA, hR, ← EReal.coe_mul]]

theorem exp_is {z l : Tile Ideal} {f g : ℕ → ℕ → ℝ} (h : Is z f) (h' : Is l g) : Is (exp (addf z l)) (fun a b => Real.exp (f a b + g a b)) := by
  intro a b
  show Ideal.exp (z (ix2 a b) + l (ix2 a b)) = _
  rw [h, h', ← EReal.coe_add, exp_coe]

theorem add_is {z l : Tile Ideal} {f g : ℕ → ℕ → ℝ} (h : Is z f) (h' : Is l g) : Is (addf z l) (fun a b => f a b + g a b) := by
  intro a b
  show z (ix2 a b) + l (ix2 a b) = _
  rw [h, h', ← EReal.coe_add]

theorem zeroC_is : Is (zeroC (F := Ideal)) fun _ _ => 0 := by
  intro a b
  pointwise [zeroC, k0_pay1]
  exact EReal.coe_zero.symm

/-- Whether any weight may still count: always, for no real number is as low as the floor. -/
theorem left_is {ca cb : Col Ideal} {f g : ℕ → ℕ → ℝ} (ha : Is ca f) (hb : Is cb g) : left ca cb = 1#32 := by
  pointwise [left]
  rw [show (Named.named (F := Ideal) (φ := .f32) κ "floor" 3269197824#32 : EReal) = ⊥ from IdealRules.named_const.ideal_named_scalar _ _ _ _ rfl]
  refine (congrArg (fun b => Scalar.extui (BitVec.ofBool b)) (decide_eq_true ?_)).trans rfl
  refine (Finset.lt_fold_max _).mpr (Or.inr ⟨(0, 0), Finset.mem_univ _, ?_⟩)
  rw [ha, hb, ← coe_max]
  exact EReal.bot_lt_coe _

/-! ## One head on the way down -/

/-- A query's score against a key. -/
def dotp (f g : ℕ → ℕ → ℝ) (a u : ℕ) : ℝ := ∑ l ∈ range 128, f a l * g u l

/-- What a grid point reads is real: the tables, the two heads' queries and cotangents, the keys and the values. -/
structure Reads (x : Ctx Ideal) (qa qb da db K V : ℕ → ℕ → ℝ) : Prop where
  low : Is x.low fun a b => if b < a then 1 else 0
  upp : Is x.upp fun a b => if a < b then 1 else 0
  qa : Is x.qa qa
  qb : Is x.qb qb
  da : Is x.da da
  db : Is x.db db
  K : Is x.K K
  V : Is x.V V

variable {x : Ctx Ideal} {qa qb da db K V : ℕ → ℕ → ℝ}

theorem tileAt_bf {X : Vec Ideal S4096x128 .bf16} {f : ℕ → ℕ → ℝ} (h : Is X f) {j : ℕ} (hj : j < 16) : Is (tileAt X j) fun a b => f (256 * j + a) b :=
  fun a b => tileAt_is (e := .bf16) (X := X) (f := fun a b => ((f a b : ℝ) : EReal)) id h hj a b

theorem tileAt_f {X : Vec Ideal S4096x128 .f32} {f : ℕ → ℕ → ℝ} (h : Is X f) {j : ℕ} (hj : j < 16) : Is (tileAt X j) fun a b => f (256 * j + a) b :=
  fun a b => tileAt_is (e := .f32) (X := X) (f := fun a b => ((f a b : ℝ) : EReal)) id h hj a b

theorem score_is (hK : Is x.K K) {q : FVec Ideal S256x128 .bf16} {f : ℕ → ℕ → ℝ} (hq : Is q f) {j : ℕ} (hj : j < 16) :
    Is (scores q (tileAt x.K j)) fun a b => dotp f K a (256 * j + b) :=
  scores_is hq (tileAt_bf hK hj)

/-- The logarithms of a tile, those of the query's own and later keys zero. -/
theorem lg_is (hK : Is x.K K) {q : FVec Ideal S256x128 .bf16} {f : ℕ → ℕ → ℝ} (hq : Is q f) {i r : ℕ} (hi : i < 16) (hr : r ≤ i) :
    Is (masked (decide (r = 0)) (logNot (scores q (tileAt x.K (i - r))))) fun a b => lg (dotp f K a) (256 * i + a) (256 * (i - r) + b) := by
  have h := masked_is (logNot_is (score_is hK hq (by omega : i - r < 16))) (Nat.sub_le i r)
  rwa [show decide (i - r = i) = decide (r = 0) from decide_eq_decide.mpr (by omega)] at h

/-- The carry after `r` tiles: the logarithms of all their keys. -/
theorem car_is (hK : Is x.K K) {q : FVec Ideal S256x128 .bf16} {f : ℕ → ℕ → ℝ} (hq : Is q f) {i : ℕ} (hi : i < 16) :
    ∀ r ≤ i + 1, Is (car x q i r) fun a _ => ∑ u ∈ Ico (256 * (i + 1 - r)) (256 * (i + 1)), lg (dotp f K a) (256 * i + a) u := by
  intro r
  induction r with
  | zero => intro _; exact zeroC_is.congr fun a _ b _ => by rw [Nat.sub_zero, Ico_self, sum_empty]
  | succ r ih =>
    intro hr
    refine (carry_is (ih (by omega)) (lg_is hK hq hi (by omega : r ≤ i))).congr fun a _ b _ => ?_
    rw [show i + 1 - r = (i - r) + 1 by omega, sum_tile_Ico (fun u => lg (dotp f K a) (256 * i + a) u) (i - r) _ (by omega), show i + 1 - (r + 1) = i - r by omega]

/-- The weights of the `r`-th tile down. -/
theorem wAt_is (h : Reads x qa qb da db K V) {q : FVec Ideal S256x128 .bf16} {f : ℕ → ℕ → ℝ} (hq : Is q f) {i r : ℕ} (hi : i < 16) (hr : r ≤ i) :
    Is (wAt x q i r) fun a b => wt (dotp f K a) (256 * i + a) (256 * (i - r) + b) := by
  have hs := score_is h.K hq (by omega : i - r < 16)
  have := masked_is (exp_is (add_is hs (logNot_is hs)) (later_is h.low (lg_is h.K hq hi hr) (car_is h.K hq hi r (by omega)))) (Nat.sub_le i r)
  rw [show decide (i - r = i) = decide (r = 0) from decide_eq_decide.mpr (by omega)] at this
  refine this.congr fun a ha b hb => ?_
  rw [show i + 1 - r = (i - r) + 1 by omega, sum_tile_later (fun u => lg (dotp f K a) (256 * i + a) u) (i - r) b _ hb (by omega), wt_eq _ _ _ (256 * (i + 1)) (by omega)]
  rfl

/-- The weights times their gradients. -/
theorem gAt_is (h : Reads x qa qb da db K V) {q d : FVec Ideal S256x128 .bf16} {f e : ℕ → ℕ → ℝ} (hq : Is q f) (hd : Is d e) {i r : ℕ} (hi : i < 16) (hr : r ≤ i) :
    Is4 (gAt x q d i r) fun a b => gr (dotp f K a) (dotp e V a) (256 * i + a) (256 * (i - r) + b) := by
  intro a b
  have hw := wAt_is h hq hi hr a b
  have he := scores_is hd (tileAt_bf h.V (by omega : i - r < 16)) a b
  unfold gAt gTile
  pointwise []
  refine (congrArg₂ (fun u v : EReal => u * v) (Eq.trans ?_ he) hw).trans (EReal.coe_mul _ _).symm
  pointwise [scores]

/-- The sigmoids. -/
theorem bAt_is (h : Reads x qa qb da db K V) {q : FVec Ideal S256x128 .bf16} {f : ℕ → ℕ → ℝ} (hq : Is q f) {i r : ℕ} (hi : i < 16) (hr : r ≤ i) :
    Is4 (bAt x q i r) fun a b => sg (dotp f K a (256 * (i - r) + b)) := by
  intro a b
  have hs := score_is h.K hq (by omega : i - r < 16)
  have := exp_is hs (logNot_is hs) a b
  unfold bAt bTile
  pointwise []
  exact this

/-- The values' gradient after `n` tiles down. -/
theorem dvs_is (h : Reads x qa qb da db K V) {dv : Vec Ideal S4096x128 .f32} {f : ℕ → ℕ → ℝ} (hf : Is dv f) {i : ℕ} (hi : i < 16) :
    ∀ n ≤ i + 1, Is (dvs x i dv n) fun s c => if 256 * (i + 1 - n) ≤ s then f s c + (∑ a ∈ range 256, wt (dotp qa K a) (256 * i + a) s * da a c
      + ∑ a ∈ range 256, wt (dotp qb K a) (256 * i + a) s * db a c) else f s c := by
  intro n
  induction n with
  | zero =>
    intro _
    refine hf.congr fun s _ c _ => ?_
    split_ifs with hs
    · rw [sum_eq_zero fun a ha => ?_, sum_eq_zero fun a ha => ?_, add_zero, add_zero]
      all_goals (rw [wt_of_le _ (by have := mem_range.mp ha; omega), zero_mul])
    · rfl
  | succ n ih =>
    intro hn
    have hw := addRows_is (tileAt_f (ih (by omega)) (by omega : i - n < 16)) (wAt_is h h.qa hi (by omega : n ≤ i)) (wAt_is h h.qb hi (by omega : n ≤ i)) h.da h.db
    refine (putTile_is (ih (by omega)) hw (i - n)).congr fun s _ c _ => ?_
    rw [show i + 1 - (n + 1) = i - n by omega]
    by_cases h1 : 256 * (i - n) ≤ s ∧ s < 256 * (i - n + 1)
    · rw [if_pos h1, if_pos h1.1, show 256 * (i - n) + (s - 256 * (i - n)) = s by omega, if_neg (by omega)]
    · rw [if_neg h1]
      by_cases h2 : 256 * (i + 1 - n) ≤ s
      · rw [if_pos h2, if_pos (by omega)]
      · rw [if_neg h2, if_neg (by omega)]

/-! ## The loop -/

/-- With real carries the loop runs through every tile. -/
theorem downs_count (h : Reads x qa qb da db K V) {i : ℕ} (hi : i < 16) (dv : Vec Ideal S4096x128 .f32) :
    ∀ k n s, n + k = i + 1 → 1 ≤ n → Good x i dv n s → (downs x i k n 1#32 s).1 = i + 1 := by
  intro k
  induction k with
  | zero => intro n s hn _ _; exact hn
  | succ k ih =>
    intro n s hn h1 hs
    have g := good_down x i hi dv n (by omega) s hs
    rw [decide_eq_false (by omega)] at g
    unfold downs
    rw [if_pos, g.ca, g.cb, left_is (car_is h.K h.qa hi (n + 1) (by omega)) (car_is h.K h.qb hi (n + 1) (by omega))]
    · exact ih (n + 1) _ (by omega) (by omega) g
    · unfold more
      rw [show Scalar.cmpi .sle (BitVec.ofNat 32 n) (BitVec.ofNat 32 i) = 1#1 from
        (WordCmp.cmpi_sle_ofNat_eq_one_iff (by omega) (by omega)).mpr (by omega)]
      rfl

theorem tiles_eq (h : Reads x qa qb da db K V) {i : ℕ} (hi : i < 16) (dv : Vec Ideal S4096x128 .f32) (g b : Slab Ideal) :
    tiles x i dv g b = i + 1 ∧ (1 ≤ i → (allDown x i dv g b).1 = i + 1) := by
  have key : 1 ≤ i → (allDown x i dv g b).1 = i + 1 := by
    intro h1
    have a1 := good_down x i hi dv 0 (by omega) _ (good_zero x i dv g b)
    rw [decide_eq_true rfl, Nat.sub_zero] at a1
    have b1 := good_down x i hi dv 1 h1 _ a1
    rw [decide_eq_false (by omega)] at b1
    unfold allDown
    rw [if_pos h1, b1.ca, b1.cb, left_is (car_is h.K h.qa hi 2 (by omega)) (car_is h.K h.qb hi 2 (by omega))]
    exact downs_count h hi dv _ _ _ (by omega) (by omega) b1
  refine ⟨?_, key⟩
  unfold tiles
  split_ifs with h1
  · exact key h1
  · omega

/-! ## The way up -/

/-- The slabs hold, at the tiles up to `i`, the two heads' weighted gradients and sigmoids. -/
structure Held (qa qb da db K V : ℕ → ℕ → ℝ) (i : ℕ) (g b : Slab Ideal) : Prop where
  ga : ∀ j ≤ i, Is4 (slabAt g 0 j) fun a u => gr (dotp qa K a) (dotp da V a) (256 * i + a) (256 * j + u)
  gb : ∀ j ≤ i, Is4 (slabAt g 1 j) fun a u => gr (dotp qb K a) (dotp db V a) (256 * i + a) (256 * j + u)
  ba : ∀ j ≤ i, Is4 (slabAt b 0 j) fun a u => sg (dotp qa K a (256 * j + u))
  bb : ∀ j ≤ i, Is4 (slabAt b 1 j) fun a u => sg (dotp qb K a (256 * j + u))

/-- After the way down they do. -/
theorem held_allDown (h : Reads x qa qb da db K V) {i : ℕ} (hi : i < 16) (dv : Vec Ideal S4096x128 .f32) (g b : Slab Ideal) :
    Held qa qb da db K V i (allDown x i dv g b).2.2.g (allDown x i dv g b).2.2.b := by
  have hg := (good_allDown x i hi dv g b g b).1
  rw [(tiles_eq h hi dv g b).1] at hg
  constructor
  all_goals
    intro j hj
    rw [show j = i - (i - j) by omega]
  · rw [hg.ga (i - j) (by omega)]; exact gAt_is h h.qa h.da hi (by omega)
  · rw [hg.gb (i - j) (by omega)]; exact gAt_is h h.qb h.db hi (by omega)
  · rw [hg.ba (i - j) (by omega)]; exact bAt_is h h.qa hi (by omega)
  · rw [hg.bb (i - j) (by omega)]; exact bAt_is h h.qb hi (by omega)

theorem square_is {G : FVec Ideal S1x1x256x256 .f32} {f : ℕ → ℕ → ℝ} (h : Is4 G f) : Is (shapeCast S256x256 G shapeCasts_S1x1x256x256_S256x256) f := by
  intro a b
  pointwise []
  exact h a b

/-- The gradients of a tile's scores. -/
theorem dscores_is (h : Reads x qa qb da db K V) {g b : FVec Ideal S1x1x256x256 .f32} {c : Col Ideal} {z e : ℕ → ℕ → ℝ} {i j : ℕ} (hj : j ≤ i)
    (hg : Is4 g fun a u => gr (z a) (e a) (256 * i + a) (256 * j + u)) (hb : Is4 b fun a u => sg (z a (256 * j + u)))
    (hc : Is c fun a _ => ∑ u ∈ range (256 * j), gr (z a) (e a) (256 * i + a) u) :
    Is (dscores (decide (j = i)) x.upp g b c) fun a u => ds (z a) (e a) (256 * i + a) (256 * j + u) := by
  have hl := later_is h.upp (square_is hg) hc
  refine (masked_is (f := fun a u => gr (z a) (e a) (256 * i + a) (256 * j + u) - sg (z a (256 * j + u)) * (gr (z a) (e a) (256 * i + a) (256 * j + u)
    + ∑ v ∈ range (256 * j + u), gr (z a) (e a) (256 * i + a) v)) ?_ hj : Is _ _)
  intro a u
  have hl' := hl a u
  beta_reduce at hl'
  rw [sum_tile_earlier (fun v => gr (z a) (e a) (256 * i + a) v) j u u.isLt] at hl'
  have hg' := square_is hg a u
  have hb' := square_is hb a u
  show shapeCast S256x256 g shapeCasts_S1x1x256x256_S256x256 (ix2 a u) - shapeCast S256x256 b shapeCasts_S1x1x256x256_S256x256 (ix2 a u)
    * (shapeCast S256x256 g shapeCasts_S1x1x256x256_S256x256 (ix2 a u) + later x.upp (shapeCast S256x256 g shapeCasts_S1x1x256x256_S256x256) c (ix2 a u)) = _
  rw [hg', hb', hl', ← EReal.coe_add, ← EReal.coe_mul, ← EReal.coe_sub]

/-- The state before tile `j` on the way up. -/
structure Rising (qa qb da db K V : ℕ → ℕ → ℝ) (i : ℕ) (f : ℕ → ℕ → ℝ) (j : ℕ) (s : Up Ideal) : Prop where
  dk : Is s.dk fun u c => if u < 256 * j then f u c + (∑ a ∈ range 256, ds (dotp qa K a) (dotp da V a) (256 * i + a) u * qa a c
    + ∑ a ∈ range 256, ds (dotp qb K a) (dotp db V a) (256 * i + a) u * qb a c) else f u c
  ca : Is s.ca fun a _ => ∑ u ∈ range (256 * j), gr (dotp qa K a) (dotp da V a) (256 * i + a) u
  cb : Is s.cb fun a _ => ∑ u ∈ range (256 * j), gr (dotp qb K a) (dotp db V a) (256 * i + a) u
  ya : Is s.ya fun a c => ∑ u ∈ range (256 * j), ds (dotp qa K a) (dotp da V a) (256 * i + a) u * K u c
  yb : Is s.yb fun a c => ∑ u ∈ range (256 * j), ds (dotp qb K a) (dotp db V a) (256 * i + a) u * K u c

/-- One tile up. -/
theorem rising_up (h : Reads x qa qb da db K V) {i : ℕ} (hi : i < 16) {f : ℕ → ℕ → ℝ} {g b : Slab Ideal} (hs : Held qa qb da db K V i g b) {j : ℕ} (hj : j ≤ i) {s : Up Ideal}
    (r : Rising qa qb da db K V i f j s) : Rising qa qb da db K V i f (j + 1) (up x g b (decide (j = i)) j s) := by
  have da' := dscores_is h hj (hs.ga j hj) (hs.ba j hj) r.ca
  have db' := dscores_is h hj (hs.gb j hj) (hs.bb j hj) r.cb
  have hK := tileAt_bf h.K (by omega : j < 16)
  refine ⟨?_, ?_, ?_, ?_, ?_⟩
  · refine (putTile_is r.dk (addRows_is (tileAt_f r.dk (by omega : j < 16)) da' db' h.qa h.qb) j).congr fun u _ c _ => ?_
    by_cases h1 : 256 * j ≤ u ∧ u < 256 * (j + 1)
    · rw [if_pos h1, if_pos h1.2, show 256 * j + (u - 256 * j) = u by omega, if_neg (by omega)]
    · rw [if_neg h1]
      by_cases h2 : u < 256 * j
      · rw [if_pos h2, if_pos (by omega)]
      · rw [if_neg h2, if_neg (by omega)]
  · exact (carry_is r.ca (square_is (hs.ga j hj))).congr fun a _ _ _ => sum_tile _ j
  · exact (carry_is r.cb (square_is (hs.gb j hj))).congr fun a _ _ _ => sum_tile _ j
  · exact (addCols_is r.ya da' hK).congr fun a _ c _ => sum_tile (fun u => ds (dotp qa K a) (dotp da V a) (256 * i + a) u * K u c) j
  · exact (addCols_is r.yb db' hK).congr fun a _ c _ => sum_tile (fun u => ds (dotp qb K a) (dotp db V a) (256 * i + a) u * K u c) j

theorem pay2_is : Is (k0_pay2 (F := Ideal)) fun _ _ => 0 := by
  intro a b
  pointwise [k0_pay2]
  exact EReal.coe_zero.symm

theorem rising_zero {i : ℕ} {f : ℕ → ℕ → ℝ} {dk : Vec Ideal S4096x128 .f32} (hf : Is dk f) : Rising qa qb da db K V i f 0 ⟨dk, zeroC, zeroC, k0_pay2, k0_pay2⟩ :=
  ⟨hf.congr fun _ _ _ _ => (if_neg (by omega)).symm, zeroC_is, zeroC_is, pay2_is, pay2_is⟩

theorem rising_ups (h : Reads x qa qb da db K V) {i : ℕ} (hi : i < 16) {f : ℕ → ℕ → ℝ} {g b : Slab Ideal} (hs : Held qa qb da db K V i g b) {s : Up Ideal}
    (r : Rising qa qb da db K V i f 0 s) : ∀ k ≤ i, Rising qa qb da db K V i f k (ups x g b 0 k s) := by
  intro k
  induction k with
  | zero => exact fun _ => r
  | succ k ih =>
    intro hk
    have := rising_up h hi hs (by omega : k ≤ i) (ih (by omega))
    rw [decide_eq_false (by omega)] at this
    unfold ups
    rwa [Nat.zero_add]

/-- The whole way up. -/
theorem rising_allUp (h : Reads x qa qb da db K V) {i : ℕ} (hi : i < 16) {f : ℕ → ℕ → ℝ} {g b : Slab Ideal} (hs : Held qa qb da db K V i g b)
    {dk : Vec Ideal S4096x128 .f32} (hf : Is dk f) (n : ℕ) (hn : 1 ≤ i → n = i + 1) : Rising qa qb da db K V i f (i + 1) (allUp x i n g b dk) := by
  have r0 := rising_zero (qa := qa) (qb := qb) (da := da) (db := db) (K := K) (V := V) (i := i) hf
  unfold allUp
  split_ifs with h1
  · rw [hn h1, Nat.sub_self, show i + 1 - 2 = i - 1 by omega]
    have r1 := rising_up h hi hs (Nat.sub_le i 1) (rising_ups h hi hs r0 (i - 1) (by omega))
    rw [decide_eq_false (by omega), show i - 1 + 1 = i by omega] at r1
    have r2 := rising_up h hi hs le_rfl r1
    rwa [decide_eq_true rfl] at r2
  · have e : i = 0 := by omega
    subst e
    have r2 := rising_up h hi hs le_rfl r0
    rwa [decide_eq_true rfl] at r2

/-! ## A grid point -/

/-- The queries' gradient of the tile. -/
theorem point_dq (h : Reads x qa qb da db K V) {i : ℕ} (hi : i < 16) {f : ℕ → ℕ → ℝ} {dk dv : Vec Ideal S4096x128 .f32} (hf : Is dk f) (g b : Slab Ideal) :
    Is (point x i dk dv g b).1 fun a c => (if c < 64 then ∑ u ∈ range 4096, ds (dotp qa K a) (dotp da V a) (256 * i + a) u * K u c
      else ∑ u ∈ range 4096, ds (dotp qb K a) (dotp db V a) (256 * i + a) u * K u c) / 8 := by
  have r := rising_allUp h hi (held_allDown h hi dv g b) hf _ (fun h1 => (tiles_eq h hi dv g b).2 h1)
  intro a c
  have ha := a.isLt
  have hc := c.isLt
  have cut : ∀ z e : ℕ → ℝ, ∑ u ∈ range (256 * (i + 1)), ds z e (256 * i + a) u * K u c = ∑ u ∈ range 4096, ds z e (256 * i + a) u * K u c := fun z e =>
    sum_subset (range_subset_range.mpr (by omega)) fun u _ hu => by rw [ds_of_le z e (by have := mem_range.not.mp hu; omega), zero_mul]
  unfold point
  dsimp only
  pointwise [k0_pay24, k0_pay120]
  rw [r.ya a c, r.yb a c]
  beta_reduce
  rw [cut, cut, ofBits_eighth]
  refine (congrArg (fun u : EReal => u * ((1 / 8 : ℝ) : EReal)) (if_congr (WordCmp.cmpi_slt_ofNat_eq_one_iff (a := c.val) (b := 64) (w := 32) (by omega) (by omega)) rfl rfl)).trans ?_
  split_ifs
  all_goals rw [← EReal.coe_mul, mul_one_div]

/-- The keys' gradient, over what it held. -/
theorem point_dk (h : Reads x qa qb da db K V) {i : ℕ} (hi : i < 16) {f : ℕ → ℕ → ℝ} {dk dv : Vec Ideal S4096x128 .f32} (hf : Is dk f) (g b : Slab Ideal) :
    Is (point x i dk dv g b).2.1 fun u c => f u c + (∑ a ∈ range 256, ds (dotp qa K a) (dotp da V a) (256 * i + a) u * qa a c
      + ∑ a ∈ range 256, ds (dotp qb K a) (dotp db V a) (256 * i + a) u * qb a c) := by
  have r := rising_allUp h hi (held_allDown h hi dv g b) hf _ (fun h1 => (tiles_eq h hi dv g b).2 h1)
  refine r.dk.congr fun u _ c _ => ?_
  split_ifs with hu
  · rfl
  · rw [sum_eq_zero fun a ha => ?_, sum_eq_zero fun a ha => ?_, add_zero, add_zero]
    all_goals (rw [ds_of_le _ _ (by have := mem_range.mp ha; omega), zero_mul])

/-- The values' gradient, over what it held. -/
theorem point_dv (h : Reads x qa qb da db K V) {i : ℕ} (hi : i < 16) {f : ℕ → ℕ → ℝ} {dk dv : Vec Ideal S4096x128 .f32} (hf : Is dv f) (g b : Slab Ideal) :
    Is (point x i dk dv g b).2.2.1 fun u c => f u c + (∑ a ∈ range 256, wt (dotp qa K a) (256 * i + a) u * da a c
      + ∑ a ∈ range 256, wt (dotp qb K a) (256 * i + a) u * db a c) := by
  have hg := (good_allDown x i hi dv g b g b).1
  rw [(tiles_eq h hi dv g b).1] at hg
  show Is (allDown x i dv g b).2.2.dv _
  rw [hg.dv]
  refine (dvs_is h hf hi (i + 1) le_rfl).congr fun u _ c _ => ?_
  rw [if_pos (by omega)]

end Cert.Kernel2Ideal.Attn

end
-- ==== Proof.AttnRef.lean ====
/-
  The attention gradient's reference at real arguments: each of its values in closed form, down to the three results.
-/
module

public import proofs.«01_k».proof.Proof.AttnMath
public import proofs.«01_k».proof.Proof.Gen.Reference2Ideal.Read
public import Idealize.ShloMosaic.Lib.Pointwise
public import Idealize.ShloMosaic.Lib.WordCmp
public import Idealize.ShloMosaic.Lib.Pipeline.ValueKit

@[expose] public section

set_option maxRecDepth 16384

noncomputable section

namespace Cert.Reference2Ideal.Attn

open Idealize.ShloMosaic Cert.Reference2Ideal Cert.Reference2Ideal.Gen Cert.Reference2Ideal.Read
open Cert.AttnMath Finset

/-! ## Running sums along the last axis -/

theorem foldl_add (n : ℕ) (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- A window of one row is its last coordinate. -/
def rowEquiv : (⟨4, ![1, 1, 1, 4096]⟩ : Shape).Idx ≃ Fin 4096 where
  toFun w := w 3
  invFun k := ix4 0 0 0 k
  left_inv w := by
    refine Eq.trans ?_ (eq_ix4 w).symm
    have e0 : (0 : Fin 1) = w 0 := Subsingleton.elim _ _
    have e1 : (0 : Fin 1) = w 1 := Subsingleton.elim _ _
    have e2 : (0 : Fin 1) = w 2 := Subsingleton.elim _ _
    show ix4 (0 : Fin 1) (0 : Fin 1) (0 : Fin 1) (w 3) = _
    rw [← e0, ← e1, ← e2]
    rfl
  right_inv _ := rfl

/-- A window of 4096 along the last axis, read at one place: its elements inside the operand, `L` places low. -/
theorem window_apply (L : ℕ) (hi : Fin 4 → ℕ)
    (hh : (⟨4, ![1, 8, 4096, 4096]⟩ : Shape).ReduceWindows ![1, 1, 1, 4096] ![1, 1, 1, 1] ![0, 0, 0, L] hi ⟨4, ![1, 8, 4096, 4096]⟩)
    (x : (⟨4, ![1, 8, 4096, 4096]⟩ : Shape).Idx → EReal) (f : ℕ → ℝ) (h : Fin 8) (a s : Fin 4096)
    (hx : ∀ u : Fin 4096, x (ix4 0 h a u) = ((f u.val : ℝ) : EReal)) :
    Ideal.hostReduceWindowAdd ![1, 1, 1, 4096] ![1, 1, 1, 1] ![0, 0, 0, L] hi hh x 0 (ix4 0 h a s)
      = ((∑ n ∈ range 4096, if L ≤ s.val + n ∧ s.val + n - L < 4096 then f (s.val + n - L) else 0 : ℝ) : EReal) := by
  unfold Ideal.hostReduceWindowAdd Host.reduceWindow
  dsimp only
  rw [foldl_add, zero_add]
  rw [← Fin.sum_univ_eq_sum_range (fun n => if L ≤ s.val + n ∧ s.val + n - L < 4096 then f (s.val + n - L) else 0) 4096, coe_sum]
  refine Fintype.sum_equiv ((⟨4, ![1, 1, 1, 4096]⟩ : Shape).rowMajor.symm.trans rowEquiv) _ _ fun i => ?_
  let w : (⟨4, ![1, 1, 1, 4096]⟩ : Shape).Idx := (⟨4, ![1, 1, 1, 4096]⟩ : Shape).rowMajor.symm i
  change _ = ((if L ≤ s.val + (w 3).val ∧ s.val + (w 3).val - L < 4096 then f (s.val + (w 3).val - L) else 0 : ℝ) : EReal)
  have w0 : (w 0).val < 1 := (w 0).isLt
  have w1 : (w 1).val < 1 := (w 1).isLt
  have w2 : (w 2).val < 1 := (w 2).isLt
  have hh := h.isLt
  have ha := a.isLt
  by_cases hin : L ≤ s.val + (w 3).val ∧ s.val + (w 3).val - L < 4096
  · rw [if_pos hin, dif_pos]
    · refine Eq.trans (congrArg x (funext fun k => Fin.ext ?_)) (hx ⟨s.val + (w 3).val - L, hin.2⟩)
      fin_cases k
      · show 0 * 1 + (w 0).val - 0 = 0; omega
      · show h.val * 1 + (w 1).val - 0 = h.val; omega
      · show a.val * 1 + (w 2).val - 0 = a.val; omega
      · show s.val * 1 + (w 3).val - L = s.val + (w 3).val - L; omega
    · intro k
      fin_cases k
      · show 0 ≤ 0 * 1 + (w 0).val ∧ 0 * 1 + (w 0).val - 0 < 1; omega
      · show 0 ≤ h.val * 1 + (w 1).val ∧ h.val * 1 + (w 1).val - 0 < 8; omega
      · show 0 ≤ a.val * 1 + (w 2).val ∧ a.val * 1 + (w 2).val - 0 < 4096; omega
      · show L ≤ s.val * 1 + (w 3).val ∧ s.val * 1 + (w 3).val - L < 4096; omega
  · rw [if_neg hin, dif_neg]
    · rfl
    · intro hall
      have : L ≤ s.val * 1 + (w 3).val ∧ s.val * 1 + (w 3).val - L < 4096 := hall 3
      omega

/-- From a place to the end. -/
theorem suffix_sum (f : ℕ → ℝ) (s : ℕ) (hs : s < 4096) :
    ∑ n ∈ range 4096, (if 0 ≤ s + n ∧ s + n - 0 < 4096 then f (s + n - 0) else 0) = ∑ u ∈ Ico s 4096, f u := by
  rw [sum_Ico_eq_sum_range, ← sum_subset (range_subset_range.mpr (by omega : 4096 - s ≤ 4096)) fun u _ hu => if_neg (by have := mem_range.not.mp hu; omega)]
  exact sum_congr rfl fun u hu => if_pos (by have := mem_range.mp hu; omega)

/-- From the start to a place. -/
theorem prefix_sum (f : ℕ → ℝ) (s : ℕ) (hs : s < 4096) :
    ∑ n ∈ range 4096, (if 4095 ≤ s + n ∧ s + n - 4095 < 4096 then f (s + n - 4095) else 0) = ∑ u ∈ range (s + 1), f u := by
  rw [← sum_filter]
  refine sum_bij' (fun n _ => s + n - 4095) (fun u _ => u + 4095 - s) ?_ ?_ ?_ ?_ ?_
  · intro n hn; have := mem_filter.mp hn; have := mem_range.mp this.1; exact mem_range.mpr (by omega)
  · intro u hu; have := mem_range.mp hu; exact mem_filter.mpr ⟨mem_range.mpr (by omega), by omega⟩
  · intro n hn; have := mem_filter.mp hn; have := mem_range.mp this.1; omega
  · intro u hu; have := mem_range.mp hu; omega
  · intro n _; rfl

/-! ## The values -/

/-- An argument holds the real numbers `f`. -/
def IsArg (x : (⟨3, ![1, 4096, 512]⟩ : Shape).Idx → EReal) (f : ℕ → ℕ → ℝ) : Prop :=
  ∀ (t : Fin 4096) (c : Fin 512), x (ix3 0 t c) = ((f t.val c.val : ℝ) : EReal)

/-- A value of the eight heads holds the real numbers `f`. -/
def IsHeads {n m : ℕ} (X : (⟨4, ![1, 8, n, m]⟩ : Shape).Idx → EReal) (f : ℕ → ℕ → ℕ → ℝ) : Prop :=
  ∀ (h : Fin 8) (a : Fin n) (b : Fin m), X (ix4 0 h a b) = ((f h.val a.val b.val : ℝ) : EReal)

/-- The score of a query and a key of one head. -/
def score (Q K : ℕ → ℕ → ℝ) (h t s : ℕ) : ℝ := (∑ l ∈ range 64, Q t (64 * h + l) * K s (64 * h + l)) * (1 / 8)

/-- The gradient of a weight. -/
def wgrad (V C : ℕ → ℕ → ℝ) (h t s : ℕ) : ℝ := ∑ l ∈ range 64, C t (64 * h + l) * V s (64 * h + l)

variable {x0 x1 x2 x3 : (⟨S1x4096x512, .f32⟩ : BufTy).Contents (Elt Ideal)} {Q K V C : ℕ → ℕ → ℝ}

theorem v2_is (h0 : IsArg x0 Q) : IsHeads (val_main_v2 (F := Ideal) x0) fun h t l => Q t (64 * h + l) := by
  intro h t l
  pointwise [val_main_v2, val_main_v1]
  exact (h0 _ _).trans (congrArg (fun c => ((Q t.val (c + l.val) : ℝ) : EReal)) (mul_comm _ _))
theorem v4_is (h0 : IsArg x1 Q) : IsHeads (val_main_v4 (F := Ideal) x1) fun h t l => Q t (64 * h + l) := by
  intro h t l
  pointwise [val_main_v4, val_main_v3]
  exact (h0 _ _).trans (congrArg (fun c => ((Q t.val (c + l.val) : ℝ) : EReal)) (mul_comm _ _))
theorem v6_is (h0 : IsArg x2 Q) : IsHeads (val_main_v6 (F := Ideal) x2) fun h t l => Q t (64 * h + l) := by
  intro h t l
  pointwise [val_main_v6, val_main_v5]
  exact (h0 _ _).trans (congrArg (fun c => ((Q t.val (c + l.val) : ℝ) : EReal)) (mul_comm _ _))
theorem v28_is (h0 : IsArg x3 Q) : IsHeads (val_main_v28 (F := Ideal) x3) fun h t l => Q t (64 * h + l) := by
  intro h t l
  pointwise [val_main_v28, val_main_v27]
  exact (h0 _ _).trans (congrArg (fun c => ((Q t.val (c + l.val) : ℝ) : EReal)) (mul_comm _ _))

theorem v9_is (h0 : IsArg x0 Q) (h1 : IsArg x1 K) : IsHeads (val_main_v9 (F := Ideal) x0 x1) (score Q K) := by
  intro h t s
  pointwise [val_main_v9, val_main_v8, val_main_cst, val_main_v7]
  rw [ofBits_eighth, sum_fin _ (fun l => Q t (64 * h + l) * K s (64 * h + l)) fun l => by rw [v2_is h0, v4_is h1, ← EReal.coe_mul], ← EReal.coe_mul]
  rfl

/-- The logarithm of one plus the exponential, as the host computes it. -/
theorem sp_host (a : ℝ) (u : EReal) :
    (if (a : EReal) ≠ (a : EReal) then u else max (a : EReal) 0 + Ideal.log1p (Ideal.exp (-FloatOps.absf (F := Ideal) (φ := .f32) (a : EReal)))) = ((sp a : ℝ) : EReal) := by
  rw [if_neg (not_not.mpr rfl), show FloatOps.absf (F := Ideal) (φ := .f32) (a : EReal) = max (a : EReal) (-(a : EReal)) from rfl, max_neg, ← EReal.coe_neg, exp_coe,
    show ∀ y : EReal, Ideal.log1p y = Ideal.log (1 + y) from fun _ => rfl, log_one_add, ← EReal.coe_zero, ← coe_max, ← EReal.coe_add]
  rfl

theorem ofBits_top : Ideal.ofBits .f32 0x7F800000#32 = ⊤ := by simp [Ideal.ofBits, Ideal.ieee]

/-- Its gradient, as the host computes it. -/
theorem sg_host (a b : ℝ) : Ideal.exp ((if (a : EReal) = Ideal.ofBits .f32 0x7F800000#32 then 0 else (a : EReal))
    - if (b : EReal) = Ideal.ofBits .f32 0x7F800000#32 then 0 else (b : EReal)) = ((Real.exp (a - b) : ℝ) : EReal) := by
  rw [ofBits_top, if_neg (EReal.coe_ne_top _), if_neg (EReal.coe_ne_top _), ← EReal.coe_sub, exp_coe]

theorem sp_is (h0 : IsArg x0 Q) (h1 : IsArg x1 K) : IsHeads (val_main_call0_v1_0 (F := Ideal) x0 x1) fun h t s => sp (score Q K h t s) := by
  intro h t s
  pointwise [val_main_call0_v1_0, val_main_call0_call0_v11, val_main_call0_call0_v1, val_main_call0_call0_v10, val_main_call0_call0_v9, val_main_call0_call0_v8,
    val_main_call0_call0_v7, val_main_call0_call0_v4, val_main_call0_call0_v3, val_main_call0_call0_v2, val_main_call0_call0_v0, val_main_call0_call0_cst,
    val_main_call0_v0, val_main_v15]
  rw [v9_is h0 h1, ← EReal.coe_neg, ← EReal.coe_neg, neg_neg]
  exact sp_host _ _

theorem sp_is' (h0 : IsArg x0 Q) (h1 : IsArg x1 K) : IsHeads (val_main_call3_v1_0 (F := Ideal) x0 x1) fun h t s => sp (-score Q K h t s) := by
  intro h t s
  pointwise [val_main_call3_v1_0, val_main_call3_call0_v11, val_main_call3_call0_v1, val_main_call3_call0_v10, val_main_call3_call0_v9, val_main_call3_call0_v8,
    val_main_call3_call0_v7, val_main_call3_call0_v4, val_main_call3_call0_v3, val_main_call3_call0_v2, val_main_call3_call0_v0, val_main_call3_call0_cst,
    val_main_call3_v0]
  rw [v9_is h0 h1, ← EReal.coe_neg]
  exact sp_host _ _

theorem v16_1_is (h0 : IsArg x0 Q) (h1 : IsArg x1 K) : IsHeads (val_main_v16_1 (F := Ideal) x0 x1) fun h t s => sg (score Q K h t s) := by
  intro h t s
  pointwise [val_main_v16_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_call0_cst_0, val_main_call0_call0_cst_1,
    val_main_call0_call0_cst_2, val_main_call0_call0_cst_3, val_main_call0_v0, val_main_v15]
  rw [v9_is h0 h1, sp_is h0 h1, ← EReal.coe_neg, ← EReal.coe_neg, neg_neg]
  exact sg_host _ _

theorem v20_1_is (h0 : IsArg x0 Q) (h1 : IsArg x1 K) : IsHeads (val_main_v20_1 (F := Ideal) x0 x1) fun h t s => 1 - sg (score Q K h t s) := by
  intro h t s
  pointwise [val_main_v20_1, val_main_call3_call0_v21, val_main_call3_call0_v20, val_main_call3_call0_v19, val_main_call3_call0_v18, val_main_call3_call0_v17,
    val_main_call3_call0_v16, val_main_call3_call0_v15, val_main_call3_call0_v14, val_main_call3_call0_v13, val_main_call3_call0_cst_0, val_main_call3_call0_cst_1,
    val_main_call3_call0_cst_2, val_main_call3_call0_cst_3, val_main_call3_v0]
  rw [v9_is h0 h1, sp_is' h0 h1, ← EReal.coe_neg]
  exact (sg_host _ _).trans (congrArg _ (sg_add _))

/-- A choice by the mask: keys before the query. -/
theorem mask (s t : ℕ) (hs : s < 4096) (ht : t < 4096) (a b : EReal) :
    Scalar.select (IntOp.cmpi .slt (BitVec.ofNat 32 s) (BitVec.ofNat 32 t)) a b = if s < t then a else b :=
  if_congr (WordCmp.cmpi_slt_ofNat_eq_one_iff (by omega) (by omega)) rfl rfl

theorem v17_0_is (h0 : IsArg x0 Q) (h1 : IsArg x1 K) : IsHeads (val_main_v17_0 (F := Ideal) x0 x1) fun h t s => lg (score Q K h t) t s := by
  intro h t s
  pointwise [val_main_v17_0, val_main_v17_1, val_main_v14, val_main_v13, val_main_v12, val_main_v11, val_main_v10, val_main_v0, val_main_call1_v2, val_main_v16_0]
  rw [mask _ _ s.isLt t.isLt, sp_is h0 h1]
  unfold lg
  split_ifs
  · rfl
  · exact Ideal.ofBits_zero_f32

/-- The initial value of a running sum. -/
theorem init_zero : Ideal.ofBits .f32 0x00000000#32 = 0 := Ideal.ofBits_zero_f32

/-- The logarithms from a key on. -/
theorem v18_is (h0 : IsArg x0 Q) (h1 : IsArg x1 K) : IsHeads (val_main_v18 (F := Ideal) x0 x1) fun h t s => ∑ u ∈ Ico s 4096, lg (score Q K h t) t u := by
  intro h t s
  have hw := window_apply 0 ![0, 0, 0, 4095] reduceWindows_S1x8x4096x4096_S1x8x4096x4096_w1s1p0_0_w1s1p0_0_w1s1p0_0_w4096s1p0_4095 (val_main_v17_0 (F := Ideal) x0 x1)
    (fun u => lg (score Q K h t) t u) h t s (fun u => v17_0_is h0 h1 h t u)
  rw [suffix_sum _ s s.isLt] at hw
  refine Eq.trans ?_ hw
  unfold val_main_v18 Host.reduceWindowAdd
  rw [Ideal.hostReduceWindowAdd_def]
  refine congrArg (fun v => Ideal.hostReduceWindowAdd _ _ _ _ _ _ v _) ?_
  exact init_zero

/-- The weights before the mask. -/
theorem v22_is (h0 : IsArg x0 Q) (h1 : IsArg x1 K) :
    IsHeads (val_main_v22 (F := Ideal) x0 x1) fun h t s => Real.exp (score Q K h t s - sp (score Q K h t s) + ∑ u ∈ Ico (s + 1) 4096, lg (score Q K h t) t u) := by
  intro h t s
  pointwise [val_main_v22, val_main_v21, val_main_v20_0, val_main_v19]
  rw [sp_is' h0 h1, v18_is h0 h1, v17_0_is h0 h1, ← EReal.coe_neg, ← EReal.coe_sub, ← EReal.coe_add, exp_coe]
  refine congrArg (fun r : ℝ => ((Real.exp r : ℝ) : EReal)) ?_
  beta_reduce
  rw [sp_neg, sum_eq_sum_Ico_succ_bot s.isLt]
  ring

/-- The weights. -/
theorem v23_0_is (h0 : IsArg x0 Q) (h1 : IsArg x1 K) : IsHeads (val_main_v23_0 (F := Ideal) x0 x1) fun h t s => wt (score Q K h t) t s := by
  intro h t s
  have ht := t.isLt
  pointwise [val_main_v23_0, val_main_v23_1, val_main_v14, val_main_v13, val_main_v12, val_main_v11, val_main_v10, val_main_v0, val_main_call4_v2]
  rw [mask _ _ s.isLt t.isLt, v22_is h0 h1, wt_eq _ _ _ 4096 ht.le]
  split_ifs
  · rfl
  · exact Ideal.ofBits_zero_f32

/-- The weights times their gradients. -/
theorem v33_is (h0 : IsArg x0 Q) (h1 : IsArg x1 K) (h2 : IsArg x2 V) (h3 : IsArg x3 C) :
    IsHeads (val_main_v33 (F := Ideal) x0 x1 x2 x3) fun h t s => gr (score Q K h t) (wgrad V C h t) t s := by
  intro h t s
  have ht := t.isLt
  pointwise [val_main_v33, val_main_v32, val_main_v31, val_main_call5_v0, val_main_call5_cst, val_main_v23_1, val_main_v14, val_main_v13, val_main_v12, val_main_v11, val_main_v10, val_main_v0]
  rw [mask _ _ s.isLt t.isLt, v22_is h0 h1, sum_fin _ (fun l => C t (64 * h + l) * V s (64 * h + l)) fun l => by rw [v28_is h3, v6_is h2, ← EReal.coe_mul]]
  unfold gr
  rw [wt_eq _ _ _ 4096 ht.le]
  split_ifs
  · exact (EReal.coe_mul _ _).symm
  · rw [mul_zero]; rfl

/-- Their sums up to a key. -/
theorem v36_is (h0 : IsArg x0 Q) (h1 : IsArg x1 K) (h2 : IsArg x2 V) (h3 : IsArg x3 C) :
    IsHeads (val_main_v36 (F := Ideal) x0 x1 x2 x3) fun h t s => ∑ u ∈ range (s + 1), gr (score Q K h t) (wgrad V C h t) t u := by
  intro h t s
  have hw := window_apply 4095 ![0, 0, 0, 0] reduceWindows_S1x8x4096x4096_S1x8x4096x4096_w1s1p0_0_w1s1p0_0_w1s1p0_0_w4096s1p4095_0 (val_main_v33 (F := Ideal) x0 x1 x2 x3)
    (fun u => gr (score Q K h t) (wgrad V C h t) t u) h t s (fun u => v33_is h0 h1 h2 h3 h t u)
  rw [prefix_sum _ s s.isLt] at hw
  refine Eq.trans ?_ hw
  unfold val_main_v36 Host.reduceWindowAdd
  rw [Ideal.hostReduceWindowAdd_def]
  refine congrArg (fun v => Ideal.hostReduceWindowAdd _ _ _ _ _ _ v _) ?_
  exact init_zero

/-- The gradients of the scores, scaled. -/
theorem v43_is (h0 : IsArg x0 Q) (h1 : IsArg x1 K) (h2 : IsArg x2 V) (h3 : IsArg x3 C) :
    IsHeads (val_main_v43 (F := Ideal) x0 x1 x2 x3) fun h t s => ds (score Q K h t) (wgrad V C h t) t s * (1 / 8) := by
  intro h t s
  pointwise [val_main_v43, val_main_v42, val_main_cst_2, val_main_v41, val_main_v40, val_main_v39, val_main_call9_v1, val_main_call9_v0, val_main_v38, val_main_call8_v0,
    val_main_call8_cst, val_main_v37, val_main_v35, val_main_v34, val_main_call6_v1, val_main_call6_v0, val_main_v17_1, val_main_v14, val_main_v13, val_main_v12, val_main_v11,
    val_main_v10, val_main_v0]
  rw [mask _ _ s.isLt t.isLt, v33_is h0 h1 h2 h3, v36_is h0 h1 h2 h3, v16_1_is h0 h1, v20_1_is h0 h1, ofBits_eighth]
  beta_reduce
  rw [ds_eq, sum_range_succ]
  generalize gr (score Q K h.val t.val) (wgrad V C h.val t.val) t.val s.val = g
  generalize ∑ u ∈ range s.val, gr (score Q K h.val t.val) (wgrad V C h.val t.val) t.val u = p
  generalize sg (score Q K h.val t.val s.val) = b
  split_ifs
  · simp only [← EReal.coe_neg, ← EReal.coe_add, ← EReal.coe_mul]
    exact congrArg _ (by ring)
  · rw [← EReal.coe_zero]
    simp only [← EReal.coe_neg, ← EReal.coe_add, ← EReal.coe_mul]
    exact congrArg _ (by ring)

/-! ## The results -/

/-- The queries' gradient. -/
def dqOf (Q K V C : ℕ → ℕ → ℝ) (t c : ℕ) : ℝ := ∑ s ∈ range 4096, ds (score Q K (c / 64) t) (wgrad V C (c / 64) t) t s * (1 / 8) * K s c
/-- The keys' gradient. -/
def dkOf (Q K V C : ℕ → ℕ → ℝ) (s c : ℕ) : ℝ := ∑ t ∈ range 4096, ds (score Q K (c / 64) t) (wgrad V C (c / 64) t) t s * (1 / 8) * Q t c
/-- The values' gradient. -/
def dvOf (Q K C : ℕ → ℕ → ℝ) (s c : ℕ) : ℝ := ∑ t ∈ range 4096, C t c * wt (score Q K (c / 64) t) t s

theorem head_lane (c : ℕ) : 64 * (c / 64) + c % 64 = c := Nat.div_add_mod c 64

theorem result_dq (h0 : IsArg x0 Q) (h1 : IsArg x1 K) (h2 : IsArg x2 V) (h3 : IsArg x3 C) (t : Fin 4096) (c : Fin 512) :
    val_main_v52 (F := Ideal) x0 x1 x2 x3 (ix2 t c) = ((dqOf Q K V C t c : ℝ) : EReal) := by
  pointwise [val_main_v52, val_main_v51, val_main_v50, val_main_v45]
  exact sum_fin _ (fun s => ds (score Q K (c / 64) t) (wgrad V C (c / 64) t) t s * (1 / 8) * K s c) fun s => by
    rw [v43_is h0 h1 h2 h3, v4_is h1, ← EReal.coe_mul]; beta_reduce; rw [head_lane]

theorem result_dk (h0 : IsArg x0 Q) (h1 : IsArg x1 K) (h2 : IsArg x2 V) (h3 : IsArg x3 C) (s : Fin 4096) (c : Fin 512) :
    val_main_v53 (F := Ideal) x0 x1 x2 x3 (ix2 s c) = ((dkOf Q K V C s c : ℝ) : EReal) := by
  pointwise [val_main_v53, val_main_v49, val_main_v48, val_main_v44]
  exact sum_fin _ (fun t => ds (score Q K (c / 64) t) (wgrad V C (c / 64) t) t s * (1 / 8) * Q t c) fun t => by
    rw [v43_is h0 h1 h2 h3, v2_is h0, ← EReal.coe_mul]; beta_reduce; rw [head_lane]

theorem result_dv (h0 : IsArg x0 Q) (h1 : IsArg x1 K) (h3 : IsArg x3 C) (s : Fin 4096) (c : Fin 512) :
    val_main_v54 (F := Ideal) x0 x1 x3 (ix2 s c) = ((dvOf Q K C s c : ℝ) : EReal) := by
  pointwise [val_main_v54, val_main_v47, val_main_v46, val_main_v30, val_main_v29]
  exact sum_fin _ (fun t => C t c * wt (score Q K (c / 64) t) t s) fun t => by
    rw [v28_is h3, v23_0_is h0 h1, ← EReal.coe_mul]; beta_reduce; rw [head_lane]

end Cert.Reference2Ideal.Attn

end
-- ==== Proof.AttnReads.lean ====
/-
  What a grid point of the attention gradient's kernel reads, at real arguments: the blocks of its four operands, the
  two heads they hold, and the two triangular tables.
-/
module

public import proofs.«01_k».proof.Proof.AttnRun
public import proofs.«01_k».proof.Proof.AttnTile
public import proofs.«01_k».proof.Proof.AttnRef
public import Idealize.ShloMosaic.Lib.Pipeline.ValueKit
public import Idealize.ShloMosaic.Lib.Pointwise
public import Idealize.ShloMosaic.Lib.WordCmp

@[expose] public section

set_option maxRecDepth 16384

noncomputable section

namespace Cert.Kernel2Ideal.Attn

open Cert.Kernel2Ideal Cert.Kernel2Ideal.Gen
open Idealize.ShloMosaic Idealize.ShloMosaic.TcCoe
open Cert.AttnMath Finset
open Cert.Reference2Ideal.Attn (IsArg score wgrad dqOf dkOf dvOf)

variable (m : (ℓ : Loc nD τ sig) → Buf (Elt Ideal) ℓ)

/-- Which block of each window's array a grid point works on. -/
theorem idx_val : ∀ t : Fin grid0.N, win0_0.index t = ![t.val % 16, t.val / 16]
    ∧ win0_1.index t = ![0, t.val / 16]
    ∧ win0_2.index t = ![0, t.val / 16]
    ∧ win0_3.index t = ![t.val % 16, t.val / 16]
    ∧ win0_4.index t = ![t.val % 16, t.val / 16]
    ∧ win0_5.index t = ![0, t.val / 16]
    ∧ win0_6.index t = ![0, t.val / 16] :=
  (by decide +kernel : ∀ t : Fin grid0.N, _)

/-! ## The host's lines -/

/-- The queries as the host hands them to the kernel: one eighth of them. -/
def hostQ (x : FVec Ideal S1x4096x512 .f32) : FVec Ideal S4096x512 .bf16 :=
  truncf .bf16 (mulf (shapeCast _ x shapeCasts_S1x4096x512_S4096x512)
    (broadcastInDim S4096x512 ![] bcast_S_S4096x512 (constant S_ .f32 0x3E000000#32))) bitsLt_bf16_f32

/-- The keys and the values as the host hands them to the kernel. -/
def hostK (x : FVec Ideal S1x4096x512 .f32) : FVec Ideal S4096x512 .bf16 :=
  truncf .bf16 (shapeCast _ x shapeCasts_S1x4096x512_S4096x512) bitsLt_bf16_f32

/-- The cotangent as the host hands it to the kernel. -/
def hostC (x : FVec Ideal S1x4096x512 .f32) : FVec Ideal S4096x512 .f32 :=
  shapeCast _ x shapeCasts_S1x4096x512_S4096x512

theorem entry_q (c : Dev nD) : entry m c main_v3 = hostQ (m ((c : Thread nD τ).loc main_arg0)) := by
  simp only [entry, hostOps0, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem entry_k (c : Dev nD) : entry m c main_v5 = hostK (m ((c : Thread nD τ).loc main_arg1)) := by
  simp only [entry, hostOps0, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem entry_v (c : Dev nD) : entry m c main_v7 = hostK (m ((c : Thread nD τ).loc main_arg2)) := by
  simp only [entry, hostOps0, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem entry_ct (c : Dev nD) : entry m c main_v8 = hostC (m ((c : Thread nD τ).loc main_arg3)) := by
  simp only [entry, hostOps0, List.flatten_cons, List.flatten_nil, List.cons_append, List.nil_append,
    StableHlo.TRef.binary, StableHlo.TRef.nullary, StableHlo.TRef.unary, StableHlo.TRef.toBuf, StableHlo.TRef.ofBuf, cast_eq]
  after_results <;> rfl

theorem hostQ_apply {x : FVec Ideal S1x4096x512 .f32} {f : ℕ → ℕ → ℝ} (h : IsArg x f) (t : Fin 4096) (c : Fin 512) :
    hostQ x (ix2 t c) = ((f t c * (1 / 8) : ℝ) : EReal) := by
  pointwise [hostQ]
  rw [h, ofBits_eighth, ← EReal.coe_mul]

theorem hostK_apply {x : FVec Ideal S1x4096x512 .f32} {f : ℕ → ℕ → ℝ} (h : IsArg x f) (t : Fin 4096) (c : Fin 512) :
    hostK x (ix2 t c) = ((f t c : ℝ) : EReal) := by
  pointwise [hostK]
  exact h t c

theorem hostC_apply {x : FVec Ideal S1x4096x512 .f32} {f : ℕ → ℕ → ℝ} (h : IsArg x f) (t : Fin 4096) (c : Fin 512) :
    hostC x (ix2 t c) = ((f t c : ℝ) : EReal) := by
  pointwise [hostC]
  exact h t c

/-! ## The blocks -/

variable {m}

theorem blk_q {c : Dev nD} {Q : ℕ → ℕ → ℝ} (h : IsArg (m ((c : Thread nD τ).loc main_arg0)) Q) (t : Fin grid0.N) :
    Is (n := 256) (m := 128) (blk m c 0 t) fun a l => Q (256 * (t.val % 16) + a) (128 * (t.val / 16) + l) * (1 / 8) := by
  intro a l
  have ht : t.val < 64 := lt_of_lt_of_eq t.isLt (show grid0.N = 64 from N_0)
  have e : (((cfg0 (F := Ideal)).win 0).blk t).view.emb (ix2 a l) = ix2 ⟨256 * (t.val % 16) + a, by omega⟩ ⟨128 * (t.val / 16) + l, by omega⟩ := by
    blk_ext [idx_val t]
  show entry m c main_v3 ((((cfg0 (F := Ideal)).win 0).blk t).view.emb (ix2 a l)) = _
  rw [entry_q, e]
  exact hostQ_apply h _ _

theorem blk_k {c : Dev nD} {K : ℕ → ℕ → ℝ} (h : IsArg (m ((c : Thread nD τ).loc main_arg1)) K) (t : Fin grid0.N) :
    Is (n := 4096) (m := 128) (blk m c 1 t) fun a l => K a (128 * (t.val / 16) + l) := by
  intro a l
  have ht : t.val < 64 := lt_of_lt_of_eq t.isLt (show grid0.N = 64 from N_0)
  have e : (((cfg0 (F := Ideal)).win 1).blk t).view.emb (ix2 a l) = ix2 a ⟨128 * (t.val / 16) + l, by omega⟩ := by
    blk_ext [idx_val t]
  show entry m c main_v5 ((((cfg0 (F := Ideal)).win 1).blk t).view.emb (ix2 a l)) = _
  rw [entry_k, e]
  exact hostK_apply h _ _

theorem blk_v {c : Dev nD} {V : ℕ → ℕ → ℝ} (h : IsArg (m ((c : Thread nD τ).loc main_arg2)) V) (t : Fin grid0.N) :
    Is (n := 4096) (m := 128) (blk m c 2 t) fun a l => V a (128 * (t.val / 16) + l) := by
  intro a l
  have ht : t.val < 64 := lt_of_lt_of_eq t.isLt (show grid0.N = 64 from N_0)
  have e : (((cfg0 (F := Ideal)).win 2).blk t).view.emb (ix2 a l) = ix2 a ⟨128 * (t.val / 16) + l, by omega⟩ := by
    blk_ext [idx_val t]
  show entry m c main_v7 ((((cfg0 (F := Ideal)).win 2).blk t).view.emb (ix2 a l)) = _
  rw [entry_v, e]
  exact hostK_apply h _ _

theorem blk_ct {c : Dev nD} {C : ℕ → ℕ → ℝ} (h : IsArg (m ((c : Thread nD τ).loc main_arg3)) C) (t : Fin grid0.N) :
    Is (n := 256) (m := 128) (blk m c 3 t) fun a l => C (256 * (t.val % 16) + a) (128 * (t.val / 16) + l) := by
  intro a l
  have ht : t.val < 64 := lt_of_lt_of_eq t.isLt (show grid0.N = 64 from N_0)
  have e : (((cfg0 (F := Ideal)).win 3).blk t).view.emb (ix2 a l) = ix2 ⟨256 * (t.val % 16) + a, by omega⟩ ⟨128 * (t.val / 16) + l, by omega⟩ := by
    blk_ext [idx_val t]
  show entry m c main_v8 ((((cfg0 (F := Ideal)).win 3).blk t).view.emb (ix2 a l)) = _
  rw [entry_ct, e]
  exact hostC_apply h _ _

/-! ## The tables and the heads -/

theorem select_lt (a b : ℕ) (ha : a < 4096) (hb : b < 4096) (x y : EReal) :
    Scalar.select (IntOp.cmpi .slt (BitVec.ofNat 32 a) (BitVec.ofNat 32 b)) x y = if a < b then x else y :=
  if_congr (WordCmp.cmpi_slt_ofNat_eq_one_iff (by omega) (by omega)) rfl rfl

theorem low_is : Is (k0_pay116 (F := Ideal)) fun a b => if b < a then 1 else 0 := by
  intro a b
  have ha := a.isLt
  have hb := b.isLt
  pointwise [k0_pay116]
  refine (select_lt b a (by omega) (by omega) 1 0).trans ?_
  split_ifs <;> rfl

theorem upp_is : Is (k0_pay117 (F := Ideal)) fun a b => if a < b then 1 else 0 := by
  intro a b
  have ha := a.isLt
  have hb := b.isLt
  pointwise [k0_pay117]
  refine (select_lt a b (by omega) (by omega) 1 0).trans ?_
  split_ifs <;> rfl

theorem zero_is118 : Is (k0_pay118 (F := Ideal)) fun _ _ => 0 := by
  intro a b
  pointwise [k0_pay118]
  rfl

theorem zero_is119 : Is (k0_pay119 (F := Ideal)) fun _ _ => 0 := by
  intro a b
  pointwise [k0_pay119]
  rfl

section
variable {X : Vec Ideal S256x128 .bf16} {Y : Vec Ideal S256x128 .f32} {f : ℕ → ℕ → ℝ}

theorem pay123_is (h : Is X f) : Is (k0_pay123 X) fun a l => if l < 64 then f a l else 0 := by
  intro a l
  have hl := l.isLt
  pointwise [k0_pay123, k0_pay122, k0_pay120]
  refine (select_lt l 64 (by omega) (by omega) _ _).trans ?_
  rw [h]; split_ifs <;> rfl

theorem pay124_is (h : Is X f) : Is (k0_pay124 X) fun a l => if l < 64 then 0 else f a l := by
  intro a l
  have hl := l.isLt
  pointwise [k0_pay124, k0_pay122, k0_pay120]
  refine (select_lt l 64 (by omega) (by omega) _ _).trans ?_
  rw [h]; split_ifs <;> rfl

theorem pay125_is (h : Is Y f) : Is (k0_pay125 Y) fun a l => if l < 64 then f a l else 0 := by
  intro a l
  have hl := l.isLt
  pointwise [k0_pay125, k0_pay121, k0_pay120]
  refine (select_lt l 64 (by omega) (by omega) _ _).trans ?_
  rw [h]; split_ifs <;> rfl

theorem pay126_is (h : Is Y f) : Is (k0_pay126 Y) fun a l => if l < 64 then 0 else f a l := by
  intro a l
  have hl := l.isLt
  pointwise [k0_pay126, k0_pay121, k0_pay120]
  refine (select_lt l 64 (by omega) (by omega) _ _).trans ?_
  rw [h]; split_ifs <;> rfl

end

/-- The arguments of a device hold the real numbers `Q`, `K`, `V` and `C`. -/
structure Args (m : (ℓ : Loc nD τ sig) → Buf (Elt Ideal) ℓ) (c : Dev nD) (Q K V C : ℕ → ℕ → ℝ) : Prop where
  q : IsArg (m ((c : Thread nD τ).loc main_arg0)) Q
  k : IsArg (m ((c : Thread nD τ).loc main_arg1)) K
  v : IsArg (m ((c : Thread nD τ).loc main_arg2)) V
  ct : IsArg (m ((c : Thread nD τ).loc main_arg3)) C

/-- The lower lanes of an array's tile `i` at head pair `p`, and the upper ones. -/
def lower (X : ℕ → ℕ → ℝ) (p i a l : ℕ) : ℝ := if l < 64 then X (256 * i + a) (128 * p + l) else 0
def upper (X : ℕ → ℕ → ℝ) (p i a l : ℕ) : ℝ := if l < 64 then 0 else X (256 * i + a) (128 * p + l)

/-- The queries' eighth. -/
def eighth (Q : ℕ → ℕ → ℝ) (t c : ℕ) : ℝ := Q t c * (1 / 8)

theorem reads_at {c : Dev nD} {Q K V C : ℕ → ℕ → ℝ} (h : Args m c Q K V C) (t : Fin grid0.N) :
    Reads (ctxAt m c t) (lower (eighth Q) (t.val / 16) (t.val % 16)) (upper (eighth Q) (t.val / 16) (t.val % 16))
      (lower C (t.val / 16) (t.val % 16)) (upper C (t.val / 16) (t.val % 16))
      (fun u l => K u (128 * (t.val / 16) + l)) (fun u l => V u (128 * (t.val / 16) + l)) where
  low := low_is
  upp := upp_is
  qa := pay123_is (blk_q h.q t)
  qb := pay124_is (blk_q h.q t)
  da := pay125_is (blk_ct h.ct t)
  db := pay126_is (blk_ct h.ct t)
  K := blk_k h.k t
  V := blk_v h.v t

/-! ## A head's products are sums over its own lanes -/

theorem lower_dot (X Y : ℕ → ℕ → ℝ) (p i a u : ℕ) :
    dotp (lower X p i) (fun u l => Y u (128 * p + l)) a u = ∑ l ∈ range 64, X (256 * i + a) (64 * (2 * p) + l) * Y u (64 * (2 * p) + l) := by
  unfold dotp lower
  rw [show 128 = 64 + 64 from rfl, sum_range_add, sum_eq_zero (s := range 64) (f := fun l => _ * Y u ((64 + 64) * p + (64 + l))), add_zero]
  · refine sum_congr rfl fun l hl => ?_
    beta_reduce
    rw [if_pos (mem_range.mp hl), show (64 + 64) * p + l = 64 * (2 * p) + l by ring]
  · intro l _
    rw [if_neg (by omega), zero_mul]

theorem upper_dot (X Y : ℕ → ℕ → ℝ) (p i a u : ℕ) :
    dotp (upper X p i) (fun u l => Y u (128 * p + l)) a u = ∑ l ∈ range 64, X (256 * i + a) (64 * (2 * p + 1) + l) * Y u (64 * (2 * p + 1) + l) := by
  unfold dotp upper
  rw [show 128 = 64 + 64 from rfl, sum_range_add, sum_eq_zero (s := range 64) (f := fun l => _ * Y u ((64 + 64) * p + l)), zero_add]
  · refine sum_congr rfl fun l _ => ?_
    beta_reduce
    rw [if_neg (by omega), show (64 + 64) * p + (64 + l) = 64 * (2 * p + 1) + l by ring]
  · intro l hl
    rw [if_pos (mem_range.mp hl), zero_mul]

theorem score_lower (Q K : ℕ → ℕ → ℝ) (p i a : ℕ) :
    dotp (lower (eighth Q) p i) (fun u l => K u (128 * p + l)) a = score Q K (2 * p) (256 * i + a) := by
  funext u
  rw [lower_dot]
  unfold score eighth
  rw [sum_mul]
  exact sum_congr rfl fun l _ => by ring

theorem score_upper (Q K : ℕ → ℕ → ℝ) (p i a : ℕ) :
    dotp (upper (eighth Q) p i) (fun u l => K u (128 * p + l)) a = score Q K (2 * p + 1) (256 * i + a) := by
  funext u
  rw [upper_dot]
  unfold score eighth
  rw [sum_mul]
  exact sum_congr rfl fun l _ => by ring

theorem wgrad_lower (V C : ℕ → ℕ → ℝ) (p i a : ℕ) :
    dotp (lower C p i) (fun u l => V u (128 * p + l)) a = wgrad V C (2 * p) (256 * i + a) :=
  funext fun u => lower_dot C V p i a u

theorem wgrad_upper (V C : ℕ → ℕ → ℝ) (p i a : ℕ) :
    dotp (upper C p i) (fun u l => V u (128 * p + l)) a = wgrad V C (2 * p + 1) (256 * i + a) :=
  funext fun u => upper_dot C V p i a u

/-! ## The results, point by point -/

/-- The gradient of a score of the head that lane `l` of head pair `p` belongs to. -/
def dsAt (Q K V C : ℕ → ℕ → ℝ) (c t u : ℕ) : ℝ := ds (score Q K (c / 64) t) (wgrad V C (c / 64) t) t u
def wtAt (Q K : ℕ → ℕ → ℝ) (c t u : ℕ) : ℝ := wt (score Q K (c / 64) t) t u

theorem head_low {p l : ℕ} (h : l < 64) : (128 * p + l) / 64 = 2 * p := by omega
theorem head_upp {p l : ℕ} (h : ¬ l < 64) (h' : l < 128) : (128 * p + l) / 64 = 2 * p + 1 := by omega

section
variable {c : Dev nD} {Q K V C : ℕ → ℕ → ℝ}

theorem step_dq (h : Args m c Q K V C) (t : Fin grid0.N) {f : ℕ → ℕ → ℝ} {dk dv : Vec Ideal S4096x128 .f32} (hf : Is dk f) :
    Is (step m c t dk dv).1 fun a l => dqOf Q K V C (256 * (t.val % 16) + a) (128 * (t.val / 16) + l) := by
  refine (point_dq (reads_at h t) (Nat.mod_lt _ (by decide)) hf slab0 slab0).congr fun a _ l hl => ?_
  rw [score_lower, score_upper, wgrad_lower, wgrad_upper]
  unfold dqOf
  split_ifs with h'
  · rw [head_low h', sum_div]; exact sum_congr rfl fun u _ => by ring
  · rw [head_upp h' hl, sum_div]; exact sum_congr rfl fun u _ => by ring

theorem step_dk (h : Args m c Q K V C) (t : Fin grid0.N) {f : ℕ → ℕ → ℝ} {dk dv : Vec Ideal S4096x128 .f32} (hf : Is dk f) :
    Is (step m c t dk dv).2.1 fun u l => f u l + ∑ a ∈ range 256,
      dsAt Q K V C (128 * (t.val / 16) + l) (256 * (t.val % 16) + a) u * (1 / 8) * Q (256 * (t.val % 16) + a) (128 * (t.val / 16) + l) := by
  refine (point_dk (reads_at h t) (Nat.mod_lt _ (by decide)) hf slab0 slab0).congr fun u _ l hl => congrArg (f u l + ·) ?_
  rw [← sum_add_distrib]
  refine sum_congr rfl fun a _ => ?_
  rw [score_lower, score_upper, wgrad_lower, wgrad_upper]
  unfold dsAt lower upper eighth
  split_ifs with h'
  · rw [head_low h']; ring
  · rw [head_upp h' hl]; ring

theorem step_dv (h : Args m c Q K V C) (t : Fin grid0.N) {f : ℕ → ℕ → ℝ} {dk dv : Vec Ideal S4096x128 .f32} (hf : Is dv f) :
    Is (step m c t dk dv).2.2 fun u l => f u l + ∑ a ∈ range 256,
      C (256 * (t.val % 16) + a) (128 * (t.val / 16) + l) * wtAt Q K (128 * (t.val / 16) + l) (256 * (t.val % 16) + a) u := by
  refine (point_dv (dk := dk) (reads_at h t) (Nat.mod_lt _ (by decide)) hf slab0 slab0).congr fun u _ l hl => congrArg (f u l + ·) ?_
  rw [← sum_add_distrib]
  refine sum_congr rfl fun a _ => ?_
  rw [score_lower, score_upper]
  unfold wtAt lower upper
  split_ifs with h'
  · rw [head_low h']; ring
  · rw [head_upp h' hl]; ring

/-- The keys' and the values' gradients after a point: the sums over the queries seen so far. -/
theorem outs_sums (h : Args m c Q K V C) : ∀ t : Fin grid0.N,
    Is (outs m c t.val t.isLt).2.1 (fun u l => ∑ a ∈ range (256 * (t.val % 16 + 1)),
        dsAt Q K V C (128 * (t.val / 16) + l) a u * (1 / 8) * Q a (128 * (t.val / 16) + l))
    ∧ Is (outs m c t.val t.isLt).2.2 (fun u l => ∑ a ∈ range (256 * (t.val % 16 + 1)),
        C a (128 * (t.val / 16) + l) * wtAt Q K (128 * (t.val / 16) + l) a u) := by
  rintro ⟨n, hn⟩
  induction n with
  | zero =>
    rw [outs_top m c ⟨0, hn⟩ rfl]
    refine ⟨(step_dk h _ zero_is118).congr fun u _ l _ => ?_, (step_dv h _ zero_is119).congr fun u _ l _ => ?_⟩ <;>
      simp
  | succ n ih =>
    obtain ⟨ik, iv⟩ := ih (Nat.lt_of_succ_lt hn)
    by_cases h0 : (n + 1) % 16 = 0
    · rw [outs_top m c ⟨n + 1, hn⟩ h0]
      refine ⟨(step_dk h _ zero_is118).congr fun u _ l _ => ?_, (step_dv h _ zero_is119).congr fun u _ l _ => ?_⟩ <;>
        simp [h0]
    · rw [outs_below m c ⟨n + 1, hn⟩ h0]
      have e1 : (n + 1) % 16 = n % 16 + 1 := by omega
      have e2 : (n + 1) / 16 = n / 16 := by omega
      refine ⟨(step_dk h ⟨n + 1, hn⟩ ik).congr fun u _ l _ => ?_, (step_dv h ⟨n + 1, hn⟩ iv).congr fun u _ l _ => ?_⟩
      · simp only [e1, e2]
        exact sum_tile (fun a => dsAt Q K V C (128 * (n / 16) + l) a u * (1 / 8) * Q a (128 * (n / 16) + l)) (n % 16 + 1)
      · simp only [e1, e2]
        exact sum_tile (fun a => C a (128 * (n / 16) + l) * wtAt Q K (128 * (n / 16) + l) a u) (n % 16 + 1)

end

end Cert.Kernel2Ideal.Attn

end
-- ==== Proof.AttnValue.lean ====
/-
  The values of the attention gradient: finite arguments are real, and at real arguments each of the kernel's three
  results is the closed form that the reference has.
-/
module

public import proofs.«01_k».proof.Proof.AttnReads
public import proofs.«01_k».proof.Proof.AttnFrame
public import proofs.«01_k».proof.Proof.Gen.Pre_attn_finite
public import Idealize.ShloMosaic.Lib.ReduceAll

@[expose] public section

set_option maxRecDepth 16384

noncomputable section

namespace Cert.AttnFinite

open Idealize.ShloMosaic Cert.Pre_attn_finite Cert.Pre_attn_finite.Gen
open Cert.Reference2Ideal.Attn (IsArg)

/-- The real numbers an array holds. -/
def reals (x : S1x4096x512.Idx → EReal) (t c : ℕ) : ℝ := if h : t < 4096 ∧ c < 512 then (x (ix3 0 ⟨t, h.1⟩ ⟨c, h.2⟩)).toReal else 0

theorem subsingleton_scalar : Subsingleton S_.Idx := ⟨fun _ _ => funext fun k => k.elim0⟩

/-- An array whose magnitudes are all below infinity holds real numbers. -/
theorem isArg_of_all (x : FVec Ideal S1x4096x512 .f32) (j : S_.Idx)
    (h : Host.reduce IntOp.andi (cmpf .olt (Host.absf x) (broadcastInDim S1x4096x512 ![] bcast_S_S1x4096x512 (constant S_ .f32 0x7F800000#32)))
      (constantI S_ 1 1#1) reducesTo_S1x4096x512_S_d0_1_2 h_S_ j = 1#1) : IsArg x (reals x) := by
  letI := subsingleton_scalar
  intro t c
  have e := Host.reduce_andi_all _ _ _ _ j h (ix3 0 t c)
  pointwise at e
  have hlt : max (x (ix3 0 t c)) (-x (ix3 0 t c)) < (⊤ : EReal) := by
    have htop : Ideal.ofBits .f32 0x7F800000#32 = (⊤ : EReal) := by simp [Ideal.ofBits, Ideal.ieee]
    rw [htop] at e
    by_contra hc
    rw [decide_eq_false (show ¬ FloatOps.absf (x (ix3 0 t c)) < (⊤ : EReal) from hc)] at e
    exact absurd e (by decide)
  have h1 : x (ix3 0 t c) ≠ ⊤ := fun h => by rw [h] at hlt; exact absurd hlt (by simp)
  have h2 : x (ix3 0 t c) ≠ ⊥ := fun h => by rw [h] at hlt; exact absurd hlt (by simp)
  unfold reals
  rw [dif_pos ⟨t.isLt, c.isLt⟩]
  exact (EReal.coe_toReal h1 h2).symm

theorem isArg_of_pre {q k v ct : FVec Ideal S1x4096x512 .f32} (h : fn (F := Ideal) q k v ct = fun _ => 1#1) :
    IsArg q (reals q) ∧ IsArg k (reals k) ∧ IsArg v (reals v) ∧ IsArg ct (reals ct) := by
  have h0 := congrFun h (fun k => k.elim0)
  obtain ⟨h0, h3⟩ := IntOp.andi_eq_one.1 h0
  obtain ⟨h0, h2⟩ := IntOp.andi_eq_one.1 h0
  obtain ⟨h0, h1⟩ := IntOp.andi_eq_one.1 h0
  exact ⟨isArg_of_all _ _ h0, isArg_of_all _ _ h1, isArg_of_all _ _ h2, isArg_of_all _ _ h3⟩

end Cert.AttnFinite

namespace Cert.Kernel2Ideal.Attn

open Cert.Kernel2Ideal Cert.Kernel2Ideal.Gen
open Idealize.ShloMosaic Idealize.ShloMosaic.TcCoe Idealize.SL.Sem
open Cert.AttnMath Finset
open Cert.Reference2Ideal.Attn (IsArg score wgrad dqOf dkOf dvOf)

variable {m : (ℓ : Loc nD τ sig) → Buf (Elt Ideal) ℓ} {c : Dev nD} {Q K V C : ℕ → ℕ → ℝ}

/-- The queries' gradient after a point: its tile. -/
theorem outs_dq (h : Args m c Q K V C) (t : Fin grid0.N) :
    Is (outs m c t.val t.isLt).1 fun a l => dqOf Q K V C (256 * (t.val % 16) + a) (128 * (t.val / 16) + l) := by
  by_cases h0 : t.val % 16 = 0
  · rw [outs_top m c t h0]; exact step_dq h t zero_is118
  · rw [outs_below m c t h0]
    exact step_dq h t (outs_sums h ⟨t.val - 1, Nat.lt_of_le_of_lt (Nat.sub_le _ _) t.isLt⟩).1

/-- The queries' gradient. -/
theorem final_dq (h : Args m c Q K V C) :
    (dats m 0 c).arrAt 4 (cfgs (F := Ideal) 0).N = fun i : S4096x512.Idx => ((dqOf Q K V C (i 0) (i 1) : ℝ) : EReal) := by
  refine (dats m 0 c).arrAt_eq_of_covers 4 _ (by decide +kernel) fun t hf y => ?_
  blk_simp
  rw [after4]
  idx_vars y
  refine (outs_dq h t y0 y1).trans ?_
  refine congrArg _ (congrArg₂ _ ?_ ?_) <;> blk_simp [idx_val t] <;> omega

/-- The keys' gradient. -/
theorem final_dk (h : Args m c Q K V C) :
    (dats m 0 c).arrAt 5 (cfgs (F := Ideal) 0).N = fun i : S4096x512.Idx => ((dkOf Q K V C (i 0) (i 1) : ℝ) : EReal) := by
  refine (dats m 0 c).arrAt_eq_of_covers 5 _ (by decide +kernel) fun t hf y => ?_
  blk_simp
  rw [after5]
  idx_vars y
  have ht := (flush0_5 t).mp hf
  refine ((outs_sums h t).1 y0 y1).trans ?_
  rw [show t.val % 16 = 15 from ht]
  refine (show ((dkOf Q K V C y0 (128 * (t.val / 16) + y1) : ℝ) : EReal) = _ from ?_)
  refine congrArg _ (congrArg₂ _ ?_ ?_) <;> blk_simp [idx_val t] <;> omega

/-- The values' gradient. -/
theorem final_dv (h : Args m c Q K V C) :
    (dats m 0 c).arrAt 6 (cfgs (F := Ideal) 0).N = fun i : S4096x512.Idx => ((dvOf Q K C (i 0) (i 1) : ℝ) : EReal) := by
  refine (dats m 0 c).arrAt_eq_of_covers 6 _ (by decide +kernel) fun t hf y => ?_
  blk_simp
  rw [after6]
  idx_vars y
  have ht := (flush0_6 t).mp hf
  refine ((outs_sums h t).2 y0 y1).trans ?_
  rw [show t.val % 16 = 15 from ht]
  refine (show ((dvOf Q K C y0 (128 * (t.val / 16) + y1) : ℝ) : EReal) = _ from ?_)
  refine congrArg _ (congrArg₂ _ ?_ ?_) <;> blk_simp [idx_val t] <;> omega

/-- The run, each result at what its window's write-backs leave, the arguments unchanged. -/
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9_0) = (dats m 0 c).arrAt 4 (cfgs (F := Ideal) 0).N
      ∧ r.2.mem ((c.tc : Thread nD τ).loc main_v9_1) = (dats m 0 c).arrAt 5 (cfgs (F := Ideal) 0).N
      ∧ r.2.mem ((c.tc : Thread nD τ).loc main_v9_2) = (dats m 0 c).arrAt 6 (cfgs (F := Ideal) 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).1 4, (h.1 c).1 5, (h.1 c).1 6,
      ((h.1 c).2 main_arg0 (Pipeline.mem_restRefs_of main_arg0 (by decide) (show ∀ w : Fin 7, (spec0 w).arr.view.ref ≠ main_arg0 by decide))).trans (entry_arg m c _ (by decide)),
      ((h.1 c).2 main_arg1 (Pipeline.mem_restRefs_of main_arg1 (by decide) (show ∀ w : Fin 7, (spec0 w).arr.view.ref ≠ main_arg1 by decide))).trans (entry_arg m c _ (by decide)),
      ((h.1 c).2 main_arg2 (Pipeline.mem_restRefs_of main_arg2 (by decide) (show ∀ w : Fin 7, (spec0 w).arr.view.ref ≠ main_arg2 by decide))).trans (entry_arg m c _ (by decide)),
      ((h.1 c).2 main_arg3 (Pipeline.mem_restRefs_of main_arg3 (by decide) (show ∀ w : Fin 7, (spec0 w).arr.view.ref ≠ main_arg3 by decide))).trans (entry_arg m c _ (by decide))⟩)
    (run_quiescent m ρ)

end Cert.Kernel2Ideal.Attn

end
-- ==== Proof.Finite.lean ====
/-
  Reading a precondition that says every magnitude is below infinity: the arguments hold real numbers.
-/
module

public import Idealize.ShloMosaic.Lib.Pipeline.ValueKit
public import Idealize.ShloMosaic.Lib.Pointwise
public import Idealize.ShloMosaic.Lib.Claim
public import Idealize.ShloMosaic.Lib.ReduceAll

@[expose] public section

noncomputable section

namespace Cert.Finite

open Idealize.ShloMosaic Idealize.ShloMosaic.TcCoe

/-- The shape with no axes. -/
abbrev Scalar0 : Shape := ⟨0, ![]⟩

/-- A magnitude below infinity is a real number's. -/
theorem coe_toReal_of_lt {x : EReal} (h : max x (-x) < ⊤) : x = (x.toReal : EReal) := by
  have h1 : x ≠ ⊤ := fun e => by rw [e] at h; exact absurd h (by simp)
  have h2 : x ≠ ⊥ := fun e => by rw [e] at h; exact absurd h (by simp)
  exact (EReal.coe_toReal h1 h2).symm

/-- An array whose magnitudes are all below infinity holds real numbers. -/
theorem real_of_all {s : Shape} {axes : List (Fin s.rank)} (x : FVec Ideal s .f32) (hb : Scalar0.BroadcastsInDim s (![] : Fin 0 → Fin s.rank))
    (hr : s.ReducesTo axes Scalar0) (h0 : 0 < Scalar0.numel) (j : Scalar0.Idx)
    (h : Host.reduce IntOp.andi (cmpf .olt (Host.absf x) (broadcastInDim s ![] hb (constant Scalar0 .f32 0x7F800000#32)))
      (constantI Scalar0 1 1#1) hr h0 j = 1#1) (i : s.Idx) : x i = ((x i).toReal : EReal) := by
  letI : Subsingleton Scalar0.Idx := ⟨fun _ _ => funext fun k => k.elim0⟩
  have e := Host.reduce_andi_all _ _ _ _ j h i
  refine coe_toReal_of_lt ?_
  pointwise at e
  have htop : Ideal.ofBits .f32 0x7F800000#32 = (⊤ : EReal) := by simp [Ideal.ofBits, Ideal.ieee]
  rw [htop] at e
  by_contra hc
  rw [decide_eq_false (show ¬ FloatOps.absf (x i) < (⊤ : EReal) from hc)] at e
  exact absurd e (by decide)

end Cert.Finite

end
-- ==== Proof.NormMath.lean ====
/-
  Layer normalisation over the real numbers: the mean, the reciprocal deviation, the normalised row, and the gradient
  of the normalised row in the form the kernel computes and in the form that differentiating the definition gives.
-/
module

public import Idealize.ShloMosaic.Lib.Pipeline.ValueKit
public import Idealize.ShloMosaic.Lib.Pointwise

@[expose] public section

noncomputable section

namespace Cert.NormMath

open Idealize.ShloMosaic

/-- A finite sum of reals, read in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The width of a row. -/
theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The number the layer norm adds to a variance. -/
def eps : ℝ := (Ideal.ofBits .f32 0x3727C5AC#32).toReal

theorem eps_spec : Ideal.ofBits .f32 0x3727C5AC#32 = (eps : EReal) ∧ 0 < eps := by
  have h : Ideal.ofBits .f32 0x3727C5AC#32 = ((10995116 / 2 ^ 40 : ℝ) : EReal) := by
    simp [Ideal.ofBits, Ideal.ieee, -EReal.coe_mul]; norm_num
  refine ⟨?_, ?_⟩
  · rw [eps, h]; simp only [EReal.toReal_coe]
  · rw [eps, h, EReal.toReal_coe]; positivity

/-- The factor of the residual branches. -/
def alpha : ℝ := (Ideal.ofBits .f32 0x3F9837F0#32).toReal

theorem alpha_spec : Ideal.ofBits .f32 0x3F9837F0#32 = (alpha : EReal) := by
  have h : Ideal.ofBits .f32 0x3F9837F0#32 = ((9975792 / 2 ^ 23 : ℝ) : EReal) := by
    simp [Ideal.ofBits, Ideal.ieee, -EReal.coe_mul]; norm_num
  rw [alpha, h]; simp only [EReal.toReal_coe]

/-- The square of a reciprocal root, and division by the number under the root. -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']

theorem div_coe (a : ℝ) {b : ℝ} (h : b ≠ 0) : Ideal.div (a : EReal) (b : EReal) = ((a / b : ℝ) : EReal) := by
  rw [Ideal.div_coe h, ← EReal.coe_mul, mul_one_div]

theorem div_1024 (a : ℝ) : Ideal.div (a : EReal) ((1024 : ℝ) : EReal) = ((a / 1024 : ℝ) : EReal) := div_coe a (by norm_num)

section Row

variable (x : Fin 1024 → ℝ)

def mean : ℝ := (∑ i, x i) / 1024

/-- A row's entry less the row's mean. -/
def dev (i : Fin 1024) : ℝ := x i - mean x

def variance : ℝ := mean fun i => dev x i * dev x i

def rdev : ℝ := (Real.sqrt (variance x + eps))⁻¹

def xhat (i : Fin 1024) : ℝ := dev x i * rdev x

theorem var_pos : 0 < variance x + eps :=
  add_pos_of_nonneg_of_pos (div_nonneg (Finset.sum_nonneg fun i _ => mul_self_nonneg _) (by norm_num)) eps_spec.2

theorem sum_dev : ∑ i, dev x i = 0 := by
  simp only [dev, mean, Finset.sum_sub_distrib, Finset.sum_const, Finset.card_univ, Fintype.card_fin, nsmul_eq_mul]
  norm_num
  ring

/-- The gradient through the normalised row, as the kernel computes it, of a cotangent `h`. -/
def back (h : Fin 1024 → ℝ) (i : Fin 1024) : ℝ :=
  rdev x * (h i - mean h - xhat x i * mean fun j => h j * xhat x j)

/-- The weight of the variance's branch when the definition is differentiated. -/
def vweight (h : Fin 1024 → ℝ) : ℝ := (∑ j, dev x j * h j) * (-(1 / 2) * (rdev x / (variance x + eps))) / 1024

theorem vweight_eq (h : Fin 1024 → ℝ) (i : Fin 1024) :
    vweight x h * (2 * dev x i) = -(rdev x * (xhat x i * mean fun j => h j * xhat x j)) := by
  have hv := var_pos x
  have e : rdev x / (variance x + eps) = rdev x * (rdev x * rdev x) := by
    rw [rdev, ← mul_inv, Real.mul_self_sqrt hv.le, div_eq_mul_inv]
  have s : (mean fun j => h j * xhat x j) = (∑ j, dev x j * h j) * rdev x / 1024 := by
    rw [mean, Finset.sum_mul]
    exact congrArg (· / 1024) (Finset.sum_congr rfl fun j _ => by rw [xhat]; ring)
  rw [vweight, e, s, xhat]
  ring

/-- Differentiating the definition gives the kernel's form. -/
theorem back_eq (h : Fin 1024 → ℝ) (i : Fin 1024) :
    (h i * rdev x + vweight x h * (2 * dev x i)) + ((∑ j, -(h j * rdev x)) + ∑ j, -(vweight x h * (2 * dev x j))) / 1024
      = back x h i := by
  have z : ∑ j, -(vweight x h * (2 * dev x j)) = 0 := by
    rw [Finset.sum_neg_distrib, ← Finset.mul_sum, ← Finset.mul_sum, sum_dev]; ring
  have m : ∑ j, -(h j * rdev x) = -(1024 * mean h * rdev x) := by
    rw [Finset.sum_neg_distrib, ← Finset.sum_mul, mean]; ring
  rw [z, m, vweight_eq, back]
  ring

end Row

/-- A block accumulated over the row tiles, started afresh at the first, ends as the sum over all the rows. -/
theorem acc_tiles {N : ℕ} {ι : Type} (f : (n : ℕ) → n < N → ι → EReal) (J T S : ℕ) [NeZero J] (hS : J * T = S) (R : Fin S → ι → ℝ)
    (row : Fin N → Fin T → Fin S) (hrow : ∀ t a, (row t a).val = t.val % J * T + a.val)
    (h0 : ∀ t : Fin N, t.val % J = 0 → ∀ i, f t.val t.isLt i = ((∑ a, R (row t a) i : ℝ) : EReal))
    (hs : ∀ t : Fin N, ¬t.val % J = 0 → ∀ i, f t.val t.isLt i
      = f (t.val - 1) (Nat.lt_of_le_of_lt (Nat.sub_le _ _) t.isLt) i + ((∑ a, R (row t a) i : ℝ) : EReal))
    (t : Fin N) (hr : t.val % J = J - 1) (i : ι) : f t.val t.isLt i = ((∑ s, R s i : ℝ) : EReal) := by
  rw [Pipeline.eq_sum_fin_of_reset_step_apply_of_flush f J (fun _ => 0) (fun t i => ((∑ a, R (row t a) i : ℝ) : EReal))
    (fun t h i => by rw [h0 t h, zero_add]) hs t hr i, zero_add, coe_sum, Fin.sum_univ_tiles J T hS (fun s => R s i)]
  refine congrArg _ (Finset.sum_congr rfl fun j _ => Finset.sum_congr rfl fun a _ => congrArg (R · i) (Fin.ext ?_))
  rw [hrow]
  show (J * (t.val / J) + j.val) % J * T + a.val = _
  rw [Nat.mul_add_mod, Nat.mod_eq_of_lt j.isLt]

end Cert.NormMath

end
-- ==== Proof.PoolValue.lean ====
/-
  The pooling's gradient: the reference's three results, each as one function of the arguments.
-/
module

public import proofs.«01_k».proof.Proof.AttnRef
public import proofs.«01_k».proof.Proof.NormMath
public import proofs.«01_k».proof.Proof.Gen.ReferenceIdeal.Read
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem

namespace Cert.Pool

open Cert.NormMath Finset

/-- Channel `l` of group `g` among the 512 columns. -/
abbrev chan (g : Fin 4) (l : Fin 128) : Fin 512 := ⟨g.val * 128 + l.val, by omega⟩

/-- The number of rows a group's average runs over. -/
def width (g : Fin 4) : ℕ := 2 ^ (g.val + 1)

theorem width_pos (g : Fin 4) : 0 < width g := Nat.pow_pos (by norm_num)

/-! ## Window sums -/

/-- The differences `E u - E (u + W)` from a place on telescope to the window at that place. -/
theorem sum_diff (E : ℕ → ℝ) (hE : ∀ n, 4096 ≤ n → E n = 0) (W s : ℕ) (hs : s < 4096) :
    ∑ u ∈ Ico s 4096, (E u - E (u + W)) = ∑ k ∈ range W, E (s + k) := by
  rw [sum_sub_distrib, sum_Ico_add' E s 4096 W]
  have h1 : ∑ u ∈ Ico s 4096, E u = ∑ u ∈ Ico s (4096 + W), E u := by
    rw [← sum_Ico_consecutive E hs.le (Nat.le_add_right 4096 W)]
    rw [sum_eq_zero (s := Ico 4096 (4096 + W)) fun u hu => hE u (mem_Ico.mp hu).1, add_zero]
  rw [h1, ← sum_Ico_consecutive E (Nat.le_add_right s W) (by omega : s + W ≤ 4096 + W), add_sub_cancel_right, sum_Ico_eq_sum_range]
  simp

/-- A window of 4096 down the rows, read at one place: the rows from that place on. -/
theorem window_rows (hh : (⟨2, ![4096, 512]⟩ : Shape).ReduceWindows ![4096, 1] ![1, 1] ![0, 0] ![4095, 0] ⟨2, ![4096, 512]⟩)
    (x : (⟨2, ![4096, 512]⟩ : Shape).Idx → EReal) (f : ℕ → ℝ) (s : Fin 4096) (j : Fin 512)
    (hx : ∀ u : Fin 4096, x (ix2 u j) = ((f u.val : ℝ) : EReal)) :
    Ideal.hostReduceWindowAdd ![4096, 1] ![1, 1] ![0, 0] ![4095, 0] hh x 0 (ix2 s j) = ((∑ u ∈ Ico s.val 4096, f u : ℝ) : EReal) := by
  rw [← Cert.Reference2Ideal.Attn.suffix_sum f s.val s.isLt]
  unfold Ideal.hostReduceWindowAdd Host.reduceWindow
  dsimp only
  rw [Cert.Reference2Ideal.Attn.foldl_add, zero_add]
  rw [← Fin.sum_univ_eq_sum_range (fun n => if 0 ≤ s.val + n ∧ s.val + n - 0 < 4096 then f (s.val + n - 0) else 0) 4096, ← coe_sum]
  let e : (⟨2, ![4096, 1]⟩ : Shape).Idx ≃ Fin 4096 :=
    { toFun := fun w => w 0
      invFun := fun k => ix2 k 0
      left_inv := fun w => by
        refine Eq.trans ?_ (eq_ix2 w).symm
        have e1 : (0 : Fin 1) = w 1 := Subsingleton.elim _ _
        show ix2 (w 0) (0 : Fin 1) = _
        rw [← e1]
        rfl
      right_inv := fun _ => rfl }
  refine Fintype.sum_equiv ((⟨2, ![4096, 1]⟩ : Shape).rowMajor.symm.trans e) _ _ fun i => ?_
  let w : (⟨2, ![4096, 1]⟩ : Shape).Idx := (⟨2, ![4096, 1]⟩ : Shape).rowMajor.symm i
  change _ = ((if 0 ≤ s.val + (w 0).val ∧ s.val + (w 0).val - 0 < 4096 then f (s.val + (w 0).val - 0) else 0 : ℝ) : EReal)
  have w1 : (w 1).val < 1 := (w 1).isLt
  have hj := j.isLt
  by_cases hin : 0 ≤ s.val + (w 0).val ∧ s.val + (w 0).val - 0 < 4096
  · rw [if_pos hin, dif_pos]
    · refine Eq.trans (congrArg x (funext fun k => Fin.ext ?_)) (hx ⟨s.val + (w 0).val - 0, hin.2⟩)
      fin_cases k
      · show s.val * 1 + (w 0).val - 0 = s.val + (w 0).val - 0; omega
      · show j.val * 1 + (w 1).val - 0 = j.val; omega
    · intro k
      fin_cases k
      · show 0 ≤ s.val * 1 + (w 0).val ∧ s.val * 1 + (w 0).val - 0 < 4096; omega
      · show 0 ≤ j.val * 1 + (w 1).val ∧ j.val * 1 + (w 1).val - 0 < 512; omega
  · rw [if_neg hin, dif_neg]
    · rfl
    · intro hall
      have : 0 ≤ s.val * 1 + (w 0).val ∧ s.val * 1 + (w 0).val - 0 < 4096 := hall 0
      omega

/-! ## The number of rows averaged -/

/-- How many rows the average at row `n` runs over. -/
def count (g : Fin 4) (n : ℕ) : ℝ := ((min (n + 1) (width g) : ℕ) : ℝ)

theorem count_ne (g : Fin 4) (n : ℕ) : count g n ≠ 0 := by
  have := width_pos g
  exact Nat.cast_ne_zero.mpr (by omega)

/-- The smaller of `n + 1` and a width, as a float. -/
theorem count_is (g : Fin 4) (n : ℕ) (hn : n < 8192) :
    FloatOps.sitofp (F := Ideal) .f32 (IntOp.minsi (IntOp.addi (BitVec.ofNat 32 n) 1#32) (BitVec.ofNat 32 (width g))) = (count g n : EReal) := by
  have hw : width g < 32 := by unfold width; fin_cases g <;> decide
  have e1 : IntOp.addi (BitVec.ofNat 32 n) 1#32 = BitVec.ofNat 32 (n + 1) := (BitVec.ofNat_add n 1).symm
  have e2 : IntOp.minsi (BitVec.ofNat 32 (n + 1)) (BitVec.ofNat 32 (width g)) = BitVec.ofNat 32 (min (n + 1) (width g)) := by
    unfold IntOp.minsi
    have h1 : (BitVec.ofNat 32 (n + 1)).toInt = ((n + 1 : ℕ) : Int) := WordCmp.toInt_ofNat_of_lt (by omega)
    have h2 : (BitVec.ofNat 32 (width g)).toInt = ((width g : ℕ) : Int) := WordCmp.toInt_ofNat_of_lt (by omega)
    simp only [BitVec.slt, h1, h2]
    split <;> rename_i h <;> congr 1 <;> simp at h <;> omega
  rw [e1, e2]
  show (((BitVec.ofNat 32 (min (n + 1) (width g))).toInt : ℝ) : EReal) = _
  rw [WordCmp.toInt_ofNat_of_lt (by omega)]
  simp [count]

/-! ## The arguments and the three results -/

/-- The real numbers the arguments other than the pooled rows hold. -/
structure Data where
  w : Fin 4 → Fin 128 → Fin 128 → ℝ
  sc : Fin 512 → ℝ
  ct : Fin 4096 → Fin 512 → ℝ

namespace Data

variable (D : Data)

/-- The gradient of a difference: the scaled cotangent through the group's weights. -/
def dd (g : Fin 4) (c : Fin 128) (s : Fin 4096) : ℝ := ∑ l, D.ct s (chan g l) * D.sc (chan g l) * D.w g c l

/-- The same at any row, zero past the end. -/
def ddN (g : Fin 4) (c : Fin 128) (n : ℕ) : ℝ := if h : n < 4096 then D.dd g c ⟨n, h⟩ else 0

/-- Its share for each row averaged. -/
def share (g : Fin 4) (c : Fin 128) (n : ℕ) : ℝ := D.ddN g c n / count g n

/-- The gradient of the pooled rows: the shares of the averages a row is part of, less its own difference's gradient. -/
def du (g : Fin 4) (c : Fin 128) (s : Fin 4096) : ℝ := (∑ k ∈ range (width g), D.share g c (s.val + k)) - D.dd g c s

theorem share_far (g : Fin 4) (c : Fin 128) (n : ℕ) (h : 4096 ≤ n) : D.share g c n = 0 := by
  unfold share ddN
  rw [dif_neg (by omega), zero_div]

theorem share_in (g : Fin 4) (c : Fin 128) (n : Fin 4096) : D.share g c n.val = D.dd g c n / count g n.val := by
  unfold share ddN
  rw [dif_pos n.isLt]

end Data

/-- The gradient of the weights, from the differences, the scale and the cotangent. -/
def dwOf (d : (⟨3, ![4096, 4, 128]⟩ : Shape).Idx → EReal) (x2 : (⟨2, ![1, 512]⟩ : Shape).Idx → EReal) (x3 : (⟨3, ![1, 4096, 512]⟩ : Shape).Idx → EReal)
    (g : Fin 4) (i o : Fin 128) : EReal := ∑ s : Fin 4096, d (ix3 s g i) * (x3 (ix3 0 s (chan g o)) * x2 (ix2 0 (chan g o)))

/-- The gradient of the scale, from the differences, the weights and the cotangent. -/
def dsOf (d : (⟨3, ![4096, 4, 128]⟩ : Shape).Idx → EReal) (x1 : (⟨4, ![1, 4, 128, 128]⟩ : Shape).Idx → EReal) (x3 : (⟨3, ![1, 4096, 512]⟩ : Shape).Idx → EReal)
    (g : Fin 4) (o : Fin 128) : EReal := ∑ s : Fin 4096, x3 (ix3 0 s (chan g o)) * ∑ l, d (ix3 s g l) * x1 (ix4 0 g l o)

/-- Four groups of columns set side by side, each among zeros: the one a column is in. -/
theorem pick (X0 X1 X2 X3 : Fin 128 → EReal) (g : Fin 4) (c : Fin 128) :
    ((((if h : 384 ≤ g.val * 128 + c.val ∧ g.val * 128 + c.val - 384 < 128 then X3 ⟨g.val * 128 + c.val - 384, h.2⟩ else 0)
      + if h : 256 ≤ g.val * 128 + c.val ∧ g.val * 128 + c.val - 256 < 128 then X2 ⟨g.val * 128 + c.val - 256, h.2⟩ else 0)
      + if h : 128 ≤ g.val * 128 + c.val ∧ g.val * 128 + c.val - 128 < 128 then X1 ⟨g.val * 128 + c.val - 128, h.2⟩ else 0)
      + if h : g.val * 128 + c.val < 128 then X0 ⟨g.val * 128 + c.val, h⟩ else 0) = ![X0, X1, X2, X3] g c := by
  have hc := c.isLt
  obtain ⟨g, hg⟩ := g
  match g, hg with
  | 0, _ =>
    rw [dif_neg (by dsimp only; omega), dif_neg (by dsimp only; omega), dif_neg (by dsimp only; omega), dif_pos (by dsimp only; omega), zero_add, zero_add, zero_add]
    exact congrArg X0 (Fin.ext (by dsimp only; omega))
  | 1, _ =>
    rw [dif_neg (by dsimp only; omega), dif_neg (by dsimp only; omega), dif_pos (by dsimp only; omega), dif_neg (by dsimp only; omega), zero_add, zero_add, add_zero]
    exact congrArg X1 (Fin.ext (by dsimp only; omega))
  | 2, _ =>
    rw [dif_neg (by dsimp only; omega), dif_pos (by dsimp only; omega), dif_neg (by dsimp only; omega), dif_neg (by dsimp only; omega), zero_add, add_zero, add_zero]
    exact congrArg X2 (Fin.ext (by dsimp only; omega))
  | 3, _ =>
    rw [dif_pos (by dsimp only; omega), dif_neg (by dsimp only; omega), dif_neg (by dsimp only; omega), dif_neg (by dsimp only; omega), add_zero, add_zero, add_zero]
    exact congrArg X3 (Fin.ext (by dsimp only; omega))

/-- The arguments hold the real numbers of `D`. -/
structure Holds (D : Data) (x1 : (⟨4, ![1, 4, 128, 128]⟩ : Shape).Idx → EReal) (x2 : (⟨2, ![1, 512]⟩ : Shape).Idx → EReal)
    (x3 : (⟨3, ![1, 4096, 512]⟩ : Shape).Idx → EReal) : Prop where
  w : ∀ g i o, x1 (ix4 0 g i o) = (D.w g i o : EReal)
  sc : ∀ j, x2 (ix2 0 j) = (D.sc j : EReal)
  ct : ∀ s j, x3 (ix3 0 s j) = (D.ct s j : EReal)

end Cert.Pool

/-! ## The reference's values -/

namespace Cert.ReferenceIdeal.Read

open Cert.ReferenceIdeal Cert.Pool Cert.NormMath Finset

variable (x0 : S1x4096x512.Idx → EReal) (x1 : S1x4x128x128.Idx → EReal) (x2 : S1x512.Idx → EReal) (x3 : S1x4096x512.Idx → EReal)

/-- The weights' gradient. -/
theorem ref_dw (g : Fin 4) (i o : Fin 128) : val_main_v96 (F := Ideal) x0 x2 x3 (ix3 g i o) = dwOf (val_main_v77 (F := Ideal) x0) x2 x3 g i o := by
  pointwise [val_main_v96, val_main_v95, val_main_v92, val_main_v91, val_main_v89, val_main_v88, val_main_v84, val_main_v81, val_main_v2]
  exact sum_congr rfl fun s _ => mul_comm _ _

/-- The scale's gradient. -/
theorem ref_ds (g : Fin 4) (o : Fin 128) : val_main_v153 (F := Ideal) x0 x1 x3 (ix2 0 (chan g o)) = dsOf (val_main_v77 (F := Ideal) x0) x1 x3 g o := by
  have e1 : (g.val * 128 + o.val) / 128 = g.val := by omega
  have e2 : (g.val * 128 + o.val) % 128 = o.val := by omega
  pointwise [val_main_v153, val_main_v90, val_main_v87, val_main_v86, val_main_v85, val_main_v84, val_main_v80, val_main_v79, val_main_v78, val_main_v1, val_main_cst_14, val_main_cst_15]
  rw [Fin.sum_univ_one]
  exact sum_congr rfl fun s _ => (mul_comm _ _).trans (congrArg _ (sum_congr rfl fun l _ => mul_comm _ _))

variable {x1 x2 x3} {D : Data} (h : Holds D x1 x2 x3)
include h

/-- The reference's gradient of the differences, group by group. -/
theorem ref_dd (s : Fin 4096) (c : Fin 128) : val_main_v98 (F := Ideal) x1 x2 x3 (ix2 s c) = (D.dd 0 c s : EReal)
    ∧ val_main_v100 (F := Ideal) x1 x2 x3 (ix2 s c) = (D.dd 1 c s : EReal)
    ∧ val_main_v102 (F := Ideal) x1 x2 x3 (ix2 s c) = (D.dd 2 c s : EReal)
    ∧ val_main_v104 (F := Ideal) x1 x2 x3 (ix2 s c) = (D.dd 3 c s : EReal) := by
  have e : ∀ l : Fin 128, ∀ hl, (⟨l.val, hl⟩ : Fin 512) = chan 0 l := fun l _ => Fin.ext (by show l.val = 0 * 128 + l.val; omega)
  refine ⟨?_, ?_, ?_, ?_⟩
  · pointwise [val_main_v98, val_main_v97, val_main_v94, val_main_v93, val_main_v92, val_main_v91, val_main_v89, val_main_v88, val_main_v84, val_main_v81, val_main_v2, val_main_v1]
    simp only [e, h.ct, h.sc, h.w, ← EReal.coe_mul, coe_sum]
    rfl
  · pointwise [val_main_v100, val_main_v99, val_main_v94, val_main_v93, val_main_v92, val_main_v91, val_main_v89, val_main_v88, val_main_v84, val_main_v81, val_main_v2, val_main_v1]
    simp only [h.ct, h.sc, h.w, ← EReal.coe_mul, coe_sum]
    rfl
  · pointwise [val_main_v102, val_main_v101, val_main_v94, val_main_v93, val_main_v92, val_main_v91, val_main_v89, val_main_v88, val_main_v84, val_main_v81, val_main_v2, val_main_v1]
    simp only [h.ct, h.sc, h.w, ← EReal.coe_mul, coe_sum]
    rfl
  · pointwise [val_main_v104, val_main_v103, val_main_v94, val_main_v93, val_main_v92, val_main_v91, val_main_v89, val_main_v88, val_main_v84, val_main_v81, val_main_v2, val_main_v1]
    simp only [h.ct, h.sc, h.w, ← EReal.coe_mul, coe_sum]
    rfl

omit h in
/-- The reference's numbers of rows averaged, group by group. -/
theorem ref_count (s : Fin 4096) : val_main_v16 (F := Ideal) (ix2 s 0) = (count 0 s.val : EReal)
    ∧ val_main_v33 (F := Ideal) (ix2 s 0) = (count 1 s.val : EReal)
    ∧ val_main_v50 (F := Ideal) (ix2 s 0) = (count 2 s.val : EReal)
    ∧ val_main_v67 (F := Ideal) (ix2 s 0) = (count 3 s.val : EReal) := by
  have hs : s.val < 8192 := by omega
  refine ⟨?_, ?_, ?_, ?_⟩
  · pointwise [val_main_v16, val_main_v15, val_main_v14, val_main_v12, val_main_v13, val_main_v11, val_main_v4, val_main_c, val_main_c_1]
    exact count_is 0 s.val hs
  · pointwise [val_main_v33, val_main_v32, val_main_v31, val_main_v29, val_main_v30, val_main_v28, val_main_v4, val_main_c_4, val_main_c_5]
    exact count_is 1 s.val hs
  · pointwise [val_main_v50, val_main_v49, val_main_v48, val_main_v46, val_main_v47, val_main_v45, val_main_v4, val_main_c_8, val_main_c_9]
    exact count_is 2 s.val hs
  · pointwise [val_main_v67, val_main_v66, val_main_v65, val_main_v63, val_main_v64, val_main_v62, val_main_v4, val_main_c_12, val_main_c_13]
    exact count_is 3 s.val hs

/-- A group's share at a row, and the same taken away `width` rows further on. -/
theorem ref_share (s : Fin 4096) (c : Fin 128) : val_main_v148 (F := Ideal) x1 x2 x3 (ix2 s c) = ((D.share 0 c s.val - D.share 0 c (s.val + 2) : ℝ) : EReal)
    ∧ val_main_v136 (F := Ideal) x1 x2 x3 (ix2 s c) = ((D.share 1 c s.val - D.share 1 c (s.val + 4) : ℝ) : EReal)
    ∧ val_main_v124 (F := Ideal) x1 x2 x3 (ix2 s c) = ((D.share 2 c s.val - D.share 2 c (s.val + 8) : ℝ) : EReal)
    ∧ val_main_v113 (F := Ideal) x1 x2 x3 (ix2 s c) = ((D.share 3 c s.val - D.share 3 c (s.val + 16) : ℝ) : EReal) := by
  have z : Ideal.ofBits .f32 0x00000000#32 = 0 := by simp [Ideal.ofBits, Ideal.ieee]
  have key : ∀ (g : Fin 4) (W : ℕ), ((D.dd g c s / count g s.val : ℝ) : EReal)
      + (if hn : s.val < 4096 - W then (((-(D.dd g c ⟨W + s.val, by omega⟩ / count g (W + s.val)) : ℝ)) : EReal) else 0)
      = ((D.share g c s.val - D.share g c (s.val + W) : ℝ) : EReal) := by
    intro g W
    rw [D.share_in g c s, sub_eq_add_neg, EReal.coe_add]
    refine congrArg _ ?_
    split
    · rename_i hn
      have := D.share_in g c ⟨W + s.val, by omega⟩
      rw [Nat.add_comm s.val W, ← this]
    · rw [D.share_far g c _ (by omega)]; simp
  refine ⟨?_, ?_, ?_, ?_⟩
  · pointwise [val_main_v148, val_main_v147, val_main_v146, val_main_v144, val_main_v143, val_main_v142, val_main_cst_26]
    simp only [(ref_dd h _ c).1, (ref_count _).1, div_coe _ (count_ne _ _), ← EReal.coe_neg]
    exact key 0 2
  · pointwise [val_main_v136, val_main_v135, val_main_v134, val_main_v132, val_main_v131, val_main_v130, val_main_cst_23]
    simp only [(ref_dd h _ c).2.1, (ref_count _).2.1, div_coe _ (count_ne _ _), ← EReal.coe_neg]
    exact key 1 4
  · pointwise [val_main_v124, val_main_v123, val_main_v122, val_main_v120, val_main_v119, val_main_v118, val_main_cst_20]
    simp only [(ref_dd h _ c).2.2.1, (ref_count _).2.2.1, div_coe _ (count_ne _ _), ← EReal.coe_neg]
    exact key 2 8
  · pointwise [val_main_v113, val_main_v112, val_main_v111, val_main_v109, val_main_v108, val_main_v107, val_main_cst_17]
    simp only [(ref_dd h _ c).2.2.2, (ref_count _).2.2.2, div_coe _ (count_ne _ _), ← EReal.coe_neg]
    exact key 3 16

/-- The differences' own part of the rows' gradient. -/
theorem ref_own (s : Fin 4096) (g : Fin 4) (c : Fin 128) : val_main_v141 (F := Ideal) x1 x2 x3 (ix2 s (chan g c)) = ((-D.dd g c s : ℝ) : EReal) := by
  pointwise [val_main_v141, val_main_v129, val_main_v140, val_main_v117, val_main_v128, val_main_v106, val_main_v116, val_main_v105, val_main_v115, val_main_v127, val_main_v139, val_main_cst_16, val_main_cst_19, val_main_cst_22, val_main_cst_25]
  simp only [(ref_dd h s _).1, (ref_dd h s _).2.1, (ref_dd h s _).2.2.1, (ref_dd h s _).2.2.2, ← EReal.coe_neg]
  refine (pick (fun k => ((-D.dd 0 k s : ℝ) : EReal)) (fun k => ((-D.dd 1 k s : ℝ) : EReal)) (fun k => ((-D.dd 2 k s : ℝ) : EReal))
    (fun k => ((-D.dd 3 k s : ℝ) : EReal)) g c).trans ?_
  fin_cases g <;> rfl

/-- The shares' differences, all the groups side by side. -/
theorem ref_shares (s : Fin 4096) (g : Fin 4) (c : Fin 128) :
    val_main_v150 (F := Ideal) x1 x2 x3 (ix2 s (chan g c)) = ((D.share g c s.val - D.share g c (s.val + width g) : ℝ) : EReal) := by
  pointwise [val_main_v150, val_main_v138, val_main_v149, val_main_v126, val_main_v137, val_main_v114, val_main_v125, val_main_cst_18, val_main_cst_21, val_main_cst_24, val_main_cst_27]
  simp only [(ref_share h s _).1, (ref_share h s _).2.1, (ref_share h s _).2.2.1, (ref_share h s _).2.2.2]
  refine (pick (fun k => ((D.share 0 k s.val - D.share 0 k (s.val + 2) : ℝ) : EReal)) (fun k => ((D.share 1 k s.val - D.share 1 k (s.val + 4) : ℝ) : EReal))
    (fun k => ((D.share 2 k s.val - D.share 2 k (s.val + 8) : ℝ) : EReal)) (fun k => ((D.share 3 k s.val - D.share 3 k (s.val + 16) : ℝ) : EReal)) g c).trans ?_
  fin_cases g <;> rfl

/-- The rows' gradient. -/
theorem ref_du (s : Fin 4096) (g : Fin 4) (c : Fin 128) : val_main_v152 (F := Ideal) x1 x2 x3 (ix2 s (chan g c)) = (D.du g c s : EReal) := by
  have hw := window_rows Gen.reduceWindows_S4096x512_S4096x512_w4096s1p0_4095_w1s1p0_0 (val_main_v150 (F := Ideal) x1 x2 x3)
    (fun n => D.share g c n - D.share g c (n + width g)) s (chan g c) fun u => ref_shares h u g c
  have hv : val_main_v151 (F := Ideal) x1 x2 x3 (ix2 s (chan g c)) = ((∑ k ∈ range (width g), D.share g c (s.val + k) : ℝ) : EReal) := by
    unfold val_main_v151 Host.reduceWindowAdd
    rw [Ideal.hostReduceWindowAdd_def, ← sum_diff (D.share g c) (D.share_far g c) (width g) s.val s.isLt]
    refine Eq.trans ?_ hw
    refine congrArg (fun v => Ideal.hostReduceWindowAdd _ _ _ _ _ _ v _) ?_
    pointwise [val_main_call1_call0_v0, val_main_call1_call0_cst]
  pointwise [val_main_v152]
  rw [ref_own h, hv, ← EReal.coe_add, neg_add_eq_sub]
  rfl

end Cert.ReferenceIdeal.Read

end
-- ==== Proof.MixValue.lean ====
/-
  The gradient of the output projection, the layer norm before it in the backward pass and the heads' RMS norm: the
  reference's seven results, each as one real function of the arguments.
-/
module

public import proofs.«01_k».proof.Proof.Gen.Reference5Ideal.Read
public import proofs.«01_k».proof.Proof.NormMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Mix

open Cert.NormMath

/-- The head dimension, and the number the RMS norm adds to a mean square. -/
theorem ofBits_64 : Ideal.ofBits .f32 0x42800000#32 = ((64 : ℝ) : EReal) := by
  simp [Ideal.ofBits, Ideal.ieee, -EReal.coe_mul]; norm_num

theorem div_64 (a : ℝ) : Ideal.div (a : EReal) ((64 : ℝ) : EReal) = ((a / 64 : ℝ) : EReal) := div_coe a (by norm_num)

def reps : ℝ := (Ideal.ofBits .f32 0x358637BD#32).toReal

theorem reps_spec : Ideal.ofBits .f32 0x358637BD#32 = (reps : EReal) ∧ 0 < reps := by
  have h : Ideal.ofBits .f32 0x358637BD#32 = ((8796093 / 2 ^ 43 : ℝ) : EReal) := by
    simp [Ideal.ofBits, Ideal.ieee, -EReal.coe_mul]; norm_num
  refine ⟨?_, ?_⟩
  · rw [reps, h]; simp only [EReal.toReal_coe]
  · rw [reps, h, EReal.toReal_coe]; positivity

/-- The columns of the head column `j` lies in. -/
def mate (j : Fin 512) (e : Fin 64) : Fin 512 := ⟨j.val / 64 * 64 + e.val, by omega⟩

theorem mate_mate (j : Fin 512) (e : Fin 64) : mate (mate j e) = mate j := by
  funext f
  refine Fin.ext ?_
  show (j.val / 64 * 64 + e.val) / 64 * 64 + f.val = j.val / 64 * 64 + f.val
  omega

section Head

variable (v : Fin 512 → ℝ)

/-- The mean of a function over the head of a column. -/
def hmean (f : Fin 512 → ℝ) (j : Fin 512) : ℝ := (∑ e, f (mate j e)) / 64

/-- A head's mean square and the reciprocal of its root. -/
def msq (j : Fin 512) : ℝ := hmean (fun i => v i * v i) j

def rrms (j : Fin 512) : ℝ := (Real.sqrt (msq v j + reps))⁻¹

theorem msq_pos (j : Fin 512) : 0 < msq v j + reps :=
  add_pos_of_nonneg_of_pos (div_nonneg (Finset.sum_nonneg fun i _ => mul_self_nonneg _) (by norm_num)) reps_spec.2

theorem rrms_mate (j : Fin 512) (e : Fin 64) : rrms v (mate j e) = rrms v j := by
  rw [rrms, rrms, msq, msq, hmean, hmean, mate_mate]

/-- The gradient through a head's RMS norm, as the kernel computes it, of a cotangent `h`. -/
def rback (h : Fin 512 → ℝ) (j : Fin 512) : ℝ :=
  rrms v j * (h j - v j * rrms v j * hmean (fun i => h i * (v i * rrms v i)) j)

/-- The weight of the mean square's branch when the definition is differentiated. -/
def rweight (h : Fin 512 → ℝ) (j : Fin 512) : ℝ :=
  (∑ e, v (mate j e) * h (mate j e)) * (-(1 / 2) * (rrms v j / (msq v j + reps))) / 64

/-- Differentiating the definition gives the kernel's form. -/
theorem rback_eq (h : Fin 512 → ℝ) (j : Fin 512) :
    h j * rrms v j + v j * rweight v h j + rweight v h j * v j = rback v h j := by
  have hv := msq_pos v j
  have e : rrms v j / (msq v j + reps) = rrms v j * (rrms v j * rrms v j) := by
    rw [rrms, ← mul_inv, Real.mul_self_sqrt hv.le, div_eq_mul_inv]
  have s : hmean (fun i => h i * (v i * rrms v i)) j = (∑ e, v (mate j e) * h (mate j e)) * rrms v j / 64 := by
    rw [hmean, Finset.sum_mul]
    exact congrArg (· / 64) (Finset.sum_congr rfl fun e _ => by rw [rrms_mate]; ring)
  rw [rback, rweight, e, s]
  ring

end Head

/-- The real numbers the arguments hold: the attention's and the pooling's results, the residual rows, the heads' gain,
    the output projection, the layer norm's gain, and the two cotangents that meet at its result. -/
structure Data where
  o : Fin 4096 → Fin 512 → ℝ
  pooled : Fin 4096 → Fin 512 → ℝ
  x : Fin 4096 → Fin 1024 → ℝ
  ga : Fin 512 → ℝ
  w : Fin 1024 → Fin 1024 → ℝ
  g : Fin 1024 → ℝ
  dp : Fin 4096 → Fin 1024 → ℝ
  dx : Fin 4096 → Fin 1024 → ℝ

variable (D : Data)

/-- The two halves of the projection's rows. -/
def lo (j : Fin 512) : Fin 1024 := ⟨j.val, by omega⟩
def hi (j : Fin 512) : Fin 1024 := ⟨512 + j.val, by omega⟩

/-- The normalised heads and the projection's input. -/
def Data.on (s : Fin 4096) (j : Fin 512) : ℝ := D.o s j * rrms (D.o s) j * D.ga j

def Data.cat (s : Fin 4096) (i : Fin 1024) : ℝ :=
  if h : i.val < 512 then D.on s ⟨i.val, h⟩ else D.pooled s ⟨i.val - 512, by omega⟩

/-- The layer norm's input, its cotangent, and the gradient through it. -/
def Data.pre (s : Fin 4096) (k : Fin 1024) : ℝ := alpha * D.x s k + ∑ i, D.cat s i * D.w i k

def Data.dy (s : Fin 4096) (k : Fin 1024) : ℝ := alpha * D.dp s k + D.dx s k

def Data.dpre (s : Fin 4096) (k : Fin 1024) : ℝ := back (D.pre s) (fun i => D.dy s i * D.g i) k

/-- The gradient of the projection's input. -/
def Data.dcat (s : Fin 4096) (i : Fin 1024) : ℝ := ∑ k, D.dpre s k * D.w i k

def Data.doo (s : Fin 4096) (j : Fin 512) : ℝ := rback (D.o s) (fun i => D.dcat s (lo i) * D.ga i) j

def Data.dpo (s : Fin 4096) (j : Fin 512) : ℝ := D.dcat s (hi j)

def Data.dw (i k : Fin 1024) : ℝ := ∑ s : Fin 4096, D.cat s i * D.dpre s k

def Data.dg (k : Fin 1024) : ℝ := ∑ s : Fin 4096, D.dy s k * xhat (D.pre s) k

def Data.db (k : Fin 1024) : ℝ := ∑ s : Fin 4096, D.dy s k

def Data.dga (j : Fin 512) : ℝ := ∑ s : Fin 4096, D.dcat s (lo j) * (D.o s j * rrms (D.o s) j)

/-- The arguments hold the data's numbers. -/
structure Holds (o pooled : FVec Ideal ⟨3, ![1, 4096, 512]⟩ .f32) (x : FVec Ideal ⟨3, ![1, 4096, 1024]⟩ .f32) (ga : FVec Ideal ⟨2, ![1, 512]⟩ .f32)
    (w : FVec Ideal ⟨3, ![1, 1024, 1024]⟩ .f32) (g : FVec Ideal ⟨2, ![1, 1024]⟩ .f32) (dp dx : FVec Ideal ⟨3, ![1, 4096, 1024]⟩ .f32) : Prop where
  o : ∀ s k, o (ix3 0 s k) = (D.o s k : EReal)
  pooled : ∀ s k, pooled (ix3 0 s k) = (D.pooled s k : EReal)
  x : ∀ s k, x (ix3 0 s k) = (D.x s k : EReal)
  ga : ∀ k, ga (ix2 0 k) = (D.ga k : EReal)
  w : ∀ i k, w (ix3 0 i k) = (D.w i k : EReal)
  g : ∀ k, g (ix2 0 k) = (D.g k : EReal)
  dp : ∀ s k, dp (ix3 0 s k) = (D.dp s k : EReal)
  dx : ∀ s k, dx (ix3 0 s k) = (D.dx s k : EReal)

end Cert.Mix

namespace Cert.Reference5Ideal.Value

open Cert.Reference5Ideal Cert.Reference5Ideal.Gen Cert.Reference5Ideal.Read
open Cert.Mix Cert.NormMath

variable {D : Data} {o pooled : FVec Ideal S1x4096x512 .f32} {x dp dx : FVec Ideal S1x4096x1024 .f32} {ga : FVec Ideal S1x512 .f32}
  {w : FVec Ideal S1x1024x1024 .f32} {g : FVec Ideal S1x1024 .f32} (h : Holds D o pooled x ga w g dp dx)
include h

/-- A head's entries. -/
theorem o_is (s : Fin 4096) (j : Fin 512) (e : Fin 64) : val_main_v4 (F := Ideal) o (ix3 s ⟨j.val / 64, by omega⟩ e) = (D.o s (mate j e) : EReal) := by
  pointwise [val_main_v4, val_main_v0]
  exact h.o s (mate j e)

theorem msq_is (s : Fin 4096) (j : Fin 512) : val_main_v11 (F := Ideal) o (ix3 s ⟨j.val / 64, by omega⟩ 0) = ((msq (D.o s) j + reps : ℝ) : EReal) := by
  pointwise [val_main_v11, val_main_v10, val_main_v9, val_main_v8, val_main_v7, val_main_v6, val_main_v5, val_main_cst, val_main_cst_0, val_main_cst_1]
  simp only [o_is h, coe_sum, ofBits_64, div_64, reps_spec.1, ← EReal.coe_mul, ← EReal.coe_add]
  rfl

theorem rrms_is (s : Fin 4096) (j : Fin 512) : val_main_v12 (F := Ideal) o (ix3 s ⟨j.val / 64, by omega⟩ 0) = (rrms (D.o s) j : EReal) := by
  pointwise [val_main_v12]
  rw [msq_is h]
  exact rsqrt_pos (msq_pos _ _)

omit h in
theorem mate_self (j : Fin 512) : mate j ⟨j.val % 64, by omega⟩ = j := Fin.ext (by show j.val / 64 * 64 + j.val % 64 = j.val; omega)

theorem oh_is (s : Fin 4096) (j : Fin 512) : val_main_v18 (F := Ideal) o (ix2 s j) = ((D.o s j * rrms (D.o s) j : ℝ) : EReal) := by
  pointwise [val_main_v18, val_main_v17, val_main_v16]
  rw [o_is h, rrms_is h, mate_self, ← EReal.coe_mul]

theorem on_is (s : Fin 4096) (j : Fin 512) : val_main_v21 (F := Ideal) o ga (ix2 s j) = (D.on s j : EReal) := by
  pointwise [val_main_v21, val_main_v20, val_main_v19, val_main_v2]
  rw [oh_is h, h.ga, ← EReal.coe_mul]
  rfl

/-- The projection's input. -/
theorem cat_is (s : Fin 4096) (i : Fin 1024) : val_main_v22 (F := Ideal) o pooled ga (ix2 s i) = (D.cat s i : EReal) := by
  pointwise [val_main_v22, val_main_v1]
  rw [Data.cat]
  by_cases hi : i.val < 512
  · rw [dif_pos hi, dif_pos hi]; exact on_is h _ _
  · rw [dif_neg hi, dif_neg hi]; exact h.pooled _ _

theorem pre_is (s : Fin 4096) (k : Fin 1024) : val_main_v27 (F := Ideal) o pooled x ga w (ix2 s k) = (D.pre s k : EReal) := by
  pointwise [val_main_v27, val_main_v26, val_main_v25, val_main_v24, val_main_v23, val_main_v3, val_main_cst_3]
  simp only [cat_is h, h.w, h.x, coe_sum, alpha_spec, ← EReal.coe_mul, ← EReal.coe_add]
  rfl

theorem mean_is (s : Fin 4096) : val_main_v33 (F := Ideal) o pooled x ga w (ix2 s 0) = (mean (D.pre s) : EReal) := by
  pointwise [val_main_v33, val_main_v32, val_main_v31, val_main_v30, val_main_cst_4, val_main_cst_5]
  simp only [pre_is h, coe_sum, ofBits_1024, div_1024]
  rfl

theorem dev_is (s : Fin 4096) (k : Fin 1024) : val_main_v35 (F := Ideal) o pooled x ga w (ix2 s k) = (dev (D.pre s) k : EReal) := by
  pointwise [val_main_v35, val_main_v34]
  rw [pre_is h, mean_is h, ← EReal.coe_sub]
  rfl

theorem dev_is' (s : Fin 4096) (k : Fin 1024) : val_main_v44 (F := Ideal) o pooled x ga w (ix2 s k) = (dev (D.pre s) k : EReal) := by
  pointwise [val_main_v44, val_main_v43]
  rw [pre_is h, mean_is h, ← EReal.coe_sub]
  rfl

theorem var_is (s : Fin 4096) : val_main_v46 (F := Ideal) o pooled x ga w (ix2 s 0) = ((variance (D.pre s) + eps : ℝ) : EReal) := by
  pointwise [val_main_v46, val_main_v45, val_main_v42, val_main_v41, val_main_v40, val_main_v39, val_main_v36, val_main_cst_7, val_main_cst_8, val_main_cst_9]
  simp only [dev_is h, coe_sum, ofBits_1024, div_1024, eps_spec.1, ← EReal.coe_mul, ← EReal.coe_add]
  rfl

theorem rdev_is (s : Fin 4096) : val_main_v47 (F := Ideal) o pooled x ga w (ix2 s 0) = (rdev (D.pre s) : EReal) := by
  pointwise [val_main_v47]
  rw [var_is h]
  exact rsqrt_pos (var_pos _)

theorem xhat_is (s : Fin 4096) (k : Fin 1024) : val_main_v52 (F := Ideal) o pooled x ga w (ix2 s k) = (xhat (D.pre s) k : EReal) := by
  pointwise [val_main_v52, val_main_v51]
  rw [dev_is' h, rdev_is h, ← EReal.coe_mul]
  rfl

theorem dy_is (s : Fin 4096) (k : Fin 1024) : val_main_v63 (F := Ideal) dp dx (ix2 s k) = (D.dy s k : EReal) := by
  pointwise [val_main_v63, val_main_v62, val_main_v61, val_main_v60, val_main_v59, val_main_cst_11]
  rw [h.dp, h.dx, alpha_spec, ← EReal.coe_mul, ← EReal.coe_add]
  rfl

theorem dpre_is (s : Fin 4096) (k : Fin 1024) : val_main_v96 (F := Ideal) o pooled x ga w g dp dx (ix2 s k) = (D.dpre s k : EReal) := by
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v71, val_main_v70, val_main_v53, val_main_v50, val_main_v49, val_main_v48, val_main_v38, val_main_v37, val_main_v28, val_main_cst_6, val_main_cst_10, val_main_cst_16, val_main_cst_17, val_main_cst_18, val_main_cst_19, val_main_cst_20, val_main_cst_21, val_main_cst_22]
  simp only [Fin.sum_univ_one, dy_is h, dev_is h, dev_is' h, rdev_is h, var_is h, h.g, coe_sum, ofBits_1024, ofBits_two, ofBits_neg_half, div_1024,
    div_coe _ (var_pos _).ne', ← EReal.coe_mul, ← EReal.coe_add, ← EReal.coe_neg]
  exact congrArg _ (back_eq (D.pre s) (fun i => D.dy s i * D.g i) k)

theorem dcat_is (s : Fin 4096) (i : Fin 1024) : val_main_v99 (F := Ideal) o pooled x ga w g dp dx (ix2 s i) = (D.dcat s i : EReal) := by
  pointwise [val_main_v99, val_main_v3]
  simp only [dpre_is h, h.w, coe_sum, ← EReal.coe_mul]
  rfl

theorem dw_is (i k : Fin 1024) : val_main_v98 (F := Ideal) o pooled x ga w g dp dx (ix2 i k) = (D.dw i k : EReal) := by
  pointwise [val_main_v98, val_main_v97]
  simp only [dpre_is h, cat_is h, coe_sum, ← EReal.coe_mul]
  exact congrArg _ (Finset.sum_congr rfl fun s _ => mul_comm _ _)

theorem dpo_is (s : Fin 4096) (j : Fin 512) : val_main_v101 (F := Ideal) o pooled x ga w g dp dx (ix2 s j) = (D.dpo s j : EReal) := by
  pointwise [val_main_v101]
  exact dcat_is h s (hi j)

theorem dg_is (k : Fin 1024) : val_main_v124 (F := Ideal) o pooled x ga w dp dx (ix2 0 k) = (D.dg k : EReal) := by
  pointwise [val_main_v124, val_main_v72, val_main_v69, val_main_v68, val_main_v67, val_main_cst_14, val_main_cst_15]
  simp only [Fin.sum_univ_one, dy_is h, xhat_is h, coe_sum, ← EReal.coe_mul]
  exact congrArg _ (Finset.sum_congr rfl fun s _ => mul_comm _ _)

theorem db_is (k : Fin 1024) : val_main_v125 (F := Ideal) dp dx (ix2 0 k) = (D.db k : EReal) := by
  pointwise [val_main_v125, val_main_v66, val_main_v65, val_main_v64, val_main_cst_12, val_main_cst_13]
  simp only [Fin.sum_univ_one, dy_is h, coe_sum]
  rfl

/-- The cotangent of a normalised head. -/
theorem don_is (s : Fin 4096) (j : Fin 512) : val_main_v100 (F := Ideal) o pooled x ga w g dp dx (ix2 s j) = (D.dcat s (lo j) : EReal) := by
  pointwise [val_main_v100]
  exact dcat_is h s (lo j)

theorem dga_is (j : Fin 512) : val_main_v126 (F := Ideal) o pooled x ga w g dp dx (ix2 0 j) = (D.dga j : EReal) := by
  pointwise [val_main_v126, val_main_v107, val_main_v104, val_main_v103, val_main_v102, val_main_cst_23, val_main_cst_24]
  simp only [Fin.sum_univ_one, don_is h, oh_is h, coe_sum, ← EReal.coe_mul]
  exact congrArg _ (Finset.sum_congr rfl fun s _ => mul_comm _ _)

theorem doh_is (s : Fin 4096) (j : Fin 512) (e : Fin 64) : val_main_v108 (F := Ideal) o pooled x ga w g dp dx (ix3 s ⟨j.val / 64, by omega⟩ e)
    = ((D.dcat s (lo (mate j e)) * D.ga (mate j e) : ℝ) : EReal) := by
  pointwise [val_main_v108, val_main_v106, val_main_v105, val_main_v19, val_main_v2]
  rw [EReal.coe_mul, ← don_is h, ← h.ga]
  rfl

theorem do_is (s : Fin 4096) (j : Fin 512) : val_main_v123 (F := Ideal) o pooled x ga w g dp dx (ix2 s j) = (D.doo s j : EReal) := by
  pointwise [val_main_v123, val_main_v122, val_main_v121, val_main_v120, val_main_v119, val_main_v118, val_main_v117, val_main_v116, val_main_v115, val_main_v114, val_main_v113, val_main_v112, val_main_v111, val_main_v110, val_main_v109, val_main_v15, val_main_v14, val_main_v13, val_main_cst_2, val_main_cst_25, val_main_cst_26, val_main_cst_27]
  simp only [Fin.sum_univ_one, doh_is h, o_is h, rrms_is h, msq_is h, mate_self, coe_sum, ofBits_64, ofBits_neg_half, div_64,
    div_coe _ (msq_pos _ _).ne', ← EReal.coe_mul, ← EReal.coe_add, ← EReal.coe_neg]
  exact congrArg _ (rback_eq (D.o s) (fun i => D.dcat s (lo i) * D.ga i) j)

end Cert.Reference5Ideal.Value

end
-- ==== Proof.MixBlocks.lean ====
/-
  The kernel of the gradient of the output projection and the heads' RMS norm: the blocks it reads and the layer norm's gradient on
  a tile.
-/
module

public import proofs.«01_k».proof.Proof.Gen.Kernel5Ideal.Value
public import proofs.«01_k».proof.Proof.Gen.Reference5Ideal.Read
public import proofs.«01_k».proof.Proof.MixValue
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel5Ideal.Value

open Cert.Kernel5Ideal Cert.Kernel5Ideal.Gen
open Cert.Mix Cert.NormMath

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![0, 0]
    ∧ win0_10.index t = ![t.val, 0]
    ∧ win0_11.index t = ![t.val, 0]
    ∧ win0_12.index t = ![t.val, 0]
    ∧ win0_13.index t = ![0, 0]
    ∧ win0_14.index t = ![0, 0]
    ∧ win0_15.index t = ![0, 0]
    ∧ win0_16.index t = ![0, 0] :=
  (by decide +kernel : ∀ t : Fin grid0.N, _)

/-- What the host hands the kernel: the normalised rows, the reciprocal deviations and the normalised heads are the
    reference's own lines. -/
theorem V_xh (c : Dev nD) : V m c main_v42 = Cert.Reference5Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_r (c : Dev nD) : V m c main_v38 = Cert.Reference5Ideal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- Rows of the arguments, and their copies in the narrow format. -/
def rows (d : FVec Ideal S1x4096x512 .f32) : FVec Ideal S4096x512 .f32 := shapeCast S4096x512 d shapeCasts_S1x4096x512_S4096x512

def rowsD (d : FVec Ideal S1x4096x1024 .f32) : FVec Ideal S4096x1024 .f32 := shapeCast S4096x1024 d shapeCasts_S1x4096x1024_S4096x1024

def narrow (d : FVec Ideal S4096x512 .f32) : FVec Ideal S4096x512 .bf16 := truncf .bf16 d bitsLt_bf16_f32

def hostW (w : FVec Ideal S1x1024x1024 .f32) : FVec Ideal S1024x1024 .bf16 :=
  truncf .bf16 (shapeCast S1024x1024 w shapeCasts_S1x1024x1024_S1024x1024) bitsLt_bf16_f32

theorem V_on (c : Dev nD) : V m c main_v60 = narrow (Cert.Reference5Ideal.Read.val_main_v21 (F := Ideal) (m ((c : Thread nD τ).loc main_arg0)) (m ((c : Thread nD τ).loc main_arg3))) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_dp (c : Dev nD) : V m c main_v61 = rowsD (m ((c : Thread nD τ).loc main_arg7)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_dx (c : Dev nD) : V m c main_v62 = rowsD (m ((c : Thread nD τ).loc main_arg8)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_w (c : Dev nD) : V m c main_v64 = hostW (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_po (c : Dev nD) : V m c main_v66 = narrow (rows (m ((c : Thread nD τ).loc main_arg1))) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_o (c : Dev nD) : V m c main_v67 = rows (m ((c : Thread nD τ).loc main_arg0)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g (c : Dev nD) : V m c main_arg5 = (m ((c : Thread nD τ).loc main_arg5)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_ga (c : Dev nD) : V m c main_arg3 = (m ((c : Thread nD τ).loc main_arg3)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The row of the whole array that row `a` of tile `t` is. -/
def row (t : Fin cfg0.N) (a : Fin 512) : Fin 4096 := ⟨t.val * 512 + a.val, by have h : t.val < 8 := t.isLt; omega⟩

theorem row_val (t : Fin cfg0.N) (a : Fin 512) : (row t a).val = t.val % 8 * 512 + a.val := by
  rw [Nat.mod_eq_of_lt (show t.val < 8 from t.isLt)]
  rfl

variable {m} {c : Dev nD} {D : Data} (h : Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)))
include h

theorem blk_dp (t : Fin cfg0.N) (a : Fin 512) (k : Fin 1024) : iblk m c 0 t (ix2 a k) = (D.dp (row t a) k : EReal) := by
  have e : ((cfg0.win 0).blk t).view.emb (ix2 a k) = ix2 (row t a) k := by blk_ext [idx_val t]; rfl
  show V m c main_v61 (((cfg0.win 0).blk t).view.emb (ix2 a k)) = _
  rw [V_dp, e]
  rw [← h.dp]; pointwise [rowsD]

theorem blk_dx (t : Fin cfg0.N) (a : Fin 512) (k : Fin 1024) : iblk m c 1 t (ix2 a k) = (D.dx (row t a) k : EReal) := by
  have e : ((cfg0.win 1).blk t).view.emb (ix2 a k) = ix2 (row t a) k := by blk_ext [idx_val t]; rfl
  show V m c main_v62 (((cfg0.win 1).blk t).view.emb (ix2 a k)) = _
  rw [V_dx, e]
  rw [← h.dx]; pointwise [rowsD]

theorem blk_xh (t : Fin cfg0.N) (a : Fin 512) (k : Fin 1024) : iblk m c 2 t (ix2 a k) = (xhat (D.pre (row t a)) k : EReal) := by
  have e : ((cfg0.win 2).blk t).view.emb (ix2 a k) = ix2 (row t a) k := by blk_ext [idx_val t]; rfl
  show V m c main_v42 (((cfg0.win 2).blk t).view.emb (ix2 a k)) = _
  rw [V_xh, e]
  exact Cert.Reference5Ideal.Value.xhat_is h _ _

theorem blk_r (t : Fin cfg0.N) (a : Fin 512) : iblk m c 3 t (ix2 a 0) = (rdev (D.pre (row t a)) : EReal) := by
  have e : ((cfg0.win 3).blk t).view.emb (ix2 a 0) = ix2 (row t a) 0 := by blk_ext [idx_val t]; rfl
  show V m c main_v38 (((cfg0.win 3).blk t).view.emb (ix2 a 0)) = _
  rw [V_r, e]
  exact Cert.Reference5Ideal.Value.rdev_is h _

theorem blk_g (t : Fin cfg0.N) (k : Fin 1024) : iblk m c 4 t (ix2 0 k) = (D.g k : EReal) := by
  have e : ((cfg0.win 4).blk t).view.emb (ix2 0 k) = ix2 0 k := by blk_ext [idx_val t]
  show V m c main_arg5 (((cfg0.win 4).blk t).view.emb (ix2 0 k)) = _
  rw [V_g, e, ← h.g]

theorem blk_ga (t : Fin cfg0.N) (k : Fin 512) : iblk m c 9 t (ix2 0 k) = (D.ga k : EReal) := by
  have e : ((cfg0.win 9).blk t).view.emb (ix2 0 k) = ix2 0 k := by blk_ext [idx_val t]
  show V m c main_arg3 (((cfg0.win 9).blk t).view.emb (ix2 0 k)) = _
  rw [V_ga, e, ← h.ga]

theorem blk_w (t : Fin cfg0.N) (i k : Fin 1024) : iblk m c 5 t (ix2 i k) = (D.w i k : EReal) := by
  have e : ((cfg0.win 5).blk t).view.emb (ix2 i k) = ix2 i k := by blk_ext [idx_val t]
  show V m c main_v64 (((cfg0.win 5).blk t).view.emb (ix2 i k)) = _
  rw [V_w, e, ← h.w]
  pointwise [hostW]

theorem blk_on (t : Fin cfg0.N) (a : Fin 512) (k : Fin 512) : iblk m c 6 t (ix2 a k) = (D.on (row t a) k : EReal) := by
  have e : ((cfg0.win 6).blk t).view.emb (ix2 a k) = ix2 (row t a) k := by blk_ext [idx_val t]; rfl
  show V m c main_v60 (((cfg0.win 6).blk t).view.emb (ix2 a k)) = _
  rw [V_on, e]
  exact Cert.Reference5Ideal.Value.on_is h _ _

theorem blk_po (t : Fin cfg0.N) (a : Fin 512) (k : Fin 512) : iblk m c 7 t (ix2 a k) = (D.pooled (row t a) k : EReal) := by
  have e : ((cfg0.win 7).blk t).view.emb (ix2 a k) = ix2 (row t a) k := by blk_ext [idx_val t]; rfl
  show V m c main_v66 (((cfg0.win 7).blk t).view.emb (ix2 a k)) = _
  rw [V_po, e]
  rw [← h.pooled]; pointwise [narrow, rows]

theorem blk_o (t : Fin cfg0.N) (a : Fin 512) (k : Fin 512) : iblk m c 8 t (ix2 a k) = (D.o (row t a) k : EReal) := by
  have e : ((cfg0.win 8).blk t).view.emb (ix2 a k) = ix2 (row t a) k := by blk_ext [idx_val t]; rfl
  show V m c main_v67 (((cfg0.win 8).blk t).view.emb (ix2 a k)) = _
  rw [V_o, e]
  rw [← h.o]; pointwise [rows]

/-- The layer norm's cotangent, the gradient through it, and the gradient of the projection's input, at a point. -/
theorem pay_dy (t : Fin cfg0.N) (a : Fin 512) (k : Fin 1024) : k0_pay7 (iblk m c 0 t) (iblk m c 1 t) (ix2 a k) = (D.dy (row t a) k : EReal) := by
  pointwise [k0_pay7]
  rw [blk_dp h, blk_dx h, alpha_spec, ← EReal.coe_mul, ← EReal.coe_add]
  rfl

theorem pay_dpre (t : Fin cfg0.N) (a : Fin 512) (k : Fin 1024) :
    k0_pay12 (k0_pay6 (iblk m c 2 t)) (k0_pay10 (iblk m c 3 t)) (k0_pay11 (iblk m c 0 t) (iblk m c 1 t) (iblk m c 4 t)) (ix2 a k) = (D.dpre (row t a) k : EReal) := by
  pointwise [k0_pay12, k0_pay6, k0_pay10, k0_pay11]
  simp only [pay_dy h, blk_xh h, blk_r h, blk_g h, coe_sum, ofBits_1024, div_1024, ← EReal.coe_mul, ← EReal.coe_sub]
  rfl

theorem pay_dcat (t : Fin cfg0.N) (a : Fin 512) (i : Fin 1024) :
    k0_pay15 (k0_pay6 (iblk m c 2 t)) (k0_pay10 (iblk m c 3 t)) (k0_pay11 (iblk m c 0 t) (iblk m c 1 t) (iblk m c 4 t)) (iblk m c 5 t) (ix2 a i) = (D.dcat (row t a) i : EReal) := by
  pointwise [k0_pay15, k0_pay14]
  simp only [pay_dpre h, blk_w h, coe_sum, ← EReal.coe_mul]
  rfl

end Cert.Kernel5Ideal.Value

end
-- ==== Proof.MixPair.lean ====
/-
  One pair of heads in the kernel of the heads' RMS norm: the mean over a head as two masked row sums, and the gradient
  through the norm on a pair's 128 lanes.
-/
module

public import proofs.«01_k».proof.Proof.Gen.Kernel5Ideal.Skeleton
public import proofs.«01_k».proof.Proof.MixValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel5Ideal.Value

open Cert.Kernel5Ideal Cert.Kernel5Ideal.Gen
open Cert.Mix Cert.NormMath

/-- The mask of a pair's first head, over a tile. -/
def mask : IVec S512x128 1 := broadcastTo S512x128 (shapeCast S1x128 k0_pay19 shapeCasts_S1x128_S1x128) broadcasts_S1x128_S512x128

def zeros : FVec Ideal S512x128 .f32 := broadcast S512x128 (Scalar.ofBits .f32 0x00000000#32)

/-- A row's sum, on every lane. -/
def rowSum (a : FVec Ideal S512x128 .f32) : FVec Ideal S512x128 .f32 :=
  broadcastTo S512x128 (shapeCast S512x1 (shapeCast S512x1 (multiReduction .add [1] S512 a 0x00000000#32 reduces_S512x128_S512 (.inl rfl) rfl)
    shapeCasts_S512_S512x1) shapeCasts_S512x1_S512x1) broadcasts_S512x1_S512x128

/-- The mean over the head a lane lies in. -/
def segMean (a : FVec Ideal S512x128 .f32) : FVec Ideal S512x128 .f32 :=
  mulf (select mask (rowSum (select mask a zeros)) (rowSum (select mask zeros a))) (broadcast S512x128 (Scalar.ofBits .f32 0x3C800000#32))

/-- A loaded part as it is used. -/
def part (o : Vec Ideal S512x128 .f32) : FVec Ideal S512x128 .f32 := shapeCast S512x128 o shapeCasts_S512x128_S512x128

def rsOf (o : FVec Ideal S512x128 .f32) : FVec Ideal S512x128 .f32 :=
  rsqrt (addf (segMean (mulf o o)) (broadcast S512x128 (Scalar.ofBits .f32 0x358637BD#32)))

def doOf (don : FVec Ideal S512x128 .f32) (ga : Vec Ideal S1x128 .f32) (o : FVec Ideal S512x128 .f32) : FVec Ideal S512x128 .f32 :=
  shapeCast S512x128 (mulf (rsOf o) (subf (mulf don (broadcastTo S512x128 ga broadcasts_S1x128_S512x128))
    (mulf (mulf o (rsOf o)) (segMean (mulf (mulf don (broadcastTo S512x128 ga broadcasts_S1x128_S512x128)) (mulf o (rsOf o)))))))
    shapeCasts_S512x128_S512x128

def dgaOf (don : FVec Ideal S512x128 .f32) (o : FVec Ideal S512x128 .f32) (acc : Vec Ideal S1x128 .f32) : FVec Ideal S1x128 .f32 :=
  shapeCast S1x128 (addf acc (shapeCast S1x128 (multiReduction .add [0] S128 (mulf don (mulf o (rsOf o))) 0x00000000#32 reduces_S512x128_S128 (.inl rfl) rfl)
    shapeCasts_S128_S1x128)) shapeCasts_S1x128_S1x128

/-- What the four pairs store. -/
theorem do_0 (X : FVec Ideal S512x1024 .f32) (o : Vec Ideal S512x128 .f32) (ga : Vec Ideal S1x128 .f32) :
    k0_pay26 k0_pay19 (k0_pay21 o) (k0_pay22 o) (k0_pay23 X) ga = doOf (k0_pay23 X) ga (part o) := rfl

theorem do_1 (X : FVec Ideal S512x1024 .f32) (o : Vec Ideal S512x128 .f32) (ga : Vec Ideal S1x128 .f32) :
    k0_pay38 k0_pay19 (k0_pay30 k0_pay19 (k0_pay28 o) (k0_pay29 k0_pay19 o)) (k0_pay31 k0_pay19 (k0_pay27 o) (k0_pay28 o) (k0_pay29 k0_pay19 o)) (k0_pay34 X ga)
      (k0_pay36 X k0_pay19 (k0_pay27 o) (k0_pay28 o) (k0_pay29 k0_pay19 o) ga) (k0_pay37 X k0_pay19 (k0_pay27 o) (k0_pay28 o) (k0_pay29 k0_pay19 o) ga)
      = doOf (k0_pay32 X) ga (part o) := rfl

theorem do_2 (X : FVec Ideal S512x1024 .f32) (o : Vec Ideal S512x128 .f32) (ga : Vec Ideal S1x128 .f32) :
    k0_pay45 k0_pay19 (k0_pay40 k0_pay19 o) (k0_pay41 k0_pay19 o) (k0_pay42 X) ga = doOf (k0_pay42 X) ga (part o) := rfl

theorem do_3 (X : FVec Ideal S512x1024 .f32) (o : Vec Ideal S512x128 .f32) (ga : Vec Ideal S1x128 .f32) :
    k0_pay1 k0_pay19 (k0_pay50 k0_pay19 (k0_pay47 o) (k0_pay48 k0_pay19) k0_pay49) (k0_pay51 k0_pay19 (k0_pay46 o) (k0_pay47 o) (k0_pay48 k0_pay19) k0_pay49)
      (k0_pay54 X ga) (k0_pay55 X k0_pay19 (k0_pay46 o) (k0_pay47 o) (k0_pay48 k0_pay19) k0_pay49 ga)
      (k0_pay56 X k0_pay19 (k0_pay46 o) (k0_pay47 o) (k0_pay48 k0_pay19) k0_pay49 ga) (k0_pay57 k0_pay19) k0_pay58
      = doOf (k0_pay52 X) ga (part o) := rfl

theorem dga_0 (X : FVec Ideal S512x1024 .f32) (o : Vec Ideal S512x128 .f32) (acc : Vec Ideal S1x128 .f32) :
    k0_pay25 (k0_pay24 X o acc) = dgaOf (k0_pay23 X) (part o) acc := rfl

theorem dga_1 (X : FVec Ideal S512x1024 .f32) (o : Vec Ideal S512x128 .f32) (acc : Vec Ideal S1x128 .f32) :
    k0_pay33 X k0_pay19 (k0_pay27 o) (k0_pay28 o) (k0_pay29 k0_pay19 o) acc = dgaOf (k0_pay32 X) (part o) acc := rfl

theorem dga_2 (X : FVec Ideal S512x1024 .f32) (o : Vec Ideal S512x128 .f32) (acc : Vec Ideal S1x128 .f32) :
    k0_pay44 acc (k0_pay43 X k0_pay19 o) = dgaOf (k0_pay42 X) (part o) acc := rfl

theorem dga_3 (X : FVec Ideal S512x1024 .f32) (o : Vec Ideal S512x128 .f32) (acc : Vec Ideal S1x128 .f32) :
    k0_pay53 X k0_pay19 (k0_pay46 o) (k0_pay47 o) (k0_pay48 k0_pay19) k0_pay49 acc = dgaOf (k0_pay52 X) (part o) acc := rfl

theorem mask_is (r : Fin 512) (l : Fin 128) : mask (ix2 r l) = if l.val < 64 then 1#1 else 0#1 := by
  pointwise [mask, k0_pay19]
  revert l
  decide

/-- The lanes of the head lane `l` lies in. -/
def lane (l : Fin 128) (e : Fin 64) : Fin 128 := ⟨l.val / 64 * 64 + e.val, by omega⟩

theorem ofBits_64th : Ideal.ofBits .f32 0x3C800000#32 = ((1 / 64 : ℝ) : EReal) := by
  simp [Ideal.ofBits, Ideal.ieee, -EReal.coe_mul]; norm_num

theorem segMean_is {a : FVec Ideal S512x128 .f32} {r : Fin 512} {A : Fin 128 → ℝ} (ha : ∀ l, a (ix2 r l) = (A l : EReal)) (l : Fin 128) :
    segMean a (ix2 r l) = (((∑ e, A (lane l e)) / 64 : ℝ) : EReal) := by
  pointwise [segMean, rowSum, zeros]
  simp only [mask_is, ha, ofBits_64th]
  have sel : ∀ (n : Nat) (x y : EReal), Scalar.select (if n < 64 then 1#1 else 0#1) x y = if n < 64 then x else y := fun n x y => by split <;> rfl
  have lo64 : ∀ e : Fin 64, 0 * 64 + e.val < 64 := fun e => by omega
  have hi64 : ∀ e : Fin 64, ¬ 1 * 64 + e.val < 64 := fun e => by omega
  have s0 : ∑ x : Fin 128, (if x.val < 64 then (A x : EReal) else 0) = ((∑ e : Fin 64, A ⟨0 * 64 + e.val, by omega⟩ : ℝ) : EReal) := by
    rw [Fin.sum_univ_tiles 2 64 rfl (fun x : Fin 128 => if x.val < 64 then (A x : EReal) else 0), Fin.sum_univ_two, ← coe_sum]
    simp only [Fin.val_zero, Fin.val_one, lo64, hi64, if_true, if_false, Finset.sum_const_zero, add_zero]
  have s1 : ∑ x : Fin 128, (if x.val < 64 then 0 else (A x : EReal)) = ((∑ e : Fin 64, A ⟨1 * 64 + e.val, by omega⟩ : ℝ) : EReal) := by
    rw [Fin.sum_univ_tiles 2 64 rfl (fun x : Fin 128 => if x.val < 64 then 0 else (A x : EReal)), Fin.sum_univ_two, ← coe_sum]
    simp only [Fin.val_zero, Fin.val_one, lo64, hi64, if_true, if_false, Finset.sum_const_zero, zero_add]
  simp only [sel]
  rw [s0, s1]
  by_cases hl : l.val < 64
  · have e : ∀ e, lane l e = ⟨0 * 64 + e.val, by omega⟩ := fun e => Fin.ext (by show l.val / 64 * 64 + e.val = 0 * 64 + e.val; omega)
    simp only [hl, e, if_true, ← EReal.coe_mul]
    exact congrArg _ (by ring)
  · have e : ∀ e, lane l e = ⟨1 * 64 + e.val, by omega⟩ := fun e => Fin.ext (by show l.val / 64 * 64 + e.val = 1 * 64 + e.val; omega)
    simp only [hl, e, if_false, ← EReal.coe_mul]
    exact congrArg _ (by ring)

theorem rsOf_is {o : FVec Ideal S512x128 .f32} {r : Fin 512} {O : Fin 128 → ℝ} (ho : ∀ l, o (ix2 r l) = (O l : EReal)) (l : Fin 128) :
    rsOf o (ix2 r l) = (((Real.sqrt ((∑ e, O (lane l e) * O (lane l e)) / 64 + reps))⁻¹ : ℝ) : EReal) := by
  have hs := segMean_is (a := mulf o o) (r := r) (A := fun l => O l * O l) (fun l => by pointwise []; rw [ho, EReal.coe_mul]) l
  pointwise [rsOf]
  rw [hs, reps_spec.1, ← EReal.coe_add]
  exact rsqrt_pos (add_pos_of_nonneg_of_pos (div_nonneg (Finset.sum_nonneg fun i _ => mul_self_nonneg _) (by norm_num)) reps_spec.2)

/-- Row `v` of the heads, read on pair `q`'s lanes. -/
def flat (q : Fin 4) (l : Fin 128) : Fin 512 := ⟨q.val * 128 + l.val, by omega⟩

theorem flat_lane (q : Fin 4) (l : Fin 128) (e : Fin 64) : flat q (lane l e) = mate (flat q l) e := by
  refine Fin.ext ?_
  show q.val * 128 + (l.val / 64 * 64 + e.val) = (q.val * 128 + l.val) / 64 * 64 + e.val
  omega

theorem rs_pair {o : FVec Ideal S512x128 .f32} {r : Fin 512} {v : Fin 512 → ℝ} {q : Fin 4} (ho : ∀ l, o (ix2 r l) = (v (flat q l) : EReal)) (l : Fin 128) :
    rsOf o (ix2 r l) = (rrms v (flat q l) : EReal) := by
  rw [rsOf_is ho l]
  simp only [flat_lane]
  rfl

theorem do_pair {don : FVec Ideal S512x128 .f32} {ga : Vec Ideal S1x128 .f32} {o : FVec Ideal S512x128 .f32} {r : Fin 512} {v d g : Fin 512 → ℝ} {q : Fin 4}
    (ho : ∀ l, o (ix2 r l) = (v (flat q l) : EReal)) (hd : ∀ l, don (ix2 r l) = (d (flat q l) : EReal)) (hg : ∀ l, ga (ix2 0 l) = (g (flat q l) : EReal))
    (l : Fin 128) : doOf don ga o (ix2 r l) = (rback v (fun i => d i * g i) (flat q l) : EReal) := by
  have hs := segMean_is (a := mulf (mulf don (broadcastTo S512x128 ga broadcasts_S1x128_S512x128)) (mulf o (rsOf o))) (r := r)
    (A := fun l => d (flat q l) * g (flat q l) * (v (flat q l) * rrms v (flat q l)))
    (fun l => by pointwise []; rw [ho, hd, hg, rs_pair ho, ← EReal.coe_mul, ← EReal.coe_mul, ← EReal.coe_mul]) l
  pointwise [doOf]
  rw [hs, rs_pair ho, ho, hd, hg, ← EReal.coe_mul, ← EReal.coe_mul, ← EReal.coe_mul, ← EReal.coe_sub, ← EReal.coe_mul]
  simp only [flat_lane]
  rfl

theorem dga_pair {don : FVec Ideal S512x128 .f32} {o : FVec Ideal S512x128 .f32} {acc : Vec Ideal S1x128 .f32} {v d : Fin 512 → Fin 512 → ℝ} {q : Fin 4}
    (ho : ∀ r l, o (ix2 r l) = (v r (flat q l) : EReal)) (hd : ∀ r l, don (ix2 r l) = (d r (flat q l) : EReal)) (l : Fin 128) :
    dgaOf don o acc (ix2 0 l) = acc (ix2 0 l) + ((∑ r, d r (flat q l) * (v r (flat q l) * rrms (v r) (flat q l)) : ℝ) : EReal) := by
  pointwise [dgaOf]
  simp only [rs_pair (ho _), ho, hd, ← EReal.coe_mul, coe_sum]

end Cert.Kernel5Ideal.Value

end
-- ==== Proof.MixKernel.lean ====
/-
  The kernel of the gradient of the output projection and the heads' RMS norm: its seven results, each as one real
  function of the arguments, and the precondition's real numbers.
-/
module

public import proofs.«01_k».proof.Proof.Gen.Kernel5Ideal.Value
public import proofs.«01_k».proof.Proof.Gen.Pre_mix_finite
public import proofs.«01_k».proof.Proof.Gen.Reference5Ideal.Read
public import proofs.«01_k».proof.Proof.MixValue
public import proofs.«01_k».proof.Proof.MixBlocks
public import proofs.«01_k».proof.Proof.MixPair
public import proofs.«01_k».proof.Proof.Finite
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel5Ideal.Value

open Cert.Kernel5Ideal Cert.Kernel5Ideal.Gen
open Cert.Mix Cert.NormMath

variable (m : (ℓ : Loc nD τ sig) → Buf (Elt Ideal) ℓ)

/-- Where the parts of a buffer's columns and rows lie. -/
theorem col0 {R : Nat} (i0) (r : Fin R) (l : Fin 128) : (Rect.unit (s := ⟨2, ![R, 512]⟩) ![0, 0] ![R, 128] i0).emb (ix2 r l) = ix2 r (flat 0 l) := by blk_ext [flat]

theorem row0 (i0) (l : Fin 128) : (Rect.unit (s := S1x512) ![0, 0] ![1, 128] i0).emb (ix2 0 l) = ix2 0 (flat 0 l) := by blk_ext [flat]

theorem col1 {R : Nat} (i0) (r : Fin R) (l : Fin 128) : (Rect.unit (s := ⟨2, ![R, 512]⟩) ![0, 128] ![R, 128] i0).emb (ix2 r l) = ix2 r (flat 1 l) := by blk_ext [flat]

theorem row1 (i0) (l : Fin 128) : (Rect.unit (s := S1x512) ![0, 128] ![1, 128] i0).emb (ix2 0 l) = ix2 0 (flat 1 l) := by blk_ext [flat]

theorem col2 {R : Nat} (i0) (r : Fin R) (l : Fin 128) : (Rect.unit (s := ⟨2, ![R, 512]⟩) ![0, 256] ![R, 128] i0).emb (ix2 r l) = ix2 r (flat 2 l) := by blk_ext [flat]

theorem row2 (i0) (l : Fin 128) : (Rect.unit (s := S1x512) ![0, 256] ![1, 128] i0).emb (ix2 0 l) = ix2 0 (flat 2 l) := by blk_ext [flat]

theorem col3 {R : Nat} (i0) (r : Fin R) (l : Fin 128) : (Rect.unit (s := ⟨2, ![R, 512]⟩) ![0, 384] ![R, 128] i0).emb (ix2 r l) = ix2 r (flat 3 l) := by blk_ext [flat]

theorem row3 (i0) (l : Fin 128) : (Rect.unit (s := S1x512) ![0, 384] ![1, 128] i0).emb (ix2 0 l) = ix2 0 (flat 3 l) := by blk_ext [flat]

theorem half0 (i0) (r : Fin 512) (k : Fin 1024) : (Rect.unit (s := S1024x1024) ![0, 0] ![512, 1024] i0).emb (ix2 r k) = ix2 (lo r) k := by blk_ext [lo]
theorem half1 (i0) (r : Fin 512) (k : Fin 1024) : (Rect.unit (s := S1024x1024) ![512, 0] ![512, 1024] i0).emb (ix2 r k) = ix2 (hi r) k := by blk_ext [hi]

/-- Four column parts stored over a buffer: where each is its part of one function, the buffer holds that function. -/
theorem cols {R : Nat} (G : (⟨2, ![R, 512]⟩ : Shape).Idx → Elt Ideal .f32) (p0 p1 p2 p3 : (⟨2, ![R, 128]⟩ : Shape).Idx → Elt Ideal .f32)
    (L : List (View.Piece (Elt Ideal) ⟨2, ![R, 512]⟩ .f32)) (i0 i1 i2 i3)
    (h0 : ∀ r l, p0 (ix2 r l) = G (ix2 r (flat 0 l))) (h1 : ∀ r l, p1 (ix2 r l) = G (ix2 r (flat 1 l)))
    (h2 : ∀ r l, p2 (ix2 r l) = G (ix2 r (flat 2 l))) (h3 : ∀ r l, p3 (ix2 r l) = G (ix2 r (flat 3 l))) (i : (⟨2, ![R, 512]⟩ : Shape).Idx) :
    View.canon (⟨Rect.unit ![0, 384] ![R, 128] i3, p3⟩ :: ⟨Rect.unit ![0, 256] ![R, 128] i2, p2⟩ ::
      ⟨Rect.unit ![0, 128] ![R, 128] i1, p1⟩ :: ⟨Rect.unit ![0, 0] ![R, 128] i0, p0⟩ :: L) i = G i := by
  have ax : ∀ a : Fin 2, a = 0 ∨ a = 1 := by decide
  have all : ∀ {p G' : (⟨2, ![R, 128]⟩ : Shape).Idx → Elt Ideal .f32}, (∀ r l, p (ix2 r l) = G' (ix2 r l)) → ∀ x, p x = G' x := fun hp x => by
    obtain ⟨r, l, rfl⟩ : ∃ r l, x = ix2 r l := ⟨x 0, x 1, by funext a; obtain rfl | rfl := ax a <;> rfl⟩
    exact hp _ _
  have cov : ∀ (y : (⟨2, ![R, 512]⟩ : Shape).Idx) (r : Rect ⟨2, ![R, 512]⟩) (x : r.shape.Idx), r.emb x = y → y ∈ r.set :=
    fun y r x e => e ▸ LoadRect.idx_mem r.toLoadRect x
  have h := View.canon_append_of_piecesOf G L [⟨Rect.unit ![0, 384] ![R, 128] i3, p3⟩, ⟨Rect.unit ![0, 256] ![R, 128] i2, p2⟩,
    ⟨Rect.unit ![0, 128] ![R, 128] i1, p1⟩, ⟨Rect.unit ![0, 0] ![R, 128] i0, p0⟩]
    ⟨all fun k j => (h3 k j).trans (congrArg G (col3 i3 k j)).symm, all fun k j => (h2 k j).trans (congrArg G (col2 i2 k j)).symm,
      all fun k j => (h1 k j).trans (congrArg G (col1 i1 k j)).symm, all fun k j => (h0 k j).trans (congrArg G (col0 i0 k j)).symm, trivial⟩ i
  refine h ?_
  obtain ⟨r, q, l, rfl⟩ : ∃ r q l, i = ix2 r (flat q l) := ⟨i 0, ⟨(i 1).val / 128, by have : (i 1).val < 512 := (i 1).isLt; omega⟩, ⟨(i 1).val % 128, by omega⟩, by
    funext a
    obtain rfl | rfl := ax a
    · rfl
    · exact Fin.ext (by show (i 1).val = (i 1).val / 128 * 128 + (i 1).val % 128; omega)⟩
  clear h
  obtain rfl | rfl | rfl | rfl : q = 0 ∨ q = 1 ∨ q = 2 ∨ q = 3 := by revert q; decide
  · exact ⟨_, List.mem_cons_of_mem _ (List.mem_cons_of_mem _ (List.mem_cons_of_mem _ List.mem_cons_self)), cov _ _ (ix2 r l) (col0 i0 r l)⟩
  · exact ⟨_, List.mem_cons_of_mem _ (List.mem_cons_of_mem _ List.mem_cons_self), cov _ _ (ix2 r l) (col1 i1 r l)⟩
  · exact ⟨_, List.mem_cons_of_mem _ List.mem_cons_self, cov _ _ (ix2 r l) (col2 i2 r l)⟩
  · exact ⟨_, List.mem_cons_self, cov _ _ (ix2 r l) (col3 i3 r l)⟩

/-- Two row parts stored over a buffer. -/
theorem halves (G : S1024x1024.Idx → Elt Ideal .f32) (p0 p1 : S512x1024.Idx → Elt Ideal .f32) (L : List (View.Piece (Elt Ideal) S1024x1024 .f32)) (i0 i1)
    (h0 : ∀ r k, p0 (ix2 r k) = G (ix2 (lo r) k)) (h1 : ∀ r k, p1 (ix2 r k) = G (ix2 (hi r) k)) (i : S1024x1024.Idx) :
    View.canon (⟨Rect.unit ![512, 0] ![512, 1024] i1, p1⟩ :: ⟨Rect.unit ![0, 0] ![512, 1024] i0, p0⟩ :: L) i = G i := by
  have all : ∀ {p G' : S512x1024.Idx → Elt Ideal .f32}, (∀ r l, p (ix2 r l) = G' (ix2 r l)) → ∀ x, p x = G' x :=
    fun hp x => by idx_vars x; exact hp _ _
  have cov : ∀ (y : S1024x1024.Idx) (r : Rect S1024x1024) (x : r.shape.Idx), r.emb x = y → y ∈ r.set :=
    fun y r x e => e ▸ LoadRect.idx_mem r.toLoadRect x
  have h := View.canon_append_of_piecesOf G L [⟨Rect.unit ![512, 0] ![512, 1024] i1, p1⟩, ⟨Rect.unit ![0, 0] ![512, 1024] i0, p0⟩]
    ⟨all fun k j => (h1 k j).trans (congrArg G (half1 i1 k j)).symm, all fun k j => (h0 k j).trans (congrArg G (half0 i0 k j)).symm, trivial⟩ i
  refine h ?_
  clear h
  by_cases hi0 : (i 0).val < 512
  · obtain ⟨r, k, rfl⟩ : ∃ r k, i = ix2 (lo r) k := ⟨⟨(i 0).val, hi0⟩, i 1, by
      funext a
      obtain rfl | rfl : a = 0 ∨ a = 1 := by revert a; decide
      · rfl
      · rfl⟩
    exact ⟨_, List.mem_cons_of_mem _ List.mem_cons_self, cov _ _ (ix2 r k) (half0 i0 r k)⟩
  · obtain ⟨r, k, rfl⟩ : ∃ r k, i = ix2 (hi r) k := ⟨⟨(i 0).val - 512, by have : (i 0).val < 1024 := (i 0).isLt; omega⟩, i 1, by
      funext a
      obtain rfl | rfl : a = 0 ∨ a = 1 := by revert a; decide
      · exact Fin.ext (by show (i 0).val = 512 + ((i 0).val - 512); omega)
      · rfl⟩
    exact ⟨_, List.mem_cons_self, cov _ _ (ix2 r k) (half1 i1 r k)⟩

theorem zero2 (j : S1024x1024.Idx) : k0_pay2 (F := Ideal) j = 0 := by pointwise! [k0_pay2]
theorem zero3 (j : S1x1024.Idx) : k0_pay3 (F := Ideal) j = 0 := by pointwise! [k0_pay3]
theorem zero4 (j : S1x1024.Idx) : k0_pay4 (F := Ideal) j = 0 := by pointwise! [k0_pay4]
theorem zero5 (j : S1x512.Idx) : k0_pay5 (F := Ideal) j = 0 := by pointwise! [k0_pay5]

theorem part_at (o : Vec Ideal S512x128 .f32) (r : Fin 512) (l : Fin 128) : part o (ix2 r l) = o (ix2 r l) := by pointwise [part]

variable {m}
variable {c : Dev nD} {D : Data} (h : Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)))
include h

/-- The values a tile stores. -/
theorem st_dpre (t : Fin cfg0.N) (a : Fin 512) (k : Fin 1024) : k0_pay13 (k0_pay6 (iblk m c 2 t)) (k0_pay10 (iblk m c 3 t)) (k0_pay11 (iblk m c 0 t) (iblk m c 1 t) (iblk m c 4 t)) (ix2 a k) = (D.dpre (row t a) k : EReal) := by
  pointwise [k0_pay13]
  exact pay_dpre h t a k

theorem st_dpo (t : Fin cfg0.N) (a : Fin 512) (j : Fin 512) : k0_pay16 (k0_pay6 (iblk m c 2 t)) (k0_pay10 (iblk m c 3 t)) (k0_pay11 (iblk m c 0 t) (iblk m c 1 t) (iblk m c 4 t)) (iblk m c 5 t) (ix2 a j) = (D.dpo (row t a) j : EReal) := by
  pointwise [k0_pay16]
  exact pay_dcat h t a (hi j)

theorem don0 (t : Fin cfg0.N) (r : Fin 512) (l : Fin 128) : k0_pay23 (k0_pay15 (k0_pay6 (iblk m c 2 t)) (k0_pay10 (iblk m c 3 t)) (k0_pay11 (iblk m c 0 t) (iblk m c 1 t) (iblk m c 4 t)) (iblk m c 5 t)) (ix2 r l) = (D.dcat (row t r) (lo (flat 0 l)) : EReal) := by
  pointwise [k0_pay23]
  exact (congrArg _ (congrArg (ix2 r) (Fin.ext (by simp [lo, flat] <;> omega)))).trans (pay_dcat h t r (lo (flat 0 l)))

theorem o0 (t : Fin cfg0.N) (i0) (r : Fin 512) (l : Fin 128) : part (View.ld (iblk m c 8 t) (Rect.unit (s := S512x512) ![0, 0] ![512, 128] i0)) (ix2 r l) = (D.o (row t r) (flat 0 l) : EReal) := by
  rw [part_at]
  show iblk m c 8 t ((Rect.unit (s := S512x512) ![0, 0] ![512, 128] i0).emb (ix2 r l)) = _
  rw [col0]
  exact blk_o h t r (flat 0 l)

theorem ga0 (t : Fin cfg0.N) (i0) (l : Fin 128) : View.ld (iblk m c 9 t) (Rect.unit (s := S1x512) ![0, 0] ![1, 128] i0) (ix2 0 l) = (D.ga (flat 0 l) : EReal) := by
  show iblk m c 9 t ((Rect.unit (s := S1x512) ![0, 0] ![1, 128] i0).emb (ix2 0 l)) = _
  rw [row0]
  exact blk_ga h t (flat 0 l)

theorem don1 (t : Fin cfg0.N) (r : Fin 512) (l : Fin 128) : k0_pay32 (k0_pay15 (k0_pay6 (iblk m c 2 t)) (k0_pay10 (iblk m c 3 t)) (k0_pay11 (iblk m c 0 t) (iblk m c 1 t) (iblk m c 4 t)) (iblk m c 5 t)) (ix2 r l) = (D.dcat (row t r) (lo (flat 1 l)) : EReal) := by
  pointwise [k0_pay32]
  exact (congrArg _ (congrArg (ix2 r) (Fin.ext (by simp [lo, flat] <;> omega)))).trans (pay_dcat h t r (lo (flat 1 l)))

theorem o1 (t : Fin cfg0.N) (i0) (r : Fin 512) (l : Fin 128) : part (View.ld (iblk m c 8 t) (Rect.unit (s := S512x512) ![0, 128] ![512, 128] i0)) (ix2 r l) = (D.o (row t r) (flat 1 l) : EReal) := by
  rw [part_at]
  show iblk m c 8 t ((Rect.unit (s := S512x512) ![0, 128] ![512, 128] i0).emb (ix2 r l)) = _
  rw [col1]
  exact blk_o h t r (flat 1 l)

theorem ga1 (t : Fin cfg0.N) (i0) (l : Fin 128) : View.ld (iblk m c 9 t) (Rect.unit (s := S1x512) ![0, 128] ![1, 128] i0) (ix2 0 l) = (D.ga (flat 1 l) : EReal) := by
  show iblk m c 9 t ((Rect.unit (s := S1x512) ![0, 128] ![1, 128] i0).emb (ix2 0 l)) = _
  rw [row1]
  exact blk_ga h t (flat 1 l)

theorem don2 (t : Fin cfg0.N) (r : Fin 512) (l : Fin 128) : k0_pay42 (k0_pay15 (k0_pay6 (iblk m c 2 t)) (k0_pay10 (iblk m c 3 t)) (k0_pay11 (iblk m c 0 t) (iblk m c 1 t) (iblk m c 4 t)) (iblk m c 5 t)) (ix2 r l) = (D.dcat (row t r) (lo (flat 2 l)) : EReal) := by
  pointwise [k0_pay42]
  exact (congrArg _ (congrArg (ix2 r) (Fin.ext (by simp [lo, flat] <;> omega)))).trans (pay_dcat h t r (lo (flat 2 l)))

theorem o2 (t : Fin cfg0.N) (i0) (r : Fin 512) (l : Fin 128) : part (View.ld (iblk m c 8 t) (Rect.unit (s := S512x512) ![0, 256] ![512, 128] i0)) (ix2 r l) = (D.o (row t r) (flat 2 l) : EReal) := by
  rw [part_at]
  show iblk m c 8 t ((Rect.unit (s := S512x512) ![0, 256] ![512, 128] i0).emb (ix2 r l)) = _
  rw [col2]
  exact blk_o h t r (flat 2 l)

theorem ga2 (t : Fin cfg0.N) (i0) (l : Fin 128) : View.ld (iblk m c 9 t) (Rect.unit (s := S1x512) ![0, 256] ![1, 128] i0) (ix2 0 l) = (D.ga (flat 2 l) : EReal) := by
  show iblk m c 9 t ((Rect.unit (s := S1x512) ![0, 256] ![1, 128] i0).emb (ix2 0 l)) = _
  rw [row2]
  exact blk_ga h t (flat 2 l)

theorem don3 (t : Fin cfg0.N) (r : Fin 512) (l : Fin 128) : k0_pay52 (k0_pay15 (k0_pay6 (iblk m c 2 t)) (k0_pay10 (iblk m c 3 t)) (k0_pay11 (iblk m c 0 t) (iblk m c 1 t) (iblk m c 4 t)) (iblk m c 5 t)) (ix2 r l) = (D.dcat (row t r) (lo (flat 3 l)) : EReal) := by
  pointwise [k0_pay52]
  exact (congrArg _ (congrArg (ix2 r) (Fin.ext (by simp [lo, flat] <;> omega)))).trans (pay_dcat h t r (lo (flat 3 l)))

theorem o3 (t : Fin cfg0.N) (i0) (r : Fin 512) (l : Fin 128) : part (View.ld (iblk m c 8 t) (Rect.unit (s := S512x512) ![0, 384] ![512, 128] i0)) (ix2 r l) = (D.o (row t r) (flat 3 l) : EReal) := by
  rw [part_at]
  show iblk m c 8 t ((Rect.unit (s := S512x512) ![0, 384] ![512, 128] i0).emb (ix2 r l)) = _
  rw [col3]
  exact blk_o h t r (flat 3 l)

theorem ga3 (t : Fin cfg0.N) (i0) (l : Fin 128) : View.ld (iblk m c 9 t) (Rect.unit (s := S1x512) ![0, 384] ![1, 128] i0) (ix2 0 l) = (D.ga (flat 3 l) : EReal) := by
  show iblk m c 9 t ((Rect.unit (s := S1x512) ![0, 384] ![1, 128] i0).emb (ix2 0 l)) = _
  rw [row3]
  exact blk_ga h t (flat 3 l)

/-- What a tile adds to the accumulated results. -/
theorem add_dg (t : Fin cfg0.N) (acc : Vec Ideal S1x1024 .f32) (k : Fin 1024) : k0_pay8 (iblk m c 2 t) (iblk m c 0 t) (iblk m c 1 t) acc (ix2 0 k)
    = acc (ix2 0 k) + ((∑ a, D.dy (row t a) k * xhat (D.pre (row t a)) k : ℝ) : EReal) := by
  pointwise [k0_pay8, k0_pay6]
  simp only [pay_dy h, blk_xh h, coe_sum, ← EReal.coe_mul]

theorem add_db (t : Fin cfg0.N) (acc : Vec Ideal S1x1024 .f32) (k : Fin 1024) : k0_pay9 (iblk m c 0 t) (iblk m c 1 t) acc (ix2 0 k)
    = acc (ix2 0 k) + ((∑ a, D.dy (row t a) k : ℝ) : EReal) := by
  pointwise [k0_pay9]
  simp only [pay_dy h, coe_sum]

theorem pay14_is (t : Fin cfg0.N) (a : Fin 512) (k : Fin 1024) : k0_pay14 (k0_pay6 (iblk m c 2 t)) (k0_pay10 (iblk m c 3 t)) (k0_pay11 (iblk m c 0 t) (iblk m c 1 t) (iblk m c 4 t)) (ix2 a k) = (D.dpre (row t a) k : EReal) := by
  pointwise [k0_pay14]
  exact pay_dpre h t a k

omit h in
theorem cat_lo (s : Fin 4096) (j : Fin 512) : D.cat s (lo j) = D.on s j := dif_pos j.isLt
omit h in
theorem cat_hi (s : Fin 4096) (j : Fin 512) : D.cat s (hi j) = D.pooled s j :=
  (dif_neg (by show ¬ 512 + j.val < 512; omega)).trans (congrArg (D.pooled s) (Fin.ext (by show 512 + j.val - 512 = j.val; omega)))

theorem add_dw0 (t : Fin cfg0.N) (acc : Vec Ideal S512x1024 .f32) (r : Fin 512) (k : Fin 1024) : k0_pay17 (k0_pay6 (iblk m c 2 t)) (k0_pay10 (iblk m c 3 t)) (k0_pay11 (iblk m c 0 t) (iblk m c 1 t) (iblk m c 4 t)) acc (iblk m c 6 t) (ix2 r k)
    = acc (ix2 r k) + ((∑ a, D.cat (row t a) (lo r) * D.dpre (row t a) k : ℝ) : EReal) := by
  pointwise [k0_pay17]
  simp only [pay14_is h, blk_on h, cat_lo, coe_sum, ← EReal.coe_mul]

theorem add_dw1 (t : Fin cfg0.N) (acc : Vec Ideal S512x1024 .f32) (r : Fin 512) (k : Fin 1024) : k0_pay18 (k0_pay14 (k0_pay6 (iblk m c 2 t)) (k0_pay10 (iblk m c 3 t)) (k0_pay11 (iblk m c 0 t) (iblk m c 1 t) (iblk m c 4 t))) acc (iblk m c 7 t) (ix2 r k)
    = acc (ix2 r k) + ((∑ a, D.cat (row t a) (hi r) * D.dpre (row t a) k : ℝ) : EReal) := by
  pointwise [k0_pay18]
  simp only [pay14_is h, blk_po h, cat_hi, coe_sum, ← EReal.coe_mul]

/-- The kernel's first result is the gradient of the layer norm's input. -/
theorem final_dpre : (dats m 0 c).arrAt 10 (cfgs 0).N = fun i : S4096x1024.Idx => (D.dpre (i 0) (i 1) : EReal) := by
  refine (dats m 0 c).arrAt_eq_of_covers 10 _ (by decide +kernel) fun t hf y => ?_
  rw [after0_10]
  idx_vars y
  have e : ((cfg0.win 10).blk t).view.emb (ix2 y0 y1) = ix2 (row t y0) y1 := by blk_ext [idx_val t]; rfl
  have key := st_dpre h t y0 y1
  refine Eq.trans ?_ (congrArg (fun i : S4096x1024.Idx => (D.dpre (i 0) (i 1) : EReal)) e).symm
  blk_simp
  by_cases h0 : t.val % 8 = 0
  · rw [outsAt0_A m c t h0]; frame_out; exact key
  · rw [outsAt0_B m c t h0]; frame_out; exact key

/-- The second is the gradient of the attention's result, its columns in four parts. -/
theorem final_do : (dats m 0 c).arrAt 11 (cfgs 0).N = fun i : S4096x512.Idx => (D.doo (i 0) (i 1) : EReal) := by
  refine (dats m 0 c).arrAt_eq_of_covers 11 _ (by decide +kernel) fun t hf y => ?_
  rw [after0_11]
  idx_vars y
  have e : ((cfg0.win 11).blk t).view.emb (ix2 y0 y1) = ix2 (row t y0) y1 := by blk_ext [idx_val t]; rfl
  refine Eq.trans ?_ (congrArg (fun i : S4096x512.Idx => (D.doo (i 0) (i 1) : EReal)) e).symm
  blk_simp
  by_cases h0 : t.val % 8 = 0
  · rw [outsAt0_A m c t h0]; frame_out
    exact cols (fun i : S512x512.Idx => (D.doo (row t (i 0)) (i 1) : EReal)) _ _ _ _ [] _ _ _ _
      (fun r l => (congrFun (do_0 _ _ _) _).trans (do_pair (o0 h t _ r) (don0 h t r) (ga0 h t _) l))
      (fun r l => (congrFun (do_1 _ _ _) _).trans (do_pair (o1 h t _ r) (don1 h t r) (ga1 h t _) l))
      (fun r l => (congrFun (do_2 _ _ _) _).trans (do_pair (o2 h t _ r) (don2 h t r) (ga2 h t _) l))
      (fun r l => (congrFun (do_3 _ _ _) _).trans (do_pair (o3 h t _ r) (don3 h t r) (ga3 h t _) l)) (ix2 y0 y1)
  · rw [outsAt0_B m c t h0]; frame_out
    exact cols (fun i : S512x512.Idx => (D.doo (row t (i 0)) (i 1) : EReal)) _ _ _ _ [] _ _ _ _
      (fun r l => (congrFun (do_0 _ _ _) _).trans (do_pair (o0 h t _ r) (don0 h t r) (ga0 h t _) l))
      (fun r l => (congrFun (do_1 _ _ _) _).trans (do_pair (o1 h t _ r) (don1 h t r) (ga1 h t _) l))
      (fun r l => (congrFun (do_2 _ _ _) _).trans (do_pair (o2 h t _ r) (don2 h t r) (ga2 h t _) l))
      (fun r l => (congrFun (do_3 _ _ _) _).trans (do_pair (o3 h t _ r) (don3 h t r) (ga3 h t _) l)) (ix2 y0 y1)

/-- The third is the gradient of the pooling's result. -/
theorem final_dpo : (dats m 0 c).arrAt 12 (cfgs 0).N = fun i : S4096x512.Idx => (D.dpo (i 0) (i 1) : EReal) := by
  refine (dats m 0 c).arrAt_eq_of_covers 12 _ (by decide +kernel) fun t hf y => ?_
  rw [after0_12]
  idx_vars y
  have e : ((cfg0.win 12).blk t).view.emb (ix2 y0 y1) = ix2 (row t y0) y1 := by blk_ext [idx_val t]; rfl
  have key := st_dpo h t y0 y1
  refine Eq.trans ?_ (congrArg (fun i : S4096x512.Idx => (D.dpo (i 0) (i 1) : EReal)) e).symm
  blk_simp
  by_cases h0 : t.val % 8 = 0
  · rw [outsAt0_A m c t h0]; frame_out; exact key
  · rw [outsAt0_B m c t h0]; frame_out; exact key

/-- The fourth is the gradient of the projection's weight, its rows in two parts. -/
theorem final_dw : (dats m 0 c).arrAt 13 (cfgs 0).N = fun i : S1024x1024.Idx => (D.dw (i 0) (i 1) : EReal) := by
  refine (dats m 0 c).arrAt_eq_of_covers 13 _ (by decide +kernel) fun t hf y => ?_
  rw [after0_13]
  have e : ((cfg0.win 13).blk t).view.emb y = y := by idx_vars y; blk_ext [idx_val t]
  refine Eq.trans ?_ (congrArg (fun i : S1024x1024.Idx => (D.dw (i 0) (i 1) : EReal)) e).symm
  refine (acc_tiles (fun n h => (outsAt0 m c n h).2.2.2.1) 8 512 4096 rfl (fun s (i : S1024x1024.Idx) => D.cat s (i 0) * D.dpre s (i 1)) row row_val ?_ ?_ t ((flush0_13 t).mp hf) y).trans rfl
  · intro t ht i; rw [outsAt0_A m c t ht]; frame_out
    refine halves (fun i => ((∑ a, D.cat (row t a) (i 0) * D.dpre (row t a) (i 1) : ℝ) : EReal)) _ _ _ _ _ (fun r k => (add_dw0 h t _ r k).trans ?_) (fun r k => (add_dw1 h t _ r k).trans ?_) i
    · exact (congrArg (· + _) ((congrFun (View.readCov_fill _ _ _ _ _ (by decide)) _).trans (zero2 _))).trans (zero_add _)
    · exact (congrArg (· + _) ((congrFun (View.readCov_skip _ _ _ _ _ (by decide)) _).trans ((congrFun (View.readCov_fill _ _ _ _ _ (by decide)) _).trans (zero2 _)))).trans (zero_add _)
  · intro t ht i; rw [outsAt0_B m c t ht]; frame_out
    refine halves (fun i => (outsAt0 m c (t.val - 1) _).2.2.2.1 i + ((∑ a, D.cat (row t a) (i 0) * D.dpre (row t a) (i 1) : ℝ) : EReal)) _ _ [] _ _
      (fun r k => (add_dw0 h t _ r k).trans ?_) (fun r k => (add_dw1 h t _ r k).trans ?_) i
    · exact congrArg (· + _) (congrArg (outsAt0 m c (t.val - 1) _).2.2.2.1 (half0 _ r k))
    · exact congrArg (· + _) (congrArg (outsAt0 m c (t.val - 1) _).2.2.2.1 (half1 _ r k))

/-- The fifth and the sixth are the gradients of the layer norm's gain and shift. -/
theorem final_dg : (dats m 0 c).arrAt 14 (cfgs 0).N = fun i : S1x1024.Idx => (D.dg (i 1) : EReal) := by
  refine (dats m 0 c).arrAt_eq_of_covers 14 _ (by decide +kernel) fun t hf y => ?_
  rw [after0_14]
  have e : ((cfg0.win 14).blk t).view.emb y = y := by idx_vars y; blk_ext [idx_val t]
  refine Eq.trans ?_ (congrArg (fun i : S1x1024.Idx => (D.dg (i 1) : EReal)) e).symm
  refine (acc_tiles (fun n h => (outsAt0 m c n h).2.2.2.2.1) 8 512 4096 rfl (fun s (i : S1x1024.Idx) => D.dy s (i 1) * xhat (D.pre s) (i 1)) row row_val ?_ ?_ t ((flush0_14 t).mp hf) y).trans rfl
  · intro t ht i; rw [outsAt0_A m c t ht]; frame_out; idx_vars i; obtain rfl : i0 = 0 := Subsingleton.elim _ _
    exact (add_dg h t _ _).trans (by rw [zero3, zero_add])
  · intro t ht i; rw [outsAt0_B m c t ht]; frame_out; idx_vars i; obtain rfl : i0 = 0 := Subsingleton.elim _ _
    exact add_dg h t _ _

theorem final_db : (dats m 0 c).arrAt 15 (cfgs 0).N = fun i : S1x1024.Idx => (D.db (i 1) : EReal) := by
  refine (dats m 0 c).arrAt_eq_of_covers 15 _ (by decide +kernel) fun t hf y => ?_
  rw [after0_15]
  have e : ((cfg0.win 15).blk t).view.emb y = y := by idx_vars y; blk_ext [idx_val t]
  refine Eq.trans ?_ (congrArg (fun i : S1x1024.Idx => (D.db (i 1) : EReal)) e).symm
  refine (acc_tiles (fun n h => (outsAt0 m c n h).2.2.2.2.2.1) 8 512 4096 rfl (fun s (i : S1x1024.Idx) => D.dy s (i 1)) row row_val ?_ ?_ t ((flush0_15 t).mp hf) y).trans rfl
  · intro t ht i; rw [outsAt0_A m c t ht]; frame_out; idx_vars i; obtain rfl : i0 = 0 := Subsingleton.elim _ _
    exact (add_db h t _ _).trans (by rw [zero4, zero_add])
  · intro t ht i; rw [outsAt0_B m c t ht]; frame_out; idx_vars i; obtain rfl : i0 = 0 := Subsingleton.elim _ _
    exact add_db h t _ _

/-- The last is the gradient of the heads' gain, its columns in four parts. -/
theorem final_dga : (dats m 0 c).arrAt 16 (cfgs 0).N = fun i : S1x512.Idx => (D.dga (i 1) : EReal) := by
  refine (dats m 0 c).arrAt_eq_of_covers 16 _ (by decide +kernel) fun t hf y => ?_
  rw [after0_16]
  have e : ((cfg0.win 16).blk t).view.emb y = y := by idx_vars y; blk_ext [idx_val t]
  refine Eq.trans ?_ (congrArg (fun i : S1x512.Idx => (D.dga (i 1) : EReal)) e).symm
  refine (acc_tiles (fun n h => (outsAt0 m c n h).2.2.2.2.2.2) 8 512 4096 rfl (fun s (i : S1x512.Idx) => D.dcat s (lo (i 1)) * (D.o s (i 1) * rrms (D.o s) (i 1))) row row_val ?_ ?_ t ((flush0_16 t).mp hf) y).trans rfl
  · intro t ht i; rw [outsAt0_A m c t ht]; frame_out
    exact cols (fun i : S1x512.Idx => ((∑ a, D.dcat (row t a) (lo (i 1)) * (D.o (row t a) (i 1) * rrms (D.o (row t a)) (i 1)) : ℝ) : EReal)) _ _ _ _ _ _ _ _ _
      (fun r l => by
        obtain rfl : r = 0 := Subsingleton.elim _ _
        exact (congrFun (dga_0 _ _ _) _).trans ((dga_pair (v := fun r => D.o (row t r)) (d := fun r j => D.dcat (row t r) (lo j)) (o0 h t _) (don0 h t) l).trans ((congrArg (· + _) ((congrFun (View.readCov_fill _ _ _ _ _ (by decide)) _).trans (zero5 _))).trans (zero_add _))))
      (fun r l => by
        obtain rfl : r = 0 := Subsingleton.elim _ _
        exact (congrFun (dga_1 _ _ _) _).trans ((dga_pair (v := fun r => D.o (row t r)) (d := fun r j => D.dcat (row t r) (lo j)) (o1 h t _) (don1 h t) l).trans ((congrArg (· + _) ((congrFun (View.readCov_skip _ _ _ _ _ (by decide)) _).trans ((congrFun (View.readCov_fill _ _ _ _ _ (by decide)) _).trans (zero5 _)))).trans (zero_add _))))
      (fun r l => by
        obtain rfl : r = 0 := Subsingleton.elim _ _
        exact (congrFun (dga_2 _ _ _) _).trans ((dga_pair (v := fun r => D.o (row t r)) (d := fun r j => D.dcat (row t r) (lo j)) (o2 h t _) (don2 h t) l).trans ((congrArg (· + _) ((congrFun (View.readCov_skip _ _ _ _ _ (by decide)) _).trans ((congrFun (View.readCov_skip _ _ _ _ _ (by decide)) _).trans ((congrFun (View.readCov_fill _ _ _ _ _ (by decide)) _).trans (zero5 _))))).trans (zero_add _))))
      (fun r l => by
        obtain rfl : r = 0 := Subsingleton.elim _ _
        exact (congrFun (dga_3 _ _ _) _).trans ((dga_pair (v := fun r => D.o (row t r)) (d := fun r j => D.dcat (row t r) (lo j)) (o3 h t _) (don3 h t) l).trans ((congrArg (· + _) ((congrFun (View.readCov_skip _ _ _ _ _ (by decide)) _).trans ((congrFun (View.readCov_skip _ _ _ _ _ (by decide)) _).trans ((congrFun (View.readCov_skip _ _ _ _ _ (by decide)) _).trans ((congrFun (View.readCov_fill _ _ _ _ _ (by decide)) _).trans (zero5 _)))))).trans (zero_add _)))) i
  · intro t ht i; rw [outsAt0_B m c t ht]; frame_out
    exact cols (fun i : S1x512.Idx => (outsAt0 m c (t.val - 1) _).2.2.2.2.2.2 i + ((∑ a, D.dcat (row t a) (lo (i 1)) * (D.o (row t a) (i 1) * rrms (D.o (row t a)) (i 1)) : ℝ) : EReal)) _ _ _ _ [] _ _ _ _
      (fun r l => by
        obtain rfl : r = 0 := Subsingleton.elim _ _
        exact (congrFun (dga_0 _ _ _) _).trans ((dga_pair (v := fun r => D.o (row t r)) (d := fun r j => D.dcat (row t r) (lo j)) (o0 h t _) (don0 h t) l).trans (congrArg (· + _) (congrArg (outsAt0 m c (t.val - 1) _).2.2.2.2.2.2 (row0 _ l)))))
      (fun r l => by
        obtain rfl : r = 0 := Subsingleton.elim _ _
        exact (congrFun (dga_1 _ _ _) _).trans ((dga_pair (v := fun r => D.o (row t r)) (d := fun r j => D.dcat (row t r) (lo j)) (o1 h t _) (don1 h t) l).trans (congrArg (· + _) (congrArg (outsAt0 m c (t.val - 1) _).2.2.2.2.2.2 (row1 _ l)))))
      (fun r l => by
        obtain rfl : r = 0 := Subsingleton.elim _ _
        exact (congrFun (dga_2 _ _ _) _).trans ((dga_pair (v := fun r => D.o (row t r)) (d := fun r j => D.dcat (row t r) (lo j)) (o2 h t _) (don2 h t) l).trans (congrArg (· + _) (congrArg (outsAt0 m c (t.val - 1) _).2.2.2.2.2.2 (row2 _ l)))))
      (fun r l => by
        obtain rfl : r = 0 := Subsingleton.elim _ _
        exact (congrFun (dga_3 _ _ _) _).trans ((dga_pair (v := fun r => D.o (row t r)) (d := fun r j => D.dcat (row t r) (lo j)) (o3 h t _) (don3 h t) l).trans (congrArg (· + _) (congrArg (outsAt0 m c (t.val - 1) _).2.2.2.2.2.2 (row3 _ l))))) i

end Cert.Kernel5Ideal.Value

namespace Cert.Mix

open Cert.Pre_mix_finite

/-- The numbers the arguments hold. -/
def dataOf (o pooled : FVec Ideal S1x4096x512 .f32) (x : FVec Ideal S1x4096x1024 .f32) (ga : FVec Ideal S1x512 .f32) (w : FVec Ideal S1x1024x1024 .f32)
    (g : FVec Ideal S1x1024 .f32) (dp dx : FVec Ideal S1x4096x1024 .f32) : Data where
  o s j := EReal.toReal (o (ix3 0 s j))
  pooled s j := EReal.toReal (pooled (ix3 0 s j))
  x s k := EReal.toReal (x (ix3 0 s k))
  ga j := EReal.toReal (ga (ix2 0 j))
  w i k := EReal.toReal (w (ix3 0 i k))
  g k := EReal.toReal (g (ix2 0 k))
  dp s k := EReal.toReal (dp (ix3 0 s k))
  dx s k := EReal.toReal (dx (ix3 0 s k))

/-- The precondition gives arguments that hold real numbers. -/
theorem holds_of_pre [Cert.Pre_mix_finite.Facts] {o pooled : FVec Ideal S1x4096x512 .f32} {x : FVec Ideal S1x4096x1024 .f32} {ga : FVec Ideal S1x512 .f32}
    {w : FVec Ideal S1x1024x1024 .f32} {g b : FVec Ideal S1x1024 .f32} {dp dx : FVec Ideal S1x4096x1024 .f32}
    (h : fn (F := Ideal) o pooled x ga w g b dp dx = fun _ => 1#1) : Holds (dataOf o pooled x ga w g dp dx) o pooled x ga w g dp dx := by
  have h0 := congrFun h (fun k => k.elim0)
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun _ _ => Finite.real_of_all _ _ _ _ _ h0 _, fun _ _ => Finite.real_of_all _ _ _ _ _ h1 _, fun _ _ => Finite.real_of_all _ _ _ _ _ h2 _, fun _ => Finite.real_of_all _ _ _ _ _ h3 _, fun _ _ => Finite.real_of_all _ _ _ _ _ h4 _, fun _ => Finite.real_of_all _ _ _ _ _ h5 _, fun _ _ => Finite.real_of_all _ _ _ _ _ h6 _, fun _ _ => Finite.real_of_all _ _ _ _ _ h7 _⟩

end Cert.Mix

end
-- ==== Proof.PoolKernel.lean ====
/-
  The pooling gradient's kernel: the blocks it reads, what it computes of a tile, and its three results, each as one
  function of the arguments.
-/
module

public import proofs.«01_k».proof.Proof.Gen.KernelIdeal.Value
public import proofs.«01_k».proof.Proof.Gen.ReferenceIdeal.Read
public import proofs.«01_k».proof.Proof.Gen.Pre_pool_finite
public import proofs.«01_k».proof.Proof.Finite
public import proofs.«01_k».proof.Proof.PoolValue
public import proofs.«01_k».proof.Proof.MixKernel
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Pool

/-- A channel's group and its place there. -/
def grp (j : Fin 512) : Fin 4 := ⟨j.val / 128, by omega⟩
def pos (j : Fin 512) : Fin 128 := ⟨j.val % 128, by omega⟩

theorem grp_chan (g : Fin 4) (l : Fin 128) : grp (chan g l) = g := Fin.ext (by show (g.val * 128 + l.val) / 128 = g.val; omega)

theorem pos_chan (g : Fin 4) (l : Fin 128) : pos (chan g l) = l := Fin.ext (by show (g.val * 128 + l.val) % 128 = l.val; omega)

theorem chan_pos (j : Fin 512) : chan (grp j) (pos j) = j := Fin.ext (by show j.val / 128 * 128 + j.val % 128 = j.val; omega)

/-- A block accumulated over the row tiles, started afresh at the first, ends as the sum over all the rows. -/
theorem acc_rows {N : ℕ} {ι : Type} (f : (n : ℕ) → n < N → ι → EReal) (J T S : ℕ) [NeZero J] (hS : J * T = S) (R : Fin S → ι → EReal)
    (row : Fin N → Fin T → Fin S) (hrow : ∀ t a, (row t a).val = t.val % J * T + a.val)
    (h0 : ∀ t : Fin N, t.val % J = 0 → ∀ i, f t.val t.isLt i = ∑ a, R (row t a) i)
    (hs : ∀ t : Fin N, ¬t.val % J = 0 → ∀ i, f t.val t.isLt i
      = f (t.val - 1) (Nat.lt_of_le_of_lt (Nat.sub_le _ _) t.isLt) i + ∑ a, R (row t a) i)
    (t : Fin N) (hr : t.val % J = J - 1) (i : ι) : f t.val t.isLt i = ∑ s, R s i := by
  rw [Pipeline.eq_sum_fin_of_reset_step_apply_of_flush f J (fun _ => 0) (fun t i => ∑ a, R (row t a) i)
    (fun t h i => by rw [h0 t h, zero_add]) hs t hr i, zero_add, Fin.sum_univ_tiles J T hS (fun s => R s i)]
  refine Finset.sum_congr rfl fun j _ => Finset.sum_congr rfl fun a _ => congrArg (R · i) (Fin.ext ?_)
  rw [hrow]
  show (J * (t.val / J) + j.val) % J * T + a.val = _
  rw [Nat.mul_add_mod, Nat.mod_eq_of_lt j.isLt]

end Cert.Pool

namespace Cert.Pool.Data

variable (D : Data)

/-- The cotangent at any row, zero past the end. -/
def ctN (n : ℕ) (j : Fin 512) : ℝ := if h : n < 4096 then D.ct ⟨n, h⟩ j else 0

/-- A difference's gradient from the cotangent's rows. -/
theorem ddN_is (g : Fin 4) (c : Fin 128) (n : ℕ) :
    ∑ l, ((D.ctN n (chan g l) * D.sc (chan g l) : ℝ) : EReal) * (D.w g c l : EReal) = (D.ddN g c n : EReal) := by
  simp only [← EReal.coe_mul, Cert.NormMath.coe_sum]
  unfold ddN ctN dd
  by_cases h : n < 4096
  · simp [dif_pos h]
  · simp [dif_neg h]

/-- The rows' gradient over the extended rows. -/
theorem du_is (g : Fin 4) (c : Fin 128) (s : Fin 4096) :
    D.du g c s = (∑ k ∈ Finset.range (width g), D.ddN g c (s.val + k) / count g (s.val + k)) - D.ddN g c s.val := by
  unfold du
  rw [show D.ddN g c s.val = D.dd g c s from dif_pos s.isLt]
  rfl

end Cert.Pool.Data

namespace Cert.KernelIdeal.Value

open Cert.KernelIdeal Cert.KernelIdeal.Gen
open Cert.Pool Cert.NormMath
open Cert.Kernel5Ideal.Value (col0 col1 col2 col3 row0 row1 row2 row3 cols)

variable (m : (ℓ : Loc nD τ sig) → Buf (Elt Ideal) ℓ)

theorem idx_val : ∀ t : Fin cfg0.N, win0_0.index t = ![t.val, 0]
    ∧ win0_1.index t = ![min (64 * t.val + 64) 255, 0]
    ∧ win0_2.index t = ![t.val, 0]
    ∧ win0_3.index t = ![0, 0, 0]
    ∧ win0_4.index t = ![0, 0]
    ∧ win0_5.index t = ![t.val, 0]
    ∧ win0_6.index t = ![0, 0, 0]
    ∧ win0_7.index t = ![0, 0] :=
  (by decide +kernel : ∀ t : Fin grid0.N, _)

/-! ## What the host hands the kernel -/

/-- The rows of the cotangent, the four groups' weights, and the differences in one row each, in the narrow format. -/
def rows (d : FVec Ideal S1x4096x512 .f32) : FVec Ideal S4096x512 .f32 := shapeCast S4096x512 d shapeCasts_S1x4096x512_S4096x512

def groups (w : FVec Ideal S1x4x128x128 .f32) : FVec Ideal S4x128x128 .f32 := shapeCast S4x128x128 w shapeCasts_S1x4x128x128_S4x128x128

def narrow (d : FVec Ideal S4096x4x128 .f32) : FVec Ideal S4096x512 .bf16 :=
  truncf .bf16 (shapeCast S4096x512 d shapeCasts_S4096x4x128_S4096x512) bitsLt_bf16_f32

theorem V_ct (c : Dev nD) : V m c main_v74 = rows (m ((c : Thread nD τ).loc main_arg3)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_w (c : Dev nD) : V m c main_v75 = groups (m ((c : Thread nD τ).loc main_arg1)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_sc (c : Dev nD) : V m c main_arg2 = (m ((c : Thread nD τ).loc main_arg2)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The differences are the reference's own lines. -/
theorem V_d (c : Dev nD) : V m c main_v73 = narrow (Cert.ReferenceIdeal.Read.val_main_v77 (F := Ideal) (m ((c : Thread nD τ).loc main_arg0))) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-! ## Parts of a block -/

/-- The row of the whole array that row `a` of tile `t` is. -/
def row (t : Fin cfg0.N) (a : Fin 1024) : Fin 4096 := ⟨t.val * 1024 + a.val, by have h : t.val < 4 := t.isLt; omega⟩

theorem row_val (t : Fin cfg0.N) (a : Fin 1024) : (row t a).val = t.val % 4 * 1024 + a.val := by
  rw [Nat.mod_eq_of_lt (show t.val < 4 from t.isLt)]
  rfl

theorem slab0 (i0) (r l : Fin 128) : (Rect.unit (s := S4x128x128) ![0, 0, 0] ![1, 128, 128] i0).emb (ix3 0 r l) = ix3 0 r l := by blk_ext

theorem ldw0 (f : Vec Ideal S4x128x128 .f32) (i0) (r l : Fin 128) : View.ld f (Rect.unit (s := S4x128x128) ![0, 0, 0] ![1, 128, 128] i0) (ix3 0 r l) = f (ix3 0 r l) :=
  congrArg f (slab0 i0 r l)

theorem ld0 {e : EltTy} {R : Nat} (f : Vec Ideal ⟨2, ![R, 512]⟩ e) (i0) (r : Fin R) (l : Fin 128) :
    View.ld f (Rect.unit (s := ⟨2, ![R, 512]⟩) ![0, 0] ![R, 128] i0) (ix2 r l) = f (ix2 r (chan 0 l)) := congrArg f (col0 i0 r l)

theorem slab1 (i0) (r l : Fin 128) : (Rect.unit (s := S4x128x128) ![1, 0, 0] ![1, 128, 128] i0).emb (ix3 0 r l) = ix3 1 r l := by blk_ext

theorem ldw1 (f : Vec Ideal S4x128x128 .f32) (i0) (r l : Fin 128) : View.ld f (Rect.unit (s := S4x128x128) ![1, 0, 0] ![1, 128, 128] i0) (ix3 0 r l) = f (ix3 1 r l) :=
  congrArg f (slab1 i0 r l)

theorem ld1 {e : EltTy} {R : Nat} (f : Vec Ideal ⟨2, ![R, 512]⟩ e) (i0) (r : Fin R) (l : Fin 128) :
    View.ld f (Rect.unit (s := ⟨2, ![R, 512]⟩) ![0, 128] ![R, 128] i0) (ix2 r l) = f (ix2 r (chan 1 l)) := congrArg f (col1 i0 r l)

theorem slab2 (i0) (r l : Fin 128) : (Rect.unit (s := S4x128x128) ![2, 0, 0] ![1, 128, 128] i0).emb (ix3 0 r l) = ix3 2 r l := by blk_ext

theorem ldw2 (f : Vec Ideal S4x128x128 .f32) (i0) (r l : Fin 128) : View.ld f (Rect.unit (s := S4x128x128) ![2, 0, 0] ![1, 128, 128] i0) (ix3 0 r l) = f (ix3 2 r l) :=
  congrArg f (slab2 i0 r l)

theorem ld2 {e : EltTy} {R : Nat} (f : Vec Ideal ⟨2, ![R, 512]⟩ e) (i0) (r : Fin R) (l : Fin 128) :
    View.ld f (Rect.unit (s := ⟨2, ![R, 512]⟩) ![0, 256] ![R, 128] i0) (ix2 r l) = f (ix2 r (chan 2 l)) := congrArg f (col2 i0 r l)

theorem slab3 (i0) (r l : Fin 128) : (Rect.unit (s := S4x128x128) ![3, 0, 0] ![1, 128, 128] i0).emb (ix3 0 r l) = ix3 3 r l := by blk_ext

theorem ldw3 (f : Vec Ideal S4x128x128 .f32) (i0) (r l : Fin 128) : View.ld f (Rect.unit (s := S4x128x128) ![3, 0, 0] ![1, 128, 128] i0) (ix3 0 r l) = f (ix3 3 r l) :=
  congrArg f (slab3 i0 r l)

theorem ld3 {e : EltTy} {R : Nat} (f : Vec Ideal ⟨2, ![R, 512]⟩ e) (i0) (r : Fin R) (l : Fin 128) :
    View.ld f (Rect.unit (s := ⟨2, ![R, 512]⟩) ![0, 384] ![R, 128] i0) (ix2 r l) = f (ix2 r (chan 3 l)) := congrArg f (col3 i0 r l)

/-- Four groups stored over a buffer: where each is its part of one function, the buffer holds that function. -/
theorem slabs (G : S4x128x128.Idx → Elt Ideal .f32) (p0 p1 p2 p3 : S1x128x128.Idx → Elt Ideal .f32)
    (L : List (View.Piece (Elt Ideal) S4x128x128 .f32)) (p0in p1in p2in p3in)
    (h0 : ∀ r l, p0 (ix3 0 r l) = G (ix3 0 r l)) (h1 : ∀ r l, p1 (ix3 0 r l) = G (ix3 1 r l))
    (h2 : ∀ r l, p2 (ix3 0 r l) = G (ix3 2 r l)) (h3 : ∀ r l, p3 (ix3 0 r l) = G (ix3 3 r l)) (i : S4x128x128.Idx) :
    View.canon (⟨Rect.unit ![3, 0, 0] ![1, 128, 128] p3in, p3⟩ :: ⟨Rect.unit ![2, 0, 0] ![1, 128, 128] p2in, p2⟩ ::
      ⟨Rect.unit ![1, 0, 0] ![1, 128, 128] p1in, p1⟩ :: ⟨Rect.unit ![0, 0, 0] ![1, 128, 128] p0in, p0⟩ :: L) i = G i := by
  have all : ∀ {p G' : S1x128x128.Idx → Elt Ideal .f32}, (∀ r l, p (ix3 0 r l) = G' (ix3 0 r l)) → ∀ x, p x = G' x :=
    fun hp x => by idx_vars x; obtain rfl : x0 = 0 := Subsingleton.elim _ _; exact hp _ _
  have cov : ∀ (y : S4x128x128.Idx) (r : Rect S4x128x128) (x : r.shape.Idx), r.emb x = y → y ∈ r.set :=
    fun y r x e => e ▸ LoadRect.idx_mem r.toLoadRect x
  have h := View.canon_append_of_piecesOf G L [⟨Rect.unit ![3, 0, 0] ![1, 128, 128] p3in, p3⟩, ⟨Rect.unit ![2, 0, 0] ![1, 128, 128] p2in, p2⟩,
    ⟨Rect.unit ![1, 0, 0] ![1, 128, 128] p1in, p1⟩, ⟨Rect.unit ![0, 0, 0] ![1, 128, 128] p0in, p0⟩]
    ⟨all fun k j => (h3 k j).trans (congrArg G (slab3 p3in k j)).symm, all fun k j => (h2 k j).trans (congrArg G (slab2 p2in k j)).symm,
      all fun k j => (h1 k j).trans (congrArg G (slab1 p1in k j)).symm, all fun k j => (h0 k j).trans (congrArg G (slab0 p0in k j)).symm, trivial⟩ i
  refine h ?_
  clear h
  idx_vars i
  obtain rfl | rfl | rfl | rfl : i0 = 0 ∨ i0 = 1 ∨ i0 = 2 ∨ i0 = 3 := by revert i0; decide
  · exact ⟨_, List.mem_cons_of_mem _ (List.mem_cons_of_mem _ (List.mem_cons_of_mem _ List.mem_cons_self)), cov _ _ (ix3 0 i1 i2) (slab0 p0in i1 i2)⟩
  · exact ⟨_, List.mem_cons_of_mem _ (List.mem_cons_of_mem _ List.mem_cons_self), cov _ _ (ix3 0 i1 i2) (slab1 p1in i1 i2)⟩
  · exact ⟨_, List.mem_cons_of_mem _ List.mem_cons_self, cov _ _ (ix3 0 i1 i2) (slab2 p2in i1 i2)⟩
  · exact ⟨_, List.mem_cons_self, cov _ _ (ix3 0 i1 i2) (slab3 p3in i1 i2)⟩

/-! ## The blocks -/

variable {m} (c : Dev nD)

/-- The pooled rows, the weights, the scale and the cotangent. -/
abbrev au : FVec Ideal S1x4096x512 .f32 := m ((c : Thread nD τ).loc main_arg0)
abbrev aw : FVec Ideal S1x4x128x128 .f32 := m ((c : Thread nD τ).loc main_arg1)
abbrev asc : FVec Ideal S1x512 .f32 := m ((c : Thread nD τ).loc main_arg2)
abbrev act : FVec Ideal S1x4096x512 .f32 := m ((c : Thread nD τ).loc main_arg3)

/-- The differences the forward pass left. -/
abbrev diffs : FVec Ideal S4096x4x128 .f32 := Cert.ReferenceIdeal.Read.val_main_v77 (F := Ideal) (au (m := m) c)

theorem blk_ct (t : Fin cfg0.N) (a : Fin 1024) (j : Fin 512) : iblk m c 0 t (ix2 a j) = act (m := m) c (ix3 0 (row t a) j) := by
  have e : ((cfg0.win 0).blk t).view.emb (ix2 a j) = ix2 (row t a) j := by blk_ext [idx_val t]; rfl
  show V m c main_v74 (((cfg0.win 0).blk t).view.emb (ix2 a j)) = _
  rw [V_ct, e]
  pointwise [rows]

theorem blk_halo (t : Fin cfg0.N) (ht : t.val < 3) (a : Fin 16) (j : Fin 512) :
    iblk m c 1 t (ix2 a j) = act (m := m) c (ix3 0 ⟨t.val * 1024 + 1024 + a.val, by omega⟩ j) := by
  have e : ((cfg0.win 1).blk t).view.emb (ix2 a j) = ix2 ⟨t.val * 1024 + 1024 + a.val, by omega⟩ j := by
    blk_ext [idx_val t]
  show V m c main_v74 (((cfg0.win 1).blk t).view.emb (ix2 a j)) = _
  rw [V_ct, e]
  pointwise [rows]

theorem blk_d (t : Fin cfg0.N) (a : Fin 1024) (g : Fin 4) (l : Fin 128) : iblk m c 2 t (ix2 a (chan g l)) = diffs (m := m) c (ix3 (row t a) g l) := by
  have e : ((cfg0.win 2).blk t).view.emb (ix2 a (chan g l)) = ix2 (row t a) (chan g l) := by blk_ext [idx_val t]; rfl
  show V m c main_v73 (((cfg0.win 2).blk t).view.emb (ix2 a (chan g l))) = _
  rw [V_d, e]
  pointwise [narrow]
  refine congrArg₂ (fun x y => diffs (m := m) c (ix3 (row t a) x y)) (Fin.ext ?_) (Fin.ext ?_)
  · show (g.val * 128 + l.val) / 128 = g.val
    omega
  · show (g.val * 128 + l.val) % 128 = l.val
    omega

theorem blk_w (t : Fin cfg0.N) (g : Fin 4) (i o : Fin 128) : iblk m c 3 t (ix3 g i o) = aw (m := m) c (ix4 0 g i o) := by
  have e : ((cfg0.win 3).blk t).view.emb (ix3 g i o) = ix3 g i o := by blk_ext [idx_val t]
  show V m c main_v75 (((cfg0.win 3).blk t).view.emb (ix3 g i o)) = _
  rw [V_w, e]
  pointwise [groups]

theorem blk_sc (t : Fin cfg0.N) (j : Fin 512) : iblk m c 4 t (ix2 0 j) = asc (m := m) c (ix2 0 j) := by
  have e : ((cfg0.win 4).blk t).view.emb (ix2 0 j) = ix2 0 j := by blk_ext [idx_val t]
  show V m c main_arg2 (((cfg0.win 4).blk t).view.emb (ix2 0 j)) = _
  rw [V_sc, e]

/-- The grid coordinate is the tile. -/
theorem coord_val : ∀ t : Fin cfg0.N, (grid0.coords t 0).val = t.val := (by decide +kernel : ∀ t : Fin grid0.N, _)

/-- The row number. -/
theorem pos_is (t : Fin cfg0.N) (r : Fin 1040) : k0_pay8 (grid0.coords t) (ix2 r 0) = BitVec.ofNat 32 (t.val * 1024 + r.val) := by
  pointwise [k0_pay8]
  rw [coord_val]
  show BitVec.ofNat 32 t.val * 1024#32 + BitVec.ofNat 32 r.val = _
  rw [BitVec.ofNat_add, BitVec.ofNat_mul]

/-- The number of rows averaged. -/
theorem cnt_is (t : Fin cfg0.N) (r : Fin 1040) (g : Fin 4) (b : BitVec 32) (hb : b = BitVec.ofNat 32 (width g)) :
    FloatOps.sitofp (F := Ideal) .f32 (IntOp.minsi (IntOp.addi (k0_pay8 (grid0.coords t) (ix2 r 0)) 1#32) b) = (count g (t.val * 1024 + r.val) : EReal) := by
  have h : t.val < 4 := t.isLt
  rw [pos_is, hb]
  exact count_is g _ (by omega)

/-! ## What a tile adds to the gradients of the weights and of the scale -/

variable {c}

/-- Group by group: the scaled cotangent's rows, and what is added to the gradients of the weights and of the scale. -/
theorem dyE0 (t : Fin cfg0.N) (a : Fin 1024) (l : Fin 128) : k0_pay11 (F := Ideal) (grid0.coords t) (iblk m c 1 t) (View.ld (iblk m c 0 t) (Rect.unit (s := S1024x512) ![0, 0] ![1024, 128] inb_S1024x512_S1024x128_0_0)) (View.ld (iblk m c 4 t) (Rect.unit (s := S1x512) ![0, 0] ![1, 128] inb_S1x512_S1x128_0_0)) (ix2 ⟨a.val, by omega⟩ l)
    = act (m := m) c (ix3 0 (row t a) (chan 0 l)) * asc (m := m) c (ix2 0 (chan 0 l)) := by
  have hX := ld0 (iblk m c 0 t) inb_S1024x512_S1024x128_0_0
  generalize (View.ld (iblk m c 0 t) (Rect.unit (s := S1024x512) ![0, 0] ![1024, 128] inb_S1024x512_S1024x128_0_0)) = uX at hX ⊢
  have hB := ld0 (iblk m c 4 t) inb_S1x512_S1x128_0_0
  generalize (View.ld (iblk m c 4 t) (Rect.unit (s := S1x512) ![0, 0] ![1, 128] inb_S1x512_S1x128_0_0)) = uB at hB ⊢
  pointwise [k0_pay11, k0_pay10]
  rw [hX, hB, blk_ct, blk_sc]

theorem add_dw0 (t : Fin cfg0.N) (acc : Vec Ideal S1x128x128 .f32) (i o : Fin 128) : k0_pay15 (k0_pay11 (F := Ideal) (grid0.coords t) (iblk m c 1 t) (View.ld (iblk m c 0 t) (Rect.unit (s := S1024x512) ![0, 0] ![1024, 128] inb_S1024x512_S1024x128_0_0)) (View.ld (iblk m c 4 t) (Rect.unit (s := S1x512) ![0, 0] ![1, 128] inb_S1x512_S1x128_0_0))) (View.ld (iblk m c 2 t) (Rect.unit (s := S1024x512) ![0, 0] ![1024, 128] inb_S1024x512_S1024x128_0_0)) acc (ix3 0 i o)
    = acc (ix3 0 i o) + ∑ a, diffs (m := m) c (ix3 (row t a) 0 i) * (act (m := m) c (ix3 0 (row t a) (chan 0 o)) * asc (m := m) c (ix2 0 (chan 0 o))) := by
  have hD := ld0 (iblk m c 2 t) inb_S1024x512_S1024x128_0_0
  generalize (View.ld (iblk m c 2 t) (Rect.unit (s := S1024x512) ![0, 0] ![1024, 128] inb_S1024x512_S1024x128_0_0)) = uD at hD ⊢
  pointwise [k0_pay15, k0_pay14]
  simp only [dyE0, hD, blk_d]

theorem add_ds0 (t : Fin cfg0.N) (acc : Vec Ideal S1x128 .f32) (o : Fin 128) : k0_pay16 (k0_pay9 (View.ld (iblk m c 3 t) (Rect.unit (s := S4x128x128) ![0, 0, 0] ![1, 128, 128] inb_S4x128x128_S1x128x128_0_0_0))) (k0_pay10 (View.ld (iblk m c 0 t) (Rect.unit (s := S1024x512) ![0, 0] ![1024, 128] inb_S1024x512_S1024x128_0_0))) (View.ld (iblk m c 2 t) (Rect.unit (s := S1024x512) ![0, 0] ![1024, 128] inb_S1024x512_S1024x128_0_0)) acc (ix2 0 o)
    = acc (ix2 0 o) + ∑ a, act (m := m) c (ix3 0 (row t a) (chan 0 o)) * ∑ l, diffs (m := m) c (ix3 (row t a) 0 l) * aw (m := m) c (ix4 0 0 l o) := by
  have hX := ld0 (iblk m c 0 t) inb_S1024x512_S1024x128_0_0
  generalize (View.ld (iblk m c 0 t) (Rect.unit (s := S1024x512) ![0, 0] ![1024, 128] inb_S1024x512_S1024x128_0_0)) = uX at hX ⊢
  have hD := ld0 (iblk m c 2 t) inb_S1024x512_S1024x128_0_0
  generalize (View.ld (iblk m c 2 t) (Rect.unit (s := S1024x512) ![0, 0] ![1024, 128] inb_S1024x512_S1024x128_0_0)) = uD at hD ⊢
  have hW := ldw0 (iblk m c 3 t) inb_S4x128x128_S1x128x128_0_0_0
  generalize (View.ld (iblk m c 3 t) (Rect.unit (s := S4x128x128) ![0, 0, 0] ![1, 128, 128] inb_S4x128x128_S1x128x128_0_0_0)) = uW at hW ⊢
  pointwise [k0_pay16, k0_pay14, k0_pay9, k0_pay10]
  simp only [hX, hD, hW, blk_d, blk_ct, blk_w]

theorem dyE1 (t : Fin cfg0.N) (a : Fin 1024) (l : Fin 128) : k0_pay19 (F := Ideal) (k0_pay7 (grid0.coords t) (iblk m c 1 t)) (View.ld (iblk m c 0 t) (Rect.unit (s := S1024x512) ![0, 128] ![1024, 128] inb_S1024x512_S1024x128_0_128)) (View.ld (iblk m c 4 t) (Rect.unit (s := S1x512) ![0, 128] ![1, 128] inb_S1x512_S1x128_0_128)) (ix2 ⟨a.val, by omega⟩ l)
    = act (m := m) c (ix3 0 (row t a) (chan 1 l)) * asc (m := m) c (ix2 0 (chan 1 l)) := by
  have hX := ld1 (iblk m c 0 t) inb_S1024x512_S1024x128_0_128
  generalize (View.ld (iblk m c 0 t) (Rect.unit (s := S1024x512) ![0, 128] ![1024, 128] inb_S1024x512_S1024x128_0_128)) = uX at hX ⊢
  have hB := ld1 (iblk m c 4 t) inb_S1x512_S1x128_0_128
  generalize (View.ld (iblk m c 4 t) (Rect.unit (s := S1x512) ![0, 128] ![1, 128] inb_S1x512_S1x128_0_128)) = uB at hB ⊢
  pointwise [k0_pay19, k0_pay18]
  rw [hX, hB, blk_ct, blk_sc]

theorem add_dw1 (t : Fin cfg0.N) (acc : Vec Ideal S1x128x128 .f32) (i o : Fin 128) : k0_pay24 (k0_pay19 (F := Ideal) (k0_pay7 (grid0.coords t) (iblk m c 1 t)) (View.ld (iblk m c 0 t) (Rect.unit (s := S1024x512) ![0, 128] ![1024, 128] inb_S1024x512_S1024x128_0_128)) (View.ld (iblk m c 4 t) (Rect.unit (s := S1x512) ![0, 128] ![1, 128] inb_S1x512_S1x128_0_128))) (View.ld (iblk m c 2 t) (Rect.unit (s := S1024x512) ![0, 128] ![1024, 128] inb_S1024x512_S1024x128_0_128)) acc (ix3 0 i o)
    = acc (ix3 0 i o) + ∑ a, diffs (m := m) c (ix3 (row t a) 1 i) * (act (m := m) c (ix3 0 (row t a) (chan 1 o)) * asc (m := m) c (ix2 0 (chan 1 o))) := by
  have hD := ld1 (iblk m c 2 t) inb_S1024x512_S1024x128_0_128
  generalize (View.ld (iblk m c 2 t) (Rect.unit (s := S1024x512) ![0, 128] ![1024, 128] inb_S1024x512_S1024x128_0_128)) = uD at hD ⊢
  pointwise [k0_pay24, k0_pay23]
  simp only [dyE1, hD, blk_d]

theorem add_ds1 (t : Fin cfg0.N) (acc : Vec Ideal S1x128 .f32) (o : Fin 128) : k0_pay25 (k0_pay17 (View.ld (iblk m c 3 t) (Rect.unit (s := S4x128x128) ![1, 0, 0] ![1, 128, 128] inb_S4x128x128_S1x128x128_1_0_0))) (k0_pay18 (View.ld (iblk m c 0 t) (Rect.unit (s := S1024x512) ![0, 128] ![1024, 128] inb_S1024x512_S1024x128_0_128))) (View.ld (iblk m c 2 t) (Rect.unit (s := S1024x512) ![0, 128] ![1024, 128] inb_S1024x512_S1024x128_0_128)) acc (ix2 0 o)
    = acc (ix2 0 o) + ∑ a, act (m := m) c (ix3 0 (row t a) (chan 1 o)) * ∑ l, diffs (m := m) c (ix3 (row t a) 1 l) * aw (m := m) c (ix4 0 1 l o) := by
  have hX := ld1 (iblk m c 0 t) inb_S1024x512_S1024x128_0_128
  generalize (View.ld (iblk m c 0 t) (Rect.unit (s := S1024x512) ![0, 128] ![1024, 128] inb_S1024x512_S1024x128_0_128)) = uX at hX ⊢
  have hD := ld1 (iblk m c 2 t) inb_S1024x512_S1024x128_0_128
  generalize (View.ld (iblk m c 2 t) (Rect.unit (s := S1024x512) ![0, 128] ![1024, 128] inb_S1024x512_S1024x128_0_128)) = uD at hD ⊢
  have hW := ldw1 (iblk m c 3 t) inb_S4x128x128_S1x128x128_1_0_0
  generalize (View.ld (iblk m c 3 t) (Rect.unit (s := S4x128x128) ![1, 0, 0] ![1, 128, 128] inb_S4x128x128_S1x128x128_1_0_0)) = uW at hW ⊢
  pointwise [k0_pay25, k0_pay23, k0_pay17, k0_pay18]
  simp only [hX, hD, hW, blk_d, blk_ct, blk_w]

theorem dyE2 (t : Fin cfg0.N) (a : Fin 1024) (l : Fin 128) : k0_pay28 (F := Ideal) (k0_pay7 (grid0.coords t) (iblk m c 1 t)) (View.ld (iblk m c 0 t) (Rect.unit (s := S1024x512) ![0, 256] ![1024, 128] inb_S1024x512_S1024x128_0_256)) (View.ld (iblk m c 4 t) (Rect.unit (s := S1x512) ![0, 256] ![1, 128] inb_S1x512_S1x128_0_256)) (ix2 ⟨a.val, by omega⟩ l)
    = act (m := m) c (ix3 0 (row t a) (chan 2 l)) * asc (m := m) c (ix2 0 (chan 2 l)) := by
  have hX := ld2 (iblk m c 0 t) inb_S1024x512_S1024x128_0_256
  generalize (View.ld (iblk m c 0 t) (Rect.unit (s := S1024x512) ![0, 256] ![1024, 128] inb_S1024x512_S1024x128_0_256)) = uX at hX ⊢
  have hB := ld2 (iblk m c 4 t) inb_S1x512_S1x128_0_256
  generalize (View.ld (iblk m c 4 t) (Rect.unit (s := S1x512) ![0, 256] ![1, 128] inb_S1x512_S1x128_0_256)) = uB at hB ⊢
  pointwise [k0_pay28, k0_pay27]
  rw [hX, hB, blk_ct, blk_sc]

theorem add_dw2 (t : Fin cfg0.N) (acc : Vec Ideal S1x128x128 .f32) (i o : Fin 128) : k0_pay32 (k0_pay31 (F := Ideal) (k0_pay7 (grid0.coords t) (iblk m c 1 t)) (View.ld (iblk m c 0 t) (Rect.unit (s := S1024x512) ![0, 256] ![1024, 128] inb_S1024x512_S1024x128_0_256)) (View.ld (iblk m c 4 t) (Rect.unit (s := S1x512) ![0, 256] ![1, 128] inb_S1x512_S1x128_0_256)) (View.ld (iblk m c 2 t) (Rect.unit (s := S1024x512) ![0, 256] ![1024, 128] inb_S1024x512_S1024x128_0_256)) acc) (ix3 0 i o)
    = acc (ix3 0 i o) + ∑ a, diffs (m := m) c (ix3 (row t a) 2 i) * (act (m := m) c (ix3 0 (row t a) (chan 2 o)) * asc (m := m) c (ix2 0 (chan 2 o))) := by
  have hD := ld2 (iblk m c 2 t) inb_S1024x512_S1024x128_0_256
  generalize (View.ld (iblk m c 2 t) (Rect.unit (s := S1024x512) ![0, 256] ![1024, 128] inb_S1024x512_S1024x128_0_256)) = uD at hD ⊢
  pointwise [k0_pay32, k0_pay31, k0_pay30]
  simp only [dyE2, hD, blk_d]

theorem add_ds2 (t : Fin cfg0.N) (acc : Vec Ideal S1x128 .f32) (o : Fin 128) : k0_pay33 (k0_pay26 (View.ld (iblk m c 3 t) (Rect.unit (s := S4x128x128) ![2, 0, 0] ![1, 128, 128] inb_S4x128x128_S1x128x128_2_0_0))) (k0_pay27 (View.ld (iblk m c 0 t) (Rect.unit (s := S1024x512) ![0, 256] ![1024, 128] inb_S1024x512_S1024x128_0_256))) (k0_pay30 (View.ld (iblk m c 2 t) (Rect.unit (s := S1024x512) ![0, 256] ![1024, 128] inb_S1024x512_S1024x128_0_256))) acc (ix2 0 o)
    = acc (ix2 0 o) + ∑ a, act (m := m) c (ix3 0 (row t a) (chan 2 o)) * ∑ l, diffs (m := m) c (ix3 (row t a) 2 l) * aw (m := m) c (ix4 0 2 l o) := by
  have hX := ld2 (iblk m c 0 t) inb_S1024x512_S1024x128_0_256
  generalize (View.ld (iblk m c 0 t) (Rect.unit (s := S1024x512) ![0, 256] ![1024, 128] inb_S1024x512_S1024x128_0_256)) = uX at hX ⊢
  have hD := ld2 (iblk m c 2 t) inb_S1024x512_S1024x128_0_256
  generalize (View.ld (iblk m c 2 t) (Rect.unit (s := S1024x512) ![0, 256] ![1024, 128] inb_S1024x512_S1024x128_0_256)) = uD at hD ⊢
  have hW := ldw2 (iblk m c 3 t) inb_S4x128x128_S1x128x128_2_0_0
  generalize (View.ld (iblk m c 3 t) (Rect.unit (s := S4x128x128) ![2, 0, 0] ![1, 128, 128] inb_S4x128x128_S1x128x128_2_0_0)) = uW at hW ⊢
  pointwise [k0_pay33, k0_pay30, k0_pay26, k0_pay27]
  simp only [hX, hD, hW, blk_d, blk_ct, blk_w]

theorem dyE3 (t : Fin cfg0.N) (a : Fin 1024) (l : Fin 128) : k0_pay36 (F := Ideal) (k0_pay7 (grid0.coords t) (iblk m c 1 t)) (View.ld (iblk m c 0 t) (Rect.unit (s := S1024x512) ![0, 384] ![1024, 128] inb_S1024x512_S1024x128_0_384)) (View.ld (iblk m c 4 t) (Rect.unit (s := S1x512) ![0, 384] ![1, 128] inb_S1x512_S1x128_0_384)) (ix2 ⟨a.val, by omega⟩ l)
    = act (m := m) c (ix3 0 (row t a) (chan 3 l)) * asc (m := m) c (ix2 0 (chan 3 l)) := by
  have hX := ld3 (iblk m c 0 t) inb_S1024x512_S1024x128_0_384
  generalize (View.ld (iblk m c 0 t) (Rect.unit (s := S1024x512) ![0, 384] ![1024, 128] inb_S1024x512_S1024x128_0_384)) = uX at hX ⊢
  have hB := ld3 (iblk m c 4 t) inb_S1x512_S1x128_0_384
  generalize (View.ld (iblk m c 4 t) (Rect.unit (s := S1x512) ![0, 384] ![1, 128] inb_S1x512_S1x128_0_384)) = uB at hB ⊢
  pointwise [k0_pay36, k0_pay35]
  rw [hX, hB, blk_ct, blk_sc]

theorem add_dw3 (t : Fin cfg0.N) (acc : Vec Ideal S1x128x128 .f32) (i o : Fin 128) : k0_pay3 (k0_pay36 (F := Ideal) (k0_pay7 (grid0.coords t) (iblk m c 1 t)) (View.ld (iblk m c 0 t) (Rect.unit (s := S1024x512) ![0, 384] ![1024, 128] inb_S1024x512_S1024x128_0_384)) (View.ld (iblk m c 4 t) (Rect.unit (s := S1x512) ![0, 384] ![1, 128] inb_S1x512_S1x128_0_384))) (View.ld (iblk m c 2 t) (Rect.unit (s := S1024x512) ![0, 384] ![1024, 128] inb_S1024x512_S1024x128_0_384)) acc (ix3 0 i o)
    = acc (ix3 0 i o) + ∑ a, diffs (m := m) c (ix3 (row t a) 3 i) * (act (m := m) c (ix3 0 (row t a) (chan 3 o)) * asc (m := m) c (ix2 0 (chan 3 o))) := by
  have hD := ld3 (iblk m c 2 t) inb_S1024x512_S1024x128_0_384
  generalize (View.ld (iblk m c 2 t) (Rect.unit (s := S1024x512) ![0, 384] ![1024, 128] inb_S1024x512_S1024x128_0_384)) = uD at hD ⊢
  pointwise [k0_pay3, k0_pay2]
  simp only [dyE3, hD, blk_d]

theorem add_ds3 (t : Fin cfg0.N) (acc : Vec Ideal S1x128 .f32) (o : Fin 128) : k0_pay4 (k0_pay34 (View.ld (iblk m c 3 t) (Rect.unit (s := S4x128x128) ![3, 0, 0] ![1, 128, 128] inb_S4x128x128_S1x128x128_3_0_0))) (k0_pay35 (View.ld (iblk m c 0 t) (Rect.unit (s := S1024x512) ![0, 384] ![1024, 128] inb_S1024x512_S1024x128_0_384))) (View.ld (iblk m c 2 t) (Rect.unit (s := S1024x512) ![0, 384] ![1024, 128] inb_S1024x512_S1024x128_0_384)) acc (ix2 0 o)
    = acc (ix2 0 o) + ∑ a, act (m := m) c (ix3 0 (row t a) (chan 3 o)) * ∑ l, diffs (m := m) c (ix3 (row t a) 3 l) * aw (m := m) c (ix4 0 3 l o) := by
  have hX := ld3 (iblk m c 0 t) inb_S1024x512_S1024x128_0_384
  generalize (View.ld (iblk m c 0 t) (Rect.unit (s := S1024x512) ![0, 384] ![1024, 128] inb_S1024x512_S1024x128_0_384)) = uX at hX ⊢
  have hD := ld3 (iblk m c 2 t) inb_S1024x512_S1024x128_0_384
  generalize (View.ld (iblk m c 2 t) (Rect.unit (s := S1024x512) ![0, 384] ![1024, 128] inb_S1024x512_S1024x128_0_384)) = uD at hD ⊢
  have hW := ldw3 (iblk m c 3 t) inb_S4x128x128_S1x128x128_3_0_0
  generalize (View.ld (iblk m c 3 t) (Rect.unit (s := S4x128x128) ![3, 0, 0] ![1, 128, 128] inb_S4x128x128_S1x128x128_3_0_0)) = uW at hW ⊢
  pointwise [k0_pay4, k0_pay2, k0_pay34, k0_pay35]
  simp only [hX, hD, hW, blk_d, blk_ct, blk_w]

/-! ## The gradients of the weights and of the scale -/

theorem zero_dw (i : S4x128x128.Idx) : k0_pay5 (F := Ideal) i = 0 := by pointwise! [k0_pay5]
theorem zero_ds (i : S1x512.Idx) : k0_pay6 (F := Ideal) i = 0 := by pointwise! [k0_pay6]

/-- The second result is the gradient of the four groups' weights. -/
theorem final_dw (c : Dev nD) : (dats m 0 c).arrAt 6 (cfgs 0).N = fun i : S4x128x128.Idx => dwOf (diffs (m := m) c) (asc (m := m) c) (act (m := m) c) (i 0) (i 1) (i 2) := by
  refine (dats m 0 c).arrAt_eq_of_covers 6 _ (by decide +kernel) fun t hf y => ?_
  rw [after0_6]
  have e : ((cfg0.win 6).blk t).view.emb y = y := by idx_vars y; blk_ext [idx_val t]
  refine Eq.trans ?_ (congrArg (fun i : S4x128x128.Idx => dwOf (diffs (m := m) c) (asc (m := m) c) (act (m := m) c) (i 0) (i 1) (i 2)) e).symm
  refine (acc_rows (fun n h => (outsAt0 m c n h).2.1) 4 1024 4096 rfl (fun s (i : S4x128x128.Idx) => diffs (m := m) c (ix3 s (i 0) (i 1)) * (act (m := m) c (ix3 0 s (chan (i 0) (i 2))) * asc (m := m) c (ix2 0 (chan (i 0) (i 2))))) row row_val ?_ ?_ t ((flush0_6 t).mp hf) y).trans rfl
  · intro t ht i; rw [outsAt0_A m c t ht]; frame_out
    exact slabs (fun i => ∑ a, diffs (m := m) c (ix3 (row t a) (i 0) (i 1)) * (act (m := m) c (ix3 0 (row t a) (chan (i 0) (i 2))) * asc (m := m) c (ix2 0 (chan (i 0) (i 2))))) _ _ _ _ _ _ _ _ _
      (fun r l => (add_dw0 t _ r l).trans ((congrArg (· + _) ((congrFun (View.readCov_fill _ _ _ _ _ (by decide)) _).trans (zero_dw _))).trans (zero_add _)))
      (fun r l => (add_dw1 t _ r l).trans ((congrArg (· + _) ((congrFun (View.readCov_skip _ _ _ _ _ (by decide)) _).trans ((congrFun (View.readCov_fill _ _ _ _ _ (by decide)) _).trans (zero_dw _)))).trans (zero_add _)))
      (fun r l => (add_dw2 t _ r l).trans ((congrArg (· + _) ((congrFun (View.readCov_skip _ _ _ _ _ (by decide)) _).trans ((congrFun (View.readCov_skip _ _ _ _ _ (by decide)) _).trans ((congrFun (View.readCov_fill _ _ _ _ _ (by decide)) _).trans (zero_dw _))))).trans (zero_add _)))
      (fun r l => (add_dw3 t _ r l).trans ((congrArg (· + _) ((congrFun (View.readCov_skip _ _ _ _ _ (by decide)) _).trans ((congrFun (View.readCov_skip _ _ _ _ _ (by decide)) _).trans ((congrFun (View.readCov_skip _ _ _ _ _ (by decide)) _).trans ((congrFun (View.readCov_fill _ _ _ _ _ (by decide)) _).trans (zero_dw _)))))).trans (zero_add _))) i
  · intro t ht i; rw [outsAt0_B m c t ht]; frame_out
    exact slabs (fun i => (outsAt0 m c (t.val - 1) _).2.1 i + ∑ a, diffs (m := m) c (ix3 (row t a) (i 0) (i 1)) * (act (m := m) c (ix3 0 (row t a) (chan (i 0) (i 2))) * asc (m := m) c (ix2 0 (chan (i 0) (i 2))))) _ _ _ _ [] _ _ _ _
      (fun r l => (add_dw0 t _ r l).trans (congrArg (· + _) (congrArg (outsAt0 m c (t.val - 1) _).2.1 (slab0 _ r l))))
      (fun r l => (add_dw1 t _ r l).trans (congrArg (· + _) (congrArg (outsAt0 m c (t.val - 1) _).2.1 (slab1 _ r l))))
      (fun r l => (add_dw2 t _ r l).trans (congrArg (· + _) (congrArg (outsAt0 m c (t.val - 1) _).2.1 (slab2 _ r l))))
      (fun r l => (add_dw3 t _ r l).trans (congrArg (· + _) (congrArg (outsAt0 m c (t.val - 1) _).2.1 (slab3 _ r l)))) i

/-- The third is the gradient of the scale. -/
theorem final_ds (c : Dev nD) : (dats m 0 c).arrAt 7 (cfgs 0).N = fun i : S1x512.Idx => dsOf (diffs (m := m) c) (aw (m := m) c) (act (m := m) c) (grp (i 1)) (pos (i 1)) := by
  refine (dats m 0 c).arrAt_eq_of_covers 7 _ (by decide +kernel) fun t hf y => ?_
  rw [after0_7]
  have e : ((cfg0.win 7).blk t).view.emb y = y := by idx_vars y; blk_ext [idx_val t]
  refine Eq.trans ?_ (congrArg (fun i : S1x512.Idx => dsOf (diffs (m := m) c) (aw (m := m) c) (act (m := m) c) (grp (i 1)) (pos (i 1))) e).symm
  refine (acc_rows (fun n h => (outsAt0 m c n h).2.2) 4 1024 4096 rfl (fun s (i : S1x512.Idx) => act (m := m) c (ix3 0 s (chan (grp (i 1)) (pos (i 1)))) * ∑ l, diffs (m := m) c (ix3 s (grp (i 1)) l) * aw (m := m) c (ix4 0 (grp (i 1)) l (pos (i 1)))) row row_val ?_ ?_ t ((flush0_7 t).mp hf) y).trans rfl
  · intro t ht i; rw [outsAt0_A m c t ht]; frame_out
    exact cols (fun i : S1x512.Idx => ∑ a, act (m := m) c (ix3 0 (row t a) (chan (grp (i 1)) (pos (i 1)))) * ∑ l, diffs (m := m) c (ix3 (row t a) (grp (i 1)) l) * aw (m := m) c (ix4 0 (grp (i 1)) l (pos (i 1)))) _ _ _ _ _ _ _ _ _
      (fun r l => by
        obtain rfl : r = 0 := Subsingleton.elim _ _
        show _ = (fun q p => ∑ a, act (m := m) c (ix3 0 (row t a) (chan q p)) * ∑ l, diffs (m := m) c (ix3 (row t a) q l) * aw (m := m) c (ix4 0 q l p)) (grp (chan 0 l)) (pos (chan 0 l))
        rw [grp_chan, pos_chan]
        exact (add_ds0 t _ l).trans ((congrArg (· + _) ((congrFun (View.readCov_fill _ _ _ _ _ (by decide)) _).trans (zero_ds _))).trans (zero_add _)))
      (fun r l => by
        obtain rfl : r = 0 := Subsingleton.elim _ _
        show _ = (fun q p => ∑ a, act (m := m) c (ix3 0 (row t a) (chan q p)) * ∑ l, diffs (m := m) c (ix3 (row t a) q l) * aw (m := m) c (ix4 0 q l p)) (grp (chan 1 l)) (pos (chan 1 l))
        rw [grp_chan, pos_chan]
        exact (add_ds1 t _ l).trans ((congrArg (· + _) ((congrFun (View.readCov_skip _ _ _ _ _ (by decide)) _).trans ((congrFun (View.readCov_fill _ _ _ _ _ (by decide)) _).trans (zero_ds _)))).trans (zero_add _)))
      (fun r l => by
        obtain rfl : r = 0 := Subsingleton.elim _ _
        show _ = (fun q p => ∑ a, act (m := m) c (ix3 0 (row t a) (chan q p)) * ∑ l, diffs (m := m) c (ix3 (row t a) q l) * aw (m := m) c (ix4 0 q l p)) (grp (chan 2 l)) (pos (chan 2 l))
        rw [grp_chan, pos_chan]
        exact (add_ds2 t _ l).trans ((congrArg (· + _) ((congrFun (View.readCov_skip _ _ _ _ _ (by decide)) _).trans ((congrFun (View.readCov_skip _ _ _ _ _ (by decide)) _).trans ((congrFun (View.readCov_fill _ _ _ _ _ (by decide)) _).trans (zero_ds _))))).trans (zero_add _)))
      (fun r l => by
        obtain rfl : r = 0 := Subsingleton.elim _ _
        show _ = (fun q p => ∑ a, act (m := m) c (ix3 0 (row t a) (chan q p)) * ∑ l, diffs (m := m) c (ix3 (row t a) q l) * aw (m := m) c (ix4 0 q l p)) (grp (chan 3 l)) (pos (chan 3 l))
        rw [grp_chan, pos_chan]
        exact (add_ds3 t _ l).trans ((congrArg (· + _) ((congrFun (View.readCov_skip _ _ _ _ _ (by decide)) _).trans ((congrFun (View.readCov_skip _ _ _ _ _ (by decide)) _).trans ((congrFun (View.readCov_skip _ _ _ _ _ (by decide)) _).trans ((congrFun (View.readCov_fill _ _ _ _ _ (by decide)) _).trans (zero_ds _)))))).trans (zero_add _))) i
  · intro t ht i; rw [outsAt0_B m c t ht]; frame_out
    exact cols (fun i : S1x512.Idx => (outsAt0 m c (t.val - 1) _).2.2 i + ∑ a, act (m := m) c (ix3 0 (row t a) (chan (grp (i 1)) (pos (i 1)))) * ∑ l, diffs (m := m) c (ix3 (row t a) (grp (i 1)) l) * aw (m := m) c (ix4 0 (grp (i 1)) l (pos (i 1)))) _ _ _ _ [] _ _ _ _
      (fun r l => by
        obtain rfl : r = 0 := Subsingleton.elim _ _
        show _ = (fun q p => (outsAt0 m c (t.val - 1) _).2.2 (ix2 0 (chan 0 l)) + ∑ a, act (m := m) c (ix3 0 (row t a) (chan q p)) * ∑ l, diffs (m := m) c (ix3 (row t a) q l) * aw (m := m) c (ix4 0 q l p)) (grp (chan 0 l)) (pos (chan 0 l))
        rw [grp_chan, pos_chan]
        exact (add_ds0 t _ l).trans (congrArg (· + _) (congrArg (outsAt0 m c (t.val - 1) _).2.2 (row0 _ l))))
      (fun r l => by
        obtain rfl : r = 0 := Subsingleton.elim _ _
        show _ = (fun q p => (outsAt0 m c (t.val - 1) _).2.2 (ix2 0 (chan 1 l)) + ∑ a, act (m := m) c (ix3 0 (row t a) (chan q p)) * ∑ l, diffs (m := m) c (ix3 (row t a) q l) * aw (m := m) c (ix4 0 q l p)) (grp (chan 1 l)) (pos (chan 1 l))
        rw [grp_chan, pos_chan]
        exact (add_ds1 t _ l).trans (congrArg (· + _) (congrArg (outsAt0 m c (t.val - 1) _).2.2 (row1 _ l))))
      (fun r l => by
        obtain rfl : r = 0 := Subsingleton.elim _ _
        show _ = (fun q p => (outsAt0 m c (t.val - 1) _).2.2 (ix2 0 (chan 2 l)) + ∑ a, act (m := m) c (ix3 0 (row t a) (chan q p)) * ∑ l, diffs (m := m) c (ix3 (row t a) q l) * aw (m := m) c (ix4 0 q l p)) (grp (chan 2 l)) (pos (chan 2 l))
        rw [grp_chan, pos_chan]
        exact (add_ds2 t _ l).trans (congrArg (· + _) (congrArg (outsAt0 m c (t.val - 1) _).2.2 (row2 _ l))))
      (fun r l => by
        obtain rfl : r = 0 := Subsingleton.elim _ _
        show _ = (fun q p => (outsAt0 m c (t.val - 1) _).2.2 (ix2 0 (chan 3 l)) + ∑ a, act (m := m) c (ix3 0 (row t a) (chan q p)) * ∑ l, diffs (m := m) c (ix3 (row t a) q l) * aw (m := m) c (ix4 0 q l p)) (grp (chan 3 l)) (pos (chan 3 l))
        rw [grp_chan, pos_chan]
        exact (add_ds3 t _ l).trans (congrArg (· + _) (congrArg (outsAt0 m c (t.val - 1) _).2.2 (row3 _ l)))) i

/-! ## What a tile stores of the rows' gradient -/

variable {D : Data} (h : Holds D (aw (m := m) c) (asc (m := m) c) (act (m := m) c))
include h

/-- The rows of the cotangent a tile reads, its own and the sixteen after it. -/
theorem ext_is (t : Fin cfg0.N) (r : Fin 1040) (j : Fin 512) :
    (if hr : r.val < 1024 then iblk m c 0 t (ix2 ⟨r.val, hr⟩ j) else k0_pay7 (F := Ideal) (grid0.coords t) (iblk m c 1 t) (ix2 ⟨r.val - 1024, by omega⟩ j))
      = (D.ctN (t.val * 1024 + r.val) j : EReal) := by
  have h4 : t.val < 4 := t.isLt
  unfold Data.ctN
  by_cases hr : r.val < 1024
  · rw [dif_pos hr, dif_pos (by omega), blk_ct, h.ct]
    rfl
  · rw [dif_neg hr]
    pointwise [k0_pay7]
    rw [coord_val]
    by_cases ht : t.val < 3
    · have e : Scalar.cmpi CmpIPredicate.slt (BitVec.ofNat 32 t.val) 3#32 = 1#1 := by
        obtain e | e | e : t.val = 0 ∨ t.val = 1 ∨ t.val = 2 := by omega
        all_goals rw [e]; rfl
      rw [e, dif_pos (by omega)]
      refine (blk_halo c t ht _ j).trans ((h.ct _ _).trans ?_)
      exact congrArg (fun s => ((D.ct s j : ℝ) : EReal)) (Fin.ext (by show t.val * 1024 + 1024 + (r.val - 1024) = t.val * 1024 + r.val; omega))
    · have e : Scalar.cmpi CmpIPredicate.slt (BitVec.ofNat 32 t.val) 3#32 = 0#1 := by
        obtain e : t.val = 3 := by omega
        rw [e]; rfl
      rw [e, dif_neg (by omega)]
      rfl

theorem dy0 (t : Fin cfg0.N) (r : Fin 1040) (l : Fin 128) : k0_pay11 (F := Ideal) (grid0.coords t) (iblk m c 1 t) (View.ld (iblk m c 0 t) (Rect.unit (s := S1024x512) ![0, 0] ![1024, 128] inb_S1024x512_S1024x128_0_0)) (View.ld (iblk m c 4 t) (Rect.unit (s := S1x512) ![0, 0] ![1, 128] inb_S1x512_S1x128_0_0)) (ix2 r l)
    = ((D.ctN (t.val * 1024 + r.val) (chan 0 l) * D.sc (chan 0 l) : ℝ) : EReal) := by
  have hX := ld0 (iblk m c 0 t) inb_S1024x512_S1024x128_0_0
  generalize (View.ld (iblk m c 0 t) (Rect.unit (s := S1024x512) ![0, 0] ![1024, 128] inb_S1024x512_S1024x128_0_0)) = uX at hX ⊢
  have hB := ld0 (iblk m c 4 t) inb_S1x512_S1x128_0_0
  generalize (View.ld (iblk m c 4 t) (Rect.unit (s := S1x512) ![0, 0] ![1, 128] inb_S1x512_S1x128_0_0)) = uB at hB ⊢
  pointwise [k0_pay11, k0_pay10]
  simp only [hX, hB, blk_sc, h.sc]
  rw [EReal.coe_mul, ← ext_is h t r (chan 0 l)]
  have e : ∀ hl, (⟨l.val, hl⟩ : Fin 512) = chan 0 l := fun _ => Fin.ext (by show l.val = 0 * 128 + l.val; omega)
  simp only [e]

theorem st_du0 (t : Fin cfg0.N) (a : Fin 1024) (j : Fin 128) : k0_pay13 (k0_pay12 (F := Ideal) (grid0.coords t) (iblk m c 1 t) (View.ld (iblk m c 3 t) (Rect.unit (s := S4x128x128) ![0, 0, 0] ![1, 128, 128] inb_S4x128x128_S1x128x128_0_0_0)) (View.ld (iblk m c 0 t) (Rect.unit (s := S1024x512) ![0, 0] ![1024, 128] inb_S1024x512_S1024x128_0_0)) (View.ld (iblk m c 4 t) (Rect.unit (s := S1x512) ![0, 0] ![1, 128] inb_S1x512_S1x128_0_0))) (ix2 a j) = (D.du 0 j (row t a) : EReal) := by
  have ha := a.isLt
  have rot1 : ∀ n, n + 1 < 1040 → (n + 1040 - 1039) % 1040 = n + 1 := fun n hn => by omega
  have cnt : ∀ r : Fin 1040, FloatOps.sitofp (F := Ideal) .f32 (IntOp.minsi (IntOp.addi (k0_pay8 (grid0.coords t) (ix2 r 0)) 1#32) 2#32) = (count 0 (t.val * 1024 + r.val) : EReal) :=
    fun r => cnt_is t r 0 _ rfl
  have hW := ldw0 (iblk m c 3 t) inb_S4x128x128_S1x128x128_0_0_0
  generalize (View.ld (iblk m c 3 t) (Rect.unit (s := S4x128x128) ![0, 0, 0] ![1, 128, 128] inb_S4x128x128_S1x128x128_0_0_0)) = uW at hW ⊢
  pointwise [k0_pay13, k0_pay12, k0_pay9]
  simp only [dy0 h, hW, blk_w, h.w, Data.ddN_is, cnt, div_coe _ (count_ne _ _), ← EReal.coe_add, ← EReal.coe_sub]
  refine congrArg _ ?_
  rw [D.du_is, show width 0 = 2 from rfl]
  simp (disch := omega) only [rot1]
  simp only [row, Finset.sum_range_succ, Finset.sum_range_zero, Nat.add_assoc, Nat.reduceAdd, Nat.add_zero]
  ring

theorem dy1 (t : Fin cfg0.N) (r : Fin 1040) (l : Fin 128) : k0_pay19 (F := Ideal) (k0_pay7 (grid0.coords t) (iblk m c 1 t)) (View.ld (iblk m c 0 t) (Rect.unit (s := S1024x512) ![0, 128] ![1024, 128] inb_S1024x512_S1024x128_0_128)) (View.ld (iblk m c 4 t) (Rect.unit (s := S1x512) ![0, 128] ![1, 128] inb_S1x512_S1x128_0_128)) (ix2 r l)
    = ((D.ctN (t.val * 1024 + r.val) (chan 1 l) * D.sc (chan 1 l) : ℝ) : EReal) := by
  have hX := ld1 (iblk m c 0 t) inb_S1024x512_S1024x128_0_128
  generalize (View.ld (iblk m c 0 t) (Rect.unit (s := S1024x512) ![0, 128] ![1024, 128] inb_S1024x512_S1024x128_0_128)) = uX at hX ⊢
  have hB := ld1 (iblk m c 4 t) inb_S1x512_S1x128_0_128
  generalize (View.ld (iblk m c 4 t) (Rect.unit (s := S1x512) ![0, 128] ![1, 128] inb_S1x512_S1x128_0_128)) = uB at hB ⊢
  pointwise [k0_pay19, k0_pay18]
  simp only [hX, hB, blk_sc, h.sc]
  rw [EReal.coe_mul, ← ext_is h t r (chan 1 l)]
  rfl

theorem st_du1 (t : Fin cfg0.N) (a : Fin 1024) (j : Fin 128) : k0_pay22 (k0_pay8 (grid0.coords t)) (k0_pay20 (F := Ideal) (k0_pay7 (grid0.coords t) (iblk m c 1 t)) (View.ld (iblk m c 3 t) (Rect.unit (s := S4x128x128) ![1, 0, 0] ![1, 128, 128] inb_S4x128x128_S1x128x128_1_0_0)) (View.ld (iblk m c 0 t) (Rect.unit (s := S1024x512) ![0, 128] ![1024, 128] inb_S1024x512_S1024x128_0_128)) (View.ld (iblk m c 4 t) (Rect.unit (s := S1x512) ![0, 128] ![1, 128] inb_S1x512_S1x128_0_128))) k0_pay21 (ix2 a j) = (D.du 1 j (row t a) : EReal) := by
  have ha := a.isLt
  have rot1 : ∀ n, n + 1 < 1040 → (n + 1040 - 1039) % 1040 = n + 1 := fun n hn => by omega
  have rot2 : ∀ n, n + 2 < 1040 → (n + 1040 - 1038) % 1040 = n + 2 := fun n hn => by omega
  have cnt : ∀ r : Fin 1040, FloatOps.sitofp (F := Ideal) .f32 (IntOp.minsi (IntOp.addi (k0_pay8 (grid0.coords t) (ix2 r 0)) 1#32) 4#32) = (count 1 (t.val * 1024 + r.val) : EReal) :=
    fun r => cnt_is t r 1 _ rfl
  have hW := ldw1 (iblk m c 3 t) inb_S4x128x128_S1x128x128_1_0_0
  generalize (View.ld (iblk m c 3 t) (Rect.unit (s := S4x128x128) ![1, 0, 0] ![1, 128, 128] inb_S4x128x128_S1x128x128_1_0_0)) = uW at hW ⊢
  pointwise [k0_pay22, k0_pay20, k0_pay21, k0_pay17]
  simp only [dy1 h, hW, blk_w, h.w, Data.ddN_is, cnt, div_coe _ (count_ne _ _), ← EReal.coe_add, ← EReal.coe_sub]
  refine congrArg _ ?_
  rw [D.du_is, show width 1 = 4 from rfl]
  simp (disch := omega) only [rot1, rot2]
  simp only [row, Finset.sum_range_succ, Finset.sum_range_zero, Nat.add_assoc, Nat.reduceAdd, Nat.add_zero]
  ring

theorem dy2 (t : Fin cfg0.N) (r : Fin 1040) (l : Fin 128) : k0_pay28 (F := Ideal) (k0_pay7 (grid0.coords t) (iblk m c 1 t)) (View.ld (iblk m c 0 t) (Rect.unit (s := S1024x512) ![0, 256] ![1024, 128] inb_S1024x512_S1024x128_0_256)) (View.ld (iblk m c 4 t) (Rect.unit (s := S1x512) ![0, 256] ![1, 128] inb_S1x512_S1x128_0_256)) (ix2 r l)
    = ((D.ctN (t.val * 1024 + r.val) (chan 2 l) * D.sc (chan 2 l) : ℝ) : EReal) := by
  have hX := ld2 (iblk m c 0 t) inb_S1024x512_S1024x128_0_256
  generalize (View.ld (iblk m c 0 t) (Rect.unit (s := S1024x512) ![0, 256] ![1024, 128] inb_S1024x512_S1024x128_0_256)) = uX at hX ⊢
  have hB := ld2 (iblk m c 4 t) inb_S1x512_S1x128_0_256
  generalize (View.ld (iblk m c 4 t) (Rect.unit (s := S1x512) ![0, 256] ![1, 128] inb_S1x512_S1x128_0_256)) = uB at hB ⊢
  pointwise [k0_pay28, k0_pay27]
  simp only [hX, hB, blk_sc, h.sc]
  rw [EReal.coe_mul, ← ext_is h t r (chan 2 l)]
  rfl

theorem st_du2 (t : Fin cfg0.N) (a : Fin 1024) (j : Fin 128) : k0_pay29 (F := Ideal) (k0_pay7 (grid0.coords t) (iblk m c 1 t)) (k0_pay8 (grid0.coords t)) (View.ld (iblk m c 3 t) (Rect.unit (s := S4x128x128) ![2, 0, 0] ![1, 128, 128] inb_S4x128x128_S1x128x128_2_0_0)) (View.ld (iblk m c 0 t) (Rect.unit (s := S1024x512) ![0, 256] ![1024, 128] inb_S1024x512_S1024x128_0_256)) (View.ld (iblk m c 4 t) (Rect.unit (s := S1x512) ![0, 256] ![1, 128] inb_S1x512_S1x128_0_256)) (ix2 a j) = (D.du 2 j (row t a) : EReal) := by
  have ha := a.isLt
  have rot1 : ∀ n, n + 1 < 1040 → (n + 1040 - 1039) % 1040 = n + 1 := fun n hn => by omega
  have rot2 : ∀ n, n + 2 < 1040 → (n + 1040 - 1038) % 1040 = n + 2 := fun n hn => by omega
  have rot4 : ∀ n, n + 4 < 1040 → (n + 1040 - 1036) % 1040 = n + 4 := fun n hn => by omega
  have cnt : ∀ r : Fin 1040, FloatOps.sitofp (F := Ideal) .f32 (IntOp.minsi (IntOp.addi (k0_pay8 (grid0.coords t) (ix2 r 0)) 1#32) 8#32) = (count 2 (t.val * 1024 + r.val) : EReal) :=
    fun r => cnt_is t r 2 _ rfl
  have hW := ldw2 (iblk m c 3 t) inb_S4x128x128_S1x128x128_2_0_0
  generalize (View.ld (iblk m c 3 t) (Rect.unit (s := S4x128x128) ![2, 0, 0] ![1, 128, 128] inb_S4x128x128_S1x128x128_2_0_0)) = uW at hW ⊢
  pointwise [k0_pay29, k0_pay26]
  simp only [dy2 h, hW, blk_w, h.w, Data.ddN_is, cnt, div_coe _ (count_ne _ _), ← EReal.coe_add, ← EReal.coe_sub]
  refine congrArg _ ?_
  rw [D.du_is, show width 2 = 8 from rfl]
  simp (disch := omega) only [rot1, rot2, rot4]
  simp only [row, Finset.sum_range_succ, Finset.sum_range_zero, Nat.add_assoc, Nat.reduceAdd, Nat.add_zero]
  ring

theorem dy3 (t : Fin cfg0.N) (r : Fin 1040) (l : Fin 128) : k0_pay36 (F := Ideal) (k0_pay7 (grid0.coords t) (iblk m c 1 t)) (View.ld (iblk m c 0 t) (Rect.unit (s := S1024x512) ![0, 384] ![1024, 128] inb_S1024x512_S1024x128_0_384)) (View.ld (iblk m c 4 t) (Rect.unit (s := S1x512) ![0, 384] ![1, 128] inb_S1x512_S1x128_0_384)) (ix2 r l)
    = ((D.ctN (t.val * 1024 + r.val) (chan 3 l) * D.sc (chan 3 l) : ℝ) : EReal) := by
  have hX := ld3 (iblk m c 0 t) inb_S1024x512_S1024x128_0_384
  generalize (View.ld (iblk m c 0 t) (Rect.unit (s := S1024x512) ![0, 384] ![1024, 128] inb_S1024x512_S1024x128_0_384)) = uX at hX ⊢
  have hB := ld3 (iblk m c 4 t) inb_S1x512_S1x128_0_384
  generalize (View.ld (iblk m c 4 t) (Rect.unit (s := S1x512) ![0, 384] ![1, 128] inb_S1x512_S1x128_0_384)) = uB at hB ⊢
  pointwise [k0_pay36, k0_pay35]
  simp only [hX, hB, blk_sc, h.sc]
  rw [EReal.coe_mul, ← ext_is h t r (chan 3 l)]
  rfl

set_option maxHeartbeats 2000000 in
theorem st_du3 (t : Fin cfg0.N) (a : Fin 1024) (j : Fin 128) : k0_pay1 (k0_pay37 (F := Ideal) (k0_pay7 (grid0.coords t) (iblk m c 1 t)) (View.ld (iblk m c 3 t) (Rect.unit (s := S4x128x128) ![3, 0, 0] ![1, 128, 128] inb_S4x128x128_S1x128x128_3_0_0)) (View.ld (iblk m c 0 t) (Rect.unit (s := S1024x512) ![0, 384] ![1024, 128] inb_S1024x512_S1024x128_0_384)) (View.ld (iblk m c 4 t) (Rect.unit (s := S1x512) ![0, 384] ![1, 128] inb_S1x512_S1x128_0_384))) (k0_pay38 (k0_pay7 (grid0.coords t) (iblk m c 1 t)) (k0_pay8 (grid0.coords t)) (View.ld (iblk m c 3 t) (Rect.unit (s := S4x128x128) ![3, 0, 0] ![1, 128, 128] inb_S4x128x128_S1x128x128_3_0_0)) (View.ld (iblk m c 0 t) (Rect.unit (s := S1024x512) ![0, 384] ![1024, 128] inb_S1024x512_S1024x128_0_384)) (View.ld (iblk m c 4 t) (Rect.unit (s := S1x512) ![0, 384] ![1, 128] inb_S1x512_S1x128_0_384))) 1032#32 (ix2 a j) = (D.du 3 j (row t a) : EReal) := by
  have ha := a.isLt
  have rot1 : ∀ n, n + 1 < 1040 → (n + 1040 - 1039) % 1040 = n + 1 := fun n hn => by omega
  have rot2 : ∀ n, n + 2 < 1040 → (n + 1040 - 1038) % 1040 = n + 2 := fun n hn => by omega
  have rot4 : ∀ n, n + 4 < 1040 → (n + 1040 - 1036) % 1040 = n + 4 := fun n hn => by omega
  have rot8 : ∀ n, n + 8 < 1040 → (n + 1040 - 1032) % 1040 = n + 8 := fun n hn => by omega
  have cnt : ∀ r : Fin 1040, FloatOps.sitofp (F := Ideal) .f32 (IntOp.minsi (IntOp.addi (k0_pay8 (grid0.coords t) (ix2 r 0)) 1#32) 16#32) = (count 3 (t.val * 1024 + r.val) : EReal) :=
    fun r => cnt_is t r 3 _ rfl
  have hW := ldw3 (iblk m c 3 t) inb_S4x128x128_S1x128x128_3_0_0
  generalize (View.ld (iblk m c 3 t) (Rect.unit (s := S4x128x128) ![3, 0, 0] ![1, 128, 128] inb_S4x128x128_S1x128x128_3_0_0)) = uW at hW ⊢
  pointwise [k0_pay1, k0_pay38, k0_pay37, k0_pay34]
  simp only [dy3 h, hW, blk_w, h.w, Data.ddN_is, cnt, div_coe _ (count_ne _ _), ← EReal.coe_add, ← EReal.coe_sub]
  refine congrArg _ ?_
  rw [D.du_is, show width 3 = 16 from rfl]
  simp (disch := omega) only [rot1, rot2, rot4, rot8]
  simp only [row, Finset.sum_range_succ, Finset.sum_range_zero, Nat.add_assoc, Nat.reduceAdd, Nat.add_zero]
  ring

/-- The first result is the gradient of the pooled rows. -/
theorem final_du : (dats m 0 c).arrAt 5 (cfgs 0).N = fun i : S4096x512.Idx => (D.du (grp (i 1)) (pos (i 1)) (i 0) : EReal) := by
  refine (dats m 0 c).arrAt_eq_of_covers 5 _ (by decide +kernel) fun t hf y => ?_
  rw [after0_5]
  idx_vars y
  have e : ((cfg0.win 5).blk t).view.emb (ix2 y0 y1) = ix2 (row t y0) y1 := by blk_ext [idx_val t]; rfl
  refine Eq.trans ?_ (congrArg (fun i : S4096x512.Idx => (D.du (grp (i 1)) (pos (i 1)) (i 0) : EReal)) e).symm
  blk_simp
  have key : ∀ (g : Fin 4) (r : Fin 1024) (l : Fin 128), ((D.du (grp (chan g l)) (pos (chan g l)) (row t r) : ℝ) : EReal) = (D.du g l (row t r) : EReal) :=
    fun g r l => by rw [grp_chan, pos_chan]
  by_cases h0 : t.val % 4 = 0
  · rw [outsAt0_A m c t h0]; frame_out
    exact cols (fun i : S1024x512.Idx => (D.du (grp (i 1)) (pos (i 1)) (row t (i 0)) : EReal)) _ _ _ _ [] _ _ _ _
      (fun r l => (st_du0 h t r l).trans (key 0 r l).symm)
      (fun r l => (st_du1 h t r l).trans (key 1 r l).symm)
      (fun r l => (st_du2 h t r l).trans (key 2 r l).symm)
      (fun r l => (st_du3 h t r l).trans (key 3 r l).symm) (ix2 y0 y1)
  · rw [outsAt0_B m c t h0]; frame_out
    exact cols (fun i : S1024x512.Idx => (D.du (grp (i 1)) (pos (i 1)) (row t (i 0)) : EReal)) _ _ _ _ [] _ _ _ _
      (fun r l => (st_du0 h t r l).trans (key 0 r l).symm)
      (fun r l => (st_du1 h t r l).trans (key 1 r l).symm)
      (fun r l => (st_du2 h t r l).trans (key 2 r l).symm)
      (fun r l => (st_du3 h t r l).trans (key 3 r l).symm) (ix2 y0 y1)

end Cert.KernelIdeal.Value

namespace Cert.ReferenceIdeal.Value

open Cert.ReferenceIdeal Cert.ReferenceIdeal.Read Cert.Pool

variable {D : Data} {x0 x3 : FVec Ideal S1x4096x512 .f32} {x1 : FVec Ideal S1x4x128x128 .f32} {x2 : FVec Ideal S1x512 .f32}

/-- The reference's three results. -/
theorem du_is (h : Holds D x1 x2 x3) (s : Fin 4096) (j : Fin 512) : val_main_v152 (F := Ideal) x1 x2 x3 (ix2 s j) = (D.du (grp j) (pos j) s : EReal) := by
  rw [← ref_du h s (grp j) (pos j), chan_pos]

theorem dw_is (g : Fin 4) (i o : Fin 128) : val_main_v96 (F := Ideal) x0 x2 x3 (ix3 g i o) = dwOf (val_main_v77 (F := Ideal) x0) x2 x3 g i o := ref_dw x0 x2 x3 g i o

theorem ds_is (j : Fin 512) : val_main_v153 (F := Ideal) x0 x1 x3 (ix2 0 j) = dsOf (val_main_v77 (F := Ideal) x0) x1 x3 (grp j) (pos j) := by
  rw [← ref_ds x0 x1 x3 (grp j) (pos j), chan_pos]

end Cert.ReferenceIdeal.Value

namespace Cert.Pool

open Cert.Pre_pool_finite

/-- The numbers the arguments hold. -/
def dataOf (w : FVec Ideal S1x4x128x128 .f32) (sc : FVec Ideal S1x512 .f32) (ct : FVec Ideal S1x4096x512 .f32) : Data where
  w g i o := EReal.toReal (w (ix4 0 g i o))
  sc j := EReal.toReal (sc (ix2 0 j))
  ct s j := EReal.toReal (ct (ix3 0 s j))

/-- The precondition gives weights, a scale and a cotangent that hold real numbers. -/
theorem holds_of_pre [Cert.Pre_pool_finite.Facts] {u : FVec Ideal S1x4096x512 .f32} {w : FVec Ideal S1x4x128x128 .f32} {sc : FVec Ideal S1x512 .f32} {ct : FVec Ideal S1x4096x512 .f32}
    (h : fn (F := Ideal) u w sc ct = fun _ => 1#1) : Holds (dataOf w sc ct) w sc ct := by
  have h0 := congrFun h (fun k => k.elim0)
  obtain ⟨h0, h2⟩ := IntOp.andi_eq_one.1 h0
  obtain ⟨h0, h1⟩ := IntOp.andi_eq_one.1 h0
  exact ⟨fun _ _ _ => Finite.real_of_all _ _ _ _ _ h0 _, fun _ => Finite.real_of_all _ _ _ _ _ h1 _, fun _ _ => Finite.real_of_all _ _ _ _ _ h2 _⟩

end Cert.Pool

end
-- ==== Proof.InprojValue.lean ====
/-
  The gradient of the embedding layer norm and the input projection: the reference's four results, each as one real
  function of the arguments.
-/
module

public import proofs.«01_k».proof.Proof.Gen.Kernel4Ideal.Value
public import proofs.«01_k».proof.Proof.Gen.Reference4Ideal.Read
public import proofs.«01_k».proof.Proof.NormMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Inproj

open Cert.NormMath

/-- The real numbers the arguments hold: the rows, the gain and shift, the weight, the four cotangents of the
    projection's parts and the cotangent of the residual branch. -/
structure Data where
  x : Fin 4096 → Fin 1024 → ℝ
  g : Fin 1024 → ℝ
  b : Fin 1024 → ℝ
  w : Fin 1024 → Fin 2048 → ℝ
  d : Fin 4 → Fin 4096 → Fin 512 → ℝ
  dp : Fin 4096 → Fin 1024 → ℝ

variable (D : Data)

/-- A column of part `c` of the projection. -/
def col (c : Fin 4) (j : Fin 512) : Fin 2048 := ⟨c.val * 512 + j.val, by omega⟩

/-- The normalised, scaled and shifted row. -/
def Data.y (s : Fin 4096) (k : Fin 1024) : ℝ := xhat (D.x s) k * D.g k + D.b k

/-- The cotangent of the layer norm's result. -/
def Data.dy (s : Fin 4096) (k : Fin 1024) : ℝ :=
  alpha * D.dp s k + ∑ c : Fin 4, ∑ j : Fin 512, D.d c s j * D.w k (col c j)

/-- The gradient of the rows. -/
def Data.gx (s : Fin 4096) (k : Fin 1024) : ℝ := back (D.x s) (fun i => D.dy s i * D.g i) k

/-- The gradient of the weight. -/
def Data.dw (c : Fin 4) (k : Fin 1024) (j : Fin 512) : ℝ := ∑ s : Fin 4096, D.y s k * D.d c s j

/-- The gradients of the gain and of the shift. -/
def Data.dg (k : Fin 1024) : ℝ := ∑ s : Fin 4096, D.dy s k * xhat (D.x s) k

def Data.db (k : Fin 1024) : ℝ := ∑ s : Fin 4096, D.dy s k

/-- The arguments hold the data's numbers. -/
structure Holds (x : FVec Ideal ⟨3, ![1, 4096, 1024]⟩ .f32) (g b : FVec Ideal ⟨1, ![1024]⟩ .f32) (w : FVec Ideal ⟨3, ![1, 1024, 2048]⟩ .f32)
    (dq dk dv du : FVec Ideal ⟨3, ![1, 4096, 512]⟩ .f32) (dp : FVec Ideal ⟨3, ![1, 4096, 1024]⟩ .f32) : Prop where
  x : ∀ s k, x (ix3 0 s k) = (D.x s k : EReal)
  g : ∀ k, g (ix1 k) = (D.g k : EReal)
  b : ∀ k, b (ix1 k) = (D.b k : EReal)
  w : ∀ k j, w (ix3 0 k j) = (D.w k j : EReal)
  d0 : ∀ s j, dq (ix3 0 s j) = (D.d 0 s j : EReal)
  d1 : ∀ s j, dk (ix3 0 s j) = (D.d 1 s j : EReal)
  d2 : ∀ s j, dv (ix3 0 s j) = (D.d 2 s j : EReal)
  d3 : ∀ s j, du (ix3 0 s j) = (D.d 3 s j : EReal)
  dp : ∀ s k, dp (ix3 0 s k) = (D.dp s k : EReal)

end Cert.Inproj

namespace Cert.Reference4Ideal.Value

open Cert.Reference4Ideal Cert.Reference4Ideal.Gen Cert.Reference4Ideal.Read
open Cert.Inproj Cert.NormMath

variable {D : Data} {x dp : FVec Ideal S1x4096x1024 .f32} {g b : FVec Ideal S1024 .f32} {w : FVec Ideal S1x1024x2048 .f32}
  {dq dk dv du : FVec Ideal S1x4096x512 .f32} (h : Holds D x g b w dq dk dv du dp)
include h

theorem dev_is (s : Fin 4096) (k : Fin 1024) : val_main_v7 (F := Ideal) x (ix2 s k) = (dev (D.x s) k : EReal) := by
  pointwise [val_main_v7, val_main_v6, val_main_v5, val_main_v4, val_main_v3, val_main_v2, val_main_v0, val_main_cst, val_main_cst_0]
  simp only [h.x, coe_sum, ofBits_1024, div_1024, ← EReal.coe_sub]
  rfl

theorem dev_is' (s : Fin 4096) (k : Fin 1024) : val_main_v16 (F := Ideal) x (ix2 s k) = (dev (D.x s) k : EReal) := by
  pointwise [val_main_v16, val_main_v15, val_main_v5, val_main_v4, val_main_v3, val_main_v2, val_main_v0, val_main_cst, val_main_cst_0]
  simp only [h.x, coe_sum, ofBits_1024, div_1024, ← EReal.coe_sub]
  rfl

theorem var_is (s : Fin 4096) : val_main_v18 (F := Ideal) x (ix2 s 0) = ((variance (D.x s) + eps : ℝ) : EReal) := by
  pointwise [val_main_v18, val_main_v17, val_main_v14, val_main_v13, val_main_v12, val_main_v11, val_main_v8, val_main_cst_2, val_main_cst_3, val_main_cst_4]
  simp only [dev_is h, coe_sum, ofBits_1024, div_1024, eps_spec.1, ← EReal.coe_mul, ← EReal.coe_add]
  rfl

theorem rdev_is (s : Fin 4096) : val_main_v19 (F := Ideal) x (ix2 s 0) = (rdev (D.x s) : EReal) := by
  pointwise [val_main_v19]
  rw [var_is h]
  exact rsqrt_pos (var_pos _)

theorem xhat_is (s : Fin 4096) (k : Fin 1024) : val_main_v24 (F := Ideal) x (ix2 s k) = (xhat (D.x s) k : EReal) := by
  pointwise [val_main_v24, val_main_v23]
  rw [dev_is' h, rdev_is h, ← EReal.coe_mul]
  rfl

theorem y_is (s : Fin 4096) (k : Fin 1024) : val_main_v30 (F := Ideal) x g b (ix2 s k) = (D.y s k : EReal) := by
  pointwise [val_main_v30, val_main_v29, val_main_v28, val_main_v27, val_main_v26, val_main_v25]
  rw [xhat_is h, h.g, h.b, ← EReal.coe_mul, ← EReal.coe_add]
  rfl

/-- The four cotangents side by side. -/
theorem parts_is (s : Fin 4096) (c : Fin 4) (j : Fin 512) : val_main_v45 (F := Ideal) dq dk dv du (ix2 s (col c j)) = (D.d c s j : EReal) := by
  have hj := j.isLt
  pointwise [val_main_v45, val_main_v38, val_main_v39, val_main_v40, val_main_v41]
  obtain rfl | rfl | rfl | rfl : c = 0 ∨ c = 1 ∨ c = 2 ∨ c = 3 := by revert c; decide
  · rw [dif_pos (show (col 0 j).val < 512 by show 0 * 512 + j.val < 512; omega)]
    exact (congrArg dq (congrArg (ix3 0 s) (Fin.ext (by show 0 * 512 + j.val = j.val; omega)))).trans (h.d0 s j)
  · rw [dif_neg (show ¬ (col 1 j).val < 512 by show ¬ 1 * 512 + j.val < 512; omega), dif_pos (show (col 1 j).val - 512 < 512 by show 1 * 512 + j.val - 512 < 512; omega)]
    exact (congrArg dk (congrArg (ix3 0 s) (Fin.ext (by show 1 * 512 + j.val - 512 = j.val; omega)))).trans (h.d1 s j)
  · rw [dif_neg (show ¬ (col 2 j).val < 512 by show ¬ 2 * 512 + j.val < 512; omega), dif_neg (show ¬ (col 2 j).val - 512 < 512 by show ¬ 2 * 512 + j.val - 512 < 512; omega),
      dif_pos (show (col 2 j).val - 512 - 512 < 512 by show 2 * 512 + j.val - 512 - 512 < 512; omega)]
    exact (congrArg dv (congrArg (ix3 0 s) (Fin.ext (by show 2 * 512 + j.val - 512 - 512 = j.val; omega)))).trans (h.d2 s j)
  · rw [dif_neg (show ¬ (col 3 j).val < 512 by show ¬ 3 * 512 + j.val < 512; omega), dif_neg (show ¬ (col 3 j).val - 512 < 512 by show ¬ 3 * 512 + j.val - 512 < 512; omega),
      dif_neg (show ¬ (col 3 j).val - 512 - 512 < 512 by show ¬ 3 * 512 + j.val - 512 - 512 < 512; omega)]
    exact (congrArg du (congrArg (ix3 0 s) (Fin.ext (by show 3 * 512 + j.val - 512 - 512 - 512 = j.val; omega)))).trans (h.d3 s j)

theorem dy_is (s : Fin 4096) (k : Fin 1024) : val_main_v49 (F := Ideal) w dq dk dv du dp (ix2 s k) = (D.dy s k : EReal) := by
  pointwise [val_main_v49, val_main_v48, val_main_v44, val_main_v43, val_main_v42, val_main_v1, val_main_cst_7]
  rw [Fin.sum_univ_tiles 4 512 rfl]
  have e : ∀ (c : Fin 4) (j : Fin 512), val_main_v45 (F := Ideal) dq dk dv du (ix2 s ⟨c.val * 512 + j.val, by omega⟩) * w (ix3 0 k ⟨c.val * 512 + j.val, by omega⟩)
      = ((D.d c s j * D.w k (col c j) : ℝ) : EReal) := fun c j => by
    rw [EReal.coe_mul, ← h.w, ← parts_is h]; rfl
  simp only [e, coe_sum, h.dp, alpha_spec, ← EReal.coe_mul, ← EReal.coe_add]
  rfl

theorem dw_is (c : Fin 4) (k : Fin 1024) (j : Fin 512) : val_main_v84 (F := Ideal) x g b dq dk dv du (ix3 c k j) = (D.dw c k j : EReal) := by
  pointwise [val_main_v84, val_main_v83, val_main_v47, val_main_v46]
  have e : ∀ s : Fin 4096, val_main_v45 (F := Ideal) dq dk dv du (ix2 s ⟨c.val * 512 + j.val, by omega⟩) * val_main_v30 (F := Ideal) x g b (ix2 s k)
      = ((D.y s k * D.d c s j : ℝ) : EReal) := fun s => by
    rw [y_is h, mul_comm, EReal.coe_mul, ← parts_is h]; rfl
  simp only [e, coe_sum]
  rfl

theorem dg_is (k : Fin 1024) : val_main_v85 (F := Ideal) x w dq dk dv du dp (ix2 0 k) = (D.dg k : EReal) := by
  pointwise [val_main_v85, val_main_v58, val_main_v55, val_main_v54, val_main_v53, val_main_cst_10, val_main_cst_11]
  simp only [Fin.sum_univ_one, dy_is h, xhat_is h, coe_sum, ← EReal.coe_mul]
  exact congrArg _ (Finset.sum_congr rfl fun s _ => mul_comm _ _)

theorem db_is (k : Fin 1024) : val_main_v86 (F := Ideal) w dq dk dv du dp (ix2 0 k) = (D.db k : EReal) := by
  pointwise [val_main_v86, val_main_v52, val_main_v51, val_main_v50, val_main_cst_8, val_main_cst_9]
  simp only [Fin.sum_univ_one, dy_is h, coe_sum]
  rfl

theorem gx_is (s : Fin 4096) (k : Fin 1024) : val_main_v82 (F := Ideal) x g w dq dk dv du dp (ix2 s k) = (D.gx s k : EReal) := by
  pointwise [val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65, val_main_v64,
    val_main_v63, val_main_v62, val_main_v61, val_main_v60, val_main_v59, val_main_v57, val_main_v56, val_main_v25, val_main_v22, val_main_v21, val_main_v20,
    val_main_v10, val_main_v9, val_main_cst_1, val_main_cst_5, val_main_cst_12, val_main_cst_13, val_main_cst_14, val_main_cst_15, val_main_cst_16,
    val_main_cst_17, val_main_cst_18]
  simp only [Fin.sum_univ_one, dy_is h, dev_is h, dev_is' h, rdev_is h, var_is h, h.g, coe_sum, ofBits_1024, ofBits_two, ofBits_neg_half, div_1024,
    div_coe _ (var_pos _).ne', ← EReal.coe_mul, ← EReal.coe_add, ← EReal.coe_neg]
  exact congrArg _ (back_eq (D.x s) (fun i => D.dy s i * D.g i) k)

end Cert.Reference4Ideal.Value

end
-- ==== Proof.InprojKernel.lean ====
/-
  The kernel of the gradient of the embedding layer norm and the input projection: its four results, each as one real
  function of the arguments.
-/
module

public import proofs.«01_k».proof.Proof.Gen.Kernel4Ideal.Value
public import proofs.«01_k».proof.Proof.Gen.Reference4Ideal.Read
public import proofs.«01_k».proof.Proof.InprojValue
public import proofs.«01_k».proof.Proof.Finite
public import proofs.«01_k».proof.Proof.Gen.Pre_inproj_finite
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel4Ideal.Value

open Cert.Kernel4Ideal Cert.Kernel4Ideal.Gen
open Cert.Inproj Cert.NormMath

variable (m : (ℓ : Loc nD τ sig) → Buf (Elt Ideal) ℓ)

theorem idx_val : ∀ t : Fin cfg0.N, win0_0.index t = ![t.val, 0]
    ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0]
    ∧ win0_7.index t = ![0, 0] ∧ win0_8.index t = ![0, 0]
    ∧ win0_9.index t = ![0, 0, 0]
    ∧ win0_10.index t = ![t.val, 0]
    ∧ win0_11.index t = ![0, 0, 0]
    ∧ win0_12.index t = ![0, 0]
    ∧ win0_13.index t = ![0, 0] :=
  (by decide +kernel : ∀ t : Fin grid0.N, _)

/-- What the host hands the kernel: the normalised rows and the reciprocal deviations are the reference's own lines. -/
theorem V_xh (c : Dev nD) : V m c main_v18 = Cert.Reference4Ideal.Read.val_main_v24 (F := Ideal) (m ((c : Thread nD τ).loc main_arg0)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_r (c : Dev nD) : V m c main_v14 = Cert.Reference4Ideal.Read.val_main_v19 (F := Ideal) (m ((c : Thread nD τ).loc main_arg0)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The rows of a cotangent. -/
def rows (d : FVec Ideal S1x4096x512 .f32) : FVec Ideal S4096x512 .f32 := shapeCast S4096x512 d shapeCasts_S1x4096x512_S4096x512

/-- The rows of the residual branch's cotangent. -/
def rowsDp (d : FVec Ideal S1x4096x1024 .f32) : FVec Ideal S4096x1024 .f32 := shapeCast S4096x1024 d shapeCasts_S1x4096x1024_S4096x1024

/-- A vector as a row. -/
def rowOf (g : FVec Ideal S1024 .f32) : FVec Ideal S1x1024 .f32 := shapeCast S1x1024 g shapeCasts_S1024_S1x1024

/-- The weight, its columns in four parts. -/
def hostW (w : FVec Ideal S1x1024x2048 .f32) : FVec Ideal S4x1024x512 .bf16 :=
  transpose S4x1024x512 [1, 0, 2] (shapeCast S1024x4x512 (truncf .bf16 (shapeCast S1024x2048 w shapeCasts_S1x1024x2048_S1024x2048) bitsLt_bf16_f32)
    shapeCasts_S1024x2048_S1024x4x512) transposes_S1024x4x512_S4x1024x512_1_0_2

theorem V_d0 (c : Dev nD) : V m c main_v23 = rows (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_d1 (c : Dev nD) : V m c main_v24 = rows (m ((c : Thread nD τ).loc main_arg5)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_d2 (c : Dev nD) : V m c main_v25 = rows (m ((c : Thread nD τ).loc main_arg6)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_d3 (c : Dev nD) : V m c main_v26 = rows (m ((c : Thread nD τ).loc main_arg7)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_dp (c : Dev nD) : V m c main_v27 = rowsDp (m ((c : Thread nD τ).loc main_arg8)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g (c : Dev nD) : V m c main_v28 = rowOf (m ((c : Thread nD τ).loc main_arg1)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_b (c : Dev nD) : V m c main_v29 = rowOf (m ((c : Thread nD τ).loc main_arg2)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_w (c : Dev nD) : V m c main_v22 = hostW (m ((c : Thread nD τ).loc main_arg3)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The row of the whole array that row `a` of tile `t` is. -/
def row (t : Fin cfg0.N) (a : Fin 512) : Fin 4096 := ⟨t.val * 512 + a.val, by have h : t.val < 8 := t.isLt; omega⟩

variable {m} {c : Dev nD} {D : Data} (h : Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include h

theorem blk_d0 (t : Fin cfg0.N) (a j : Fin 512) : iblk m c 0 t (ix2 a j) = (D.d 0 (row t a) j : EReal) := by
  have e : ((cfg0.win 0).blk t).view.emb (ix2 a j) = ix2 (row t a) j := by blk_ext [idx_val t]; rfl
  show V m c main_v23 (((cfg0.win 0).blk t).view.emb (ix2 a j)) = _
  rw [V_d0, e, ← h.d0]
  pointwise [rows]

theorem blk_d1 (t : Fin cfg0.N) (a j : Fin 512) : iblk m c 1 t (ix2 a j) = (D.d 1 (row t a) j : EReal) := by
  have e : ((cfg0.win 1).blk t).view.emb (ix2 a j) = ix2 (row t a) j := by blk_ext [idx_val t]; rfl
  show V m c main_v24 (((cfg0.win 1).blk t).view.emb (ix2 a j)) = _
  rw [V_d1, e, ← h.d1]
  pointwise [rows]

theorem blk_d2 (t : Fin cfg0.N) (a j : Fin 512) : iblk m c 2 t (ix2 a j) = (D.d 2 (row t a) j : EReal) := by
  have e : ((cfg0.win 2).blk t).view.emb (ix2 a j) = ix2 (row t a) j := by blk_ext [idx_val t]; rfl
  show V m c main_v25 (((cfg0.win 2).blk t).view.emb (ix2 a j)) = _
  rw [V_d2, e, ← h.d2]
  pointwise [rows]

theorem blk_d3 (t : Fin cfg0.N) (a j : Fin 512) : iblk m c 3 t (ix2 a j) = (D.d 3 (row t a) j : EReal) := by
  have e : ((cfg0.win 3).blk t).view.emb (ix2 a j) = ix2 (row t a) j := by blk_ext [idx_val t]; rfl
  show V m c main_v26 (((cfg0.win 3).blk t).view.emb (ix2 a j)) = _
  rw [V_d3, e, ← h.d3]
  pointwise [rows]

theorem blk_dp (t : Fin cfg0.N) (a : Fin 512) (k : Fin 1024) : iblk m c 4 t (ix2 a k) = (D.dp (row t a) k : EReal) := by
  have e : ((cfg0.win 4).blk t).view.emb (ix2 a k) = ix2 (row t a) k := by blk_ext [idx_val t]; rfl
  show V m c main_v27 (((cfg0.win 4).blk t).view.emb (ix2 a k)) = _
  rw [V_dp, e, ← h.dp]
  pointwise [rowsDp]

theorem blk_xh (t : Fin cfg0.N) (a : Fin 512) (k : Fin 1024) : iblk m c 5 t (ix2 a k) = (xhat (D.x (row t a)) k : EReal) := by
  have e : ((cfg0.win 5).blk t).view.emb (ix2 a k) = ix2 (row t a) k := by blk_ext [idx_val t]; rfl
  show V m c main_v18 (((cfg0.win 5).blk t).view.emb (ix2 a k)) = _
  rw [V_xh, e]
  exact Cert.Reference4Ideal.Value.xhat_is h _ _

theorem blk_r (t : Fin cfg0.N) (a : Fin 512) : iblk m c 6 t (ix2 a 0) = (rdev (D.x (row t a)) : EReal) := by
  have e : ((cfg0.win 6).blk t).view.emb (ix2 a 0) = ix2 (row t a) 0 := by blk_ext [idx_val t]; rfl
  show V m c main_v14 (((cfg0.win 6).blk t).view.emb (ix2 a 0)) = _
  rw [V_r, e]
  exact Cert.Reference4Ideal.Value.rdev_is h _

theorem blk_g (t : Fin cfg0.N) (k : Fin 1024) : iblk m c 7 t (ix2 0 k) = (D.g k : EReal) := by
  have e : ((cfg0.win 7).blk t).view.emb (ix2 0 k) = ix2 0 k := by blk_ext [idx_val t]
  show V m c main_v28 (((cfg0.win 7).blk t).view.emb (ix2 0 k)) = _
  rw [V_g, e, ← h.g]
  pointwise [rowOf]

theorem blk_b (t : Fin cfg0.N) (k : Fin 1024) : iblk m c 8 t (ix2 0 k) = (D.b k : EReal) := by
  have e : ((cfg0.win 8).blk t).view.emb (ix2 0 k) = ix2 0 k := by blk_ext [idx_val t]
  show V m c main_v29 (((cfg0.win 8).blk t).view.emb (ix2 0 k)) = _
  rw [V_b, e, ← h.b]
  pointwise [rowOf]

theorem blk_w (t : Fin cfg0.N) (q : Fin 4) (k : Fin 1024) (j : Fin 512) : iblk m c 9 t (ix3 q k j) = (D.w k (col q j) : EReal) := by
  have e : ((cfg0.win 9).blk t).view.emb (ix3 q k j) = ix3 q k j := by blk_ext [idx_val t]
  show V m c main_v22 (((cfg0.win 9).blk t).view.emb (ix3 q k j)) = _
  rw [V_w, e, ← h.w]
  pointwise [hostW]
  rfl

/-- The cotangent of the layer norm's result, at a point. -/
theorem pay_dy (t : Fin cfg0.N) (a : Fin 512) (k : Fin 1024) (i0 i1 i2 i3) :
    k0_pay16 (k0_pay13 (k0_pay8 (iblk m c 4 t) (iblk m c 0 t) (View.ld (iblk m c 9 t) (Rect.unit ![0, 0, 0] ![1, 1024, 512] i0)))
      (iblk m c 1 t) (View.ld (iblk m c 9 t) (Rect.unit ![1, 0, 0] ![1, 1024, 512] i1))
      (iblk m c 2 t) (View.ld (iblk m c 9 t) (Rect.unit ![2, 0, 0] ![1, 1024, 512] i2)))
      (k0_pay15 (iblk m c 3 t)) (View.ld (iblk m c 9 t) (Rect.unit ![3, 0, 0] ![1, 1024, 512] i3)) (ix2 a k) = (D.dy (row t a) k : EReal) := by
  pointwise [k0_pay16, k0_pay13, k0_pay8, k0_pay15, k0_pay7, k0_pay10, k0_pay12]
  simp only [blk_dp h, blk_d0 h, blk_d1 h, blk_d2 h, blk_d3 h, blk_w h, alpha_spec, coe_sum, ← EReal.coe_mul, ← EReal.coe_add]
  refine congrArg _ ?_
  rw [Data.dy, Fin.sum_univ_four]
  ring

theorem pay_y (t : Fin cfg0.N) (a : Fin 512) (k : Fin 1024) :
    k0_pay6 (iblk m c 5 t) (iblk m c 7 t) (iblk m c 8 t) (ix2 a k) = (D.y (row t a) k : EReal) := by
  pointwise [k0_pay6, k0_pay5]
  rw [blk_xh h, blk_g h, blk_b h, ← EReal.coe_mul, ← EReal.coe_add]
  rfl

/-- The input's gradient at a point. -/
theorem pay_gx (t : Fin cfg0.N) (a : Fin 512) (k : Fin 1024) (S : FVec Ideal S512x1024 .f32) (P : FVec Ideal S512x512 .bf16) (w : Vec Ideal S1x1024x512 .bf16)
    (hS : ∀ k, k0_pay16 S P w (ix2 a k) = (D.dy (row t a) k : EReal)) :
    k0_pay1 (k0_pay5 (iblk m c 5 t)) (k0_pay20 (iblk m c 6 t)) (k0_pay21 S P w (iblk m c 7 t)) (ix2 a k) = (D.gx (row t a) k : EReal) := by
  pointwise [k0_pay1, k0_pay5, k0_pay20, k0_pay21]
  simp only [hS, blk_xh h, blk_r h, blk_g h, coe_sum, ofBits_1024, div_1024, ← EReal.coe_mul, ← EReal.coe_sub]
  rfl

omit h in
theorem emb0 (i0) (k : Fin 1024) (j : Fin 512) : (Rect.unit (s := S4x1024x512) ![0, 0, 0] ![1, 1024, 512] i0).emb (ix3 0 k j) = ix3 0 k j := by blk_ext
omit h in
theorem emb1 (i1) (k : Fin 1024) (j : Fin 512) : (Rect.unit (s := S4x1024x512) ![1, 0, 0] ![1, 1024, 512] i1).emb (ix3 0 k j) = ix3 1 k j := by blk_ext
omit h in
theorem emb2 (i2) (k : Fin 1024) (j : Fin 512) : (Rect.unit (s := S4x1024x512) ![2, 0, 0] ![1, 1024, 512] i2).emb (ix3 0 k j) = ix3 2 k j := by blk_ext
omit h in
theorem emb3 (i3) (k : Fin 1024) (j : Fin 512) : (Rect.unit (s := S4x1024x512) ![3, 0, 0] ![1, 1024, 512] i3).emb (ix3 0 k j) = ix3 3 k j := by blk_ext

omit h in
/-- Four slabs stored over a buffer: where each is its part of one function, the buffer holds that function. -/
theorem slabs (G : S4x1024x512.Idx → Elt Ideal .f32) (p0 p1 p2 p3 : S1x1024x512.Idx → Elt Ideal .f32) (L : List (View.Piece (Elt Ideal) S4x1024x512 .f32)) (i0 i1 i2 i3)
    (h0 : ∀ k j, p0 (ix3 0 k j) = G (ix3 0 k j)) (h1 : ∀ k j, p1 (ix3 0 k j) = G (ix3 1 k j))
    (h2 : ∀ k j, p2 (ix3 0 k j) = G (ix3 2 k j)) (h3 : ∀ k j, p3 (ix3 0 k j) = G (ix3 3 k j)) (i : S4x1024x512.Idx) :
    View.canon (⟨Rect.unit ![3, 0, 0] ![1, 1024, 512] i3, p3⟩ :: ⟨Rect.unit ![2, 0, 0] ![1, 1024, 512] i2, p2⟩ ::
      ⟨Rect.unit ![1, 0, 0] ![1, 1024, 512] i1, p1⟩ :: ⟨Rect.unit ![0, 0, 0] ![1, 1024, 512] i0, p0⟩ :: L) i = G i := by
  have all : ∀ {p : S1x1024x512.Idx → Elt Ideal .f32} {G' : S1x1024x512.Idx → Elt Ideal .f32}, (∀ k j, p (ix3 0 k j) = G' (ix3 0 k j)) → ∀ x, p x = G' x :=
    fun hp x => by idx_vars x; obtain rfl : x0 = 0 := Subsingleton.elim _ _; exact hp _ _
  have cov : ∀ (q : Fin 4) (k : Fin 1024) (j : Fin 512) (r : Rect S4x1024x512) (hr : r.shape = S1x1024x512) (x : r.shape.Idx), r.emb x = ix3 q k j → ix3 q k j ∈ r.set :=
    fun q k j r _ x e => e ▸ LoadRect.idx_mem r.toLoadRect x
  have h := View.canon_append_of_piecesOf G L [⟨Rect.unit ![3, 0, 0] ![1, 1024, 512] i3, p3⟩, ⟨Rect.unit ![2, 0, 0] ![1, 1024, 512] i2, p2⟩,
    ⟨Rect.unit ![1, 0, 0] ![1, 1024, 512] i1, p1⟩, ⟨Rect.unit ![0, 0, 0] ![1, 1024, 512] i0, p0⟩]
    ⟨all fun k j => (h3 k j).trans (congrArg G (emb3 i3 k j)).symm, all fun k j => (h2 k j).trans (congrArg G (emb2 i2 k j)).symm,
      all fun k j => (h1 k j).trans (congrArg G (emb1 i1 k j)).symm, all fun k j => (h0 k j).trans (congrArg G (emb0 i0 k j)).symm, trivial⟩ i
  refine h ?_
  obtain ⟨q, k, j, rfl⟩ : ∃ q k j, i = ix3 q k j := ⟨i 0, i 1, i 2, by funext a; fin_cases a <;> rfl⟩
  clear h
  obtain rfl | rfl | rfl | rfl : q = 0 ∨ q = 1 ∨ q = 2 ∨ q = 3 := by revert q; decide
  · exact ⟨_, List.mem_cons_of_mem _ (List.mem_cons_of_mem _ (List.mem_cons_of_mem _ List.mem_cons_self)), cov _ k j _ rfl (ix3 0 k j) (emb0 i0 k j)⟩
  · exact ⟨_, List.mem_cons_of_mem _ (List.mem_cons_of_mem _ List.mem_cons_self), cov _ k j _ rfl (ix3 0 k j) (emb1 i1 k j)⟩
  · exact ⟨_, List.mem_cons_of_mem _ List.mem_cons_self, cov _ k j _ rfl (ix3 0 k j) (emb2 i2 k j)⟩
  · exact ⟨_, List.mem_cons_self, cov _ k j _ rfl (ix3 0 k j) (emb3 i3 k j)⟩

omit h in
theorem row_val (t : Fin cfg0.N) (a : Fin 512) : (row t a).val = t.val % 8 * 512 + a.val := by
  rw [Nat.mod_eq_of_lt (show t.val < 8 from t.isLt)]
  rfl

/-- What a point adds to the two rows of sums. -/
theorem add_db (t : Fin cfg0.N) (k : Fin 1024) (S : FVec Ideal S512x1024 .f32) (P : FVec Ideal S512x512 .bf16) (w : Vec Ideal S1x1024x512 .bf16)
    (hS : ∀ a k, k0_pay16 S P w (ix2 a k) = (D.dy (row t a) k : EReal)) (p : Vec Ideal S1x1024 .f32) :
    k0_pay19 S P w p (ix2 0 k) = p (ix2 0 k) + ((∑ a : Fin 512, D.dy (row t a) k : ℝ) : EReal) := by
  pointwise [k0_pay19]
  simp only [hS, coe_sum]

theorem add_dg (t : Fin cfg0.N) (k : Fin 1024) (S : FVec Ideal S512x1024 .f32) (P : FVec Ideal S512x512 .bf16) (w : Vec Ideal S1x1024x512 .bf16)
    (hS : ∀ a k, k0_pay16 S P w (ix2 a k) = (D.dy (row t a) k : EReal)) (p : Vec Ideal S1x1024 .f32) :
    k0_pay18 (k0_pay5 (iblk m c 5 t)) S P w p (ix2 0 k) = p (ix2 0 k) + ((∑ a : Fin 512, D.dy (row t a) k * xhat (D.x (row t a)) k : ℝ) : EReal) := by
  pointwise [k0_pay18, k0_pay5]
  simp only [hS, blk_xh h, coe_sum, ← EReal.coe_mul]

/-- What a point adds to the four slabs of the weight's gradient. -/
def addDw (D : Data) (t : Fin cfg0.N) (q : Fin 4) (k : Fin 1024) (j : Fin 512) : ℝ := ∑ a : Fin 512, D.y (row t a) k * D.d q (row t a) j

theorem add_dw0 (t : Fin cfg0.N) (k : Fin 1024) (j : Fin 512) (p : Vec Ideal S1x1024x512 .f32) :
    k0_pay9 (iblk m c 5 t) (iblk m c 7 t) (iblk m c 8 t) (iblk m c 0 t) p (ix3 0 k j) = p (ix3 0 k j) + (addDw D t 0 k j : EReal) := by
  pointwise [k0_pay9, k0_pay7]
  simp only [pay_y h, blk_d0 h, coe_sum, ← EReal.coe_mul]
  rfl

theorem add_dw1 (t : Fin cfg0.N) (k : Fin 1024) (j : Fin 512) (p : Vec Ideal S1x1024x512 .f32) :
    k0_pay11 (k0_pay6 (iblk m c 5 t) (iblk m c 7 t) (iblk m c 8 t)) (iblk m c 1 t) p (ix3 0 k j) = p (ix3 0 k j) + (addDw D t 1 k j : EReal) := by
  pointwise [k0_pay11, k0_pay10]
  simp only [pay_y h, blk_d1 h, coe_sum, ← EReal.coe_mul]
  rfl

theorem add_dw2 (t : Fin cfg0.N) (k : Fin 1024) (j : Fin 512) (p : Vec Ideal S1x1024x512 .f32) :
    k0_pay14 (k0_pay6 (iblk m c 5 t) (iblk m c 7 t) (iblk m c 8 t)) (iblk m c 2 t) p (ix3 0 k j) = p (ix3 0 k j) + (addDw D t 2 k j : EReal) := by
  pointwise [k0_pay14, k0_pay12]
  simp only [pay_y h, blk_d2 h, coe_sum, ← EReal.coe_mul]
  rfl

theorem add_dw3 (t : Fin cfg0.N) (k : Fin 1024) (j : Fin 512) (p : Vec Ideal S1x1024x512 .f32) :
    k0_pay17 (k0_pay6 (iblk m c 5 t) (iblk m c 7 t) (iblk m c 8 t)) (k0_pay15 (iblk m c 3 t)) p (ix3 0 k j) = p (ix3 0 k j) + (addDw D t 3 k j : EReal) := by
  pointwise [k0_pay17, k0_pay15]
  simp only [pay_y h, blk_d3 h, coe_sum, ← EReal.coe_mul]
  rfl

omit h in
theorem zero2 (j : S4x1024x512.Idx) : k0_pay2 (F := Ideal) j = 0 := by pointwise! [k0_pay2]
omit h in
theorem zero3 (j : S1x1024.Idx) : k0_pay3 (F := Ideal) j = 0 := by pointwise! [k0_pay3]
omit h in
theorem zero4 (j : S1x1024.Idx) : k0_pay4 (F := Ideal) j = 0 := by pointwise! [k0_pay4]

/-- The kernel's first result is the gradient of the rows. -/
theorem final_gx : (dats m 0 c).arrAt 10 (cfgs 0).N = fun i : S4096x1024.Idx => (D.gx (i 0) (i 1) : EReal) := by
  refine (dats m 0 c).arrAt_eq_of_covers 10 _ (by decide +kernel) fun t hf y => ?_
  rw [after0_10]
  idx_vars y
  have e : ((cfg0.win 10).blk t).view.emb (ix2 y0 y1) = ix2 (row t y0) y1 := by blk_ext [idx_val t]; rfl
  have key := pay_gx h t y0 y1 _ _ _ (fun k => pay_dy h t y0 k inb_S4x1024x512_S1x1024x512_0_0_0 inb_S4x1024x512_S1x1024x512_1_0_0
    inb_S4x1024x512_S1x1024x512_2_0_0 inb_S4x1024x512_S1x1024x512_3_0_0)
  refine Eq.trans ?_ (congrArg (fun i : S4096x1024.Idx => (D.gx (i 0) (i 1) : EReal)) e).symm
  blk_simp
  by_cases h0 : t.val % 8 = 0
  · rw [outsAt0_A m c t h0]; frame_out; exact key
  · rw [outsAt0_B m c t h0]; frame_out; exact key

/-- The kernel's last result is the gradient of the shift. -/
theorem final_db : (dats m 0 c).arrAt 13 (cfgs 0).N = fun i : S1x1024.Idx => (D.db (i 1) : EReal) := by
  refine (dats m 0 c).arrAt_eq_of_covers 13 _ (by decide +kernel) fun t hf y => ?_
  rw [after0_13]
  have e : ((cfg0.win 13).blk t).view.emb y = y := by idx_vars y; blk_ext [idx_val t]
  refine Eq.trans ?_ (congrArg (fun i : S1x1024.Idx => (D.db (i 1) : EReal)) e).symm
  refine (acc_tiles (fun n h => (outsAt0 m c n h).2.2.2) 8 512 4096 rfl (fun s (i : S1x1024.Idx) => D.dy s (i 1)) row row_val ?_ ?_ t ((flush0_13 t).mp hf) y).trans rfl
  · intro t ht i; rw [outsAt0_A m c t ht]; frame_out; idx_vars i; obtain rfl : i0 = 0 := Subsingleton.elim _ _
    exact (add_db h t _ _ _ _ (fun a k => pay_dy h t a k _ _ _ _) _).trans (by rw [zero4, zero_add])
  · intro t ht i; rw [outsAt0_B m c t ht]; frame_out; idx_vars i; obtain rfl : i0 = 0 := Subsingleton.elim _ _
    exact add_db h t _ _ _ _ (fun a k => pay_dy h t a k _ _ _ _) _

/-- The third is the gradient of the gain. -/
theorem final_dg : (dats m 0 c).arrAt 12 (cfgs 0).N = fun i : S1x1024.Idx => (D.dg (i 1) : EReal) := by
  refine (dats m 0 c).arrAt_eq_of_covers 12 _ (by decide +kernel) fun t hf y => ?_
  rw [after0_12]
  have e : ((cfg0.win 12).blk t).view.emb y = y := by idx_vars y; blk_ext [idx_val t]
  refine Eq.trans ?_ (congrArg (fun i : S1x1024.Idx => (D.dg (i 1) : EReal)) e).symm
  refine (acc_tiles (fun n h => (outsAt0 m c n h).2.2.1) 8 512 4096 rfl (fun s (i : S1x1024.Idx) => D.dy s (i 1) * xhat (D.x s) (i 1)) row row_val ?_ ?_ t ((flush0_12 t).mp hf) y).trans rfl
  · intro t ht i; rw [outsAt0_A m c t ht]; frame_out; idx_vars i; obtain rfl : i0 = 0 := Subsingleton.elim _ _
    exact (add_dg h t _ _ _ _ (fun a k => pay_dy h t a k _ _ _ _) _).trans (by rw [zero3, zero_add])
  · intro t ht i; rw [outsAt0_B m c t ht]; frame_out; idx_vars i; obtain rfl : i0 = 0 := Subsingleton.elim _ _
    exact add_dg h t _ _ _ _ (fun a k => pay_dy h t a k _ _ _ _) _

/-- The second is the gradient of the weight, its columns in four parts. -/
theorem final_dw : (dats m 0 c).arrAt 11 (cfgs 0).N = fun i : S4x1024x512.Idx => (D.dw (i 0) (i 1) (i 2) : EReal) := by
  refine (dats m 0 c).arrAt_eq_of_covers 11 _ (by decide +kernel) fun t hf y => ?_
  rw [after0_11]
  have e : ((cfg0.win 11).blk t).view.emb y = y := by idx_vars y; blk_ext [idx_val t]
  refine Eq.trans ?_ (congrArg (fun i : S4x1024x512.Idx => (D.dw (i 0) (i 1) (i 2) : EReal)) e).symm
  refine (acc_tiles (fun n h => (outsAt0 m c n h).2.1) 8 512 4096 rfl (fun s (i : S4x1024x512.Idx) => D.y s (i 1) * D.d (i 0) s (i 2)) row row_val ?_ ?_ t ((flush0_11 t).mp hf) y).trans rfl
  · intro t ht i; rw [outsAt0_A m c t ht]; frame_out
    refine slabs (fun i => (addDw D t (i 0) (i 1) (i 2) : EReal)) _ _ _ _ _ _ _ _ _ (fun k j => (add_dw0 h t k j _).trans ?_) (fun k j => (add_dw1 h t k j _).trans ?_)
      (fun k j => (add_dw2 h t k j _).trans ?_) (fun k j => (add_dw3 h t k j _).trans ?_) i
    · exact (congrArg (· + _) ((congrFun (View.readCov_fill _ _ _ _ _ (by decide)) _).trans (zero2 _))).trans (zero_add _)
    · exact (congrArg (· + _) ((congrFun (View.readCov_skip _ _ _ _ _ (by decide)) _).trans ((congrFun (View.readCov_fill _ _ _ _ _ (by decide)) _).trans (zero2 _)))).trans (zero_add _)
    · exact (congrArg (· + _) ((congrFun (View.readCov_skip _ _ _ _ _ (by decide)) _).trans ((congrFun (View.readCov_skip _ _ _ _ _ (by decide)) _).trans ((congrFun (View.readCov_fill _ _ _ _ _ (by decide)) _).trans (zero2 _))))).trans (zero_add _)
    · exact (congrArg (· + _) ((congrFun (View.readCov_skip _ _ _ _ _ (by decide)) _).trans ((congrFun (View.readCov_skip _ _ _ _ _ (by decide)) _).trans ((congrFun (View.readCov_skip _ _ _ _ _ (by decide)) _).trans ((congrFun (View.readCov_fill _ _ _ _ _ (by decide)) _).trans (zero2 _)))))).trans (zero_add _)
  · intro t ht i; rw [outsAt0_B m c t ht]; frame_out
    refine slabs (fun i => (outsAt0 m c (t.val - 1) _).2.1 i + (addDw D t (i 0) (i 1) (i 2) : EReal)) _ _ _ _ _ _ _ _ _ (fun k j => (add_dw0 h t k j _).trans ?_) (fun k j => (add_dw1 h t k j _).trans ?_)
      (fun k j => (add_dw2 h t k j _).trans ?_) (fun k j => (add_dw3 h t k j _).trans ?_) i
    · exact congrArg (· + _) (congrArg (outsAt0 m c (t.val - 1) _).2.1 (emb0 _ k j))
    · exact congrArg (· + _) (congrArg (outsAt0 m c (t.val - 1) _).2.1 (emb1 _ k j))
    · exact congrArg (· + _) (congrArg (outsAt0 m c (t.val - 1) _).2.1 (emb2 _ k j))
    · exact congrArg (· + _) (congrArg (outsAt0 m c (t.val - 1) _).2.1 (emb3 _ k j))

end Cert.Kernel4Ideal.Value

namespace Cert.Inproj

open Cert.Pre_inproj_finite

/-- The numbers the arguments hold. -/
def dataOf (x : FVec Ideal S1x4096x1024 .f32) (g b : FVec Ideal S1024 .f32) (w : FVec Ideal S1x1024x2048 .f32)
    (dq dk dv du : FVec Ideal S1x4096x512 .f32) (dp : FVec Ideal S1x4096x1024 .f32) : Data where
  x s k := EReal.toReal (x (ix3 0 s k))
  g k := EReal.toReal (g (ix1 k))
  b k := EReal.toReal (b (ix1 k))
  w k j := EReal.toReal (w (ix3 0 k j))
  d c s j := EReal.toReal ((![dq, dk, dv, du] c : FVec Ideal S1x4096x512 .f32) (ix3 0 s j))
  dp s k := EReal.toReal (dp (ix3 0 s k))

/-- The precondition gives arguments that hold real numbers. -/
theorem holds_of_pre [Cert.Pre_inproj_finite.Facts] {x : FVec Ideal S1x4096x1024 .f32} {g b : FVec Ideal S1024 .f32} {w : FVec Ideal S1x1024x2048 .f32}
    {dq dk dv du : FVec Ideal S1x4096x512 .f32} {dp : FVec Ideal S1x4096x1024 .f32}
    (h : fn (F := Ideal) x g b w dq dk dv du dp = fun _ => 1#1) : Holds (dataOf x g b w dq dk dv du dp) x g b w dq dk dv du dp := by
  have h0 := congrFun h (fun k => k.elim0)
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun _ _ => Finite.real_of_all _ _ _ _ _ h0 _, fun _ => Finite.real_of_all _ _ _ _ _ h1 _, fun _ => Finite.real_of_all _ _ _ _ _ h2 _,
    fun _ _ => Finite.real_of_all _ _ _ _ _ h3 _, fun _ _ => Finite.real_of_all _ _ _ _ _ h4 _, fun _ _ => Finite.real_of_all _ _ _ _ _ h5 _,
    fun _ _ => Finite.real_of_all _ _ _ _ _ h6 _, fun _ _ => Finite.real_of_all _ _ _ _ _ h7 _, fun _ _ => Finite.real_of_all _ _ _ _ _ h8 _⟩

end Cert.Inproj

end
-- ==== Proof.PleValue.lean ====
/-
  The loss with the per-layer embedding's gate and the last two layer norms, and its gradient: the reference's nine
  results, each as one real function of the arguments.
-/
module

public import proofs.«01_k».proof.Proof.Gen.Reference6Ideal.Read
public import proofs.«01_k».proof.Proof.NormMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Ple

open Cert.NormMath

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The logistic function. -/
def sigma (z : ℝ) : ℝ := 1 / (1 + Real.exp (-z))

theorem sigma_is (z : ℝ) : Ideal.div ((1 : ℝ) : EReal) ((1 + Real.exp (-z) : ℝ) : EReal) = (sigma z : EReal) :=
  div_coe 1 (by have := Real.exp_pos (-z); linarith)

/-- The real numbers the arguments hold: the second layer norm's rows, the per-layer embedding's rows and weights, the
    gate's weight, the gains and shifts of the last two layer norms, and the target. -/
structure Data where
  x : Fin 4096 → Fin 1024 → ℝ
  p : Fin 4096 → Fin 256 → ℝ
  wp : Fin 256 → Fin 1024 → ℝ
  wg : Fin 1024 → Fin 1024 → ℝ
  g2 : Fin 1024 → ℝ
  b2 : Fin 1024 → ℝ
  g3 : Fin 1024 → ℝ
  b3 : Fin 1024 → ℝ
  tg : Fin 4096 → Fin 1024 → ℝ

variable (D : Data)

/-- A column of part `c` of the embedding's weight. -/
def col (c : Fin 4) (j : Fin 256) : Fin 1024 := ⟨c.val * 256 + j.val, by omega⟩

/-- The forward values: the second layer norm's result, the gate, the embedding, the third layer norm's input, and the
    error. -/
def Data.x2 (s : Fin 4096) (k : Fin 1024) : ℝ := xhat (D.x s) k * D.g2 k + D.b2 k

def Data.gate (s : Fin 4096) (k : Fin 1024) : ℝ := sigma (∑ i, D.x2 s i * D.wg i k)

def Data.pe (s : Fin 4096) (k : Fin 1024) : ℝ := ∑ i, D.p s i * D.wp i k

def Data.pre (s : Fin 4096) (k : Fin 1024) : ℝ := alpha * D.x2 s k + D.pe s k * D.gate s k

def Data.diff (s : Fin 4096) (k : Fin 1024) : ℝ := xhat (D.pre s) k * D.g3 k + D.b3 k - D.tg s k

def Data.loss : ℝ := ∑ s : Fin 4096, 1 / 2048 * ∑ k, D.diff s k * D.diff s k

/-- The backward values. -/
def Data.dy (s : Fin 4096) (k : Fin 1024) : ℝ := D.diff s k * (1 / 1024)

def Data.dp3 (s : Fin 4096) (k : Fin 1024) : ℝ := back (D.pre s) (fun i => D.dy s i * D.g3 i) k

def Data.dpe (s : Fin 4096) (k : Fin 1024) : ℝ := D.dp3 s k * D.gate s k

def Data.dgp (s : Fin 4096) (k : Fin 1024) : ℝ := D.dp3 s k * D.pe s k * D.gate s k * (1 - D.gate s k)

def Data.dx2 (s : Fin 4096) (i : Fin 1024) : ℝ := alpha * D.dp3 s i + ∑ k, D.dgp s k * D.wg i k

def Data.dpre (s : Fin 4096) (k : Fin 1024) : ℝ := back (D.x s) (fun i => D.dx2 s i * D.g2 i) k

def Data.dwp (c : Fin 4) (i j : Fin 256) : ℝ := ∑ s : Fin 4096, D.p s i * D.dpe s (col c j)

def Data.dwg (i k : Fin 1024) : ℝ := ∑ s : Fin 4096, D.x2 s i * D.dgp s k

def Data.dg3 (k : Fin 1024) : ℝ := ∑ s : Fin 4096, D.dy s k * xhat (D.pre s) k

def Data.db3 (k : Fin 1024) : ℝ := ∑ s : Fin 4096, D.dy s k

def Data.dg2 (k : Fin 1024) : ℝ := ∑ s : Fin 4096, D.dx2 s k * xhat (D.x s) k

def Data.db2 (k : Fin 1024) : ℝ := ∑ s : Fin 4096, D.dx2 s k

/-- The arguments hold the data's numbers. -/
structure Holds (x : FVec Ideal ⟨3, ![1, 4096, 1024]⟩ .f32) (p : FVec Ideal ⟨4, ![1, 1, 4096, 256]⟩ .f32) (wp : FVec Ideal ⟨3, ![1, 256, 1024]⟩ .f32)
    (wg : FVec Ideal ⟨3, ![1, 1024, 1024]⟩ .f32) (g2 b2 g3 b3 : FVec Ideal ⟨2, ![1, 1024]⟩ .f32) (tg : FVec Ideal ⟨3, ![1, 4096, 1024]⟩ .f32) : Prop where
  x : ∀ s k, x (ix3 0 s k) = (D.x s k : EReal)
  p : ∀ s k, p (ix4 0 0 s k) = (D.p s k : EReal)
  wp : ∀ i k, wp (ix3 0 i k) = (D.wp i k : EReal)
  wg : ∀ i k, wg (ix3 0 i k) = (D.wg i k : EReal)
  g2 : ∀ k, g2 (ix2 0 k) = (D.g2 k : EReal)
  b2 : ∀ k, b2 (ix2 0 k) = (D.b2 k : EReal)
  g3 : ∀ k, g3 (ix2 0 k) = (D.g3 k : EReal)
  b3 : ∀ k, b3 (ix2 0 k) = (D.b3 k : EReal)
  tg : ∀ s k, tg (ix3 0 s k) = (D.tg s k : EReal)

end Cert.Ple

namespace Cert.Reference6Ideal.Value

open Cert.Reference6Ideal Cert.Reference6Ideal.Gen Cert.Reference6Ideal.Read
open Cert.Ple Cert.NormMath

variable {D : Data} {x tg : FVec Ideal S1x4096x1024 .f32} {p : FVec Ideal S1x1x4096x256 .f32} {wp : FVec Ideal S1x256x1024 .f32}
  {wg : FVec Ideal S1x1024x1024 .f32} {g2 b2 g3 b3 : FVec Ideal S1x1024 .f32} (h : Holds D x p wp wg g2 b2 g3 b3 tg)
include h

theorem dev_is (s : Fin 4096) (k : Fin 1024) : val_main_v14 (F := Ideal) x (ix2 s k) = (dev (D.x s) k : EReal) := by
  pointwise [val_main_v14, val_main_v13, val_main_v12, val_main_v11, val_main_v10, val_main_v9, val_main_v0, val_main_cst, val_main_cst_0]
  simp only [h.x, coe_sum, ofBits_1024, div_1024, ← EReal.coe_sub]
  rfl

theorem dev_is' (s : Fin 4096) (k : Fin 1024) : val_main_v23 (F := Ideal) x (ix2 s k) = (dev (D.x s) k : EReal) := by
  pointwise [val_main_v23, val_main_v22, val_main_v12, val_main_v11, val_main_v10, val_main_v9, val_main_v0, val_main_cst, val_main_cst_0]
  simp only [h.x, coe_sum, ofBits_1024, div_1024, ← EReal.coe_sub]
  rfl

theorem var_is (s : Fin 4096) : val_main_v25 (F := Ideal) x (ix2 s 0) = ((variance (D.x s) + eps : ℝ) : EReal) := by
  pointwise [val_main_v25, val_main_v24, val_main_v21, val_main_v20, val_main_v19, val_main_v18, val_main_v15, val_main_cst_2, val_main_cst_3, val_main_cst_4]
  simp only [dev_is h, coe_sum, ofBits_1024, div_1024, eps_spec.1, ← EReal.coe_mul, ← EReal.coe_add]
  rfl

theorem rdev_is (s : Fin 4096) : val_main_v26 (F := Ideal) x (ix2 s 0) = (rdev (D.x s) : EReal) := by
  pointwise [val_main_v26]
  rw [var_is h]
  exact rsqrt_pos (var_pos _)

theorem xhat_is (s : Fin 4096) (k : Fin 1024) : val_main_v31 (F := Ideal) x (ix2 s k) = (xhat (D.x s) k : EReal) := by
  pointwise [val_main_v31, val_main_v30]
  rw [dev_is' h, rdev_is h, ← EReal.coe_mul]
  rfl

theorem x2_is (s : Fin 4096) (k : Fin 1024) : val_main_v37 (F := Ideal) x g2 b2 (ix2 s k) = (D.x2 s k : EReal) := by
  pointwise [val_main_v37, val_main_v36, val_main_v35, val_main_v34, val_main_v33, val_main_v32, val_main_v3, val_main_v4]
  rw [xhat_is h, h.g2, h.b2, ← EReal.coe_mul, ← EReal.coe_add]
  rfl

theorem pe_is (s : Fin 4096) (k : Fin 1024) : val_main_v38 (F := Ideal) p wp (ix2 s k) = (D.pe s k : EReal) := by
  pointwise [val_main_v38, val_main_v7, val_main_v1]
  simp only [h.p, h.wp, coe_sum, ← EReal.coe_mul]
  rfl

theorem gate_is (s : Fin 4096) (k : Fin 1024) : val_main_v45 (F := Ideal) x wg g2 b2 (ix2 s k) = (D.gate s k : EReal) := by
  pointwise [val_main_v45, val_main_v44, val_main_v43, val_main_v42, val_main_v41, val_main_v40, val_main_v39, val_main_v2, val_main_cst_6, val_main_cst_7]
  simp only [x2_is h, h.wg, coe_sum, ofBits_one, Ideal.exp_coe, ← EReal.coe_mul, ← EReal.coe_add, ← EReal.coe_neg]
  exact sigma_is _

theorem pre_is (s : Fin 4096) (k : Fin 1024) : val_main_v52 (F := Ideal) x p wp wg g2 b2 (ix2 s k) = (D.pre s k : EReal) := by
  pointwise [val_main_v52, val_main_v51, val_main_v50, val_main_v49, val_main_cst_9]
  rw [x2_is h, pe_is h, gate_is h, alpha_spec, ← EReal.coe_mul, ← EReal.coe_mul, ← EReal.coe_add]
  rfl

theorem mean3_is (s : Fin 4096) : val_main_v56 (F := Ideal) x p wp wg g2 b2 (ix2 s 0) = (mean (D.pre s) : EReal) := by
  pointwise [val_main_v56, val_main_v55, val_main_v54, val_main_v53, val_main_cst_10, val_main_cst_11]
  simp only [pre_is h, coe_sum, ofBits_1024, div_1024]
  rfl

theorem dev3_is (s : Fin 4096) (k : Fin 1024) : val_main_v58 (F := Ideal) x p wp wg g2 b2 (ix2 s k) = (dev (D.pre s) k : EReal) := by
  pointwise [val_main_v58, val_main_v57]
  rw [pre_is h, mean3_is h, ← EReal.coe_sub]
  rfl

theorem dev3_is' (s : Fin 4096) (k : Fin 1024) : val_main_v67 (F := Ideal) x p wp wg g2 b2 (ix2 s k) = (dev (D.pre s) k : EReal) := by
  pointwise [val_main_v67, val_main_v66]
  rw [pre_is h, mean3_is h, ← EReal.coe_sub]
  rfl

theorem var3_is (s : Fin 4096) : val_main_v69 (F := Ideal) x p wp wg g2 b2 (ix2 s 0) = ((variance (D.pre s) + eps : ℝ) : EReal) := by
  pointwise [val_main_v69, val_main_v68, val_main_v65, val_main_v64, val_main_v63, val_main_v62, val_main_v59, val_main_cst_13, val_main_cst_14, val_main_cst_15]
  simp only [dev3_is h, coe_sum, ofBits_1024, div_1024, eps_spec.1, ← EReal.coe_mul, ← EReal.coe_add]
  rfl

theorem rdev3_is (s : Fin 4096) : val_main_v70 (F := Ideal) x p wp wg g2 b2 (ix2 s 0) = (rdev (D.pre s) : EReal) := by
  pointwise [val_main_v70]
  rw [var3_is h]
  exact rsqrt_pos (var_pos _)

theorem xhat3_is (s : Fin 4096) (k : Fin 1024) : val_main_v75 (F := Ideal) x p wp wg g2 b2 (ix2 s k) = (xhat (D.pre s) k : EReal) := by
  pointwise [val_main_v75, val_main_v74]
  rw [dev3_is' h, rdev3_is h, ← EReal.coe_mul]
  rfl

theorem diff_is (s : Fin 4096) (k : Fin 1024) : val_main_v82 (F := Ideal) x p wp wg g2 b2 g3 b3 tg (ix2 s k) = (D.diff s k : EReal) := by
  pointwise [val_main_v82, val_main_v81, val_main_v80, val_main_v79, val_main_v78, val_main_v77, val_main_v76, val_main_v5, val_main_v6, val_main_v8]
  rw [xhat3_is h, h.g3, h.b3, h.tg, ← EReal.coe_mul, ← EReal.coe_add, ← EReal.coe_sub]
  rfl

theorem loss_is (k : Fin 128) : val_main_v181 (F := Ideal) x p wp wg g2 b2 g3 b3 tg (ix2 0 k) = (D.loss : EReal) := by
  pointwise [val_main_v181, val_main_v90, val_main_v89, val_main_v88, val_main_v87, val_main_v86, val_main_v83, val_main_cst_18, val_main_cst_19, val_main_cst_20, val_main_cst_21]
  simp only [diff_is h, coe_sum, ofBits_1024, ofBits_half, div_1024, ← EReal.coe_mul]
  refine congrArg _ ?_
  rw [Data.loss, Finset.mul_sum]
  exact Finset.sum_congr rfl fun s _ => by ring

theorem dy_is (s : Fin 4096) (k : Fin 1024) : val_main_v96 (F := Ideal) x p wp wg g2 b2 g3 b3 tg (ix2 s k) = (D.dy s k : EReal) := by
  pointwise [val_main_v96, val_main_v95, val_main_v94, val_main_v93, val_main_v92, val_main_v91, val_main_v85, val_main_v84, val_main_cst_17, val_main_cst_22, val_main_cst_23, val_main_cst_24]
  simp only [diff_is h, ofBits_1024, ofBits_half, ofBits_one, ofBits_two, div_1024, ← EReal.coe_mul]
  refine congrArg _ ?_
  rw [Data.dy]
  ring

theorem dp3_is (s : Fin 4096) (k : Fin 1024) : val_main_v129 (F := Ideal) x p wp wg g2 b2 g3 b3 tg (ix2 s k) = (D.dp3 s k : EReal) := by
  pointwise [val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v104, val_main_v103, val_main_v76, val_main_v73, val_main_v72, val_main_v71, val_main_v61, val_main_v60, val_main_v5, val_main_cst_12, val_main_cst_16, val_main_cst_29, val_main_cst_30, val_main_cst_31, val_main_cst_32, val_main_cst_33, val_main_cst_34, val_main_cst_35]
  simp only [Fin.sum_univ_one, dy_is h, dev3_is h, dev3_is' h, rdev3_is h, var3_is h, h.g3, coe_sum, ofBits_1024, ofBits_two, ofBits_neg_half, div_1024,
    div_coe _ (var_pos _).ne', ← EReal.coe_mul, ← EReal.coe_add, ← EReal.coe_neg]
  exact congrArg _ (back_eq (D.pre s) (fun i => D.dy s i * D.g3 i) k)

theorem dpe_is (s : Fin 4096) (k : Fin 1024) : val_main_v133 (F := Ideal) x p wp wg g2 b2 g3 b3 tg (ix2 s k) = (D.dpe s k : EReal) := by
  pointwise [val_main_v133]
  rw [dp3_is h, gate_is h, ← EReal.coe_mul]
  rfl

theorem dgp_is (s : Fin 4096) (k : Fin 1024) : val_main_v134 (F := Ideal) x p wp wg g2 b2 g3 b3 tg (ix2 s k) = (D.dgp s k : EReal) := by
  pointwise [val_main_v134, val_main_v132, val_main_v48, val_main_v47, val_main_v46, val_main_cst_8]
  rw [dp3_is h, gate_is h, pe_is h, ← EReal.coe_one, ← EReal.coe_sub, ← EReal.coe_mul, ← EReal.coe_mul, ← EReal.coe_mul]
  refine congrArg _ ?_
  rw [Data.dgp]
  ring

theorem dx2_is (s : Fin 4096) (i : Fin 1024) : val_main_v138 (F := Ideal) x p wp wg g2 b2 g3 b3 tg (ix2 s i) = (D.dx2 s i : EReal) := by
  pointwise [val_main_v138, val_main_v137, val_main_v131, val_main_v130, val_main_v2, val_main_cst_36]
  simp only [dgp_is h, dp3_is h, h.wg, alpha_spec, coe_sum, ← EReal.coe_mul, ← EReal.coe_add]
  rfl

theorem dpre_is (s : Fin 4096) (k : Fin 1024) : val_main_v173 (F := Ideal) x p wp wg g2 b2 g3 b3 tg (ix2 s k) = (D.dpre s k : EReal) := by
  pointwise [val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v148, val_main_v147, val_main_v32, val_main_v29, val_main_v28, val_main_v27, val_main_v17, val_main_v16, val_main_v3, val_main_cst_1, val_main_cst_5, val_main_cst_41, val_main_cst_42, val_main_cst_43, val_main_cst_44, val_main_cst_45, val_main_cst_46, val_main_cst_47]
  simp only [Fin.sum_univ_one, dx2_is h, dev_is h, dev_is' h, rdev_is h, var_is h, h.g2, coe_sum, ofBits_1024, ofBits_two, ofBits_neg_half, div_1024,
    div_coe _ (var_pos _).ne', ← EReal.coe_mul, ← EReal.coe_add, ← EReal.coe_neg]
  exact congrArg _ (back_eq (D.x s) (fun i => D.dx2 s i * D.g2 i) k)

theorem dpreb_is (s : Fin 4096) (k : Fin 1024) : val_main_v174 (F := Ideal) x p wp wg g2 b2 g3 b3 tg (ix2 s k) = (D.dpre s k : EReal) := by
  pointwise [val_main_v174]
  exact dpre_is h s k

theorem dwp_is (c : Fin 4) (i j : Fin 256) : val_main_v176 (F := Ideal) x p wp wg g2 b2 g3 b3 tg (ix3 c i j) = (D.dwp c i j : EReal) := by
  pointwise [val_main_v176, val_main_v175, val_main_v140, val_main_v139, val_main_v7]
  have e : ∀ s : Fin 4096, val_main_v133 (F := Ideal) x p wp wg g2 b2 g3 b3 tg (ix2 s ⟨c.val * 256 + j.val, by omega⟩) * p (ix4 0 0 s i)
      = ((D.p s i * D.dpe s (col c j) : ℝ) : EReal) := fun s => by
    rw [h.p, mul_comm, EReal.coe_mul, ← dpe_is h]; rfl
  simp only [e, coe_sum]
  rfl

theorem dwg_is (i k : Fin 1024) : val_main_v136 (F := Ideal) x p wp wg g2 b2 g3 b3 tg (ix2 i k) = (D.dwg i k : EReal) := by
  pointwise [val_main_v136, val_main_v135]
  simp only [dgp_is h, x2_is h, coe_sum, ← EReal.coe_mul]
  exact congrArg _ (Finset.sum_congr rfl fun s _ => mul_comm _ _)

theorem dg3_is (k : Fin 1024) : val_main_v177 (F := Ideal) x p wp wg g2 b2 g3 b3 tg (ix2 0 k) = (D.dg3 k : EReal) := by
  pointwise [val_main_v177, val_main_v105, val_main_v102, val_main_v101, val_main_v100, val_main_cst_27, val_main_cst_28]
  simp only [Fin.sum_univ_one, dy_is h, xhat3_is h, coe_sum, ← EReal.coe_mul]
  exact congrArg _ (Finset.sum_congr rfl fun s _ => mul_comm _ _)

theorem db3_is (k : Fin 1024) : val_main_v178 (F := Ideal) x p wp wg g2 b2 g3 b3 tg (ix2 0 k) = (D.db3 k : EReal) := by
  pointwise [val_main_v178, val_main_v99, val_main_v98, val_main_v97, val_main_cst_25, val_main_cst_26]
  simp only [Fin.sum_univ_one, dy_is h, coe_sum]
  rfl

theorem dg2_is (k : Fin 1024) : val_main_v179 (F := Ideal) x p wp wg g2 b2 g3 b3 tg (ix2 0 k) = (D.dg2 k : EReal) := by
  pointwise [val_main_v179, val_main_v149, val_main_v146, val_main_v145, val_main_v144, val_main_cst_39, val_main_cst_40]
  simp only [Fin.sum_univ_one, dx2_is h, xhat_is h, coe_sum, ← EReal.coe_mul]
  exact congrArg _ (Finset.sum_congr rfl fun s _ => mul_comm _ _)

theorem db2_is (k : Fin 1024) : val_main_v180 (F := Ideal) x p wp wg g2 b2 g3 b3 tg (ix2 0 k) = (D.db2 k : EReal) := by
  pointwise [val_main_v180, val_main_v143, val_main_v142, val_main_v141, val_main_cst_37, val_main_cst_38]
  simp only [Fin.sum_univ_one, dx2_is h, coe_sum]
  rfl

end Cert.Reference6Ideal.Value

end
-- ==== Proof.PleBlocks.lean ====
/-
  The kernel of the loss, the per-layer embedding's gate and the last two layer norms: the blocks it reads and what it
  computes of a tile.
-/
module

public import proofs.«01_k».proof.Proof.Gen.Kernel6Ideal.Value
public import proofs.«01_k».proof.Proof.Gen.Reference6Ideal.Read
public import proofs.«01_k».proof.Proof.PleValue
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel6Ideal.Value

open Cert.Kernel6Ideal Cert.Kernel6Ideal.Gen
open Cert.Ple Cert.NormMath

variable (m : (ℓ : Loc nD τ sig) → Buf (Elt Ideal) ℓ)

theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![0, 0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![0, 0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0] :=
  (by decide +kernel : ∀ t : Fin grid0.N, _)

/-- What the host hands the kernel: the normalised rows and the reciprocal deviations are the reference's own lines. -/
theorem V_xh (c : Dev nD) : V m c main_v18 = Cert.Reference6Ideal.Read.val_main_v31 (F := Ideal) (m ((c : Thread nD τ).loc main_arg0)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_r (c : Dev nD) : V m c main_v14 = Cert.Reference6Ideal.Read.val_main_v26 (F := Ideal) (m ((c : Thread nD τ).loc main_arg0)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- Rows of the arguments, and the weights' copies in the narrow format. -/
def rowsP (d : FVec Ideal S1x1x4096x256 .f32) : FVec Ideal S4096x256 .f32 := shapeCast S4096x256 d shapeCasts_S1x1x4096x256_S4096x256

def rowsD (d : FVec Ideal S1x4096x1024 .f32) : FVec Ideal S4096x1024 .f32 := shapeCast S4096x1024 d shapeCasts_S1x4096x1024_S4096x1024

def hostW (w : FVec Ideal S1x1024x1024 .f32) : FVec Ideal S1024x1024 .bf16 :=
  truncf .bf16 (shapeCast S1024x1024 w shapeCasts_S1x1024x1024_S1024x1024) bitsLt_bf16_f32

def hostP (w : FVec Ideal S1x256x1024 .f32) : FVec Ideal S4x256x256 .bf16 :=
  transpose S4x256x256 [1, 0, 2] (shapeCast S256x4x256 (truncf .bf16 (shapeCast S256x1024 w shapeCasts_S1x256x1024_S256x1024) bitsLt_bf16_f32)
    shapeCasts_S256x1024_S256x4x256) transposes_S256x4x256_S4x256x256_1_0_2

theorem V_p (c : Dev nD) : V m c main_v23 = rowsP (m ((c : Thread nD τ).loc main_arg1)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_wp (c : Dev nD) : V m c main_v22 = hostP (m ((c : Thread nD τ).loc main_arg2)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_wg (c : Dev nD) : V m c main_v25 = hostW (m ((c : Thread nD τ).loc main_arg3)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_tg (c : Dev nD) : V m c main_v26 = rowsD (m ((c : Thread nD τ).loc main_arg8)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g2 (c : Dev nD) : V m c main_arg4 = (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_b2 (c : Dev nD) : V m c main_arg5 = (m ((c : Thread nD τ).loc main_arg5)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g3 (c : Dev nD) : V m c main_arg6 = (m ((c : Thread nD τ).loc main_arg6)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_b3 (c : Dev nD) : V m c main_arg7 = (m ((c : Thread nD τ).loc main_arg7)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The row of the whole array that row `a` of tile `t` is. -/
def row (t : Fin cfg0.N) (a : Fin 512) : Fin 4096 := ⟨t.val * 512 + a.val, by have h : t.val < 8 := t.isLt; omega⟩

theorem row_val (t : Fin cfg0.N) (a : Fin 512) : (row t a).val = t.val % 8 * 512 + a.val := by
  rw [Nat.mod_eq_of_lt (show t.val < 8 from t.isLt)]
  rfl

variable {m} {c : Dev nD} {D : Data} (h : Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include h

theorem blk_xh (t : Fin cfg0.N) (a : Fin 512) (k : Fin 1024) : iblk m c 0 t (ix2 a k) = (xhat (D.x (row t a)) k : EReal) := by
  have e : ((cfg0.win 0).blk t).view.emb (ix2 a k) = ix2 (row t a) k := by blk_ext [idx_val t]; rfl
  show V m c main_v18 (((cfg0.win 0).blk t).view.emb (ix2 a k)) = _
  rw [V_xh, e]
  exact Cert.Reference6Ideal.Value.xhat_is h _ _

theorem blk_r (t : Fin cfg0.N) (a : Fin 512) : iblk m c 1 t (ix2 a 0) = (rdev (D.x (row t a)) : EReal) := by
  have e : ((cfg0.win 1).blk t).view.emb (ix2 a 0) = ix2 (row t a) 0 := by blk_ext [idx_val t]; rfl
  show V m c main_v14 (((cfg0.win 1).blk t).view.emb (ix2 a 0)) = _
  rw [V_r, e]
  exact Cert.Reference6Ideal.Value.rdev_is h _

theorem blk_g2 (t : Fin cfg0.N) (k : Fin 1024) : iblk m c 2 t (ix2 0 k) = (D.g2 k : EReal) := by
  have e : ((cfg0.win 2).blk t).view.emb (ix2 0 k) = ix2 0 k := by blk_ext [idx_val t]
  show V m c main_arg4 (((cfg0.win 2).blk t).view.emb (ix2 0 k)) = _
  rw [V_g2, e, ← h.g2]

theorem blk_b2 (t : Fin cfg0.N) (k : Fin 1024) : iblk m c 3 t (ix2 0 k) = (D.b2 k : EReal) := by
  have e : ((cfg0.win 3).blk t).view.emb (ix2 0 k) = ix2 0 k := by blk_ext [idx_val t]
  show V m c main_arg5 (((cfg0.win 3).blk t).view.emb (ix2 0 k)) = _
  rw [V_b2, e, ← h.b2]

theorem blk_g3 (t : Fin cfg0.N) (k : Fin 1024) : iblk m c 7 t (ix2 0 k) = (D.g3 k : EReal) := by
  have e : ((cfg0.win 7).blk t).view.emb (ix2 0 k) = ix2 0 k := by blk_ext [idx_val t]
  show V m c main_arg6 (((cfg0.win 7).blk t).view.emb (ix2 0 k)) = _
  rw [V_g3, e, ← h.g3]

theorem blk_b3 (t : Fin cfg0.N) (k : Fin 1024) : iblk m c 8 t (ix2 0 k) = (D.b3 k : EReal) := by
  have e : ((cfg0.win 8).blk t).view.emb (ix2 0 k) = ix2 0 k := by blk_ext [idx_val t]
  show V m c main_arg7 (((cfg0.win 8).blk t).view.emb (ix2 0 k)) = _
  rw [V_b3, e, ← h.b3]

theorem blk_p (t : Fin cfg0.N) (a : Fin 512) (k : Fin 256) : iblk m c 4 t (ix2 a k) = (D.p (row t a) k : EReal) := by
  have e : ((cfg0.win 4).blk t).view.emb (ix2 a k) = ix2 (row t a) k := by blk_ext [idx_val t]; rfl
  show V m c main_v23 (((cfg0.win 4).blk t).view.emb (ix2 a k)) = _
  rw [V_p, e]
  rw [← h.p]; pointwise [rowsP]

theorem blk_tg (t : Fin cfg0.N) (a : Fin 512) (k : Fin 1024) : iblk m c 9 t (ix2 a k) = (D.tg (row t a) k : EReal) := by
  have e : ((cfg0.win 9).blk t).view.emb (ix2 a k) = ix2 (row t a) k := by blk_ext [idx_val t]; rfl
  show V m c main_v26 (((cfg0.win 9).blk t).view.emb (ix2 a k)) = _
  rw [V_tg, e]
  rw [← h.tg]; pointwise [rowsD]

theorem blk_wg (t : Fin cfg0.N) (i k : Fin 1024) : iblk m c 6 t (ix2 i k) = (D.wg i k : EReal) := by
  have e : ((cfg0.win 6).blk t).view.emb (ix2 i k) = ix2 i k := by blk_ext [idx_val t]
  show V m c main_v25 (((cfg0.win 6).blk t).view.emb (ix2 i k)) = _
  rw [V_wg, e, ← h.wg]; pointwise [hostW]

theorem blk_wp (t : Fin cfg0.N) (q : Fin 4) (i j : Fin 256) : iblk m c 5 t (ix3 q i j) = (D.wp i (col q j) : EReal) := by
  have e : ((cfg0.win 5).blk t).view.emb (ix3 q i j) = ix3 q i j := by blk_ext [idx_val t]
  show V m c main_v22 (((cfg0.win 5).blk t).view.emb (ix3 q i j)) = _
  rw [V_wp, e, ← h.wp]; pointwise [hostP]; rfl

omit h
variable (m) (c)

/-- A tile's values: the second layer norm's result, the gate, and the parts of the embedding's weight. -/
def tX2 (t : Fin cfg0.N) : FVec Ideal S512x1024 .f32 := k0_pay13 (iblk m c 0 t) (iblk m c 2 t) (iblk m c 3 t)

def tGate (t : Fin cfg0.N) : FVec Ideal S512x1024 .f32 := k0_pay15 (iblk m c 0 t) (iblk m c 2 t) (iblk m c 3 t) (iblk m c 6 t)

def slab0 (t : Fin cfg0.N) : Vec Ideal S1x256x256 .bf16 := View.ld (iblk m c 5 t) (Rect.unit (s := S4x256x256) ![0, 0, 0] ![1, 256, 256] inb_S4x256x256_S1x256x256_0_0_0)

def slab1 (t : Fin cfg0.N) : Vec Ideal S1x256x256 .bf16 := View.ld (iblk m c 5 t) (Rect.unit (s := S4x256x256) ![1, 0, 0] ![1, 256, 256] inb_S4x256x256_S1x256x256_1_0_0)

def slab2 (t : Fin cfg0.N) : Vec Ideal S1x256x256 .bf16 := View.ld (iblk m c 5 t) (Rect.unit (s := S4x256x256) ![2, 0, 0] ![1, 256, 256] inb_S4x256x256_S1x256x256_2_0_0)

def slab3 (t : Fin cfg0.N) : Vec Ideal S1x256x256 .bf16 := View.ld (iblk m c 5 t) (Rect.unit (s := S4x256x256) ![3, 0, 0] ![1, 256, 256] inb_S4x256x256_S1x256x256_3_0_0)

/-- The embedding, the third layer norm's normalised rows and reciprocal deviations, the error, and the second norm's
    cotangent. -/
def tPe (t : Fin cfg0.N) : FVec Ideal S512x1024 .f32 := k0_pay19 (k0_pay16 (iblk m c 4 t)) (k0_pay17 (iblk m c 4 t) (slab0 m c t)) (k0_pay18 (iblk m c 4 t) (slab1 m c t)) (slab2 m c t) (slab3 m c t)

def tXh (t : Fin cfg0.N) : FVec Ideal S512x1024 .f32 := k0_pay22 (tX2 m c t) (tGate m c t) (k0_pay16 (iblk m c 4 t)) (k0_pay17 (iblk m c 4 t) (slab0 m c t)) (k0_pay18 (iblk m c 4 t) (slab1 m c t)) (slab2 m c t) (slab3 m c t)

def tR (t : Fin cfg0.N) : FVec Ideal S512x1 .f32 := k0_pay21 (tX2 m c t) (tGate m c t) (k0_pay16 (iblk m c 4 t)) (k0_pay17 (iblk m c 4 t) (slab0 m c t)) (k0_pay18 (iblk m c 4 t) (slab1 m c t)) (slab2 m c t) (slab3 m c t)

def tDiff (t : Fin cfg0.N) : FVec Ideal S512x1024 .f32 := k0_pay23 (tX2 m c t) (tGate m c t) (k0_pay16 (iblk m c 4 t)) (k0_pay17 (iblk m c 4 t) (slab0 m c t)) (k0_pay18 (iblk m c 4 t) (slab1 m c t)) (slab2 m c t) (slab3 m c t) (iblk m c 7 t) (iblk m c 8 t) (iblk m c 9 t)

def tDx2 (t : Fin cfg0.N) : FVec Ideal S512x1024 .f32 := k0_pay35 (tGate m c t) (tPe m c t) (tR m c t) (tXh m c t) (k0_pay29 (tDiff m c t) (iblk m c 7 t)) (k0_pay30 (tDiff m c t) (iblk m c 7 t)) (k0_pay31 (tXh m c t) (tDiff m c t) (iblk m c 7 t)) (iblk m c 6 t)

variable {m} {c}
include h

theorem x2_at (t : Fin cfg0.N) (a : Fin 512) (k : Fin 1024) : tX2 m c t (ix2 a k) = (D.x2 (row t a) k : EReal) := by
  pointwise [tX2, k0_pay13, k0_pay12]
  simp only [blk_xh h, blk_g2 h, blk_b2 h, ← EReal.coe_mul, ← EReal.coe_add]
  rfl

theorem x2n_at (t : Fin cfg0.N) (a : Fin 512) (k : Fin 1024) : k0_pay14 (iblk m c 0 t) (iblk m c 2 t) (iblk m c 3 t) (ix2 a k) = (D.x2 (row t a) k : EReal) := by
  pointwise [k0_pay14]
  exact x2_at h t a k

theorem gate_at (t : Fin cfg0.N) (a : Fin 512) (k : Fin 1024) : tGate m c t (ix2 a k) = (D.gate (row t a) k : EReal) := by
  pointwise [tGate, k0_pay15]
  simp only [x2n_at h, blk_wg h, coe_sum, ofBits_one, zero_sub, Ideal.exp_coe, ← EReal.coe_mul, ← EReal.coe_add, ← EReal.coe_neg]
  exact sigma_is _

theorem slab0_at (t : Fin cfg0.N) (i j : Fin 256) : slab0 m c t (ix3 0 i j) = (D.wp i (col 0 j) : EReal) := by
  have e : (Rect.unit (s := S4x256x256) ![0, 0, 0] ![1, 256, 256] inb_S4x256x256_S1x256x256_0_0_0).emb (ix3 0 i j) = ix3 0 i j := by blk_ext
  show iblk m c 5 t ((Rect.unit (s := S4x256x256) ![0, 0, 0] ![1, 256, 256] inb_S4x256x256_S1x256x256_0_0_0).emb (ix3 0 i j)) = _
  rw [e]
  exact blk_wp h t 0 i j

theorem slab1_at (t : Fin cfg0.N) (i j : Fin 256) : slab1 m c t (ix3 0 i j) = (D.wp i (col 1 j) : EReal) := by
  have e : (Rect.unit (s := S4x256x256) ![1, 0, 0] ![1, 256, 256] inb_S4x256x256_S1x256x256_1_0_0).emb (ix3 0 i j) = ix3 1 i j := by blk_ext
  show iblk m c 5 t ((Rect.unit (s := S4x256x256) ![1, 0, 0] ![1, 256, 256] inb_S4x256x256_S1x256x256_1_0_0).emb (ix3 0 i j)) = _
  rw [e]
  exact blk_wp h t 1 i j

theorem slab2_at (t : Fin cfg0.N) (i j : Fin 256) : slab2 m c t (ix3 0 i j) = (D.wp i (col 2 j) : EReal) := by
  have e : (Rect.unit (s := S4x256x256) ![2, 0, 0] ![1, 256, 256] inb_S4x256x256_S1x256x256_2_0_0).emb (ix3 0 i j) = ix3 2 i j := by blk_ext
  show iblk m c 5 t ((Rect.unit (s := S4x256x256) ![2, 0, 0] ![1, 256, 256] inb_S4x256x256_S1x256x256_2_0_0).emb (ix3 0 i j)) = _
  rw [e]
  exact blk_wp h t 2 i j

theorem slab3_at (t : Fin cfg0.N) (i j : Fin 256) : slab3 m c t (ix3 0 i j) = (D.wp i (col 3 j) : EReal) := by
  have e : (Rect.unit (s := S4x256x256) ![3, 0, 0] ![1, 256, 256] inb_S4x256x256_S1x256x256_3_0_0).emb (ix3 0 i j) = ix3 3 i j := by blk_ext
  show iblk m c 5 t ((Rect.unit (s := S4x256x256) ![3, 0, 0] ![1, 256, 256] inb_S4x256x256_S1x256x256_3_0_0).emb (ix3 0 i j)) = _
  rw [e]
  exact blk_wp h t 3 i j

omit h in
/-- The four parts of the embedding, side by side. -/
theorem pe_part (v24 : FVec Ideal S512x256 .bf16) (v27 v30 : FVec Ideal S512x256 .f32) (v31 v34 : Vec Ideal S1x256x256 .bf16) (a : Fin 512) (j : Fin 256) :
    k0_pay19 v24 v27 v30 v31 v34 (ix2 a (col 0 j)) = v27 (ix2 a j)
      ∧ k0_pay19 v24 v27 v30 v31 v34 (ix2 a (col 1 j)) = v30 (ix2 a j)
      ∧ k0_pay19 v24 v27 v30 v31 v34 (ix2 a (col 2 j)) = ∑ i : Fin 256, v24 (ix2 a i) * v31 (ix3 0 i j)
      ∧ k0_pay19 v24 v27 v30 v31 v34 (ix2 a (col 3 j)) = ∑ i : Fin 256, v24 (ix2 a i) * v34 (ix3 0 i j) := by
  have c0 : ((col 0 j : Fin 1024) : ℕ) = j.val := by show 0 * 256 + j.val = _; omega
  have c1 : ((col 1 j : Fin 1024) : ℕ) = 256 + j.val := by show 1 * 256 + j.val = _; omega
  have c2 : ((col 2 j : Fin 1024) : ℕ) = 512 + j.val := by show 2 * 256 + j.val = _; omega
  have c3 : ((col 3 j : Fin 1024) : ℕ) = 768 + j.val := by show 3 * 256 + j.val = _; omega
  refine ⟨?_, ?_, ?_, ?_⟩
  · pointwise [k0_pay19]
    rw [dif_pos (by omega)]
    exact congrArg v27 (congrArg (ix2 a) (Fin.ext c0))
  · pointwise [k0_pay19]
    rw [dif_neg (by omega), dif_pos (by omega)]
    exact congrArg v30 (congrArg (ix2 a) (Fin.ext (by show (col 1 j : Fin 1024).val - 256 = j.val; omega)))
  · pointwise [k0_pay19]
    rw [dif_neg (by omega), dif_neg (by omega), dif_pos (by omega)]
    exact Finset.sum_congr rfl fun i _ => congrArg (fun l => v24 (ix2 a i) * v31 (ix3 0 i l)) (Fin.ext (by show (col 2 j : Fin 1024).val - 256 - 256 = j.val; omega))
  · pointwise [k0_pay19]
    rw [dif_neg (by omega), dif_neg (by omega), dif_neg (by omega)]
    exact Finset.sum_congr rfl fun i _ => congrArg (fun l => v24 (ix2 a i) * v34 (ix3 0 i l)) (Fin.ext (by show (col 3 j : Fin 1024).val - 256 - 256 - 256 = j.val; omega))

theorem pe_at (t : Fin cfg0.N) (a : Fin 512) (k : Fin 1024) : tPe m c t (ix2 a k) = (D.pe (row t a) k : EReal) := by
  obtain ⟨q, j, rfl⟩ : ∃ q j, k = col q j := ⟨⟨k.val / 256, by omega⟩, ⟨k.val % 256, by omega⟩, Fin.ext (by show k.val = k.val / 256 * 256 + k.val % 256; omega)⟩
  have hp : ∀ i, k0_pay16 (iblk m c 4 t) (ix2 a i) = (D.p (row t a) i : EReal) := fun i => by
    pointwise [k0_pay16]
    exact blk_p h t a i
  obtain rfl | rfl | rfl | rfl : q = 0 ∨ q = 1 ∨ q = 2 ∨ q = 3 := by revert q; decide
  · refine (pe_part _ _ _ _ _ a j).1.trans ?_
    pointwise [k0_pay17]
    simp only [hp, slab0_at h, coe_sum, ← EReal.coe_mul]
    rfl
  · refine (pe_part _ _ _ _ _ a j).2.1.trans ?_
    pointwise [k0_pay18]
    simp only [hp, slab1_at h, coe_sum, ← EReal.coe_mul]
    rfl
  · refine (pe_part _ _ _ _ _ a j).2.2.1.trans ?_
    simp only [hp, slab2_at h, coe_sum, ← EReal.coe_mul]
    rfl
  · refine (pe_part _ _ _ _ _ a j).2.2.2.trans ?_
    simp only [hp, slab3_at h, coe_sum, ← EReal.coe_mul]
    rfl

theorem pay_pre (t : Fin cfg0.N) (a : Fin 512) (k : Fin 1024) :
    Ideal.ofBits .f32 1066940400#32 * tX2 m c t (ix2 a k) + tPe m c t (ix2 a k) * tGate m c t (ix2 a k) = (D.pre (row t a) k : EReal) := by
  simp only [x2_at h, pe_at h, gate_at h, alpha_spec, ← EReal.coe_mul, ← EReal.coe_add]
  rfl

theorem dev_at (t : Fin cfg0.N) (a : Fin 512) (k : Fin 1024) : k0_pay20 (tX2 m c t) (tGate m c t) (k0_pay16 (iblk m c 4 t)) (k0_pay17 (iblk m c 4 t) (slab0 m c t)) (k0_pay18 (iblk m c 4 t) (slab1 m c t)) (slab2 m c t) (slab3 m c t) (ix2 a k) = ((D.pre (row t a) k - mean (D.pre (row t a)) : ℝ) : EReal) := by
  pointwise [k0_pay20]
  have e : ∀ k, Ideal.ofBits .f32 1066940400#32 * tX2 m c t (ix2 a k) + k0_pay19 (k0_pay16 (iblk m c 4 t)) (k0_pay17 (iblk m c 4 t) (slab0 m c t)) (k0_pay18 (iblk m c 4 t) (slab1 m c t)) (slab2 m c t) (slab3 m c t) (ix2 a k) * tGate m c t (ix2 a k) = (D.pre (row t a) k : EReal) := fun k => pay_pre h t a k
  simp only [e, coe_sum, ofBits_1024, div_1024, ← EReal.coe_sub]
  rfl

theorem r_at (t : Fin cfg0.N) (a : Fin 512) : tR m c t (ix2 a 0) = (rdev (D.pre (row t a)) : EReal) := by
  pointwise [tR, k0_pay21]
  simp only [dev_at h, coe_sum, ofBits_1024, div_1024, (show Ideal.ofBits FTy.f32 925353388#32 = (eps : EReal) from eps_spec.1), ← EReal.coe_mul, ← EReal.coe_add]
  exact rsqrt_pos (var_pos (D.pre (row t a)))

theorem xh_at (t : Fin cfg0.N) (a : Fin 512) (k : Fin 1024) : tXh m c t (ix2 a k) = (xhat (D.pre (row t a)) k : EReal) := by
  pointwise [tXh, k0_pay22]
  rw [dev_at h]
  exact (congrArg _ (r_at h t a)).trans (EReal.coe_mul _ _).symm

theorem diff_at (t : Fin cfg0.N) (a : Fin 512) (k : Fin 1024) : tDiff m c t (ix2 a k) = (D.diff (row t a) k : EReal) := by
  pointwise [tDiff, k0_pay23]
  rw [blk_g3 h, blk_b3 h, blk_tg h]
  refine (congrArg (fun v : EReal => v * (D.g3 k : EReal) + (D.b3 k : EReal) - (D.tg (row t a) k : EReal)) (xh_at h t a k)).trans ?_
  simp only [← EReal.coe_mul, ← EReal.coe_add, ← EReal.coe_sub]
  rfl

omit h in
theorem ofBits_inv : Ideal.ofBits .f32 0x3A800000#32 = ((1 / 1024 : ℝ) : EReal) := by
  simp [Ideal.ofBits, Ideal.ieee, -EReal.coe_mul]
  norm_num

omit h in
theorem ofBits_half_inv : Ideal.ofBits .f32 0x3A000000#32 = ((1 / 2048 : ℝ) : EReal) := by
  simp [Ideal.ofBits, Ideal.ieee, -EReal.coe_mul]
  norm_num

theorem dy_at (t : Fin cfg0.N) (a : Fin 512) (k : Fin 1024) : k0_pay26 (tDiff m c t) (ix2 a k) = (D.dy (row t a) k : EReal) := by
  pointwise [k0_pay26]
  rw [diff_at h]
  exact (congrArg _ ofBits_inv).trans (EReal.coe_mul _ _).symm

theorem gdy_at (t : Fin cfg0.N) (a : Fin 512) (k : Fin 1024) : k0_pay29 (tDiff m c t) (iblk m c 7 t) (ix2 a k) = ((D.dy (row t a) k * D.g3 k : ℝ) : EReal) := by
  pointwise [k0_pay29]
  rw [dy_at h, blk_g3 h, EReal.coe_mul]

theorem mean1_at (t : Fin cfg0.N) (a : Fin 512) : k0_pay30 (tDiff m c t) (iblk m c 7 t) (ix2 a 0) = ((mean fun i => D.dy (row t a) i * D.g3 i : ℝ) : EReal) := by
  pointwise [k0_pay30]
  simp only [gdy_at h, coe_sum, ofBits_1024, div_1024]
  rfl

theorem mean2_at (t : Fin cfg0.N) (a : Fin 512) : k0_pay31 (tXh m c t) (tDiff m c t) (iblk m c 7 t) (ix2 a 0) = ((mean fun i => D.dy (row t a) i * D.g3 i * xhat (D.pre (row t a)) i : ℝ) : EReal) := by
  pointwise [k0_pay31]
  simp only [gdy_at h, xh_at h, coe_sum, ofBits_1024, div_1024, ← EReal.coe_mul]
  rfl

/-- The gradients a tile passes on. -/
theorem dp3_at (t : Fin cfg0.N) (a : Fin 512) (k : Fin 1024) : k0_pay32 (tR m c t) (tXh m c t) (k0_pay29 (tDiff m c t) (iblk m c 7 t)) (k0_pay30 (tDiff m c t) (iblk m c 7 t)) (k0_pay31 (tXh m c t) (tDiff m c t) (iblk m c 7 t)) (ix2 a k) = (D.dp3 (row t a) k : EReal) := by
  pointwise [k0_pay32]
  simp only [gdy_at h, xh_at h, r_at h, mean1_at h, mean2_at h, ← EReal.coe_mul, ← EReal.coe_sub]
  rfl

theorem dpe_at (t : Fin cfg0.N) (a : Fin 512) (k : Fin 1024) : k0_pay33 (tGate m c t) (tR m c t) (tXh m c t) (k0_pay29 (tDiff m c t) (iblk m c 7 t)) (k0_pay30 (tDiff m c t) (iblk m c 7 t)) (k0_pay31 (tXh m c t) (tDiff m c t) (iblk m c 7 t)) (ix2 a k) = (D.dpe (row t a) k : EReal) := by
  pointwise [k0_pay33]
  rw [dp3_at h, gate_at h, ← EReal.coe_mul]
  rfl

theorem dgp_at (t : Fin cfg0.N) (a : Fin 512) (k : Fin 1024) : k0_pay34 (tGate m c t) (tPe m c t) (tR m c t) (tXh m c t) (k0_pay29 (tDiff m c t) (iblk m c 7 t)) (k0_pay30 (tDiff m c t) (iblk m c 7 t)) (k0_pay31 (tXh m c t) (tDiff m c t) (iblk m c 7 t)) (ix2 a k) = (D.dgp (row t a) k : EReal) := by
  pointwise [k0_pay34]
  simp only [dp3_at h, gate_at h, pe_at h, ofBits_one, ← EReal.coe_mul, ← EReal.coe_sub]
  rfl

theorem dx2_at (t : Fin cfg0.N) (a : Fin 512) (k : Fin 1024) : tDx2 m c t (ix2 a k) = (D.dx2 (row t a) k : EReal) := by
  pointwise [tDx2, k0_pay35]
  simp only [dp3_at h, dgp_at h, blk_wg h, (show Ideal.ofBits .f32 1066940400#32 = (alpha : EReal) from alpha_spec), coe_sum, ← EReal.coe_mul, ← EReal.coe_add]
  rfl

theorem pay_dpre (t : Fin cfg0.N) (a : Fin 512) (k : Fin 1024) : k0_pay2 (k0_pay12 (iblk m c 0 t)) (tDx2 m c t) (iblk m c 1 t) (iblk m c 2 t) (ix2 a k) = (D.dpre (row t a) k : EReal) := by
  pointwise [k0_pay2, k0_pay12]
  simp only [dx2_at h, blk_xh h, blk_r h, blk_g2 h, coe_sum, ofBits_1024, div_1024, ← EReal.coe_mul, ← EReal.coe_sub]
  rfl

theorem out_dpre (t : Fin cfg0.N) (a : Fin 512) (k : Fin 1024) : k0_pay3 (k0_pay12 (iblk m c 0 t)) (tDx2 m c t) (iblk m c 1 t) (iblk m c 2 t) (ix2 a k) = (D.dpre (row t a) k : EReal) := by
  pointwise [k0_pay3]
  exact pay_dpre h t a k

theorem out_dpreb (t : Fin cfg0.N) (a : Fin 512) (k : Fin 1024) : k0_pay4 (k0_pay12 (iblk m c 0 t)) (tDx2 m c t) (iblk m c 1 t) (iblk m c 2 t) (ix2 a k) = (D.dpre (row t a) k : EReal) := by
  pointwise [k0_pay4]
  exact pay_dpre h t a k

/-- What a tile adds to each running sum. -/
theorem add_dg3 (t : Fin cfg0.N) (acc : Vec Ideal S1x1024 .f32) (k : Fin 1024) :
    k0_pay27 (tXh m c t) (tDiff m c t) acc (ix2 0 k) = acc (ix2 0 k) + ((∑ a, D.dy (row t a) k * xhat (D.pre (row t a)) k : ℝ) : EReal) := by
  pointwise [k0_pay27]
  simp only [dy_at h, xh_at h, coe_sum, ← EReal.coe_mul]

theorem add_db3 (t : Fin cfg0.N) (acc : Vec Ideal S1x1024 .f32) (k : Fin 1024) :
    k0_pay28 (tDiff m c t) acc (ix2 0 k) = acc (ix2 0 k) + ((∑ a, D.dy (row t a) k : ℝ) : EReal) := by
  pointwise [k0_pay28]
  simp only [dy_at h, coe_sum]

theorem add_dg2 (t : Fin cfg0.N) (acc : Vec Ideal S1x1024 .f32) (k : Fin 1024) :
    k0_pay43 (k0_pay12 (iblk m c 0 t)) (tDx2 m c t) acc (ix2 0 k) = acc (ix2 0 k) + ((∑ a, D.dx2 (row t a) k * xhat (D.x (row t a)) k : ℝ) : EReal) := by
  pointwise [k0_pay43, k0_pay12]
  simp only [dx2_at h, blk_xh h, coe_sum, ← EReal.coe_mul]

theorem add_db2 (t : Fin cfg0.N) (acc : Vec Ideal S1x1024 .f32) (k : Fin 1024) :
    k0_pay1 (tDx2 m c t) acc (ix2 0 k) = acc (ix2 0 k) + ((∑ a, D.dx2 (row t a) k : ℝ) : EReal) := by
  pointwise [k0_pay1]
  simp only [dx2_at h, coe_sum]

theorem add_dwg (t : Fin cfg0.N) (acc : Vec Ideal S1024x1024 .f32) (i k : Fin 1024) :
    k0_pay36 (k0_pay14 (iblk m c 0 t) (iblk m c 2 t) (iblk m c 3 t)) (tGate m c t) (tPe m c t) (tR m c t) (tXh m c t) (k0_pay29 (tDiff m c t) (iblk m c 7 t)) (k0_pay30 (tDiff m c t) (iblk m c 7 t)) (k0_pay31 (tXh m c t) (tDiff m c t) (iblk m c 7 t)) acc (ix2 i k) = acc (ix2 i k) + ((∑ a, D.x2 (row t a) i * D.dgp (row t a) k : ℝ) : EReal) := by
  pointwise [k0_pay36]
  simp only [x2n_at h, dgp_at h, coe_sum, ← EReal.coe_mul]

theorem p_at (t : Fin cfg0.N) (a : Fin 512) (i : Fin 256) : k0_pay16 (iblk m c 4 t) (ix2 a i) = (D.p (row t a) i : EReal) := by
  pointwise [k0_pay16]
  exact blk_p h t a i

theorem add_dwp0 (t : Fin cfg0.N) (acc : Vec Ideal S1x256x256 .f32) (i j : Fin 256) :
    k0_pay37 (tGate m c t) (k0_pay16 (iblk m c 4 t)) (tR m c t) (tXh m c t) (k0_pay29 (tDiff m c t) (iblk m c 7 t)) (k0_pay30 (tDiff m c t) (iblk m c 7 t)) (k0_pay31 (tXh m c t) (tDiff m c t) (iblk m c 7 t)) acc (ix3 0 i j) = acc (ix3 0 i j) + ((∑ a, D.p (row t a) i * D.dpe (row t a) (col 0 j) : ℝ) : EReal) := by
  pointwise [k0_pay37]
  have e : ∀ hj, (⟨j.val, hj⟩ : Fin 1024) = col 0 j := fun _ => Fin.ext (by show j.val = 0 * 256 + j.val; omega)
  simp only [e, p_at h, dpe_at h, coe_sum, ← EReal.coe_mul]

theorem add_dwp1 (t : Fin cfg0.N) (acc : Vec Ideal S1x256x256 .f32) (i j : Fin 256) :
    k0_pay40 (k0_pay16 (iblk m c 4 t)) (k0_pay38 acc) (k0_pay39 (tGate m c t) (tR m c t) (tXh m c t) (k0_pay29 (tDiff m c t) (iblk m c 7 t)) (k0_pay30 (tDiff m c t) (iblk m c 7 t)) (k0_pay31 (tXh m c t) (tDiff m c t) (iblk m c 7 t))) (ix3 0 i j) = acc (ix3 0 i j) + ((∑ a, D.p (row t a) i * D.dpe (row t a) (col 1 j) : ℝ) : EReal) := by
  pointwise [k0_pay40, k0_pay39, k0_pay38]
  simp only [p_at h, dpe_at h, coe_sum, ← EReal.coe_mul]
  rfl

theorem add_dwp2 (t : Fin cfg0.N) (acc : Vec Ideal S1x256x256 .f32) (i j : Fin 256) :
    k0_pay41 (k0_pay16 (iblk m c 4 t)) (k0_pay33 (tGate m c t) (tR m c t) (tXh m c t) (k0_pay29 (tDiff m c t) (iblk m c 7 t)) (k0_pay30 (tDiff m c t) (iblk m c 7 t)) (k0_pay31 (tXh m c t) (tDiff m c t) (iblk m c 7 t))) acc (ix3 0 i j) = acc (ix3 0 i j) + ((∑ a, D.p (row t a) i * D.dpe (row t a) (col 2 j) : ℝ) : EReal) := by
  pointwise [k0_pay41]
  simp only [p_at h, dpe_at h, coe_sum, ← EReal.coe_mul]
  rfl

theorem add_dwp3 (t : Fin cfg0.N) (acc : Vec Ideal S1x256x256 .f32) (i j : Fin 256) :
    k0_pay42 (k0_pay16 (iblk m c 4 t)) (k0_pay33 (tGate m c t) (tR m c t) (tXh m c t) (k0_pay29 (tDiff m c t) (iblk m c 7 t)) (k0_pay30 (tDiff m c t) (iblk m c 7 t)) (k0_pay31 (tXh m c t) (tDiff m c t) (iblk m c 7 t))) acc (ix3 0 i j) = acc (ix3 0 i j) + ((∑ a, D.p (row t a) i * D.dpe (row t a) (col 3 j) : ℝ) : EReal) := by
  pointwise [k0_pay42]
  simp only [p_at h, dpe_at h, coe_sum, ← EReal.coe_mul]
  rfl

theorem add_loss (t : Fin cfg0.N) (acc : Vec Ideal S1x128 .f32) (k : Fin 128) :
    k0_pay25 acc (k0_pay24 (tX2 m c t) (tGate m c t) (k0_pay16 (iblk m c 4 t)) (k0_pay17 (iblk m c 4 t) (slab0 m c t)) (k0_pay18 (iblk m c 4 t) (slab1 m c t)) (slab2 m c t) (slab3 m c t) (iblk m c 7 t) (iblk m c 8 t) (iblk m c 9 t)) (ix2 0 k) = acc (ix2 0 k) + ((∑ a, 1 / 2048 * ∑ l, D.diff (row t a) l * D.diff (row t a) l : ℝ) : EReal) := by
  pointwise [k0_pay25, k0_pay24]
  have e : ∀ a l, k0_pay23 (tX2 m c t) (tGate m c t) (k0_pay16 (iblk m c 4 t)) (k0_pay17 (iblk m c 4 t) (slab0 m c t)) (k0_pay18 (iblk m c 4 t) (slab1 m c t)) (slab2 m c t) (slab3 m c t) (iblk m c 7 t) (iblk m c 8 t) (iblk m c 9 t) (ix2 a l) = (D.diff (row t a) l : EReal) := fun a l => diff_at h t a l
  simp only [e]
  simp only [coe_sum, (show Ideal.ofBits .f32 973078528#32 = ((1 / 2048 : ℝ) : EReal) from ofBits_half_inv), ← EReal.coe_mul, Finset.mul_sum]

end Cert.Kernel6Ideal.Value

end
-- ==== Proof.PleKernel.lean ====
/-
  The kernel of the loss and the last two layer norms: its nine results, each as one real function of the arguments, and
  the precondition's real numbers.
-/
module

public import proofs.«01_k».proof.Proof.Gen.Kernel6Ideal.Value
public import proofs.«01_k».proof.Proof.Gen.Reference6Ideal.Read
public import proofs.«01_k».proof.Proof.PleValue
public import proofs.«01_k».proof.Proof.Finite
public import proofs.«01_k».proof.Proof.PleBlocks
public import proofs.«01_k».proof.Proof.Gen.Pre_ple_finite
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel6Ideal.Value

open Cert.Kernel6Ideal Cert.Kernel6Ideal.Gen
open Cert.Ple Cert.NormMath

variable (m : (ℓ : Loc nD τ sig) → Buf (Elt Ideal) ℓ)

/-- Where the slabs of a buffer lie. -/
theorem emb0 (i0) (k j : Fin 256) : (Rect.unit (s := S4x256x256) ![0, 0, 0] ![1, 256, 256] i0).emb (ix3 0 k j) = ix3 0 k j := by blk_ext
theorem emb1 (i0) (k j : Fin 256) : (Rect.unit (s := S4x256x256) ![1, 0, 0] ![1, 256, 256] i0).emb (ix3 0 k j) = ix3 1 k j := by blk_ext
theorem emb2 (i0) (k j : Fin 256) : (Rect.unit (s := S4x256x256) ![2, 0, 0] ![1, 256, 256] i0).emb (ix3 0 k j) = ix3 2 k j := by blk_ext
theorem emb3 (i0) (k j : Fin 256) : (Rect.unit (s := S4x256x256) ![3, 0, 0] ![1, 256, 256] i0).emb (ix3 0 k j) = ix3 3 k j := by blk_ext

/-- Four slabs stored over a buffer: where each is its part of one function, the buffer holds that function. -/
theorem slabs (G : S4x256x256.Idx → Elt Ideal .f32) (p0 p1 p2 p3 : S1x256x256.Idx → Elt Ideal .f32) (L : List (View.Piece (Elt Ideal) S4x256x256 .f32)) (i0 i1 i2 i3)
    (h0 : ∀ k j, p0 (ix3 0 k j) = G (ix3 0 k j)) (h1 : ∀ k j, p1 (ix3 0 k j) = G (ix3 1 k j))
    (h2 : ∀ k j, p2 (ix3 0 k j) = G (ix3 2 k j)) (h3 : ∀ k j, p3 (ix3 0 k j) = G (ix3 3 k j)) (i : S4x256x256.Idx) :
    View.canon (⟨Rect.unit ![3, 0, 0] ![1, 256, 256] i3, p3⟩ :: ⟨Rect.unit ![2, 0, 0] ![1, 256, 256] i2, p2⟩ ::
      ⟨Rect.unit ![1, 0, 0] ![1, 256, 256] i1, p1⟩ :: ⟨Rect.unit ![0, 0, 0] ![1, 256, 256] i0, p0⟩ :: L) i = G i := by
  have all : ∀ {p : S1x256x256.Idx → Elt Ideal .f32} {G' : S1x256x256.Idx → Elt Ideal .f32}, (∀ k j, p (ix3 0 k j) = G' (ix3 0 k j)) → ∀ x, p x = G' x :=
    fun hp x => by idx_vars x; obtain rfl : x0 = 0 := Subsingleton.elim _ _; exact hp _ _
  have cov : ∀ (q : Fin 4) (k j : Fin 256) (r : Rect S4x256x256) (hr : r.shape = S1x256x256) (x : r.shape.Idx), r.emb x = ix3 q k j → ix3 q k j ∈ r.set :=
    fun q k j r _ x e => e ▸ LoadRect.idx_mem r.toLoadRect x
  have h := View.canon_append_of_piecesOf G L [⟨Rect.unit ![3, 0, 0] ![1, 256, 256] i3, p3⟩, ⟨Rect.unit ![2, 0, 0] ![1, 256, 256] i2, p2⟩,
    ⟨Rect.unit ![1, 0, 0] ![1, 256, 256] i1, p1⟩, ⟨Rect.unit ![0, 0, 0] ![1, 256, 256] i0, p0⟩]
    ⟨all fun k j => (h3 k j).trans (congrArg G (emb3 i3 k j)).symm, all fun k j => (h2 k j).trans (congrArg G (emb2 i2 k j)).symm,
      all fun k j => (h1 k j).trans (congrArg G (emb1 i1 k j)).symm, all fun k j => (h0 k j).trans (congrArg G (emb0 i0 k j)).symm, trivial⟩ i
  refine h ?_
  obtain ⟨q, k, j, rfl⟩ : ∃ q k j, i = ix3 q k j := ⟨i 0, i 1, i 2, by funext a; fin_cases a <;> rfl⟩
  clear h
  obtain rfl | rfl | rfl | rfl : q = 0 ∨ q = 1 ∨ q = 2 ∨ q = 3 := by revert q; decide
  · exact ⟨_, List.mem_cons_of_mem _ (List.mem_cons_of_mem _ (List.mem_cons_of_mem _ List.mem_cons_self)), cov _ k j _ rfl (ix3 0 k j) (emb0 i0 k j)⟩
  · exact ⟨_, List.mem_cons_of_mem _ (List.mem_cons_of_mem _ List.mem_cons_self), cov _ k j _ rfl (ix3 0 k j) (emb1 i1 k j)⟩
  · exact ⟨_, List.mem_cons_of_mem _ List.mem_cons_self, cov _ k j _ rfl (ix3 0 k j) (emb2 i2 k j)⟩
  · exact ⟨_, List.mem_cons_self, cov _ k j _ rfl (ix3 0 k j) (emb3 i3 k j)⟩

theorem zero5 (j : S4x256x256.Idx) : k0_pay5 (F := Ideal) j = 0 := by pointwise! [k0_pay5]
theorem zero6 (j : S1024x1024.Idx) : k0_pay6 (F := Ideal) j = 0 := by pointwise! [k0_pay6]
theorem zero7 (j : S1x1024.Idx) : k0_pay7 (F := Ideal) j = 0 := by pointwise! [k0_pay7]
theorem zero8 (j : S1x1024.Idx) : k0_pay8 (F := Ideal) j = 0 := by pointwise! [k0_pay8]
theorem zero9 (j : S1x1024.Idx) : k0_pay9 (F := Ideal) j = 0 := by pointwise! [k0_pay9]
theorem zero10 (j : S1x1024.Idx) : k0_pay10 (F := Ideal) j = 0 := by pointwise! [k0_pay10]
theorem zero11 (j : S1x128.Idx) : k0_pay11 (F := Ideal) j = 0 := by pointwise! [k0_pay11]

variable {m} {c : Dev nD} {D : Data} (h : Holds D (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
include h

/-- The first result is the gradient of the sum before the second layer norm; the second is its copy in the narrow format. -/
theorem final_dpre : (dats m 0 c).arrAt 10 (cfgs 0).N = fun i : S4096x1024.Idx => (D.dpre (i 0) (i 1) : EReal) := by
  refine (dats m 0 c).arrAt_eq_of_covers 10 _ (by decide +kernel) fun t hf y => ?_
  rw [after0_10]
  idx_vars y
  have e : ((cfg0.win 10).blk t).view.emb (ix2 y0 y1) = ix2 (row t y0) y1 := by blk_ext [idx_val t]; rfl
  have key := out_dpre h t y0 y1
  refine Eq.trans ?_ (congrArg (fun i : S4096x1024.Idx => (D.dpre (i 0) (i 1) : EReal)) e).symm
  blk_simp
  by_cases h0 : t.val % 8 = 0
  · rw [outsAt0_A m c t h0]; frame_out; exact key
  · rw [outsAt0_B m c t h0]; frame_out; exact key

/-- The copy. -/
theorem final_dpreb : (dats m 0 c).arrAt 11 (cfgs 0).N = fun i : S4096x1024.Idx => (D.dpre (i 0) (i 1) : EReal) := by
  refine (dats m 0 c).arrAt_eq_of_covers 11 _ (by decide +kernel) fun t hf y => ?_
  rw [after0_11]
  idx_vars y
  have e : ((cfg0.win 11).blk t).view.emb (ix2 y0 y1) = ix2 (row t y0) y1 := by blk_ext [idx_val t]; rfl
  have key := out_dpreb h t y0 y1
  refine Eq.trans ?_ (congrArg (fun i : S4096x1024.Idx => (D.dpre (i 0) (i 1) : EReal)) e).symm
  blk_simp
  by_cases h0 : t.val % 8 = 0
  · rw [outsAt0_A m c t h0]; frame_out; exact key
  · rw [outsAt0_B m c t h0]; frame_out; exact key

/-- The third is the gradient of the embedding's projection, in four slabs. -/
theorem final_dwp : (dats m 0 c).arrAt 12 (cfgs 0).N = fun i : S4x256x256.Idx => (D.dwp (i 0) (i 1) (i 2) : EReal) := by
  refine (dats m 0 c).arrAt_eq_of_covers 12 _ (by decide +kernel) fun t hf y => ?_
  rw [after0_12]
  have e : ((cfg0.win 12).blk t).view.emb y = y := by idx_vars y; blk_ext [idx_val t]
  refine Eq.trans ?_ (congrArg (fun i : S4x256x256.Idx => (D.dwp (i 0) (i 1) (i 2) : EReal)) e).symm
  refine (acc_tiles (fun n h => (outsAt0 m c n h).2.2.1) 8 512 4096 rfl (fun s (i : S4x256x256.Idx) => D.p s (i 1) * D.dpe s (col (i 0) (i 2))) row row_val ?_ ?_ t ((flush0_12 t).mp hf) y).trans rfl
  · intro t ht i; rw [outsAt0_A m c t ht]; frame_out
    refine slabs (fun i => ((∑ a, D.p (row t a) (i 1) * D.dpe (row t a) (col (i 0) (i 2)) : ℝ) : EReal)) _ _ _ _ _ _ _ _ _ (fun k j => (add_dwp0 h t _ k j).trans ?_) (fun k j => (add_dwp1 h t _ k j).trans ?_) (fun k j => (add_dwp2 h t _ k j).trans ?_) (fun k j => (add_dwp3 h t _ k j).trans ?_) i
    · exact (congrArg (· + _) ((congrFun (View.readCov_fill _ _ _ _ _ (by decide)) _).trans (zero5 _))).trans (zero_add _)
    · exact (congrArg (· + _) ((congrFun (View.readCov_skip _ _ _ _ _ (by decide)) _).trans ((congrFun (View.readCov_fill _ _ _ _ _ (by decide)) _).trans (zero5 _)))).trans (zero_add _)
    · exact (congrArg (· + _) ((congrFun (View.readCov_skip _ _ _ _ _ (by decide)) _).trans ((congrFun (View.readCov_skip _ _ _ _ _ (by decide)) _).trans ((congrFun (View.readCov_fill _ _ _ _ _ (by decide)) _).trans (zero5 _))))).trans (zero_add _)
    · exact (congrArg (· + _) ((congrFun (View.readCov_skip _ _ _ _ _ (by decide)) _).trans ((congrFun (View.readCov_skip _ _ _ _ _ (by decide)) _).trans ((congrFun (View.readCov_skip _ _ _ _ _ (by decide)) _).trans ((congrFun (View.readCov_fill _ _ _ _ _ (by decide)) _).trans (zero5 _)))))).trans (zero_add _)
  · intro t ht i; rw [outsAt0_B m c t ht]; frame_out
    refine slabs (fun i => (outsAt0 m c (t.val - 1) _).2.2.1 i + ((∑ a, D.p (row t a) (i 1) * D.dpe (row t a) (col (i 0) (i 2)) : ℝ) : EReal)) _ _ _ _ _ _ _ _ _ (fun k j => (add_dwp0 h t _ k j).trans ?_) (fun k j => (add_dwp1 h t _ k j).trans ?_) (fun k j => (add_dwp2 h t _ k j).trans ?_) (fun k j => (add_dwp3 h t _ k j).trans ?_) i
    · exact congrArg (· + _) (congrArg (outsAt0 m c (t.val - 1) _).2.2.1 (emb0 _ k j))
    · exact congrArg (· + _) (congrArg (outsAt0 m c (t.val - 1) _).2.2.1 (emb1 _ k j))
    · exact congrArg (· + _) (congrArg (outsAt0 m c (t.val - 1) _).2.2.1 (emb2 _ k j))
    · exact congrArg (· + _) (congrArg (outsAt0 m c (t.val - 1) _).2.2.1 (emb3 _ k j))

/-- The fourth is the gradient of the gate's weight. -/
theorem final_dwg : (dats m 0 c).arrAt 13 (cfgs 0).N = fun i : S1024x1024.Idx => (D.dwg (i 0) (i 1) : EReal) := by
  refine (dats m 0 c).arrAt_eq_of_covers 13 _ (by decide +kernel) fun t hf y => ?_
  rw [after0_13]
  have e : ((cfg0.win 13).blk t).view.emb y = y := by idx_vars y; blk_ext [idx_val t]
  refine Eq.trans ?_ (congrArg (fun i : S1024x1024.Idx => (D.dwg (i 0) (i 1) : EReal)) e).symm
  refine (acc_tiles (fun n h => (outsAt0 m c n h).2.2.2.1) 8 512 4096 rfl (fun s (i : S1024x1024.Idx) => D.x2 s (i 0) * D.dgp s (i 1)) row row_val ?_ ?_ t ((flush0_13 t).mp hf) y).trans rfl
  · intro t ht i; rw [outsAt0_A m c t ht]; frame_out; idx_vars i
    exact (add_dwg h t _ _ _).trans (by rw [zero6, zero_add])
  · intro t ht i; rw [outsAt0_B m c t ht]; frame_out; idx_vars i
    exact add_dwg h t _ _ _

/-- The gradients of the gains and shifts of the third and the second layer norm. -/
theorem final_dg3 : (dats m 0 c).arrAt 14 (cfgs 0).N = fun i : S1x1024.Idx => (D.dg3 (i 1) : EReal) := by
  refine (dats m 0 c).arrAt_eq_of_covers 14 _ (by decide +kernel) fun t hf y => ?_
  rw [after0_14]
  have e : ((cfg0.win 14).blk t).view.emb y = y := by idx_vars y; blk_ext [idx_val t]
  refine Eq.trans ?_ (congrArg (fun i : S1x1024.Idx => (D.dg3 (i 1) : EReal)) e).symm
  refine (acc_tiles (fun n h => (outsAt0 m c n h).2.2.2.2.1) 8 512 4096 rfl (fun s (i : S1x1024.Idx) => D.dy s (i 1) * xhat (D.pre s) (i 1)) row row_val ?_ ?_ t ((flush0_14 t).mp hf) y).trans rfl
  · intro t ht i; rw [outsAt0_A m c t ht]; frame_out; idx_vars i; obtain rfl : i0 = 0 := Subsingleton.elim _ _
    exact (add_dg3 h t _ _).trans (by rw [zero7, zero_add])
  · intro t ht i; rw [outsAt0_B m c t ht]; frame_out; idx_vars i; obtain rfl : i0 = 0 := Subsingleton.elim _ _
    exact add_dg3 h t _ _

/-- The third norm's shift. -/
theorem final_db3 : (dats m 0 c).arrAt 15 (cfgs 0).N = fun i : S1x1024.Idx => (D.db3 (i 1) : EReal) := by
  refine (dats m 0 c).arrAt_eq_of_covers 15 _ (by decide +kernel) fun t hf y => ?_
  rw [after0_15]
  have e : ((cfg0.win 15).blk t).view.emb y = y := by idx_vars y; blk_ext [idx_val t]
  refine Eq.trans ?_ (congrArg (fun i : S1x1024.Idx => (D.db3 (i 1) : EReal)) e).symm
  refine (acc_tiles (fun n h => (outsAt0 m c n h).2.2.2.2.2.1) 8 512 4096 rfl (fun s (i : S1x1024.Idx) => D.dy s (i 1)) row row_val ?_ ?_ t ((flush0_15 t).mp hf) y).trans rfl
  · intro t ht i; rw [outsAt0_A m c t ht]; frame_out; idx_vars i; obtain rfl : i0 = 0 := Subsingleton.elim _ _
    exact (add_db3 h t _ _).trans (by rw [zero8, zero_add])
  · intro t ht i; rw [outsAt0_B m c t ht]; frame_out; idx_vars i; obtain rfl : i0 = 0 := Subsingleton.elim _ _
    exact add_db3 h t _ _

/-- The second norm's gain. -/
theorem final_dg2 : (dats m 0 c).arrAt 16 (cfgs 0).N = fun i : S1x1024.Idx => (D.dg2 (i 1) : EReal) := by
  refine (dats m 0 c).arrAt_eq_of_covers 16 _ (by decide +kernel) fun t hf y => ?_
  rw [after0_16]
  have e : ((cfg0.win 16).blk t).view.emb y = y := by idx_vars y; blk_ext [idx_val t]
  refine Eq.trans ?_ (congrArg (fun i : S1x1024.Idx => (D.dg2 (i 1) : EReal)) e).symm
  refine (acc_tiles (fun n h => (outsAt0 m c n h).2.2.2.2.2.2.1) 8 512 4096 rfl (fun s (i : S1x1024.Idx) => D.dx2 s (i 1) * xhat (D.x s) (i 1)) row row_val ?_ ?_ t ((flush0_16 t).mp hf) y).trans rfl
  · intro t ht i; rw [outsAt0_A m c t ht]; frame_out; idx_vars i; obtain rfl : i0 = 0 := Subsingleton.elim _ _
    exact (add_dg2 h t _ _).trans (by rw [zero9, zero_add])
  · intro t ht i; rw [outsAt0_B m c t ht]; frame_out; idx_vars i; obtain rfl : i0 = 0 := Subsingleton.elim _ _
    exact add_dg2 h t _ _

/-- The second norm's shift. -/
theorem final_db2 : (dats m 0 c).arrAt 17 (cfgs 0).N = fun i : S1x1024.Idx => (D.db2 (i 1) : EReal) := by
  refine (dats m 0 c).arrAt_eq_of_covers 17 _ (by decide +kernel) fun t hf y => ?_
  rw [after0_17]
  have e : ((cfg0.win 17).blk t).view.emb y = y := by idx_vars y; blk_ext [idx_val t]
  refine Eq.trans ?_ (congrArg (fun i : S1x1024.Idx => (D.db2 (i 1) : EReal)) e).symm
  refine (acc_tiles (fun n h => (outsAt0 m c n h).2.2.2.2.2.2.2.1) 8 512 4096 rfl (fun s (i : S1x1024.Idx) => D.dx2 s (i 1)) row row_val ?_ ?_ t ((flush0_17 t).mp hf) y).trans rfl
  · intro t ht i; rw [outsAt0_A m c t ht]; frame_out; idx_vars i; obtain rfl : i0 = 0 := Subsingleton.elim _ _
    exact (add_db2 h t _ _).trans (by rw [zero10, zero_add])
  · intro t ht i; rw [outsAt0_B m c t ht]; frame_out; idx_vars i; obtain rfl : i0 = 0 := Subsingleton.elim _ _
    exact add_db2 h t _ _

/-- The last is the loss, the same number in every lane. -/
theorem final_loss : (dats m 0 c).arrAt 18 (cfgs 0).N = fun i : S1x128.Idx => (D.loss : EReal) := by
  refine (dats m 0 c).arrAt_eq_of_covers 18 _ (by decide +kernel) fun t hf y => ?_
  rw [after0_18]
  have e : ((cfg0.win 18).blk t).view.emb y = y := by idx_vars y; blk_ext [idx_val t]
  refine Eq.trans ?_ (congrArg (fun i : S1x128.Idx => (D.loss : EReal)) e).symm
  refine (acc_tiles (fun n h => (outsAt0 m c n h).2.2.2.2.2.2.2.2) 8 512 4096 rfl (fun s (i : S1x128.Idx) => 1 / 2048 * ∑ l, D.diff s l * D.diff s l) row row_val ?_ ?_ t ((flush0_18 t).mp hf) y).trans rfl
  · intro t ht i; rw [outsAt0_A m c t ht]; frame_out; idx_vars i; obtain rfl : i0 = 0 := Subsingleton.elim _ _
    exact (add_loss h t _ _).trans (by rw [zero11, zero_add])
  · intro t ht i; rw [outsAt0_B m c t ht]; frame_out; idx_vars i; obtain rfl : i0 = 0 := Subsingleton.elim _ _
    exact add_loss h t _ _

end Cert.Kernel6Ideal.Value

namespace Cert.Ple

open Cert.Pre_ple_finite

/-- The numbers the arguments hold. -/
def dataOf (x : FVec Ideal S1x4096x1024 .f32) (p : FVec Ideal S1x1x4096x256 .f32) (wp : FVec Ideal S1x256x1024 .f32) (wg : FVec Ideal S1x1024x1024 .f32)
    (g2 b2 g3 b3 : FVec Ideal S1x1024 .f32) (tg : FVec Ideal S1x4096x1024 .f32) : Data where
  x s k := EReal.toReal (x (ix3 0 s k))
  p s k := EReal.toReal (p (ix4 0 0 s k))
  wp i k := EReal.toReal (wp (ix3 0 i k))
  wg i k := EReal.toReal (wg (ix3 0 i k))
  g2 k := EReal.toReal (g2 (ix2 0 k))
  b2 k := EReal.toReal (b2 (ix2 0 k))
  g3 k := EReal.toReal (g3 (ix2 0 k))
  b3 k := EReal.toReal (b3 (ix2 0 k))
  tg s k := EReal.toReal (tg (ix3 0 s k))

/-- The precondition gives arguments that hold real numbers. -/
theorem holds_of_pre [Cert.Pre_ple_finite.Facts] {x : FVec Ideal S1x4096x1024 .f32} {p : FVec Ideal S1x1x4096x256 .f32} {wp : FVec Ideal S1x256x1024 .f32} {wg : FVec Ideal S1x1024x1024 .f32}
    {g2 b2 g3 b3 : FVec Ideal S1x1024 .f32} {tg : FVec Ideal S1x4096x1024 .f32}
    (h : fn (F := Ideal) x p wp wg g2 b2 g3 b3 tg = fun _ => 1#1) : Holds (dataOf x p wp wg g2 b2 g3 b3 tg) x p wp wg g2 b2 g3 b3 tg := by
  have h0 := congrFun h (fun k => k.elim0)
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun _ _ => Finite.real_of_all _ _ _ _ _ h0 _, fun _ _ => Finite.real_of_all _ _ _ _ _ h1 _, fun _ _ => Finite.real_of_all _ _ _ _ _ h2 _, fun _ _ => Finite.real_of_all _ _ _ _ _ h3 _, fun _ => Finite.real_of_all _ _ _ _ _ h4 _, fun _ => Finite.real_of_all _ _ _ _ _ h5 _, fun _ => Finite.real_of_all _ _ _ _ _ h6 _, fun _ => Finite.real_of_all _ _ _ _ _ h7 _, fun _ _ => Finite.real_of_all _ _ _ _ _ h8 _⟩

end Cert.Ple

end
-- ==== Proof.Forward.lean ====
/-
  Layer normalisation over the extended reals, for the forward calls: kernel and reference are the same function of a
  row, infinities included.
-/
module

public import Idealize.ShloMosaic.Lib.Pipeline.ValueKit
public import Idealize.ShloMosaic.Lib.Pointwise

@[expose] public section

noncomputable section

namespace Cert.Forward

open Idealize.ShloMosaic

/-- A row's mean, its entries less the mean, its reciprocal deviation, and the normalised row. -/
def mean (p : Fin 1024 → EReal) : EReal := Ideal.div (∑ k, p k) (Ideal.ofBits .f32 0x44800000#32)

def dev (p : Fin 1024 → EReal) (k : Fin 1024) : EReal := p k - mean p

def rstd (p : Fin 1024 → EReal) : EReal := Ideal.rsqrt (mean (fun k => dev p k * dev p k) + Ideal.ofBits .f32 0x3727C5AC#32)

def hat (p : Fin 1024 → EReal) (k : Fin 1024) : EReal := dev p k * rstd p

/-- The residual branches' factor. -/
def alpha : EReal := Ideal.ofBits .f32 0x3F9837F0#32

/-- A sum over the projection's rows in its two halves. -/
theorem sum_halves (f : Fin 1024 → EReal) : ∑ i, f i = ∑ j : Fin 512, f ⟨j.val, by omega⟩ + ∑ j : Fin 512, f ⟨512 + j.val, by omega⟩ :=
  Fin.sum_univ_add (a := 512) (b := 512) f

end Cert.Forward

end
-- ==== Proof.MixForward.lean ====
/-
  The output projection and the layer norm after it, forward: what the kernel computes of a tile of rows is what the
  reference computes of those rows.
-/
module

public import proofs.«01_k».proof.Proof.Gen.Kernel7Ideal.Value
public import proofs.«01_k».proof.Proof.Gen.Reference7Ideal.Read
public import proofs.«01_k».proof.Proof.Forward
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference7Ideal.Value

open Cert.Reference7Ideal Cert.Reference7Ideal.Read Cert.Forward

variable (x0 x1 : FVec Ideal S1x4096x512 .f32) (x2 : FVec Ideal S1x4096x1024 .f32) (x3 : FVec Ideal S1x512 .f32)
  (x4 : FVec Ideal S1x1024x1024 .f32) (x5 x6 x7 x8 : FVec Ideal S1x1024 .f32)

/-- The layer norm's input. -/
def pre (s : Fin 4096) (k : Fin 1024) : EReal := val_main_v50 (F := Ideal) x0 x1 x2 x3 x4 x5 x6 (ix2 s k)

/-- It is the residual plus the two halves' products. -/
theorem pre_is (s : Fin 4096) (k : Fin 1024) : pre x0 x1 x2 x3 x4 x5 x6 s k
    = alpha * (val_main_v20 (F := Ideal) x2 (ix2 s k) * x5 (ix2 0 k) + x6 (ix2 0 k))
      + (∑ j : Fin 512, val_main_v47 (F := Ideal) x0 x3 (ix2 s j) * x4 (ix3 0 ⟨j.val, by omega⟩ k)
        + ∑ j : Fin 512, x1 (ix3 0 s j) * x4 (ix3 0 ⟨512 + j.val, by omega⟩ k)) := by
  unfold pre
  pointwise [val_main_v50, val_main_v49, val_main_v32, val_main_v28, val_main_v27, val_main_cst_4, val_main_v26, val_main_v25, val_main_v24, val_main_v23, val_main_v22, val_main_v21, val_main_v1, val_main_v2]
  rw [sum_halves]
  refine congrArg (_ + ·) (congrArg₂ (· + ·) (Finset.sum_congr rfl fun j _ => ?_) (Finset.sum_congr rfl fun j _ => ?_))
  · pointwise [val_main_v48]
  · pointwise [val_main_v48, val_main_v30]

theorem xh_is (s : Fin 4096) (k : Fin 1024) : val_main_v68 (F := Ideal) x0 x1 x2 x3 x4 x5 x6 (ix2 s k) = hat (pre x0 x1 x2 x3 x4 x5 x6 s) k := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_8, val_main_cst_9, val_main_cst_10, val_main_cst_11, val_main_cst_12]
  rfl

theorem rstd_is (s : Fin 4096) : val_main_v64 (F := Ideal) x0 x1 x2 x3 x4 x5 x6 (ix2 s 0) = rstd (pre x0 x1 x2 x3 x4 x5 x6 s) := by
  pointwise [val_main_v64, val_main_v63, val_main_v62, val_main_v61, val_main_v60, val_main_v59, val_main_v58, val_main_v57, val_main_v56, val_main_v55, val_main_v54, val_main_v53, val_main_v52, val_main_v51, val_main_cst_8, val_main_cst_9, val_main_cst_10, val_main_cst_11, val_main_cst_12]
  rfl

theorem x1_is (s : Fin 4096) (k : Fin 1024) : val_main_v95 (F := Ideal) x0 x1 x2 x3 x4 x5 x6 x7 x8 (ix2 s k) = hat (pre x0 x1 x2 x3 x4 x5 x6 s) k * x7 (ix2 0 k) + x8 (ix2 0 k) := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_cst_13, val_main_cst_14, val_main_cst_15, val_main_cst_16, val_main_cst_17]
  rfl

end Cert.Reference7Ideal.Value

namespace Cert.Kernel7Ideal.Value

open Cert.Kernel7Ideal Cert.Kernel7Ideal.Gen
open Cert.Forward Cert.Reference7Ideal.Value

/-! ## What the kernel computes of a tile of rows -/

/-- The layer norm's input, from the tile's parts. -/
def input (v0 : Vec Ideal S1024x512 .bf16) (v2 : Vec Ideal S512x1024 .bf16) (v5 : Vec Ideal S1024x512 .bf16) (v7 : Vec Ideal S512x1024 .bf16)
    (v11 : Vec Ideal S1024x1024 .f32) (v13 v16 : Vec Ideal S1x1024 .f32) (a k : Fin 1024) : EReal :=
  alpha * (v11 (ix2 a k) * v13 (ix2 0 k) + v16 (ix2 0 k)) + (∑ j, v0 (ix2 a j) * v2 (ix2 j k) + ∑ j, v5 (ix2 a j) * v7 (ix2 j k))

section Tile

variable {v0 v5 : Vec Ideal S1024x512 .bf16} {v2 v7 : Vec Ideal S512x1024 .bf16} {v11 : Vec Ideal S1024x1024 .f32} {v13 v16 v41 v46 : Vec Ideal S1x1024 .f32}
  {p : Fin 1024 → EReal} {a : Fin 1024} (h : ∀ k, input v0 v2 v5 v7 v11 v13 v16 a k = p k)
include h

theorem tile_dev (k : Fin 1024) : k0_pay5 v0 v2 v5 v7 v11 v13 v16 (ix2 a k) = dev p k := by
  obtain rfl : _ = p := funext h
  pointwise [k0_pay5]
  rfl

theorem tile_rstd : k0_pay6 v0 v2 v5 v7 v11 v13 v16 (ix2 a 0) = rstd p := by
  pointwise [k0_pay6]
  simp only [tile_dev h]
  rfl

theorem tile_hat (k : Fin 1024) : k0_pay2 (k0_pay5 v0 v2 v5 v7 v11 v13 v16) (k0_pay7 v0 v2 v5 v7 v11 v13 v16) (ix2 a k) = hat p k := by
  pointwise [k0_pay2, k0_pay1, k0_pay7]
  rw [tile_dev h, tile_rstd h]
  rfl

theorem tile_col : k0_pay3 (k0_pay6 v0 v2 v5 v7 v11 v13 v16) (ix2 a 0) = rstd p := by
  pointwise [k0_pay3]
  exact tile_rstd h

theorem tile_norm (k : Fin 1024) : k0_pay4 (k0_pay5 v0 v2 v5 v7 v11 v13 v16) (k0_pay7 v0 v2 v5 v7 v11 v13 v16) v41 v46 (ix2 a k)
    = hat p k * v41 (ix2 0 k) + v46 (ix2 0 k) := by
  pointwise [k0_pay4, k0_pay1, k0_pay7]
  rw [tile_dev h, tile_rstd h]
  rfl

end Tile

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0] :=
  (by decide +kernel : ∀ t : Fin grid0.N, _)

/-! ## What the host hands it -/

/-- Rows and weights in the narrow format. -/
def rows (d : FVec Ideal S1x4096x512 .f32) : FVec Ideal S4096x512 .bf16 := truncf .bf16 (shapeCast S4096x512 d shapeCasts_S1x4096x512_S4096x512) bitsLt_bf16_f32

def narrow (d : FVec Ideal S4096x512 .f32) : FVec Ideal S4096x512 .bf16 := truncf .bf16 d bitsLt_bf16_f32

def weight (d : FVec Ideal S1x1024x1024 .f32) : FVec Ideal S1024x1024 .bf16 := truncf .bf16 (shapeCast S1024x1024 d shapeCasts_S1x1024x1024_S1024x1024) bitsLt_bf16_f32

/-- The normalised heads and the normalised residual rows are the reference's own lines. -/
theorem V_on (c : Dev nD) : V m c main_v36 = narrow (Cert.Reference7Ideal.Read.val_main_v47 (F := Ideal) (m ((c : Thread nD τ).loc main_arg0)) (m ((c : Thread nD τ).loc main_arg3))) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_po (c : Dev nD) : V m c main_v38 = rows (m ((c : Thread nD τ).loc main_arg1)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_xh (c : Dev nD) : V m c main_v18 = Cert.Reference7Ideal.Read.val_main_v20 (F := Ideal) (m ((c : Thread nD τ).loc main_arg2)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_w (c : Dev nD) : V m c main_v40 = weight (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g0 (c : Dev nD) : V m c main_arg5 = (m ((c : Thread nD τ).loc main_arg5)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_b0 (c : Dev nD) : V m c main_arg6 = (m ((c : Thread nD τ).loc main_arg6)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g1 (c : Dev nD) : V m c main_arg7 = (m ((c : Thread nD τ).loc main_arg7)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_b1 (c : Dev nD) : V m c main_arg8 = (m ((c : Thread nD τ).loc main_arg8)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The row of the whole array that row `a` of tile `t` is. -/
def row (t : Fin cfg0.N) (a : Fin 1024) : Fin 4096 := ⟨t.val * 1024 + a.val, by have h : t.val < 4 := t.isLt; omega⟩

variable {m} (c : Dev nD)

/-- The layer norm's input, from the kernel's arguments. -/
abbrev apre : Fin 4096 → Fin 1024 → EReal := pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem blk_on (t : Fin cfg0.N) (a : Fin 1024) (j : Fin 512) : iblk m c 0 t (ix2 a j) = Cert.Reference7Ideal.Read.val_main_v47 (F := Ideal) (m ((c : Thread nD τ).loc main_arg0)) (m ((c : Thread nD τ).loc main_arg3)) (ix2 (row t a) j) := by
  have e : ((cfg0.win 0).blk t).view.emb (ix2 a j) = ix2 (row t a) j := by blk_ext [idx_val t]; rfl
  show V m c main_v36 (((cfg0.win 0).blk t).view.emb (ix2 a j)) = _
  rw [V_on, e]
  pointwise [narrow]

theorem blk_po (t : Fin cfg0.N) (a : Fin 1024) (j : Fin 512) : iblk m c 1 t (ix2 a j) = (m ((c : Thread nD τ).loc main_arg1)) (ix3 0 (row t a) j) := by
  have e : ((cfg0.win 1).blk t).view.emb (ix2 a j) = ix2 (row t a) j := by blk_ext [idx_val t]; rfl
  show V m c main_v38 (((cfg0.win 1).blk t).view.emb (ix2 a j)) = _
  rw [V_po, e]
  pointwise [rows]

theorem blk_xh (t : Fin cfg0.N) (a : Fin 1024) (j : Fin 1024) : iblk m c 2 t (ix2 a j) = Cert.Reference7Ideal.Read.val_main_v20 (F := Ideal) (m ((c : Thread nD τ).loc main_arg2)) (ix2 (row t a) j) := by
  have e : ((cfg0.win 2).blk t).view.emb (ix2 a j) = ix2 (row t a) j := by blk_ext [idx_val t]; rfl
  show V m c main_v18 (((cfg0.win 2).blk t).view.emb (ix2 a j)) = _
  rw [V_xh, e]

theorem blk_w (t : Fin cfg0.N) (i : Fin 1024) (k : Fin 1024) : iblk m c 5 t (ix2 i k) = (m ((c : Thread nD τ).loc main_arg4)) (ix3 0 i k) := by
  have e : ((cfg0.win 5).blk t).view.emb (ix2 i k) = ix2 i k := by blk_ext [idx_val t]
  show V m c main_v40 (((cfg0.win 5).blk t).view.emb (ix2 i k)) = _
  rw [V_w, e]
  pointwise [weight]

theorem blk_g0 (t : Fin cfg0.N) (k : Fin 1024) : iblk m c 3 t (ix2 0 k) = (m ((c : Thread nD τ).loc main_arg5)) (ix2 0 k) := by
  have e : ((cfg0.win 3).blk t).view.emb (ix2 0 k) = ix2 0 k := by blk_ext [idx_val t]
  show V m c main_arg5 (((cfg0.win 3).blk t).view.emb (ix2 0 k)) = _
  rw [V_g0, e]

theorem blk_b0 (t : Fin cfg0.N) (k : Fin 1024) : iblk m c 4 t (ix2 0 k) = (m ((c : Thread nD τ).loc main_arg6)) (ix2 0 k) := by
  have e : ((cfg0.win 4).blk t).view.emb (ix2 0 k) = ix2 0 k := by blk_ext [idx_val t]
  show V m c main_arg6 (((cfg0.win 4).blk t).view.emb (ix2 0 k)) = _
  rw [V_b0, e]

theorem blk_g1 (t : Fin cfg0.N) (k : Fin 1024) : iblk m c 6 t (ix2 0 k) = (m ((c : Thread nD τ).loc main_arg7)) (ix2 0 k) := by
  have e : ((cfg0.win 6).blk t).view.emb (ix2 0 k) = ix2 0 k := by blk_ext [idx_val t]
  show V m c main_arg7 (((cfg0.win 6).blk t).view.emb (ix2 0 k)) = _
  rw [V_g1, e]

theorem blk_b1 (t : Fin cfg0.N) (k : Fin 1024) : iblk m c 7 t (ix2 0 k) = (m ((c : Thread nD τ).loc main_arg8)) (ix2 0 k) := by
  have e : ((cfg0.win 7).blk t).view.emb (ix2 0 k) = ix2 0 k := by blk_ext [idx_val t]
  show V m c main_arg8 (((cfg0.win 7).blk t).view.emb (ix2 0 k)) = _
  rw [V_b1, e]

/-- A tile's rows are the reference's. -/
theorem tile_pre (t : Fin cfg0.N) (a k : Fin 1024) :
    input (View.ld (iblk m c 0 t) r0_0) (View.ld (iblk m c 5 t) r0_1) (View.ld (iblk m c 1 t) r0_0) (View.ld (iblk m c 5 t) r0_2)
      (View.ld (iblk m c 2 t) r0_3) (View.ld (iblk m c 3 t) r0_4) (View.ld (iblk m c 4 t) r0_4) a k = apre (m := m) c (row t a) k := by
  have e1 : ∀ j : Fin 512, r0_1.emb (ix2 j k) = ix2 ⟨j.val, by omega⟩ k := fun j => by blk_ext
  have e2 : ∀ j : Fin 512, r0_2.emb (ix2 j k) = ix2 ⟨512 + j.val, by omega⟩ k := fun j => by blk_ext
  have l0 : ∀ j : Fin 512, r0_0.emb (ix2 a j) = ix2 a j := fun j => by blk_ext
  have l3 : r0_3.emb (ix2 a k) = ix2 a k := by blk_ext
  have l4 : r0_4.emb (ix2 0 k) = ix2 0 k := by blk_ext
  have f2 := (congrArg (iblk m c 2 t) l3).trans (blk_xh c t a k)
  have f3 := (congrArg (iblk m c 3 t) l4).trans (blk_g0 c t k)
  have f4 := (congrArg (iblk m c 4 t) l4).trans (blk_b0 c t k)
  refine (congrArg₂ (fun x y : EReal => x + y) (congrArg (fun x : EReal => alpha * x) (congrArg₂ (fun x y : EReal => x + y) (congrArg₂ (fun x y : EReal => x * y) f2 f3) f4))
    (congrArg₂ (fun x y : EReal => x + y) (Finset.sum_congr rfl fun j _ => ?_) (Finset.sum_congr rfl fun j _ => ?_))).trans (pre_is _ _ _ _ _ _ _ _ _).symm
  · exact congrArg₂ (fun x y : EReal => x * y) ((congrArg (iblk m c 0 t) (l0 j)).trans (blk_on c t a j)) ((congrArg (iblk m c 5 t) (e1 j)).trans (blk_w c t _ k))
  · exact congrArg₂ (fun x y : EReal => x * y) ((congrArg (iblk m c 1 t) (l0 j)).trans (blk_po c t a j)) ((congrArg (iblk m c 5 t) (e2 j)).trans (blk_w c t _ k))

/-! ## The results -/

/-- The normalised rows. -/
theorem final_xh : (dats m 0 c).arrAt 8 (cfgs 0).N = fun i : S4096x1024.Idx => (hat (apre (m := m) c (i 0)) (i 1) : EReal) := by
  refine (dats m 0 c).arrAt_eq_of_covers 8 _ (by decide +kernel) fun t hf y => ?_
  rw [after0_8]
  idx_vars y
  have e : ((cfg0.win 8).blk t).view.emb (ix2 y0 y1) = ix2 (row t y0) y1 := by blk_ext [idx_val t]; rfl
  refine Eq.trans ?_ (congrArg (fun i : S4096x1024.Idx => (hat (apre (m := m) c (i 0)) (i 1) : EReal)) e).symm
  blk_simp
  unfold_out out0_8
  exact (congrFun (View.canon_cons_unit_lit inb_S1024x1024_S1024x1024_0_0 _ _ (by decide)) _).trans (tile_hat (tile_pre c t y0) y1)

/-- The reciprocal deviations. -/
theorem final_rstd : (dats m 0 c).arrAt 9 (cfgs 0).N = fun i : S4096x1.Idx => (rstd (apre (m := m) c (i 0)) : EReal) := by
  refine (dats m 0 c).arrAt_eq_of_covers 9 _ (by decide +kernel) fun t hf y => ?_
  rw [after0_9]
  idx_vars y
  obtain rfl : y1 = 0 := Subsingleton.elim _ _
  have e : ((cfg0.win 9).blk t).view.emb (ix2 y0 0) = ix2 (row t y0) 0 := by blk_ext [idx_val t]; rfl
  refine Eq.trans ?_ (congrArg (fun i : S4096x1.Idx => (rstd (apre (m := m) c (i 0)) : EReal)) e).symm
  blk_simp
  unfold_out out0_9
  exact (congrFun (View.canon_cons_unit_lit inb_S1024x1_S1024x1_0_0 _ _ (by decide)) _).trans (tile_col (tile_pre c t y0))

/-- The layer norm's result. -/
theorem final_x1 : (dats m 0 c).arrAt 10 (cfgs 0).N = fun i : S4096x1024.Idx => (hat (apre (m := m) c (i 0)) (i 1) * (m ((c : Thread nD τ).loc main_arg7)) (ix2 0 (i 1)) + (m ((c : Thread nD τ).loc main_arg8)) (ix2 0 (i 1)) : EReal) := by
  refine (dats m 0 c).arrAt_eq_of_covers 10 _ (by decide +kernel) fun t hf y => ?_
  rw [after0_10]
  idx_vars y
  have e : ((cfg0.win 10).blk t).view.emb (ix2 y0 y1) = ix2 (row t y0) y1 := by blk_ext [idx_val t]; rfl
  refine Eq.trans ?_ (congrArg (fun i : S4096x1024.Idx => (hat (apre (m := m) c (i 0)) (i 1) * (m ((c : Thread nD τ).loc main_arg7)) (ix2 0 (i 1)) + (m ((c : Thread nD τ).loc main_arg8)) (ix2 0 (i 1)) : EReal)) e).symm
  blk_simp
  unfold_out out0_10
  have l : r0_4.emb (ix2 0 y1) = ix2 0 y1 := by blk_ext
  exact (congrFun (View.canon_cons_unit_lit inb_S1024x1024_S1024x1024_0_0 _ _ (by decide)) _).trans ((tile_norm (tile_pre c t y0) y1).trans
    (congrArg₂ (fun g b => hat (apre (m := m) c (row t y0)) y1 * g + b) ((congrArg (iblk m c 6 t) l).trans (blk_g1 c t y1)) ((congrArg (iblk m c 7 t) l).trans (blk_b1 c t y1))))

end Cert.Kernel7Ideal.Value

end
-- ==== Proof.MlpForward.lean ====
/-
  The feed-forward block and the layer norm after it, forward: a tile of rows is built up over four slabs of hidden
  units, and the last slab's point normalises it.
-/
module

public import proofs.«01_k».proof.Proof.Gen.Kernel8Ideal.Value
public import proofs.«01_k».proof.Proof.Gen.Reference8Ideal.Read
public import proofs.«01_k».proof.Proof.Forward
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference8Ideal.Value

open Cert.Reference8Ideal Cert.Reference8Ideal.Read Cert.Forward

variable (x0 : FVec Ideal S1x4096x1024 .f32) (x1 x2 : FVec Ideal S1x1024 .f32) (x3 : FVec Ideal S1x1024x4096 .f32) (x4 : FVec Ideal S1x4096x1024 .f32)

/-- The hidden unit's activation, and the layer norm's input. -/
def act (s f : Fin 4096) : EReal := val_main_v29 (F := Ideal) x0 x1 x2 x3 (ix2 s f)

def pre (s : Fin 4096) (k : Fin 1024) : EReal := val_main_v35 (F := Ideal) x0 x1 x2 x3 x4 (ix2 s k)

theorem act_is (s f : Fin 4096) : act x0 x1 x2 x3 s f = max (∑ d : Fin 1024, val_main_v26 (F := Ideal) x0 x1 x2 (ix2 s d) * x3 (ix3 0 d f)) 0 := by
  unfold act
  pointwise [val_main_v29, val_main_call0_v0, val_main_call0_cst, val_main_v28, val_main_v27]

theorem pre_is (s : Fin 4096) (k : Fin 1024) : pre x0 x1 x2 x3 x4 s k
    = alpha * (val_main_v20 (F := Ideal) x0 (ix2 s k) * x1 (ix2 0 k) + x2 (ix2 0 k))
      + ∑ f : Fin 4096, act x0 x1 x2 x3 s f * act x0 x1 x2 x3 s f * x4 (ix3 0 f k) := by
  unfold pre act
  pointwise [val_main_v35, val_main_v34, val_main_v33, val_main_v32, val_main_v31, val_main_v30, val_main_cst_4, val_main_v26, val_main_v25, val_main_v24, val_main_v23, val_main_v22, val_main_v21, val_main_v1, val_main_v2]
  rfl

theorem xh_is (s : Fin 4096) (k : Fin 1024) : val_main_v53 (F := Ideal) x0 x1 x2 x3 x4 (ix2 s k) = hat (pre x0 x1 x2 x3 x4 s) k := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_cst_5, val_main_cst_6, val_main_cst_7, val_main_cst_8, val_main_cst_9]
  rfl

theorem rstd_is (s : Fin 4096) : val_main_v49 (F := Ideal) x0 x1 x2 x3 x4 (ix2 s 0) = rstd (pre x0 x1 x2 x3 x4 s) := by
  pointwise [val_main_v49, val_main_v48, val_main_v47, val_main_v46, val_main_v45, val_main_v44, val_main_v43, val_main_v42, val_main_v41, val_main_v40, val_main_v39, val_main_v38, val_main_v37, val_main_v36, val_main_cst_5, val_main_cst_6, val_main_cst_7, val_main_cst_8, val_main_cst_9]
  rfl

theorem r_is (s f : Fin 4096) : val_main_v54 (F := Ideal) x0 x1 x2 x3 (ix2 s f) = act x0 x1 x2 x3 s f := by
  pointwise [val_main_v54]
  rfl

end Cert.Reference8Ideal.Value

namespace Cert.Kernel8Ideal.Value

open Cert.Kernel8Ideal Cert.Kernel8Ideal.Gen
open Cert.Forward Cert.Reference8Ideal.Value

/-! ## What a grid point computes -/

theorem tile_act (v3 : Vec Ideal S1024x1024 .bf16) (v5 : Vec Ideal S1x1024x1024 .bf16) (a b : Fin 1024) :
    k0_pay2 v3 v5 (ix2 a b) = max (∑ d : Fin 1024, v3 (ix2 a d) * v5 (ix3 0 d b)) 0 := by
  pointwise [k0_pay2]

theorem tile_store (v3 : Vec Ideal S1024x1024 .bf16) (v5 : Vec Ideal S1x1024x1024 .bf16) (j : S1024x1024.Idx) : k0_pay3 v3 v5 j = k0_pay2 v3 v5 j := by
  pointwise [k0_pay3]

theorem tile_zero (j : S1024x1024.Idx) : k0_pay1 (F := Ideal) j = 0 := by
  pointwise! [k0_pay1]

theorem tile_step (v3 : Vec Ideal S1024x1024 .bf16) (v5 : Vec Ideal S1x1024x1024 .bf16) (v14 : Vec Ideal S1024x1024 .f32) (v17 : Vec Ideal S1024x1024 .bf16) (j : S1024x1024.Idx) :
    k0_pay4 v3 v5 v14 v17 j = v14 j + ∑ b : Fin 1024, k0_pay2 v3 v5 (ix2 (j 0) b) * k0_pay2 v3 v5 (ix2 (j 0) b) * v17 (ix2 b (j 1)) := by
  pointwise [k0_pay4]

/-- The layer norm's input, from a point's parts. -/
def input (v27 : Vec Ideal S1024x1024 .f32) (v29 v32 : Vec Ideal S1x1024 .f32) (v37 : Vec Ideal S1024x1024 .f32) (a k : Fin 1024) : EReal :=
  alpha * (v27 (ix2 a k) * v29 (ix2 0 k) + v32 (ix2 0 k)) + v37 (ix2 a k)

section Tile

variable {v27 : Vec Ideal S1024x1024 .f32} {v29 v32 : Vec Ideal S1x1024 .f32} {v37 : Vec Ideal S1024x1024 .f32} {p : Fin 1024 → EReal} {a : Fin 1024}
  (h : ∀ k, input v27 v29 v32 v37 a k = p k)
include h

theorem tile_dev (k : Fin 1024) : k0_pay5 v27 v29 v32 v37 (ix2 a k) = dev p k := by
  obtain rfl : _ = p := funext h
  pointwise [k0_pay5]
  rfl

theorem tile_rstd : k0_pay6 v27 v29 v32 v37 (ix2 a 0) = rstd p := by
  pointwise [k0_pay6]
  simp only [tile_dev h]
  rfl

theorem tile_hat (k : Fin 1024) : k0_pay7 v27 v29 v32 v37 (ix2 a k) = hat p k := by
  pointwise [k0_pay7]
  rw [tile_dev h, tile_rstd h]
  rfl

theorem tile_col : k0_pay8 v27 v29 v32 v37 (ix2 a 0) = rstd p := by
  pointwise [k0_pay8]
  exact tile_rstd h

end Tile

variable (m : (ℓ : Loc nD τ sig) → Buf (Elt Ideal) ℓ)

theorem idx_val : ∀ t : Fin cfg0.N, win0_0.index t = ![t.val / 4, 0]
    ∧ win0_1.index t = ![t.val / 4, 0]
    ∧ win0_2.index t = ![0, 0]
    ∧ win0_3.index t = ![0, 0]
    ∧ win0_4.index t = ![t.val % 4, 0, 0]
    ∧ win0_5.index t = ![t.val % 4, 0]
    ∧ win0_6.index t = ![t.val / 4, 0]
    ∧ win0_7.index t = ![t.val / 4, 0]
    ∧ win0_8.index t = ![t.val / 4, t.val % 4] :=
  (by decide +kernel : ∀ t : Fin grid0.N, _)

/-! ## What the host hands it -/

/-- The two weights in the narrow format, the first in slabs of columns. -/
def down (d : FVec Ideal S1x4096x1024 .f32) : FVec Ideal S4096x1024 .bf16 := truncf .bf16 (shapeCast S4096x1024 d shapeCasts_S1x4096x1024_S4096x1024) bitsLt_bf16_f32

def up (d : FVec Ideal S1x1024x4096 .f32) : FVec Ideal S4x1024x1024 .bf16 :=
  transpose S4x1024x1024 [1, 0, 2] (shapeCast _ (truncf .bf16 (shapeCast _ d shapeCasts_S1x1024x4096_S1024x4096) bitsLt_bf16_f32) shapeCasts_S1024x4096_S1024x4x1024) transposes_S1024x4x1024_S4x1024x1024_1_0_2

def narrow (d : FVec Ideal S4096x1024 .f32) : FVec Ideal S4096x1024 .bf16 := truncf .bf16 d bitsLt_bf16_f32

theorem up_is (d : FVec Ideal S1x1024x4096 .f32) (j : Fin 4) (k b : Fin 1024) (f : Fin 4096) (hf : f.val = j.val * 1024 + b.val) :
    up d (ix3 j k b) = d (ix3 0 k f) := by
  obtain ⟨f, hf'⟩ := f
  dsimp only at hf
  subst hf
  pointwise [up]

theorem V_xh (c : Dev nD) : V m c main_v18 = Cert.Reference8Ideal.Read.val_main_v20 (F := Ideal) (m ((c : Thread nD τ).loc main_arg0)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_x (c : Dev nD) : V m c main_v46 = narrow (Cert.Reference8Ideal.Read.val_main_v26 (F := Ideal) (m ((c : Thread nD τ).loc main_arg0)) (m ((c : Thread nD τ).loc main_arg1)) (m ((c : Thread nD τ).loc main_arg2))) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_g (c : Dev nD) : V m c main_arg1 = (m ((c : Thread nD τ).loc main_arg1)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_b (c : Dev nD) : V m c main_arg2 = (m ((c : Thread nD τ).loc main_arg2)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_wu (c : Dev nD) : V m c main_v50 = up (m ((c : Thread nD τ).loc main_arg3)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

theorem V_wd (c : Dev nD) : V m c main_v52 = down (m ((c : Thread nD τ).loc main_arg4)) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  after_results <;> rfl

/-- The row of the whole array that row `a` of tile `t` is, and the hidden unit that column `b` of its slab is. -/
def row (t : Fin cfg0.N) (a : Fin 1024) : Fin 4096 := ⟨t.val / 4 * 1024 + a.val, by have h : t.val < 16 := t.isLt; omega⟩

def unit (t : Fin cfg0.N) (b : Fin 1024) : Fin 4096 := ⟨t.val % 4 * 1024 + b.val, by omega⟩

variable {m} (c : Dev nD)

/-- The reference's rows, from the kernel's arguments. -/
abbrev aact : Fin 4096 → Fin 4096 → EReal := act (m ((c : Thread nD τ).loc main_arg0)) (m ((c : Thread nD τ).loc main_arg1)) (m ((c : Thread nD τ).loc main_arg2)) (m ((c : Thread nD τ).loc main_arg3))

abbrev apre : Fin 4096 → Fin 1024 → EReal := pre (m ((c : Thread nD τ).loc main_arg0)) (m ((c : Thread nD τ).loc main_arg1)) (m ((c : Thread nD τ).loc main_arg2)) (m ((c : Thread nD τ).loc main_arg3)) (m ((c : Thread nD τ).loc main_arg4))

theorem blk_xh (t : Fin cfg0.N) (a k : Fin 1024) : iblk m c 0 t (ix2 a k) = Cert.Reference8Ideal.Read.val_main_v20 (F := Ideal) (m ((c : Thread nD τ).loc main_arg0)) (ix2 (row t a) k) := by
  have e : ((cfg0.win 0).blk t).view.emb (ix2 a k) = ix2 (row t a) k := by blk_ext [idx_val t]; rfl
  show V m c main_v18 (((cfg0.win 0).blk t).view.emb (ix2 a k)) = _
  rw [V_xh, e]

theorem blk_x (t : Fin cfg0.N) (a k : Fin 1024) : iblk m c 1 t (ix2 a k) = Cert.Reference8Ideal.Read.val_main_v26 (F := Ideal) (m ((c : Thread nD τ).loc main_arg0)) (m ((c : Thread nD τ).loc main_arg1)) (m ((c : Thread nD τ).loc main_arg2)) (ix2 (row t a) k) := by
  have e : ((cfg0.win 1).blk t).view.emb (ix2 a k) = ix2 (row t a) k := by blk_ext [idx_val t]; rfl
  show V m c main_v46 (((cfg0.win 1).blk t).view.emb (ix2 a k)) = _
  rw [V_x, e]
  pointwise [narrow]

theorem blk_g (t : Fin cfg0.N) (k : Fin 1024) : iblk m c 2 t (ix2 0 k) = (m ((c : Thread nD τ).loc main_arg1)) (ix2 0 k) := by
  have e : ((cfg0.win 2).blk t).view.emb (ix2 0 k) = ix2 0 k := by blk_ext [idx_val t]
  show V m c main_arg1 (((cfg0.win 2).blk t).view.emb (ix2 0 k)) = _
  rw [V_g, e]

theorem blk_b (t : Fin cfg0.N) (k : Fin 1024) : iblk m c 3 t (ix2 0 k) = (m ((c : Thread nD τ).loc main_arg2)) (ix2 0 k) := by
  have e : ((cfg0.win 3).blk t).view.emb (ix2 0 k) = ix2 0 k := by blk_ext [idx_val t]
  show V m c main_arg2 (((cfg0.win 3).blk t).view.emb (ix2 0 k)) = _
  rw [V_b, e]

theorem blk_wu (t : Fin cfg0.N) (k b : Fin 1024) : iblk m c 4 t (ix3 0 k b) = (m ((c : Thread nD τ).loc main_arg3)) (ix3 0 k (unit t b)) := by
  have e : ((cfg0.win 4).blk t).view.emb (ix3 0 k b) = ix3 ⟨t.val % 4, Nat.mod_lt _ (by decide)⟩ k b := by blk_ext [idx_val t]
  show V m c main_v50 (((cfg0.win 4).blk t).view.emb (ix3 0 k b)) = _
  rw [V_wu, e]
  exact up_is _ _ _ _ _ rfl

theorem blk_wd (t : Fin cfg0.N) (b k : Fin 1024) : iblk m c 5 t (ix2 b k) = (m ((c : Thread nD τ).loc main_arg4)) (ix3 0 (unit t b) k) := by
  have e : ((cfg0.win 5).blk t).view.emb (ix2 b k) = ix2 (unit t b) k := by blk_ext [idx_val t]; rfl
  show V m c main_v52 (((cfg0.win 5).blk t).view.emb (ix2 b k)) = _
  rw [V_wd, e]
  pointwise [down]

/-- A point's activations are the reference's. -/
theorem point_act (t : Fin cfg0.N) (a b : Fin 1024) : k0_pay2 (F := Ideal) (iblk m c 1 t) (iblk m c 4 t) (ix2 a b) = aact (m := m) c (row t a) (unit t b) :=
  (tile_act _ _ a b).trans ((congrArg (fun x : EReal => max x 0) (Finset.sum_congr rfl fun d _ =>
    congrArg₂ (fun x y : EReal => x * y) (blk_x c t a d) (blk_wu c t d b))).trans (act_is _ _ _ _ _ _).symm)

/-- After a tile's last slab the accumulator holds the feed-forward result of its rows. -/
theorem acc_is (t : Fin cfg0.N) (h : t.val % 4 = 3) (a k : Fin 1024) : (outsAt0 m c t.val t.isLt).2.2.2 (ix2 a k)
    = ∑ f : Fin 4096, aact (m := m) c (row t a) f * aact (m := m) c (row t a) f * (m ((c : Thread nD τ).loc main_arg4)) (ix3 0 f k) := by
  rw [Pipeline.eq_sum_fin_of_reset_step_apply_of_flush (fun n h => (outsAt0 m c n h).2.2.2) 4 (fun _ => 0) _
    (fun t h j => by rw [outsAt0_A m c t h (by omega)]; frame_out; rw [tile_step, tile_zero])
    (fun t h j => by
      by_cases h1 : t.val % 4 = 3
      · rw [outsAt0_C m c t h h1]; frame_out; rw [tile_step]; exact congrArg (fun x : EReal => x + _) (congrFun (Memref.IsWhole.read_unread _ _) j)
      · rw [outsAt0_B m c t h h1]; frame_out; rw [tile_step]; exact congrArg (fun x : EReal => x + _) (congrFun (Memref.IsWhole.read_unread _ _) j))
    t h _, zero_add]
  show @Eq EReal _ _
  refine Eq.trans ?_ (Fin.sum_univ_tiles 4 1024 rfl _).symm
  refine Finset.sum_congr rfl fun j _ => Finset.sum_congr rfl fun b _ => ?_
  have hlt := Pipeline.run_point_lt_of_flush t h j
  have hr : row ⟨_, hlt⟩ a = row t a := Fin.ext (by
    show (4 * (t.val / 4) + j.val) / 4 * 1024 + a.val = t.val / 4 * 1024 + a.val
    omega)
  have hu : unit ⟨_, hlt⟩ b = ⟨j * 1024 + b, by omega⟩ := Fin.ext (by
    show (4 * (t.val / 4) + j.val) % 4 * 1024 + b.val = j.val * 1024 + b.val
    omega)
  have ha := point_act (m := m) c ⟨_, hlt⟩ a b
  have hw := blk_wd (m := m) c ⟨_, hlt⟩ b k
  rw [hr, hu] at ha
  rw [hu] at hw
  exact congrArg₂ (fun x y : EReal => x * y) (congrArg₂ (fun x y : EReal => x * y) ha ha) hw

/-- The last slab's point normalises what is then the layer norm's input. -/
theorem point_pre (t : Fin cfg0.N) (h : t.val % 4 = 3) (a k : Fin 1024) :
    input (iblk m c 0 t) (iblk m c 2 t) (iblk m c 3 t) (outsAt0 m c t.val t.isLt).2.2.2 a k = apre (m := m) c (row t a) k :=
  (congrArg₂ (fun x y : EReal => x + y) (congrArg (fun x : EReal => alpha * x) (congrArg₂ (fun x y : EReal => x + y)
    (congrArg₂ (fun x y : EReal => x * y) (blk_xh c t a k) (blk_g c t k)) (blk_b c t k))) (acc_is c t h a k)).trans (pre_is _ _ _ _ _ _ _).symm

theorem outs_last (t : Fin cfg0.N) (h : t.val % 4 = 3) :
    (outsAt0 m c t.val t.isLt).1 = k0_pay7 (F := Ideal) (iblk m c 0 t) (iblk m c 2 t) (iblk m c 3 t) (outsAt0 m c t.val t.isLt).2.2.2
    ∧ (outsAt0 m c t.val t.isLt).2.1 = k0_pay8 (F := Ideal) (iblk m c 0 t) (iblk m c 2 t) (iblk m c 3 t) (outsAt0 m c t.val t.isLt).2.2.2 := by
  rw [outsAt0_C m c t (by omega) h]
  constructor <;> frame_out

/-! ## The results -/

/-- The normalised rows. -/
theorem final_xh : (dats m 0 c).arrAt 6 (cfgs 0).N = fun i : S4096x1024.Idx => (hat (apre (m := m) c (i 0)) (i 1) : EReal) := by
  refine (dats m 0 c).arrAt_eq_of_covers 6 _ (by decide +kernel) fun t hf y => ?_
  rw [after0_6]
  idx_vars y
  have e : ((cfg0.win 6).blk t).view.emb (ix2 y0 y1) = ix2 (row t y0) y1 := by blk_ext [idx_val t]; rfl
  refine Eq.trans ?_ (congrArg (fun i : S4096x1024.Idx => (hat (apre (m := m) c (i 0)) (i 1) : EReal)) e).symm
  blk_simp
  have h := (flush0_6 t).mp hf
  exact (congrFun (outs_last c t h).1 _).trans (tile_hat (point_pre c t h y0) y1)

/-- The reciprocal deviations. -/
theorem final_rstd : (dats m 0 c).arrAt 7 (cfgs 0).N = fun i : S4096x1.Idx => (rstd (apre (m := m) c (i 0)) : EReal) := by
  refine (dats m 0 c).arrAt_eq_of_covers 7 _ (by decide +kernel) fun t hf y => ?_
  rw [after0_7]
  idx_vars y
  obtain rfl : y1 = 0 := Subsingleton.elim _ _
  have e : ((cfg0.win 7).blk t).view.emb (ix2 y0 0) = ix2 (row t y0) 0 := by blk_ext [idx_val t]; rfl
  refine Eq.trans ?_ (congrArg (fun i : S4096x1.Idx => (rstd (apre (m := m) c (i 0)) : EReal)) e).symm
  blk_simp
  have h := (flush0_7 t).mp hf
  exact (congrFun (outs_last c t h).2 _).trans (tile_col (point_pre c t h y0))

/-- The activations. -/
theorem final_r : (dats m 0 c).arrAt 8 (cfgs 0).N = fun i : S4096x4096.Idx => (aact (m := m) c (i 0) (i 1) : EReal) := by
  refine (dats m 0 c).arrAt_eq_of_covers 8 _ (by decide +kernel) fun t hf y => ?_
  rw [after0_8]
  idx_vars y
  have e : ((cfg0.win 8).blk t).view.emb (ix2 y0 y1) = ix2 (row t y0) (unit t y1) := by blk_ext [idx_val t] <;> rfl
  refine Eq.trans ?_ (congrArg (fun i : S4096x4096.Idx => (aact (m := m) c (i 0) (i 1) : EReal)) e).symm
  blk_simp
  have key := (tile_store (iblk m c 1 t) (iblk m c 4 t) (ix2 y0 y1)).trans (point_act c t y0 y1)
  by_cases h : t.val % 4 = 0
  · rw [outsAt0_A m c t h (by omega)]; frame_out; exact key
  by_cases h1 : t.val % 4 = 3
  · rw [outsAt0_C m c t h h1]; frame_out; exact key
  · rw [outsAt0_B m c t h h1]; frame_out; exact key

end Cert.Kernel8Ideal.Value

end
-- ==== Proof.EmbReference.lean ====
/-
  The layer norm, the projection and the multiscale pooling, forward: the reference's seven results, each as one
  function of the arguments.
-/
module

public import proofs.«01_k».proof.Proof.Forward
public import proofs.«01_k».proof.Proof.PoolValue
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Emb

open Cert.Forward Cert.Pool Cert.NormMath Finset

/-! ## Averages over the rows before a row -/

variable (U : Fin 4096 → Fin 512 → ℝ)

/-- The pooled rows, counted from sixteen on; zero elsewhere. -/
def late (j : Fin 512) (n : ℕ) : ℝ := if h : 16 ≤ n ∧ n < 4112 then U ⟨n - 16, by omega⟩ j else 0

theorem late_in (j : Fin 512) (s : Fin 4096) : late U j (s.val + 16) = U s j := by
  unfold late
  rw [dif_pos (by omega)]
  exact congrArg (fun i => U i j) (Fin.ext (by show s.val + 16 - 16 = s.val; omega))

/-- The rows up to row `s` and the `W - 1` before it. -/
def window (j : Fin 512) (W s : ℕ) : ℝ := ∑ k ∈ range W, late U j (s + 16 - k)

/-- A group's average at a row, less the row. -/
def diff (s : Fin 4096) (g : Fin 4) (l : Fin 128) : ℝ := window U (chan g l) (width g) s.val / count g s.val - U s (chan g l)

theorem sum_early (j : Fin 512) {n : ℕ} (h : n ≤ 16) : ∑ m ∈ range n, late U j m = 0 :=
  sum_eq_zero fun m hm => dif_neg (by have := mem_range.mp hm; omega)

/-- The sum of the rows up to a place. -/
def total (j : Fin 512) (s : ℕ) : ℝ := ∑ u ∈ range (s + 1), late U j (u + 16)

theorem total_eq (j : Fin 512) (s : ℕ) : total U j s = ∑ m ∈ range (s + 17), late U j m := by
  unfold total
  induction s with
  | zero => rw [sum_range_succ _ 16, sum_early U j (le_refl 16)]; simp
  | succ s ih => rw [sum_range_succ, ih, sum_range_succ _ (s + 17)]

/-- Two such sums differ by the window between the places. -/
theorem total_sub (j : Fin 512) (s W : ℕ) (hW : W ≤ s + 17) :
    ∑ m ∈ range (s + 17), late U j m = ∑ m ∈ range (s + 17 - W), late U j m + window U j W s := by
  induction W with
  | zero => simp [window]
  | succ W ih =>
    rw [ih (by omega), show s + 17 - W = s + 17 - (W + 1) + 1 by omega, sum_range_succ, window, window, sum_range_succ,
      show s + 17 - (W + 1) = s + 16 - W by omega]
    ring

/-- The sum up to a place less the sum up to `W` places before, where there is one. -/
theorem window_eq (j : Fin 512) (s W : ℕ) (hW : W ≤ 16) :
    (total U j s : EReal) - (if _ : s < W then 0 else (total U j (s - W) : EReal)) = (window U j W s : EReal) := by
  have e := total_sub U j s W (by omega)
  split
  · rw [show (0 : EReal) = ((0 : ℝ) : EReal) from rfl, ← EReal.coe_sub, total_eq, e, sum_early U j (by omega)]
    congr 1; ring
  · rw [← EReal.coe_sub, total_eq, total_eq, e, show s - W + 17 = s + 17 - W by omega]
    congr 1; ring

/-- A window of 4096 up the rows, read at one place: the rows up to that place. -/
theorem rows_before (hh : (⟨2, ![4096, 512]⟩ : Shape).ReduceWindows ![4096, 1] ![1, 1] ![4095, 0] ![0, 0] ⟨2, ![4096, 512]⟩)
    (x : (⟨2, ![4096, 512]⟩ : Shape).Idx → EReal) (f : ℕ → ℝ) (s : Fin 4096) (j : Fin 512)
    (hx : ∀ u : Fin 4096, x (ix2 u j) = ((f u.val : ℝ) : EReal)) :
    Ideal.hostReduceWindowAdd ![4096, 1] ![1, 1] ![4095, 0] ![0, 0] hh x 0 (ix2 s j) = ((∑ u ∈ range (s.val + 1), f u : ℝ) : EReal) := by
  rw [← Cert.Reference2Ideal.Attn.prefix_sum f s.val s.isLt]
  unfold Ideal.hostReduceWindowAdd Host.reduceWindow
  dsimp only
  rw [Cert.Reference2Ideal.Attn.foldl_add, zero_add]
  rw [← Fin.sum_univ_eq_sum_range (fun n => if 4095 ≤ s.val + n ∧ s.val + n - 4095 < 4096 then f (s.val + n - 4095) else 0) 4096, ← coe_sum]
  let e : (⟨2, ![4096, 1]⟩ : Shape).Idx ≃ Fin 4096 :=
    { toFun := fun w => w 0
      invFun := fun k => ix2 k 0
      left_inv := fun w => by
        refine Eq.trans ?_ (eq_ix2 w).symm
        have e1 : (0 : Fin 1) = w 1 := Subsingleton.elim _ _
        show ix2 (w 0) (0 : Fin 1) = _
        rw [← e1]
        rfl
      right_inv := fun _ => rfl }
  refine Fintype.sum_equiv ((⟨2, ![4096, 1]⟩ : Shape).rowMajor.symm.trans e) _ _ fun i => ?_
  let w : (⟨2, ![4096, 1]⟩ : Shape).Idx := (⟨2, ![4096, 1]⟩ : Shape).rowMajor.symm i
  change _ = ((if 4095 ≤ s.val + (w 0).val ∧ s.val + (w 0).val - 4095 < 4096 then f (s.val + (w 0).val - 4095) else 0 : ℝ) : EReal)
  have w1 : (w 1).val < 1 := (w 1).isLt
  have hj := j.isLt
  by_cases hin : 4095 ≤ s.val + (w 0).val ∧ s.val + (w 0).val - 4095 < 4096
  · rw [if_pos hin, dif_pos]
    · refine Eq.trans (congrArg x (funext fun k => Fin.ext ?_)) (hx ⟨s.val + (w 0).val - 4095, hin.2⟩)
      fin_cases k
      · show s.val * 1 + (w 0).val - 4095 = s.val + (w 0).val - 4095; omega
      · show j.val * 1 + (w 1).val - 0 = j.val; omega
    · intro k
      fin_cases k
      · show 4095 ≤ s.val * 1 + (w 0).val ∧ s.val * 1 + (w 0).val - 4095 < 4096; omega
      · show 0 ≤ j.val * 1 + (w 1).val ∧ j.val * 1 + (w 1).val - 0 < 512; omega
  · rw [if_neg hin, dif_neg]
    · rfl
    · intro hall
      have : 4095 ≤ s.val * 1 + (w 0).val ∧ s.val * 1 + (w 0).val - 4095 < 4096 := hall 0
      omega

/-! ## The arguments -/

variable (x : (⟨3, ![1, 4096, 1024]⟩ : Shape).Idx → EReal) (g b : (⟨1, ![1024]⟩ : Shape).Idx → EReal) (w : (⟨3, ![1, 1024, 2048]⟩ : Shape).Idx → EReal)

/-- A row of the arguments. -/
def arow (s : Fin 4096) (k : Fin 1024) : EReal := x (ix3 0 s k)

/-- A row, normalised, through a column of the projection. -/
def proj (s : Fin 4096) (j : Fin 2048) : EReal := ∑ k, (hat (arow x s) k * g (ix1 k) + b (ix1 k)) * w (ix3 0 k j)

/-- The projection's last quarter, which is pooled, holds the real numbers of `U`. -/
def Holds : Prop := ∀ s (j : Fin 512), proj x g b w s ⟨1536 + j.val, by omega⟩ = (U s j : EReal)

/-- Those numbers. -/
def rowsOf (s : Fin 4096) (j : Fin 512) : ℝ := (proj x g b w s ⟨1536 + j.val, by omega⟩).toReal

/-- Real arguments give a real projection. -/
theorem holds_of_real (hx : ∀ i, x i = ((x i).toReal : EReal)) (hg : ∀ i, g i = ((g i).toReal : EReal)) (hb : ∀ i, b i = ((b i).toReal : EReal))
    (hw : ∀ i, w i = ((w i).toReal : EReal)) : Holds (rowsOf x g b w) x g b w := by
  intro s j
  let p : Fin 1024 → ℝ := fun k => (x (ix3 0 s k)).toReal
  have hp : arow x s = fun k => ((p k : ℝ) : EReal) := funext fun k => hx _
  have hm : ∀ q : Fin 1024 → ℝ, Forward.mean (fun k => (q k : EReal)) = ((NormMath.mean q : ℝ) : EReal) := fun q => by
    unfold Forward.mean
    rw [coe_sum, ofBits_1024, div_1024]; rfl
  have hd : ∀ k, Forward.dev (arow x s) k = ((NormMath.dev p k : ℝ) : EReal) := fun k => by
    unfold Forward.dev
    rw [hp, hm, ← EReal.coe_sub]; rfl
  have hr : rstd (arow x s) = ((rdev p : ℝ) : EReal) := by
    unfold rstd
    simp only [hd, ← EReal.coe_mul]
    rw [hm, eps_spec.1, ← EReal.coe_add]
    exact rsqrt_pos (var_pos p)
  have hh : ∀ k, hat (arow x s) k = ((xhat p k : ℝ) : EReal) := fun k => by
    unfold hat
    rw [hd, hr, ← EReal.coe_mul]; rfl
  have e : ∃ r : ℝ, proj x g b w s ⟨1536 + j.val, by omega⟩ = (r : EReal) := by
    refine ⟨∑ k, (xhat p k * (g (ix1 k)).toReal + (b (ix1 k)).toReal) * (w (ix3 0 k ⟨1536 + j.val, by omega⟩)).toReal, ?_⟩
    unfold proj
    rw [← coe_sum]
    refine sum_congr rfl fun k _ => ?_
    rw [hh, hg, hb, hw, ← EReal.coe_mul, ← EReal.coe_add, ← EReal.coe_mul]
    simp only [EReal.toReal_coe]
  obtain ⟨r, e⟩ := e
  unfold rowsOf
  rw [e, EReal.toReal_coe]

end Cert.Emb

/-! ## The reference's values -/

namespace Cert.Reference9Ideal.Read

open Cert.Reference9Ideal Cert.Forward Cert.Pool Cert.NormMath Cert.Emb Finset

variable (x0 : S1x4096x1024.Idx → EReal) (x1 x2 : S1024.Idx → EReal) (x3 : S1x1024x2048.Idx → EReal) (x4 : S1x4x128x128.Idx → EReal) (x5 : S1x512.Idx → EReal)

theorem ref_xh (s : Fin 4096) (k : Fin 1024) : val_main_v18 (F := Ideal) x0 (ix2 s k) = hat (arow x0 s) k := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

theorem ref_rstd (s : Fin 4096) : val_main_v14 (F := Ideal) x0 (ix2 s 0) = rstd (arow x0 s) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The normalised rows, scaled and shifted. -/
theorem ref_norm (s : Fin 4096) (k : Fin 1024) : val_main_v43 (F := Ideal) x0 x1 x2 (ix2 s k) = hat (arow x0 s) k * x1 (ix1 k) + x2 (ix1 k) := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_4, val_main_cst_5, val_main_cst_6, val_main_cst_7, val_main_cst_8]
  rfl

theorem ref_proj (s : Fin 4096) (j : Fin 2048) : val_main_v45 (F := Ideal) x0 x1 x2 x3 (ix2 s j) = proj x0 x1 x2 x3 s j := by
  pointwise [val_main_v45, val_main_v44]
  simp only [ref_norm]
  rfl

theorem ref_q (s : Fin 4096) (j : Fin 512) : val_main_v203 (F := Ideal) x0 x1 x2 x3 (ix2 s j) = proj x0 x1 x2 x3 s ⟨j.val, by omega⟩ * Ideal.ofBits .f32 0x3E000000#32 := by
  pointwise [val_main_v203, val_main_v202, val_main_v201, val_main_v46, val_main_cst_32]
  rw [ref_proj]

theorem ref_k (s : Fin 4096) (j : Fin 512) : val_main_v204 (F := Ideal) x0 x1 x2 x3 (ix2 s j) = proj x0 x1 x2 x3 s ⟨512 + j.val, by omega⟩ := by
  pointwise [val_main_v204, val_main_v47]
  rw [ref_proj]

theorem ref_v (s : Fin 4096) (j : Fin 512) : val_main_v205 (F := Ideal) x0 x1 x2 x3 (ix2 s j) = proj x0 x1 x2 x3 s ⟨1024 + j.val, by omega⟩ := by
  pointwise [val_main_v205, val_main_v48]
  rw [ref_proj]

/-- The numbers of rows averaged, group by group. -/
theorem ref_count (s : Fin 4096) : val_main_v62 (F := Ideal) (ix2 s 0) = (count 0 s.val : EReal)
    ∧ val_main_v78 (F := Ideal) (ix2 s 0) = (count 1 s.val : EReal)
    ∧ val_main_v94 (F := Ideal) (ix2 s 0) = (count 2 s.val : EReal)
    ∧ val_main_v110 (F := Ideal) (ix2 s 0) = (count 3 s.val : EReal) := by
  have hs : s.val < 8192 := by omega
  refine ⟨?_, ?_, ?_, ?_⟩
  · pointwise [val_main_v62, val_main_v61, val_main_v60, val_main_v59, val_main_v58, val_main_v57, val_main_v51, val_main_c, val_main_c_10]
    exact count_is 0 s.val hs
  · pointwise [val_main_v78, val_main_v77, val_main_v76, val_main_v75, val_main_v74, val_main_v73, val_main_v51, val_main_c_12, val_main_c_13]
    exact count_is 1 s.val hs
  · pointwise [val_main_v94, val_main_v93, val_main_v92, val_main_v91, val_main_v90, val_main_v89, val_main_v51, val_main_c_15, val_main_c_16]
    exact count_is 2 s.val hs
  · pointwise [val_main_v110, val_main_v109, val_main_v108, val_main_v107, val_main_v106, val_main_v105, val_main_v51, val_main_c_18, val_main_c_19]
    exact count_is 3 s.val hs

variable {x0 x1 x2 x3} {U : Fin 4096 → Fin 512 → ℝ} (h : Holds U x0 x1 x2 x3)
include h

theorem ref_u (s : Fin 4096) (j : Fin 512) : val_main_v49 (F := Ideal) x0 x1 x2 x3 (ix2 s j) = (U s j : EReal) := by
  pointwise [val_main_v49]
  rw [ref_proj]
  exact h s j

/-- The sums down the rows. -/
theorem ref_total (s : Fin 4096) (j : Fin 512) : val_main_v50 (F := Ideal) x0 x1 x2 x3 (ix2 s j) = (total U j s.val : EReal) := by
  have hw := rows_before Gen.reduceWindows_S4096x512_S4096x512_w4096s1p4095_0_w1s1p0_0 (val_main_v49 (F := Ideal) x0 x1 x2 x3)
    (fun n => late U j (n + 16)) s j fun u => (ref_u h u j).trans (congrArg _ (late_in U j u).symm)
  unfold val_main_v50 Host.reduceWindowAdd
  rw [Ideal.hostReduceWindowAdd_def]
  refine Eq.trans ?_ hw
  refine congrArg (fun v => Ideal.hostReduceWindowAdd _ _ _ _ _ _ v _) ?_
  pointwise [val_main_call0_call0_v0, val_main_call0_call0_cst]

/-- The differences, group by group. -/
theorem ref_diffs (s : Fin 4096) (l : Fin 128) : val_main_v67 (F := Ideal) x0 x1 x2 x3 (ix2 s l) = (diff U s 0 l : EReal)
    ∧ val_main_v83 (F := Ideal) x0 x1 x2 x3 (ix2 s l) = (diff U s 1 l : EReal)
    ∧ val_main_v99 (F := Ideal) x0 x1 x2 x3 (ix2 s l) = (diff U s 2 l : EReal)
    ∧ val_main_v115 (F := Ideal) x0 x1 x2 x3 (ix2 s l) = (diff U s 3 l : EReal) := by
  have e : ∀ hl, (⟨l.val, hl⟩ : Fin 512) = chan 0 l := fun _ => Fin.ext (by show l.val = 0 * 128 + l.val; omega)
  have key : ∀ (g : Fin 4) (W : ℕ), W = width g → W ≤ 16 → Ideal.div ((total U (chan g l) s.val : EReal)
      - (if _ : s.val < W then 0 else (total U (chan g l) (s.val - W) : EReal))) (count g s.val : EReal) - (U s (chan g l) : EReal) = (diff U s g l : EReal) := by
    intro g W hg hW
    rw [window_eq U _ _ _ hW, div_coe _ (count_ne _ _), ← EReal.coe_sub, hg]
    rfl
  refine ⟨?_, ?_, ?_, ?_⟩
  · pointwise [val_main_v67, val_main_v66, val_main_v65, val_main_v64, val_main_v63, val_main_v56, val_main_v55, val_main_v54, val_main_v52, val_main_cst_9]
    simp only [(ref_count _).1, ref_total h, ref_u h, e]
    exact key 0 2 rfl (by omega)
  · pointwise [val_main_v83, val_main_v82, val_main_v81, val_main_v80, val_main_v79, val_main_v72, val_main_v71, val_main_v70, val_main_v68, val_main_cst_11]
    simp only [(ref_count _).2.1, ref_total h, ref_u h]
    exact key 1 4 rfl (by omega)
  · pointwise [val_main_v99, val_main_v98, val_main_v97, val_main_v96, val_main_v95, val_main_v88, val_main_v87, val_main_v86, val_main_v84, val_main_cst_14]
    simp only [(ref_count _).2.2.1, ref_total h, ref_u h]
    exact key 2 8 rfl (by omega)
  · pointwise [val_main_v115, val_main_v114, val_main_v113, val_main_v112, val_main_v111, val_main_v104, val_main_v103, val_main_v102, val_main_v100, val_main_cst_17]
    simp only [(ref_count _).2.2.2, ref_total h, ref_u h]
    exact key 3 16 rfl (by omega)

theorem ref_groups (s : Fin 4096) (g : Fin 4) (l : Fin 128) : val_main_v120 (F := Ideal) x0 x1 x2 x3 (ix3 s g l) = (diff U s g l : EReal) := by
  fin_cases g
  · pointwise [val_main_v120, val_main_v116]
    exact (ref_diffs h s l).1
  · pointwise [val_main_v120, val_main_v117]
    exact (ref_diffs h s l).2.1
  · pointwise [val_main_v120, val_main_v118]
    exact (ref_diffs h s l).2.2.1
  · pointwise [val_main_v120, val_main_v119]
    exact (ref_diffs h s l).2.2.2

theorem ref_diff (s : Fin 4096) (g : Fin 4) (l : Fin 128) : val_main_v206 (F := Ideal) x0 x1 x2 x3 (ix2 s (chan g l)) = (diff U s g l : EReal) := by
  have e1 : (g.val * 128 + l.val) / 128 = g.val := by omega
  have e2 : (g.val * 128 + l.val) % 128 = l.val := by omega
  pointwise [val_main_v206, val_main_v121]
  simp only [e1, e2]
  exact ref_groups h s g l

/-- The pooled rows: the differences through the group's weights, scaled. -/
theorem ref_pooled (s : Fin 4096) (g : Fin 4) (o : Fin 128) : val_main_v207 (F := Ideal) x0 x1 x2 x3 x4 x5 (ix2 s (chan g o))
    = (∑ l, (diff U s g l : EReal) * x4 (ix4 0 g l o)) * x5 (ix2 0 (chan g o)) := by
  have e1 : (g.val * 128 + o.val) / 128 = g.val := by omega
  have e2 : (g.val * 128 + o.val) % 128 = o.val := by omega
  have e : val_main_v194 (F := Ideal) x0 x1 x2 x3 = val_main_v120 (F := Ideal) x0 x1 x2 x3 := rfl
  pointwise [val_main_v207, val_main_v200, val_main_v199, val_main_v198, val_main_v197, val_main_v196, val_main_v195, val_main_v123, val_main_v122]
  simp only [e, ref_groups h, e1, e2]
  exact congrArg (fun y : EReal => y * _) (sum_congr rfl fun l _ => mul_comm _ _)

end Cert.Reference9Ideal.Read

end
-- ==== Proof.EmbKernel.lean ====
/-
  The layer norm, the projection and the multiscale pooling, forward: what the kernel writes of a tile of rows is what
  the reference computes of those rows.  The last rows of a tile are kept for the averages of the next.
-/
module

public import proofs.«01_k».proof.Proof.Gen.Kernel9Ideal.Value
public import proofs.«01_k».proof.Proof.Gen.Pre_emb_finite
public import proofs.«01_k».proof.Proof.EmbReference
public import proofs.«01_k».proof.Proof.Finite
public import proofs.«01_k».proof.Proof.MixKernel
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Kernel9Ideal.Value

open Cert.Kernel9Ideal Cert.Kernel9Ideal.Gen
open Cert.Forward Cert.Pool Cert.NormMath Cert.Emb Finset
open Cert.Kernel5Ideal.Value (col0 col1 col2 col3 row0 row1 row2 row3)

/-! ## What the kernel computes of a tile of rows -/

section Norm

variable {v3 : Vec Ideal S1024x1024 .f32} {p : Fin 1024 → EReal} {a : Fin 1024} (h : ∀ k, v3 (ix2 a k) = p k)
include h

theorem tile_dev (k : Fin 1024) : k0_pay4 v3 (ix2 a k) = dev p k := by
  obtain rfl : _ = p := funext h
  pointwise [k0_pay4]
  rfl

theorem tile_rstd : k0_pay5 v3 (ix2 a 0) = rstd p := by
  pointwise [k0_pay5]
  simp only [tile_dev h]
  rfl

theorem tile_hat (k : Fin 1024) : k0_pay6 v3 (ix2 a k) = hat p k := by
  pointwise [k0_pay6]
  rw [tile_dev h, tile_rstd h]
  rfl

theorem store_hat (k : Fin 1024) : k0_pay7 v3 (ix2 a k) = hat p k := by
  pointwise [k0_pay7]
  exact tile_hat h k

theorem store_rstd : k0_pay8 v3 (ix2 a 0) = rstd p := by
  pointwise [k0_pay8]
  exact tile_rstd h

theorem tile_norm (v27 v31 : Vec Ideal S1x1024 .f32) (k : Fin 1024) : k0_pay9 v3 v27 v31 (ix2 a k) = hat p k * v27 (ix2 0 k) + v31 (ix2 0 k) := by
  pointwise [k0_pay9]
  rw [tile_hat h]

end Norm

section Project

variable (v35 : FVec Ideal S1024x1024 .bf16) (w : Vec Ideal S1x1024x512 .bf16) (a : Fin 1024) (j : Fin 512)

theorem tile_q : k0_pay10 v35 w (ix2 a j) = (∑ k, v35 (ix2 a k) * w (ix3 0 k j)) * Ideal.ofBits .f32 0x3E000000#32 := by
  pointwise [k0_pay10]

theorem tile_k : k0_pay11 v35 w (ix2 a j) = ∑ k, v35 (ix2 a k) * w (ix3 0 k j) := by
  pointwise [k0_pay11]

theorem tile_v : k0_pay12 v35 w (ix2 a j) = ∑ k, v35 (ix2 a k) * w (ix3 0 k j) := by
  pointwise [k0_pay12]

theorem tile_u : k0_pay13 v35 w (ix2 a j) = ∑ k, v35 (ix2 a k) * w (ix3 0 k j) := by
  pointwise [k0_pay13]

end Project

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![0, 0, 0]
    ∧ win0_4.index t = ![0, 0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0] :=
  (by decide +kernel : ∀ t : Fin grid0.N, _)

/-! ## What the host hands it -/

def rows (d : FVec Ideal S1x4096x1024 .f32) : FVec Ideal S4096x1024 .f32 := shapeCast S4096x1024 d shapeCasts_S1x4096x1024_S4096x1024

def line (d : FVec Ideal S1024 .f32) : FVec Ideal S1x1024 .f32 := broadcastInDim S1x1024 ![1] bcast_S1024_S1x1024_1 d

/-- The projection's four quarters, in the narrow format. -/
def quarters (d : FVec Ideal S1x1024x2048 .f32) : FVec Ideal S4x1024x512 .bf16 :=
  transpose S4x1024x512 [1, 0, 2] (shapeCast S1024x4x512 (truncf .bf16 (shapeCast S1024x2048 d shapeCasts_S1x1024x2048_S1024x2048) bitsLt_bf16_f32) shapeCasts_S1024x2048_S1024x4x512) transposes_S1024x4x512_S4x1024x512_1_0_2

def groups (w : FVec Ideal S1x4x128x128 .f32) : FVec Ideal S4x128x128 .f32 := shapeCast S4x128x128 w shapeCasts_S1x4x128x128_S4x128x128

theorem V_is (c : Dev nD) : V m c main_v0 = rows (m ((c : Thread nD τ).loc main_arg0)) ∧ V m c main_v1 = line (m ((c : Thread nD τ).loc main_arg1))
    ∧ V m c main_v2 = line (m ((c : Thread nD τ).loc main_arg2)) ∧ V m c main_v6 = quarters (m ((c : Thread nD τ).loc main_arg3))
    ∧ V m c main_v7 = groups (m ((c : Thread nD τ).loc main_arg4)) ∧ V m c main_arg5 = m ((c : Thread nD τ).loc main_arg5) := by
  unfold V
  simp only [hostOps0, List.flatten_cons, List.flatten_nil, List.cons_append, List.nil_append, StableHlo.TRef.binary, StableHlo.TRef.nullary, StableHlo.TRef.unary, StableHlo.TRef.toBuf, StableHlo.TRef.ofBuf, cast_eq]
  refine ⟨?_, ?_, ?_, ?_, ?_, ?_⟩ <;> after_results <;> rfl

/-- The row of the whole array that row `a` of tile `t` is. -/
def row (t : Fin cfg0.N) (a : Fin 1024) : Fin 4096 := ⟨t.val * 1024 + a.val, by have h : t.val < 4 := t.isLt; omega⟩

variable {m} (c : Dev nD)

abbrev ax : FVec Ideal S1x4096x1024 .f32 := m ((c : Thread nD τ).loc main_arg0)
abbrev ag : FVec Ideal S1024 .f32 := m ((c : Thread nD τ).loc main_arg1)
abbrev ab : FVec Ideal S1024 .f32 := m ((c : Thread nD τ).loc main_arg2)
abbrev aw : FVec Ideal S1x1024x2048 .f32 := m ((c : Thread nD τ).loc main_arg3)
abbrev awp : FVec Ideal S1x4x128x128 .f32 := m ((c : Thread nD τ).loc main_arg4)
abbrev aps : FVec Ideal S1x512 .f32 := m ((c : Thread nD τ).loc main_arg5)

theorem blk_x (t : Fin cfg0.N) (a k : Fin 1024) : iblk m c 0 t (ix2 a k) = arow (ax (m := m) c) (row t a) k := by
  have e : ((cfg0.win 0).blk t).view.emb (ix2 a k) = ix2 (row t a) k := by blk_ext [idx_val t]; rfl
  show V m c main_v0 (((cfg0.win 0).blk t).view.emb (ix2 a k)) = _
  rw [(V_is m c).1, e]
  pointwise [rows]
  rfl

theorem blk_g (t : Fin cfg0.N) (k : Fin 1024) : iblk m c 1 t (ix2 0 k) = ag (m := m) c (ix1 k) := by
  have e : ((cfg0.win 1).blk t).view.emb (ix2 0 k) = ix2 0 k := by blk_ext [idx_val t]
  show V m c main_v1 (((cfg0.win 1).blk t).view.emb (ix2 0 k)) = _
  rw [(V_is m c).2.1, e]
  pointwise [line]

theorem blk_b (t : Fin cfg0.N) (k : Fin 1024) : iblk m c 2 t (ix2 0 k) = ab (m := m) c (ix1 k) := by
  have e : ((cfg0.win 2).blk t).view.emb (ix2 0 k) = ix2 0 k := by blk_ext [idx_val t]
  show V m c main_v2 (((cfg0.win 2).blk t).view.emb (ix2 0 k)) = _
  rw [(V_is m c).2.2.1, e]
  pointwise [line]

theorem blk_w (t : Fin cfg0.N) (q : Fin 4) (k : Fin 1024) (j : Fin 512) : iblk m c 3 t (ix3 q k j) = aw (m := m) c (ix3 0 k ⟨q.val * 512 + j.val, by omega⟩) := by
  have e : ((cfg0.win 3).blk t).view.emb (ix3 q k j) = ix3 q k j := by blk_ext [idx_val t]
  show V m c main_v6 (((cfg0.win 3).blk t).view.emb (ix3 q k j)) = _
  rw [(V_is m c).2.2.2.1, e]
  pointwise [quarters]

theorem blk_wp (t : Fin cfg0.N) (g : Fin 4) (i o : Fin 128) : iblk m c 4 t (ix3 g i o) = awp (m := m) c (ix4 0 g i o) := by
  have e : ((cfg0.win 4).blk t).view.emb (ix3 g i o) = ix3 g i o := by blk_ext [idx_val t]
  show V m c main_v7 (((cfg0.win 4).blk t).view.emb (ix3 g i o)) = _
  rw [(V_is m c).2.2.2.2.1, e]
  pointwise [groups]

theorem blk_ps (t : Fin cfg0.N) (j : Fin 512) : iblk m c 5 t (ix2 0 j) = aps (m := m) c (ix2 0 j) := by
  have e : ((cfg0.win 5).blk t).view.emb (ix2 0 j) = ix2 0 j := by blk_ext [idx_val t]
  show V m c main_arg5 (((cfg0.win 5).blk t).view.emb (ix2 0 j)) = _
  rw [(V_is m c).2.2.2.2.2, e]

/-- A tile's rows, normalised, scaled and shifted. -/
abbrev tnorm (t : Fin cfg0.N) : FVec Ideal S1024x1024 .bf16 := k0_pay9 (F := Ideal) (iblk m c 0 t) (iblk m c 1 t) (iblk m c 2 t)

/-- A tile through one quarter of the projection. -/
theorem proj_is (t : Fin cfg0.N) (q : Fin 4) {w : Vec Ideal S1x1024x512 .bf16} (hw : ∀ k j, w (ix3 0 k j) = iblk m c 3 t (ix3 q k j)) (a : Fin 1024) (j : Fin 512)
    {f : Fin 2048} (hf : f.val = q.val * 512 + j.val) : ∑ k, tnorm (m := m) c t (ix2 a k) * w (ix3 0 k j) = proj (ax (m := m) c) (ag (m := m) c) (ab (m := m) c) (aw (m := m) c) (row t a) f := by
  obtain rfl : f = ⟨q.val * 512 + j.val, by clear hf; omega⟩ := Fin.ext hf
  exact sum_congr rfl fun k _ => congrArg₂ (fun x y : EReal => x * y)
    ((tile_norm (blk_x c t a) _ _ k).trans (congrArg₂ (fun x y : EReal => hat (arow (ax (m := m) c) (row t a)) k * x + y) (blk_g c t k) (blk_b c t k)))
    ((hw k j).trans (blk_w c t q k j))

theorem slab (t : Fin cfg0.N) (q : Fin 4) (hq) (k : Fin 1024) (j : Fin 512) :
    View.ld (iblk m c 3 t) (Rect.unit (s := S4x1024x512) ![q.val, 0, 0] ![1, 1024, 512] hq) (ix3 0 k j) = iblk m c 3 t (ix3 q k j) := by
  have e : (Rect.unit (s := S4x1024x512) ![q.val, 0, 0] ![1, 1024, 512] hq).emb (ix3 0 k j) = ix3 q k j := by blk_ext
  exact congrArg (iblk m c 3 t) e

theorem coord_val : ∀ t : Fin cfg0.N, (grid0.coords t 0).val = t.val := (by decide +kernel : ∀ t : Fin grid0.N, _)

/-- The numbers of the tile's rows. -/
abbrev rowno (t : Fin cfg0.N) : IVec S1024x1 32 := k0_pay14 (BitVec.ofNat 32 (grid0.coords t 0).val)

/-- The number of rows averaged. -/
theorem cnt_is (t : Fin cfg0.N) (a : Fin 1024) (g : Fin 4) (b : BitVec 32) (hb : b = BitVec.ofNat 32 (width g)) :
    FloatOps.sitofp (F := Ideal) .f32 (IntOp.minsi (IntOp.addi (rowno t (ix2 a 0)) 1#32) b) = (count g (row t a).val : EReal) := by
  have h : t.val < 4 := t.isLt
  have e : rowno t (ix2 a 0) = BitVec.ofNat 32 (t.val * 1024 + a.val) := by
    pointwise [k0_pay14]
    rw [coord_val]
    show BitVec.ofNat 32 t.val * 1024#32 + BitVec.ofNat 32 a.val = _
    rw [BitVec.ofNat_add, BitVec.ofNat_mul]
  rw [e, hb]
  exact count_is g _ (by show t.val * 1024 + a.val < 8192; omega)

/-! ## The averages -/

/-- The rows up to row `n`, `W` of them, in the count from sixteen on. -/
def tail (U : Fin 4096 → Fin 512 → ℝ) (j : Fin 512) (W n : ℕ) : ℝ := ∑ k ∈ range W, late U j (n - k)

/-- Twice as many rows: the same number again, that many rows before. -/
theorem tail_twice (U : Fin 4096 → Fin 512 → ℝ) (j : Fin 512) (W n : ℕ) : tail U j (W + W) n = tail U j W n + tail U j W (n - W) := by
  unfold tail
  rw [sum_range_add]
  simp only [Nat.sub_sub]

/-- Rows added to the rows some places before. -/
def twice (b : BitVec 32) (E : FVec Ideal S1040x128 .f32) : FVec Ideal S1040x128 .f32 := addf E (dynamicRotate 0 b none E rotates_S1040x128_d0)

theorem twice_is {U : Fin 4096 → Fin 512 → ℝ} {T : ℕ} {g i : Fin 4} {E : FVec Ideal S1040x128 .f32}
    (hE : ∀ (r : Fin 1040) l, 2 ^ i.val ≤ r.val + 1 → E (ix2 r l) = (tail U (chan g l) (2 ^ i.val) (T + r.val) : EReal)) (r : Fin 1040) (l : Fin 128)
    (hr : 2 ^ (i.val + 1) ≤ r.val + 1) : twice (![1#32, 2#32, 4#32, 8#32] i) E (ix2 r l) = (tail U (chan g l) (2 ^ (i.val + 1)) (T + r.val) : EReal) := by
  have h := r.isLt
  have key : ∀ (n : ℕ) (hn : n < 1040), n = r.val - 2 ^ i.val → E (ix2 r l) + E (ix2 ⟨n, hn⟩ l) = (tail U (chan g l) (2 ^ (i.val + 1)) (T + r.val) : EReal) := by
    intro n hn e
    rw [pow_succ, Nat.mul_two] at hr ⊢
    rw [tail_twice, EReal.coe_add, hE r l (by omega), hE ⟨n, hn⟩ l (by show _ ≤ n + 1; omega), Nat.add_sub_assoc (by omega), ← e]
  obtain rfl | rfl | rfl | rfl : i = 0 ∨ i = 1 ∨ i = 2 ∨ i = 3 := (by decide : ∀ i : Fin 4, i = 0 ∨ i = 1 ∨ i = 2 ∨ i = 3) i
  all_goals
    pointwise [twice]
    refine key _ _ ?_
    simp at hr ⊢
    omega

/-- The average of a number of rows less a row. -/
def less (b : BitVec 32) (v66 : IVec S1024x1 32) (P : FVec Ideal S1024x128 .f32) (E : FVec Ideal S1040x128 .f32) : FVec Ideal S1024x128 .bf16 :=
  truncf .bf16 (subf (divf (extractStridedSlice S1024x128 ![16, 0] E slices_S1040x128_o16_0_S1024x128)
    (broadcastTo S1024x128 (sitofp .f32 (minsi (addi v66 (broadcast S1024x1 1#32)) (broadcast S1024x1 b))) broadcasts_S1024x1_S1024x128)) P) bitsLt_bf16_f32

theorem less_is {U : Fin 4096 → Fin 512 → ℝ} {t : Fin cfg0.N} {g : Fin 4} {b : BitVec 32} (hb : b = BitVec.ofNat 32 (width g))
    {P : FVec Ideal S1024x128 .f32} {E : FVec Ideal S1040x128 .f32} (hP : ∀ a l, P (ix2 a l) = (U (row t a) (chan g l) : EReal))
    (hE : ∀ (r : Fin 1040) l, width g ≤ r.val + 1 → E (ix2 r l) = (tail U (chan g l) (width g) (t.val * 1024 + r.val) : EReal)) (a : Fin 1024) (l : Fin 128) :
    less b (rowno t) P E (ix2 a l) = (diff U (row t a) g l : EReal) := by
  have hw : width g ≤ 16 := (by decide : ∀ g, width g ≤ 16) g
  pointwise [less]
  rw [cnt_is t a g b hb, hP, hE _ _ (by show width g ≤ 16 + a.val + 1; omega), div_coe _ (count_ne _ _), ← EReal.coe_sub]
  refine congrArg (fun n => ((tail U (chan g l) (width g) n / count g (row t a).val - U (row t a) (chan g l) : ℝ) : EReal)) ?_
  show t.val * 1024 + (16 + a.val) = t.val * 1024 + a.val + 16
  omega

section Averages

variable {U : Fin 4096 → Fin 512 → ℝ} {t : Fin cfg0.N} {v61 : FVec Ideal S1024x512 .f32} {v62 : Vec Ideal S16x512 .f32}
  (h61 : ∀ a j, v61 (ix2 a j) = (U (row t a) j : EReal)) (h62 : ∀ (r : Fin 16) j, v62 (ix2 r j) = (late U j (t.val * 1024 + r.val) : EReal))
include h61 h62

/-- The kept rows and the tile's, one after the other. -/
theorem ext_is (j : Fin 512) (n : ℕ) (hn : n < 1040) :
    (if h : n < 16 then v62 (ix2 ⟨n, h⟩ j) else v61 (ix2 ⟨n - 16, by omega⟩ j)) = (tail U j (2 ^ 0) (t.val * 1024 + n) : EReal) := by
  have e1 : ∀ i, tail U j (2 ^ 0) i = late U j i := fun i => by simp [tail]
  rw [e1]
  split
  · exact h62 _ _
  · rename_i h
    rw [h61, ← late_in U]
    refine congrArg (fun i => ((late U j i : ℝ) : EReal)) ?_
    show t.val * 1024 + (n - 16) + 16 = _
    omega

/-- The rows of group 0's columns. -/
abbrev P0 (v61 : FVec Ideal S1024x512 .f32) : FVec Ideal S1024x128 .f32 := extractStridedSlice S1024x128 ![0, 0] v61 slices_S1024x512_o0_0_S1024x128
abbrev E0 (v61 : FVec Ideal S1024x512 .f32) (v62 : Vec Ideal S16x512 .f32) : FVec Ideal S1040x128 .f32 := concatenate S1040x128 0 [⟨S16x128, extractStridedSlice S16x128 ![0, 0] v62 slices_S16x512_o0_0_S16x128⟩, ⟨S1024x128, extractStridedSlice S1024x128 ![0, 0] v61 slices_S1024x512_o0_0_S1024x128⟩] concatenates_S16x128_S1024x128_S1040x128_d0

omit h62 in
theorem P0_is (a : Fin 1024) (l : Fin 128) : P0 v61 (ix2 a l) = (U (row t a) (chan 0 l) : EReal) := by
  have e : ∀ hl, (⟨l.val, hl⟩ : Fin 512) = chan 0 l := fun _ => Fin.ext (by show l.val = 0 * 128 + l.val; omega)
  pointwise []
  simp only [e]
  exact h61 _ _

theorem E0_is (r : Fin 1040) (l : Fin 128) : E0 v61 v62 (ix2 r l) = (tail U (chan 0 l) (2 ^ 0) (t.val * 1024 + r.val) : EReal) := by
  have e : ∀ hl, (⟨l.val, hl⟩ : Fin 512) = chan 0 l := fun _ => Fin.ext (by show l.val = 0 * 128 + l.val; omega)
  pointwise []
  simp only [e]
  exact ext_is h61 h62 (chan 0 l) r.val r.isLt

theorem diff0 (a : Fin 1024) (l : Fin 128) : k0_pay17 (rowno t) (P0 v61) (E0 v61 v62) (ix2 a l) = (diff U (row t a) 0 l : EReal) :=
  less_is (g := 0) (b := 2#32) rfl (P0_is h61) (twice_is (i := 0) (fun r l _ => E0_is h61 h62 r l)) a l

/-- The rows of group 1's columns. -/
abbrev P1 (v61 : FVec Ideal S1024x512 .f32) : FVec Ideal S1024x128 .f32 := extractStridedSlice S1024x128 ![0, 128] v61 slices_S1024x512_o0_128_S1024x128
abbrev E1 (v61 : FVec Ideal S1024x512 .f32) (v62 : Vec Ideal S16x512 .f32) : FVec Ideal S1040x128 .f32 := concatenate S1040x128 0 [⟨S16x128, extractStridedSlice S16x128 ![0, 128] v62 slices_S16x512_o0_128_S16x128⟩, ⟨S1024x128, extractStridedSlice S1024x128 ![0, 128] v61 slices_S1024x512_o0_128_S1024x128⟩] concatenates_S16x128_S1024x128_S1040x128_d0

omit h62 in
theorem P1_is (a : Fin 1024) (l : Fin 128) : P1 v61 (ix2 a l) = (U (row t a) (chan 1 l) : EReal) := by
  pointwise []
  exact h61 _ _

theorem E1_is (r : Fin 1040) (l : Fin 128) : E1 v61 v62 (ix2 r l) = (tail U (chan 1 l) (2 ^ 0) (t.val * 1024 + r.val) : EReal) := by
  pointwise []
  exact ext_is h61 h62 (chan 1 l) r.val r.isLt

theorem diff1 (a : Fin 1024) (l : Fin 128) : k0_pay22 (k0_pay20 v61) (k0_pay21 v61 v62 (rowno t)) (ix2 a l) = (diff U (row t a) 1 l : EReal) :=
  less_is (g := 1) (b := 4#32) rfl (P1_is h61) (twice_is (i := 1) (twice_is (i := 0) (fun r l _ => E1_is h61 h62 r l))) a l

/-- The rows of group 2's columns. -/
abbrev P2 (v61 : FVec Ideal S1024x512 .f32) : FVec Ideal S1024x128 .f32 := extractStridedSlice S1024x128 ![0, 256] v61 slices_S1024x512_o0_256_S1024x128
abbrev E2 (v61 : FVec Ideal S1024x512 .f32) (v62 : Vec Ideal S16x512 .f32) : FVec Ideal S1040x128 .f32 := concatenate S1040x128 0 [⟨S16x128, extractStridedSlice S16x128 ![0, 256] v62 slices_S16x512_o0_256_S16x128⟩, ⟨S1024x128, extractStridedSlice S1024x128 ![0, 256] v61 slices_S1024x512_o0_256_S1024x128⟩] concatenates_S16x128_S1024x128_S1040x128_d0

omit h62 in
theorem P2_is (a : Fin 1024) (l : Fin 128) : P2 v61 (ix2 a l) = (U (row t a) (chan 2 l) : EReal) := by
  pointwise []
  exact h61 _ _

theorem E2_is (r : Fin 1040) (l : Fin 128) : E2 v61 v62 (ix2 r l) = (tail U (chan 2 l) (2 ^ 0) (t.val * 1024 + r.val) : EReal) := by
  pointwise []
  exact ext_is h61 h62 (chan 2 l) r.val r.isLt

theorem diff2 (a : Fin 1024) (l : Fin 128) : k0_pay25 v61 v62 (rowno t) (ix2 a l) = (diff U (row t a) 2 l : EReal) :=
  less_is (g := 2) (b := 8#32) rfl (P2_is h61) (twice_is (i := 2) (twice_is (i := 1) (twice_is (i := 0) (fun r l _ => E2_is h61 h62 r l)))) a l

/-- The rows of group 3's columns. -/
abbrev P3 (v61 : FVec Ideal S1024x512 .f32) : FVec Ideal S1024x128 .f32 := extractStridedSlice S1024x128 ![0, 384] v61 slices_S1024x512_o0_384_S1024x128
abbrev E3 (v61 : FVec Ideal S1024x512 .f32) (v62 : Vec Ideal S16x512 .f32) : FVec Ideal S1040x128 .f32 := concatenate S1040x128 0 [⟨S16x128, extractStridedSlice S16x128 ![0, 384] v62 slices_S16x512_o0_384_S16x128⟩, ⟨S1024x128, extractStridedSlice S1024x128 ![0, 384] v61 slices_S1024x512_o0_384_S1024x128⟩] concatenates_S16x128_S1024x128_S1040x128_d0

omit h62 in
theorem P3_is (a : Fin 1024) (l : Fin 128) : P3 v61 (ix2 a l) = (U (row t a) (chan 3 l) : EReal) := by
  pointwise []
  exact h61 _ _

theorem E3_is (r : Fin 1040) (l : Fin 128) : E3 v61 v62 (ix2 r l) = (tail U (chan 3 l) (2 ^ 0) (t.val * 1024 + r.val) : EReal) := by
  pointwise []
  exact ext_is h61 h62 (chan 3 l) r.val r.isLt

theorem diff3 (a : Fin 1024) (l : Fin 128) : k0_pay28 v61 v62 (rowno t) (ix2 a l) = (diff U (row t a) 3 l : EReal) :=
  less_is (g := 3) (b := 16#32) rfl (P3_is h61) (twice_is (i := 3) (twice_is (i := 2) (twice_is (i := 1) (twice_is (i := 0) (fun r l _ => E3_is h61 h62 r l))))) a l

end Averages

/-- A group's differences through its weights, scaled. -/
theorem pool_is (D : FVec Ideal S1024x128 .bf16) (W : Vec Ideal S1x128x128 .f32) (S : Vec Ideal S1x128 .f32) (a : Fin 1024) (o : Fin 128) :
    k0_pay27 D W S (ix2 a o) = (∑ i, D (ix2 a i) * W (ix3 0 i o)) * S (ix2 0 o) := by
  pointwise [k0_pay27]

theorem same_is (D : FVec Ideal S1024x128 .bf16) (a : Fin 1024) (l : Fin 128) : shapeCast S1024x128 D shapeCasts_S1024x128_S1024x128 (ix2 a l) = D (ix2 a l) := by
  pointwise []

/-! ## The results -/

abbrev rxh : FVec Ideal S4096x1024 .f32 := Cert.Reference9Ideal.Read.val_main_v18 (F := Ideal) (ax (m := m) c)
abbrev rrstd : FVec Ideal S4096x1 .f32 := Cert.Reference9Ideal.Read.val_main_v14 (F := Ideal) (ax (m := m) c)
abbrev rq : FVec Ideal S4096x512 .bf16 := Cert.Reference9Ideal.Read.val_main_v203 (F := Ideal) (ax (m := m) c) (ag (m := m) c) (ab (m := m) c) (aw (m := m) c)
abbrev rk : FVec Ideal S4096x512 .bf16 := Cert.Reference9Ideal.Read.val_main_v204 (F := Ideal) (ax (m := m) c) (ag (m := m) c) (ab (m := m) c) (aw (m := m) c)
abbrev rv : FVec Ideal S4096x512 .bf16 := Cert.Reference9Ideal.Read.val_main_v205 (F := Ideal) (ax (m := m) c) (ag (m := m) c) (ab (m := m) c) (aw (m := m) c)
abbrev rdiffs : FVec Ideal S4096x512 .bf16 := Cert.Reference9Ideal.Read.val_main_v206 (F := Ideal) (ax (m := m) c) (ag (m := m) c) (ab (m := m) c) (aw (m := m) c)
abbrev rpooled : FVec Ideal S4096x512 .bf16 := Cert.Reference9Ideal.Read.val_main_v207 (F := Ideal) (ax (m := m) c) (ag (m := m) c) (ab (m := m) c) (aw (m := m) c) (awp (m := m) c) (aps (m := m) c)

/-- The normalised rows. -/
theorem final_xh : (dats m 0 c).arrAt 6 (cfgs 0).N = rxh (m := m) c := by
  refine (dats m 0 c).arrAt_eq_of_covers 6 _ (by decide +kernel) fun t hf y => ?_
  rw [after0_6]
  idx_vars y
  have e : ((cfg0.win 6).blk t).view.emb (ix2 y0 y1) = ix2 (row t y0) y1 := by blk_ext [idx_val t]; rfl
  refine Eq.trans ?_ (congrArg (rxh (m := m) c) e).symm
  blk_simp
  by_cases h0 : t.val % 4 = 0
  on_goal 1 => rw [outsAt0_A m c t h0]
  on_goal 2 => rw [outsAt0_B m c t h0]
  all_goals
    frame_out
    exact (store_hat (blk_x c t y0) y1).trans (Cert.Reference9Ideal.Read.ref_xh _ _ _).symm

/-- The reciprocal deviations. -/
theorem final_rstd : (dats m 0 c).arrAt 7 (cfgs 0).N = rrstd (m := m) c := by
  refine (dats m 0 c).arrAt_eq_of_covers 7 _ (by decide +kernel) fun t hf y => ?_
  rw [after0_7]
  idx_vars y
  obtain rfl : y1 = 0 := Subsingleton.elim _ _
  have e : ((cfg0.win 7).blk t).view.emb (ix2 y0 0) = ix2 (row t y0) 0 := by blk_ext [idx_val t]; rfl
  refine Eq.trans ?_ (congrArg (rrstd (m := m) c) e).symm
  blk_simp
  by_cases h0 : t.val % 4 = 0
  on_goal 1 => rw [outsAt0_A m c t h0]
  on_goal 2 => rw [outsAt0_B m c t h0]
  all_goals
    frame_out
    exact (store_rstd (blk_x c t y0)).trans (Cert.Reference9Ideal.Read.ref_rstd _ _).symm

/-- The queries. -/
theorem final_q : (dats m 0 c).arrAt 8 (cfgs 0).N = rq (m := m) c := by
  refine (dats m 0 c).arrAt_eq_of_covers 8 _ (by decide +kernel) fun t hf y => ?_
  rw [after0_8]
  idx_vars y
  have e : ((cfg0.win 8).blk t).view.emb (ix2 y0 y1) = ix2 (row t y0) y1 := by blk_ext [idx_val t]; rfl
  refine Eq.trans ?_ (congrArg (rq (m := m) c) e).symm
  blk_simp
  by_cases h0 : t.val % 4 = 0
  on_goal 1 => rw [outsAt0_A m c t h0]
  on_goal 2 => rw [outsAt0_B m c t h0]
  all_goals
    frame_out
    exact (tile_q (tnorm (m := m) c t) _ y0 y1).trans ((congrArg (fun x : EReal => x * Ideal.ofBits .f32 0x3E000000#32) (proj_is c t 0 (slab c t 0 _) y0 y1 (f := ⟨y1.val, by omega⟩) (Nat.zero_add _).symm)).trans (Cert.Reference9Ideal.Read.ref_q _ _ _ _ _ _).symm)

/-- The keys. -/
theorem final_k : (dats m 0 c).arrAt 9 (cfgs 0).N = rk (m := m) c := by
  refine (dats m 0 c).arrAt_eq_of_covers 9 _ (by decide +kernel) fun t hf y => ?_
  rw [after0_9]
  idx_vars y
  have e : ((cfg0.win 9).blk t).view.emb (ix2 y0 y1) = ix2 (row t y0) y1 := by blk_ext [idx_val t]; rfl
  refine Eq.trans ?_ (congrArg (rk (m := m) c) e).symm
  blk_simp
  by_cases h0 : t.val % 4 = 0
  on_goal 1 => rw [outsAt0_A m c t h0]
  on_goal 2 => rw [outsAt0_B m c t h0]
  all_goals
    frame_out
    exact (tile_k (tnorm (m := m) c t) _ y0 y1).trans ((proj_is c t 1 (slab c t 1 _) y0 y1 (f := ⟨512 + y1.val, by omega⟩) rfl).trans (Cert.Reference9Ideal.Read.ref_k _ _ _ _ _ _).symm)

/-- The values. -/
theorem final_v : (dats m 0 c).arrAt 10 (cfgs 0).N = rv (m := m) c := by
  refine (dats m 0 c).arrAt_eq_of_covers 10 _ (by decide +kernel) fun t hf y => ?_
  rw [after0_10]
  idx_vars y
  have e : ((cfg0.win 10).blk t).view.emb (ix2 y0 y1) = ix2 (row t y0) y1 := by blk_ext [idx_val t]; rfl
  refine Eq.trans ?_ (congrArg (rv (m := m) c) e).symm
  blk_simp
  by_cases h0 : t.val % 4 = 0
  on_goal 1 => rw [outsAt0_A m c t h0]
  on_goal 2 => rw [outsAt0_B m c t h0]
  all_goals
    frame_out
    exact (tile_v (tnorm (m := m) c t) _ y0 y1).trans ((proj_is c t 2 (slab c t 2 _) y0 y1 (f := ⟨1024 + y1.val, by omega⟩) rfl).trans (Cert.Reference9Ideal.Read.ref_v _ _ _ _ _ _).symm)

variable {c} {U : Fin 4096 → Fin 512 → ℝ} (h : Holds U (ax (m := m) c) (ag (m := m) c) (ab (m := m) c) (aw (m := m) c))
include h

/-- A tile of the projection's last quarter. -/
abbrev tlast (t : Fin cfg0.N) : FVec Ideal S1024x512 .f32 := k0_pay13 (tnorm (m := m) c t) (View.ld (iblk m c 3 t) (Rect.unit (s := S4x1024x512) ![3, 0, 0] ![1, 1024, 512] inb_S4x1024x512_S1x1024x512_3_0_0))

theorem last_is (t : Fin cfg0.N) (a : Fin 1024) (j : Fin 512) : tlast (m := m) (c := c) t (ix2 a j) = (U (row t a) j : EReal) :=
  (tile_u _ _ a j).trans ((proj_is c t 3 (slab c t 3 _) a j (f := ⟨1536 + j.val, by omega⟩) rfl).trans (h (row t a) j))

/-- What is kept after a tile: the rows before the next one. -/
theorem kept_is (t : Fin cfg0.N) (r : Fin 16) (j : Fin 512) :
    (outsAt0 m c t.val t.isLt).2.2.2.2.2.2.2 (ix2 r j) = (late U j ((t.val + 1) * 1024 + r.val) : EReal) := by
  have key : k0_pay2 (tlast (m := m) (c := c) t) (ix2 r j) = (late U j ((t.val + 1) * 1024 + r.val) : EReal) := by
    pointwise [k0_pay2]
    rw [last_is h, ← late_in U]
    refine congrArg (fun i => ((late U j i : ℝ) : EReal)) ?_
    show t.val * 1024 + (1008 + r.val) + 16 = _
    omega
  by_cases h0 : t.val % 4 = 0
  on_goal 1 => rw [outsAt0_A m c t h0]
  on_goal 2 => rw [outsAt0_B m c t h0]
  all_goals
    frame_out
    exact key

/-- What is kept before a tile that is not the first. -/
theorem before_is (t : Fin cfg0.N) (h0 : ¬t.val % 4 = 0) (ht) (r : Fin 16) (j : Fin 512) :
    (outsAt0 m c (t.val - 1) ht).2.2.2.2.2.2.2 (ix2 r j) = (late U j (t.val * 1024 + r.val) : EReal) := by
  refine (kept_is h ⟨t.val - 1, ht⟩ r j).trans (congrArg (fun n => ((late U j (n * 1024 + r.val) : ℝ) : EReal)) ?_)
  show t.val - 1 + 1 = t.val
  omega

omit h in
/-- Before the first there is nothing. -/
theorem start_is (t : Fin cfg0.N) (h0 : t.val % 4 = 0) (r : Fin 16) (j : Fin 512) : k0_pay3 (F := Ideal) (ix2 r j) = (late U j (t.val * 1024 + r.val) : EReal) := by
  have h4 : t.val < 4 := t.isLt
  have e : k0_pay3 (F := Ideal) (ix2 r j) = 0 := by pointwise! [k0_pay3]
  rw [e, late, dif_neg (by omega)]
  rfl

/-- A group's differences through its weights, scaled, are the reference's. -/
theorem pooled_is {t : Fin cfg0.N} {g : Fin 4} {D : FVec Ideal S1024x128 .bf16} (hD : ∀ a l, D (ix2 a l) = (diff U (row t a) g l : EReal))
    {W : Vec Ideal S1x128x128 .f32} (hW : ∀ i o, W (ix3 0 i o) = iblk m c 4 t (ix3 g i o)) {S : Vec Ideal S1x128 .f32} (hS : ∀ o, S (ix2 0 o) = iblk m c 5 t (ix2 0 (chan g o)))
    (r : Fin 1024) (o : Fin 128) : k0_pay27 D W S (ix2 r o) = rpooled (m := m) c (ix2 (row t r) (chan g o)) :=
  (pool_is _ _ _ r o).trans ((congrArg₂ (fun x y : EReal => x * y)
    (sum_congr rfl fun i _ => congrArg₂ (fun x y : EReal => x * y) (hD r i) ((hW i o).trans (blk_wp c t g i o))) ((hS o).trans (blk_ps c t (chan g o)))).trans
    (Cert.Reference9Ideal.Read.ref_pooled _ _ h (row t r) g o).symm)

omit h in
theorem wslab (t : Fin cfg0.N) (g : Fin 4) (hg) (i o : Fin 128) :
    View.ld (iblk m c 4 t) (Rect.unit (s := S4x128x128) ![g.val, 0, 0] ![1, 128, 128] hg) (ix3 0 i o) = iblk m c 4 t (ix3 g i o) := by
  have e : (Rect.unit (s := S4x128x128) ![g.val, 0, 0] ![1, 128, 128] hg).emb (ix3 0 i o) = ix3 g i o := by blk_ext
  exact congrArg (iblk m c 4 t) e

/-- A group's differences are the reference's. -/
theorem store_is {t : Fin cfg0.N} {g : Fin 4} {D : FVec Ideal S1024x128 .bf16} (hD : ∀ a l, D (ix2 a l) = (diff U (row t a) g l : EReal)) (r : Fin 1024) (l : Fin 128) :
    shapeCast S1024x128 D shapeCasts_S1024x128_S1024x128 (ix2 r l) = rdiffs (m := m) c (ix2 (row t r) (chan g l)) :=
  (same_is D r l).trans ((hD r l).trans (Cert.Reference9Ideal.Read.ref_diff h _ g l).symm)

omit h in
/-- Four column stores, one for each group, are what each holds. -/
theorem columns {e : EltTy} {R : Nat} (G : (⟨2, ![R, 512]⟩ : Shape).Idx → Elt Ideal e) (p0 p1 p2 p3 : (⟨2, ![R, 128]⟩ : Shape).Idx → Elt Ideal e)
    (L : List (View.Piece (Elt Ideal) ⟨2, ![R, 512]⟩ e)) (i0 i1 i2 i3)
    (h0 : ∀ r l, p0 (ix2 r l) = G (ix2 r (chan 0 l))) (h1 : ∀ r l, p1 (ix2 r l) = G (ix2 r (chan 1 l)))
    (h2 : ∀ r l, p2 (ix2 r l) = G (ix2 r (chan 2 l))) (h3 : ∀ r l, p3 (ix2 r l) = G (ix2 r (chan 3 l))) (i : (⟨2, ![R, 512]⟩ : Shape).Idx) :
    View.canon (⟨Rect.unit ![0, 384] ![R, 128] i3, p3⟩ :: ⟨Rect.unit ![0, 256] ![R, 128] i2, p2⟩ ::
      ⟨Rect.unit ![0, 128] ![R, 128] i1, p1⟩ :: ⟨Rect.unit ![0, 0] ![R, 128] i0, p0⟩ :: L) i = G i := by
  have ax : ∀ a : Fin 2, a = 0 ∨ a = 1 := by decide
  have all : ∀ {p G' : (⟨2, ![R, 128]⟩ : Shape).Idx → Elt Ideal e}, (∀ r l, p (ix2 r l) = G' (ix2 r l)) → ∀ x, p x = G' x := fun hp x => by
    obtain ⟨r, l, rfl⟩ : ∃ r l, x = ix2 r l := ⟨x 0, x 1, by funext a; obtain rfl | rfl := ax a <;> rfl⟩
    exact hp _ _
  have cov : ∀ (y : (⟨2, ![R, 512]⟩ : Shape).Idx) (r : Rect ⟨2, ![R, 512]⟩) (x : r.shape.Idx), r.emb x = y → y ∈ r.set :=
    fun y r x hx => hx ▸ LoadRect.idx_mem r.toLoadRect x
  have h := View.canon_append_of_piecesOf G L [⟨Rect.unit ![0, 384] ![R, 128] i3, p3⟩, ⟨Rect.unit ![0, 256] ![R, 128] i2, p2⟩,
    ⟨Rect.unit ![0, 128] ![R, 128] i1, p1⟩, ⟨Rect.unit ![0, 0] ![R, 128] i0, p0⟩]
    ⟨all fun k j => (h3 k j).trans (congrArg G (col3 i3 k j)).symm, all fun k j => (h2 k j).trans (congrArg G (col2 i2 k j)).symm,
      all fun k j => (h1 k j).trans (congrArg G (col1 i1 k j)).symm, all fun k j => (h0 k j).trans (congrArg G (col0 i0 k j)).symm, trivial⟩ i
  refine h ?_
  obtain ⟨r, q, l, rfl⟩ : ∃ r q l, i = ix2 r (chan q l) := ⟨i 0, ⟨(i 1).val / 128, by have : (i 1).val < 512 := (i 1).isLt; omega⟩, ⟨(i 1).val % 128, by omega⟩, by
    funext a
    obtain rfl | rfl := ax a
    · rfl
    · exact Fin.ext (by show (i 1).val = (i 1).val / 128 * 128 + (i 1).val % 128; omega)⟩
  clear h
  obtain rfl | rfl | rfl | rfl : q = 0 ∨ q = 1 ∨ q = 2 ∨ q = 3 := by revert q; decide
  · exact ⟨_, List.mem_cons_of_mem _ (List.mem_cons_of_mem _ (List.mem_cons_of_mem _ List.mem_cons_self)), cov _ _ (ix2 r l) (col0 i0 r l)⟩
  · exact ⟨_, List.mem_cons_of_mem _ (List.mem_cons_of_mem _ List.mem_cons_self), cov _ _ (ix2 r l) (col1 i1 r l)⟩
  · exact ⟨_, List.mem_cons_of_mem _ List.mem_cons_self, cov _ _ (ix2 r l) (col2 i2 r l)⟩
  · exact ⟨_, List.mem_cons_self, cov _ _ (ix2 r l) (col3 i3 r l)⟩

set_option maxHeartbeats 1000000 in
/-- The differences. -/
theorem final_diffs : (dats m 0 c).arrAt 11 (cfgs 0).N = rdiffs (m := m) c := by
  refine (dats m 0 c).arrAt_eq_of_covers 11 _ (by decide +kernel) fun t hf y => ?_
  rw [after0_11]
  idx_vars y
  have e : ((cfg0.win 11).blk t).view.emb (ix2 y0 y1) = ix2 (row t y0) y1 := by blk_ext [idx_val t]; rfl
  refine Eq.trans ?_ (congrArg (rdiffs (m := m) c) e).symm
  blk_simp
  by_cases h0 : t.val % 4 = 0
  · rw [outsAt0_A m c t h0]; frame_out
    exact columns (e := .bf16) (fun i : S1024x512.Idx => rdiffs (m := m) c (ix2 (row t (i 0)) (i 1))) _ _ _ _ [] _ _ _ _
      (store_is h (diff0 (last_is h t) (start_is t h0)))
      (store_is h (diff1 (last_is h t) (start_is t h0)))
      (store_is h (diff2 (last_is h t) (start_is t h0)))
      (store_is h (diff3 (last_is h t) (start_is t h0))) (ix2 y0 y1)
  · rw [outsAt0_B m c t h0]; frame_out
    exact columns (e := .bf16) (fun i : S1024x512.Idx => rdiffs (m := m) c (ix2 (row t (i 0)) (i 1))) _ _ _ _ [] _ _ _ _
      (store_is h (diff0 (last_is h t) (fun r j => (congrFun (Memref.IsWhole.read_unread _ _) (ix2 r j)).trans (before_is h t h0 _ r j))))
      (store_is h (diff1 (last_is h t) (fun r j => (congrFun (Memref.IsWhole.read_unread _ _) (ix2 r j)).trans (before_is h t h0 _ r j))))
      (store_is h (diff2 (last_is h t) (fun r j => (congrFun (Memref.IsWhole.read_unread _ _) (ix2 r j)).trans (before_is h t h0 _ r j))))
      (store_is h (diff3 (last_is h t) (fun r j => (congrFun (Memref.IsWhole.read_unread _ _) (ix2 r j)).trans (before_is h t h0 _ r j)))) (ix2 y0 y1)

set_option maxHeartbeats 1000000 in
/-- The pooled rows. -/
theorem final_pooled : (dats m 0 c).arrAt 12 (cfgs 0).N = rpooled (m := m) c := by
  refine (dats m 0 c).arrAt_eq_of_covers 12 _ (by decide +kernel) fun t hf y => ?_
  rw [after0_12]
  idx_vars y
  have e : ((cfg0.win 12).blk t).view.emb (ix2 y0 y1) = ix2 (row t y0) y1 := by blk_ext [idx_val t]; rfl
  refine Eq.trans ?_ (congrArg (rpooled (m := m) c) e).symm
  blk_simp
  by_cases h0 : t.val % 4 = 0
  · rw [outsAt0_A m c t h0]; frame_out
    exact columns (e := .bf16) (fun i : S1024x512.Idx => rpooled (m := m) c (ix2 (row t (i 0)) (i 1))) _ _ _ _ [] _ _ _ _
      (pooled_is h (diff0 (last_is h t) (start_is t h0)) (wslab t 0 _) fun o => congrArg (iblk m c 5 t) (row0 _ o))
      (pooled_is h (diff1 (last_is h t) (start_is t h0)) (wslab t 1 _) fun o => congrArg (iblk m c 5 t) (row1 _ o))
      (pooled_is h (diff2 (last_is h t) (start_is t h0)) (wslab t 2 _) fun o => congrArg (iblk m c 5 t) (row2 _ o))
      (pooled_is h (diff3 (last_is h t) (start_is t h0)) (wslab t 3 _) fun o => congrArg (iblk m c 5 t) (row3 _ o)) (ix2 y0 y1)
  · rw [outsAt0_B m c t h0]; frame_out
    exact columns (e := .bf16) (fun i : S1024x512.Idx => rpooled (m := m) c (ix2 (row t (i 0)) (i 1))) _ _ _ _ [] _ _ _ _
      (pooled_is h (diff0 (last_is h t) (fun r j => (congrFun (Memref.IsWhole.read_unread _ _) (ix2 r j)).trans (before_is h t h0 _ r j))) (wslab t 0 _) fun o => congrArg (iblk m c 5 t) (row0 _ o))
      (pooled_is h (diff1 (last_is h t) (fun r j => (congrFun (Memref.IsWhole.read_unread _ _) (ix2 r j)).trans (before_is h t h0 _ r j))) (wslab t 1 _) fun o => congrArg (iblk m c 5 t) (row1 _ o))
      (pooled_is h (diff2 (last_is h t) (fun r j => (congrFun (Memref.IsWhole.read_unread _ _) (ix2 r j)).trans (before_is h t h0 _ r j))) (wslab t 2 _) fun o => congrArg (iblk m c 5 t) (row2 _ o))
      (pooled_is h (diff3 (last_is h t) (fun r j => (congrFun (Memref.IsWhole.read_unread _ _) (ix2 r j)).trans (before_is h t h0 _ r j))) (wslab t 3 _) fun o => congrArg (iblk m c 5 t) (row3 _ o)) (ix2 y0 y1)

end Cert.Kernel9Ideal.Value

namespace Cert.Emb

open Cert.Pre_emb_finite

/-- The precondition gives a projection that holds real numbers. -/
theorem holds_of_pre [Cert.Pre_emb_finite.Facts] {x : FVec Ideal S1x4096x1024 .f32} {g b : FVec Ideal S1024 .f32} {w : FVec Ideal S1x1024x2048 .f32}
    {wp : FVec Ideal S1x4x128x128 .f32} {ps : FVec Ideal S1x512 .f32}
    (h : fn (F := Ideal) x g b w wp ps = fun _ => 1#1) : Holds (rowsOf x g b w) x g b w := by
  have h0 := congrFun h (fun k => k.elim0)
  obtain ⟨h0, h3⟩ := IntOp.andi_eq_one.1 h0
  obtain ⟨h0, h2⟩ := IntOp.andi_eq_one.1 h0
  obtain ⟨h0, h1⟩ := IntOp.andi_eq_one.1 h0
  exact holds_of_real x g b w (fun _ => Finite.real_of_all _ _ _ _ _ h0 _) (fun _ => Finite.real_of_all _ _ _ _ _ h1 _)
    (fun _ => Finite.real_of_all _ _ _ _ _ h2 _) fun _ => Finite.real_of_all _ _ _ _ _ h3 _

end Cert.Emb

end
-- ==== Proof.lean ====
module

public import proofs.«01_k».proof.Defs
public import proofs.«01_k».proof.Proof.Gen.KernelMlp
public import proofs.«01_k».proof.Proof.Gen.KernelMlp.Skeleton
public import proofs.«01_k».proof.Proof.Gen.KernelMlp.Launch
public import proofs.«01_k».proof.Proof.Gen.KernelMlp.Points
public import proofs.«01_k».proof.Proof.Gen.KernelMlp.Frame
public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.KernelMlpIdeal.Frame
public import proofs.«01_k».proof.Proof.Gen.ReferenceMlpIdeal
public import proofs.«01_k».proof.Proof.Gen.ReferenceMlpIdeal.Run
public import proofs.«01_k».proof.Proof.Gen.ReferenceMlpIdeal.Read
public import proofs.«01_k».proof.Proof.Gen.KernelMlpIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_attn_finite
public import proofs.«01_k».proof.Proof.MlpValue
public import proofs.«01_k».proof.Proof.AttnFrame
public import proofs.«01_k».proof.Proof.AttnValue
public import proofs.«01_k».proof.Proof.PlainAttnFrame
public import Idealize.ShloMosaic.Lib.Claim
public import Idealize.ShloMosaic.Adequacy
public import Idealize.ShloMosaic.Init
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pool_finite
public import proofs.«01_k».proof.Proof.PoolKernel
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_inproj_finite
public import proofs.«01_k».proof.Proof.InprojKernel
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_mix_finite
public import proofs.«01_k».proof.Proof.MixKernel
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_ple_finite
public import proofs.«01_k».proof.Proof.PleKernel
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.MixForward
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MlpForward
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_emb_finite
public import proofs.«01_k».proof.Proof.EmbKernel

@[expose] public section

set_option maxRecDepth 16384

noncomputable section

namespace Cert.Proof

open Idealize.ShloMosaic Idealize.SL.Sem

theorem frame_mlp : Cert.quiescent_KernelMlp := fun m ρ _ => Cert.KernelMlp.Gen.frame m ρ

theorem frame_mlp_ideal : Cert.quiescent_KernelMlpIdeal := fun m ρ _ => Cert.KernelMlpIdeal.Gen.frame m ρ

theorem frame_mlp_reference : Cert.quiescent_ReferenceMlpIdeal := fun m g _ =>
  (θ_run Cert.ReferenceMlpIdeal.defs _ _).mono (fun _ h => ⟨fun c => (h c).2.2, sem_eq_zero_of_no_sems rfl _⟩)
    (Cert.ReferenceMlpIdeal.Value.run m g)

theorem algebraic_mlp : Cert.algebraic_KernelMlpIdeal_ReferenceMlpIdeal := by
  pair_intro
  · run_from Cert.KernelMlpIdeal.Value.run_blocks m g
  · run_from Cert.ReferenceMlpIdeal.Value.run _ _
    · refine (Cert.ReferenceMlpIdeal.Read.val_main_v16_eq (F := Ideal) _ _ _ _).trans ((funext fun i => ?_).trans
        (Cert.KernelMlpIdeal.Value.final_dx m c).symm)
      exact Cert.ReferenceMlpIdeal.Value.dx_eq _ _ _ _ i
    · refine (Cert.ReferenceMlpIdeal.Read.val_main_v18_eq (F := Ideal) _ _ _ _).trans ((funext fun i => ?_).trans
        (Cert.KernelMlpIdeal.Value.final_da m c).symm)
      exact Cert.ReferenceMlpIdeal.Value.da_eq _ _ _ _ i

theorem frame_attn : Cert.quiescent_Kernel2 := fun m ρ _ => Cert.Kernel2.Attn.frame m ρ

theorem frame_attn_ideal : Cert.quiescent_Kernel2Ideal := fun m ρ _ => Cert.Kernel2Ideal.Attn.frame m ρ

theorem frame_attn_reference : Cert.quiescent_Reference2Ideal := fun m g _ =>
  (θ_run Cert.Reference2Ideal.defs _ _).mono (fun _ h => ⟨fun c => (h c).2.2.2, sem_eq_zero_of_no_sems rfl _⟩)
    (Cert.Reference2Ideal.Value.run m g)

theorem preserves_attn : Cert.preserves_Kernel2_Kernel2Ideal :=
  ⟨rfl, fun _ => IdealRules.named_const.ideal_named _ _ _ _ rfl, IdealRules.named_const.ideal_named_scalar _ _ _ _ rfl⟩

theorem algebraic_attn : Cert.algebraic_Kernel2Ideal_Reference2Ideal_pre_attn_finite (hPre_attn_finite := Cert.Pre_attn_finite.Gen.facts) := by
  pair_intro
  · run_from Cert.Kernel2Ideal.Attn.run_results m g
  · have real := fun c => Cert.AttnFinite.isArg_of_pre (hpre c)
    run_from Cert.Reference2Ideal.Value.run _ _
    · refine (Cert.Reference2Ideal.Read.val_main_v52_eq (F := Ideal) _ _).trans ?_
      obtain ⟨q, k, v, ct⟩ := real c
      obtain ⟨e0, e1, e2, e3⟩ := hagree c
      rw [e0, e1, e2, e3]
      refine (funext fun i => ?_).trans (Cert.Kernel2Ideal.Attn.final_dq ⟨q, k, v, ct⟩).symm
      idx_vars i
      exact Cert.Reference2Ideal.Attn.result_dq q k v ct i0 i1
    · refine (Cert.Reference2Ideal.Read.val_main_v53_eq (F := Ideal) _ _).trans ?_
      obtain ⟨q, k, v, ct⟩ := real c
      obtain ⟨e0, e1, e2, e3⟩ := hagree c
      rw [e0, e1, e2, e3]
      refine (funext fun i => ?_).trans (Cert.Kernel2Ideal.Attn.final_dk ⟨q, k, v, ct⟩).symm
      idx_vars i
      exact Cert.Reference2Ideal.Attn.result_dk q k v ct i0 i1
    · refine (Cert.Reference2Ideal.Read.val_main_v54_eq (F := Ideal) _ _).trans ?_
      obtain ⟨q, k, v, ct⟩ := real c
      obtain ⟨e0, e1, e2, e3⟩ := hagree c
      rw [e0, e1, e3]
      refine (funext fun i => ?_).trans (Cert.Kernel2Ideal.Attn.final_dv ⟨q, k, v, ct⟩).symm
      idx_vars i
      exact Cert.Reference2Ideal.Attn.result_dv q k ct i0 i1

theorem frame_pool : Cert.quiescent_Kernel := fun m ρ _ => Cert.Kernel.Gen.frame m ρ

theorem frame_pool_ideal : Cert.quiescent_KernelIdeal := fun m ρ _ => Cert.KernelIdeal.Gen.frame m ρ

theorem frame_pool_reference : Cert.quiescent_ReferenceIdeal := fun m g _ =>
  (θ_run Cert.ReferenceIdeal.defs _ _).mono (fun _ h => ⟨fun c => (h c).2.2.2, sem_eq_zero_of_no_sems rfl _⟩)
    (Cert.ReferenceIdeal.Value.run m g)

set_option maxHeartbeats 2000000 in
theorem algebraic_pool : Cert.algebraic_KernelIdeal_ReferenceIdeal_pre_pool_finite (hPre_pool_finite := Cert.Pre_pool_finite.Gen.facts) := by
  pair_intro
  · run_from Cert.KernelIdeal.Value.run_blocks m g
  · have real := fun c => Cert.Pool.holds_of_pre (hpre c)
    run_from Cert.ReferenceIdeal.Value.run _ _
    · refine (Cert.ReferenceIdeal.Read.val_main_v152_eq (F := Ideal) _).trans ?_
      obtain ⟨_, e1, e2, e3⟩ := hagree c
      simp only [e1, e2, e3]
      refine (funext fun i => ?_).trans (Cert.KernelIdeal.Value.final_du (real c)).symm
      idx_vars i
      exact Cert.ReferenceIdeal.Value.du_is (real c) _ _
    · refine (Cert.ReferenceIdeal.Read.val_main_v96_eq (F := Ideal) _).trans ?_
      obtain ⟨e0, _, e2, e3⟩ := hagree c
      simp only [e0, e2, e3]
      refine (funext fun i => ?_).trans (Cert.KernelIdeal.Value.final_dw c).symm
      idx_vars i
      exact Cert.ReferenceIdeal.Value.dw_is _ _ _
    · refine (Cert.ReferenceIdeal.Read.val_main_v153_eq (F := Ideal) _).trans ?_
      obtain ⟨e0, e1, _, e3⟩ := hagree c
      simp only [e0, e1, e3]
      refine (funext fun i => ?_).trans (Cert.KernelIdeal.Value.final_ds c).symm
      idx_vars i
      obtain rfl : i0 = 0 := Subsingleton.elim _ _
      exact Cert.ReferenceIdeal.Value.ds_is _

theorem frame_inproj : Cert.quiescent_Kernel4 := fun m ρ _ => Cert.Kernel4.Gen.frame m ρ

theorem frame_inproj_ideal : Cert.quiescent_Kernel4Ideal := fun m ρ _ => Cert.Kernel4Ideal.Gen.frame m ρ

theorem frame_inproj_reference : Cert.quiescent_Reference4Ideal := fun m g _ =>
  (θ_run Cert.Reference4Ideal.defs _ _).mono (fun _ h => ⟨fun c => (h c).2.2.2.2, sem_eq_zero_of_no_sems rfl _⟩)
    (Cert.Reference4Ideal.Value.run m g)

set_option maxHeartbeats 2000000 in
theorem algebraic_inproj : Cert.algebraic_Kernel4Ideal_Reference4Ideal_pre_inproj_finite (hPre_inproj_finite := Cert.Pre_inproj_finite.Gen.facts) := by
  pair_intro
  · run_from Cert.Kernel4Ideal.Value.run_blocks m g
  · have real := fun c => Cert.Inproj.holds_of_pre (hpre c)
    run_from Cert.Reference4Ideal.Value.run _ _
    · refine (Cert.Reference4Ideal.Read.val_main_v82_eq (F := Ideal) _ _).trans ?_
      obtain ⟨e0, e1, _, e3, e4, e5, e6, e7, e8⟩ := hagree c
      simp only [e0, e1, e3, e4, e5, e6, e7, e8]
      refine (funext fun i => ?_).trans (Cert.Kernel4Ideal.Value.final_gx (real c)).symm
      idx_vars i
      exact Cert.Reference4Ideal.Value.gx_is (real c) _ _
    · refine (Cert.Reference4Ideal.Read.val_main_v84_eq (F := Ideal) _ _ _ _ _ _ _).trans ?_
      obtain ⟨e0, e1, e2, _, e4, e5, e6, e7, _⟩ := hagree c
      simp only [e0, e1, e2, e4, e5, e6, e7]
      refine (funext fun i => ?_).trans (Cert.Kernel4Ideal.Value.final_dw (real c)).symm
      idx_vars i
      exact Cert.Reference4Ideal.Value.dw_is (real c) _ _ _
    · refine (Cert.Reference4Ideal.Read.val_main_v85_eq (F := Ideal) _ _ _ _ _ _ _).trans ?_
      obtain ⟨e0, _, _, e3, e4, e5, e6, e7, e8⟩ := hagree c
      simp only [e0, e3, e4, e5, e6, e7, e8]
      refine (funext fun i => ?_).trans (Cert.Kernel4Ideal.Value.final_dg (real c)).symm
      idx_vars i
      obtain rfl : i0 = 0 := Subsingleton.elim _ _
      exact Cert.Reference4Ideal.Value.dg_is (real c) _
    · refine (Cert.Reference4Ideal.Read.val_main_v86_eq (F := Ideal) _ _ _ _ _ _).trans ?_
      obtain ⟨_, _, _, e3, e4, e5, e6, e7, e8⟩ := hagree c
      simp only [e3, e4, e5, e6, e7, e8]
      refine (funext fun i => ?_).trans (Cert.Kernel4Ideal.Value.final_db (real c)).symm
      idx_vars i
      obtain rfl : i0 = 0 := Subsingleton.elim _ _
      exact Cert.Reference4Ideal.Value.db_is (real c) _

theorem frame_mix : Cert.quiescent_Kernel5 := fun m ρ _ => Cert.Kernel5.Gen.frame m ρ

theorem frame_mix_ideal : Cert.quiescent_Kernel5Ideal := fun m ρ _ => Cert.Kernel5Ideal.Gen.frame m ρ

theorem frame_mix_reference : Cert.quiescent_Reference5Ideal := fun m g _ =>
  (θ_run Cert.Reference5Ideal.defs _ _).mono (fun _ h => ⟨fun c => (h c).2.2.2.2.2.2.2, sem_eq_zero_of_no_sems rfl _⟩)
    (Cert.Reference5Ideal.Value.run m g)

set_option maxHeartbeats 2000000 in
theorem algebraic_mix : Cert.algebraic_Kernel5Ideal_Reference5Ideal_pre_mix_finite (hPre_mix_finite := Cert.Pre_mix_finite.Gen.facts) := by
  pair_intro
  · run_from Cert.Kernel5Ideal.Value.run_blocks m g
  · have real := fun c => Cert.Mix.holds_of_pre (hpre c)
    run_from Cert.Reference5Ideal.Value.run _ _
    · refine (Cert.Reference5Ideal.Read.val_main_v96_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_dpre (real c)).symm
      idx_vars i
      exact Cert.Reference5Ideal.Value.dpre_is (real c) _ _
    · refine (Cert.Reference5Ideal.Read.val_main_v123_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_do (real c)).symm
      idx_vars i
      exact Cert.Reference5Ideal.Value.do_is (real c) _ _
    · refine (Cert.Reference5Ideal.Read.val_main_v101_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_dpo (real c)).symm
      idx_vars i
      exact Cert.Reference5Ideal.Value.dpo_is (real c) _ _
    · refine (Cert.Reference5Ideal.Read.val_main_v98_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_dw (real c)).symm
      idx_vars i
      exact Cert.Reference5Ideal.Value.dw_is (real c) _ _
    · refine (Cert.Reference5Ideal.Read.val_main_v124_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_dg (real c)).symm
      idx_vars i
      obtain rfl : i0 = 0 := Subsingleton.elim _ _
      exact Cert.Reference5Ideal.Value.dg_is (real c) _
    · refine (Cert.Reference5Ideal.Read.val_main_v125_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_db (real c)).symm
      idx_vars i
      obtain rfl : i0 = 0 := Subsingleton.elim _ _
      exact Cert.Reference5Ideal.Value.db_is (real c) _
    · refine (Cert.Reference5Ideal.Read.val_main_v126_eq (F := Ideal) _).trans ?_
      obtain ⟨e0, e1, e2, e3, e4, e5, e6, e7, e8⟩ := hagree c
      simp only [e0, e1, e2, e3, e4, e5, e6, e7, e8]
      refine (funext fun i => ?_).trans (Cert.Kernel5Ideal.Value.final_dga (real c)).symm
      idx_vars i
      obtain rfl : i0 = 0 := Subsingleton.elim _ _
      exact Cert.Reference5Ideal.Value.dga_is (real c) _

theorem frame_ple : Cert.quiescent_Kernel6 := fun m ρ _ => Cert.Kernel6.Gen.frame m ρ

theorem frame_ple_ideal : Cert.quiescent_Kernel6Ideal := fun m ρ _ => Cert.Kernel6Ideal.Gen.frame m ρ

theorem frame_ple_reference : Cert.quiescent_Reference6Ideal := fun m g _ =>
  (θ_run Cert.Reference6Ideal.defs _ _).mono (fun _ h => ⟨fun c => (h c).2.2.2.2.2.2.2.2.2, sem_eq_zero_of_no_sems rfl _⟩)
    (Cert.Reference6Ideal.Value.run m g)

set_option maxHeartbeats 2000000 in
theorem algebraic_ple : Cert.algebraic_Kernel6Ideal_Reference6Ideal_pre_ple_finite (hPre_ple_finite := Cert.Pre_ple_finite.Gen.facts) := by
  pair_intro
  · run_from Cert.Kernel6Ideal.Value.run_blocks m g
  · have real := fun c => Cert.Ple.holds_of_pre (hpre c)
    run_from Cert.Reference6Ideal.Value.run _ _
    · refine (Cert.Reference6Ideal.Read.val_main_v173_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_dpre (real c)).symm
      idx_vars i
      exact Cert.Reference6Ideal.Value.dpre_is (real c) _ _
    · refine (Cert.Reference6Ideal.Read.val_main_v174_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_dpreb (real c)).symm
      idx_vars i
      exact Cert.Reference6Ideal.Value.dpreb_is (real c) _ _
    · refine (Cert.Reference6Ideal.Read.val_main_v176_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_dwp (real c)).symm
      idx_vars i
      exact Cert.Reference6Ideal.Value.dwp_is (real c) _ _ _
    · refine (Cert.Reference6Ideal.Read.val_main_v136_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_dwg (real c)).symm
      idx_vars i
      exact Cert.Reference6Ideal.Value.dwg_is (real c) _ _
    · refine (Cert.Reference6Ideal.Read.val_main_v177_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_dg3 (real c)).symm
      idx_vars i
      obtain rfl : i0 = 0 := Subsingleton.elim _ _
      exact Cert.Reference6Ideal.Value.dg3_is (real c) _
    · refine (Cert.Reference6Ideal.Read.val_main_v178_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_db3 (real c)).symm
      idx_vars i
      obtain rfl : i0 = 0 := Subsingleton.elim _ _
      exact Cert.Reference6Ideal.Value.db3_is (real c) _
    · refine (Cert.Reference6Ideal.Read.val_main_v179_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_dg2 (real c)).symm
      idx_vars i
      obtain rfl : i0 = 0 := Subsingleton.elim _ _
      exact Cert.Reference6Ideal.Value.dg2_is (real c) _
    · refine (Cert.Reference6Ideal.Read.val_main_v180_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_db2 (real c)).symm
      idx_vars i
      obtain rfl : i0 = 0 := Subsingleton.elim _ _
      exact Cert.Reference6Ideal.Value.db2_is (real c) _
    · refine (Cert.Reference6Ideal.Read.val_main_v181_eq (F := Ideal) _).trans ?_
      obtain ⟨e0, e1, e2, e3, e4, e5, e6, e7, e8⟩ := hagree c
      simp only [e0, e1, e2, e3, e4, e5, e6, e7, e8]
      refine (funext fun i => ?_).trans (Cert.Kernel6Ideal.Value.final_loss (real c)).symm
      idx_vars i
      obtain rfl : i0 = 0 := Subsingleton.elim _ _
      exact Cert.Reference6Ideal.Value.loss_is (real c) _

theorem frame_mixf : Cert.quiescent_Kernel7 := fun m ρ _ => Cert.Kernel7.Gen.frame m ρ

theorem frame_mixf_ideal : Cert.quiescent_Kernel7Ideal := fun m ρ _ => Cert.Kernel7Ideal.Gen.frame m ρ

theorem frame_mixf_reference : Cert.quiescent_Reference7Ideal := fun m g _ =>
  (θ_run Cert.Reference7Ideal.defs _ _).mono (fun _ h => ⟨fun c => (h c).2.2.2, sem_eq_zero_of_no_sems rfl _⟩)
    (Cert.Reference7Ideal.Value.run m g)

set_option maxHeartbeats 2000000 in
theorem algebraic_mixf : Cert.algebraic_Kernel7Ideal_Reference7Ideal := by
  pair_intro
  · run_from Cert.Kernel7Ideal.Value.run_blocks m g
  · run_from Cert.Reference7Ideal.Value.run _ _
    · refine (Cert.Reference7Ideal.Read.val_main_v68_eq (F := Ideal) _ _).trans ?_
      obtain ⟨e0, e1, e2, e3, e4, e5, e6, _, _⟩ := hagree c
      simp only [e0, e1, e2, e3, e4, e5, e6]
      refine (funext fun i => ?_).trans (Cert.Kernel7Ideal.Value.final_xh c).symm
      idx_vars i
      exact Cert.Reference7Ideal.Value.xh_is _ _ _ _ _ _ _ _ _
    · refine (Cert.Reference7Ideal.Read.val_main_v64_eq (F := Ideal) _ _).trans ?_
      obtain ⟨e0, e1, e2, e3, e4, e5, e6, _, _⟩ := hagree c
      simp only [e0, e1, e2, e3, e4, e5, e6]
      refine (funext fun i => ?_).trans (Cert.Kernel7Ideal.Value.final_rstd c).symm
      idx_vars i
      obtain rfl : i1 = 0 := Subsingleton.elim _ _
      exact Cert.Reference7Ideal.Value.rstd_is _ _ _ _ _ _ _ _
    · refine (Cert.Reference7Ideal.Read.val_main_v95_eq (F := Ideal) _ _).trans ?_
      obtain ⟨e0, e1, e2, e3, e4, e5, e6, e7, e8⟩ := hagree c
      simp only [e0, e1, e2, e3, e4, e5, e6, e7, e8]
      refine (funext fun i => ?_).trans (Cert.Kernel7Ideal.Value.final_x1 c).symm
      idx_vars i
      exact Cert.Reference7Ideal.Value.x1_is _ _ _ _ _ _ _ _ _ _ _

theorem frame_mlpf : Cert.quiescent_Kernel8 := fun m ρ _ => Cert.Kernel8.Gen.frame m ρ

theorem frame_mlpf_ideal : Cert.quiescent_Kernel8Ideal := fun m ρ _ => Cert.Kernel8Ideal.Gen.frame m ρ

theorem frame_mlpf_reference : Cert.quiescent_Reference8Ideal := fun m g _ =>
  (θ_run Cert.Reference8Ideal.defs _ _).mono (fun _ h => ⟨fun c => (h c).2.2.2, sem_eq_zero_of_no_sems rfl _⟩)
    (Cert.Reference8Ideal.Value.run m g)

set_option maxHeartbeats 2000000 in
theorem algebraic_mlpf : Cert.algebraic_Kernel8Ideal_Reference8Ideal := by
  pair_intro
  · run_from Cert.Kernel8Ideal.Value.run_blocks m g
  · run_from Cert.Reference8Ideal.Value.run _ _
    · refine (Cert.Reference8Ideal.Read.val_main_v53_eq (F := Ideal) _ _).trans ?_
      obtain ⟨e0, e1, e2, e3, e4⟩ := hagree c
      simp only [e0, e1, e2, e3, e4]
      refine (funext fun i => ?_).trans (Cert.Kernel8Ideal.Value.final_xh c).symm
      idx_vars i
      exact Cert.Reference8Ideal.Value.xh_is _ _ _ _ _ _ _
    · refine (Cert.Reference8Ideal.Read.val_main_v49_eq (F := Ideal) _ _).trans ?_
      obtain ⟨e0, e1, e2, e3, e4⟩ := hagree c
      simp only [e0, e1, e2, e3, e4]
      refine (funext fun i => ?_).trans (Cert.Kernel8Ideal.Value.final_rstd c).symm
      idx_vars i
      obtain rfl : i1 = 0 := Subsingleton.elim _ _
      exact Cert.Reference8Ideal.Value.rstd_is _ _ _ _ _ _
    · refine (Cert.Reference8Ideal.Read.val_main_v54_eq (F := Ideal) _ _ _ _).trans ?_
      refine (funext fun i => ?_).trans (Cert.Kernel8Ideal.Value.final_r c).symm
      idx_vars i
      exact Cert.Reference8Ideal.Value.r_is _ _ _ _ _ _

theorem frame_emb : Cert.quiescent_Kernel9 := fun m ρ _ => Cert.Kernel9.Gen.frame m ρ

theorem frame_emb_ideal : Cert.quiescent_Kernel9Ideal := fun m ρ _ => Cert.Kernel9Ideal.Gen.frame m ρ

theorem frame_emb_reference : Cert.quiescent_Reference9Ideal := fun m g _ =>
  (θ_run Cert.Reference9Ideal.defs _ _).mono (fun _ h => ⟨fun c => (h c).2.2.2.2.2.2.2, sem_eq_zero_of_no_sems rfl _⟩)
    (Cert.Reference9Ideal.Value.run m g)

set_option maxHeartbeats 2000000 in
theorem algebraic_emb : Cert.algebraic_Kernel9Ideal_Reference9Ideal_pre_emb_finite (hPre_emb_finite := Cert.Pre_emb_finite.Gen.facts) := by
  pair_intro
  · run_from Cert.Kernel9Ideal.Value.run_blocks m g
  · have real := fun c => Cert.Emb.holds_of_pre (hpre c)
    run_from Cert.Reference9Ideal.Value.run _ _
    · refine (Cert.Reference9Ideal.Read.val_main_v18_eq (F := Ideal) _).trans ?_
      obtain ⟨e0, _, _, _, _, _⟩ := hagree c
      simp only [e0]
      refine (funext fun i => ?_).trans (Cert.Kernel9Ideal.Value.final_xh c).symm
      idx_vars i
    · refine (Cert.Reference9Ideal.Read.val_main_v14_eq (F := Ideal) _).trans ?_
      obtain ⟨e0, _, _, _, _, _⟩ := hagree c
      simp only [e0]
      refine (funext fun i => ?_).trans (Cert.Kernel9Ideal.Value.final_rstd c).symm
      idx_vars i
    · refine (Cert.Reference9Ideal.Read.val_main_v203_eq (F := Ideal) _).trans ?_
      obtain ⟨e0, e1, e2, e3, _, _⟩ := hagree c
      simp only [e0, e1, e2, e3]
      refine (funext fun i => ?_).trans (Cert.Kernel9Ideal.Value.final_q c).symm
      idx_vars i
    · refine (Cert.Reference9Ideal.Read.val_main_v204_eq (F := Ideal) _).trans ?_
      obtain ⟨e0, e1, e2, e3, _, _⟩ := hagree c
      simp only [e0, e1, e2, e3]
      refine (funext fun i => ?_).trans (Cert.Kernel9Ideal.Value.final_k c).symm
      idx_vars i
    · refine (Cert.Reference9Ideal.Read.val_main_v205_eq (F := Ideal) _).trans ?_
      obtain ⟨e0, e1, e2, e3, _, _⟩ := hagree c
      simp only [e0, e1, e2, e3]
      refine (funext fun i => ?_).trans (Cert.Kernel9Ideal.Value.final_v c).symm
      idx_vars i
    · refine (Cert.Reference9Ideal.Read.val_main_v206_eq (F := Ideal) _).trans ?_
      obtain ⟨e0, e1, e2, e3, _, _⟩ := hagree c
      simp only [e0, e1, e2, e3]
      refine (funext fun i => ?_).trans (Cert.Kernel9Ideal.Value.final_diffs (real c)).symm
      idx_vars i
    · obtain ⟨e0, e1, e2, e3, e4, e5⟩ := hagree c
      rw [← e4, ← e5]
      refine (Cert.Reference9Ideal.Read.val_main_v207_eq (F := Ideal) (StableHlo.launchContents m' c)).trans ?_
      simp only [e0, e1, e2, e3, e4, e5]
      refine (funext fun i => ?_).trans (Cert.Kernel9Ideal.Value.final_pooled (real c)).symm
      idx_vars i

theorem claim : Cert.Claim := ⟨
  Cert.KernelMlp.Gen.facts, Cert.KernelMlpIdeal.Gen.facts, Cert.ReferenceMlpIdeal.Gen.facts, Cert.Kernel2.Gen.facts,
  Cert.Kernel2Ideal.Gen.facts, Cert.Reference2Ideal.Gen.facts, Cert.Kernel.Gen.facts, Cert.KernelIdeal.Gen.facts,
  Cert.ReferenceIdeal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_attn_finite.Gen.facts,
  Cert.Pre_pool_finite.Gen.facts, Cert.Pre_inproj_finite.Gen.facts, Cert.Pre_mix_finite.Gen.facts, Cert.Pre_ple_finite.Gen.facts,
  Cert.Pre_emb_finite.Gen.facts,
  frame_mlp, frame_mlp_ideal, frame_mlp_reference, frame_attn, frame_attn_ideal, fun m ρ _ => frame_attn_ideal m ρ trivial,
  frame_attn_reference, fun m ρ _ => frame_attn_reference m ρ trivial, frame_pool, frame_pool_ideal,
  fun m ρ _ => frame_pool_ideal m ρ trivial, frame_pool_reference, fun m ρ _ => frame_pool_reference m ρ trivial, frame_inproj,
  frame_inproj_ideal, fun m ρ _ => frame_inproj_ideal m ρ trivial, frame_inproj_reference,
  fun m ρ _ => frame_inproj_reference m ρ trivial, frame_mix, frame_mix_ideal, fun m ρ _ => frame_mix_ideal m ρ trivial,
  frame_mix_reference, fun m ρ _ => frame_mix_reference m ρ trivial, frame_ple, frame_ple_ideal,
  fun m ρ _ => frame_ple_ideal m ρ trivial, frame_ple_reference, fun m ρ _ => frame_ple_reference m ρ trivial, frame_mixf,
  frame_mixf_ideal, frame_mixf_reference, frame_mlpf, frame_mlpf_ideal, frame_mlpf_reference, frame_emb, frame_emb_ideal,
  fun m ρ _ => frame_emb_ideal m ρ trivial, frame_emb_reference, fun m ρ _ => frame_emb_reference m ρ trivial,
  trivial, algebraic_mlp, preserves_attn, algebraic_attn, trivial, algebraic_pool, trivial, algebraic_inproj, trivial,
  algebraic_mix, trivial, algebraic_ple, trivial, algebraic_mixf, trivial, algebraic_mlpf, trivial, algebraic_emb⟩

end Cert.Proof

end
